-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fox_layout [hPre_fox_layout : Cert.Pre_fox_layout.Facts] (m : (ℓ : Loc Cert.KernelIdeal.nD Cert.KernelIdeal.τ Cert.KernelIdeal.sig) → Buf (Elt Ideal) ℓ) : Prop :=
  ∀ c : Dev Cert.KernelIdeal.nD,
    (Cert.Pre_fox_layout.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_fox_layout.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_fox_layout.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_fox_layout.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 = (fun _ => 1#1)
    ∧ (Cert.Pre_fox_layout.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.1 = (fun _ => 1#1)
    ∧ (Cert.Pre_fox_layout.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2.1 = (fun _ => 1#1)
    ∧ (Cert.Pre_fox_layout.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fox_layout [hPre_fox_layout : Cert.Pre_fox_layout.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fox_layout.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_fox_layout.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_fox_layout.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_fox_layout.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.1 = (fun _ => 1#1)
    ∧ (Cert.Pre_fox_layout.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.1 = (fun _ => 1#1)
    ∧ (Cert.Pre_fox_layout.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.2.1 = (fun _ => 1#1)
    ∧ (Cert.Pre_fox_layout.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_gate [hPre_finite_gate : Cert.Pre_finite_gate.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_gate.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_finite_gate.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.1 = (fun _ => 1#1)
    ∧ (Cert.Pre_finite_gate.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_gate [hPre_finite_gate : Cert.Pre_finite_gate.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_gate.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_finite_gate.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_finite_gate.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_decay [hPre_finite_decay : Cert.Pre_finite_decay.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_decay.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 = (fun _ => 1#1)
    ∧ (Cert.Pre_finite_decay.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.1 = (fun _ => 1#1)
    ∧ (Cert.Pre_finite_decay.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.1 = (fun _ => 1#1)
    ∧ (Cert.Pre_finite_decay.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_decay [hPre_finite_decay : Cert.Pre_finite_decay.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_decay.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).1 = (fun _ => 1#1)
    ∧ (Cert.Pre_finite_decay.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.1 = (fun _ => 1#1)
    ∧ (Cert.Pre_finite_decay.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.1 = (fun _ => 1#1)
    ∧ (Cert.Pre_finite_decay.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_rotary [hPre_finite_rotary : Cert.Pre_finite_rotary.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_rotary.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).1 = (fun _ => 1#1)
    ∧ (Cert.Pre_finite_rotary.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.1 = (fun _ => 1#1)
    ∧ (Cert.Pre_finite_rotary.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.1 = (fun _ => 1#1)
    ∧ (Cert.Pre_finite_rotary.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_rotary [hPre_finite_rotary : Cert.Pre_finite_rotary.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_rotary.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).1 = (fun _ => 1#1)
    ∧ (Cert.Pre_finite_rotary.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.1 = (fun _ => 1#1)
    ∧ (Cert.Pre_finite_rotary.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.1 = (fun _ => 1#1)
    ∧ (Cert.Pre_finite_rotary.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_fox_layout [hKernelIdeal : Cert.KernelIdeal.Facts] [hPre_fox_layout : Cert.Pre_fox_layout.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fox_layout m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_fox_layout [hReferenceIdeal : Cert.ReferenceIdeal.Facts] [hPre_fox_layout : Cert.Pre_fox_layout.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fox_layout m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite_gate [hKernel4Ideal : Cert.Kernel4Ideal.Facts] [hPre_finite_gate : Cert.Pre_finite_gate.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_gate m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite_gate [hReference4Ideal : Cert.Reference4Ideal.Facts] [hPre_finite_gate : Cert.Pre_finite_gate.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_gate m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite_decay [hKernel5Ideal : Cert.Kernel5Ideal.Facts] [hPre_finite_decay : Cert.Pre_finite_decay.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_decay m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite_decay [hReference5Ideal : Cert.Reference5Ideal.Facts] [hPre_finite_decay : Cert.Pre_finite_decay.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_decay m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite_rotary [hKernel6Ideal : Cert.Kernel6Ideal.Facts] [hPre_finite_rotary : Cert.Pre_finite_rotary.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_rotary m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite_rotary [hReference6Ideal : Cert.Reference6Ideal.Facts] [hPre_finite_rotary : Cert.Pre_finite_rotary.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_rotary m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal_pre_fox_layout [hKernelIdeal : Cert.KernelIdeal.Facts] [hReferenceIdeal : Cert.ReferenceIdeal.Facts] [hPre_fox_layout : Cert.Pre_fox_layout.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fox_layout m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal_pre_finite_gate [hKernel4Ideal : Cert.Kernel4Ideal.Facts] [hReference4Ideal : Cert.Reference4Ideal.Facts] [hPre_finite_gate : Cert.Pre_finite_gate.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_gate m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v48_0)) (v1 : (c : Dev Cert.Kernel4Ideal.nD) → Buf (Elt Ideal) ((c.tc : Thread Cert.Kernel4Ideal.nD Cert.Kernel4Ideal.τ).loc Cert.Kernel4Ideal.main_v48_1)) (v2 : (c : Dev Cert.Kernel4Ideal.nD) → Buf (Elt Ideal) ((c.tc : Thread Cert.Kernel4Ideal.nD Cert.Kernel4Ideal.τ).loc Cert.Kernel4Ideal.main_v48_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v48_0) = v0 c
          ∧ r.2.mem ((c.tc : Thread Cert.Kernel4Ideal.nD Cert.Kernel4Ideal.τ).loc Cert.Kernel4Ideal.main_v48_1) = v1 c
          ∧ r.2.mem ((c.tc : Thread Cert.Kernel4Ideal.nD Cert.Kernel4Ideal.τ).loc Cert.Kernel4Ideal.main_v48_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v61) = v0 c
          ∧ r.2.mem ((c.tc : Thread Cert.Reference4Ideal.nD Cert.Reference4Ideal.τ).loc Cert.Reference4Ideal.main_v67) = v1 c
          ∧ r.2.mem ((c.tc : Thread Cert.Reference4Ideal.nD Cert.Reference4Ideal.τ).loc Cert.Reference4Ideal.main_v72) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite_decay [hKernel5Ideal : Cert.Kernel5Ideal.Facts] [hReference5Ideal : Cert.Reference5Ideal.Facts] [hPre_finite_decay : Cert.Pre_finite_decay.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_decay m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v45)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v45) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v73) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite_rotary [hKernel6Ideal : Cert.Kernel6Ideal.Facts] [hReference6Ideal : Cert.Reference6Ideal.Facts] [hPre_finite_rotary : Cert.Pre_finite_rotary.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_rotary m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v51)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v51) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v100) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_fox_layout : Cert.Pre_fox_layout.Facts) (hPre_finite_gate : Cert.Pre_finite_gate.Facts) (hPre_finite_decay : Cert.Pre_finite_decay.Facts) (hPre_finite_rotary : Cert.Pre_finite_rotary.Facts),
    quiescent_Kernel (hKernel := hKernel)
    ∧ quiescent_KernelIdeal (hKernelIdeal := hKernelIdeal)
    ∧ quiescent_KernelIdeal_pre_fox_layout (hKernelIdeal := hKernelIdeal) (hPre_fox_layout := hPre_fox_layout)
    ∧ quiescent_ReferenceIdeal (hReferenceIdeal := hReferenceIdeal)
    ∧ quiescent_ReferenceIdeal_pre_fox_layout (hReferenceIdeal := hReferenceIdeal) (hPre_fox_layout := hPre_fox_layout)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_gate (hKernel4Ideal := hKernel4Ideal) (hPre_finite_gate := hPre_finite_gate)
    ∧ quiescent_Reference4Ideal (hReference4Ideal := hReference4Ideal)
    ∧ quiescent_Reference4Ideal_pre_finite_gate (hReference4Ideal := hReference4Ideal) (hPre_finite_gate := hPre_finite_gate)
    ∧ quiescent_Kernel5 (hKernel5 := hKernel5)
    ∧ quiescent_Kernel5Ideal (hKernel5Ideal := hKernel5Ideal)
    ∧ quiescent_Kernel5Ideal_pre_finite_decay (hKernel5Ideal := hKernel5Ideal) (hPre_finite_decay := hPre_finite_decay)
    ∧ quiescent_Reference5Ideal (hReference5Ideal := hReference5Ideal)
    ∧ quiescent_Reference5Ideal_pre_finite_decay (hReference5Ideal := hReference5Ideal) (hPre_finite_decay := hPre_finite_decay)
    ∧ quiescent_Kernel6 (hKernel6 := hKernel6)
    ∧ quiescent_Kernel6Ideal (hKernel6Ideal := hKernel6Ideal)
    ∧ quiescent_Kernel6Ideal_pre_finite_rotary (hKernel6Ideal := hKernel6Ideal) (hPre_finite_rotary := hPre_finite_rotary)
    ∧ quiescent_Reference6Ideal (hReference6Ideal := hReference6Ideal)
    ∧ quiescent_Reference6Ideal_pre_finite_rotary (hReference6Ideal := hReference6Ideal) (hPre_finite_rotary := hPre_finite_rotary)
    ∧ preserves_Kernel_KernelIdeal
    ∧ algebraic_KernelIdeal_ReferenceIdeal_pre_fox_layout (hKernelIdeal := hKernelIdeal) (hReferenceIdeal := hReferenceIdeal) (hPre_fox_layout := hPre_fox_layout)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_gate (hKernel4Ideal := hKernel4Ideal) (hReference4Ideal := hReference4Ideal) (hPre_finite_gate := hPre_finite_gate)
    ∧ preserves_Kernel5_Kernel5Ideal
    ∧ algebraic_Kernel5Ideal_Reference5Ideal_pre_finite_decay (hKernel5Ideal := hKernel5Ideal) (hReference5Ideal := hReference5Ideal) (hPre_finite_decay := hPre_finite_decay)
    ∧ preserves_Kernel6_Kernel6Ideal
    ∧ algebraic_Kernel6Ideal_Reference6Ideal_pre_finite_rotary (hKernel6Ideal := hKernel6Ideal) (hReference6Ideal := hReference6Ideal) (hPre_finite_rotary := hPre_finite_rotary)
-- ==== Pre_finite_decay.lean ====
abbrev S16384x1024 : Shape := ⟨2, ![16384, 1024]⟩
abbrev S1024 : Shape := ⟨1, ![1024]⟩
abbrev S1024x8220 : Shape := ⟨2, ![1024, 8220]⟩
abbrev S16x256 : Shape := ⟨2, ![16, 256]⟩
abbrev S256 : Shape := ⟨1, ![256]⟩
abbrev S64 : Shape := ⟨1, ![64]⟩
abbrev S1024x784 : Shape := ⟨2, ![1024, 784]⟩
abbrev S_ : Shape := ⟨0, ![]⟩

class Facts : Prop where
  slices_S1024x8220_S1024x784_0_772 : S1024x8220.Slices ![0, 772] S1024x784
  bcast_S_S1024 : S_.BroadcastsInDim S1024 (![] : Fin 0 → Fin S1024.rank)
  bcast_S_S1024x784 : S_.BroadcastsInDim S1024x784 (![] : Fin 0 → Fin S1024x784.rank)
  bcast_S_S16x256 : S_.BroadcastsInDim S16x256 (![] : Fin 0 → Fin S16x256.rank)
  bcast_S_S256 : S_.BroadcastsInDim S256 (![] : Fin 0 → Fin S256.rank)

variable [Facts]

def fn {F : FTy → Type} [FloatOps F] (main_arg0 : FVec F S16384x1024 .f32) (main_arg1 : FVec F S1024 .f32) (main_arg2 : FVec F S1024x8220 .f32) (main_arg3 : FVec F S16x256 .f32) (main_arg4 : FVec F S256 .f32) (main_arg5 : FVec F S64 .f32) : IVec S1024 1 × IVec S1024x784 1 × IVec S16x256 1 × IVec S256 1 :=
  let main_v0 : FVec F S1024x784 .f32 := (extractStridedSlice S1024x784 ![0, 772] · slices_S1024x8220_S1024x784_0_772) main_arg2
  let main_v1 : FVec F S1024 .f32 := Host.absf main_arg1
  let main_cst : FVec F S_ .f32 := constant S_ .f32 0x7F800000#32
  let main_v2 : FVec F S1024 .f32 := broadcastInDim S1024 ![] bcast_S_S1024 main_cst
  let main_v3 : IVec S1024 1 := cmpf .olt main_v1 main_v2
  let main_v4 : FVec F S1024x784 .f32 := Host.absf main_v0
  let main_cst_0 : FVec F S_ .f32 := constant S_ .f32 0x7F800000#32
  let main_v5 : FVec F S1024x784 .f32 := broadcastInDim S1024x784 ![] bcast_S_S1024x784 main_cst_0
  let main_v6 : IVec S1024x784 1 := cmpf .olt main_v4 main_v5
  let main_v7 : FVec F S16x256 .f32 := Host.absf main_arg3
  let main_cst_1 : FVec F S_ .f32 := constant S_ .f32 0x7F800000#32
  let main_v8 : FVec F S16x256 .f32 := broadcastInDim S16x256 ![] bcast_S_S16x256 main_cst_1
  let main_v9 : IVec S16x256 1 := cmpf .olt main_v7 main_v8
  let main_v10 : FVec F S256 .f32 := Host.absf main_arg4
  let main_cst_2 : FVec F S_ .f32 := constant S_ .f32 0x7F800000#32
  let main_v11 : FVec F S256 .f32 := broadcastInDim S256 ![] bcast_S_S256 main_cst_2
  let main_v12 : IVec S256 1 := cmpf .olt main_v10 main_v11
  (main_v3, main_v6, main_v9, main_v12)
-- ==== Pre_finite_gate.lean ====
abbrev S16384x1024 : Shape := ⟨2, ![16384, 1024]⟩
abbrev S1024 : Shape := ⟨1, ![1024]⟩
abbrev S1024x8220 : Shape := ⟨2, ![1024, 8220]⟩
abbrev S4 : Shape := ⟨1, ![4]⟩
abbrev S64 : Shape := ⟨1, ![64]⟩
abbrev S1024x4 : Shape := ⟨2, ![1024, 4]⟩
abbrev S_ : Shape := ⟨0, ![]⟩

class Facts : Prop where
  slices_S1024x8220_S1024x4_0_768 : S1024x8220.Slices ![0, 768] S1024x4
  bcast_S_S1024 : S_.BroadcastsInDim S1024 (![] : Fin 0 → Fin S1024.rank)
  bcast_S_S1024x4 : S_.BroadcastsInDim S1024x4 (![] : Fin 0 → Fin S1024x4.rank)
  bcast_S_S4 : S_.BroadcastsInDim S4 (![] : Fin 0 → Fin S4.rank)

variable [Facts]

def fn {F : FTy → Type} [FloatOps F] (main_arg0 : FVec F S16384x1024 .f32) (main_arg1 : FVec F S1024 .f32) (main_arg2 : FVec F S1024x8220 .f32) (main_arg3 : FVec F S4 .f32) (main_arg4 : FVec F S64 .f32) (main_arg5 : FVec F S64 .f32) : IVec S1024 1 × IVec S1024x4 1 × IVec S4 1 :=
  let main_v0 : FVec F S1024x4 .f32 := (extractStridedSlice S1024x4 ![0, 768] · slices_S1024x8220_S1024x4_0_768) main_arg2
  let main_v1 : FVec F S1024 .f32 := Host.absf main_arg1
  let main_cst : FVec F S_ .f32 := constant S_ .f32 0x7F800000#32
  let main_v2 : FVec F S1024 .f32 := broadcastInDim S1024 ![] bcast_S_S1024 main_cst
  let main_v3 : IVec S1024 1 := cmpf .olt main_v1 main_v2
  let main_v4 : FVec F S1024x4 .f32 := Host.absf main_v0
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_v7 : FVec F S4 .f32 := Host.absf main_arg3
  let main_cst_1 : FVec F S_ .f32 := constant S_ .f32 0x7F800000#32
  let main_v8 : FVec F S4 .f32 := broadcastInDim S4 ![] bcast_S_S4 main_cst_1
  let main_v9 : IVec S4 1 := cmpf .olt main_v7 main_v8
  (main_v3, main_v6, main_v9)
-- ==== Pre_finite_rotary.lean ====
abbrev S16384x1024 : Shape := ⟨2, ![16384, 1024]⟩
abbrev S1024 : Shape := ⟨1, ![1024]⟩
abbrev S1024x8220 : Shape := ⟨2, ![1024, 8220]⟩
abbrev S16384x32 : Shape := ⟨2, ![16384, 32]⟩
abbrev S64 : Shape := ⟨1, ![64]⟩
abbrev S1024x768 : Shape := ⟨2, ![1024, 768]⟩
abbrev S_ : Shape := ⟨0, ![]⟩

class Facts : Prop where
  slices_S1024x8220_S1024x768_0_1812 : S1024x8220.Slices ![0, 1812] S1024x768
  bcast_S_S1024 : S_.BroadcastsInDim S1024 (![] : Fin 0 → Fin S1024.rank)
  bcast_S_S1024x768 : S_.BroadcastsInDim S1024x768 (![] : Fin 0 → Fin S1024x768.rank)
  bcast_S_S16384x32 : S_.BroadcastsInDim S16384x32 (![] : Fin 0 → Fin S16384x32.rank)

variable [Facts]

def fn {F : FTy → Type} [FloatOps F] (main_arg0 : FVec F S16384x1024 .f32) (main_arg1 : FVec F S1024 .f32) (main_arg2 : FVec F S1024x8220 .f32) (main_arg3 : FVec F S16384x32 .f32) (main_arg4 : FVec F S16384x32 .f32) (main_arg5 : FVec F S64 .f32) : IVec S1024 1 × IVec S1024x768 1 × IVec S16384x32 1 × IVec S16384x32 1 :=
  let main_v0 : FVec F S1024x768 .f32 := (extractStridedSlice S1024x768 ![0, 1812] · slices_S1024x8220_S1024x768_0_1812) main_arg2
  let main_v1 : FVec F S1024 .f32 := Host.absf main_arg1
  let main_cst : FVec F S_ .f32 := constant S_ .f32 0x7F800000#32
  let main_v2 : FVec F S1024 .f32 := broadcastInDim S1024 ![] bcast_S_S1024 main_cst
  let main_v3 : IVec S1024 1 := cmpf .olt main_v1 main_v2
  let main_v4 : FVec F S1024x768 .f32 := Host.absf main_v0
  let main_cst_0 : FVec F S_ .f32 := constant S_ .f32 0x7F800000#32
  let main_v5 : FVec F S1024x768 .f32 := broadcastInDim S1024x768 ![] bcast_S_S1024x768 main_cst_0
  let main_v6 : IVec S1024x768 1 := cmpf .olt main_v4 main_v5
  let main_v7 : FVec F S16384x32 .f32 := Host.absf main_arg3
  let main_cst_1 : FVec F S_ .f32 := constant S_ .f32 0x7F800000#32
  let main_v8 : FVec F S16384x32 .f32 := broadcastInDim S16384x32 ![] bcast_S_S16384x32 main_cst_1
  let main_v9 : IVec S16384x32 1 := cmpf .olt main_v7 main_v8
  let main_v10 : FVec F S16384x32 .f32 := Host.absf main_arg4
  let main_cst_2 : FVec F S_ .f32 := constant S_ .f32 0x7F800000#32
  let main_v11 : FVec F S16384x32 .f32 := broadcastInDim S16384x32 ![] bcast_S_S16384x32 main_cst_2
  let main_v12 : IVec S16384x32 1 := cmpf .olt main_v10 main_v11
  (main_v3, main_v6, main_v9, main_v12)
-- ==== Pre_fox_layout.lean ====
abbrev S4x16384x128 : Shape := ⟨3, ![4, 16384, 128]⟩
abbrev S4x16384x3 : Shape := ⟨3, ![4, 16384, 3]⟩
abbrev S_ : Shape := ⟨0, ![]⟩

class Facts : Prop where
  bitsLt_bf16_f32 : FTy.bits .bf16 < FTy.bits .f32
  slices_S4x16384x128_S4x16384x3_0_0_64 : S4x16384x128.Slices ![0, 0, 64] S4x16384x3
  slices_S4x16384x128_S4x16384x3_0_0_67 : S4x16384x128.Slices ![0, 0, 67] S4x16384x3
  bcast_S_S4x16384x128 : S_.BroadcastsInDim S4x16384x128 (![] : Fin 0 → Fin S4x16384x128.rank)

variable [Facts]

def fn_part2 {F : FTy → Type} [FloatOps F] (main_v2 : FVec F S4x16384x128 .f32) (main_v8 : IVec S4x16384x128 1) (main_v11 : IVec S4x16384x128 1) (main_v19 : IVec S4x16384x128 1) (main_v24 : IVec S4x16384x128 1) (main_v32 : IVec S4x16384x128 1) (main_v34 : IVec S4x16384x3 1) (main_v36 : IVec S4x16384x128 1) : IVec S4x16384x128 1 × IVec S4x16384x128 1 × IVec S4x16384x128 1 × IVec S4x16384x128 1 × IVec S4x16384x128 1 × IVec S4x16384x3 1 × IVec S4x16384x128 1 :=
  let main_cst_9 : FVec F S_ .f32 := constant S_ .f32 0x3F800000#32
  let main_v37 : FVec F S4x16384x128 .f32 := broadcastInDim S4x16384x128 ![] bcast_S_S4x16384x128 main_cst_9
  let main_v38 : IVec S4x16384x128 1 := cmpf .oeq main_v2 main_v37
  let main_v39 : IVec S4x16384x128 1 := ori main_v36 main_v38
  (main_v8, main_v11, main_v19, main_v24, main_v32, main_v34, main_v39)

def fn_part1 {F : FTy → Type} [FloatOps F] (main_v0 : FVec F S4x16384x128 .f32) (main_v1 : FVec F S4x16384x128 .f32) (main_v2 : FVec F S4x16384x128 .f32) (main_v3 : IVec S4x16384x128 32) (main_v4 : FVec F S4x16384x3 .f32) (main_v5 : FVec F S4x16384x3 .f32) (main_v8 : IVec S4x16384x128 1) (main_v11 : IVec S4x16384x128 1) (main_v16 : IVec S4x16384x128 1) (main_v18 : IVec S4x16384x128 1) : IVec S4x16384x128 1 × IVec S4x16384x128 1 × IVec S4x16384x128 1 × IVec S4x16384x128 1 × IVec S4x16384x128 1 × IVec S4x16384x3 1 × IVec S4x16384x128 1 :=
  let main_v19 : IVec S4x16384x128 1 := ori main_v16 main_v18
  let main_c_3 : IVec S_ 32 := constantI S_ 32 70#32
  let main_v20 : IVec S4x16384x128 32 := broadcastInDim S4x16384x128 ![] bcast_S_S4x16384x128 main_c_3
  let main_v21 : IVec S4x16384x128 1 := cmpi .slt main_v3 main_v20
  let main_cst_4 : FVec F S_ .f32 := constant S_ .f32 0x00000000#32
  let main_v22 : FVec F S4x16384x128 .f32 := broadcastInDim S4x16384x128 ![] bcast_S_S4x16384x128 main_cst_4
  let main_v23 : IVec S4x16384x128 1 := cmpf .oeq main_v0 main_v22
  let main_v24 : IVec S4x16384x128 1 := ori main_v21 main_v23
  let main_c_5 : IVec S_ 32 := constantI S_ 32 64#32
  let main_v25 : IVec S4x16384x128 32 := broadcastInDim S4x16384x128 ![] bcast_S_S4x16384x128 main_c_5
  let main_v26 : IVec S4x16384x128 1 := cmpi .slt main_v3 main_v25
  let main_c_6 : IVec S_ 32 := constantI S_ 32 66#32
  let main_v27 : IVec S4x16384x128 32 := broadcastInDim S4x16384x128 ![] bcast_S_S4x16384x128 main_c_6
  let main_v28 : IVec S4x16384x128 1 := cmpi .sgt main_v3 main_v27
  let main_v29 : IVec S4x16384x128 1 := ori main_v26 main_v28
  let main_cst_7 : FVec F S_ .f32 := constant S_ .f32 0x3F800000#32
  let main_v30 : FVec F S4x16384x128 .f32 := broadcastInDim S4x16384x128 ![] bcast_S_S4x16384x128 main_cst_7
  let main_v31 : IVec S4x16384x128 1 := cmpf .oeq main_v1 main_v30
  let main_v32 : IVec S4x16384x128 1 := ori main_v29 main_v31
  let main_v33 : FVec F S4x16384x3 .f32 := Host.negf main_v4
  let main_v34 : IVec S4x16384x3 1 := cmpf .oeq main_v5 main_v33
  let main_c_8 : IVec S_ 32 := constantI S_ 32 64#32
  let main_v35 : IVec S4x16384x128 32 := broadcastInDim S4x16384x128 ![] bcast_S_S4x16384x128 main_c_8
  let main_v36 : IVec S4x16384x128 1 := cmpi .ne main_v3 main_v35
  fn_part2 (F := F) main_v2 main_v8 main_v11 main_v19 main_v24 main_v32 main_v34 main_v36

def fn {F : FTy → Type} [FloatOps F] (main_arg0 : FVec F S4x16384x128 .bf16) (main_arg1 : FVec F S4x16384x128 .bf16) (main_arg2 : FVec F S4x16384x128 .bf16) : IVec S4x16384x128 1 × IVec S4x16384x128 1 × IVec S4x16384x128 1 × IVec S4x16384x128 1 × IVec S4x16384x128 1 × IVec S4x16384x3 1 × IVec S4x16384x128 1 :=
  let main_v0 : FVec F S4x16384x128 .f32 := (extf .f32 · bitsLt_bf16_f32) main_arg0
  let main_v1 : FVec F S4x16384x128 .f32 := (extf .f32 · bitsLt_bf16_f32) main_arg1
  let main_v2 : FVec F S4x16384x128 .f32 := (extf .f32 · bitsLt_bf16_f32) main_arg2
  let main_v3 : IVec S4x16384x128 32 := iotaInDim S4x16384x128 32 2
  let main_v4 : FVec F S4x16384x3 .f32 := (extractStridedSlice S4x16384x3 ![0, 0, 64] · slices_S4x16384x128_S4x16384x3_0_0_64) main_v0
  let main_v5 : FVec F S4x16384x3 .f32 := (extractStridedSlice S4x16384x3 ![0, 0, 67] · slices_S4x16384x128_S4x16384x3_0_0_67) main_v1
  let main_v6 : FVec F S4x16384x128 .f32 := Host.absf main_v0
  let main_cst : FVec F S_ .f32 := constant S_ .f32 0x7F800000#32
  let main_v7 : FVec F S4x16384x128 .f32 := broadcastInDim S4x16384x128 ![] bcast_S_S4x16384x128 main_cst
  let main_v8 : IVec S4x16384x128 1 := cmpf .olt main_v6 main_v7
  let main_v9 : FVec F S4x16384x128 .f32 := Host.absf main_v1
  let main_cst_0 : FVec F S_ .f32 := constant S_ .f32 0x7F800000#32
  let main_v10 : FVec F S4x16384x128 .f32 := broadcastInDim S4x16384x128 ![] bcast_S_S4x16384x128 main_cst_0
  let main_v11 : IVec S4x16384x128 1 := cmpf .olt main_v9 main_v10
  let main_c : IVec S_ 32 := constantI S_ 32 67#32
  let main_v12 : IVec S4x16384x128 32 := broadcastInDim S4x16384x128 ![] bcast_S_S4x16384x128 main_c
  let main_v13 : IVec S4x16384x128 1 := cmpi .slt main_v3 main_v12
  let main_c_1 : IVec S_ 32 := constantI S_ 32 69#32
  let main_v14 : IVec S4x16384x128 32 := broadcastInDim S4x16384x128 ![] bcast_S_S4x16384x128 main_c_1
  let main_v15 : IVec S4x16384x128 1 := cmpi .sgt main_v3 main_v14
  let main_v16 : IVec S4x16384x128 1 := ori main_v13 main_v15
  let main_cst_2 : FVec F S_ .f32 := constant S_ .f32 0x3F800000#32
  let main_v17 : FVec F S4x16384x128 .f32 := broadcastInDim S4x16384x128 ![] bcast_S_S4x16384x128 main_cst_2
  let main_v18 : IVec S4x16384x128 1 := cmpf .oeq main_v0 main_v17
  fn_part1 (F := F) main_v0 main_v1 main_v2 main_v3 main_v4 main_v5 main_v8 main_v11 main_v16 main_v18
-- ==== Kernel.lean ====
abbrev S4x16384x128 : Shape := ⟨3, ![4, 16384, 128]⟩
abbrev S1x512x128 : Shape := ⟨3, ![1, 512, 128]⟩
abbrev S1x16384x128 : Shape := ⟨3, ![1, 16384, 128]⟩
abbrev S512x128 : Shape := ⟨2, ![512, 128]⟩
abbrev S512x1 : Shape := ⟨2, ![512, 1]⟩
abbrev S512x512 : Shape := ⟨2, ![512, 512]⟩
abbrev S512 : Shape := ⟨1, ![512]⟩

abbrev nBuf : Space → Nat
  | .hbm => 4
  | .vmem => 8
  | .smem => 0
  | _ => 0

abbrev bufTy : (tb : Table) → Fin (tcTables nBuf tb) → BufTy
  | .hbm, ⟨0, _⟩ => ⟨S4x16384x128, .bf16⟩
  | .hbm, ⟨1, _⟩ => ⟨S4x16384x128, .bf16⟩
  | .hbm, ⟨2, _⟩ => ⟨S4x16384x128, .bf16⟩
  | .hbm, ⟨3, _⟩ => ⟨S4x16384x128, .bf16⟩
  | .local _ .vmem, ⟨0, _⟩ => ⟨S1x512x128, .bf16⟩
  | .local _ .vmem, ⟨1, _⟩ => ⟨S1x512x128, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x512x128, .bf16⟩
  | .local _ .vmem, ⟨7, _⟩ => ⟨S1x512x128, .bf16⟩
  | _, _ => ⟨S4x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

@[reducible] def k0_t1_loop (i : grid0.Coords) : Scf.Loop 32 :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_3 : BitVec 32 := 1#32
  ⟨c0_i32, v8, c1_i32_3⟩
def k0_mult1 (i : grid0.Coords) (k0_t1 : Fin (k0_t1_loop i).trips) : BitVec 32 :=
  let c0_i32 : BitVec 32 := 0#32
  let c1_i32_3 : BitVec 32 := 1#32
  let arg6 : BitVec 32 := Scf.iv c0_i32 c1_i32_3 k0_t1
  let c512_i32_16 : BitVec 32 := 512#32
  let v45 : BitVec 32 := Scalar.muli arg6 c512_i32_16
  v45
def k0_off1 (i : grid0.Coords) (k0_t1 : Fin (k0_t1_loop i).trips) : Fin 3 → Nat :=
  let c0_17 : Index := 0#32
  let c0_i32 : BitVec 32 := 0#32
  let c1_i32_3 : BitVec 32 := 1#32
  let arg6 : BitVec 32 := Scf.iv c0_i32 c1_i32_3 k0_t1
  let c512_i32_16 : BitVec 32 := 512#32
  let v45 : BitVec 32 := Scalar.muli arg6 c512_i32_16
  let v46 : BitVec 32 := v45
  let v47 : Index := Scalar.indexCast v46
  let c0_18 : Index := 0#32
  ![0, v47.toNat, 0]
@[reducible] def k0_t2_loop (i : grid0.Coords) : Scf.Loop 32 :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let v5 : BitVec 32 := Scalar.addi c0_i32 v4
  let c1_i32_4 : BitVec 32 := 1#32
  ⟨v8, v5, c1_i32_4⟩
def k0_mult2 (i : grid0.Coords) (k0_t2 : Fin (k0_t2_loop i).trips) : BitVec 32 :=
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg6 : BitVec 32 := Scf.iv v8 c1_i32_4 k0_t2
  let c512_i32_16 : BitVec 32 := 512#32
  let v45 : BitVec 32 := Scalar.muli arg6 c512_i32_16
  v45
def k0_off2 (i : grid0.Coords) (k0_t2 : Fin (k0_t2_loop i).trips) : Fin 3 → Nat :=
  let c0_17 : Index := 0#32
  let c0_i32 : BitVec 32 := 0#32
  let arg1 : BitVec 32 := BitVec.ofNat 32 (i 1).val
  let v4 : BitVec 32 := Scalar.subi arg1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg6 : BitVec 32 := Scf.iv v8 c1_i32_4 k0_t2
  let c512_i32_16 : BitVec 32 := 512#32
  let v45 : BitVec 32 := Scalar.muli arg6 c512_i32_16
  let v46 : BitVec 32 := v45
  let v47 : Index := Scalar.indexCast v46
  let c0_18 : Index := 0#32
  ![0, v47.toNat, 0]
def k0_mult3 (i : grid0.Coords) : BitVec 32 :=
  let arg1 : BitVec 32 := BitVec.ofNat 32 (i 1).val
  let c512_i32 : BitVec 32 := 512#32
  let v11 : BitVec 32 := Scalar.muli arg1 c512_i32
  v11
def k0_off3 (i : grid0.Coords) : Fin 3 → Nat :=
  let c0_5 : Index := 0#32
  let arg1 : BitVec 32 := BitVec.ofNat 32 (i 1).val
  let c512_i32 : BitVec 32 := 512#32
  let v11 : BitVec 32 := Scalar.muli arg1 c512_i32
  let v12 : BitVec 32 := v11
  let v13 : Index := Scalar.indexCast v12
  let c0_6 : Index := 0#32
  ![0, v13.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x16384x128 : Shape := ⟨3, ![4, 16384, 128]⟩
abbrev S4x16384x1 : Shape := ⟨3, ![4, 16384, 1]⟩
abbrev S4x16384 : Shape := ⟨2, ![4, 16384]⟩
abbrev S4x16384x64 : Shape := ⟨3, ![4, 16384, 64]⟩
abbrev S4x16384x16384 : Shape := ⟨3, ![4, 16384, 16384]⟩
abbrev S4x1x16384 : Shape := ⟨3, ![4, 1, 16384]⟩
abbrev S16384 : Shape := ⟨1, ![16384]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4x16384x128, .bf16⟩
  | .hbm, ⟨1, _⟩ => ⟨S4x16384x128, .bf16⟩
  | .hbm, ⟨2, _⟩ => ⟨S4x16384x128, .bf16⟩
  | .hbm, ⟨3, _⟩ => ⟨S4x16384x128, .f32⟩
  | .hbm, ⟨4, _⟩ => ⟨S4x16384x128, .f32⟩
  | .hbm, ⟨5, _⟩ => ⟨S4x16384x128, .f32⟩
  | .hbm, ⟨6, _⟩ => ⟨S4x16384x1, .f32⟩
  | .hbm, ⟨7, _⟩ => ⟨S4x16384, .f32⟩
  | .hbm, ⟨8, _⟩ => ⟨S4x16384x1, .f32⟩
  | .hbm, ⟨9, _⟩ => ⟨S4x16384, .f32⟩
  | .hbm, ⟨10, _⟩ => ⟨S4x16384, .f32⟩
  | .hbm, ⟨11, _⟩ => ⟨S4x16384x1, .f32⟩
  | .hbm, ⟨12, _⟩ => ⟨S4x16384, .f32⟩
  | .hbm, ⟨13, _⟩ => ⟨S4x16384, .f32⟩
  | .hbm, ⟨14, _⟩ => ⟨S4x16384x64, .f32⟩
  | .hbm, ⟨15, _⟩ => ⟨S4x16384x64, .f32⟩
  | .hbm, ⟨16, _⟩ => ⟨S4x16384x16384, .f32⟩
  | .hbm, ⟨17, _⟩ => ⟨S4x16384x1, .f32⟩
  | .hbm, ⟨18, _⟩ => ⟨S4x16384x16384, .f32⟩
  | .hbm, ⟨19, _⟩ => ⟨S4x16384x16384, .f32⟩
  | .hbm, ⟨20, _⟩ => ⟨S4x1x16384, .f32⟩
  | .hbm, ⟨21, _⟩ => ⟨S4x16384x16384, .f32⟩
  | .hbm, ⟨22, _⟩ => ⟨S4x16384x16384, .f32⟩
  | .hbm, ⟨23, _⟩ => ⟨S16384, .i32⟩
  | .hbm, ⟨24, _⟩ => ⟨S1x1x16384, .i32⟩
  | .hbm, ⟨25, _⟩ => ⟨S1x16384x1, .i32⟩
  | .hbm, ⟨26, _⟩ => ⟨S1x16384x16384, .i32⟩
  | .hbm, ⟨27, _⟩ => ⟨S1x16384x16384, .i32⟩
  | .hbm, ⟨28, _⟩ => ⟨S1x16384x16384, .i1⟩
  | .hbm, ⟨29, _⟩ => ⟨S_, .f32⟩
  | .hbm, ⟨30, _⟩ => ⟨S_, .f32⟩
  | .hbm, ⟨31, _⟩ => ⟨S4x16384x16384, .i1⟩
  | .hbm, ⟨32, _⟩ => ⟨S4x16384x16384, .f32⟩
  | .hbm, ⟨33, _⟩ => ⟨S4x16384x16384, .f32⟩
  | .hbm, ⟨34, _⟩ => ⟨S_, .f32⟩
  | .hbm, ⟨35, _⟩ => ⟨S4x16384, .f32⟩
  | .hbm, ⟨36, _⟩ => ⟨S_, .f32⟩
  | .hbm, ⟨37, _⟩ => ⟨S4x16384, .f32⟩
  | .hbm, ⟨38, _⟩ => ⟨S4x16384, .f32⟩
  | .hbm, ⟨39, _⟩ => ⟨S4x16384x1, .f32⟩
  | .hbm, ⟨40, _⟩ => ⟨S4x16384x16384, .f32⟩
  | .hbm, ⟨41, _⟩ => ⟨S4x16384x16384, .f32⟩
  | .hbm, ⟨42, _⟩ => ⟨S4x16384x16384, .f32⟩
  | .hbm, ⟨43, _⟩ => ⟨S_, .f32⟩
  | .hbm, ⟨44, _⟩ => ⟨S4x16384, .f32⟩
  | .hbm, ⟨45, _⟩ => ⟨S4x16384x1, .f32⟩
  | .hbm, ⟨46, _⟩ => ⟨S4x16384x16384, .f32⟩
  | .hbm, ⟨47, _⟩ => ⟨S4x16384x16384, .f32⟩
  | .hbm, ⟨48, _⟩ => ⟨S4x16384x128, .f32⟩
  | .hbm, ⟨49, _⟩ => ⟨S4x16384x128, .bf16⟩
  | _, _ => ⟨S4x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v26 : Ref sig .tc := ⟨.hbm, 33, rfl⟩
abbrev main_cst_0 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩

abbrev nBuf : Space → Nat
  | .hbm => 8
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x5632, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x8220 : Shape := ⟨2, ![1024, 8220]⟩
abbrev S4x16384x128 : Shape := ⟨3, ![4, 16384, 128]⟩
abbrev S16384x256 : Shape := ⟨2, ![16384, 256]⟩
abbrev S16384x512 : Shape := ⟨2, ![16384, 512]⟩
abbrev S256x1024 : Shape := ⟨2, ![256, 1024]⟩
abbrev S512x1024 : Shape := ⟨2, ![512, 1024]⟩
abbrev S1024x1024 : Shape := ⟨2, ![1024, 1024]⟩
abbrev S1024x4096 : Shape := ⟨2, ![1024, 4096]⟩
abbrev S4x64x1024 : Shape := ⟨3, ![4, 64, 1024]⟩
abbrev S_ : Shape := ⟨0, ![]⟩
abbrev S4x128x1024 : Shape := ⟨3, ![4, 128, 1024]⟩
abbrev S1x1024 : Shape := ⟨2, ![1, 1024]⟩
abbrev S4x512x128 : Shape := ⟨3, ![4, 512, 128]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1x512x128 : Shape := ⟨3, ![1, 512, 128]⟩
abbrev S512x128 : Shape := ⟨2, ![512, 128]⟩
abbrev S1x128x1024 : Shape := ⟨3, ![1, 128, 1024]⟩
abbrev S128x1024 : Shape := ⟨2, ![128, 1024]⟩

abbrev nBuf : Space → Nat
  | .hbm => 25
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8220, .f32⟩
  | .hbm, ⟨3, _⟩ => ⟨S4x16384x128, .bf16⟩
  | .hbm, ⟨4, _⟩ => ⟨S16384x256, .bf16⟩
  | .hbm, ⟨5, _⟩ => ⟨S16384x256, .bf16⟩
  | .hbm, ⟨6, _⟩ => ⟨S16384x512, .bf16⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S512x1024, .f32⟩
  | .hbm, ⟨11, _⟩ => ⟨S1024x1024, .f32⟩
  | .hbm, ⟨12, _⟩ => ⟨S1024x4096, .f32⟩
  | .hbm, ⟨13, _⟩ => ⟨S1024x4096, .bf16⟩
  | .hbm, ⟨14, _⟩ => ⟨S4x64x1024, .f32⟩
  | .hbm, ⟨15, _⟩ => ⟨S_, .i32⟩
  | .hbm, ⟨16, _⟩ => ⟨S_, .f32⟩
  | .hbm, ⟨17, _⟩ => ⟨S4x128x1024, .f32⟩
  | .hbm, ⟨18, _⟩ => ⟨S4x128x1024, .bf16⟩
  | .hbm, ⟨19, _⟩ => ⟨S1x1024, .f32⟩
  | .hbm, ⟨20, _⟩ => ⟨S256x1024, .bf16⟩
  | .hbm, ⟨21, _⟩ => ⟨S256x1024, .bf16⟩
  | .hbm, ⟨22, _⟩ => ⟨S512x1024, .bf16⟩
  | .hbm, ⟨23, _⟩ => ⟨S1024x1024, .bf16⟩
  | .hbm, ⟨24, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4x512x128, .bf16⟩
  | .local _ .vmem, ⟨5, _⟩ => ⟨S4x512x128, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x512, .bf16⟩
  | .local _ .vmem, ⟨11, _⟩ => ⟨S512x512, .bf16⟩
  | .local _ .vmem, ⟨12, _⟩ => ⟨S4x128x1024, .bf16⟩
  | .local _ .vmem, ⟨13, _⟩ => ⟨S256x1024, .bf16⟩
  | .local _ .vmem, ⟨14, _⟩ => ⟨S256x1024, .bf16⟩
  | .local _ .vmem, ⟨15, _⟩ => ⟨S512x1024, .bf16⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call0_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S16384x1024 : Shape := ⟨2, ![16384, 1024]⟩
abbrev S1024 : Shape := ⟨1, ![1024]⟩
abbrev S1024x8220 : Shape := ⟨2, ![1024, 8220]⟩
abbrev S4x16384x128 : Shape := ⟨3, ![4, 16384, 128]⟩
abbrev S16384x256 : Shape := ⟨2, ![16384, 256]⟩
abbrev S16384x512 : Shape := ⟨2, ![16384, 512]⟩
abbrev S256x1024 : Shape := ⟨2, ![256, 1024]⟩
abbrev S512x1024 : Shape := ⟨2, ![512, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x4096 : Shape := ⟨2, ![1024, 4096]⟩
abbrev S16384x4096 : Shape := ⟨2, ![16384, 4096]⟩
abbrev S4x16384x64 : Shape := ⟨3, ![4, 16384, 64]⟩
abbrev S16384x4x64 : Shape := ⟨3, ![16384, 4, 64]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8220, .f32⟩
  | .hbm, ⟨3, _⟩ => ⟨S4x16384x128, .bf16⟩
  | .hbm, ⟨4, _⟩ => ⟨S16384x256, .bf16⟩
  | .hbm, ⟨5, _⟩ => ⟨S16384x256, .bf16⟩
  | .hbm, ⟨6, _⟩ => ⟨S16384x512, .bf16⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S512x1024, .f32⟩
  | .hbm, ⟨11, _⟩ => ⟨S1024x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S1024x4096, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S_, .f32⟩
  | .hbm, ⟨33, _⟩ => ⟨S16384x4096, .f32⟩
  | .hbm, ⟨34, _⟩ => ⟨S16384x4096, .f32⟩
  | .hbm, ⟨35, _⟩ => ⟨S_, .f32⟩
  | .hbm, ⟨36, _⟩ => ⟨S16384x4096, .f32⟩
  | .hbm, ⟨37, _⟩ => ⟨S16384x4096, .f32⟩
  | .hbm, ⟨38, _⟩ => ⟨S4x16384x64, .bf16⟩
  | .hbm, ⟨39, _⟩ => ⟨S4x16384x64, .f32⟩
  | .hbm, ⟨40, _⟩ => ⟨S16384x4x64, .f32⟩
  | .hbm, ⟨41, _⟩ => ⟨S16384x256, .f32⟩
  | .hbm, ⟨42, _⟩ => ⟨S16384x256, .f32⟩
  | .hbm, ⟨43, _⟩ => ⟨S16384x256, .f32⟩
  | .hbm, ⟨44, _⟩ => ⟨S16384x512, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x8220 : Shape := ⟨2, ![1024, 8220]⟩
abbrev S4 : Shape := ⟨1, ![4]⟩
abbrev S64 : Shape := ⟨1, ![64]⟩
abbrev S1024x256 : Shape := ⟨2, ![1024, 256]⟩
abbrev S1024x4 : Shape := ⟨2, ![1024, 4]⟩
abbrev S1024x16 : Shape := ⟨2, ![1024, 16]⟩
abbrev S1024x512 : Shape := ⟨2, ![1024, 512]⟩
abbrev S1024x768 : Shape := ⟨2, ![1024, 768]⟩
abbrev S1024x8 : Shape := ⟨2, ![1024, 8]⟩
abbrev S1024x4096 : Shape := ⟨2, ![1024, 4096]⟩
abbrev S_ : Shape := ⟨0, ![]⟩
abbrev S1024x128 : Shape := ⟨2, ![1024, 128]⟩
abbrev S1024x896 : Shape := ⟨2, ![1024, 896]⟩
abbrev S1024x1152 : Shape := ⟨2, ![1024, 1152]⟩
abbrev S1024x4x2x32 : Shape := ⟨4, ![1024, 4, 2, 32]⟩
abbrev S1024x1536 : Shape := ⟨2, ![1024, 1536]⟩
abbrev S1024x1408 : Shape := ⟨2, ![1024, 1408]⟩
abbrev S8x1024 : Shape := ⟨2, ![8, 1024]⟩
abbrev S1x1024 : Shape := ⟨2, ![1, 1024]⟩
abbrev S1x4 : Shape := ⟨2, ![1, 4]⟩
abbrev S1x128 : Shape := ⟨2, ![1, 128]⟩
abbrev S1x64 : Shape := ⟨2, ![1, 64]⟩
abbrev S2x64 : Shape := ⟨2, ![2, 64]⟩
abbrev S128 : Shape := ⟨1, ![128]⟩
abbrev S4x16384x128 : Shape := ⟨3, ![4, 16384, 128]⟩
abbrev S256x1024 : Shape := ⟨2, ![256, 1024]⟩
abbrev S4x256x128 : Shape := ⟨3, ![4, 256, 128]⟩
abbrev S8x128 : Shape := ⟨2, ![8, 128]⟩
abbrev S256 : Shape := ⟨1, ![256]⟩
abbrev S256x1 : Shape := ⟨2, ![256, 1]⟩
abbrev S256x896 : Shape := ⟨2, ![256, 896]⟩
abbrev S256x128 : Shape := ⟨2, ![256, 128]⟩
abbrev S256x256 : Shape := ⟨2, ![256, 256]⟩
abbrev S1x256x128 : Shape := ⟨3, ![1, 256, 128]⟩

abbrev nBuf : Space → Nat
  | .hbm => 65
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8220, .f32⟩
  | .hbm, ⟨3, _⟩ => ⟨S4, .f32⟩
  | .hbm, ⟨4, _⟩ => ⟨S64, .f32⟩
  | .hbm, ⟨5, _⟩ => ⟨S64, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x4, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x16, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S1024x512, .f32⟩
  | .hbm, ⟨20, _⟩ => ⟨S1024x768, .f32⟩
  | .hbm, ⟨21, _⟩ => ⟨S1024x8, .f32⟩
  | .hbm, ⟨22, _⟩ => ⟨S1024x4096, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x896, .f32⟩
  | .hbm, ⟨27, _⟩ => ⟨S1024x896, .bf16⟩
  | .hbm, ⟨28, _⟩ => ⟨S_, .i32⟩
  | .hbm, ⟨29, _⟩ => ⟨S_, .f32⟩
  | .hbm, ⟨30, _⟩ => ⟨S1024x128, .f32⟩
  | .hbm, ⟨31, _⟩ => ⟨S1024x1152, .f32⟩
  | .hbm, ⟨32, _⟩ => ⟨S1024x1152, .bf16⟩
  | .hbm, ⟨33, _⟩ => ⟨S1024x4x2x32, .f32⟩
  | .hbm, ⟨34, _⟩ => ⟨S1024x4x2x32, .f32⟩
  | .hbm, ⟨35, _⟩ => ⟨S1024x256, .f32⟩
  | .hbm, ⟨36, _⟩ => ⟨S1024x4x2x32, .f32⟩
  | .hbm, ⟨37, _⟩ => ⟨S1024x4x2x32, .f32⟩
  | .hbm, ⟨38, _⟩ => ⟨S1024x256, .f32⟩
  | .hbm, ⟨39, _⟩ => ⟨S1024x1536, .f32⟩
  | .hbm, ⟨40, _⟩ => ⟨S1024x1536, .bf16⟩
  | .hbm, ⟨41, _⟩ => ⟨S_, .i32⟩
  | .hbm, ⟨42, _⟩ => ⟨S_, .f32⟩
  | .hbm, ⟨43, _⟩ => ⟨S1024x128, .f32⟩
  | .hbm, ⟨44, _⟩ => ⟨S1024x1408, .f32⟩
  | .hbm, ⟨45, _⟩ => ⟨S1024x1408, .bf16⟩
  | .hbm, ⟨46, _⟩ => ⟨S8x1024, .f32⟩
  | .hbm, ⟨47, _⟩ => ⟨S8x1024, .bf16⟩
  | .hbm, ⟨48, _⟩ => ⟨S1024x4096, .bf16⟩
  | .hbm, ⟨49, _⟩ => ⟨S1x1024, .f32⟩
  | .hbm, ⟨50, _⟩ => ⟨S1x4, .f32⟩
  | .hbm, ⟨51, _⟩ => ⟨S_, .i32⟩
  | .hbm, ⟨52, _⟩ => ⟨S_, .f32⟩
  | .hbm, ⟨53, _⟩ => ⟨S1x128, .f32⟩
  | .hbm, ⟨54, _⟩ => ⟨S1x64, .f32⟩
  | .hbm, ⟨55, _⟩ => ⟨S2x64, .f32⟩
  | .hbm, ⟨56, _⟩ => ⟨S128, .f32⟩
  | .hbm, ⟨57, _⟩ => ⟨S1x128, .f32⟩
  | .hbm, ⟨58, _⟩ => ⟨S1x64, .f32⟩
  | .hbm, ⟨59, _⟩ => ⟨S2x64, .f32⟩
  | .hbm, ⟨60, _⟩ => ⟨S128, .f32⟩
  | .hbm, ⟨61, _⟩ => ⟨S1x128, .f32⟩
  | .hbm, ⟨62, _⟩ => ⟨S4x16384x128, .bf16⟩
  | .hbm, ⟨63, _⟩ => ⟨S4x16384x128, .bf16⟩
  | .hbm, ⟨64, _⟩ => ⟨S4x16384x128, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x896, .bf16⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S4x256x128, .bf16⟩
  | .local _ .vmem, ⟨8, _⟩ => ⟨S4x256x128, .bf16⟩
  | .local _ .vmem, ⟨9, _⟩ => ⟨S4x256x128, .bf16⟩
  | .local _ .vmem, ⟨10, _⟩ => ⟨S4x256x128, .bf16⟩
  | .local _ .vmem, ⟨11, _⟩ => ⟨S4x256x128, .bf16⟩
  | .local _ .vmem, ⟨12, _⟩ => ⟨S4x256x128, .bf16⟩
  | .local _ .vmem, ⟨13, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_0 : Ref sig .tc := ⟨.hbm, 28, rfl⟩
abbrev main_call1_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_1 : Ref sig .tc := ⟨.hbm, 41, rfl⟩
abbrev main_call2_v0 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_2 : Ref sig .tc := ⟨.hbm, 51, rfl⟩
abbrev main_call3_v0 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48_0 : Ref sig .tc := ⟨.hbm, 62, rfl⟩
abbrev main_v48_1 : Ref sig .tc := ⟨.hbm, 63, rfl⟩
abbrev main_v48_2 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16384x1024 : Shape := ⟨2, ![16384, 1024]⟩
abbrev S1024 : Shape := ⟨1, ![1024]⟩
abbrev S1024x8220 : Shape := ⟨2, ![1024, 8220]⟩
abbrev S4 : Shape := ⟨1, ![4]⟩
abbrev S64 : Shape := ⟨1, ![64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x772 : Shape := ⟨2, ![1024, 772]⟩
abbrev S16384x772 : Shape := ⟨2, ![16384, 772]⟩
abbrev S16384x256 : Shape := ⟨2, ![16384, 256]⟩
abbrev S16384x4x64 : Shape := ⟨3, ![16384, 4, 64]⟩
abbrev S16384x4 : Shape := ⟨2, ![16384, 4]⟩
abbrev S16384x4x1 : Shape := ⟨3, ![16384, 4, 1]⟩
abbrev S1x1x64 : Shape := ⟨3, ![1, 1, 64]⟩
abbrev S1x4 : Shape := ⟨2, ![1, 4]⟩
abbrev S16384x4x2 : Shape := ⟨3, ![16384, 4, 2]⟩
abbrev S16384x4x3 : Shape := ⟨3, ![16384, 4, 3]⟩
abbrev S16384x4x58 : Shape := ⟨3, ![16384, 4, 58]⟩
abbrev S16384x4x128 : Shape := ⟨3, ![16384, 4, 128]⟩
abbrev S4x16384x128 : Shape := ⟨3, ![4, 16384, 128]⟩
abbrev S16384x4x60 : Shape := ⟨3, ![16384, 4, 60]⟩
abbrev S16384x4x63 : Shape := ⟨3, ![16384, 4, 63]⟩

abbrev nBuf : Space → Nat
  | .hbm => 113
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8220, .f32⟩
  | .hbm, ⟨3, _⟩ => ⟨S4, .f32⟩
  | .hbm, ⟨4, _⟩ => ⟨S64, .f32⟩
  | .hbm, ⟨5, _⟩ => ⟨S64, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S1024x772, .f32⟩
  | .hbm, ⟨23, _⟩ => ⟨S16384x772, .f32⟩
  | .hbm, ⟨24, _⟩ => ⟨S16384x256, .f32⟩
  | .hbm, ⟨25, _⟩ => ⟨S16384x4x64, .f32⟩
  | .hbm, ⟨26, _⟩ => ⟨S16384x4x64, .f32⟩
  | .hbm, ⟨27, _⟩ => ⟨S_, .f32⟩
  | .hbm, ⟨28, _⟩ => ⟨S16384x4, .f32⟩
  | .hbm, ⟨29, _⟩ => ⟨S16384x4x1, .f32⟩
  | .hbm, ⟨30, _⟩ => ⟨S_, .f32⟩
  | .hbm, ⟨31, _⟩ => ⟨S16384x4x1, .f32⟩
  | .hbm, ⟨32, _⟩ => ⟨S16384x4x1, .f32⟩
  | .hbm, ⟨33, _⟩ => ⟨S_, .f32⟩
  | .hbm, ⟨34, _⟩ => ⟨S16384x4x1, .f32⟩
  | .hbm, ⟨35, _⟩ => ⟨S16384x4x1, .f32⟩
  | .hbm, ⟨36, _⟩ => ⟨S16384x4x1, .f32⟩
  | .hbm, ⟨37, _⟩ => ⟨S16384x4x64, .f32⟩
  | .hbm, ⟨38, _⟩ => ⟨S16384x4x64, .f32⟩
  | .hbm, ⟨39, _⟩ => ⟨S1x1x64, .f32⟩
  | .hbm, ⟨40, _⟩ => ⟨S16384x4x64, .f32⟩
  | .hbm, ⟨41, _⟩ => ⟨S16384x4x64, .f32⟩
  | .hbm, ⟨42, _⟩ => ⟨S_, .f32⟩
  | .hbm, ⟨43, _⟩ => ⟨S16384x4x64, .f32⟩
  | .hbm, ⟨44, _⟩ => ⟨S16384x4x64, .f32⟩
  | .hbm, ⟨45, _⟩ => ⟨S16384x256, .f32⟩
  | .hbm, ⟨46, _⟩ => ⟨S16384x4x64, .f32⟩
  | .hbm, ⟨47, _⟩ => ⟨S16384x4x64, .f32⟩
  | .hbm, ⟨48, _⟩ => ⟨S_, .f32⟩
  | .hbm, ⟨49, _⟩ => ⟨S16384x4, .f32⟩
  | .hbm, ⟨50, _⟩ => ⟨S16384x4x1, .f32⟩
  | .hbm, ⟨51, _⟩ => ⟨S_, .f32⟩
  | .hbm, ⟨52, _⟩ => ⟨S16384x4x1, .f32⟩
  | .hbm, ⟨53, _⟩ => ⟨S16384x4x1, .f32⟩
  | .hbm, ⟨54, _⟩ => ⟨S_, .f32⟩
  | .hbm, ⟨55, _⟩ => ⟨S16384x4x1, .f32⟩
  | .hbm, ⟨56, _⟩ => ⟨S16384x4x1, .f32⟩
  | .hbm, ⟨57, _⟩ => ⟨S16384x4x1, .f32⟩
  | .hbm, ⟨58, _⟩ => ⟨S16384x4x64, .f32⟩
  | .hbm, ⟨59, _⟩ => ⟨S16384x4x64, .f32⟩
  | .hbm, ⟨60, _⟩ => ⟨S1x1x64, .f32⟩
  | .hbm, ⟨61, _⟩ => ⟨S16384x4x64, .f32⟩
  | .hbm, ⟨62, _⟩ => ⟨S16384x4x64, .f32⟩
  | .hbm, ⟨63, _⟩ => ⟨S16384x256, .f32⟩
  | .hbm, ⟨64, _⟩ => ⟨S16384x4x64, .f32⟩
  | .hbm, ⟨65, _⟩ => ⟨S16384x4, .f32⟩
  | .hbm, ⟨66, _⟩ => ⟨S1x4, .f32⟩
  | .hbm, ⟨67, _⟩ => ⟨S16384x4, .f32⟩
  | .hbm, ⟨68, _⟩ => ⟨S16384x4, .f32⟩
  | .hbm, ⟨69, _⟩ => ⟨S16384x4, .f32⟩
  | .hbm, ⟨70, _⟩ => ⟨S_, .f32⟩
  | .hbm, ⟨71, _⟩ => ⟨S16384x4, .f32⟩
  | .hbm, ⟨72, _⟩ => ⟨S16384x4, .f32⟩
  | .hbm, ⟨73, _⟩ => ⟨S16384x4, .f32⟩
  | .hbm, ⟨74, _⟩ => ⟨S16384x4, .f32⟩
  | .hbm, ⟨75, _⟩ => ⟨S16384x4, .i1⟩
  | .hbm, ⟨76, _⟩ => ⟨S16384x4, .f32⟩
  | .hbm, ⟨77, _⟩ => ⟨S16384x4, .f32⟩
  | .hbm, ⟨78, _⟩ => ⟨S16384x4, .f32⟩
  | .hbm, ⟨79, _⟩ => ⟨S16384x4, .f32⟩
  | .hbm, ⟨80, _⟩ => ⟨S16384x4, .f32⟩
  | .hbm, ⟨81, _⟩ => ⟨S16384x4, .f32⟩
  | .hbm, ⟨82, _⟩ => ⟨S16384x4, .f32⟩
  | .hbm, ⟨83, _⟩ => ⟨S16384x4, .f32⟩
  | .hbm, ⟨84, _⟩ => ⟨S16384x4, .f32⟩
  | .hbm, ⟨85, _⟩ => ⟨S_, .f32⟩
  | .hbm, ⟨86, _⟩ => ⟨S_, .f32⟩
  | .hbm, ⟨87, _⟩ => ⟨S16384x4, .f32⟩
  | .hbm, ⟨88, _⟩ => ⟨S16384x4x1, .f32⟩
  | .hbm, ⟨89, _⟩ => ⟨S_, .f32⟩
  | .hbm, ⟨90, _⟩ => ⟨S16384x4x2, .f32⟩
  | .hbm, ⟨91, _⟩ => ⟨S_, .f32⟩
  | .hbm, ⟨92, _⟩ => ⟨S16384x4x3, .f32⟩
  | .hbm, ⟨93, _⟩ => ⟨S_, .f32⟩
  | .hbm, ⟨94, _⟩ => ⟨S16384x4x58, .f32⟩
  | .hbm, ⟨95, _⟩ => ⟨S16384x4x128, .f32⟩
  | .hbm, ⟨96, _⟩ => ⟨S4x16384x128, .f32⟩
  | .hbm, ⟨97, _⟩ => ⟨S4x16384x128, .bf16⟩
  | .hbm, ⟨98, _⟩ => ⟨S_, .f32⟩
  | .hbm, ⟨99, _⟩ => ⟨S16384x4x3, .f32⟩
  | .hbm, ⟨100, _⟩ => ⟨S16384x4x1, .f32⟩
  | .hbm, ⟨101, _⟩ => ⟨S_, .f32⟩
  | .hbm, ⟨102, _⟩ => ⟨S16384x4x60, .f32⟩
  | .hbm, ⟨103, _⟩ => ⟨S16384x4x128, .f32⟩
  | .hbm, ⟨104, _⟩ => ⟨S4x16384x128, .f32⟩
  | .hbm, ⟨105, _⟩ => ⟨S4x16384x128, .bf16⟩
  | .hbm, ⟨106, _⟩ => ⟨S_, .f32⟩
  | .hbm, ⟨107, _⟩ => ⟨S16384x4x1, .f32⟩
  | .hbm, ⟨108, _⟩ => ⟨S_, .f32⟩
  | .hbm, ⟨109, _⟩ => ⟨S16384x4x63, .f32⟩
  | .hbm, ⟨110, _⟩ => ⟨S16384x4x128, .f32⟩
  | .hbm, ⟨111, _⟩ => ⟨S4x16384x128, .f32⟩
  | .hbm, ⟨112, _⟩ => ⟨S4x16384x128, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_call0_v0 : Ref sig .tc := ⟨.hbm, 69, rfl⟩
abbrev main_call0_call0_cst : Ref sig .tc := ⟨.hbm, 70, rfl⟩
abbrev main_call0_call0_v0 : Ref sig .tc := ⟨.hbm, 71, rfl⟩
abbrev main_call0_call0_v1 : Ref sig .tc := ⟨.hbm, 72, rfl⟩
abbrev main_call0_call0_v2 : Ref sig .tc := ⟨.hbm, 73, rfl⟩
abbrev main_call0_call0_v3 : Ref sig .tc := ⟨.hbm, 74, rfl⟩
abbrev main_call0_call0_v4 : Ref sig .tc := ⟨.hbm, 75, rfl⟩
abbrev main_call0_call0_v5 : Ref sig .tc := ⟨.hbm, 76, rfl⟩
abbrev main_call0_call0_v6 : Ref sig .tc := ⟨.hbm, 77, rfl⟩
abbrev main_call0_call0_v7 : Ref sig .tc := ⟨.hbm, 78, rfl⟩
abbrev main_call0_call0_v8 : Ref sig .tc := ⟨.hbm, 79, rfl⟩
abbrev main_call0_call0_v9 : Ref sig .tc := ⟨.hbm, 80, rfl⟩
abbrev main_call0_call0_v10 : Ref sig .tc := ⟨.hbm, 81, rfl⟩
abbrev main_call0_call0_v11 : Ref sig .tc := ⟨.hbm, 82, rfl⟩
abbrev main_call0_v1 : Ref sig .tc := ⟨.hbm, 83, rfl⟩
abbrev main_v53 : Ref sig .tc := ⟨.hbm, 84, rfl⟩
abbrev main_call1_call0_cst : Ref sig .tc := ⟨.hbm, 85, rfl⟩
abbrev main_call1_call0_v0 : Ref sig .tc := ⟨.hbm, 86, rfl⟩
abbrev main_v54 : Ref sig .tc := ⟨.hbm, 87, rfl⟩
abbrev main_v55 : Ref sig .tc := ⟨.hbm, 88, rfl⟩
abbrev main_cst_9 : Ref sig .tc := ⟨.hbm, 89, rfl⟩
abbrev main_v56 : Ref sig .tc := ⟨.hbm, 90, rfl⟩
abbrev main_cst_10 : Ref sig .tc := ⟨.hbm, 91, rfl⟩
abbrev main_v57 : Ref sig .tc := ⟨.hbm, 92, rfl⟩
abbrev main_cst_11 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_12 : Ref sig .tc := ⟨.hbm, 98, rfl⟩
abbrev main_v62 : Ref sig .tc := ⟨.hbm, 99, rfl⟩
abbrev main_v63 : Ref sig .tc := ⟨.hbm, 100, rfl⟩
abbrev main_cst_13 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_14 : Ref sig .tc := ⟨.hbm, 106, rfl⟩
abbrev main_v68 : Ref sig .tc := ⟨.hbm, 107, rfl⟩
abbrev main_cst_15 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1024x8220 : Shape := ⟨2, ![1024, 8220]⟩
abbrev S16x256 : Shape := ⟨2, ![16, 256]⟩
abbrev S256 : Shape := ⟨1, ![256]⟩
abbrev S64 : Shape := ⟨1, ![64]⟩
abbrev S1024x256 : Shape := ⟨2, ![1024, 256]⟩
abbrev S1024x4 : Shape := ⟨2, ![1024, 4]⟩
abbrev S1024x16 : Shape := ⟨2, ![1024, 16]⟩
abbrev S1024x512 : Shape := ⟨2, ![1024, 512]⟩
abbrev S1024x768 : Shape := ⟨2, ![1024, 768]⟩
abbrev S1024x8 : Shape := ⟨2, ![1024, 8]⟩
abbrev S1024x4096 : Shape := ⟨2, ![1024, 4096]⟩
abbrev S_ : Shape := ⟨0, ![]⟩
abbrev S1024x128 : Shape := ⟨2, ![1024, 128]⟩
abbrev S1024x896 : Shape := ⟨2, ![1024, 896]⟩
abbrev S1024x1152 : Shape := ⟨2, ![1024, 1152]⟩
abbrev S1024x4x2x32 : Shape := ⟨4, ![1024, 4, 2, 32]⟩
abbrev S1024x1536 : Shape := ⟨2, ![1024, 1536]⟩
abbrev S1024x1408 : Shape := ⟨2, ![1024, 1408]⟩
abbrev S8x1024 : Shape := ⟨2, ![8, 1024]⟩
abbrev S128x256 : Shape := ⟨2, ![128, 256]⟩
abbrev S1x1024 : Shape := ⟨2, ![1, 1024]⟩
abbrev S1x256 : Shape := ⟨2, ![1, 256]⟩
abbrev S1x64 : Shape := ⟨2, ![1, 64]⟩
abbrev S4x64 : Shape := ⟨2, ![4, 64]⟩
abbrev S16384x256 : Shape := ⟨2, ![16384, 256]⟩
abbrev S512x1024 : Shape := ⟨2, ![512, 1024]⟩
abbrev S512x256 : Shape := ⟨2, ![512, 256]⟩
abbrev S4x64x64 : Shape := ⟨3, ![4, 64, 64]⟩
abbrev S512 : Shape := ⟨1, ![512]⟩
abbrev S512x1 : Shape := ⟨2, ![512, 1]⟩
abbrev S512x1152 : Shape := ⟨2, ![512, 1152]⟩
abbrev S512x128 : Shape := ⟨2, ![512, 128]⟩
abbrev S512x512 : Shape := ⟨2, ![512, 512]⟩
abbrev S64x64 : Shape := ⟨2, ![64, 64]⟩
abbrev S1x64x64 : Shape := ⟨3, ![1, 64, 64]⟩
abbrev S8x64 : Shape := ⟨2, ![8, 64]⟩
abbrev S256x256 : Shape := ⟨2, ![256, 256]⟩

abbrev nBuf : Space → Nat
  | .hbm => 60
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8220, .f32⟩
  | .hbm, ⟨3, _⟩ => ⟨S16x256, .f32⟩
  | .hbm, ⟨4, _⟩ => ⟨S256, .f32⟩
  | .hbm, ⟨5, _⟩ => ⟨S64, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x4, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x16, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S1024x512, .f32⟩
  | .hbm, ⟨20, _⟩ => ⟨S1024x768, .f32⟩
  | .hbm, ⟨21, _⟩ => ⟨S1024x8, .f32⟩
  | .hbm, ⟨22, _⟩ => ⟨S1024x4096, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x896, .f32⟩
  | .hbm, ⟨27, _⟩ => ⟨S1024x896, .bf16⟩
  | .hbm, ⟨28, _⟩ => ⟨S_, .i32⟩
  | .hbm, ⟨29, _⟩ => ⟨S_, .f32⟩
  | .hbm, ⟨30, _⟩ => ⟨S1024x128, .f32⟩
  | .hbm, ⟨31, _⟩ => ⟨S1024x1152, .f32⟩
  | .hbm, ⟨32, _⟩ => ⟨S1024x1152, .bf16⟩
  | .hbm, ⟨33, _⟩ => ⟨S1024x4x2x32, .f32⟩
  | .hbm, ⟨34, _⟩ => ⟨S1024x4x2x32, .f32⟩
  | .hbm, ⟨35, _⟩ => ⟨S1024x256, .f32⟩
  | .hbm, ⟨36, _⟩ => ⟨S1024x4x2x32, .f32⟩
  | .hbm, ⟨37, _⟩ => ⟨S1024x4x2x32, .f32⟩
  | .hbm, ⟨38, _⟩ => ⟨S1024x256, .f32⟩
  | .hbm, ⟨39, _⟩ => ⟨S1024x1536, .f32⟩
  | .hbm, ⟨40, _⟩ => ⟨S1024x1536, .bf16⟩
  | .hbm, ⟨41, _⟩ => ⟨S_, .i32⟩
  | .hbm, ⟨42, _⟩ => ⟨S_, .f32⟩
  | .hbm, ⟨43, _⟩ => ⟨S1024x128, .f32⟩
  | .hbm, ⟨44, _⟩ => ⟨S1024x1408, .f32⟩
  | .hbm, ⟨45, _⟩ => ⟨S1024x1408, .bf16⟩
  | .hbm, ⟨46, _⟩ => ⟨S8x1024, .f32⟩
  | .hbm, ⟨47, _⟩ => ⟨S8x1024, .bf16⟩
  | .hbm, ⟨48, _⟩ => ⟨S1024x4096, .bf16⟩
  | .hbm, ⟨49, _⟩ => ⟨S_, .i32⟩
  | .hbm, ⟨50, _⟩ => ⟨S_, .f32⟩
  | .hbm, ⟨51, _⟩ => ⟨S128x256, .f32⟩
  | .hbm, ⟨52, _⟩ => ⟨S128x256, .bf16⟩
  | .hbm, ⟨53, _⟩ => ⟨S1x1024, .f32⟩
  | .hbm, ⟨54, _⟩ => ⟨S1x256, .f32⟩
  | .hbm, ⟨55, _⟩ => ⟨S1x64, .f32⟩
  | .hbm, ⟨56, _⟩ => ⟨S4x64, .f32⟩
  | .hbm, ⟨57, _⟩ => ⟨S256, .f32⟩
  | .hbm, ⟨58, _⟩ => ⟨S1x256, .f32⟩
  | .hbm, ⟨59, _⟩ => ⟨S16384x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1152, .bf16⟩
  | .local _ .vmem, ⟨4, _⟩ => ⟨S128x256, .bf16⟩
  | .local _ .vmem, ⟨5, _⟩ => ⟨S1x256, .f32⟩
  | .local _ .vmem, ⟨6, _⟩ => ⟨S1x256, .f32⟩
  | .local _ .vmem, ⟨7, _⟩ => ⟨S512x256, .bf16⟩
  | .local _ .vmem, ⟨8, _⟩ => ⟨S512x256, .bf16⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S4x64x64, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_0 : Ref sig .tc := ⟨.hbm, 28, rfl⟩
abbrev main_call1_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_1 : Ref sig .tc := ⟨.hbm, 41, rfl⟩
abbrev main_call2_v0 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_2 : Ref sig .tc := ⟨.hbm, 49, rfl⟩
abbrev main_call3_v0 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def k0_mult1 : BitVec 32 :=
  let c0_i32_51 : BitVec 32 := 0#32
  let c64_i32_52 : BitVec 32 := 64#32
  let v159 : BitVec 32 := Scalar.muli c0_i32_51 c64_i32_52
  v159
def k0_mult2 : BitVec 32 :=
  let c0_i32_51 : BitVec 32 := 0#32
  let c64_i32_53 : BitVec 32 := 64#32
  let v161 : BitVec 32 := Scalar.muli c0_i32_51 c64_i32_53
  let c56_i32 : BitVec 32 := 56#32
  let v162 : BitVec 32 := Scalar.addi v161 c56_i32
  v162
def k0_off1 (c0_i32_51 : BitVec 32) : Fin 2 → Nat :=
  let c64_i32_52 : BitVec 32 := 64#32
  let v159 : BitVec 32 := Scalar.muli c0_i32_51 c64_i32_52
  let v160 : BitVec 32 := v159
  let v164 : Index := Scalar.indexCast v160
  let c0_54 : Index := 0#32
  ![v164.toNat, 0]
def k0_off2 (c0_i32_51 : BitVec 32) : Fin 2 → Nat :=
  let c64_i32_53 : BitVec 32 := 64#32
  let v161 : BitVec 32 := Scalar.muli c0_i32_51 c64_i32_53
  let c56_i32 : BitVec 32 := 56#32
  let v162 : BitVec 32 := Scalar.addi v161 c56_i32
  let v163 : BitVec 32 := v162
  let v190 : Index := Scalar.indexCast v163
  let c0_66 : Index := 0#32
  ![v190.toNat, 0]
def k0_off3 (c0_i32_51 : BitVec 32) : Fin 2 → Nat :=
  let c64_i32_52 : BitVec 32 := 64#32
  let v159 : BitVec 32 := Scalar.muli c0_i32_51 c64_i32_52
  let v160 : BitVec 32 := v159
  let v200 : Index := Scalar.indexCast v160
  let c64 : Index := 64#32
  ![v200.toNat, 64]
def k0_off4 (c0_i32_51 : BitVec 32) : Fin 2 → Nat :=
  let c64_i32_53 : BitVec 32 := 64#32
  let v161 : BitVec 32 := Scalar.muli c0_i32_51 c64_i32_53
  let c56_i32 : BitVec 32 := 56#32
  let v162 : BitVec 32 := Scalar.addi v161 c56_i32
  let v163 : BitVec 32 := v162
  let v226 : Index := Scalar.indexCast v163
  let c64_81 : Index := 64#32
  ![v226.toNat, 64]
def k0_off5 (c0_i32_51 : BitVec 32) : Fin 2 → Nat :=
  let c64_i32_52 : BitVec 32 := 64#32
  let v159 : BitVec 32 := Scalar.muli c0_i32_51 c64_i32_52
  let v160 : BitVec 32 := v159
  let v236 : Index := Scalar.indexCast v160
  let c128 : Index := 128#32
  ![v236.toNat, 128]
def k0_off6 (c0_i32_51 : BitVec 32) : Fin 2 → Nat :=
  let c64_i32_53 : BitVec 32 := 64#32
  let v161 : BitVec 32 := Scalar.muli c0_i32_51 c64_i32_53
  let c56_i32 : BitVec 32 := 56#32
  let v162 : BitVec 32 := Scalar.addi v161 c56_i32
  let v163 : BitVec 32 := v162
  let v262 : Index := Scalar.indexCast v163
  let c128_96 : Index := 128#32
  ![v262.toNat, 128]
def k0_off7 (c0_i32_51 : BitVec 32) : Fin 2 → Nat :=
  let c64_i32_52 : BitVec 32 := 64#32
  let v159 : BitVec 32 := Scalar.muli c0_i32_51 c64_i32_52
  let v160 : BitVec 32 := v159
  let v272 : Index := Scalar.indexCast v160
  let c192 : Index := 192#32
  ![v272.toNat, 192]
def k0_off8 (c0_i32_51 : BitVec 32) : Fin 2 → Nat :=
  let c64_i32_53 : BitVec 32 := 64#32
  let v161 : BitVec 32 := Scalar.muli c0_i32_51 c64_i32_53
  let c56_i32 : BitVec 32 := 56#32
  let v162 : BitVec 32 := Scalar.addi v161 c56_i32
  let v163 : BitVec 32 := v162
  let v298 : Index := Scalar.indexCast v163
  let c192_111 : Index := 192#32
  ![v298.toNat, 192]
def k0_mult3 : BitVec 32 :=
  let c1_i32_116 : BitVec 32 := 1#32
  let c64_i32_117 : BitVec 32 := 64#32
  let v308 : BitVec 32 := Scalar.muli c1_i32_116 c64_i32_117
  v308
def k0_mult4 : BitVec 32 :=
  let c1_i32_116 : BitVec 32 := 1#32
  let c64_i32_118 : BitVec 32 := 64#32
  let v310 : BitVec 32 := Scalar.muli c1_i32_116 c64_i32_118
  let c56_i32_119 : BitVec 32 := 56#32
  let v311 : BitVec 32 := Scalar.addi v310 c56_i32_119
  v311
def k0_mult5 : BitVec 32 :=
  let c2_i32 : BitVec 32 := 2#32
  let c64_i32_188 : BitVec 32 := 64#32
  let v457 : BitVec 32 := Scalar.muli c2_i32 c64_i32_188
  v457
def k0_mult6 : BitVec 32 :=
  let c2_i32 : BitVec 32 := 2#32
  let c64_i32_189 : BitVec 32 := 64#32
  let v459 : BitVec 32 := Scalar.muli c2_i32 c64_i32_189
  let c56_i32_190 : BitVec 32 := 56#32
  let v460 : BitVec 32 := Scalar.addi v459 c56_i32_190
  v460
def k0_mult7 : BitVec 32 :=
  let c3_i32 : BitVec 32 := 3#32
  let c64_i32_259 : BitVec 32 := 64#32
  let v606 : BitVec 32 := Scalar.muli c3_i32 c64_i32_259
  v606
def k0_mult8 : BitVec 32 :=
  let c3_i32 : BitVec 32 := 3#32
  let c64_i32_260 : BitVec 32 := 64#32
  let v608 : BitVec 32 := Scalar.muli c3_i32 c64_i32_260
  let c56_i32_261 : BitVec 32 := 56#32
  let v609 : BitVec 32 := Scalar.addi v608 c56_i32_261
  v609
def k0_mult9 : BitVec 32 :=
  let c4_i32 : BitVec 32 := 4#32
  let c64_i32_330 : BitVec 32 := 64#32
  let v755 : BitVec 32 := Scalar.muli c4_i32 c64_i32_330
  v755
def k0_mult10 : BitVec 32 :=
  let c4_i32 : BitVec 32 := 4#32
  let c64_i32_331 : BitVec 32 := 64#32
  let v757 : BitVec 32 := Scalar.muli c4_i32 c64_i32_331
  let c56_i32_332 : BitVec 32 := 56#32
  let v758 : BitVec 32 := Scalar.addi v757 c56_i32_332
  v758
def k0_mult11 : BitVec 32 :=
  let c5_i32 : BitVec 32 := 5#32
  let c64_i32_401 : BitVec 32 := 64#32
  let v904 : BitVec 32 := Scalar.muli c5_i32 c64_i32_401
  v904
def k0_mult12 : BitVec 32 :=
  let c5_i32 : BitVec 32 := 5#32
  let c64_i32_402 : BitVec 32 := 64#32
  let v906 : BitVec 32 := Scalar.muli c5_i32 c64_i32_402
  let c56_i32_403 : BitVec 32 := 56#32
  let v907 : BitVec 32 := Scalar.addi v906 c56_i32_403
  v907
def k0_mult13 : BitVec 32 :=
  let c6_i32 : BitVec 32 := 6#32
  let c64_i32_472 : BitVec 32 := 64#32
  let v1053 : BitVec 32 := Scalar.muli c6_i32 c64_i32_472
  v1053
def k0_mult14 : BitVec 32 :=
  let c6_i32 : BitVec 32 := 6#32
  let c64_i32_473 : BitVec 32 := 64#32
  let v1055 : BitVec 32 := Scalar.muli c6_i32 c64_i32_473
  let c56_i32_474 : BitVec 32 := 56#32
  let v1056 : BitVec 32 := Scalar.addi v1055 c56_i32_474
  v1056
def k0_mult15 : BitVec 32 :=
  let c7_i32 : BitVec 32 := 7#32
  let c64_i32_543 : BitVec 32 := 64#32
  let v1202 : BitVec 32 := Scalar.muli c7_i32 c64_i32_543
  v1202
def k0_mult16 : BitVec 32 :=
  let c7_i32 : BitVec 32 := 7#32
  let c64_i32_544 : BitVec 32 := 64#32
  let v1204 : BitVec 32 := Scalar.muli c7_i32 c64_i32_544
  let c56_i32_545 : BitVec 32 := 56#32
  let v1205 : BitVec 32 := Scalar.addi v1204 c56_i32_545
  v1205
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S16384x1024 : Shape := ⟨2, ![16384, 1024]⟩
abbrev S1024 : Shape := ⟨1, ![1024]⟩
abbrev S1024x8220 : Shape := ⟨2, ![1024, 8220]⟩
abbrev S16x256 : Shape := ⟨2, ![16, 256]⟩
abbrev S256 : Shape := ⟨1, ![256]⟩
abbrev S64 : Shape := ⟨1, ![64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x1040 : Shape := ⟨2, ![1024, 1040]⟩
abbrev S16384x1040 : Shape := ⟨2, ![16384, 1040]⟩
abbrev S16384x256 : Shape := ⟨2, ![16384, 256]⟩
abbrev S16384x4x64 : Shape := ⟨3, ![16384, 4, 64]⟩
abbrev S16384x16 : Shape := ⟨2, ![16384, 16]⟩
abbrev S1x256 : Shape := ⟨2, ![1, 256]⟩
abbrev S1x16384 : Shape := ⟨2, ![1, 16384]⟩
abbrev S16384x16384 : Shape := ⟨2, ![16384, 16384]⟩
abbrev S16384x16384x1x1 : Shape := ⟨4, ![16384, 16384, 1, 1]⟩
abbrev S16384x1x4x64 : Shape := ⟨4, ![16384, 1, 4, 64]⟩
abbrev S1x16384x4x64 : Shape := ⟨4, ![1, 16384, 4, 64]⟩
abbrev S16384x16384x4x64 : Shape := ⟨4, ![16384, 16384, 4, 64]⟩
abbrev S16384x16384x4 : Shape := ⟨3, ![16384, 16384, 4]⟩
abbrev S4x64x16384 : Shape := ⟨3, ![4, 64, 16384]⟩
abbrev S16384x4 : Shape := ⟨2, ![16384, 4]⟩
abbrev S16384x4x1 : Shape := ⟨3, ![16384, 4, 1]⟩
abbrev S1x1x64 : Shape := ⟨3, ![1, 1, 64]⟩

abbrev nBuf : Space → Nat
  | .hbm => 118
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8220, .f32⟩
  | .hbm, ⟨3, _⟩ => ⟨S16x256, .f32⟩
  | .hbm, ⟨4, _⟩ => ⟨S256, .f32⟩
  | .hbm, ⟨5, _⟩ => ⟨S64, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S1024x1040, .f32⟩
  | .hbm, ⟨23, _⟩ => ⟨S16384x1040, .f32⟩
  | .hbm, ⟨24, _⟩ => ⟨S16384x256, .f32⟩
  | .hbm, ⟨25, _⟩ => ⟨S16384x4x64, .f32⟩
  | .hbm, ⟨26, _⟩ => ⟨S_, .f32⟩
  | .hbm, ⟨27, _⟩ => ⟨S16384x4x64, .f32⟩
  | .hbm, ⟨28, _⟩ => ⟨S16384x4x64, .f32⟩
  | .hbm, ⟨29, _⟩ => ⟨S16384x256, .f32⟩
  | .hbm, ⟨30, _⟩ => ⟨S16384x4x64, .f32⟩
  | .hbm, ⟨31, _⟩ => ⟨S16384x256, .f32⟩
  | .hbm, ⟨32, _⟩ => ⟨S16384x4x64, .f32⟩
  | .hbm, ⟨33, _⟩ => ⟨S16384x16, .f32⟩
  | .hbm, ⟨34, _⟩ => ⟨S16384x256, .f32⟩
  | .hbm, ⟨35, _⟩ => ⟨S16384x256, .f32⟩
  | .hbm, ⟨36, _⟩ => ⟨S1x256, .f32⟩
  | .hbm, ⟨37, _⟩ => ⟨S16384x256, .f32⟩
  | .hbm, ⟨38, _⟩ => ⟨S16384x256, .f32⟩
  | .hbm, ⟨39, _⟩ => ⟨S16384x256, .f32⟩
  | .hbm, ⟨40, _⟩ => ⟨S_, .f32⟩
  | .hbm, ⟨41, _⟩ => ⟨S16384x256, .f32⟩
  | .hbm, ⟨42, _⟩ => ⟨S16384x256, .f32⟩
  | .hbm, ⟨43, _⟩ => ⟨S16384x256, .f32⟩
  | .hbm, ⟨44, _⟩ => ⟨S16384x256, .f32⟩
  | .hbm, ⟨45, _⟩ => ⟨S16384x256, .i1⟩
  | .hbm, ⟨46, _⟩ => ⟨S16384x256, .f32⟩
  | .hbm, ⟨47, _⟩ => ⟨S16384x256, .f32⟩
  | .hbm, ⟨48, _⟩ => ⟨S16384x256, .f32⟩
  | .hbm, ⟨49, _⟩ => ⟨S16384x256, .f32⟩
  | .hbm, ⟨50, _⟩ => ⟨S16384x256, .f32⟩
  | .hbm, ⟨51, _⟩ => ⟨S16384x256, .f32⟩
  | .hbm, ⟨52, _⟩ => ⟨S16384x256, .f32⟩
  | .hbm, ⟨53, _⟩ => ⟨S16384x256, .f32⟩
  | .hbm, ⟨54, _⟩ => ⟨S16384x256, .f32⟩
  | .hbm, ⟨55, _⟩ => ⟨S_, .f32⟩
  | .hbm, ⟨56, _⟩ => ⟨S16384x256, .f32⟩
  | .hbm, ⟨57, _⟩ => ⟨S16384x256, .f32⟩
  | .hbm, ⟨58, _⟩ => ⟨S_, .f32⟩
  | .hbm, ⟨59, _⟩ => ⟨S_, .f32⟩
  | .hbm, ⟨60, _⟩ => ⟨S16384x256, .f32⟩
  | .hbm, ⟨61, _⟩ => ⟨S16384x4x64, .f32⟩
  | .hbm, ⟨62, _⟩ => ⟨S16384, .i32⟩
  | .hbm, ⟨63, _⟩ => ⟨S1x16384, .i32⟩
  | .hbm, ⟨64, _⟩ => ⟨S16384x1, .i32⟩
  | .hbm, ⟨65, _⟩ => ⟨S16384x16384, .i32⟩
  | .hbm, ⟨66, _⟩ => ⟨S16384x16384, .i32⟩
  | .hbm, ⟨67, _⟩ => ⟨S16384x16384, .i1⟩
  | .hbm, ⟨68, _⟩ => ⟨S16384x16384x1x1, .i1⟩
  | .hbm, ⟨69, _⟩ => ⟨S16384x1x4x64, .f32⟩
  | .hbm, ⟨70, _⟩ => ⟨S1x16384x4x64, .f32⟩
  | .hbm, ⟨71, _⟩ => ⟨S16384x16384x4x64, .f32⟩
  | .hbm, ⟨72, _⟩ => ⟨S16384x16384x4x64, .f32⟩
  | .hbm, ⟨73, _⟩ => ⟨S16384x16384x4x64, .f32⟩
  | .hbm, ⟨74, _⟩ => ⟨S_, .f32⟩
  | .hbm, ⟨75, _⟩ => ⟨S_, .f32⟩
  | .hbm, ⟨76, _⟩ => ⟨S16384x16384x4x64, .i1⟩
  | .hbm, ⟨77, _⟩ => ⟨S16384x16384x4x64, .f32⟩
  | .hbm, ⟨78, _⟩ => ⟨S16384x16384x4x64, .f32⟩
  | .hbm, ⟨79, _⟩ => ⟨S16384x16384x4x64, .f32⟩
  | .hbm, ⟨80, _⟩ => ⟨S16384x1x4x64, .f32⟩
  | .hbm, ⟨81, _⟩ => ⟨S1x16384x4x64, .f32⟩
  | .hbm, ⟨82, _⟩ => ⟨S16384x16384x4x64, .f32⟩
  | .hbm, ⟨83, _⟩ => ⟨S16384x16384x4x64, .f32⟩
  | .hbm, ⟨84, _⟩ => ⟨S16384x16384x4x64, .f32⟩
  | .hbm, ⟨85, _⟩ => ⟨S16384x16384x4x64, .f32⟩
  | .hbm, ⟨86, _⟩ => ⟨S_, .f32⟩
  | .hbm, ⟨87, _⟩ => ⟨S16384x16384x4, .f32⟩
  | .hbm, ⟨88, _⟩ => ⟨S4x64x16384, .f32⟩
  | .hbm, ⟨89, _⟩ => ⟨S16384x4x64, .f32⟩
  | .hbm, ⟨90, _⟩ => ⟨S16384x4x64, .f32⟩
  | .hbm, ⟨91, _⟩ => ⟨S_, .f32⟩
  | .hbm, ⟨92, _⟩ => ⟨S16384x4, .f32⟩
  | .hbm, ⟨93, _⟩ => ⟨S16384x4x1, .f32⟩
  | .hbm, ⟨94, _⟩ => ⟨S_, .f32⟩
  | .hbm, ⟨95, _⟩ => ⟨S16384x4x1, .f32⟩
  | .hbm, ⟨96, _⟩ => ⟨S16384x4x1, .f32⟩
  | .hbm, ⟨97, _⟩ => ⟨S_, .f32⟩
  | .hbm, ⟨98, _⟩ => ⟨S16384x4x1, .f32⟩
  | .hbm, ⟨99, _⟩ => ⟨S16384x4x1, .f32⟩
  | .hbm, ⟨100, _⟩ => ⟨S16384x4x1, .f32⟩
  | .hbm, ⟨101, _⟩ => ⟨S16384x4x64, .f32⟩
  | .hbm, ⟨102, _⟩ => ⟨S16384x4x64, .f32⟩
  | .hbm, ⟨103, _⟩ => ⟨S1x1x64, .f32⟩
  | .hbm, ⟨104, _⟩ => ⟨S16384x4x64, .f32⟩
  | .hbm, ⟨105, _⟩ => ⟨S16384x4x64, .f32⟩
  | .hbm, ⟨106, _⟩ => ⟨S16384x256, .f32⟩
  | .hbm, ⟨107, _⟩ => ⟨S16384x256, .f32⟩
  | .hbm, ⟨108, _⟩ => ⟨S16384x256, .f32⟩
  | .hbm, ⟨109, _⟩ => ⟨S_, .f32⟩
  | .hbm, ⟨110, _⟩ => ⟨S16384x256, .f32⟩
  | .hbm, ⟨111, _⟩ => ⟨S16384x256, .f32⟩
  | .hbm, ⟨112, _⟩ => ⟨S_, .f32⟩
  | .hbm, ⟨113, _⟩ => ⟨S16384x256, .f32⟩
  | .hbm, ⟨114, _⟩ => ⟨S16384x256, .f32⟩
  | .hbm, ⟨115, _⟩ => ⟨S16384x256, .f32⟩
  | .hbm, ⟨116, _⟩ => ⟨S16384x256, .f32⟩
  | .hbm, ⟨117, _⟩ => ⟨S16384x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_call0_cst : Ref sig .tc := ⟨.hbm, 40, rfl⟩
abbrev main_call0_call0_v0 : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_v9 : Ref sig .tc := ⟨.hbm, 50, rfl⟩
abbrev main_call0_call0_v10 : Ref sig .tc := ⟨.hbm, 51, rfl⟩
abbrev main_call0_call0_v11 : Ref sig .tc := ⟨.hbm, 52, rfl⟩
abbrev main_call0_v1 : Ref sig .tc := ⟨.hbm, 53, rfl⟩
abbrev main_v29 : Ref sig .tc := ⟨.hbm, 54, rfl⟩
abbrev main_cst_3 : Ref sig .tc := ⟨.hbm, 55, rfl⟩
abbrev main_v30 : Ref sig .tc := ⟨.hbm, 56, rfl⟩
abbrev main_v31 : Ref sig .tc := ⟨.hbm, 57, rfl⟩
abbrev main_call1_call0_cst : Ref sig .tc := ⟨.hbm, 58, rfl⟩
abbrev main_call1_call0_v0 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_4 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_5 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_6 : Ref sig .tc := ⟨.hbm, 91, rfl⟩
abbrev main_v58 : Ref sig .tc := ⟨.hbm, 92, rfl⟩
abbrev main_v59 : Ref sig .tc := ⟨.hbm, 93, rfl⟩
abbrev main_cst_7 : Ref sig .tc := ⟨.hbm, 94, rfl⟩
abbrev main_v60 : Ref sig .tc := ⟨.hbm, 95, rfl⟩
abbrev main_v61 : Ref sig .tc := ⟨.hbm, 96, rfl⟩
abbrev main_cst_8 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_call3_v0 : Ref sig .tc := ⟨.hbm, 107, rfl⟩
abbrev main_call3_v1 : Ref sig .tc := ⟨.hbm, 108, rfl⟩
abbrev main_call3_cst : Ref sig .tc := ⟨.hbm, 109, rfl⟩
abbrev main_call3_v2 : Ref sig .tc := ⟨.hbm, 110, rfl⟩
abbrev main_call3_v3 : Ref sig .tc := ⟨.hbm, 111, rfl⟩
abbrev main_call3_cst_0 : Ref sig .tc := ⟨.hbm, 112, rfl⟩
abbrev main_call3_v4 : Ref sig .tc := ⟨.hbm, 113, rfl⟩
abbrev main_call3_v5 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩

abbrev nD : Nat := 1
abbrev τ : Topo := Topo.v7x

variable {F : FTy → Type} [FloatOps F]
-- ==== Kernel6.lean ====
abbrev S16384x1024 : Shape := ⟨2, ![16384, 1024]⟩
abbrev S1024 : Shape := ⟨1, ![1024]⟩
abbrev S1024x8220 : Shape := ⟨2, ![1024, 8220]⟩
abbrev S16384x32 : Shape := ⟨2, ![16384, 32]⟩
abbrev S64 : Shape := ⟨1, ![64]⟩
abbrev S1024x256 : Shape := ⟨2, ![1024, 256]⟩
abbrev S1024x4 : Shape := ⟨2, ![1024, 4]⟩
abbrev S1024x16 : Shape := ⟨2, ![1024, 16]⟩
abbrev S1024x512 : Shape := ⟨2, ![1024, 512]⟩
abbrev S1024x768 : Shape := ⟨2, ![1024, 768]⟩
abbrev S1024x8 : Shape := ⟨2, ![1024, 8]⟩
abbrev S1024x4096 : Shape := ⟨2, ![1024, 4096]⟩
abbrev S_ : Shape := ⟨0, ![]⟩
abbrev S1024x128 : Shape := ⟨2, ![1024, 128]⟩
abbrev S1024x896 : Shape := ⟨2, ![1024, 896]⟩
abbrev S1024x1152 : Shape := ⟨2, ![1024, 1152]⟩
abbrev S1024x4x2x32 : Shape := ⟨4, ![1024, 4, 2, 32]⟩
abbrev S1024x1536 : Shape := ⟨2, ![1024, 1536]⟩
abbrev S1024x1408 : Shape := ⟨2, ![1024, 1408]⟩
abbrev S8x1024 : Shape := ⟨2, ![8, 1024]⟩
abbrev S16384x64 : Shape := ⟨2, ![16384, 64]⟩
abbrev S1x16384x1x64 : Shape := ⟨4, ![1, 16384, 1, 64]⟩
abbrev S1x16384x4x64 : Shape := ⟨4, ![1, 16384, 4, 64]⟩
abbrev S16384x256 : Shape := ⟨2, ![16384, 256]⟩
abbrev S1x1024 : Shape := ⟨2, ![1, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S512x1024 : Shape := ⟨2, ![512, 1024]⟩
abbrev S512x256 : Shape := ⟨2, ![512, 256]⟩
abbrev S4x64x64 : Shape := ⟨3, ![4, 64, 64]⟩
abbrev S512 : Shape := ⟨1, ![512]⟩
abbrev S512x1 : Shape := ⟨2, ![512, 1]⟩
abbrev S512x1536 : Shape := ⟨2, ![512, 1536]⟩
abbrev S64x64 : Shape := ⟨2, ![64, 64]⟩
abbrev S1x64x64 : Shape := ⟨3, ![1, 64, 64]⟩
abbrev S8x64 : Shape := ⟨2, ![8, 64]⟩
abbrev S256x256 : Shape := ⟨2, ![256, 256]⟩

abbrev nBuf : Space → Nat
  | .hbm => 64
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8220, .f32⟩
  | .hbm, ⟨3, _⟩ => ⟨S16384x32, .f32⟩
  | .hbm, ⟨4, _⟩ => ⟨S16384x32, .f32⟩
  | .hbm, ⟨5, _⟩ => ⟨S64, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x4, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x16, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S1024x512, .f32⟩
  | .hbm, ⟨20, _⟩ => ⟨S1024x768, .f32⟩
  | .hbm, ⟨21, _⟩ => ⟨S1024x8, .f32⟩
  | .hbm, ⟨22, _⟩ => ⟨S1024x4096, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x896, .f32⟩
  | .hbm, ⟨27, _⟩ => ⟨S1024x896, .bf16⟩
  | .hbm, ⟨28, _⟩ => ⟨S_, .i32⟩
  | .hbm, ⟨29, _⟩ => ⟨S_, .f32⟩
  | .hbm, ⟨30, _⟩ => ⟨S1024x128, .f32⟩
  | .hbm, ⟨31, _⟩ => ⟨S1024x1152, .f32⟩
  | .hbm, ⟨32, _⟩ => ⟨S1024x1152, .bf16⟩
  | .hbm, ⟨33, _⟩ => ⟨S1024x4x2x32, .f32⟩
  | .hbm, ⟨34, _⟩ => ⟨S1024x4x2x32, .f32⟩
  | .hbm, ⟨35, _⟩ => ⟨S1024x256, .f32⟩
  | .hbm, ⟨36, _⟩ => ⟨S1024x4x2x32, .f32⟩
  | .hbm, ⟨37, _⟩ => ⟨S1024x4x2x32, .f32⟩
  | .hbm, ⟨38, _⟩ => ⟨S1024x256, .f32⟩
  | .hbm, ⟨39, _⟩ => ⟨S1024x1536, .f32⟩
  | .hbm, ⟨40, _⟩ => ⟨S1024x1536, .bf16⟩
  | .hbm, ⟨41, _⟩ => ⟨S_, .i32⟩
  | .hbm, ⟨42, _⟩ => ⟨S_, .f32⟩
  | .hbm, ⟨43, _⟩ => ⟨S1024x128, .f32⟩
  | .hbm, ⟨44, _⟩ => ⟨S1024x1408, .f32⟩
  | .hbm, ⟨45, _⟩ => ⟨S1024x1408, .bf16⟩
  | .hbm, ⟨46, _⟩ => ⟨S8x1024, .f32⟩
  | .hbm, ⟨47, _⟩ => ⟨S8x1024, .bf16⟩
  | .hbm, ⟨48, _⟩ => ⟨S1024x4096, .bf16⟩
  | .hbm, ⟨49, _⟩ => ⟨S16384x64, .f32⟩
  | .hbm, ⟨50, _⟩ => ⟨S1x16384x1x64, .f32⟩
  | .hbm, ⟨51, _⟩ => ⟨S1x16384x4x64, .f32⟩
  | .hbm, ⟨52, _⟩ => ⟨S16384x256, .f32⟩
  | .hbm, ⟨53, _⟩ => ⟨S16384x32, .f32⟩
  | .hbm, ⟨54, _⟩ => ⟨S16384x64, .f32⟩
  | .hbm, ⟨55, _⟩ => ⟨S1x16384x1x64, .f32⟩
  | .hbm, ⟨56, _⟩ => ⟨S1x16384x4x64, .f32⟩
  | .hbm, ⟨57, _⟩ => ⟨S16384x256, .f32⟩
  | .hbm, ⟨58, _⟩ => ⟨S1x1024, .f32⟩
  | .hbm, ⟨59, _⟩ => ⟨S1x64, .f32⟩
  | .hbm, ⟨60, _⟩ => ⟨S4x64, .f32⟩
  | .hbm, ⟨61, _⟩ => ⟨S256, .f32⟩
  | .hbm, ⟨62, _⟩ => ⟨S1x256, .f32⟩
  | .hbm, ⟨63, _⟩ => ⟨S16384x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x256, .f32⟩
  | .local _ .vmem, ⟨9, _⟩ => ⟨S512x256, .bf16⟩
  | .local _ .vmem, ⟨10, _⟩ => ⟨S512x256, .bf16⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S4x64x64, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_0 : Ref sig .tc := ⟨.hbm, 28, rfl⟩
abbrev main_call1_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_1 : Ref sig .tc := ⟨.hbm, 41, rfl⟩
abbrev main_call2_v0 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def k0_mult1 : BitVec 32 :=
  let c0_i32_67 : BitVec 32 := 0#32
  let c64_i32_68 : BitVec 32 := 64#32
  let v206 : BitVec 32 := Scalar.muli c0_i32_67 c64_i32_68
  v206
def k0_mult2 : BitVec 32 :=
  let c0_i32_67 : BitVec 32 := 0#32
  let c64_i32_69 : BitVec 32 := 64#32
  let v208 : BitVec 32 := Scalar.muli c0_i32_67 c64_i32_69
  let c56_i32 : BitVec 32 := 56#32
  let v209 : BitVec 32 := Scalar.addi v208 c56_i32
  v209
def k0_off1 (c0_i32_67 : BitVec 32) : Fin 2 → Nat :=
  let c64_i32_68 : BitVec 32 := 64#32
  let v206 : BitVec 32 := Scalar.muli c0_i32_67 c64_i32_68
  let v207 : BitVec 32 := v206
  let v211 : Index := Scalar.indexCast v207
  let c0_70 : Index := 0#32
  ![v211.toNat, 0]
def k0_off2 (c0_i32_67 : BitVec 32) : Fin 2 → Nat :=
  let c64_i32_69 : BitVec 32 := 64#32
  let v208 : BitVec 32 := Scalar.muli c0_i32_67 c64_i32_69
  let c56_i32 : BitVec 32 := 56#32
  let v209 : BitVec 32 := Scalar.addi v208 c56_i32
  let v210 : BitVec 32 := v209
  let v237 : Index := Scalar.indexCast v210
  let c0_82 : Index := 0#32
  ![v237.toNat, 0]
def k0_off3 (c0_i32_67 : BitVec 32) : Fin 2 → Nat :=
  let c64_i32_68 : BitVec 32 := 64#32
  let v206 : BitVec 32 := Scalar.muli c0_i32_67 c64_i32_68
  let v207 : BitVec 32 := v206
  let v247 : Index := Scalar.indexCast v207
  let c64 : Index := 64#32
  ![v247.toNat, 64]
def k0_off4 (c0_i32_67 : BitVec 32) : Fin 2 → Nat :=
  let c64_i32_69 : BitVec 32 := 64#32
  let v208 : BitVec 32 := Scalar.muli c0_i32_67 c64_i32_69
  let c56_i32 : BitVec 32 := 56#32
  let v209 : BitVec 32 := Scalar.addi v208 c56_i32
  let v210 : BitVec 32 := v209
  let v273 : Index := Scalar.indexCast v210
  let c64_97 : Index := 64#32
  ![v273.toNat, 64]
def k0_off5 (c0_i32_67 : BitVec 32) : Fin 2 → Nat :=
  let c64_i32_68 : BitVec 32 := 64#32
  let v206 : BitVec 32 := Scalar.muli c0_i32_67 c64_i32_68
  let v207 : BitVec 32 := v206
  let v283 : Index := Scalar.indexCast v207
  let c128 : Index := 128#32
  ![v283.toNat, 128]
def k0_off6 (c0_i32_67 : BitVec 32) : Fin 2 → Nat :=
  let c64_i32_69 : BitVec 32 := 64#32
  let v208 : BitVec 32 := Scalar.muli c0_i32_67 c64_i32_69
  let c56_i32 : BitVec 32 := 56#32
  let v209 : BitVec 32 := Scalar.addi v208 c56_i32
  let v210 : BitVec 32 := v209
  let v309 : Index := Scalar.indexCast v210
  let c128_112 : Index := 128#32
  ![v309.toNat, 128]
def k0_off7 (c0_i32_67 : BitVec 32) : Fin 2 → Nat :=
  let c64_i32_68 : BitVec 32 := 64#32
  let v206 : BitVec 32 := Scalar.muli c0_i32_67 c64_i32_68
  let v207 : BitVec 32 := v206
  let v319 : Index := Scalar.indexCast v207
  let c192 : Index := 192#32
  ![v319.toNat, 192]
def k0_off8 (c0_i32_67 : BitVec 32) : Fin 2 → Nat :=
  let c64_i32_69 : BitVec 32 := 64#32
  let v208 : BitVec 32 := Scalar.muli c0_i32_67 c64_i32_69
  let c56_i32 : BitVec 32 := 56#32
  let v209 : BitVec 32 := Scalar.addi v208 c56_i32
  let v210 : BitVec 32 := v209
  let v345 : Index := Scalar.indexCast v210
  let c192_127 : Index := 192#32
  ![v345.toNat, 192]
def k0_mult3 : BitVec 32 :=
  let c1_i32_132 : BitVec 32 := 1#32
  let c64_i32_133 : BitVec 32 := 64#32
  let v355 : BitVec 32 := Scalar.muli c1_i32_132 c64_i32_133
  v355
def k0_mult4 : BitVec 32 :=
  let c1_i32_132 : BitVec 32 := 1#32
  let c64_i32_134 : BitVec 32 := 64#32
  let v357 : BitVec 32 := Scalar.muli c1_i32_132 c64_i32_134
  let c56_i32_135 : BitVec 32 := 56#32
  let v358 : BitVec 32 := Scalar.addi v357 c56_i32_135
  v358
def k0_mult5 : BitVec 32 :=
  let c2_i32_204 : BitVec 32 := 2#32
  let c64_i32_205 : BitVec 32 := 64#32
  let v504 : BitVec 32 := Scalar.muli c2_i32_204 c64_i32_205
  v504
def k0_mult6 : BitVec 32 :=
  let c2_i32_204 : BitVec 32 := 2#32
  let c64_i32_206 : BitVec 32 := 64#32
  let v506 : BitVec 32 := Scalar.muli c2_i32_204 c64_i32_206
  let c56_i32_207 : BitVec 32 := 56#32
  let v507 : BitVec 32 := Scalar.addi v506 c56_i32_207
  v507
def k0_mult7 : BitVec 32 :=
  let c3_i32_276 : BitVec 32 := 3#32
  let c64_i32_277 : BitVec 32 := 64#32
  let v653 : BitVec 32 := Scalar.muli c3_i32_276 c64_i32_277
  v653
def k0_mult8 : BitVec 32 :=
  let c3_i32_276 : BitVec 32 := 3#32
  let c64_i32_278 : BitVec 32 := 64#32
  let v655 : BitVec 32 := Scalar.muli c3_i32_276 c64_i32_278
  let c56_i32_279 : BitVec 32 := 56#32
  let v656 : BitVec 32 := Scalar.addi v655 c56_i32_279
  v656
def k0_mult9 : BitVec 32 :=
  let c4_i32 : BitVec 32 := 4#32
  let c64_i32_348 : BitVec 32 := 64#32
  let v802 : BitVec 32 := Scalar.muli c4_i32 c64_i32_348
  v802
def k0_mult10 : BitVec 32 :=
  let c4_i32 : BitVec 32 := 4#32
  let c64_i32_349 : BitVec 32 := 64#32
  let v804 : BitVec 32 := Scalar.muli c4_i32 c64_i32_349
  let c56_i32_350 : BitVec 32 := 56#32
  let v805 : BitVec 32 := Scalar.addi v804 c56_i32_350
  v805
def k0_mult11 : BitVec 32 :=
  let c5_i32 : BitVec 32 := 5#32
  let c64_i32_419 : BitVec 32 := 64#32
  let v951 : BitVec 32 := Scalar.muli c5_i32 c64_i32_419
  v951
def k0_mult12 : BitVec 32 :=
  let c5_i32 : BitVec 32 := 5#32
  let c64_i32_420 : BitVec 32 := 64#32
  let v953 : BitVec 32 := Scalar.muli c5_i32 c64_i32_420
  let c56_i32_421 : BitVec 32 := 56#32
  let v954 : BitVec 32 := Scalar.addi v953 c56_i32_421
  v954
def k0_mult13 : BitVec 32 :=
  let c6_i32 : BitVec 32 := 6#32
  let c64_i32_490 : BitVec 32 := 64#32
  let v1100 : BitVec 32 := Scalar.muli c6_i32 c64_i32_490
  v1100
def k0_mult14 : BitVec 32 :=
  let c6_i32 : BitVec 32 := 6#32
  let c64_i32_491 : BitVec 32 := 64#32
  let v1102 : BitVec 32 := Scalar.muli c6_i32 c64_i32_491
  let c56_i32_492 : BitVec 32 := 56#32
  let v1103 : BitVec 32 := Scalar.addi v1102 c56_i32_492
  v1103
def k0_mult15 : BitVec 32 :=
  let c7_i32 : BitVec 32 := 7#32
  let c64_i32_561 : BitVec 32 := 64#32
  let v1249 : BitVec 32 := Scalar.muli c7_i32 c64_i32_561
  v1249
def k0_mult16 : BitVec 32 :=
  let c7_i32 : BitVec 32 := 7#32
  let c64_i32_562 : BitVec 32 := 64#32
  let v1251 : BitVec 32 := Scalar.muli c7_i32 c64_i32_562
  let c56_i32_563 : BitVec 32 := 56#32
  let v1252 : BitVec 32 := Scalar.addi v1251 c56_i32_563
  v1252
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S16384x1024 : Shape := ⟨2, ![16384, 1024]⟩
abbrev S1024 : Shape := ⟨1, ![1024]⟩
abbrev S1024x8220 : Shape := ⟨2, ![1024, 8220]⟩
abbrev S16384x32 : Shape := ⟨2, ![16384, 32]⟩
abbrev S64 : Shape := ⟨1, ![64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x1024 : Shape := ⟨2, ![1024, 1024]⟩
abbrev S16384x256 : Shape := ⟨2, ![16384, 256]⟩
abbrev S16384x4x64 : Shape := ⟨3, ![16384, 4, 64]⟩
abbrev S16384x4x32 : Shape := ⟨3, ![16384, 4, 32]⟩
abbrev S16384x1x32 : Shape := ⟨3, ![16384, 1, 32]⟩
abbrev S1 : Shape := ⟨1, ![1]⟩
abbrev S4 : Shape := ⟨1, ![4]⟩
abbrev S1x16384 : Shape := ⟨2, ![1, 16384]⟩
abbrev S16384x16384 : Shape := ⟨2, ![16384, 16384]⟩
abbrev S1x16384x16384 : Shape := ⟨3, ![1, 16384, 16384]⟩
abbrev S4x1x1 : Shape := ⟨3, ![4, 1, 1]⟩
abbrev S4x16384x16384 : Shape := ⟨3, ![4, 16384, 16384]⟩
abbrev S4x64x16384 : Shape := ⟨3, ![4, 64, 16384]⟩
abbrev S16384x4 : Shape := ⟨2, ![16384, 4]⟩
abbrev S16384x4x1 : Shape := ⟨3, ![16384, 4, 1]⟩
abbrev S1x1x64 : Shape := ⟨3, ![1, 1, 64]⟩

abbrev nBuf : Space → Nat
  | .hbm => 130
  | .vmem => 0
  | .smem => 0
  | _ => 0

abbrev hbmTy0_0 (i : Nat) : BufTy := match i % 128 with
  | 0 => ⟨S16384x1024, .f32⟩
  | 1 => ⟨S1024, .f32⟩
  | 2 => ⟨S1024x8220, .f32⟩
  | 3 => ⟨S16384x32, .f32⟩
  | 4 => ⟨S16384x32, .f32⟩
  | 5 => ⟨S64, .f32⟩
  | 6 => ⟨S16384x1024, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S_, .f32⟩
  | 14 => ⟨S16384x1, .f32⟩
  | 15 => ⟨S16384x1, .f32⟩
  | 16 => ⟨S16384x1, .f32⟩
  | 17 => ⟨S16384x1024, .f32⟩
  | 18 => ⟨S16384x1024, .f32⟩
  | 19 => ⟨S1x1024, .f32⟩
  | 20 => ⟨S16384x1024, .f32⟩
  | 21 => ⟨S16384x1024, .f32⟩
  | 22 => ⟨S1024x1024, .f32⟩
  | 23 => ⟨S16384x1024, .f32⟩
  | 24 => ⟨S16384x256, .f32⟩
  | 25 => ⟨S16384x4x64, .f32⟩
  | 26 => ⟨S16384x4x32, .f32⟩
  | 27 => ⟨S16384x4x32, .f32⟩
  | 28 => ⟨S16384x1x32, .f32⟩
  | 29 => ⟨S16384x1x32, .f32⟩
  | 30 => ⟨S16384x4x32, .f32⟩
  | 31 => ⟨S16384x4x32, .f32⟩
  | 32 => ⟨S16384x4x32, .f32⟩
  | 33 => ⟨S16384x4x32, .f32⟩
  | 34 => ⟨S16384x4x32, .f32⟩
  | 35 => ⟨S16384x4x32, .f32⟩
  | 36 => ⟨S16384x4x32, .f32⟩
  | 37 => ⟨S16384x4x32, .f32⟩
  | 38 => ⟨S16384x4x32, .f32⟩
  | 39 => ⟨S16384x4x32, .f32⟩
  | 40 => ⟨S16384x4x64, .f32⟩
  | 41 => ⟨S16384x256, .f32⟩
  | 42 => ⟨S16384x4x64, .f32⟩
  | 43 => ⟨S16384x4x32, .f32⟩
  | 44 => ⟨S16384x4x32, .f32⟩
  | 45 => ⟨S16384x1x32, .f32⟩
  | 46 => ⟨S16384x1x32, .f32⟩
  | 47 => ⟨S16384x4x32, .f32⟩
  | 48 => ⟨S16384x4x32, .f32⟩
  | 49 => ⟨S16384x4x32, .f32⟩
  | 50 => ⟨S16384x4x32, .f32⟩
  | 51 => ⟨S16384x4x32, .f32⟩
  | 52 => ⟨S16384x4x32, .f32⟩
  | 53 => ⟨S16384x4x32, .f32⟩
  | 54 => ⟨S16384x4x32, .f32⟩
  | 55 => ⟨S16384x4x32, .f32⟩
  | 56 => ⟨S16384x4x32, .f32⟩
  | 57 => ⟨S16384x4x64, .f32⟩
  | 58 => ⟨S_, .f32⟩
  | 59 => ⟨S16384x4x64, .f32⟩
  | 60 => ⟨S16384x4x64, .f32⟩
  | 61 => ⟨S16384x256, .f32⟩
  | 62 => ⟨S16384x4x64, .f32⟩
  | 63 => ⟨S16384x256, .f32⟩
  | 64 => ⟨S_, .f32⟩
  | 65 => ⟨S1, .f32⟩
  | 66 => ⟨S_, .f32⟩
  | 67 => ⟨S1, .f32⟩
  | 68 => ⟨S_, .f32⟩
  | 69 => ⟨S1, .f32⟩
  | 70 => ⟨S_, .f32⟩
  | 71 => ⟨S1, .f32⟩
  | 72 => ⟨S4, .f32⟩
  | 73 => ⟨S16384, .i32⟩
  | 74 => ⟨S16384, .f32⟩
  | 75 => ⟨S16384x1, .f32⟩
  | 76 => ⟨S16384, .f32⟩
  | 77 => ⟨S1x16384, .f32⟩
  | 78 => ⟨S16384x16384, .f32⟩
  | 79 => ⟨S16384x16384, .f32⟩
  | 80 => ⟨S16384x16384, .f32⟩
  | 81 => ⟨S1x16384x16384, .f32⟩
  | 82 => ⟨S1x16384, .i32⟩
  | 83 => ⟨S16384x1, .i32⟩
  | 84 => ⟨S16384x16384, .i32⟩
  | 85 => ⟨S16384x16384, .i32⟩
  | 86 => ⟨S16384x16384, .i1⟩
  | 87 => ⟨S1x16384x16384, .i1⟩
  | 88 => ⟨S4x1x1, .f32⟩
  | 89 => ⟨S4x16384x16384, .f32⟩
  | 90 => ⟨S4x16384x16384, .f32⟩
  | 91 => ⟨S4x16384x16384, .f32⟩
  | 92 => ⟨S4x16384x16384, .f32⟩
  | 93 => ⟨S_, .f32⟩
  | 94 => ⟨S_, .f32⟩
  | 95 => ⟨S4x16384x16384, .i1⟩
  | 96 => ⟨S4x16384x16384, .f32⟩
  | 97 => ⟨S4x16384x16384, .f32⟩
  | 98 => ⟨S4x16384x16384, .f32⟩
  | 99 => ⟨S4x16384x16384, .f32⟩
  | 100 => ⟨S4x64x16384, .f32⟩
  | 101 => ⟨S16384x4x64, .f32⟩
  | 102 => ⟨S16384x4x64, .f32⟩
  | 103 => ⟨S_, .f32⟩
  | 104 => ⟨S16384x4, .f32⟩
  | 105 => ⟨S16384x4x1, .f32⟩
  | 106 => ⟨S_, .f32⟩
  | 107 => ⟨S16384x4x1, .f32⟩
  | 108 => ⟨S16384x4x1, .f32⟩
  | 109 => ⟨S_, .f32⟩
  | 110 => ⟨S16384x4x1, .f32⟩
  | 111 => ⟨S16384x4x1, .f32⟩
  | 112 => ⟨S16384x4x1, .f32⟩
  | 113 => ⟨S16384x4x64, .f32⟩
  | 114 => ⟨S16384x4x64, .f32⟩
  | 115 => ⟨S1x1x64, .f32⟩
  | 116 => ⟨S16384x4x64, .f32⟩
  | 117 => ⟨S16384x4x64, .f32⟩
  | 118 => ⟨S16384x256, .f32⟩
  | 119 => ⟨S16384x256, .f32⟩
  | 120 => ⟨S16384x256, .f32⟩
  | 121 => ⟨S_, .f32⟩
  | 122 => ⟨S16384x256, .f32⟩
  | 123 => ⟨S16384x256, .f32⟩
  | 124 => ⟨S_, .f32⟩
  | 125 => ⟨S16384x256, .f32⟩
  | 126 => ⟨S16384x256, .f32⟩
  | 127 => ⟨S16384x256, .f32⟩
  | _ => ⟨S16384x1024, .f32⟩

abbrev hbmTy0_1 (i : Nat) : BufTy := match i % 128 with
  | 0 => ⟨S16384x256, .f32⟩
  | 1 => ⟨S16384x256, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_2 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_3 : Ref sig .tc := ⟨.hbm, 64, rfl⟩
abbrev main_v54 : Ref sig .tc := ⟨.hbm, 65, rfl⟩
abbrev main_cst_4 : Ref sig .tc := ⟨.hbm, 66, rfl⟩
abbrev main_v55 : Ref sig .tc := ⟨.hbm, 67, rfl⟩
abbrev main_cst_5 : Ref sig .tc := ⟨.hbm, 68, rfl⟩
abbrev main_v56 : Ref sig .tc := ⟨.hbm, 69, rfl⟩
abbrev main_cst_6 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_7 : Ref sig .tc := ⟨.hbm, 93, rfl⟩
abbrev main_call0_v0 : Ref sig .tc := ⟨.hbm, 94, rfl⟩
abbrev main_call0_v1 : Ref sig .tc := ⟨.hbm, 95, rfl⟩
abbrev main_call0_v2 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_8 : Ref sig .tc := ⟨.hbm, 103, rfl⟩
abbrev main_v85 : Ref sig .tc := ⟨.hbm, 104, rfl⟩
abbrev main_v86 : Ref sig .tc := ⟨.hbm, 105, rfl⟩
abbrev main_cst_9 : Ref sig .tc := ⟨.hbm, 106, rfl⟩
abbrev main_v87 : Ref sig .tc := ⟨.hbm, 107, rfl⟩
abbrev main_v88 : Ref sig .tc := ⟨.hbm, 108, rfl⟩
abbrev main_cst_10 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_call1_v0 : Ref sig .tc := ⟨.hbm, 119, rfl⟩
abbrev main_call1_v1 : Ref sig .tc := ⟨.hbm, 120, rfl⟩
abbrev main_call1_cst : Ref sig .tc := ⟨.hbm, 121, rfl⟩
abbrev main_call1_v2 : Ref sig .tc := ⟨.hbm, 122, rfl⟩
abbrev main_call1_v3 : Ref sig .tc := ⟨.hbm, 123, rfl⟩
abbrev main_call1_cst_0 : Ref sig .tc := ⟨.hbm, 124, rfl⟩
abbrev main_call1_v4 : Ref sig .tc := ⟨.hbm, 125, rfl⟩
abbrev main_call1_v5 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩

abbrev nD : Nat := 1
abbrev τ : Topo := Topo.v7x

variable {F : FTy → Type} [FloatOps F]
-- ==== Proof.FoxMath.lean ====
/-
  The streaming softmax of one query row, on extended reals. A row's scores `S k` (the masked keys at `⊥`) weigh values
  `V k`. The recurrence keeps a running maximum `m` and the sum of `exp (S k - m) * V k` so far, rescaled whenever the
  maximum grows; the statement here is that its state is always `exp (-m)` times the plain sum of `exp (S k) * V k`, so the
  quotient at the end is the softmax taken with any real shift at all.
-/
module

public import Idealize.ShloMosaic.PureOps.Ideal
public import Idealize.ShloMosaic.PureOps.Reduce

@[expose] public section

noncomputable section

namespace Cert.Proof.FoxMath

open Idealize.ShloMosaic Finset

/-- The sum of `exp (S k) * V k` over the first `n` keys. -/
def wsum (S V : ℕ → EReal) (n : ℕ) : EReal := ∑ k ∈ range n, Ideal.exp (S k) * V k

/-- The state after `n` keys: nothing seen yet, or a real maximum `μ` and the plain sum times `exp (-μ)`. -/
def St (S V : ℕ → EReal) (n : ℕ) (m a : EReal) : Prop :=
  (n = 0 ∧ m = ⊥ ∧ a = 0) ∨ ∃ μ : ℝ, m = (μ : EReal) ∧ a = ((Real.exp (-μ) : ℝ) : EReal) * wsum S V n

/-- A real factor distributes over a sum of two extended reals when it is not negative. -/
theorem coe_mul_add {r : ℝ} (hr : 0 ≤ r) (x y : EReal) : (r : EReal) * (x + y) = r * x + r * y :=
  EReal.left_distrib_of_nonneg_of_ne_top (by exact_mod_cast hr) (EReal.coe_ne_top r) x y

/-- The same over a finite sum. -/
theorem coe_mul_sum {ι : Type} {r : ℝ} (hr : 0 ≤ r) (s : Finset ι) (f : ι → EReal) :
    (r : EReal) * ∑ i ∈ s, f i = ∑ i ∈ s, (r : EReal) * f i := by
  classical
  induction s using Finset.induction_on with
  | empty => simp
  | insert a s ha ih => rw [sum_insert ha, sum_insert ha, coe_mul_add hr, ih]

/-- Shifting a score by a real `μ` multiplies its exponential by `exp (-μ)`. -/
theorem exp_sub_coe {x : EReal} (hx : x ≠ ⊤) (μ : ℝ) :
    Ideal.exp (x - (μ : EReal)) = ((Real.exp (-μ) : ℝ) : EReal) * Ideal.exp x := by
  induction x with
  | bot => simp
  | top => exact absurd rfl hx
  | coe x =>
    rw [← EReal.coe_sub, Ideal.exp_coe, Ideal.exp_coe, ← EReal.coe_mul, ← Real.exp_add]
    congr 2; ring

/-- The exponential of a score that is not `⊤` is a real that is not negative. -/
theorem exp_real {x : EReal} (hx : x ≠ ⊤) : ∃ r : ℝ, 0 ≤ r ∧ Ideal.exp x = (r : EReal) := by
  induction x with
  | bot => exact ⟨0, le_rfl, by simp⟩
  | top => exact absurd rfl hx
  | coe x => exact ⟨Real.exp x, (Real.exp_pos x).le, rfl⟩

/-- The fold of the maximum from `⊥` is an upper bound. -/
theorem le_fold_max {ι : Type} [Fintype ι] (f : ι → EReal) (b : EReal) (i : ι) : f i ≤ (univ : Finset ι).fold max b f :=
  (Finset.le_fold_max (f i)).2 (Or.inr ⟨i, mem_univ i, le_rfl⟩)

/-- The fold of the maximum over terms that are not `⊤` is not `⊤`. -/
theorem fold_max_ne_top {ι : Type} (s : Finset ι) (f : ι → EReal) (b : EReal) (hb : b ≠ ⊤) (hf : ∀ i ∈ s, f i ≠ ⊤) :
    s.fold max b f ≠ ⊤ := by
  refine ne_of_lt ((fold_max_lt ⊤).2 ⟨lt_top_iff_ne_top.2 hb, fun i hi => lt_top_iff_ne_top.2 (hf i hi)⟩)

/-- An extended real that is neither infinity is a real. -/
theorem exists_real {x : EReal} (h1 : x ≠ ⊤) (h2 : x ≠ ⊥) : ∃ r : ℝ, x = (r : EReal) :=
  ⟨x.toReal, (EReal.coe_toReal h1 h2).symm⟩

/-- The sum over `n + b` keys is the sum over `n` and the sum over the `b` that follow. -/
theorem wsum_add (S V : ℕ → EReal) (n b : ℕ) :
    wsum S V (n + b) = wsum S V n + ∑ c : Fin b, Ideal.exp (S (n + c)) * V (n + c) := by
  unfold wsum
  rw [sum_range_add, Finset.sum_range (fun x => Ideal.exp (S (n + x)) * V (n + x))]

/-- One block of the recurrence: from the state after `n` keys to the state after `n + b`. -/
theorem step {S V : ℕ → EReal} (hS : ∀ k, S k ≠ ⊤) (h0 : S 0 ≠ ⊥) {n b : ℕ} (hb : 0 < b) {m a m' : EReal}
    (h : St S V n m a) (hm : m' = max m ((univ : Finset (Fin b)).fold max ⊥ fun c : Fin b => S (n + c))) :
    St S V (n + b) m' (Ideal.exp (m - m') * a + ∑ c : Fin b, Ideal.exp (S (n + c) - m') * V (n + c)) := by
  have hfold : ((univ : Finset (Fin b)).fold max ⊥ fun c : Fin b => S (n + c)) ≠ ⊤ :=
    fold_max_ne_top _ _ _ (by simp) fun i _ => hS _
  have htop : m' ≠ ⊤ := by
    rw [hm]
    rcases h with ⟨_, h, _⟩ | ⟨μ, h, _⟩ <;> rw [h] <;>
      exact ne_of_lt (max_lt (by simp [EReal.coe_lt_top]) (lt_top_iff_ne_top.2 hfold))
  have hbot : m' ≠ ⊥ := by
    rw [hm]
    rcases h with ⟨hn, _, _⟩ | ⟨μ, h, _⟩
    · subst hn
      have h1 := Cert.Proof.FoxMath.le_fold_max (fun c : Fin b => S (0 + c)) ⊥ ⟨0, hb⟩
      have h2 : S 0 ≤ max m ((univ : Finset (Fin b)).fold max ⊥ fun c : Fin b => S (0 + c)) :=
        le_trans (by simpa using h1) (le_max_right _ _)
      exact ne_of_gt (lt_of_lt_of_le (bot_lt_iff_ne_bot.2 h0) h2)
    · rw [h]
      exact ne_of_gt (lt_of_lt_of_le (EReal.bot_lt_coe μ) (le_max_left _ _))
  obtain ⟨μ', hμ'⟩ := exists_real htop hbot
  clear hm
  subst hμ'
  refine Or.inr ⟨μ', rfl, ?_⟩
  have hp : (0 : ℝ) ≤ Real.exp (-μ') := (Real.exp_pos _).le
  rw [wsum_add, coe_mul_add hp, coe_mul_sum hp]
  congr 1
  · rcases h with ⟨hn, h1, h2⟩ | ⟨μ, h1, h2⟩
    · subst hn; rw [h2]; simp [wsum]
    · rw [h1, h2, ← mul_assoc, ← EReal.coe_sub, Ideal.exp_coe, ← EReal.coe_mul, ← Real.exp_add]
      congr 3; ring
  · refine sum_congr rfl fun c _ => ?_
    rw [exp_sub_coe (hS _), mul_assoc]

/-- The state depends on the values of the keys seen alone. -/
theorem st_congr {S V V' : ℕ → EReal} {n : ℕ} {m a : EReal} (hV : ∀ k, k < n → V k = V' k) (h : St S V n m a) : St S V' n m a := by
  have : wsum S V n = wsum S V' n := sum_congr rfl fun k hk => by rw [hV k (mem_range.1 hk)]
  unfold St at h ⊢
  rwa [this] at h

/-- Keys whose scores are `⊥` add nothing. -/
theorem wsum_extend (S V : ℕ → EReal) {n N : ℕ} (hn : n ≤ N) (hb : ∀ k, n ≤ k → S k = ⊥) : wsum S V N = wsum S V n := by
  obtain ⟨d, rfl⟩ := Nat.exists_eq_add_of_le hn
  rw [wsum_add, sum_eq_zero, add_zero]
  intro c _
  rw [hb _ (Nat.le_add_right n c)]
  simp

/-- The plain sum of the exponentials over one or more keys is a positive real. -/
theorem wsum_one_real {S : ℕ → EReal} (hS : ∀ k, S k ≠ ⊤) (h0 : S 0 ≠ ⊥) {n : ℕ} (hn : 0 < n) :
    ∃ r : ℝ, 0 < r ∧ wsum S (fun _ => 1) n = (r : EReal) := by
  choose E hE0 hE using fun k => exp_real (hS k)
  obtain ⟨s, hs⟩ := exists_real (hS 0) h0
  refine ⟨∑ k ∈ range n, E k, ?_, ?_⟩
  · refine sum_pos' (fun k _ => hE0 k) ⟨0, mem_range.2 hn, ?_⟩
    have h := hE 0
    rw [hs, Ideal.exp_coe] at h
    rw [← EReal.coe_eq_coe_iff.1 h]
    exact Real.exp_pos s
  · unfold wsum
    have hc : ∀ s : Finset ℕ, ((∑ k ∈ s, E k : ℝ) : EReal) = ∑ k ∈ s, (E k : EReal) := fun s => by
      classical
      induction s using Finset.induction_on with
      | empty => simp
      | insert a s ha ih => rw [sum_insert ha, sum_insert ha, EReal.coe_add, ih]
    rw [hc]
    exact sum_congr rfl fun k _ => by rw [hE, mul_one]

/-- Where the row has seen its first `n` keys and all further scores are `⊥`, the quotient of the two states is the softmax
    over all `N` keys, shifted by any real `M`, applied to the values. -/
theorem quotient {S V : ℕ → EReal} (hS : ∀ k, S k ≠ ⊤) (h0 : S 0 ≠ ⊥) {n N : ℕ} (hn : 0 < n) (hN : n ≤ N)
    (hb : ∀ k, n ≤ k → S k = ⊥) {m a l : EReal} (ha : St S V n m a) (hl : St S (fun _ => 1) n m l) (M : ℝ) :
    Ideal.div a l = ∑ k : Fin N, Ideal.div (Ideal.exp (S k - M)) (∑ j : Fin N, Ideal.exp (S j - M)) * V k := by
  obtain ⟨L, hL, hLe⟩ := wsum_one_real hS h0 hn
  rcases ha with ⟨h, _⟩ | ⟨μ, hm, ha⟩
  · omega
  rcases hl with ⟨h, _⟩ | ⟨μ2, hm2, hl⟩
  · omega
  have hμ : μ2 = μ := EReal.coe_eq_coe_iff.1 (hm2.symm.trans hm)
  subst hμ
  have hZ : (∑ j : Fin N, Ideal.exp (S j - M)) = ((Real.exp (-M) * L : ℝ) : EReal) := by
    rw [EReal.coe_mul, ← hLe, ← wsum_extend S (fun _ => 1) hN hb, wsum, coe_mul_sum (Real.exp_pos _).le, Finset.sum_range]
    exact sum_congr rfl fun k _ => by rw [exp_sub_coe (hS _), mul_one]
  have hne : Real.exp (-M) * L ≠ 0 := (mul_pos (Real.exp_pos _) hL).ne'
  have hne2 : Real.exp (-μ2) * L ≠ 0 := (mul_pos (Real.exp_pos _) hL).ne'
  have hI : (0 : ℝ) ≤ 1 / L := (one_div_pos.2 hL).le
  rw [hZ, ha, hl, hLe, ← EReal.coe_mul, Ideal.div_coe hne2]
  have hterm : ∀ k : Fin N, Ideal.div (Ideal.exp (S k - M)) ((Real.exp (-M) * L : ℝ) : EReal) * V k
      = ((1 / L : ℝ) : EReal) * (Ideal.exp (S k) * V k) := by
    intro k
    obtain ⟨e, _, he⟩ := exp_real (hS k)
    rw [Ideal.div_coe hne, exp_sub_coe (hS _), he, ← mul_assoc, ← EReal.coe_mul, ← EReal.coe_mul, ← EReal.coe_mul]
    congr 2
    field_simp
  rw [sum_congr rfl fun k _ => hterm k, ← coe_mul_sum hI, ← Finset.sum_range (fun k => Ideal.exp (S k) * V k)]
  have : (∑ k ∈ range N, Ideal.exp (S k) * V k) = wsum S V n := wsum_extend S V hN hb
  rw [this, mul_comm, ← mul_assoc, ← EReal.coe_mul]
  congr 2
  field_simp

/-- A maximum taken along axes of an array from `⊥`: a real at every result index where no element of the array is `⊤`
    and some element that drops to the index is not `⊥`. -/
theorem reduce_max_real {s t u : Shape} {axes : List (Fin s.rank)} (x : s.Idx → EReal) (init : u.Idx → EReal)
    (h : s.ReducesTo axes t) (hu : 0 < u.numel) (j : t.Idx) (hi : init (Shape.Idx.first hu) = ⊥) (hx : ∀ i, x i ≠ ⊤)
    (i : s.Idx) (hd : h.drop i = j) (hne : x i ≠ ⊥) : ∃ r : ℝ, Host.reduce max x init h hu j = (r : EReal) := by
  rw [Host.reduce_eq_fold, hi]
  refine exists_real (fold_max_ne_top _ _ _ (by simp) fun i _ => hx i) (ne_of_gt ?_)
  refine lt_of_lt_of_le (bot_lt_iff_ne_bot.2 hne) ?_
  exact (Finset.le_fold_max (x i)).2 (Or.inr ⟨i, by simp [hd], le_rfl⟩)

end Cert.Proof.FoxMath

end
-- ==== Proof.FoxRef.lean ====
/-
  The forgetting attention's reference, read at one result element, and what the layout of its arguments says: the score of
  a query row and a key is the plain product of their 128 lanes, every score is a real, and the reference's result is the
  softmax of the causal scores with a real shift, applied to the values.
-/
module

public import proofs.«01_k».proof.Defs
public import proofs.«01_k».proof.Proof.Gen.ReferenceIdeal.Read
public import proofs.«01_k».proof.Proof.FoxMath
public import Idealize.ShloMosaic.Lib.Pointwise

@[expose] public section

noncomputable section

namespace Cert.Proof.Fox

open Idealize.ShloMosaic Idealize.ShloMosaic.TcCoe Idealize.SL.Sem
open Cert.ReferenceIdeal Cert.ReferenceIdeal.Read

/-- The contents of one of the call's three arguments: 4 heads, 16384 rows, 128 lanes. -/
abbrev Arr : Type := (⟨3, ![4, 16384, 128]⟩ : Shape).Idx → EReal

/-- What the precondition says of the three arguments, element by element. -/
structure Layout (q k v : Arr) : Prop where
  qreal : ∀ i, ∃ a : ℝ, q i = (a : EReal)
  kreal : ∀ i, ∃ a : ℝ, k i = (a : EReal)
  qone : ∀ (h : Fin 4) (r : Fin 16384) (x : Fin 128), 67 ≤ x.val → x.val ≤ 69 → q (ix3 h r x) = 1
  qzero : ∀ (h : Fin 4) (r : Fin 16384) (x : Fin 128), 70 ≤ x.val → q (ix3 h r x) = 0
  kone : ∀ (h : Fin 4) (r : Fin 16384) (x : Fin 128), 64 ≤ x.val → x.val ≤ 66 → k (ix3 h r x) = 1
  kneg : ∀ (h : Fin 4) (r : Fin 16384) (x : Fin 3),
    k (ix3 h r (⟨67 + x.val, by omega⟩ : Fin 128)) = -q (ix3 h r (⟨64 + x.val, by omega⟩ : Fin 128))
  vone : ∀ (h : Fin 4) (r : Fin 16384), v (ix3 h r (64 : Fin 128)) = 1

/-- The product of two rows over the 128 lanes. -/
def dot (a b : Fin 128 → EReal) : EReal := ∑ x, a x * b x

/-- The score of query row `r` of head `h` and key `j`: the lanes' product where the key is not past the row, else `⊥`. -/
def score (q k : Arr) (h : Fin 4) (r : Fin 16384) (j : ℕ) : EReal :=
  if hj : j ≤ r.val then dot (fun x => q (ix3 h r x)) (fun x => k (ix3 h (⟨j, lt_of_le_of_lt hj r.isLt⟩ : Fin 16384) x)) else ⊥

/-- Lane `d` of key `j`'s value, and zero past the last key. -/
def vlane (v : Arr) (h : Fin 4) (d : Fin 128) (j : ℕ) : EReal :=
  if hj : j < 16384 then v (ix3 h (⟨j, hj⟩ : Fin 16384) d) else 0

/-- The sum of the three lanes that hold a row's decay. -/
def decay3 (a b c : EReal) : EReal := a + b + c

/-- The product of two rows over the first 64 lanes. -/
def dot64 (a b : Fin 64 → EReal) : EReal := ∑ x, a x * b x

/-- A score before the mask: the 64 lanes' product plus the difference of the two decays. -/
def plain (s a b : EReal) : EReal := s + a - b

section Reads

variable (q k v : (⟨S4x16384x128, .bf16⟩ : BufTy).Contents (Elt Ideal)) (h : Fin 4) (r : Fin 16384)

theorem read_v10 : val_main_v10 q (ix2 h r) = decay3 (q (ix3 h r (64 : Fin 128))) (q (ix3 h r (65 : Fin 128))) (q (ix3 h r (66 : Fin 128))) := by
  unfold val_main_v10 val_main_v9 val_main_v8 val_main_v7 val_main_v6 val_main_v5 val_main_v4 val_main_v3 val_main_v0 decay3
  pointwise

theorem read_v13 (x : Fin 16384) : val_main_v13 q k (ix3 h r x)
    = dot64 (fun d => q (ix3 h r (⟨d.val, by omega⟩ : Fin 128))) (fun d => k (ix3 h x (⟨d.val, by omega⟩ : Fin 128))) := by
  unfold val_main_v13 val_main_v12 val_main_v11 val_main_v1 val_main_v0 dot64
  pointwise

/-- The masking constant is `⊥`. -/
theorem ofBits_neg_inf : Ideal.ofBits .f32 0xFF800000#32 = ⊥ := by
  simp [Ideal.ofBits, Ideal.ieee]

/-- The signed comparison of two row numbers below 16384 is the comparison of the numbers. -/
theorem sle_iff {a b : ℕ} (ha : a < 16384) (hb : b < 16384) :
    IntOp.cmpi .sle (BitVec.ofNat 32 a) (BitVec.ofNat 32 b) = if a ≤ b then 1#1 else 0#1 := by
  have h1 : (BitVec.ofNat 32 a).toInt = a := by
    rw [BitVec.toInt_eq_toNat_cond, BitVec.toNat_ofNat, Nat.mod_eq_of_lt (by omega), if_pos (by omega)]
  have h2 : (BitVec.ofNat 32 b).toInt = b := by
    rw [BitVec.toInt_eq_toNat_cond, BitVec.toNat_ofNat, Nat.mod_eq_of_lt (by omega), if_pos (by omega)]
  simp only [IntOp.cmpi, BitVec.sle, h1, h2]
  by_cases hab : a ≤ b <;> simp [hab]

theorem read_v26 (x : Fin 16384) : val_main_v26 q k (ix3 h r x)
    = if x.val ≤ r.val then plain (val_main_v13 q k (ix3 h r x)) (val_main_v10 q (ix2 h r)) (val_main_v10 q (ix2 h x)) else ⊥ := by
  unfold val_main_v26 val_main_call0_v2 val_main_call0_v1 val_main_call0_v0 val_main_v25 val_main_v24 val_main_v23 val_main_v22 val_main_v21 val_main_v20 val_main_v19 val_main_v18 val_main_v17 val_main_v16 val_main_v15 val_main_v14 val_main_cst plain
  pointwise
  rw [sle_iff x.isLt r.isLt]
  have : constant (F := Ideal) S_ .f32 0xFF800000#32 ix0 = ⊥ := ofBits_neg_inf
  split_ifs with hx
  · rfl
  · exact this

theorem read_v33 (x : Fin 16384) : val_main_v33 q k (ix3 h r x)
    = Ideal.exp (val_main_v26 q k (ix3 h r x) - val_main_v29 q k (ix2 h r)) := by
  unfold val_main_v33 val_main_v32 val_main_v31 val_main_v30
  pointwise

theorem read_v37 (x : Fin 16384) : val_main_v37 q k (ix3 h r x)
    = Ideal.div (val_main_v33 q k (ix3 h r x)) (∑ y : Fin 16384, val_main_v33 q k (ix3 h r y)) := by
  unfold val_main_v37 val_main_v36 val_main_v35 val_main_v34 val_main_cst_2
  pointwise

theorem read_v39 (d : Fin 128) : val_main_v39 q k v (ix3 h r d)
    = ∑ x : Fin 16384, (val_main_v37 q k (ix3 h r x) : EReal) * v (ix3 h x d) := by
  unfold val_main_v39 val_main_v38 val_main_v2
  pointwise

end Reads

section Scores

variable {q k v : Arr}

/-- Sums and one difference of reals, rearranged. -/
theorem rearrange (s : EReal) {a b c x y z : EReal} (hx : ∃ t : ℝ, x = t) (hy : ∃ t : ℝ, y = t) (hz : ∃ t : ℝ, z = t) :
    plain s (decay3 a b c) (decay3 x y z) = s + (a + b + c + -x + -y + -z) := by
  obtain ⟨x, rfl⟩ := hx
  obtain ⟨y, rfl⟩ := hy
  obtain ⟨z, rfl⟩ := hz
  unfold plain decay3
  rw [← EReal.coe_add, ← EReal.coe_add, sub_eq_add_neg, ← EReal.coe_neg, ← EReal.coe_neg, ← EReal.coe_neg, ← EReal.coe_neg,
    add_assoc (a + b + c), add_assoc (a + b + c), ← EReal.coe_add, ← EReal.coe_add, add_assoc s]
  congr 3
  ring

/-- The lanes' product of a query row and a key: the first 64 lanes give the plain product, lanes 64 to 66 the row's decay,
    lanes 67 to 69 the key's, negated, and the rest nothing. -/
theorem plain_eq_dot (L : Layout q k v) (h : Fin 4) (r x : Fin 16384) :
    plain (dot64 (fun d => q (ix3 h r (⟨d.val, by omega⟩ : Fin 128))) (fun d => k (ix3 h x (⟨d.val, by omega⟩ : Fin 128))))
      (decay3 (q (ix3 h r (64 : Fin 128))) (q (ix3 h r (65 : Fin 128))) (q (ix3 h r (66 : Fin 128))))
      (decay3 (q (ix3 h x (64 : Fin 128))) (q (ix3 h x (65 : Fin 128))) (q (ix3 h x (66 : Fin 128))))
      = dot (fun d => q (ix3 h r d)) (fun d => k (ix3 h x d)) := by
  rw [rearrange _ (L.qreal _) (L.qreal _) (L.qreal _)]
  unfold dot dot64
  rw [Fin.sum_univ_add (a := 64) (b := 64) (fun d : Fin 128 => q (ix3 h r d) * k (ix3 h x d)),
    Fin.sum_univ_add (a := 6) (b := 58) (fun d : Fin 64 => q (ix3 h r (Fin.natAdd 64 d : Fin 128)) * k (ix3 h x (Fin.natAdd 64 d : Fin 128))),
    Fin.sum_univ_six]
  have hrest : ∑ d : Fin 58, q (ix3 h r (Fin.natAdd 64 (Fin.natAdd 6 d) : Fin 128)) * k (ix3 h x (Fin.natAdd 64 (Fin.natAdd 6 d) : Fin 128)) = 0 := by
    refine Finset.sum_eq_zero fun d _ => ?_
    rw [L.qzero h r _ (by simp only [Fin.val_natAdd]; omega), zero_mul]
  rw [hrest, add_zero]
  have e0 : k (ix3 h x (64 : Fin 128)) = 1 := L.kone h x _ (by decide) (by decide)
  have e1 : k (ix3 h x (65 : Fin 128)) = 1 := L.kone h x _ (by decide) (by decide)
  have e2 : k (ix3 h x (66 : Fin 128)) = 1 := L.kone h x _ (by decide) (by decide)
  have f3 : q (ix3 h r (67 : Fin 128)) = 1 := L.qone h r _ (by decide) (by decide)
  have f4 : q (ix3 h r (68 : Fin 128)) = 1 := L.qone h r _ (by decide) (by decide)
  have f5 : q (ix3 h r (69 : Fin 128)) = 1 := L.qone h r _ (by decide) (by decide)
  have g3 : k (ix3 h x (67 : Fin 128)) = -q (ix3 h x (64 : Fin 128)) := L.kneg h x 0
  have g4 : k (ix3 h x (68 : Fin 128)) = -q (ix3 h x (65 : Fin 128)) := L.kneg h x 1
  have g5 : k (ix3 h x (69 : Fin 128)) = -q (ix3 h x (66 : Fin 128)) := L.kneg h x 2
  show _ = _ + (q (ix3 h r (64 : Fin 128)) * k (ix3 h x (64 : Fin 128)) + q (ix3 h r (65 : Fin 128)) * k (ix3 h x (65 : Fin 128))
    + q (ix3 h r (66 : Fin 128)) * k (ix3 h x (66 : Fin 128)) + q (ix3 h r (67 : Fin 128)) * k (ix3 h x (67 : Fin 128))
    + q (ix3 h r (68 : Fin 128)) * k (ix3 h x (68 : Fin 128)) + q (ix3 h r (69 : Fin 128)) * k (ix3 h x (69 : Fin 128)))
  rw [e0, e1, e2, f3, f4, f5, g3, g4, g5, mul_one, mul_one, mul_one, one_mul, one_mul, one_mul]
  rfl

/-- A sum of products of reals is a real. -/
theorem dot_real {a b : Fin 128 → EReal} (ha : ∀ x, ∃ t : ℝ, a x = t) (hb : ∀ x, ∃ t : ℝ, b x = t) : ∃ t : ℝ, dot a b = t := by
  choose a' ha using ha
  choose b' hb using hb
  unfold dot
  simp only [ha, hb, ← EReal.coe_mul]
  have : ∀ s : Finset (Fin 128), ∃ t : ℝ, ∑ x ∈ s, ((a' x * b' x : ℝ) : EReal) = t := fun s => by
    induction s using Finset.induction_on with
    | empty => exact ⟨0, by simp⟩
    | insert i s hi ih =>
      obtain ⟨t, ht⟩ := ih
      exact ⟨a' i * b' i + t, by rw [Finset.sum_insert hi, ht, EReal.coe_add]⟩
  exact this _

/-- No score is `⊤`. -/
theorem score_ne_top (L : Layout q k v) (h : Fin 4) (r : Fin 16384) (j : ℕ) : score q k h r j ≠ ⊤ := by
  unfold score
  split_ifs with hj
  · obtain ⟨t, ht⟩ := dot_real (fun x => L.qreal (ix3 h r x)) (fun x => L.kreal (ix3 h (⟨j, lt_of_le_of_lt hj r.isLt⟩ : Fin 16384) x))
    rw [ht]; exact EReal.coe_ne_top t
  · simp

/-- The first key's score is a real: every row sees it. -/
theorem score_zero_ne_bot (L : Layout q k v) (h : Fin 4) (r : Fin 16384) : score q k h r 0 ≠ ⊥ := by
  unfold score
  rw [dif_pos (Nat.zero_le _)]
  obtain ⟨t, ht⟩ := dot_real (fun x => L.qreal (ix3 h r x)) (fun x => L.kreal (ix3 h (⟨0, by omega⟩ : Fin 16384) x))
  exact fun hh => EReal.coe_ne_bot t (ht.symm.trans hh)

/-- A key past the row has the score `⊥`. -/
theorem score_past (h : Fin 4) (r : Fin 16384) (j : ℕ) (hj : r.val < j) : score q k h r j = ⊥ := by
  unfold score; rw [dif_neg (by omega)]

/-- The reference's masked score is the kernel's. -/
theorem v26_eq_score (L : Layout q k v) (h : Fin 4) (r x : Fin 16384) : val_main_v26 (F := Ideal) q k (ix3 h r x) = score q k h r x.val := by
  rw [read_v26, read_v13, read_v10, read_v10, plain_eq_dot L]
  unfold score
  rfl

/-- The reference's row maximum is a real. -/
theorem v29_real (L : Layout q k v) (h : Fin 4) (r : Fin 16384) : ∃ M : ℝ, val_main_v29 (F := Ideal) q k (ix2 h r) = (M : EReal) := by
  have h27 : ∃ M : ℝ, val_main_v27 (F := Ideal) q k (ix2 h r) = (M : EReal) := by
    unfold val_main_v27
    refine FoxMath.reduce_max_real (val_main_v26 (F := Ideal) q k) _ _ _ (ix2 h r) ofBits_neg_inf ?_ (ix3 h r (0 : Fin 16384)) ?_ ?_
    · intro i
      have hi : i = ix3 (i 0 : Fin 4) (i 1 : Fin 16384) (i 2 : Fin 16384) := eq_ix3 i
      rw [hi]
      exact fun hh => score_ne_top L (i 0 : Fin 4) (i 1 : Fin 16384) (i 2 : Fin 16384).val ((v26_eq_score L _ _ _).symm.trans hh)
    · funext b
      apply Fin.ext
      match b with
      | ⟨0, _⟩ => rfl
      | ⟨1, _⟩ => rfl
    · rw [v26_eq_score L]
      exact score_zero_ne_bot L h r
  obtain ⟨M, hM⟩ := h27
  refine ⟨M, ?_⟩
  rw [val_main_v29_apply, hM, val_main_v28_apply, val_main_cst_1_apply]
  show max (Ideal.ofBits .f32 0xFF800000#32) (M : EReal) = M
  rw [ofBits_neg_inf]
  exact max_eq_right bot_le

/-- The reference's result at one element: the softmax of the row's scores, with a real shift, applied to the values. -/
theorem ref_apply (L : Layout q k v) (h : Fin 4) (r : Fin 16384) (d : Fin 128) : ∃ M : ℝ, val_main_v39 (F := Ideal) q k v (ix3 h r d)
    = ∑ x : Fin 16384, Ideal.div (Ideal.exp (score q k h r x.val - M)) (∑ y : Fin 16384, Ideal.exp (score q k h r y.val - M))
        * vlane v h d x.val := by
  obtain ⟨M, hM⟩ := v29_real L h r
  refine ⟨M, ?_⟩
  rw [read_v39]
  refine Finset.sum_congr rfl fun x _ => ?_
  have h33 : ∀ y : Fin 16384, val_main_v33 (F := Ideal) q k (ix3 h r y) = Ideal.exp (score q k h r y.val - M) := fun y => by
    rw [read_v33, hM, v26_eq_score L]
  rw [read_v37, h33, Finset.sum_congr rfl fun y _ => h33 y]
  unfold vlane
  rw [dif_pos x.isLt]

end Scores

end Cert.Proof.Fox

end
-- ==== Proof.FoxPre.lean ====
/-
  The precondition of the forgetting attention, read element by element: each of its seven predicates is all ones, which says
  of the three argument arrays what `Layout` states.
-/
module

public import proofs.«01_k».proof.Defs
public import proofs.«01_k».proof.Proof.Gen.Pre_fox_layout
public import proofs.«01_k».proof.Proof.FoxRef
public import Idealize.ShloMosaic.Lib.Pointwise

@[expose] public section

noncomputable section

namespace Cert.Proof.FoxPre

open Idealize.ShloMosaic Idealize.ShloMosaic.TcCoe Idealize.SL.Sem
open Cert.Pre_fox_layout

/-- A one-bit `or` is set where one of its operands is. -/
theorem ori_one : ∀ a b : BitVec 1, IntOp.ori a b = 1#1 → a = 1#1 ∨ b = 1#1 := by decide

/-- A one-bit truth value that is set holds. -/
theorem of_bit {p : Prop} [Decidable p] (h : BitVec.ofBool (decide p) = 1#1) : p := by
  by_contra hp
  simp [hp] at h

theorem slt67 : ∀ x : Fin 128, IntOp.cmpi .slt (BitVec.ofNat 32 x.val) 67#32 = 1#1 → x.val < 67 := by decide
theorem sgt69 : ∀ x : Fin 128, IntOp.cmpi .sgt (BitVec.ofNat 32 x.val) 69#32 = 1#1 → 69 < x.val := by decide
theorem slt70 : ∀ x : Fin 128, IntOp.cmpi .slt (BitVec.ofNat 32 x.val) 70#32 = 1#1 → x.val < 70 := by decide
theorem slt64 : ∀ x : Fin 128, IntOp.cmpi .slt (BitVec.ofNat 32 x.val) 64#32 = 1#1 → x.val < 64 := by decide
theorem sgt66 : ∀ x : Fin 128, IntOp.cmpi .sgt (BitVec.ofNat 32 x.val) 66#32 = 1#1 → 66 < x.val := by decide
theorem ne64 : ∀ x : Fin 128, IntOp.cmpi .ne (BitVec.ofNat 32 x.val) 64#32 = 1#1 → x.val ≠ 64 := by decide

/-- The word of plus infinity is `⊤`. -/
theorem ofBits_inf : Ideal.ofBits .f32 0x7F800000#32 = ⊤ := by
  simp [Ideal.ofBits, Ideal.ieee]

/-- A value whose absolute value is below `⊤` is a real. -/
theorem real_of_abs {x : EReal} (h : max x (-x) < ⊤) : ∃ a : ℝ, x = (a : EReal) := by
  refine FoxMath.exists_real ?_ ?_
  · rintro rfl; simp at h
  · rintro rfl; simp at h

variable {q k v : FVec Ideal S4x16384x128 .bf16}

theorem abs_q (H : (fn (F := Ideal) q k v).1 = fun _ => 1#1) (h : Fin 4) (r : Fin 16384) (x : Fin 128) :
    ∃ a : ℝ, (q (ix3 h r x) : EReal) = (a : EReal) := by
  have h1 := congrFun H (ix3 h r x)
  unfold fn fn_part1 fn_part2 at h1
  dsimp only at h1
  pointwise at h1
  have h2 := of_bit h1
  rw [ofBits_inf] at h2
  exact real_of_abs h2

theorem abs_k (H : (fn (F := Ideal) q k v).2.1 = fun _ => 1#1) (h : Fin 4) (r : Fin 16384) (x : Fin 128) :
    ∃ a : ℝ, (k (ix3 h r x) : EReal) = (a : EReal) := by
  have h1 := congrFun H (ix3 h r x)
  unfold fn fn_part1 fn_part2 at h1
  dsimp only at h1
  pointwise at h1
  have h2 := of_bit h1
  rw [ofBits_inf] at h2
  exact real_of_abs h2

theorem one_q (H : (fn (F := Ideal) q k v).2.2.1 = fun _ => 1#1) (h : Fin 4) (r : Fin 16384) (x : Fin 128) (h1 : 67 ≤ x.val)
    (h2 : x.val ≤ 69) : q (ix3 h r x) = (1 : EReal) := by
  have hh := congrFun H (ix3 h r x)
  unfold fn fn_part1 fn_part2 at hh
  dsimp only at hh
  pointwise at hh
  rcases ori_one _ _ hh with hh | hh
  · rcases ori_one _ _ hh with hh | hh
    · have := slt67 x hh; omega
    · have := sgt69 x hh; omega
  · exact of_bit hh

theorem zero_q (H : (fn (F := Ideal) q k v).2.2.2.1 = fun _ => 1#1) (h : Fin 4) (r : Fin 16384) (x : Fin 128) (h1 : 70 ≤ x.val) :
    q (ix3 h r x) = (0 : EReal) := by
  have hh := congrFun H (ix3 h r x)
  unfold fn fn_part1 fn_part2 at hh
  dsimp only at hh
  pointwise at hh
  rcases ori_one _ _ hh with hh | hh
  · have := slt70 x hh; omega
  · exact of_bit hh

theorem one_k (H : (fn (F := Ideal) q k v).2.2.2.2.1 = fun _ => 1#1) (h : Fin 4) (r : Fin 16384) (x : Fin 128) (h1 : 64 ≤ x.val)
    (h2 : x.val ≤ 66) : k (ix3 h r x) = (1 : EReal) := by
  have hh := congrFun H (ix3 h r x)
  unfold fn fn_part1 fn_part2 at hh
  dsimp only at hh
  pointwise at hh
  rcases ori_one _ _ hh with hh | hh
  · rcases ori_one _ _ hh with hh | hh
    · have := slt64 x hh; omega
    · have := sgt66 x hh; omega
  · exact of_bit hh

theorem neg_k (H : (fn (F := Ideal) q k v).2.2.2.2.2.1 = fun _ => 1#1) (h : Fin 4) (r : Fin 16384) (x : Fin 3) :
    (k (ix3 h r (⟨67 + x.val, by omega⟩ : Fin 128)) : EReal) = -(q (ix3 h r (⟨64 + x.val, by omega⟩ : Fin 128)) : EReal) := by
  have hh := congrFun H (ix3 h r x)
  unfold fn fn_part1 fn_part2 at hh
  dsimp only at hh
  pointwise at hh
  exact of_bit hh

theorem one_v (H : (fn (F := Ideal) q k v).2.2.2.2.2.2 = fun _ => 1#1) (h : Fin 4) (r : Fin 16384) :
    v (ix3 h r (64 : Fin 128)) = (1 : EReal) := by
  have hh := congrFun H (ix3 h r (64 : Fin 128))
  unfold fn fn_part1 fn_part2 at hh
  dsimp only at hh
  pointwise at hh
  rcases ori_one _ _ hh with hh | hh
  · exact absurd rfl (ne64 64 hh)
  · exact of_bit hh

/-- The seven predicates together are the layout. -/
theorem layout (H : (fn (F := Ideal) q k v).1 = (fun _ => 1#1) ∧ (fn (F := Ideal) q k v).2.1 = (fun _ => 1#1)
    ∧ (fn (F := Ideal) q k v).2.2.1 = (fun _ => 1#1) ∧ (fn (F := Ideal) q k v).2.2.2.1 = (fun _ => 1#1)
    ∧ (fn (F := Ideal) q k v).2.2.2.2.1 = (fun _ => 1#1) ∧ (fn (F := Ideal) q k v).2.2.2.2.2.1 = (fun _ => 1#1)
    ∧ (fn (F := Ideal) q k v).2.2.2.2.2.2 = (fun _ => 1#1)) : Fox.Layout q k v := by
  obtain ⟨h1, h2, h3, h4, h5, h6, h7⟩ := H
  refine ⟨fun i => ?_, fun i => ?_, one_q h3, zero_q h4, one_k h5, neg_k h6, one_v h7⟩
  · rw [eq_ix3 i]; exact abs_q h1 (i 0) (i 1) (i 2)
  · rw [eq_ix3 i]; exact abs_k h2 (i 0) (i 1) (i 2)

end Cert.Proof.FoxPre

end
-- ==== Proof.FoxBlock.lean ====
/-
  The forgetting attention's kernel at one grid point: head `h`, query rows `512 n .. 512 n + 511`. The body runs the
  streaming softmax over the `n` key blocks before the rows' own and then over that block under the causal mask; its state
  after each is the one `FoxMath.St` describes, and what it stores is the quotient of a lane's state by lane 64's.
-/
module

public import proofs.«01_k».proof.Defs
public import proofs.«01_k».proof.Proof.Gen.KernelIdeal.Value
public import proofs.«01_k».proof.Proof.FoxRef
public import Idealize.ShloMosaic.Lib.Pointwise
public import Idealize.ShloMosaic.Lib.Pipeline.ValueKit

@[expose] public section

noncomputable section

namespace Cert.Proof.FoxBlock

open Idealize.ShloMosaic Idealize.ShloMosaic.TcCoe Idealize.SL.Sem
open Cert.KernelIdeal Cert.KernelIdeal.Gen
open Cert.Proof.Fox (Arr Layout dot score vlane)
open Cert.Proof.FoxMath (St)

/-! ## The payloads at one element -/

/-- The old maximum against the largest of a block's scores. -/
def mx (a : EReal) (s : Fin 512 → EReal) : EReal := max a ((Finset.univ : Finset (Fin 512)).fold max ⊥ s)

/-- A lane's sum rescaled from maximum `a` to `a'`, with a block's weighted values added. -/
def upd (a a' b : EReal) (s v : Fin 512 → EReal) : EReal := Ideal.exp (a - a') * b + ∑ x, Ideal.exp (s x - a') * v x

section Payloads

variable (v0 kb vb : Vec Ideal S1x512x128 .bf16) (a : FVec Ideal S512x1 .f32) (b : FVec Ideal S512x128 .f32) (r : Fin 512) (d : Fin 128)

/-- A query row against the keys of a block. -/
def sc (x : Fin 512) : EReal := dot (fun d => v0 (ix3 (0 : Fin 1) r d)) (fun d => kb (ix3 (0 : Fin 1) x d))

/-- The same under the causal mask within the block. -/
def scm (x : Fin 512) : EReal := if x.val ≤ r.val then sc v0 kb r x else ⊥

theorem pay3_apply : (k0_pay3 (F := Ideal)) (ix2 r (0 : Fin 1)) = (⊥ : EReal) := by
  unfold k0_pay3
  pointwise
  exact Fox.ofBits_neg_inf

theorem pay4_apply : (k0_pay4 (F := Ideal)) (ix2 r d) = (0 : EReal) := by
  unfold k0_pay4
  pointwise

theorem pay6_apply : k0_pay6 v0 a kb (ix2 r (0 : Fin 1)) = mx (a (ix2 r (0 : Fin 1))) (sc v0 kb r) := by
  pointwise [k0_pay6, k0_pay5, k0_pay2]
  rw [Fox.ofBits_neg_inf]
  rfl

theorem pay7_apply : k0_pay7 v0 a b kb vb (ix2 r d)
    = upd (a (ix2 r (0 : Fin 1))) (mx (a (ix2 r (0 : Fin 1))) (sc v0 kb r)) (b (ix2 r d)) (sc v0 kb r) (fun x => vb (ix3 (0 : Fin 1) x d)) := by
  unfold k0_pay7
  generalize hm : k0_pay6 v0 a kb = m6
  have h6 : m6 (ix2 r (0 : Fin 1)) = mx (a (ix2 r (0 : Fin 1))) (sc v0 kb r) := by rw [← hm]; exact pay6_apply v0 kb a r
  pointwise [k0_pay5, k0_pay2]
  rw [h6]
  rfl

theorem pay11_apply : k0_pay11 v0 a b kb vb (ix2 r d)
    = upd (a (ix2 r (0 : Fin 1))) (mx (a (ix2 r (0 : Fin 1))) (scm v0 kb r)) (b (ix2 r d)) (scm v0 kb r) (fun x => vb (ix3 (0 : Fin 1) x d)) := by
  pointwise [k0_pay11, k0_pay5, k0_pay2]
  rw [Fox.ofBits_neg_inf]
  have hs : ∀ x : Fin 512, Scalar.select (IntOp.cmpi .sle (BitVec.ofNat 32 x.val) (BitVec.ofNat 32 r.val)) (sc v0 kb r x) (⊥ : EReal)
      = scm v0 kb r x := fun x => by
    rw [Fox.sle_iff (by omega) (by omega)]
    unfold scm
    split_ifs <;> rfl
  unfold sc dot at hs
  simp only [hs]
  rfl

theorem pay1_apply (s t : FVec Ideal S512x128 .f32) : k0_pay1 s t (ix3 (0 : Fin 1) r d) = Ideal.div (s (ix2 r d)) (t (ix2 r d)) := by
  unfold k0_pay1
  pointwise

theorem pay12_apply : k0_pay12 v0 a b kb vb (ix2 r d) = k0_pay11 v0 a b kb vb (ix2 r (64 : Fin 128)) := by
  unfold k0_pay12
  generalize k0_pay11 v0 a b kb vb = s
  pointwise

end Payloads

/-! ## The loops' trip counts and the rows they load -/

theorem trips1 : ∀ n : Fin 32, Scf.trips 0#32 (Scalar.addi 0#32 (Scalar.muli (Scalar.divsi (Scalar.subi (BitVec.ofNat 32 n.val) 0#32) 1#32) 1#32)) 1#32 = n.val := by
  decide

theorem trips2 : ∀ n : Fin 32, Scf.trips (Scalar.addi 0#32 (Scalar.muli (Scalar.divsi (Scalar.subi (BitVec.ofNat 32 n.val) 0#32) 1#32) 1#32))
    (Scalar.addi 0#32 (Scalar.subi (BitVec.ofNat 32 n.val) 0#32)) 1#32 = 0 := by
  decide

theorem off_row : ∀ n : Fin 32, BitVec.toNat (Scalar.indexCast (Scalar.muli (BitVec.ofNat 32 n.val) 512#32)) = 512 * n.val := by
  decide

theorem off_iv : ∀ n : Fin 32, BitVec.toNat (Scalar.indexCast (Scalar.muli (Scf.iv 0#32 1#32 n.val) 512#32)) = 512 * n.val := by
  decide

/-- Block `n`'s rows, loaded from a head's whole array. -/
theorem ld_rows (X : Vec Ideal S1x16384x128 .bf16) (off : Fin 3 → ℕ) (inb) (n : ℕ) (hoff : off = ![0, 512 * n, 0]) (x : Fin 512)
    (d : Fin 128) (hx : 512 * n + x.val < 16384) :
    View.ld X (Rect.unit (s := S1x16384x128) off ![1, 512, 128] inb) (ix3 (0 : Fin 1) x d)
      = X (ix3 (0 : Fin 1) (⟨512 * n + x.val, hx⟩ : Fin 16384) d) := by
  subst hoff
  pointwise

/-! ## The state after each block -/

section Block

variable {q k v : Arr} (L : Layout q k v) (h : Fin 4) (n : Fin 32)
variable {x0 : Vec Ideal S1x512x128 .bf16} {x1 x2 : Vec Ideal S1x16384x128 .bf16}

/-- Row `r` of block `n`, as a row of the whole array. -/
def row (n : Fin 32) (r : Fin 512) : Fin 16384 := ⟨512 * n.val + r.val, by omega⟩

/-- What the grid point's input blocks are: query rows of block `n`, and the head's whole keys and values. -/
structure Ins (q k v : Arr) (h : Fin 4) (n : Fin 32) (x0 : Vec Ideal S1x512x128 .bf16) (x1 x2 : Vec Ideal S1x16384x128 .bf16) : Prop where
  q : ∀ (r : Fin 512) (d : Fin 128), x0 (ix3 (0 : Fin 1) r d) = q (ix3 h (row n r) d)
  k : ∀ (j : Fin 16384) (d : Fin 128), x1 (ix3 (0 : Fin 1) j d) = k (ix3 h j d)
  v : ∀ (j : Fin 16384) (d : Fin 128), x2 (ix3 (0 : Fin 1) j d) = v (ix3 h j d)

variable {h n}

/-- A block of key rows holds keys `512 j ..`. -/
def Rows (X : Arr) (h : Fin 4) (j : ℕ) (b : Vec Ideal S1x512x128 .bf16) : Prop :=
  ∀ (x : Fin 512) (d : Fin 128) (hx : 512 * j + x.val < 16384), b (ix3 (0 : Fin 1) x d) = X (ix3 h (⟨512 * j + x.val, hx⟩ : Fin 16384) d)

theorem sc_eq (I : Ins q k v h n x0 x1 x2) {j : ℕ} (hj : j < n.val) {kb : Vec Ideal S1x512x128 .bf16} (hk : Rows k h j kb) (r x : Fin 512) :
    sc x0 kb r x = score q k h (row n r) (512 * j + x.val) := by
  unfold sc score
  have h1 : 512 * j + x.val ≤ (row n r).val := by show _ ≤ 512 * n.val + r.val; omega
  rw [dif_pos h1]
  congr 1 <;> funext d
  · exact I.q r d
  · exact hk x d _

theorem scm_eq (I : Ins q k v h n x0 x1 x2) {kb : Vec Ideal S1x512x128 .bf16} (hk : Rows k h n.val kb) (r x : Fin 512) :
    scm x0 kb r x = score q k h (row n r) (512 * n.val + x.val) := by
  unfold scm score
  by_cases hx : x.val ≤ r.val
  · have h1 : 512 * n.val + x.val ≤ (row n r).val := by show _ ≤ 512 * n.val + r.val; omega
    rw [if_pos hx, dif_pos h1]
    unfold sc
    congr 1 <;> funext d
    · exact I.q r d
    · exact hk x d _
  · have h1 : ¬ 512 * n.val + x.val ≤ (row n r).val := by show ¬ _ ≤ 512 * n.val + r.val; omega
    rw [if_neg hx, dif_neg h1]

theorem vl_eq {j : ℕ} (hj : j < 32) {vb : Vec Ideal S1x512x128 .bf16} (hv : Rows v h j vb) (x : Fin 512) (d : Fin 128) :
    vb (ix3 (0 : Fin 1) x d) = vlane v h d (512 * j + x.val) := by
  unfold vlane
  rw [dif_pos (by omega)]
  exact hv x d _

/-- One block's update carries the state from the keys before it to the keys through it. -/
theorem upd_state (L : Layout q k v) {S V : ℕ → EReal} (hS : ∀ j, S j ≠ ⊤) (h0 : S 0 ≠ ⊥) {j : ℕ} {a b : EReal} {s w : Fin 512 → EReal}
    (hs : ∀ x, s x = S (512 * j + x.val)) (hw : ∀ x, w x = V (512 * j + x.val)) (hst : St S V (512 * j) a b) :
    St S V (512 * (j + 1)) (mx a s) (upd a (mx a s) b s w) := by
  have e1 : s = fun x => S (512 * j + x.val) := funext hs
  have e2 : w = fun x => V (512 * j + x.val) := funext hw
  subst e1 e2
  have := FoxMath.step (S := S) (V := V) hS h0 (n := 512 * j) (b := 512) (by omega) (m := a) (a := b) hst rfl
  rw [Nat.mul_add, Nat.mul_one]
  exact this

section Run

variable (c : Dev nD) (i : grid0.Coords) (arg2 : Memref sig .tc .vmem S1x512x128 .bf16) (harg2 : arg2.IsWhole)
  (arg3 : Memref sig .tc .vmem S1x16384x128 .bf16) (harg3 : arg3.IsWhole) (arg4 : Memref sig .tc .vmem S1x16384x128 .bf16) (harg4 : arg4.IsWhole)
  (arg5 : Memref sig .tc .vmem S1x512x128 .bf16) (harg5 : arg5.IsWhole)

/-- One trip of the unmasked loop, as the payloads of the block it loads. -/
theorem trip_eq (kk : Fin (k0_t1_loop i).trips) (acc : FVec Ideal S512x1 .f32 × FVec Ideal S512x128 .f32) :
    tripR_k0_t1 (F := Ideal) Variants.none c none i arg2 harg2 arg3 harg3 arg4 harg4 arg5 harg5 x0 (harg3.unread x1) (harg4.unread x2) kk acc
      = (k0_pay6 x0 acc.1 (View.ld x1 (Rect.unit (s := S1x16384x128) (k0_off1 i kk) S1x512x128.size (k0_off1_inb i kk))),
         k0_pay7 x0 acc.1 acc.2 (View.ld x1 (Rect.unit (s := S1x16384x128) (k0_off1 i kk) S1x512x128.size (k0_off1_inb i kk)))
          (View.ld x2 (Rect.unit (s := S1x16384x128) (k0_off1 i kk) S1x512x128.size (k0_off1_inb i kk)))) := by
  unfold tripR_k0_t1 trip_k0_t1
  dsimp only
  simp only [View.readAt_eq_ld, harg3.read_unread, harg4.read_unread]

/-- The loop's state after `kk` of its blocks. -/
abbrev stt (x0 : Vec Ideal S1x512x128 .bf16) (x1 x2 : Vec Ideal S1x16384x128 .bf16) (kk : ℕ) : FVec Ideal S512x1 .f32 × FVec Ideal S512x128 .f32 :=
  st_k0_t1 (F := Ideal) Variants.none c none i arg2 harg2 arg3 harg3 arg4 harg4 arg5 harg5 x0 (harg3.unread x1) (harg4.unread x2)
    (k0_pay3, k0_pay4) kk

theorem rows_ld {X : Vec Ideal S1x16384x128 .bf16} {A : Arr} (hX : ∀ (j : Fin 16384) (d : Fin 128), X (ix3 (0 : Fin 1) j d) = A (ix3 h j d))
    (off : Fin 3 → ℕ) (inb) (j : ℕ) (hoff : off = ![0, 512 * j, 0]) :
    Rows A h j (View.ld X (Rect.unit (s := S1x16384x128) off ![1, 512, 128] inb)) := fun x d hx => by
  rw [ld_rows X off inb j hoff x d hx, hX]

/-- After `kk` blocks the loop's state is the streaming softmax's after `512 kk` keys. -/
theorem loop_state (L : Layout q k v) (I : Ins q k v h n x0 x1 x2) (hi : (i 1).val = n.val) (r : Fin 512) (d : Fin 128) :
    ∀ kk : ℕ, kk ≤ n.val → St (score q k h (row n r)) (vlane v h d) (512 * kk)
      ((stt c i arg2 harg2 arg3 harg3 arg4 harg4 arg5 harg5 x0 x1 x2 kk).1 (ix2 r (0 : Fin 1)))
      ((stt c i arg2 harg2 arg3 harg3 arg4 harg4 arg5 harg5 x0 x1 x2 kk).2 (ix2 r d)) := by
  intro kk
  induction kk with
  | zero =>
    intro _
    exact Or.inl ⟨rfl, pay3_apply r, pay4_apply r d⟩
  | succ kk ih =>
    intro hk
    have htr : kk < (k0_t1_loop i).trips := by
      have : (k0_t1_loop i).trips = (i 1).val := trips1 ⟨(i 1).val, by omega⟩
      omega
    have hoff : k0_off1 i ⟨kk, htr⟩ = ![0, 512 * kk, 0] := by
      have := off_iv ⟨kk, by omega⟩
      unfold k0_off1
      dsimp only
      rw [this]
    have hs := st_k0_t1_succ (F := Ideal) Variants.none c none i arg2 harg2 arg3 harg3 arg4 harg4 arg5 harg5 x0 (harg3.unread x1) (harg4.unread x2)
      (k0_pay3, k0_pay4) ⟨kk, htr⟩
    rw [trip_eq] at hs
    unfold stt
    rw [hs]
    dsimp only
    rw [pay6_apply, pay7_apply]
    have hkr := rows_ld (A := k) I.k (k0_off1 i ⟨kk, htr⟩) (k0_off1_inb i ⟨kk, htr⟩) kk hoff
    have hvr := rows_ld (A := v) I.v (k0_off1 i ⟨kk, htr⟩) (k0_off1_inb i ⟨kk, htr⟩) kk hoff
    exact upd_state L (Fox.score_ne_top L h _) (Fox.score_zero_ne_bot L h _) (fun x => sc_eq I (by omega) hkr r x)
      (fun x => vl_eq (by omega) hvr x d) (ih (by omega))

theorem hz3 : (![0, 0, 0] : Fin 3 → ℕ) = fun _ => 0 := by funext a; fin_cases a <;> rfl

/-- What the grid point stores, element by element: the quotient of two lanes' states after its own block. -/
theorem out_apply (L : Layout q k v) (I : Ins q k v h n x0 x1 x2) (hi : (i 1).val = n.val) (r : Fin 512) (d : Fin 128) :
    ∃ m a l : EReal, St (score q k h (row n r)) (vlane v h d) (512 * (n.val + 1)) m a
      ∧ St (score q k h (row n r)) (vlane v h (64 : Fin 128)) (512 * (n.val + 1)) m l
      ∧ out0_A_3 (F := Ideal) c i arg2 harg2 arg3 harg3 arg4 harg4 arg5 harg5 x0 x1 x2 (ix3 (0 : Fin 1) r d) = Ideal.div a l := by
  have h1 : Scf.trips 0#32 (Scalar.addi 0#32 (Scalar.muli (Scalar.divsi (Scalar.subi (BitVec.ofNat 32 (i 1).val) 0#32) 1#32) 1#32)) 1#32
      = n.val := (trips1 ⟨(i 1).val, by omega⟩).trans hi
  have h2 : Scf.trips (Scalar.addi 0#32 (Scalar.muli (Scalar.divsi (Scalar.subi (BitVec.ofNat 32 (i 1).val) 0#32) 1#32) 1#32))
      (Scalar.addi 0#32 (Scalar.subi (BitVec.ofNat 32 (i 1).val) 0#32)) 1#32 = 0 := trips2 ⟨(i 1).val, by omega⟩
  have hoff : (![0, BitVec.toNat (Scalar.indexCast (Scalar.muli (BitVec.ofNat 32 (i 1).val) 512#32)), 0] : Fin 3 → ℕ) = ![0, 512 * n.val, 0] := by
    rw [off_row ⟨(i 1).val, by omega⟩, hi]
  have hout : ∃ kb vb : Vec Ideal S1x512x128 .bf16, Rows k h n.val kb ∧ Rows v h n.val vb ∧
      out0_A_3 (F := Ideal) c i arg2 harg2 arg3 harg3 arg4 harg4 arg5 harg5 x0 x1 x2
      = k0_pay1 (k0_pay11 x0 (stt c i arg2 harg2 arg3 harg3 arg4 harg4 arg5 harg5 x0 x1 x2 n.val).1
            (stt c i arg2 harg2 arg3 harg3 arg4 harg4 arg5 harg5 x0 x1 x2 n.val).2 kb vb)
          (k0_pay12 x0 (stt c i arg2 harg2 arg3 harg3 arg4 harg4 arg5 harg5 x0 x1 x2 n.val).1
            (stt c i arg2 harg2 arg3 harg3 arg4 harg4 arg5 harg5 x0 x1 x2 n.val).2 kb vb) := by
    refine ⟨_, _, rows_ld (A := k) I.k _ (k0_off3_inb i) n.val hoff, rows_ld (A := v) I.v _ (k0_off3_inb i) n.val hoff, ?_⟩
    unfold out0_A_3
    rw [View.read_writes_eq_canon _ _ _ (cover0_A_3 (F := Ideal) c i arg2 harg2 arg3 harg3 arg4 harg4 arg5 harg5 x0 x1 x2)]
    unfold kernelRun0_A
    dsimp only
    sl_unfold_words
    simp only [View.readAt_eq_ld, harg2.read_unread, harg3.read_unread, harg4.read_unread]
    rw [View.canon_unit_zero hz3]
    simp only [h1, h2]
    simp (disch := decide) only [View.ld_unit_lit']
    rfl
  obtain ⟨kb, vb, hkr, hvr, ho⟩ := hout
  have hs := fun d => loop_state c i arg2 harg2 arg3 harg3 arg4 harg4 arg5 harg5 L I hi r d n.val le_rfl
  have hst := fun d => upd_state L (V := vlane v h d) (Fox.score_ne_top L h (row n r)) (Fox.score_zero_ne_bot L h (row n r))
    (fun x => scm_eq I hkr r x) (fun x => vl_eq (by omega) hvr x d) (hs d)
  refine ⟨_, _, _, hst d, hst (64 : Fin 128), ?_⟩
  rw [ho, pay1_apply, pay12_apply, pay11_apply, pay11_apply]

end Run

end Block

end Cert.Proof.FoxBlock

end
-- ==== Proof.Fox.lean ====
/-
  The forgetting attention. Where the three arguments have the layout that the precondition states, the call's result array,
  after its run, is the reference's array of the same arguments: grid point `t` is head `t / 32` and query rows
  `512 (t mod 32) ..`, and those rows depend on the same rows of the queries and on the head's keys and values.
-/
module

public import proofs.«01_k».proof.Defs
public import proofs.«01_k».proof.Proof.Gen.KernelIdeal.Value
public import proofs.«01_k».proof.Proof.Gen.ReferenceIdeal.Read
public import proofs.«01_k».proof.Proof.FoxMath
public import proofs.«01_k».proof.Proof.FoxRef
public import proofs.«01_k».proof.Proof.FoxPre
public import proofs.«01_k».proof.Proof.FoxBlock
public import Idealize.ShloMosaic.Lib.Pointwise
public import Idealize.ShloMosaic.Lib.Claim
public import Idealize.ShloMosaic.Lib.KernelVsHost
public import Idealize.ShloMosaic.Lib.Quiescent

@[expose] public section

noncomputable section

namespace Cert.Proof.Fox

open Idealize.ShloMosaic Idealize.ShloMosaic.TcCoe Idealize.SL.Sem
open Idealize.ShloMosaic.Pipeline (Dat)
open Cert.Proof.FoxMath (St)
open Cert.Proof.FoxBlock (row Ins)

section Array
open Cert.KernelIdeal Cert.KernelIdeal.Gen

variable (m : (ℓ : Loc nD τ sig) → Buf (Elt Ideal) ℓ) (ρ : Dev nD → PrngReg)

/-! ## A grid point's head and block of rows, and its windows' blocks -/

/-- The head of grid point `t`. -/
def head (t : Fin cfg0.N) : Fin 4 := ⟨t.val / 32, by have h : t.val < 128 := t.isLt; omega⟩

/-- The block of query rows of grid point `t`. -/
def blk (t : Fin cfg0.N) : Fin 32 := ⟨t.val % 32, by omega⟩

theorem coord1 : ∀ t : Fin cfg0.N, ((grid0.coords t) 1).val = (blk t).val :=
  (by decide +kernel : ∀ t : Fin grid0.N, ((grid0.coords t) 1).val = t.val % 32)

theorem index0 : ∀ t : Fin cfg0.N, win0_0.index t 0 = t.val / 32 ∧ win0_0.index t 1 = t.val % 32 ∧ win0_0.index t 2 = 0 :=
  (by decide +kernel : ∀ t : Fin grid0.N, win0_0.index t 0 = t.val / 32 ∧ win0_0.index t 1 = t.val % 32 ∧ win0_0.index t 2 = 0)
theorem index1 : ∀ t : Fin cfg0.N, win0_1.index t 0 = t.val / 32 ∧ win0_1.index t 1 = 0 ∧ win0_1.index t 2 = 0 :=
  (by decide +kernel : ∀ t : Fin grid0.N, win0_1.index t 0 = t.val / 32 ∧ win0_1.index t 1 = 0 ∧ win0_1.index t 2 = 0)
theorem index2 : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)
theorem index3 : ∀ t : Fin cfg0.N, win0_3.index t 0 = t.val / 32 ∧ win0_3.index t 1 = t.val % 32 ∧ win0_3.index t 2 = 0 :=
  (by decide +kernel : ∀ t : Fin grid0.N, win0_3.index t 0 = t.val / 32 ∧ win0_3.index t 1 = t.val % 32 ∧ win0_3.index t 2 = 0)

/-- Window 0's block at a point: the point's query rows. -/
theorem iblk0_apply (c : Dev nD) (t : Fin cfg0.N) (r : Fin 512) (d : Fin 128) :
    iblk m c 0 t (ix3 (0 : Fin 1) r d) = m ((c : Thread nD τ).loc main_arg0) (ix3 (head t) (row (blk t) r) d) := by
  have hemb : ((cfg0.win 0).blk t).view.emb (ix3 (0 : Fin 1) r d) = ix3 (n0 := 4) (n1 := 16384) (n2 := 128) (head t) (row (blk t) r) d := by
    funext a
    apply Fin.ext
    match a with
    | ⟨0, _⟩ => show win0_0.index t 0 * 1 + 1 * 0 = t.val / 32
                rw [(index0 t).1]; omega
    | ⟨1, _⟩ => show win0_0.index t 1 * 512 + 1 * r.val = 512 * (t.val % 32) + r.val
                rw [(index0 t).2.1]; omega
    | ⟨2, _⟩ => show win0_0.index t 2 * 128 + 1 * d.val = d.val
                rw [(index0 t).2.2]; omega
  show V m c main_arg0 (((cfg0.win 0).blk t).view.emb (ix3 (0 : Fin 1) r d)) = _
  rw [hemb]

/-- Window 1's block at a point: the head's keys. -/
theorem iblk1_apply (c : Dev nD) (t : Fin cfg0.N) (j : Fin 16384) (d : Fin 128) :
    iblk m c 1 t (ix3 (0 : Fin 1) j d) = m ((c : Thread nD τ).loc main_arg1) (ix3 (head t) j d) := by
  have hemb : ((cfg0.win 1).blk t).view.emb (ix3 (0 : Fin 1) j d) = ix3 (n0 := 4) (n1 := 16384) (n2 := 128) (head t) j d := by
    funext a
    apply Fin.ext
    match a with
    | ⟨0, _⟩ => show win0_1.index t 0 * 1 + 1 * 0 = t.val / 32
                rw [(index1 t).1]; omega
    | ⟨1, _⟩ => show win0_1.index t 1 * 16384 + 1 * j.val = j.val
                rw [(index1 t).2.1]; omega
    | ⟨2, _⟩ => show win0_1.index t 2 * 128 + 1 * d.val = d.val
                rw [(index1 t).2.2]; omega
  show V m c main_arg1 (((cfg0.win 1).blk t).view.emb (ix3 (0 : Fin 1) j d)) = _
  rw [hemb]

/-- Window 2's block at a point: the head's values. -/
theorem iblk2_apply (c : Dev nD) (t : Fin cfg0.N) (j : Fin 16384) (d : Fin 128) :
    iblk m c 2 t (ix3 (0 : Fin 1) j d) = m ((c : Thread nD τ).loc main_arg2) (ix3 (head t) j d) := by
  have hemb : ((cfg0.win 2).blk t).view.emb (ix3 (0 : Fin 1) j d) = ix3 (n0 := 4) (n1 := 16384) (n2 := 128) (head t) j d := by
    funext a
    apply Fin.ext
    match a with
    | ⟨0, _⟩ => show win0_2.index t 0 * 1 + 1 * 0 = t.val / 32
                rw [(index2 t).1]; omega
    | ⟨1, _⟩ => show win0_2.index t 1 * 16384 + 1 * j.val = j.val
                rw [(index2 t).2.1]; omega
    | ⟨2, _⟩ => show win0_2.index t 2 * 128 + 1 * d.val = d.val
                rw [(index2 t).2.2]; omega
  show V m c main_arg2 (((cfg0.win 2).blk t).view.emb (ix3 (0 : Fin 1) j d)) = _
  rw [hemb]

/-! ## The kernel's result array -/

/-- The array that the result is shown to be: the reference's, of the call's own arguments. -/
def G (c : Dev nD) : Buf (Elt Ideal) ((c : Thread nD τ).loc main_v0) :=
  Cert.ReferenceIdeal.Read.val_main_v39 (F := Ideal) (m ((c : Thread nD τ).loc main_arg0)) (m ((c : Thread nD τ).loc main_arg1))
    (m ((c : Thread nD τ).loc main_arg2))

/-- Where the arguments have the layout, what point `t` writes back is block `t` of that array. -/
theorem flushed_eq (c : Dev nD) (L : Layout (m ((c : Thread nD τ).loc main_arg0)) (m ((c : Thread nD τ).loc main_arg1)) (m ((c : Thread nD τ).loc main_arg2)))
    (t : Fin cfg0.N) : (dats m 0 c).flushed 3 t = ((cfg0.win 3).blk t).view.read (Elt Ideal) (G m c) := by
  rw [Value.flushed3_A]
  funext j
  obtain ⟨z, r, d, rfl⟩ : ∃ (z : Fin 1) (r : Fin 512) (d : Fin 128), j = ix3 z r d := ⟨j 0, j 1, j 2, eq_ix3 j⟩
  obtain rfl : z = 0 := Subsingleton.elim _ _
  have hemb : ((cfg0.win 3).blk t).view.emb (ix3 (0 : Fin 1) r d) = ix3 (n0 := 4) (n1 := 16384) (n2 := 128) (head t) (row (blk t) r) d := by
    funext a
    apply Fin.ext
    match a with
    | ⟨0, _⟩ => show win0_3.index t 0 * 1 + 1 * 0 = t.val / 32
                rw [(index3 t).1]; omega
    | ⟨1, _⟩ => show win0_3.index t 1 * 512 + 1 * r.val = 512 * (t.val % 32) + r.val
                rw [(index3 t).2.1]; omega
    | ⟨2, _⟩ => show win0_3.index t 2 * 128 + 1 * d.val = d.val
                rw [(index3 t).2.2]; omega
  show out0_A_3 c (grid0.coords t) (ms0_0 t) (hs0_0 t) (ms0_1 t) (hs0_1 t) (ms0_2 t) (hs0_2 t) (ms0_3 t) (hs0_3 t)
      (iblk m c 0 t) (iblk m c 1 t) (iblk m c 2 t) (ix3 (0 : Fin 1) r d)
    = G m c (((cfg0.win 3).blk t).view.emb (ix3 (0 : Fin 1) r d))
  rw [hemb]
  have I : Ins (m ((c : Thread nD τ).loc main_arg0)) (m ((c : Thread nD τ).loc main_arg1)) (m ((c : Thread nD τ).loc main_arg2)) (head t) (blk t)
      (iblk m c 0 t) (iblk m c 1 t) (iblk m c 2 t) := ⟨iblk0_apply m c t, iblk1_apply m c t, iblk2_apply m c t⟩
  obtain ⟨mm, a, l, ha, hl, ho⟩ := FoxBlock.out_apply c (grid0.coords t) (ms0_0 t) (hs0_0 t) (ms0_1 t) (hs0_1 t) (ms0_2 t) (hs0_2 t)
    (ms0_3 t) (hs0_3 t) L I (coord1 t) r d
  obtain ⟨M, hM⟩ := ref_apply L (head t) (row (blk t) r) d
  have hb : (blk t).val < 32 := (blk t).isLt
  have hr : (row (blk t) r).val = 512 * (blk t).val + r.val := rfl
  have hl1 : St (score (m ((c : Thread nD τ).loc main_arg0)) (m ((c : Thread nD τ).loc main_arg1)) (head t) (row (blk t) r)) (fun _ => 1)
      (512 * ((blk t).val + 1)) mm l := by
    refine FoxMath.st_congr (fun k hk => ?_) hl
    have hk' : k < 16384 := by omega
    unfold vlane
    rw [dif_pos hk']
    exact L.vone _ _
  refine ho.trans ((FoxMath.quotient (N := 16384) (score_ne_top L _ _) (score_zero_ne_bot L _ _) (by omega) (by omega)
    (fun k hk => score_past _ _ _ (by omega)) ha hl1 M).trans ?_)
  exact hM.symm

/-- The points' blocks tile the result array. -/
theorem cover (i : S4x16384x128.Idx) :
    ∃ t : Fin cfg0.N, (cfg0.win 3).flush t = true ∧ i ∈ ((cfg0.win 3).blk t).view.set := by
  have h0 : (i 0).val < 4 := (i 0).isLt
  have h1 : (i 1).val < 16384 := (i 1).isLt
  have h2 : (i 2).val < 128 := (i 2).isLt
  let t : Fin cfg0.N := ⟨(i 0).val * 32 + (i 1).val / 512, by show _ < 128; omega⟩
  refine ⟨t, (by decide +kernel : ∀ t : Fin grid0.N, (cfg0.win 3).flush t = true) t, ?_⟩
  show i ∈ ((View.whole main_v0).slice (win0_3.rect t)).set
  rw [View.set_slice_whole, Rect.mem_set_unit]
  intro a
  match a with
  | ⟨0, _⟩ => show win0_3.index t 0 * 1 ≤ (i 0).val ∧ (i 0).val < win0_3.index t 0 * 1 + 1
              rw [(index3 t).1]; dsimp only [t]; omega
  | ⟨1, _⟩ => show win0_3.index t 1 * 512 ≤ (i 1).val ∧ (i 1).val < win0_3.index t 1 * 512 + 512
              rw [(index3 t).2.1]; dsimp only [t]; omega
  | ⟨2, _⟩ => show win0_3.index t 2 * 128 ≤ (i 2).val ∧ (i 2).val < win0_3.index t 2 * 128 + 128
              rw [(index3 t).2.2]; omega

/-- So the result array ends holding that array. -/
theorem final (c : Dev nD) (L : Layout (m ((c : Thread nD τ).loc main_arg0)) (m ((c : Thread nD τ).loc main_arg1)) (m ((c : Thread nD τ).loc main_arg2))) :
    (dats m 0 c).arrAt 3 cfg0.N = G m c :=
  (dats m 0 c).arrAt_eq_of_cover 3 (G m c) (fun t _ => flushed_eq m c L t) cover

end Array

/-! ## The claims -/

/-- Over the extended reals, where the arguments have the layout, the call and the reference leave the same array. -/
theorem algebraic : Cert.algebraic_KernelIdeal_ReferenceIdeal_pre_fox_layout := by
  intro m ρ m' ρ' hpre hagree
  refine ⟨fun c => G m c, ?_, ?_⟩
  · exact (θ_run Cert.KernelIdeal.defs _ _).mono
      (fun r h c => ⟨(h c).1.trans (final m c (FoxPre.layout (hpre c))), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v39_eq]
    obtain ⟨h0, h1, h2⟩ := hagree c
    rw [h0, h1, h2]
    rfl

/-- The reference's run leaves its arguments unchanged, and it has no counter. -/
theorem frame_ref : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof.Fox

end
-- ==== Proof.Ffn.lean ====
/-
  The feed-forward block. The call's result array, after its run, is the reference's array of the same arguments:
  grid point `t` writes rows `512 t .. 512 t + 511`, and each of those rows depends on the same row of `x` alone.
-/
module

public import proofs.«01_k».proof.Defs
public import proofs.«01_k».proof.Proof.Gen.Kernel2Ideal.Value
public import proofs.«01_k».proof.Proof.Gen.Reference2Ideal.Read
public import Idealize.ShloMosaic.Lib.Pointwise
public import Idealize.ShloMosaic.Lib.Claim
public import Idealize.ShloMosaic.Lib.Quiescent

@[expose] public section

noncomputable section

namespace Cert.Proof.Ffn

open Idealize.ShloMosaic Idealize.ShloMosaic.TcCoe Idealize.SL.Sem
open Idealize.ShloMosaic.Pipeline (Dat)

/-! ## One row of the block, as a function of the row of `x` and of the weights -/

/-- Element `d` of the normalised row. -/
def normRow (x g : Fin 1024 → EReal) (d : Fin 1024) : EReal :=
  x d * Ideal.rsqrt (Ideal.div (∑ e, x e * x e) (Ideal.ofBits .f32 0x44800000#32) + Ideal.ofBits .f32 0x358637BD#32) * g d

/-- One element of a product of the normalised row with a weight matrix's column. -/
def proj (x g : Fin 1024 → EReal) (w : Fin 1024 → EReal) : EReal := ∑ d, normRow x g d * w d

/-- Element `l` of the block's row: the residual plus the gated products through the second weight matrix. -/
def ffnRow (x g : Fin 1024 → EReal) (w1 : Fin 1024 → Fin 5632 → EReal) (w2 : Fin 2816 → Fin 1024 → EReal) (l : Fin 1024) : EReal :=
  x l + ∑ e : Fin 2816,
    (proj x g (fun d => w1 d ⟨e, by omega⟩) * Ideal.div 1 (1 + Ideal.exp (-proj x g (fun d => w1 d ⟨e, by omega⟩)))
      * proj x g (fun d => w1 d ⟨2816 + e, by omega⟩)) * w2 e l

section Kernel
open Cert.Kernel2Ideal Cert.Kernel2Ideal.Gen

/-- The kernel body's one payload at an index, from the blocks it loads. -/
theorem pay_apply (v0 : Vec Ideal S512x1024 .f32) (v1 : Vec Ideal S1x1024 .f32) (v2 : Vec Ideal S1024x5632 .bf16)
    (v3 : Vec Ideal S2816x1024 .bf16) (r : Fin 512) (l : Fin 1024) :
    out0_4 v0 v1 v2 v3 (ix2 r l)
      = ffnRow (fun d => v0 (ix2 r d)) (fun d => v1 (ix2 0 d)) (fun d e => v2 (ix2 d e)) (fun e k => v3 (ix2 e k)) l := by
  have hz0 : (![0, 0] : Fin S512x1024.rank → Nat) = fun _ => 0 := funext fun a => by fin_cases a <;> rfl
  have hz1 : (![0, 0] : Fin S1x1024.rank → Nat) = fun _ => 0 := funext fun a => by fin_cases a <;> rfl
  have hz3 : (![0, 0] : Fin S2816x1024.rank → Nat) = fun _ => 0 := funext fun a => by fin_cases a <;> rfl
  unfold out0_4
  rw [View.canon_unit_zero hz0, View.ld_unit_zero hz0, View.ld_unit_zero hz1, View.ld_unit_zero hz3]
  pointwise [k0_pay1]
  simp only [ffnRow, proj, normRow, zero_sub]

variable (m : (ℓ : Loc nD τ sig) → Buf (Elt Ideal) ℓ)

theorem index0 : ∀ t : Fin cfg0.N, win0_0.index t 0 = t.val ∧ win0_0.index t 1 = 0 :=
  (by decide +kernel : ∀ t : Fin grid0.N, win0_0.index t 0 = t.val ∧ win0_0.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)

/-- Row `r` of point `t`'s block, in the whole array. -/
def row (t : Fin cfg0.N) (r : Fin 512) : Fin 16384 := ⟨t.val * 512 + r.val, by have : t.val < 32 := t.isLt; omega⟩

/-- The input window's block of `x` at point `t`. -/
theorem iblk0_apply (c : Dev nD) (t : Fin cfg0.N) (r : Fin 512) (k : Fin 1024) :
    iblk m c 0 t (ix2 r k) = m ((c : Thread nD τ).loc main_arg0) (ix2 (row t r) k) := by
  show V m c main_arg0 (((cfg0.win 0).blk t).view.emb (ix2 r k)) = _
  rw [V_main_arg0]
  congr 1
  funext a
  apply Fin.ext
  match a with
  | ⟨0, _⟩ => show win0_0.index t 0 * 512 + 1 * r.val = t.val * 512 + r.val
              rw [(index0 t).1]; omega
  | ⟨1, _⟩ => show win0_0.index t 1 * 1024 + 1 * k.val = k.val
              rw [(index0 t).2]; omega

theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)

/-- The gain's block at any point: the gain. -/
theorem iblk1_apply (c : Dev nD) (t : Fin cfg0.N) (k : Fin 1024) :
    iblk m c 1 t (ix2 0 k) = m ((c : Thread nD τ).loc main_arg1) (ix1 k) := by
  have e : ((cfg0.win 1).blk t).view.emb (ix2 0 k) = ix2 (n0 := 1) (n1 := 1024) 0 k := by
    funext a
    apply Fin.ext
    match a with
    | ⟨0, _⟩ => show win0_1.index t 0 * 1 + 1 * 0 = 0
                rw [(index1 t).1]
    | ⟨1, _⟩ => show win0_1.index t 1 * 1024 + 1 * k.val = k.val
                rw [(index1 t).2]; omega
  show V m c main_v0 (((cfg0.win 1).blk t).view.emb (ix2 0 k)) = _
  rw [e]
  entry_read
  pointwise

/-- The first weight's block at any point: the weight. -/
theorem iblk2_apply (c : Dev nD) (t : Fin cfg0.N) (d : Fin 1024) (k : Fin 5632) :
    iblk m c 2 t (ix2 d k) = m ((c : Thread nD τ).loc main_arg2) (ix2 d k) := by
  have e : ((cfg0.win 2).blk t).view.emb (ix2 d k) = ix2 (n0 := 1024) (n1 := 5632) d k := by
    funext a
    apply Fin.ext
    match a with
    | ⟨0, _⟩ => show win0_2.index t 0 * 1024 + 1 * d.val = d.val
                rw [(index2 t).1]; omega
    | ⟨1, _⟩ => show win0_2.index t 1 * 5632 + 1 * k.val = k.val
                rw [(index2 t).2]; omega
  show V m c main_v1 (((cfg0.win 2).blk t).view.emb (ix2 d k)) = _
  rw [e]
  entry_read
  pointwise

/-- The second weight's block at any point: the weight. -/
theorem iblk3_apply (c : Dev nD) (t : Fin cfg0.N) (d : Fin 2816) (k : Fin 1024) :
    iblk m c 3 t (ix2 d k) = m ((c : Thread nD τ).loc main_arg3) (ix2 d k) := by
  have e : ((cfg0.win 3).blk t).view.emb (ix2 d k) = ix2 (n0 := 2816) (n1 := 1024) d k := by
    funext a
    apply Fin.ext
    match a with
    | ⟨0, _⟩ => show win0_3.index t 0 * 2816 + 1 * d.val = d.val
                rw [(index3 t).1]; omega
    | ⟨1, _⟩ => show win0_3.index t 1 * 1024 + 1 * k.val = k.val
                rw [(index3 t).2]; omega
  show V m c main_v2 (((cfg0.win 3).blk t).view.emb (ix2 d k)) = _
  rw [e]
  entry_read
  pointwise

end Kernel

section Reference
open Cert.Reference2Ideal

/-- The reference's array at an index. -/
theorem ref_apply (x0 : (⟨S16384x1024, .f32⟩ : BufTy).Contents (Elt Ideal)) (x1 : (⟨S1024, .f32⟩ : BufTy).Contents (Elt Ideal))
    (x2 : (⟨S1024x5632, .f32⟩ : BufTy).Contents (Elt Ideal)) (x3 : (⟨S2816x1024, .f32⟩ : BufTy).Contents (Elt Ideal))
    (r : Fin 16384) (l : Fin 1024) :
    Read.val_main_v19 (F := Ideal) x0 x1 x2 x3 (ix2 r l)
      = ffnRow (fun d => x0 (ix2 r d)) (fun d => x1 (ix1 d)) (fun d e => x2 (ix2 d e)) (fun e k => x3 (ix2 e k)) l := by
  rw [← Read.val_main_v19_eq]
  pointwise
  simp only [ffnRow, proj, normRow]

end Reference

/-! ## The kernel's result array -/

section Array
open Cert.Kernel2Ideal Cert.Kernel2Ideal.Gen

variable (m : (ℓ : Loc nD τ sig) → Buf (Elt Ideal) ℓ) (ρ : Dev nD → PrngReg)

/-- The array that the result is shown to be: the reference's, of the call's own arguments. -/
abbrev G (c : Dev nD) : Buf (Elt Ideal) ((c : Thread nD τ).loc main_v3) :=
  Cert.Reference2Ideal.Read.val_main_v19 (F := Ideal) (m ((c : Thread nD τ).loc main_arg0))
    (m ((c : Thread nD τ).loc main_arg1)) (m ((c : Thread nD τ).loc main_arg2)) (m ((c : Thread nD τ).loc main_arg3))

/-- What point `t` writes back is block `t` of the reference's array. -/
theorem flushed_eq (c : Dev nD) (t : Fin cfg0.N) :
    (dats m 0 c).flushed 4 t = ((cfg0.win 4).blk t).view.read (Elt Ideal) (G m c) := by
  rw [Value.flushed4]
  funext j
  obtain ⟨r, l, rfl⟩ : ∃ (r : Fin 512) (l : Fin 1024), j = ix2 r l := ⟨j 0, j 1, eq_ix2 j⟩
  have e : ((cfg0.win 4).blk t).view.emb (ix2 r l) = ix2 (n0 := 16384) (n1 := 1024) (row t r) l := by
    funext a
    apply Fin.ext
    match a with
    | ⟨0, _⟩ => show win0_4.index t 0 * 512 + 1 * r.val = t.val * 512 + r.val
                rw [(index4 t).1]; omega
    | ⟨1, _⟩ => show win0_4.index t 1 * 1024 + 1 * l.val = l.val
                rw [(index4 t).2]; omega
  show out0_4 (iblk m c 0 t) (iblk m c 1 t) (iblk m c 2 t) (iblk m c 3 t) (ix2 r l)
    = G m c (((cfg0.win 4).blk t).view.emb (ix2 r l))
  rw [e, pay_apply]
  unfold G
  rw [ref_apply]
  simp only [iblk0_apply, iblk1_apply, iblk2_apply, iblk3_apply]

/-- The points' blocks tile the result array. -/
theorem cover (i : S16384x1024.Idx) :
    ∃ t : Fin cfg0.N, (cfg0.win 4).flush t = true ∧ i ∈ ((cfg0.win 4).blk t).view.set := by
  have h0 : (i 0).val < 16384 := (i 0).isLt
  have h1 : (i 1).val < 1024 := (i 1).isLt
  let t : Fin cfg0.N := ⟨(i 0).val / 512, by show _ < 32; omega⟩
  refine ⟨t, (by decide +kernel : ∀ t : Fin grid0.N, (cfg0.win 4).flush t = true) t, ?_⟩
  show i ∈ ((View.whole main_v3).slice (win0_4.rect t)).set
  rw [View.set_slice_whole, Rect.mem_set_unit]
  intro a
  match a with
  | ⟨0, _⟩ => show win0_4.index t 0 * 512 ≤ (i 0).val ∧ (i 0).val < win0_4.index t 0 * 512 + 512
              rw [(index4 t).1]; dsimp only [t]; omega
  | ⟨1, _⟩ => show win0_4.index t 1 * 1024 ≤ (i 1).val ∧ (i 1).val < win0_4.index t 1 * 1024 + 1024
              rw [(index4 t).2]; omega

/-- So the result array ends holding the reference's array. -/
theorem final (c : Dev nD) : (dats m 0 c).arrAt 4 cfg0.N = G m c :=
  (dats m 0 c).arrAt_eq_of_cover 4 (G m c) (fun t _ => flushed_eq m c t) cover

end Array

/-! ## The claims -/

/-- Over the extended reals the call and the reference leave the same array. -/
theorem algebraic : Cert.algebraic_Kernel2Ideal_Reference2Ideal := by
  intro m ρ m' ρ' _ hagree
  refine ⟨fun c => G m c, ?_, ?_⟩
  · exact (θ_run Cert.Kernel2Ideal.defs _ _).mono (fun r h c => ⟨(h c).1.trans (final m c), (h c).2⟩)
      (Cert.Kernel2Ideal.Value.run_blocks (F := Ideal) m ρ)
  · refine (θ_run Cert.Reference2Ideal.defs _ _).mono (fun r h c => ⟨(h c).1.trans ?_, (h c).2⟩)
      (Cert.Reference2Ideal.Value.run (F := Ideal) m' ρ')
    show _ = G m c
    unfold G
    rw [← (hagree c).1, ← (hagree c).2.1, ← (hagree c).2.2.1, ← (hagree c).2.2.2]
    exact Cert.Reference2Ideal.Read.val_main_v19_eq _ _ _ _

/-- The reference's run leaves its arguments unchanged, and it has no counter. -/
theorem frame_ref : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

end Cert.Proof.Ffn
end
-- ==== Proof.PrepPay.lean ====
/-
  The projections of the forgetting attention: what the kernel's body stores for one pair of heads, as functions of vectors,
  and each of these functions read at an index.
-/
module

public import proofs.«01_k».proof.Proof.Gen.Kernel4Ideal.Value
public import proofs.«01_k».proof.Proof.Ffn
public import Idealize.ShloMosaic.Lib.Pointwise

@[expose] public section

noncomputable section

namespace Cert.Proof.Prep

open Idealize.ShloMosaic Idealize.ShloMosaic.TcCoe Idealize.SL.Sem
open Cert.Kernel4Ideal Cert.Kernel4Ideal.Gen

/-- A tile of rows and lanes. -/
abbrev V := FVec Ideal S256x128 .f32

/-! ## The lanes' tests -/

theorem low_iff : ∀ l : Fin 128, IntOp.cmpi .slt (BitVec.ofNat 32 l.val) 64#32 = 1 ↔ l.val < 64 := by decide
theorem e0_iff : ∀ l : Fin 128, IntOp.cmpi .eq (IntOp.subi (BitVec.ofNat 32 l.val) 64#32) 0#32 = 1 ↔ l.val = 64 := by decide
theorem e1_iff : ∀ l : Fin 128, IntOp.cmpi .eq (IntOp.subi (BitVec.ofNat 32 l.val) 64#32) 1#32 = 1 ↔ l.val = 65 := by decide
theorem e2_iff : ∀ l : Fin 128, IntOp.cmpi .eq (IntOp.subi (BitVec.ofNat 32 l.val) 64#32) 2#32 = 1 ↔ l.val = 66 := by decide
theorem e3_iff : ∀ l : Fin 128, IntOp.cmpi .eq (IntOp.subi (BitVec.ofNat 32 l.val) 64#32) 3#32 = 1 ↔ l.val = 67 := by decide
theorem e4_iff : ∀ l : Fin 128, IntOp.cmpi .eq (IntOp.subi (BitVec.ofNat 32 l.val) 64#32) 4#32 = 1 ↔ l.val = 68 := by decide
theorem e5_iff : ∀ l : Fin 128, IntOp.cmpi .eq (IntOp.subi (BitVec.ofNat 32 l.val) 64#32) 5#32 = 1 ↔ l.val = 69 := by decide
theorem s3_iff : ∀ l : Fin 128, IntOp.cmpi .slt (IntOp.subi (BitVec.ofNat 32 l.val) 64#32) 3#32 = 1 ↔ l.val < 67 := by decide
theorem s6_iff : ∀ l : Fin 128, IntOp.cmpi .slt (IntOp.subi (BitVec.ofNat 32 l.val) 64#32) 6#32 = 1 ↔ l.val < 70 := by decide

/-! ## The body's functions of one pair of heads -/

/-- The pair's two rows, each normalized over its own 64 lanes, times the gain and a constant. -/
def normV (a : V) (g : Vec Ideal S1x128 .f32) (k : BitVec 32) : V :=
  mulf (mulf a (rsqrt (addf (mulf (select k0_pay18
      (broadcastTo S256x128 (shapeCast S256x1 (shapeCast S256x1
        (multiReduction .add [1] S256 (select k0_pay18 (mulf a a) (broadcast S256x128 (Scalar.ofBits .f32 0x00000000#32))) 0x00000000#32
          Facts₀.reduces_S256x128_S256 (.inl rfl) rfl) Facts₀.shapeCasts_S256_S256x1) Facts₀.shapeCasts_S256x1_S256x1)
        Facts₀.broadcasts_S256x1_S256x128)
      (broadcastTo S256x128 (shapeCast S256x1 (shapeCast S256x1
        (multiReduction .add [1] S256 (select k0_pay18 (broadcast S256x128 (Scalar.ofBits .f32 0x00000000#32)) (mulf a a)) 0x00000000#32
          Facts₀.reduces_S256x128_S256 (.inl rfl) rfl) Facts₀.shapeCasts_S256_S256x1) Facts₀.shapeCasts_S256x1_S256x1)
        Facts₀.broadcasts_S256x1_S256x128))
      (broadcast S256x128 (Scalar.ofBits .f32 0x3C800000#32))) (broadcast S256x128 (Scalar.ofBits .f32 0x358637BD#32)))))
    (broadcastTo S256x128 (mulf (shapeCast S1x128 g Facts₀.shapeCasts_S1x128_S1x128) (broadcast S1x128 (Scalar.ofBits .f32 k)))
      Facts₀.broadcasts_S1x128_S256x128)

/-- Column `n` of a tile, in every lane. -/
def colV (n : ℕ) (h : S256x128.Slices ![0, n] S256x1) (a : V) : V :=
  broadcastTo S256x128 (shapeCast S256x1 (extractStridedSlice S256x1 ![0, n] a h) Facts₀.shapeCasts_S256x1_S256x1)
    Facts₀.broadcasts_S256x1_S256x128

/-- The lane's number less 64. -/
abbrev laneJ : IVec S256x128 32 :=
  subi (iota .tc S256x128 32 [1] Facts₀.iota_S256x128_d1_w32) (broadcast S256x128 64#32)

/-- The tests of the lane's number less 64. -/
abbrev laneE (k : BitVec 32) : IVec S256x128 1 := cmpi .eq laneJ (broadcast S256x128 k)
abbrev laneS (k : BitVec 32) : IVec S256x128 1 := cmpi .slt laneJ (broadcast S256x128 k)

abbrev kst (k : BitVec 32) : V := broadcast S256x128 (Scalar.ofBits .f32 k)

/-- A head's stored query rows: `a` in the low lanes, then the three summands of `c`, three ones, zeros. -/
def packQ (a hi mid lo : V) : FVec Ideal S1x256x128 .bf16 :=
  shapeCast S1x256x128 (truncf .bf16 (select k0_pay18 a (select (laneE 0#32) hi (select (laneE 1#32) mid (select (laneE 2#32) lo
    (select (laneS 6#32) (kst 0x3F800000#32) (kst 0x00000000#32)))))) bitsLt_bf16_f32) Facts₀.shapeCasts_S256x128_S1x256x128

/-- A head's stored key rows: `a` in the low lanes, then three ones, the three summands of `c` negated, zeros. -/
def packK (a hi mid lo : V) : FVec Ideal S1x256x128 .bf16 :=
  shapeCast S1x256x128 (truncf .bf16 (select k0_pay18 a (select (laneS 3#32) (kst 0x3F800000#32)
    (select (laneE 3#32) (subf (kst 0x00000000#32) hi) (select (laneE 4#32) (subf (kst 0x00000000#32) mid)
      (select (laneE 5#32) (subf (kst 0x00000000#32) lo) (kst 0x00000000#32)))))) bitsLt_bf16_f32) Facts₀.shapeCasts_S256x128_S1x256x128

/-- A head's stored value rows: `a` in the low lanes, then a one, zeros. -/
def packV (a : V) : FVec Ideal S1x256x128 .bf16 :=
  shapeCast S1x256x128 (truncf .bf16 (select k0_pay18 a (select (laneE 0#32) (kst 0x3F800000#32) (kst 0x00000000#32)))
    bitsLt_bf16_f32) Facts₀.shapeCasts_S256x128_S1x256x128

/-- The pair's second row in the low lanes. -/
def rotV (a : V) : V := dynamicRotate 1 64#32 none a Facts₀.rotates_S256x128_d1

/-! ## The body's payloads are these functions -/

variable (u : FVec Ideal S256x896 .f32) (g : Vec Ideal S1x128 .f32) (hi mid lo : V) (a : V)

theorem norm_q0 : k0_pay24 k0_pay18 (k0_pay19 u) (k0_pay20 g) (k0_pay22 u) (k0_pay23 u) = normV (k0_pay19 u) g 0x3E000000#32 := rfl
theorem norm_k0 : k0_pay25 u k0_pay18 g
    = normV (extractStridedSlice S256x128 ![0, 256] u Facts₀.slices_S256x896_o0_256_S256x128) g 0x3F800000#32 := rfl
theorem norm_q1 : k0_pay53 u k0_pay18 g
    = normV (extractStridedSlice S256x128 ![0, 128] u Facts₀.slices_S256x896_o0_128_S256x128) g 0x3E000000#32 := rfl
theorem norm_k1 : k0_pay58 k0_pay18 (k0_pay54 u) (k0_pay55 g) (k0_pay56 u) (k0_pay57 u k0_pay18)
    = normV (k0_pay54 u) g 0x3F800000#32 := rfl

theorem st_k0 : k0_pay36 k0_pay18 a (k0_pay33 lo (iota .tc S256x128 32 [1] Facts₀.iota_S256x128_d1_w32) (k0_pay27 hi) (k0_pay28 mid))
    = packK a (colV 0 Facts₀.slices_S256x128_o0_0_S256x1 hi) (colV 0 Facts₀.slices_S256x128_o0_0_S256x1 mid)
        (colV 0 Facts₀.slices_S256x128_o0_0_S256x1 lo) := rfl
theorem st_v0 : k0_pay37 k0_pay18 a (k0_pay34 (iota .tc S256x128 32 [1] Facts₀.iota_S256x128_d1_w32)) = packV a := rfl
theorem st_q1 : k0_pay49 k0_pay18 (k0_pay38 a) (k0_pay41 hi) (k0_pay42 mid) (k0_pay43 lo)
    (k0_pay44 (iota .tc S256x128 32 [1] Facts₀.iota_S256x128_d1_w32)) (k0_pay45 (iota .tc S256x128 32 [1] Facts₀.iota_S256x128_d1_w32))
    (k0_pay46 (iota .tc S256x128 32 [1] Facts₀.iota_S256x128_d1_w32)) (k0_pay47 (iota .tc S256x128 32 [1] Facts₀.iota_S256x128_d1_w32)) 6#32
    = packQ (rotV a) (colV 1 Facts₀.slices_S256x128_o0_1_S256x1 hi) (colV 1 Facts₀.slices_S256x128_o0_1_S256x1 mid)
        (colV 1 Facts₀.slices_S256x128_o0_1_S256x1 lo) := rfl
theorem st_k1 : k0_pay51 (k0_pay50 k0_pay18 (k0_pay39 a) (k0_pay41 hi) (k0_pay42 mid) (k0_pay43 lo)
    (k0_pay44 (iota .tc S256x128 32 [1] Facts₀.iota_S256x128_d1_w32)))
    = packK (rotV a) (colV 1 Facts₀.slices_S256x128_o0_1_S256x1 hi) (colV 1 Facts₀.slices_S256x128_o0_1_S256x1 mid)
        (colV 1 Facts₀.slices_S256x128_o0_1_S256x1 lo) := rfl
theorem st_v1 : k0_pay52 k0_pay18 (k0_pay40 a) (k0_pay48 (k0_pay44 (iota .tc S256x128 32 [1] Facts₀.iota_S256x128_d1_w32))) = packV (rotV a) := rfl
theorem st_q2 : k0_pay65 k0_pay18 a (k0_pay64 hi mid lo (iota .tc S256x128 32 [1] Facts₀.iota_S256x128_d1_w32))
    = packQ a (colV 2 Facts₀.slices_S256x128_o0_2_S256x1 hi) (colV 2 Facts₀.slices_S256x128_o0_2_S256x1 mid)
        (colV 2 Facts₀.slices_S256x128_o0_2_S256x1 lo) := rfl
theorem st_k2 : k0_pay66 k0_pay18 a (k0_pay60 hi) (k0_pay61 mid) (k0_pay62 lo)
    (k0_pay63 (iota .tc S256x128 32 [1] Facts₀.iota_S256x128_d1_w32)) 3#32
    = packK a (colV 2 Facts₀.slices_S256x128_o0_2_S256x1 hi) (colV 2 Facts₀.slices_S256x128_o0_2_S256x1 mid)
        (colV 2 Facts₀.slices_S256x128_o0_2_S256x1 lo) := rfl
theorem st_v2 : k0_pay68 (k0_pay67 k0_pay18 a (k0_pay63 (iota .tc S256x128 32 [1] Facts₀.iota_S256x128_d1_w32))) = packV a := rfl
theorem st_q3 : k0_pay1 k0_pay18 (k0_pay69 a) (k0_pay76 hi mid lo (iota .tc S256x128 32 [1] Facts₀.iota_S256x128_d1_w32))
    = packQ (rotV a) (colV 3 Facts₀.slices_S256x128_o0_3_S256x1 hi) (colV 3 Facts₀.slices_S256x128_o0_3_S256x1 mid)
        (colV 3 Facts₀.slices_S256x128_o0_3_S256x1 lo) := rfl
theorem st_k3 : k0_pay2 k0_pay18 (k0_pay70 a) (k0_pay74 lo) (k0_pay77 (iota .tc S256x128 32 [1] Facts₀.iota_S256x128_d1_w32))
    (k0_pay78 (iota .tc S256x128 32 [1] Facts₀.iota_S256x128_d1_w32)) (k0_pay79 hi)
    (k0_pay80 (iota .tc S256x128 32 [1] Facts₀.iota_S256x128_d1_w32)) (k0_pay81 mid)
    (k0_pay82 (iota .tc S256x128 32 [1] Facts₀.iota_S256x128_d1_w32)) (Scalar.ofBits .f32 0x00000000#32)
    = packK (rotV a) (colV 3 Facts₀.slices_S256x128_o0_3_S256x1 hi) (colV 3 Facts₀.slices_S256x128_o0_3_S256x1 mid)
        (colV 3 Facts₀.slices_S256x128_o0_3_S256x1 lo) := rfl
theorem st_v3 : k0_pay3 k0_pay18 (k0_pay71 a) (k0_pay75 (iota .tc S256x128 32 [1] Facts₀.iota_S256x128_d1_w32)) = packV (rotV a) := rfl
theorem st_q0 : k0_pay35 k0_pay18 a (k0_pay32 lo (iota .tc S256x128 32 [1] Facts₀.iota_S256x128_d1_w32) (k0_pay27 hi) (k0_pay28 mid))
    = packQ a (colV 0 Facts₀.slices_S256x128_o0_0_S256x1 hi) (colV 0 Facts₀.slices_S256x128_o0_0_S256x1 mid)
        (colV 0 Facts₀.slices_S256x128_o0_0_S256x1 lo) := rfl

/-! ## Each function at an index -/

/-- One element of a head's normalized row. -/
def nrm (a : Fin 64 → EReal) (g k : EReal) (d : Fin 64) : EReal :=
  a d * Ideal.rsqrt ((∑ e, a e * a e) * Ideal.ofBits .f32 0x3C800000#32 + Ideal.ofBits .f32 0x358637BD#32) * (g * k)

theorem sum_lo (f : Fin 128 → EReal) :
    (∑ x : Fin 128, if x.val < 64 then f x else 0) = ∑ d : Fin 64, f ⟨d.val, by omega⟩ := by
  have h := Fin.sum_univ_add (a := 64) (b := 64) (fun x : Fin 128 => if x.val < 64 then f x else 0)
  refine h.trans ?_
  have z : (∑ i : Fin 64, if (Fin.natAdd 64 i : Fin 128).val < 64 then f (Fin.natAdd 64 i) else 0) = 0 :=
    Finset.sum_eq_zero fun i _ => if_neg (by simp)
  rw [z, add_zero]
  exact Finset.sum_congr rfl fun i _ => if_pos i.isLt

theorem sum_hi (f : Fin 128 → EReal) :
    (∑ x : Fin 128, if x.val < 64 then 0 else f x) = ∑ d : Fin 64, f ⟨64 + d.val, by omega⟩ := by
  have h := Fin.sum_univ_add (a := 64) (b := 64) (fun x : Fin 128 => if x.val < 64 then 0 else f x)
  refine h.trans ?_
  have z : (∑ i : Fin 64, if (Fin.castAdd 64 i : Fin 128).val < 64 then 0 else f (Fin.castAdd 64 i)) = 0 :=
    Finset.sum_eq_zero fun i _ => if_pos i.isLt
  rw [z, zero_add]
  exact Finset.sum_congr rfl fun i _ => if_neg (by simp)

theorem normV_lo (k : BitVec 32) (r : Fin 256) (l : Fin 128) (hl : l.val < 64) :
    (normV a g k (ix2 r l) : EReal) = nrm (fun d => a (ix2 r ⟨d.val, by omega⟩)) (g (ix2 0 l)) (Ideal.ofBits .f32 k) ⟨l.val, hl⟩ := by
  pointwise [normV, k0_pay18]
  simp only [Scalar.select, low_iff, if_pos hl, sum_lo, nrm]

theorem normV_hi (k : BitVec 32) (r : Fin 256) (d : Fin 64) :
    (normV a g k (ix2 r ⟨64 + d.val, by omega⟩) : EReal)
      = nrm (fun d => a (ix2 r ⟨64 + d.val, by omega⟩)) (g (ix2 0 ⟨64 + d.val, by omega⟩)) (Ideal.ofBits .f32 k) d := by
  have hl : ¬ IntOp.cmpi .slt (BitVec.ofNat 32 (64 + d.val)) 64#32 = 1 :=
    fun h => absurd ((low_iff ⟨64 + d.val, by omega⟩).1 h) (by simp)
  pointwise [normV, k0_pay18]
  simp only [Scalar.select, low_iff, if_neg hl, sum_hi, nrm]

theorem packQ_apply (r : Fin 256) (l : Fin 128) : (packQ a hi mid lo (ix3 0 r l) : EReal) =
   if l.val < 64 then a (ix2 r l) else if l.val = 64 then hi (ix2 r l) else if l.val = 65 then mid (ix2 r l) else if l.val = 66 then lo (ix2 r l)
     else if l.val < 70 then 1 else 0 := by
  pointwise [packQ, k0_pay18]
  simp only [Scalar.select, low_iff, e0_iff, e1_iff, e2_iff, s6_iff]

theorem packK_apply (r : Fin 256) (l : Fin 128) : (packK a hi mid lo (ix3 0 r l) : EReal) =
   if l.val < 64 then a (ix2 r l) else if l.val < 67 then 1 else if l.val = 67 then -hi (ix2 r l) else if l.val = 68 then -mid (ix2 r l)
     else if l.val = 69 then -lo (ix2 r l) else 0 := by
  pointwise [packK, k0_pay18]
  simp only [Scalar.select, low_iff, e3_iff, e4_iff, e5_iff, s3_iff, zero_sub]

theorem packV_apply (r : Fin 256) (l : Fin 128) : (packV a (ix3 0 r l) : EReal) =
   if l.val < 64 then a (ix2 r l) else if l.val = 64 then 1 else 0 := by
  pointwise [packV, k0_pay18]
  simp only [Scalar.select, low_iff, e0_iff]

theorem colV_apply (n : Fin 128) (h : S256x128.Slices ![0, n.val] S256x1) (r : Fin 256) (l : Fin 128) :
    colV n.val h a (ix2 r l) = a (ix2 r n) := by
  pointwise [colV]

theorem rotV_apply (r : Fin 256) (l : Fin 128) (hl : l.val < 64) : rotV a (ix2 r l) = a (ix2 r ⟨64 + l.val, by omega⟩) := by
  pointwise [rotV]
  have e : (⟨(l.val + 128 - 64) % 128, Nat.mod_lt _ (by norm_num)⟩ : Fin 128) = ⟨64 + l.val, by omega⟩ := Fin.ext (by
    show (l.val + 128 - 64) % 128 = 64 + l.val
    omega)
  exact congrArg (fun j => a (ix2 r j)) e

/-! ## The projections and the prefix sum of the gates -/

theorem u_apply (x0 : Vec Ideal S256x1024 .f32) (x1 : Vec Ideal S1x1024 .f32) (x2 : Vec Ideal S1024x896 .bf16) (r : Fin 256) (l : Fin 896) :
    (k0_pay5 x0 x1 x2 (ix2 r l) : EReal)
      = Ffn.proj (fun d => x0 (ix2 r d)) (fun d => x1 (ix2 0 d)) (fun d => x2 (ix2 d l)) := by
  pointwise [k0_pay5]
  simp only [Ffn.proj, Ffn.normRow]

/-- The logarithm of the logistic function, as the body computes it. -/
def lsig (z : EReal) : EReal := min z 0 - Ideal.log1p (Ideal.exp (-max z (-z)))

theorem ls_apply (x0 : Vec Ideal S256x1024 .f32) (x1 : Vec Ideal S1x1024 .f32) (x2 : Vec Ideal S1024x896 .bf16)
    (x3 : Vec Ideal S1x128 .f32) (r : Fin 256) (l : Fin 128) :
    (k0_pay6 x0 x1 x2 x3 (ix2 r l) : EReal) = lsig (k0_pay5 x0 x1 x2 (ix2 r ⟨768 + l.val, by omega⟩) + x3 (ix2 0 l)) := by
  unfold k0_pay6
  generalize k0_pay5 x0 x1 x2 = u
  pointwise
  simp only [lsig, zero_sub]
  rfl

theorem le_iff : ∀ x r : Fin 256, IntOp.cmpi .sle (BitVec.ofNat 32 x.val) (BitVec.ofNat 32 r.val) = 1 ↔ x.val ≤ r.val := by
  intro x r
  have hx : (BitVec.ofNat 32 x.val).toInt = x.val := by
    rw [BitVec.toInt_eq_toNat_cond, BitVec.toNat_ofNat, Nat.mod_eq_of_lt (by omega), if_pos (by omega)]
  have hr : (BitVec.ofNat 32 r.val).toInt = r.val := by
    rw [BitVec.toInt_eq_toNat_cond, BitVec.toNat_ofNat, Nat.mod_eq_of_lt (by omega), if_pos (by omega)]
  by_cases h : x ≤ r <;> simp [IntOp.cmpi, BitVec.sle, hx, hr, h]

/-- Where a column's gates are real, the body's three triangular products sum them up to the row, beside the carried sum. -/
theorem c_apply (ls : V) (cr : Vec Ideal S1x128 .f32) (r : Fin 256) (l : Fin 128)
    (h : ∀ x : Fin 256, ∃ a : ℝ, (ls (ix2 x l) : EReal) = a) :
    (k0_pay10 ls k0_pay7 k0_pay8 k0_pay9 cr (ix2 r l) : EReal)
      = (∑ x : Fin 256, if x.val ≤ r.val then (ls (ix2 x l) : EReal) else 0) + cr (ix2 0 l) := by
  pointwise [k0_pay10, k0_pay7, k0_pay8, k0_pay9]
  have z : ∀ x : Fin 256, (ls (ix2 x l) : EReal) - ls (ix2 x l) = 0 := fun x => by
    obtain ⟨a, ha⟩ := h x
    rw [ha]
    exact EReal.sub_self (EReal.coe_ne_top a) (EReal.coe_ne_bot a)
  simp only [Scalar.select, le_iff, z, sub_zero, ite_self, Finset.sum_const_zero, add_zero]

/-- Where an element is real, its first summand is itself and the other two are zero. -/
theorem split_apply (ls : V) (cr : Vec Ideal S1x128 .f32) (i : S256x128.Idx) {a : ℝ}
    (h : (k0_pay10 ls k0_pay7 k0_pay8 k0_pay9 cr i : EReal) = a) :
    (k0_pay15 ls k0_pay7 k0_pay8 k0_pay9 cr i : EReal) = a ∧ (k0_pay16 ls k0_pay7 k0_pay8 k0_pay9 cr i : EReal) = 0
      ∧ (k0_pay17 ls k0_pay7 k0_pay8 k0_pay9 cr i : EReal) = 0 := by
  have z : (a : EReal) - a = 0 := EReal.sub_self (EReal.coe_ne_top a) (EReal.coe_ne_bot a)
  have e1 : (k0_pay15 ls k0_pay7 k0_pay8 k0_pay9 cr i : EReal) = k0_pay10 ls k0_pay7 k0_pay8 k0_pay9 cr i := rfl
  have e2 : (k0_pay16 ls k0_pay7 k0_pay8 k0_pay9 cr i : EReal)
      = (k0_pay10 ls k0_pay7 k0_pay8 k0_pay9 cr i : EReal) - k0_pay10 ls k0_pay7 k0_pay8 k0_pay9 cr i := rfl
  have e3 : (k0_pay17 ls k0_pay7 k0_pay8 k0_pay9 cr i : EReal)
      = ((k0_pay10 ls k0_pay7 k0_pay8 k0_pay9 cr i : EReal) - k0_pay10 ls k0_pay7 k0_pay8 k0_pay9 cr i)
        - ((k0_pay10 ls k0_pay7 k0_pay8 k0_pay9 cr i : EReal) - k0_pay10 ls k0_pay7 k0_pay8 k0_pay9 cr i) := rfl
  rw [e1, e2, e3, h, z]
  simp

/-- The carried row the body stores: the tile's last prefix sums. -/
theorem carry_apply (ls : V) (cr : Vec Ideal S1x128 .f32) (l : Fin 128) :
    (k0_pay11 ls k0_pay7 k0_pay8 k0_pay9 cr (ix2 0 l) : EReal) = k0_pay10 ls k0_pay7 k0_pay8 k0_pay9 cr (ix2 255 l) := by
  unfold k0_pay11
  generalize k0_pay10 ls k0_pay7 k0_pay8 k0_pay9 cr = q
  pointwise

end Cert.Proof.Prep

end
-- ==== Proof.PrepRef.lean ====
/-
  The projections of the forgetting attention: the reference's three arrays, read element by element.
-/
module

public import proofs.«01_k».proof.Proof.Gen.Reference4Ideal.Read
public import proofs.«01_k».proof.Proof.PrepPay
public import proofs.«01_k».proof.Proof.FoxMath
public import Idealize.ShloMosaic.Lib.Pointwise
public import Idealize.ShloMosaic.Lib.Routing.OpsOne

@[expose] public section

noncomputable section

namespace Cert.Proof.Prep

open Idealize.ShloMosaic.Routing (shape2 shape0)

open Idealize.ShloMosaic Idealize.ShloMosaic.TcCoe Idealize.SL.Sem

/-! ## A running sum down the columns of a matrix -/

/-- A fold of additions is the sum. -/
theorem foldl_add {α : Type} (l : List α) (f : α → EReal) (a : EReal) : l.foldl (fun r n => r + f n) a = a + (l.map f).sum := by
  induction l generalizing a with
  | nil => simp
  | cons x l ih => rw [List.foldl_cons, ih, List.map_cons, List.sum_cons, add_assoc]

/-- The terms of a window that reaches `j` back are the terms up to `j`. -/
theorem sum_window_le (X : ℕ → EReal) (R j : ℕ) (hj : j < R) :
    (∑ n ∈ Finset.range R, if R - 1 ≤ j + n then X (j + n - (R - 1)) else 0) = ∑ i ∈ Finset.range R, if i ≤ j then X i else 0 := by
  rw [← Finset.sum_filter, ← Finset.sum_filter]
  refine Finset.sum_nbij' (fun n => j + n - (R - 1)) (fun i => i + (R - 1) - j) ?_ ?_ ?_ ?_ ?_
  all_goals intro n hn
  all_goals simp only [Finset.mem_filter, Finset.mem_range] at hn ⊢
  all_goals omega

/-- Entry `(j, c)` of the running sum down a matrix's columns is the sum of the entries `(i, c)` with `i ≤ j`. -/
theorem cumsum_apply {R Rm1 C : ℕ} (hR : Rm1 + 1 = R) (x : FVec Ideal (shape2 R C) .f32) (init : FVec Ideal shape0 .f32)
    (hinit : (init ix0 : EReal) = 0)
    (h : (shape2 R C).ReduceWindows (![R, 1] : Fin 2 → ℕ) ![1, 1] ![Rm1, 0] ![0, 0] (shape2 R C)) (hu : 0 < shape0.numel)
    (j : Fin R) (c : Fin C) :
    (Host.reduceWindowAdd ![R, 1] ![1, 1] ![Rm1, 0] ![0, 0] x init h hu (ix2 j c) : EReal)
      = ∑ i : Fin R, if i.val ≤ j.val then (x (ix2 i c) : EReal) else 0 := by
  subst hR
  have hj := j.isLt
  have hc := c.isLt
  have hv : (init (Shape.Idx.first hu) : EReal) = 0 := (congrArg init (funext fun a => a.elim0)).trans hinit
  let X : ℕ → EReal := fun i => if hi : i < Rm1 + 1 then x (ix2 ⟨i, hi⟩ c) else 0
  show (List.finRange (shape2 (Rm1 + 1) 1).numel).foldl (fun (r : EReal) n => r + _) (init (Shape.Idx.first hu) : EReal) = _
  rw [foldl_add, hv, zero_add]
  refine (congrArg List.sum (List.map_congr_left
    (g := fun n => if Rm1 + 1 - 1 ≤ j.val + n.val then X (j.val + n.val - (Rm1 + 1 - 1)) else 0) (fun n _ => ?_))).trans ?_
  · show _ = if Rm1 + 1 - 1 ≤ j.val + n.val then X (j.val + n.val - (Rm1 + 1 - 1)) else 0
    have hw0 : ((shape2 (Rm1 + 1) 1).rowMajor.symm n 0).val = n.val := by rw [Routing.symm_col]; rfl
    have hw1 : ((shape2 (Rm1 + 1) 1).rowMajor.symm n 1).val = 0 := by rw [Routing.symm_col]; rfl
    have hn : n.val < Rm1 + 1 := (n.cast (Routing.numel_col _)).isLt
    split
    · next hin =>
      have h0 := hin 0
      change Rm1 ≤ j.val * 1 + ((shape2 (Rm1 + 1) 1).rowMajor.symm n 0).val
        ∧ j.val * 1 + ((shape2 (Rm1 + 1) 1).rowMajor.symm n 0).val - Rm1 < Rm1 + 1 at h0
      rw [hw0] at h0
      rw [if_pos (by omega)]
      have hlt : j.val + n.val - (Rm1 + 1 - 1) < Rm1 + 1 := by omega
      dsimp only [X]
      rw [dif_pos hlt]
      refine congrArg x (funext fun a => Fin.ext ?_)
      match a with
      | ⟨0, _⟩ =>
        show j.val * 1 + ((shape2 (Rm1 + 1) 1).rowMajor.symm n 0).val - Rm1 = j.val + n.val - (Rm1 + 1 - 1)
        rw [hw0]; omega
      | ⟨1, _⟩ =>
        show c.val * 1 + ((shape2 (Rm1 + 1) 1).rowMajor.symm n 1).val - 0 = c.val
        rw [hw1]; omega
    · next hin =>
      rw [if_neg fun hle => hin fun a => by
        match a with
        | ⟨0, _⟩ =>
          show Rm1 ≤ j.val * 1 + ((shape2 (Rm1 + 1) 1).rowMajor.symm n 0).val
            ∧ j.val * 1 + ((shape2 (Rm1 + 1) 1).rowMajor.symm n 0).val - Rm1 < Rm1 + 1
          rw [hw0]; omega
        | ⟨1, _⟩ =>
          show 0 ≤ c.val * 1 + ((shape2 (Rm1 + 1) 1).rowMajor.symm n 1).val ∧ c.val * 1 + ((shape2 (Rm1 + 1) 1).rowMajor.symm n 1).val - 0 < C
          rw [hw1]; omega]
  rw [← Fin.sum_univ_def, ← Finset.sum_range (fun n => if Rm1 + 1 - 1 ≤ j.val + n then X (j.val + n - (Rm1 + 1 - 1)) else 0),
    show (shape2 (Rm1 + 1) 1).numel = Rm1 + 1 from Routing.numel_col _, sum_window_le X (Rm1 + 1) j.val hj, Finset.sum_range]
  refine Finset.sum_congr rfl fun i _ => ?_
  dsimp only [X]
  rw [dif_pos i.isLt]

/-! ## The specification -/

section Spec
variable (x0 : FVec Ideal Cert.Reference4Ideal.S16384x1024 .f32) (x1 : FVec Ideal Cert.Reference4Ideal.S1024 .f32)
  (x2 : FVec Ideal Cert.Reference4Ideal.S1024x8220 .f32) (x3 : FVec Ideal Cert.Reference4Ideal.S4 .f32)

/-- Element `n` of row `r` of the projections. -/
def prj (r : Fin 16384) (n : ℕ) (hn : n < 772) : EReal :=
  Ffn.proj (fun d => x0 (ix2 r d)) (fun d => x1 (ix1 d)) (fun d => x2 (ix2 d ⟨n, by omega⟩))

/-- The log forget gate of row `r` and head `h`. -/
def gate (r : Fin 16384) (h : Fin 4) : EReal := lsig (prj x0 x1 x2 r (768 + h.val) (by omega) + x3 (ix1 h))

/-- The prefix sum of the log forget gates of head `h`, up to row `r`. -/
def pfx (r : Fin 16384) (h : Fin 4) : EReal := ∑ w : Fin 16384, if w.val ≤ r.val then gate x0 x1 x2 x3 w h else 0

/-- Lane `l` of a query row: the normalized query, the prefix sum and two zeros, three ones, zeros. -/
def qEl (a g : Fin 64 → EReal) (c : EReal) (l : Fin 128) : EReal :=
  if h : l.val < 64 then nrm a (g ⟨l.val, h⟩) (Ideal.ofBits .f32 0x3E000000#32) ⟨l.val, h⟩
  else if l.val = 64 then c else if l.val < 67 then 0 else if l.val < 70 then 1 else 0

/-- Lane `l` of a key row: the normalized key, three ones, the prefix sum negated, zeros. -/
def kEl (a g : Fin 64 → EReal) (c : EReal) (l : Fin 128) : EReal :=
  if h : l.val < 64 then nrm a (g ⟨l.val, h⟩) 1 ⟨l.val, h⟩
  else if l.val < 67 then 1 else if l.val = 67 then -c else 0

/-- Lane `l` of a value row: the value, a one, zeros. -/
def vEl (a : Fin 64 → EReal) (l : Fin 128) : EReal :=
  if h : l.val < 64 then a ⟨l.val, h⟩ else if l.val = 64 then 1 else 0

end Spec

/-! ## Arithmetic -/

theorem word_64 : Ideal.ofBits .f32 0x42800000#32 = ((64 : ℝ) : EReal) := by
  simp [Ideal.ofBits, Ideal.ieee, -EReal.coe_mul]; norm_num

theorem word_64th : Ideal.ofBits .f32 0x3C800000#32 = ((1 / 64 : ℝ) : EReal) := by
  simp [Ideal.ofBits, Ideal.ieee, -EReal.coe_mul]; norm_num

theorem word_1024 : Ideal.ofBits .f32 0x44800000#32 = ((1024 : ℝ) : EReal) := by
  simp [Ideal.ofBits, Ideal.ieee, -EReal.coe_mul]; norm_num

/-- The norm's small constant is a positive real. -/
theorem word_eps : ∃ a : ℝ, 0 < a ∧ Ideal.ofBits .f32 0x358637BD#32 = (a : EReal) := by
  refine ⟨(8796093 : ℝ) * 2 ^ (-43 : ℤ), by positivity, ?_⟩
  simp [Ideal.ofBits, Ideal.ieee, -EReal.coe_mul]

/-- Division by the word of 64 is multiplication by the word of its inverse. -/
theorem div_64 (a : EReal) : Ideal.div a (Ideal.ofBits .f32 0x42800000#32) = a * Ideal.ofBits .f32 0x3C800000#32 := by
  rw [word_64, word_64th, Ideal.div_coe (by norm_num)]

/-! ## The gates are real -/

theorem coe_max (a b : ℝ) : ((max a b : ℝ) : EReal) = max (a : EReal) (b : EReal) := EReal.coe_strictMono.monotone.map_max
theorem coe_min (a b : ℝ) : ((min a b : ℝ) : EReal) = min (a : EReal) (b : EReal) := EReal.coe_strictMono.monotone.map_min

theorem coe_sum {n : ℕ} (y : Fin n → ℝ) : ((∑ i, y i : ℝ) : EReal) = ∑ i, (y i : EReal) := by
  induction n with
  | zero => simp
  | succ n ih => rw [Fin.sum_univ_succ, Fin.sum_univ_succ, EReal.coe_add, ih]

/-- The logarithm in the gate is real at a real. -/
theorem soft_real (a : ℝ) : ∃ b : ℝ, Ideal.log1p (Ideal.exp (-max (a : EReal) (-(a : EReal)))) = (b : EReal) := by
  have e : (-max (a : EReal) (-(a : EReal))) = ((-max a (-a) : ℝ) : EReal) := by
    rw [← EReal.coe_neg, ← coe_max, ← EReal.coe_neg]
  rw [e]
  have hp : ¬ (1 + Real.exp (-max a (-a)) ≤ 0) := not_le.2 (by positivity)
  refine ⟨Real.log (1 + Real.exp (-max a (-a))), ?_⟩
  show Ideal.log (1 + ((Real.exp (-max a (-a)) : ℝ) : EReal)) = _
  rw [← EReal.coe_one, ← EReal.coe_add]
  show (if 1 + Real.exp (-max a (-a)) ≤ 0 then (⊥ : EReal) else _) = _
  rw [if_neg hp]

/-- The logarithm of the logistic function, as the reference computes it. -/
theorem lsig_eq (a : ℝ) : -(max (-(a : EReal)) 0 + Ideal.log1p (Ideal.exp (-max (-(a : EReal)) (- -(a : EReal))))) = lsig a := by
  unfold lsig
  rw [neg_neg, max_comm (-(a : EReal)) (a : EReal)]
  obtain ⟨b, hb⟩ := soft_real a
  rw [hb, ← EReal.coe_zero, ← EReal.coe_neg, ← coe_max, ← coe_min, ← EReal.coe_add, ← EReal.coe_neg, ← EReal.coe_sub]
  congr 1
  rcases le_total a 0 with h | h
  · rw [max_eq_left (by linarith), min_eq_left h]; ring
  · rw [max_eq_right (by linarith), min_eq_right h]; ring

/-- It is real at a real. -/
theorem lsig_real (a : ℝ) : ∃ b : ℝ, lsig a = (b : EReal) := by
  obtain ⟨b, hb⟩ := soft_real a
  refine ⟨min a 0 - b, ?_⟩
  unfold lsig
  rw [hb, ← EReal.coe_zero, ← coe_min, ← EReal.coe_sub]

theorem real_sum {n : ℕ} (f : Fin n → EReal) (h : ∀ i, ∃ a : ℝ, f i = (a : EReal)) : ∃ a : ℝ, ∑ i, f i = (a : EReal) := by
  choose y hy using h
  refine ⟨∑ i, y i, ?_⟩
  rw [coe_sum]
  exact Finset.sum_congr rfl fun i _ => hy i

/-- A normalized row is real wherever its gain is, whatever the row. -/
theorem normRow_real (x g : Fin 1024 → EReal) (hg : ∀ d, ∃ a : ℝ, g d = (a : EReal)) (d : Fin 1024) :
    ∃ a : ℝ, Ffn.normRow x g d = (a : EReal) := by
  obtain ⟨b, hb⟩ := hg d
  obtain ⟨ep, hep, he⟩ := word_eps
  unfold Ffn.normRow
  rw [word_1024, Ideal.div_coe (by norm_num), he, hb]
  by_cases hx : ∃ e, x e = ⊤ ∨ x e = ⊥
  · obtain ⟨e, hxe⟩ := hx
    have ht : x e * x e = ⊤ := by rcases hxe with h | h <;> rw [h] <;> rfl
    have hs : (∑ e, x e * x e) = ⊤ := by
      refine top_le_iff.1 (ht ▸ Finset.single_le_sum (f := fun e => x e * x e) (fun i _ => ?_) (Finset.mem_univ e))
      induction x i using EReal.rec with
      | bot => show (0 : EReal) ≤ ⊥ * ⊥; rw [EReal.bot_mul_bot]; exact le_top
      | top => show (0 : EReal) ≤ ⊤ * ⊤; rw [EReal.top_mul_top]; exact le_top
      | coe y => rw [← EReal.coe_mul]; exact_mod_cast mul_self_nonneg y
    rw [hs, EReal.top_mul_coe_of_pos (by norm_num), EReal.top_add_coe]
    refine ⟨0, ?_⟩
    show x d * 0 * (b : EReal) = _
    rw [mul_zero, zero_mul, EReal.coe_zero]
  · have hr : ∀ i, ∃ a : ℝ, x i = (a : EReal) := fun i =>
      FoxMath.exists_real (fun h => hx ⟨i, .inl h⟩) (fun h => hx ⟨i, .inr h⟩)
    choose y hy using hr
    have hs : (∑ e, x e * x e) = ((∑ e, y e * y e : ℝ) : EReal) := by
      rw [coe_sum]
      exact Finset.sum_congr rfl fun i _ => by rw [hy i, EReal.coe_mul]
    rw [hs, ← EReal.coe_mul, ← EReal.coe_add, hy d]
    have hpos : 0 < (∑ e, y e * y e) * (1 / 1024) + ep :=
      add_pos_of_nonneg_of_pos (mul_nonneg (Finset.sum_nonneg fun i _ => mul_self_nonneg _) (by norm_num)) hep
    refine ⟨y d * (Real.sqrt ((∑ e, y e * y e) * (1 / 1024) + ep))⁻¹ * b, ?_⟩
    rw [EReal.coe_mul, EReal.coe_mul]
    congr 2
    show (if _ < (0 : ℝ) then (⊥ : EReal) else if _ = (0 : ℝ) then ⊤ else _) = _
    rw [if_neg (not_lt.2 hpos.le), if_neg hpos.ne']

/-- So is its product with a real column. -/
theorem proj_real (x g w : Fin 1024 → EReal) (hg : ∀ d, ∃ a : ℝ, g d = (a : EReal)) (hw : ∀ d, ∃ a : ℝ, w d = (a : EReal)) :
    ∃ a : ℝ, Ffn.proj x g w = (a : EReal) := by
  refine real_sum _ fun d => ?_
  obtain ⟨a, ha⟩ := normRow_real x g hg d
  obtain ⟨b, hb⟩ := hw d
  exact ⟨a * b, by rw [ha, hb, EReal.coe_mul]⟩

/-! ## The reference's arrays -/

section Ref
open Cert.Reference4Ideal

variable (x0 : FVec Ideal S16384x1024 .f32) (x1 : FVec Ideal S1024 .f32) (x2 : FVec Ideal S1024x8220 .f32) (x3 : FVec Ideal S4 .f32)

/-- What the precondition states: the numbers that the gates are computed from are real. -/
structure Fin4 (x1 : FVec Ideal S1024 .f32) (x2 : FVec Ideal S1024x8220 .f32) (x3 : FVec Ideal S4 .f32) : Prop where
  ln : ∀ d : Fin 1024, ∃ a : ℝ, (x1 (ix1 d) : EReal) = a
  w : ∀ (d : Fin 1024) (h : Fin 4), ∃ a : ℝ, (x2 (ix2 d ⟨768 + h.val, by omega⟩) : EReal) = a
  bf : ∀ h : Fin 4, ∃ a : ℝ, (x3 (ix1 h) : EReal) = a

theorem z_real (H : Fin4 x1 x2 x3) (r : Fin 16384) (h : Fin 4) :
    ∃ a : ℝ, prj x0 x1 x2 r (768 + h.val) (by omega) + x3 (ix1 h) = (a : EReal) := by
  obtain ⟨a, ha⟩ := proj_real (fun d => x0 (ix2 r d)) (fun d => x1 (ix1 d)) (fun d => x2 (ix2 d ⟨768 + h.val, by omega⟩)) H.ln (fun d => H.w d h)
  obtain ⟨b, hb⟩ := H.bf h
  exact ⟨a + b, by unfold prj; rw [ha, hb, EReal.coe_add]⟩

theorem gate_real (H : Fin4 x1 x2 x3) (r : Fin 16384) (h : Fin 4) : ∃ a : ℝ, gate x0 x1 x2 x3 r h = (a : EReal) := by
  obtain ⟨z, hz⟩ := z_real x0 x1 x2 x3 H r h
  unfold gate
  rw [hz]
  exact lsig_real z

theorem v14_apply (r : Fin 16384) (n : ℕ) (hn : n < 772) :
    Read.val_main_v14 (F := Ideal) x0 x1 x2 (ix2 r ⟨n, hn⟩) = prj x0 x1 x2 r n hn := by
  unfold prj
  pointwise [Read.val_main_v14, Read.val_main_v13, Read.val_main_v12, Read.val_main_v11, Read.val_main_v10, Read.val_main_v9,
    Read.val_main_v8, Read.val_main_v7, Read.val_main_v6, Read.val_main_v5, Read.val_main_v4, Read.val_main_v3, Read.val_main_v2,
    Read.val_main_v1, Read.val_main_v0, Read.val_main_cst, Read.val_main_cst_0, Read.val_main_cst_1]
  simp only [Ffn.proj, Ffn.normRow]

/-- Row `r`, head `h`, of the queries before their norm; likewise the keys and the values. -/
theorem v16_apply (r : Fin 16384) (h : Fin 4) (d : Fin 64) :
    Read.val_main_v16 (F := Ideal) x0 x1 x2 (ix3 r h d) = prj x0 x1 x2 r (h.val * 64 + d.val) (by omega) := by
  unfold Read.val_main_v16 Read.val_main_v15
  rw [← v14_apply]
  generalize Read.val_main_v14 (F := Ideal) x0 x1 x2 = y
  pointwise

theorem v33_apply (r : Fin 16384) (h : Fin 4) (d : Fin 64) :
    Read.val_main_v33 (F := Ideal) x0 x1 x2 (ix3 r h d) = prj x0 x1 x2 r (256 + (h.val * 64 + d.val)) (by omega) := by
  unfold Read.val_main_v33 Read.val_main_v32
  rw [← v14_apply]
  generalize Read.val_main_v14 (F := Ideal) x0 x1 x2 = y
  pointwise

theorem v48_apply (r : Fin 16384) (h : Fin 4) (d : Fin 64) :
    Read.val_main_v48 (F := Ideal) x0 x1 x2 (ix3 r h d) = prj x0 x1 x2 r (512 + (h.val * 64 + d.val)) (by omega) := by
  unfold Read.val_main_v48 Read.val_main_v47
  rw [← v14_apply]
  generalize Read.val_main_v14 (F := Ideal) x0 x1 x2 = y
  pointwise

theorem v31_apply (x4 : FVec Ideal S64 .f32) (r : Fin 16384) (h : Fin 4) (d : Fin 64) :
    (Read.val_main_v31 (F := Ideal) x0 x1 x2 x4 (ix3 r h d) : EReal)
      = nrm (fun d => prj x0 x1 x2 r (h.val * 64 + d.val) (by omega)) (x4 (ix1 d)) (Ideal.ofBits .f32 0x3E000000#32) d := by
  unfold nrm
  simp only [← v16_apply, ← div_64]
  unfold Read.val_main_v31 Read.val_main_v30 Read.val_main_v29 Read.val_main_v28 Read.val_main_v27 Read.val_main_v26 Read.val_main_v25
    Read.val_main_v24 Read.val_main_v23 Read.val_main_v22 Read.val_main_v21 Read.val_main_v20 Read.val_main_v19 Read.val_main_v18
    Read.val_main_v17 Read.val_main_cst_2 Read.val_main_cst_3 Read.val_main_cst_4 Read.val_main_cst_5
  generalize Read.val_main_v16 (F := Ideal) x0 x1 x2 = y
  pointwise
  rw [mul_assoc]

theorem v46_apply (x5 : FVec Ideal S64 .f32) (r : Fin 16384) (h : Fin 4) (d : Fin 64) :
    (Read.val_main_v46 (F := Ideal) x0 x1 x2 x5 (ix3 r h d) : EReal)
      = nrm (fun d => prj x0 x1 x2 r (256 + (h.val * 64 + d.val)) (by omega)) (x5 (ix1 d)) 1 d := by
  unfold nrm
  simp only [← v33_apply, ← div_64]
  unfold Read.val_main_v46 Read.val_main_v45 Read.val_main_v44 Read.val_main_v43 Read.val_main_v42
    Read.val_main_v41 Read.val_main_v40 Read.val_main_v39 Read.val_main_v38 Read.val_main_v37 Read.val_main_v36 Read.val_main_v35
    Read.val_main_v34 Read.val_main_cst_6 Read.val_main_cst_7 Read.val_main_cst_8
  generalize Read.val_main_v33 (F := Ideal) x0 x1 x2 = y
  pointwise

/-- The log forget gate, as the reference computes it. -/
theorem v53_apply (H : Fin4 x1 x2 x3) (r : Fin 16384) (h : Fin 4) :
    (Read.val_main_v53 (F := Ideal) x0 x1 x2 x3 (ix2 r h) : EReal) = gate x0 x1 x2 x3 r h := by
  obtain ⟨z, hz⟩ := z_real x0 x1 x2 x3 H r h
  have e : (Read.val_main_v52 (F := Ideal) x0 x1 x2 x3 (ix2 r h) : EReal) = z := by
    rw [← hz, ← v14_apply]
    unfold Read.val_main_v52 Read.val_main_v51 Read.val_main_v50 Read.val_main_v49
    generalize Read.val_main_v14 (F := Ideal) x0 x1 x2 = y
    pointwise
  unfold gate
  rw [hz, ← lsig_eq, ← e]
  unfold Read.val_main_v53 Read.val_main_call0_v1 Read.val_main_call0_call0_v11 Read.val_main_call0_call0_v10 Read.val_main_call0_call0_v9
    Read.val_main_call0_call0_v8 Read.val_main_call0_call0_v7 Read.val_main_call0_call0_v6 Read.val_main_call0_call0_v5
    Read.val_main_call0_call0_v4 Read.val_main_call0_call0_v3 Read.val_main_call0_call0_v2 Read.val_main_call0_call0_v1
    Read.val_main_call0_call0_v0 Read.val_main_call0_v0 Read.val_main_call0_call0_cst
  generalize Read.val_main_v52 (F := Ideal) x0 x1 x2 x3 = y
  pointwise
  exact congrArg Neg.neg (if_neg (fun hne => hne rfl))

theorem v54_apply (H : Fin4 x1 x2 x3) (r : Fin 16384) (h : Fin 4) :
    (Read.val_main_v54 (F := Ideal) x0 x1 x2 x3 (ix2 r h) : EReal) = pfx x0 x1 x2 x3 r h := by
  unfold Read.val_main_v54 pfx
  simp only [← v53_apply x0 x1 x2 x3 H]
  refine cumsum_apply (R := 16384) (Rm1 := 16383) (C := 4) rfl _ _ ?_ _ _ r h
  unfold Read.val_main_call1_call0_v0 Read.val_main_call1_call0_cst
  pointwise

theorem ref_q (H : Fin4 x1 x2 x3) (x4 : FVec Ideal S64 .f32) (h : Fin 4) (r : Fin 16384) (l : Fin 128) :
    (Read.val_main_v61 (F := Ideal) x0 x1 x2 x3 x4 (ix3 h r l) : EReal)
      = qEl (fun d => prj x0 x1 x2 r (h.val * 64 + d.val) (by omega)) (fun d => x4 (ix1 d)) (pfx x0 x1 x2 x3 r h) l := by
  unfold qEl
  simp only [← v31_apply, ← v54_apply x0 x1 x2 x3 H]
  unfold Read.val_main_v61 Read.val_main_v60 Read.val_main_v59 Read.val_main_v58 Read.val_main_v57 Read.val_main_v56 Read.val_main_v55
    Read.val_main_cst_9 Read.val_main_cst_10 Read.val_main_cst_11
  generalize Read.val_main_v31 (F := Ideal) x0 x1 x2 x4 = y
  generalize Read.val_main_v54 (F := Ideal) x0 x1 x2 x3 = y'
  pointwise
  split_ifs <;> first | rfl | (exfalso; omega)

theorem ref_k (H : Fin4 x1 x2 x3) (x5 : FVec Ideal S64 .f32) (h : Fin 4) (r : Fin 16384) (l : Fin 128) :
    (Read.val_main_v67 (F := Ideal) x0 x1 x2 x3 x5 (ix3 h r l) : EReal)
      = kEl (fun d => prj x0 x1 x2 r (256 + (h.val * 64 + d.val)) (by omega)) (fun d => x5 (ix1 d)) (pfx x0 x1 x2 x3 r h) l := by
  unfold kEl
  simp only [← v46_apply, ← v54_apply x0 x1 x2 x3 H]
  unfold Read.val_main_v67 Read.val_main_v66 Read.val_main_v65 Read.val_main_v64 Read.val_main_v63 Read.val_main_v62 Read.val_main_v55
    Read.val_main_cst_12 Read.val_main_cst_13
  generalize Read.val_main_v46 (F := Ideal) x0 x1 x2 x5 = y
  generalize Read.val_main_v54 (F := Ideal) x0 x1 x2 x3 = y'
  pointwise
  split_ifs <;> first | rfl | (exfalso; omega)

theorem ref_v (h : Fin 4) (r : Fin 16384) (l : Fin 128) :
    (Read.val_main_v72 (F := Ideal) x0 x1 x2 (ix3 h r l) : EReal)
      = vEl (fun d => prj x0 x1 x2 r (512 + (h.val * 64 + d.val)) (by omega)) l := by
  have e : vEl (fun d => prj x0 x1 x2 r (512 + (h.val * 64 + d.val)) (by omega)) l
      = vEl (fun d => Read.val_main_v48 (F := Ideal) x0 x1 x2 (ix3 r h d)) l := by simp only [v48_apply]
  rw [e]
  unfold vEl Read.val_main_v72 Read.val_main_v71 Read.val_main_v70 Read.val_main_v69 Read.val_main_v68
    Read.val_main_cst_14 Read.val_main_cst_15
  generalize Read.val_main_v48 (F := Ideal) x0 x1 x2 = y
  pointwise
  split_ifs <;> first | rfl | (exfalso; omega)

end Ref

end Cert.Proof.Prep

end
-- ==== Proof.PrepHead.lean ====
/-
  The projections of the forgetting attention: the rows that the kernel stores for each of the four heads, as the rows of the
  problem's mathematics.
-/
module

public import proofs.«01_k».proof.Proof.PrepPay
public import proofs.«01_k».proof.Proof.PrepRef
public import Idealize.ShloMosaic.Lib.Pipeline.ValueKit

@[expose] public section

noncomputable section

namespace Cert.Proof.Prep

open Idealize.ShloMosaic Idealize.ShloMosaic.TcCoe Idealize.SL.Sem
open Cert.Kernel4Ideal Cert.Kernel4Ideal.Gen

/-! ## One head -/

section Head

variable (ls : V) (cr : Vec Ideal S1x128 .f32) (n : Fin 128) (hn : S256x128.Slices ![0, n.val] S256x1)
  (x : V) (g : Vec Ideal S1x128 .f32) (r : Fin 256) (l : Fin 128)

/-- A head's sum of gates up to each row. -/
abbrev csum : V := k0_pay10 ls k0_pay7 k0_pay8 k0_pay9 cr

theorem ofBits_one : Ideal.ofBits .f32 0x3F800000#32 = 1 := by simp

/-- The ladder of a query row, where the sum's first summand is itself and the other two are zero. -/
theorem packQ_real (a : V) (H : ∃ c : ℝ, (csum ls cr (ix2 r n) : EReal) = c) :
    (packQ a (colV n.val hn (k0_pay15 ls k0_pay7 k0_pay8 k0_pay9 cr)) (colV n.val hn (k0_pay16 ls k0_pay7 k0_pay8 k0_pay9 cr))
        (colV n.val hn (k0_pay17 ls k0_pay7 k0_pay8 k0_pay9 cr)) (ix3 0 r l) : EReal)
      = if l.val < 64 then (a (ix2 r l) : EReal) else if l.val = 64 then (csum ls cr (ix2 r n) : EReal) else if l.val < 67 then 0
        else if l.val < 70 then 1 else 0 := by
  obtain ⟨c, hc⟩ := H
  obtain ⟨h1, h2, h3⟩ := split_apply ls cr (ix2 r n) hc
  rw [packQ_apply, colV_apply, colV_apply, colV_apply, h1, h2, h3, hc]
  split_ifs <;> first | rfl | omega

/-- The ladder of a key row, likewise. -/
theorem packK_real (a : V) (H : ∃ c : ℝ, (csum ls cr (ix2 r n) : EReal) = c) :
    (packK a (colV n.val hn (k0_pay15 ls k0_pay7 k0_pay8 k0_pay9 cr)) (colV n.val hn (k0_pay16 ls k0_pay7 k0_pay8 k0_pay9 cr))
        (colV n.val hn (k0_pay17 ls k0_pay7 k0_pay8 k0_pay9 cr)) (ix3 0 r l) : EReal)
      = if l.val < 64 then (a (ix2 r l) : EReal) else if l.val < 67 then 1 else if l.val = 67 then -(csum ls cr (ix2 r n) : EReal)
        else 0 := by
  obtain ⟨c, hc⟩ := H
  obtain ⟨h1, h2, h3⟩ := split_apply ls cr (ix2 r n) hc
  rw [packK_apply, colV_apply, colV_apply, colV_apply, h1, h2, h3, hc]
  simp only [neg_zero, ite_self]

/-- The pair's first row, normalized. -/
theorem low_row (k : BitVec 32) (hl : l.val < 64) :
    (normV x g k (ix2 r l) : EReal)
      = nrm (fun d => x (ix2 r ⟨d.val, by omega⟩)) (g (ix2 0 ⟨l.val, by omega⟩)) (Ideal.ofBits .f32 k) ⟨l.val, hl⟩ :=
  normV_lo g x k r l hl

/-- The pair's second row, normalized and turned into the low lanes, where the gains of the two rows are the same. -/
theorem high_row (k : BitVec 32) (hl : l.val < 64)
    (hg : ∀ d : Fin 64, (g (ix2 0 ⟨64 + d.val, by omega⟩) : EReal) = g (ix2 0 ⟨d.val, by omega⟩)) :
    (rotV (normV x g k) (ix2 r l) : EReal)
      = nrm (fun d => x (ix2 r ⟨64 + d.val, by omega⟩)) (g (ix2 0 ⟨l.val, by omega⟩)) (Ideal.ofBits .f32 k) ⟨l.val, hl⟩ := by
  rw [rotV_apply _ r l hl]
  have h := normV_hi g x k r ⟨l.val, hl⟩
  rw [hg ⟨l.val, hl⟩] at h
  exact h

end Head

/-! ## The four heads -/

/-- A pair's columns: the slice of 128 columns from `o` on. -/
theorem slice_col (u : FVec Ideal S256x896 .f32) (o : ℕ) (h : S256x896.Slices ![0, o] S256x128) (r : Fin 256) (l : Fin 128)
    (hl : o + l.val < 896) : (extractStridedSlice S256x128 ![0, o] u h (ix2 r l) : EReal) = u (ix2 r ⟨o + l.val, hl⟩) := by
  pointwise

section Heads

variable (u : FVec Ideal S256x896 .f32) (ls : V) (cr : Vec Ideal S1x128 .f32) (g : Vec Ideal S1x128 .f32)

/-- The stored query rows of the four heads. -/
def qPk : Fin 4 → FVec Ideal S1x256x128 .bf16 := ![
  packQ (normV (k0_pay19 u) g 0x3E000000#32)
    (colV 0 Facts₀.slices_S256x128_o0_0_S256x1 (k0_pay15 ls k0_pay7 k0_pay8 k0_pay9 cr))
    (colV 0 Facts₀.slices_S256x128_o0_0_S256x1 (k0_pay16 ls k0_pay7 k0_pay8 k0_pay9 cr))
    (colV 0 Facts₀.slices_S256x128_o0_0_S256x1 (k0_pay17 ls k0_pay7 k0_pay8 k0_pay9 cr)),
  packQ (rotV (normV (k0_pay19 u) g 0x3E000000#32))
    (colV 1 Facts₀.slices_S256x128_o0_1_S256x1 (k0_pay15 ls k0_pay7 k0_pay8 k0_pay9 cr))
    (colV 1 Facts₀.slices_S256x128_o0_1_S256x1 (k0_pay16 ls k0_pay7 k0_pay8 k0_pay9 cr))
    (colV 1 Facts₀.slices_S256x128_o0_1_S256x1 (k0_pay17 ls k0_pay7 k0_pay8 k0_pay9 cr)),
  packQ (normV (extractStridedSlice S256x128 ![0, 128] u Facts₀.slices_S256x896_o0_128_S256x128) g 0x3E000000#32)
    (colV 2 Facts₀.slices_S256x128_o0_2_S256x1 (k0_pay15 ls k0_pay7 k0_pay8 k0_pay9 cr))
    (colV 2 Facts₀.slices_S256x128_o0_2_S256x1 (k0_pay16 ls k0_pay7 k0_pay8 k0_pay9 cr))
    (colV 2 Facts₀.slices_S256x128_o0_2_S256x1 (k0_pay17 ls k0_pay7 k0_pay8 k0_pay9 cr)),
  packQ (rotV (normV (extractStridedSlice S256x128 ![0, 128] u Facts₀.slices_S256x896_o0_128_S256x128) g 0x3E000000#32))
    (colV 3 Facts₀.slices_S256x128_o0_3_S256x1 (k0_pay15 ls k0_pay7 k0_pay8 k0_pay9 cr))
    (colV 3 Facts₀.slices_S256x128_o0_3_S256x1 (k0_pay16 ls k0_pay7 k0_pay8 k0_pay9 cr))
    (colV 3 Facts₀.slices_S256x128_o0_3_S256x1 (k0_pay17 ls k0_pay7 k0_pay8 k0_pay9 cr))]

/-- The stored key rows of the four heads. -/
def kPk : Fin 4 → FVec Ideal S1x256x128 .bf16 := ![
  packK (normV (extractStridedSlice S256x128 ![0, 256] u Facts₀.slices_S256x896_o0_256_S256x128) g 0x3F800000#32)
    (colV 0 Facts₀.slices_S256x128_o0_0_S256x1 (k0_pay15 ls k0_pay7 k0_pay8 k0_pay9 cr))
    (colV 0 Facts₀.slices_S256x128_o0_0_S256x1 (k0_pay16 ls k0_pay7 k0_pay8 k0_pay9 cr))
    (colV 0 Facts₀.slices_S256x128_o0_0_S256x1 (k0_pay17 ls k0_pay7 k0_pay8 k0_pay9 cr)),
  packK (rotV (normV (extractStridedSlice S256x128 ![0, 256] u Facts₀.slices_S256x896_o0_256_S256x128) g 0x3F800000#32))
    (colV 1 Facts₀.slices_S256x128_o0_1_S256x1 (k0_pay15 ls k0_pay7 k0_pay8 k0_pay9 cr))
    (colV 1 Facts₀.slices_S256x128_o0_1_S256x1 (k0_pay16 ls k0_pay7 k0_pay8 k0_pay9 cr))
    (colV 1 Facts₀.slices_S256x128_o0_1_S256x1 (k0_pay17 ls k0_pay7 k0_pay8 k0_pay9 cr)),
  packK (normV (k0_pay54 u) g 0x3F800000#32)
    (colV 2 Facts₀.slices_S256x128_o0_2_S256x1 (k0_pay15 ls k0_pay7 k0_pay8 k0_pay9 cr))
    (colV 2 Facts₀.slices_S256x128_o0_2_S256x1 (k0_pay16 ls k0_pay7 k0_pay8 k0_pay9 cr))
    (colV 2 Facts₀.slices_S256x128_o0_2_S256x1 (k0_pay17 ls k0_pay7 k0_pay8 k0_pay9 cr)),
  packK (rotV (normV (k0_pay54 u) g 0x3F800000#32))
    (colV 3 Facts₀.slices_S256x128_o0_3_S256x1 (k0_pay15 ls k0_pay7 k0_pay8 k0_pay9 cr))
    (colV 3 Facts₀.slices_S256x128_o0_3_S256x1 (k0_pay16 ls k0_pay7 k0_pay8 k0_pay9 cr))
    (colV 3 Facts₀.slices_S256x128_o0_3_S256x1 (k0_pay17 ls k0_pay7 k0_pay8 k0_pay9 cr))]

/-- The stored value rows of the four heads. -/
def vPk : Fin 4 → FVec Ideal S1x256x128 .bf16 :=
  ![packV (k0_pay26 u), packV (rotV (k0_pay26 u)), packV (k0_pay59 u), packV (rotV (k0_pay59 u))]

/-- The query row of a pair's first head. -/
theorem q_low (x : V) (o : ℕ) (ho : o + 128 ≤ 896) (hx : ∀ (r : Fin 256) (l : Fin 128), (x (ix2 r l) : EReal) = u (ix2 r ⟨o + l.val, by omega⟩))
    (n : Fin 128) (hn : S256x128.Slices ![0, n.val] S256x1) (r : Fin 256) (l : Fin 128)
    (H : ∃ c : ℝ, (csum ls cr (ix2 r n) : EReal) = c) :
    (packQ (normV x g 0x3E000000#32)
        (colV n.val hn (k0_pay15 ls k0_pay7 k0_pay8 k0_pay9 cr)) (colV n.val hn (k0_pay16 ls k0_pay7 k0_pay8 k0_pay9 cr))
        (colV n.val hn (k0_pay17 ls k0_pay7 k0_pay8 k0_pay9 cr)) (ix3 0 r l) : EReal)
      = qEl (fun d => u (ix2 r ⟨o + d.val, by omega⟩)) (fun d => g (ix2 0 ⟨d.val, by omega⟩)) (csum ls cr (ix2 r n)) l := by
  rw [packQ_real _ _ _ _ _ _ _ H, qEl]
  split_ifs with h1
  · rw [low_row _ _ _ _ _ h1]
    simp only [hx]
  all_goals rfl

/-- The query row of a pair's second head. -/
theorem q_high (x : V) (o : ℕ) (ho : o + 128 ≤ 896) (hx : ∀ (r : Fin 256) (l : Fin 128), (x (ix2 r l) : EReal) = u (ix2 r ⟨o + l.val, by omega⟩))
    (n : Fin 128) (hn : S256x128.Slices ![0, n.val] S256x1) (r : Fin 256) (l : Fin 128)
    (H : ∃ c : ℝ, (csum ls cr (ix2 r n) : EReal) = c)
    (hg : ∀ d : Fin 64, (g (ix2 0 ⟨64 + d.val, by omega⟩) : EReal) = g (ix2 0 ⟨d.val, by omega⟩)) :
    (packQ (rotV (normV x g 0x3E000000#32))
        (colV n.val hn (k0_pay15 ls k0_pay7 k0_pay8 k0_pay9 cr)) (colV n.val hn (k0_pay16 ls k0_pay7 k0_pay8 k0_pay9 cr))
        (colV n.val hn (k0_pay17 ls k0_pay7 k0_pay8 k0_pay9 cr)) (ix3 0 r l) : EReal)
      = qEl (fun d => u (ix2 r ⟨o + (64 + d.val), by omega⟩)) (fun d => g (ix2 0 ⟨d.val, by omega⟩)) (csum ls cr (ix2 r n)) l := by
  rw [packQ_real _ _ _ _ _ _ _ H, qEl]
  split_ifs with h1
  · rw [high_row _ _ _ _ _ h1 hg]
    simp only [hx]
  all_goals rfl

/-- The key row of a pair's first head. -/
theorem k_low (x : V) (o : ℕ) (ho : o + 128 ≤ 896) (hx : ∀ (r : Fin 256) (l : Fin 128), (x (ix2 r l) : EReal) = u (ix2 r ⟨o + l.val, by omega⟩))
    (n : Fin 128) (hn : S256x128.Slices ![0, n.val] S256x1) (r : Fin 256) (l : Fin 128)
    (H : ∃ c : ℝ, (csum ls cr (ix2 r n) : EReal) = c) :
    (packK (normV x g 0x3F800000#32)
        (colV n.val hn (k0_pay15 ls k0_pay7 k0_pay8 k0_pay9 cr)) (colV n.val hn (k0_pay16 ls k0_pay7 k0_pay8 k0_pay9 cr))
        (colV n.val hn (k0_pay17 ls k0_pay7 k0_pay8 k0_pay9 cr)) (ix3 0 r l) : EReal)
      = kEl (fun d => u (ix2 r ⟨o + d.val, by omega⟩)) (fun d => g (ix2 0 ⟨d.val, by omega⟩)) (csum ls cr (ix2 r n)) l := by
  rw [packK_real _ _ _ _ _ _ _ H, kEl]
  split_ifs with h1
  · rw [low_row _ _ _ _ _ h1]
    simp only [hx, ofBits_one]
  all_goals rfl

/-- The key row of a pair's second head. -/
theorem k_high (x : V) (o : ℕ) (ho : o + 128 ≤ 896) (hx : ∀ (r : Fin 256) (l : Fin 128), (x (ix2 r l) : EReal) = u (ix2 r ⟨o + l.val, by omega⟩))
    (n : Fin 128) (hn : S256x128.Slices ![0, n.val] S256x1) (r : Fin 256) (l : Fin 128)
    (H : ∃ c : ℝ, (csum ls cr (ix2 r n) : EReal) = c)
    (hg : ∀ d : Fin 64, (g (ix2 0 ⟨64 + d.val, by omega⟩) : EReal) = g (ix2 0 ⟨d.val, by omega⟩)) :
    (packK (rotV (normV x g 0x3F800000#32))
        (colV n.val hn (k0_pay15 ls k0_pay7 k0_pay8 k0_pay9 cr)) (colV n.val hn (k0_pay16 ls k0_pay7 k0_pay8 k0_pay9 cr))
        (colV n.val hn (k0_pay17 ls k0_pay7 k0_pay8 k0_pay9 cr)) (ix3 0 r l) : EReal)
      = kEl (fun d => u (ix2 r ⟨o + (64 + d.val), by omega⟩)) (fun d => g (ix2 0 ⟨d.val, by omega⟩)) (csum ls cr (ix2 r n)) l := by
  rw [packK_real _ _ _ _ _ _ _ H, kEl]
  split_ifs with h1
  · rw [high_row _ _ _ _ _ h1 hg]
    simp only [hx, ofBits_one]
  all_goals rfl

/-- The value row of a pair's first head. -/
theorem v_low (x : V) (o : ℕ) (ho : o + 128 ≤ 896) (hx : ∀ (r : Fin 256) (l : Fin 128), (x (ix2 r l) : EReal) = u (ix2 r ⟨o + l.val, by omega⟩))
    (r : Fin 256) (l : Fin 128) : (packV x (ix3 0 r l) : EReal) = vEl (fun d => u (ix2 r ⟨o + d.val, by omega⟩)) l := by
  rw [packV_apply, vEl]
  split_ifs with h1
  · exact hx r l
  all_goals rfl

/-- The value row of a pair's second head. -/
theorem v_high (x : V) (o : ℕ) (ho : o + 128 ≤ 896) (hx : ∀ (r : Fin 256) (l : Fin 128), (x (ix2 r l) : EReal) = u (ix2 r ⟨o + l.val, by omega⟩))
    (r : Fin 256) (l : Fin 128) : (packV (rotV x) (ix3 0 r l) : EReal) = vEl (fun d => u (ix2 r ⟨o + (64 + d.val), by omega⟩)) l := by
  rw [packV_apply, vEl]
  split_ifs with h1
  · rw [rotV_apply _ r l h1]
    exact hx r _
  all_goals rfl

/-- Head `h`'s stored query row. -/
theorem qPk_apply (h : Fin 4) (r : Fin 256) (l : Fin 128) (H : ∃ c : ℝ, (csum ls cr (ix2 r ⟨h.val, by omega⟩) : EReal) = c)
    (hg : ∀ d : Fin 64, (g (ix2 0 ⟨64 + d.val, by omega⟩) : EReal) = g (ix2 0 ⟨d.val, by omega⟩)) :
    (qPk u ls cr g h (ix3 0 r l) : EReal)
      = qEl (fun d => u (ix2 r ⟨h.val * 64 + d.val, by omega⟩)) (fun d => g (ix2 0 ⟨d.val, by omega⟩)) (csum ls cr (ix2 r ⟨h.val, by omega⟩)) l := by
  fin_cases h
  · refine (q_low u ls cr g _ 0 (by norm_num) (fun r l => slice_col u 0 Facts₀.slices_S256x896_o0_0_S256x128 r l (by omega)) ⟨0, by norm_num⟩ Facts₀.slices_S256x128_o0_0_S256x1 r l H).trans ?_
    refine congrArg (fun a => qEl a _ _ l) (funext fun d => congrArg (fun j => (u (ix2 r j) : EReal)) (Fin.ext ?_))
    show 0 + d.val = 0 * 64 + d.val
    omega
  · refine (q_high u ls cr g _ 0 (by norm_num) (fun r l => slice_col u 0 Facts₀.slices_S256x896_o0_0_S256x128 r l (by omega)) ⟨1, by norm_num⟩ Facts₀.slices_S256x128_o0_1_S256x1 r l H hg).trans ?_
    refine congrArg (fun a => qEl a _ _ l) (funext fun d => congrArg (fun j => (u (ix2 r j) : EReal)) (Fin.ext ?_))
    show 0 + (64 + d.val) = 1 * 64 + d.val
    omega
  · refine (q_low u ls cr g _ 128 (by norm_num) (fun r l => slice_col u 128 Facts₀.slices_S256x896_o0_128_S256x128 r l (by omega)) ⟨2, by norm_num⟩ Facts₀.slices_S256x128_o0_2_S256x1 r l H).trans ?_
    refine congrArg (fun a => qEl a _ _ l) (funext fun d => congrArg (fun j => (u (ix2 r j) : EReal)) (Fin.ext ?_))
    show 128 + d.val = 2 * 64 + d.val
    omega
  · refine (q_high u ls cr g _ 128 (by norm_num) (fun r l => slice_col u 128 Facts₀.slices_S256x896_o0_128_S256x128 r l (by omega)) ⟨3, by norm_num⟩ Facts₀.slices_S256x128_o0_3_S256x1 r l H hg).trans ?_
    refine congrArg (fun a => qEl a _ _ l) (funext fun d => congrArg (fun j => (u (ix2 r j) : EReal)) (Fin.ext ?_))
    show 128 + (64 + d.val) = 3 * 64 + d.val
    omega

/-- Head `h`'s stored key row. -/
theorem kPk_apply (h : Fin 4) (r : Fin 256) (l : Fin 128) (H : ∃ c : ℝ, (csum ls cr (ix2 r ⟨h.val, by omega⟩) : EReal) = c)
    (hg : ∀ d : Fin 64, (g (ix2 0 ⟨64 + d.val, by omega⟩) : EReal) = g (ix2 0 ⟨d.val, by omega⟩)) :
    (kPk u ls cr g h (ix3 0 r l) : EReal)
      = kEl (fun d => u (ix2 r ⟨256 + (h.val * 64 + d.val), by omega⟩)) (fun d => g (ix2 0 ⟨d.val, by omega⟩)) (csum ls cr (ix2 r ⟨h.val, by omega⟩)) l := by
  fin_cases h
  · refine (k_low u ls cr g _ 256 (by norm_num) (fun r l => slice_col u 256 Facts₀.slices_S256x896_o0_256_S256x128 r l (by omega)) ⟨0, by norm_num⟩ Facts₀.slices_S256x128_o0_0_S256x1 r l H).trans ?_
    refine congrArg (fun a => kEl a _ _ l) (funext fun d => congrArg (fun j => (u (ix2 r j) : EReal)) (Fin.ext ?_))
    show 256 + d.val = 256 + (0 * 64 + d.val)
    omega
  · refine (k_high u ls cr g _ 256 (by norm_num) (fun r l => slice_col u 256 Facts₀.slices_S256x896_o0_256_S256x128 r l (by omega)) ⟨1, by norm_num⟩ Facts₀.slices_S256x128_o0_1_S256x1 r l H hg).trans ?_
    refine congrArg (fun a => kEl a _ _ l) (funext fun d => congrArg (fun j => (u (ix2 r j) : EReal)) (Fin.ext ?_))
    show 256 + (64 + d.val) = 256 + (1 * 64 + d.val)
    omega
  · refine (k_low u ls cr g _ 384 (by norm_num) (fun r l => slice_col u 384 Facts₀.slices_S256x896_o0_384_S256x128 r l (by omega)) ⟨2, by norm_num⟩ Facts₀.slices_S256x128_o0_2_S256x1 r l H).trans ?_
    refine congrArg (fun a => kEl a _ _ l) (funext fun d => congrArg (fun j => (u (ix2 r j) : EReal)) (Fin.ext ?_))
    show 384 + d.val = 256 + (2 * 64 + d.val)
    omega
  · refine (k_high u ls cr g _ 384 (by norm_num) (fun r l => slice_col u 384 Facts₀.slices_S256x896_o0_384_S256x128 r l (by omega)) ⟨3, by norm_num⟩ Facts₀.slices_S256x128_o0_3_S256x1 r l H hg).trans ?_
    refine congrArg (fun a => kEl a _ _ l) (funext fun d => congrArg (fun j => (u (ix2 r j) : EReal)) (Fin.ext ?_))
    show 384 + (64 + d.val) = 256 + (3 * 64 + d.val)
    omega

/-- Head `h`'s stored value row. -/
theorem vPk_apply (h : Fin 4) (r : Fin 256) (l : Fin 128) :
    (vPk u h (ix3 0 r l) : EReal)
      = vEl (fun d => u (ix2 r ⟨512 + (h.val * 64 + d.val), by omega⟩)) l := by
  fin_cases h
  · refine (v_low u _ 512 (by norm_num) (fun r l => slice_col u 512 Facts₀.slices_S256x896_o0_512_S256x128 r l (by omega)) r l).trans ?_
    refine congrArg (fun a => vEl a l) (funext fun d => congrArg (fun j => (u (ix2 r j) : EReal)) (Fin.ext ?_))
    show 512 + d.val = 512 + (0 * 64 + d.val)
    omega
  · refine (v_high u _ 512 (by norm_num) (fun r l => slice_col u 512 Facts₀.slices_S256x896_o0_512_S256x128 r l (by omega)) r l).trans ?_
    refine congrArg (fun a => vEl a l) (funext fun d => congrArg (fun j => (u (ix2 r j) : EReal)) (Fin.ext ?_))
    show 512 + (64 + d.val) = 512 + (1 * 64 + d.val)
    omega
  · refine (v_low u _ 640 (by norm_num) (fun r l => slice_col u 640 Facts₀.slices_S256x896_o0_640_S256x128 r l (by omega)) r l).trans ?_
    refine congrArg (fun a => vEl a l) (funext fun d => congrArg (fun j => (u (ix2 r j) : EReal)) (Fin.ext ?_))
    show 640 + d.val = 512 + (2 * 64 + d.val)
    omega
  · refine (v_high u _ 640 (by norm_num) (fun r l => slice_col u 640 Facts₀.slices_S256x896_o0_640_S256x128 r l (by omega)) r l).trans ?_
    refine congrArg (fun a => vEl a l) (funext fun d => congrArg (fun j => (u (ix2 r j) : EReal)) (Fin.ext ?_))
    show 640 + (64 + d.val) = 512 + (3 * 64 + d.val)
    omega

end Heads

/-- A piece's index from its coordinates. -/
theorem piece_row {r : Fin 256} {l : Fin 128} {x : S1x256x128.Idx} (h0 : (x 0).val < 1) (h1 : r.val = (x 1).val) (h2 : l.val = (x 2).val) :
    x = ix3 0 r l := by
  rw [eq_ix3 x]
  congr 1 <;> apply Fin.ext
  · show (x 0).val = 0
    omega
  · exact h1.symm
  · exact h2.symm

/-- Four stored heads, read at an index. -/
theorem canon4 (p : Fin 4 → FVec Ideal S1x256x128 .bf16) (h : Fin 4) (r : Fin 256) (l : Fin 128) :
    (View.canon [(⟨Rect.unit ![3, 0, 0] ![1, 256, 128] Facts₀.inb_S4x256x128_S1x256x128_3_0_0, p 3⟩ : View.Piece (Elt Ideal) S4x256x128 .bf16),
        ⟨Rect.unit ![2, 0, 0] ![1, 256, 128] Facts₀.inb_S4x256x128_S1x256x128_2_0_0, p 2⟩,
        ⟨Rect.unit ![1, 0, 0] ![1, 256, 128] Facts₀.inb_S4x256x128_S1x256x128_1_0_0, p 1⟩,
        ⟨Rect.unit ![0, 0, 0] ![1, 256, 128] Facts₀.inb_S4x256x128_S1x256x128_0_0_0, p 0⟩] (ix3 h r l) : EReal)
      = p h (ix3 0 r l) := by
  canon_tiles x hx
  · obtain rfl : h = 3 := Fin.ext (by
      have : h.val = 3 + (x 0).val := hx0
      show h.val = 3
      omega)
    exact congrArg (p 3) (piece_row x0_lt hx1 hx2)
  · obtain rfl : h = 2 := Fin.ext (by
      have : h.val = 2 + (x 0).val := hx0
      show h.val = 2
      omega)
    exact congrArg (p 2) (piece_row x0_lt hx1 hx2)
  · obtain rfl : h = 1 := Fin.ext (by
      have : h.val = 1 + (x 0).val := hx0
      show h.val = 1
      omega)
    exact congrArg (p 1) (piece_row x0_lt hx1 hx2)
  · obtain rfl : h = 0 := Fin.ext (by
      have : h.val = (x 0).val := hx0
      show h.val = 0
      omega)
    exact congrArg (p 0) (piece_row x0_lt hx1 hx2)

end Cert.Proof.Prep

end
-- ==== Proof.PrepBlock.lean ====
/-
  The projections of the forgetting attention: what one grid point leaves in the three output blocks and in the carried row.
-/
module

public import proofs.«01_k».proof.Proof.PrepHead
public import Idealize.ShloMosaic.Lib.Pipeline.ReadBack
public import Idealize.ShloMosaic.Lib.Writes

@[expose] public section

noncomputable section

namespace Cert.Proof.Prep

open Idealize.ShloMosaic Idealize.ShloMosaic.TcCoe Idealize.SL.Sem
open Cert.Kernel4Ideal Cert.Kernel4Ideal.Gen

/-- The first row of the carried array. -/
def carryRow (xs : Vec Ideal S8x128 .f32) : Vec Ideal S1x128 .f32 :=
  View.ld xs (Rect.unit ![0, 0] ![1, 128] Facts₀.inb_S8x128_S1x128_0_0)

theorem carryRow_apply (xs : Vec Ideal S8x128 .f32) (l : Fin 128) : (carryRow xs (ix2 0 l) : EReal) = xs (ix2 0 l) := by
  unfold carryRow
  refine View.ld_unit_apply_of _ _ _ _ _ _ ?_
  intro a
  fin_cases a <;> simp

/-- The array the first point starts from. -/
theorem carry_zero (l : Fin 128) : (k0_pay4 (F := Ideal) (ix2 0 l) : EReal) = 0 := by
  pointwise [k0_pay4]

/-- The query block that the first point leaves. -/
theorem blkA6 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x896 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S4x256x128 .bf16) (harg7 : arg7.IsWhole) (arg8 : Memref sig .tc .vmem S4x256x128 .bf16) (harg8 : arg8.IsWhole) (arg9 : Memref sig .tc .vmem S4x256x128 .bf16) (harg9 : arg9.IsWhole) (arg10 : Memref sig .tc .vmem S8x128 .f32) (harg10 : arg10.IsWhole) (hc0 : cond0_0 i)
    (x0 : Vec Ideal S256x1024 .f32) (x1 : Vec Ideal S1x1024 .f32) (x2 : Vec Ideal S1024x896 .bf16) (x3 : Vec Ideal S1x128 .f32) (x4 : Vec Ideal S1x128 .f32) (x5 : Vec Ideal S1x128 .f32) (h : Fin 4) (r : Fin 256) (l : Fin 128) :
    (out0_A_6 (F := Ideal) c i arg1 harg1 arg2 harg2 arg3 harg3 arg4 harg4 arg5 harg5 arg6 harg6 arg7 harg7 arg8 harg8 arg9 harg9 arg10 harg10 hc0 x0 x1 x2 x3 x4 x5 (ix3 h r l) : EReal)
      = qPk (k0_pay5 x0 x1 x2) (k0_pay6 x0 x1 x2 x3) (carryRow (k0_pay4 (F := Ideal))) x4 h (ix3 0 r l) := by
  unfold out0_A_6
  rw [View.read_writes_eq_canon _ _ _ (cover0_A_6 (F := Ideal) c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  simp only [View.readAt_eq_ld, harg1.read_unread, harg2.read_unread, harg3.read_unread, harg4.read_unread, harg5.read_unread,
    harg6.read_unread, harg10.read_unread]
  simp (disch := decide) only [View.ld_unit_lit', View.readCov_fill]
  exact canon4 (qPk (k0_pay5 x0 x1 x2) (k0_pay6 x0 x1 x2 x3) (carryRow (k0_pay4 (F := Ideal))) x4) h r l

/-- The key block that the first point leaves. -/
theorem blkA7 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x896 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S4x256x128 .bf16) (harg7 : arg7.IsWhole) (arg8 : Memref sig .tc .vmem S4x256x128 .bf16) (harg8 : arg8.IsWhole) (arg9 : Memref sig .tc .vmem S4x256x128 .bf16) (harg9 : arg9.IsWhole) (arg10 : Memref sig .tc .vmem S8x128 .f32) (harg10 : arg10.IsWhole) (hc0 : cond0_0 i)
    (x0 : Vec Ideal S256x1024 .f32) (x1 : Vec Ideal S1x1024 .f32) (x2 : Vec Ideal S1024x896 .bf16) (x3 : Vec Ideal S1x128 .f32) (x4 : Vec Ideal S1x128 .f32) (x5 : Vec Ideal S1x128 .f32) (h : Fin 4) (r : Fin 256) (l : Fin 128) :
    (out0_A_7 (F := Ideal) c i arg1 harg1 arg2 harg2 arg3 harg3 arg4 harg4 arg5 harg5 arg6 harg6 arg7 harg7 arg8 harg8 arg9 harg9 arg10 harg10 hc0 x0 x1 x2 x3 x4 x5 (ix3 h r l) : EReal)
      = kPk (k0_pay5 x0 x1 x2) (k0_pay6 x0 x1 x2 x3) (carryRow (k0_pay4 (F := Ideal))) x5 h (ix3 0 r l) := by
  unfold out0_A_7
  rw [View.read_writes_eq_canon _ _ _ (cover0_A_7 (F := Ideal) c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  simp only [View.readAt_eq_ld, harg1.read_unread, harg2.read_unread, harg3.read_unread, harg4.read_unread, harg5.read_unread,
    harg6.read_unread, harg10.read_unread]
  simp (disch := decide) only [View.ld_unit_lit', View.readCov_fill]
  exact canon4 (kPk (k0_pay5 x0 x1 x2) (k0_pay6 x0 x1 x2 x3) (carryRow (k0_pay4 (F := Ideal))) x5) h r l

/-- The value block that the first point leaves. -/
theorem blkA8 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x896 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S4x256x128 .bf16) (harg7 : arg7.IsWhole) (arg8 : Memref sig .tc .vmem S4x256x128 .bf16) (harg8 : arg8.IsWhole) (arg9 : Memref sig .tc .vmem S4x256x128 .bf16) (harg9 : arg9.IsWhole) (arg10 : Memref sig .tc .vmem S8x128 .f32) (harg10 : arg10.IsWhole) (hc0 : cond0_0 i)
    (x0 : Vec Ideal S256x1024 .f32) (x1 : Vec Ideal S1x1024 .f32) (x2 : Vec Ideal S1024x896 .bf16) (x3 : Vec Ideal S1x128 .f32) (x4 : Vec Ideal S1x128 .f32) (x5 : Vec Ideal S1x128 .f32) (h : Fin 4) (r : Fin 256) (l : Fin 128) :
    (out0_A_8 (F := Ideal) c i arg1 harg1 arg2 harg2 arg3 harg3 arg4 harg4 arg5 harg5 arg6 harg6 arg7 harg7 arg8 harg8 arg9 harg9 arg10 harg10 hc0 x0 x1 x2 x3 x4 x5 (ix3 h r l) : EReal)
      = vPk (k0_pay5 x0 x1 x2) h (ix3 0 r l) := by
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  simp only [View.readAt_eq_ld, harg1.read_unread, harg2.read_unread, harg3.read_unread, harg4.read_unread, harg5.read_unread,
    harg6.read_unread, harg10.read_unread]
  simp (disch := decide) only [View.ld_unit_lit', View.readCov_fill]
  exact canon4 (vPk (k0_pay5 x0 x1 x2)) h r l

/-- The carried row that the first point leaves. -/
theorem carryA (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x896 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S4x256x128 .bf16) (harg7 : arg7.IsWhole) (arg8 : Memref sig .tc .vmem S4x256x128 .bf16) (harg8 : arg8.IsWhole) (arg9 : Memref sig .tc .vmem S4x256x128 .bf16) (harg9 : arg9.IsWhole) (arg10 : Memref sig .tc .vmem S8x128 .f32) (harg10 : arg10.IsWhole) (hc0 : cond0_0 i)
    (x0 : Vec Ideal S256x1024 .f32) (x1 : Vec Ideal S1x1024 .f32) (x2 : Vec Ideal S1024x896 .bf16) (x3 : Vec Ideal S1x128 .f32) (x4 : Vec Ideal S1x128 .f32) (x5 : Vec Ideal S1x128 .f32) (l : Fin 128) :
    (sout0_A_0 (F := Ideal) c i arg1 harg1 arg2 harg2 arg3 harg3 arg4 harg4 arg5 harg5 arg6 harg6 arg7 harg7 arg8 harg8 arg9 harg9 arg10 harg10 hc0 x0 x1 x2 x3 x4 x5 (ix2 0 l) : EReal)
      = csum (k0_pay6 x0 x1 x2 x3) (carryRow (k0_pay4 (F := Ideal))) (ix2 255 l) := by
  unfold sout0_A_0
  unfold kernelRun0_A
  dsimp only
  sl_unfold_words
  simp only [View.readAt_eq_ld, harg1.read_unread, harg2.read_unread, harg3.read_unread, harg4.read_unread, harg5.read_unread,
    harg6.read_unread, harg10.read_unread]
  simp (disch := decide) only [View.ld_unit_lit', View.readCov_fill]
  refine (View.read_writes_cons_hit_of_coords _ _ _ _ _ (ix2 0 l) _ ?_).trans ?_
  · intro a
    fin_cases a <;> simp
  exact carry_apply _ _ l

/-- The query block that a later point leaves. -/
theorem blkB6 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x896 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S4x256x128 .bf16) (harg7 : arg7.IsWhole) (arg8 : Memref sig .tc .vmem S4x256x128 .bf16) (harg8 : arg8.IsWhole) (arg9 : Memref sig .tc .vmem S4x256x128 .bf16) (harg9 : arg9.IsWhole) (arg10 : Memref sig .tc .vmem S8x128 .f32) (harg10 : arg10.IsWhole) (hc0 : ¬cond0_0 i)
    (x0 : Vec Ideal S256x1024 .f32) (x1 : Vec Ideal S1x1024 .f32) (x2 : Vec Ideal S1024x896 .bf16) (x3 : Vec Ideal S1x128 .f32) (x4 : Vec Ideal S1x128 .f32) (x5 : Vec Ideal S1x128 .f32) (xs0 : Vec Ideal S8x128 .f32) (h : Fin 4) (r : Fin 256) (l : Fin 128) :
    (out0_B_6 (F := Ideal) c i arg1 harg1 arg2 harg2 arg3 harg3 arg4 harg4 arg5 harg5 arg6 harg6 arg7 harg7 arg8 harg8 arg9 harg9 arg10 harg10 hc0 x0 x1 x2 x3 x4 x5 xs0 (ix3 h r l) : EReal)
      = qPk (k0_pay5 x0 x1 x2) (k0_pay6 x0 x1 x2 x3) (carryRow xs0) x4 h (ix3 0 r l) := by
  unfold out0_B_6
  rw [View.read_writes_eq_canon _ _ _ (cover0_B_6 (F := Ideal) c i arg1 harg1 arg2 harg2 arg3 harg3 arg4 harg4 arg5 harg5 arg6 harg6 arg7 harg7 arg8 harg8 arg9 harg9 arg10 harg10 hc0 x0 x1 x2 x3 x4 x5 xs0)]
  unfold kernelRun0_B
  dsimp only
  sl_unfold_words
  simp only [View.readAt_eq_ld, harg1.read_unread, harg2.read_unread, harg3.read_unread, harg4.read_unread, harg5.read_unread,
    harg6.read_unread, harg10.read_unread]
  simp (disch := decide) only [View.ld_unit_lit']
  exact canon4 (qPk (k0_pay5 x0 x1 x2) (k0_pay6 x0 x1 x2 x3) (carryRow xs0) x4) h r l

/-- The key block that a later point leaves. -/
theorem blkB7 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x896 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S4x256x128 .bf16) (harg7 : arg7.IsWhole) (arg8 : Memref sig .tc .vmem S4x256x128 .bf16) (harg8 : arg8.IsWhole) (arg9 : Memref sig .tc .vmem S4x256x128 .bf16) (harg9 : arg9.IsWhole) (arg10 : Memref sig .tc .vmem S8x128 .f32) (harg10 : arg10.IsWhole) (hc0 : ¬cond0_0 i)
    (x0 : Vec Ideal S256x1024 .f32) (x1 : Vec Ideal S1x1024 .f32) (x2 : Vec Ideal S1024x896 .bf16) (x3 : Vec Ideal S1x128 .f32) (x4 : Vec Ideal S1x128 .f32) (x5 : Vec Ideal S1x128 .f32) (xs0 : Vec Ideal S8x128 .f32) (h : Fin 4) (r : Fin 256) (l : Fin 128) :
    (out0_B_7 (F := Ideal) c i arg1 harg1 arg2 harg2 arg3 harg3 arg4 harg4 arg5 harg5 arg6 harg6 arg7 harg7 arg8 harg8 arg9 harg9 arg10 harg10 hc0 x0 x1 x2 x3 x4 x5 xs0 (ix3 h r l) : EReal)
      = kPk (k0_pay5 x0 x1 x2) (k0_pay6 x0 x1 x2 x3) (carryRow xs0) x5 h (ix3 0 r l) := by
  unfold out0_B_7
  rw [View.read_writes_eq_canon _ _ _ (cover0_B_7 (F := Ideal) c i arg1 harg1 arg2 harg2 arg3 harg3 arg4 harg4 arg5 harg5 arg6 harg6 arg7 harg7 arg8 harg8 arg9 harg9 arg10 harg10 hc0 x0 x1 x2 x3 x4 x5 xs0)]
  unfold kernelRun0_B
  dsimp only
  sl_unfold_words
  simp only [View.readAt_eq_ld, harg1.read_unread, harg2.read_unread, harg3.read_unread, harg4.read_unread, harg5.read_unread,
    harg6.read_unread, harg10.read_unread]
  simp (disch := decide) only [View.ld_unit_lit']
  exact canon4 (kPk (k0_pay5 x0 x1 x2) (k0_pay6 x0 x1 x2 x3) (carryRow xs0) x5) h r l

/-- The value block that a later point leaves. -/
theorem blkB8 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x896 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S4x256x128 .bf16) (harg7 : arg7.IsWhole) (arg8 : Memref sig .tc .vmem S4x256x128 .bf16) (harg8 : arg8.IsWhole) (arg9 : Memref sig .tc .vmem S4x256x128 .bf16) (harg9 : arg9.IsWhole) (arg10 : Memref sig .tc .vmem S8x128 .f32) (harg10 : arg10.IsWhole) (hc0 : ¬cond0_0 i)
    (x0 : Vec Ideal S256x1024 .f32) (x1 : Vec Ideal S1x1024 .f32) (x2 : Vec Ideal S1024x896 .bf16) (x3 : Vec Ideal S1x128 .f32) (x4 : Vec Ideal S1x128 .f32) (x5 : Vec Ideal S1x128 .f32) (xs0 : Vec Ideal S8x128 .f32) (h : Fin 4) (r : Fin 256) (l : Fin 128) :
    (out0_B_8 (F := Ideal) c i arg1 harg1 arg2 harg2 arg3 harg3 arg4 harg4 arg5 harg5 arg6 harg6 arg7 harg7 arg8 harg8 arg9 harg9 arg10 harg10 hc0 x0 x1 x2 x3 x4 x5 xs0 (ix3 h r l) : EReal)
      = vPk (k0_pay5 x0 x1 x2) h (ix3 0 r l) := by
  unfold out0_B_8
  rw [View.read_writes_eq_canon _ _ _ (cover0_B_8 (F := Ideal) c i arg1 harg1 arg2 harg2 arg3 harg3 arg4 harg4 arg5 harg5 arg6 harg6 arg7 harg7 arg8 harg8 arg9 harg9 arg10 harg10 hc0 x0 x1 x2 x3 x4 x5 xs0)]
  unfold kernelRun0_B
  dsimp only
  sl_unfold_words
  simp only [View.readAt_eq_ld, harg1.read_unread, harg2.read_unread, harg3.read_unread, harg4.read_unread, harg5.read_unread,
    harg6.read_unread, harg10.read_unread]
  simp (disch := decide) only [View.ld_unit_lit']
  exact canon4 (vPk (k0_pay5 x0 x1 x2)) h r l

/-- The carried row that a later point leaves. -/
theorem carryB (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x896 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S4x256x128 .bf16) (harg7 : arg7.IsWhole) (arg8 : Memref sig .tc .vmem S4x256x128 .bf16) (harg8 : arg8.IsWhole) (arg9 : Memref sig .tc .vmem S4x256x128 .bf16) (harg9 : arg9.IsWhole) (arg10 : Memref sig .tc .vmem S8x128 .f32) (harg10 : arg10.IsWhole) (hc0 : ¬cond0_0 i)
    (x0 : Vec Ideal S256x1024 .f32) (x1 : Vec Ideal S1x1024 .f32) (x2 : Vec Ideal S1024x896 .bf16) (x3 : Vec Ideal S1x128 .f32) (x4 : Vec Ideal S1x128 .f32) (x5 : Vec Ideal S1x128 .f32) (xs0 : Vec Ideal S8x128 .f32) (l : Fin 128) :
    (sout0_B_0 (F := Ideal) c i arg1 harg1 arg2 harg2 arg3 harg3 arg4 harg4 arg5 harg5 arg6 harg6 arg7 harg7 arg8 harg8 arg9 harg9 arg10 harg10 hc0 x0 x1 x2 x3 x4 x5 xs0 (ix2 0 l) : EReal)
      = csum (k0_pay6 x0 x1 x2 x3) (carryRow xs0) (ix2 255 l) := by
  unfold sout0_B_0
  unfold kernelRun0_B
  dsimp only
  sl_unfold_words
  simp only [View.readAt_eq_ld, harg1.read_unread, harg2.read_unread, harg3.read_unread, harg4.read_unread, harg5.read_unread,
    harg6.read_unread, harg10.read_unread]
  simp (disch := decide) only [View.ld_unit_lit']
  refine (View.read_writes_cons_hit_of_coords _ _ _ _ _ (ix2 0 l) _ ?_).trans ?_
  · intro a
    fin_cases a <;> simp
  exact carry_apply _ _ l

end Cert.Proof.Prep

end
-- ==== Proof.PrepIn.lean ====
/-
  The projections of the forgetting attention: the blocks that each grid point loads, as elements of the call's arguments.
-/
module

public import proofs.«01_k».proof.Proof.Gen.Kernel4Ideal.Value
public import Idealize.ShloMosaic.Lib.Pointwise
public import Idealize.ShloMosaic.Lib.Claim
public import Idealize.ShloMosaic.Lib.KernelVsHost
public import Idealize.ShloMosaic.Lib.Pipeline.ValueKit

@[expose] public section

noncomputable section

namespace Cert.Proof.Prep

open Idealize.ShloMosaic Idealize.ShloMosaic.TcCoe Idealize.SL.Sem
open Cert.Kernel4Ideal Cert.Kernel4Ideal.Gen

variable (m : (ℓ : Loc nD τ sig) → Buf (Elt Ideal) ℓ)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = t.val ∧ win0_6.index t 2 = 0 :=
  (by decide +kernel : ∀ t : Fin grid0.N, win0_6.index t 0 = 0 ∧ win0_6.index t 1 = t.val ∧ win0_6.index t 2 = 0)
theorem index7 : ∀ t : Fin cfg0.N, win0_7.index t 0 = 0 ∧ win0_7.index t 1 = t.val ∧ win0_7.index t 2 = 0 :=
  (by decide +kernel : ∀ t : Fin grid0.N, win0_7.index t 0 = 0 ∧ win0_7.index t 1 = t.val ∧ win0_7.index t 2 = 0)
theorem index8 : ∀ t : Fin cfg0.N, win0_8.index t 0 = 0 ∧ win0_8.index t 1 = t.val ∧ win0_8.index t 2 = 0 :=
  (by decide +kernel : ∀ t : Fin grid0.N, win0_8.index t 0 = 0 ∧ win0_8.index t 1 = t.val ∧ win0_8.index t 2 = 0)

/-- Row `r` of point `t`'s block, in the whole array. -/
def row (t : Fin cfg0.N) (r : Fin 256) : Fin 16384 := ⟨t.val * 256 + r.val, by have : t.val < 64 := t.isLt; omega⟩

/-- Window 0's block at a point: rows `256 t ..` of the array. -/
theorem iblk0_apply (c : Dev nD) (t : Fin cfg0.N) (r : Fin 256) (k : Fin 1024) :
    iblk m c 0 t (ix2 r k) = m ((c : Thread nD τ).loc main_arg0) (ix2 (row t r) k) := by
  have hemb : ((cfg0.win 0).blk t).view.emb (ix2 r k) = ix2 (n0 := 16384) (n1 := 1024) (row t r) k := by
    funext a
    apply Fin.ext
    match a with
    | ⟨0, _⟩ => show win0_0.index t 0 * 256 + 1 * r.val = t.val * 256 + r.val
                rw [(index0 t).1]; omega
    | ⟨1, _⟩ => show win0_0.index t 1 * 1024 + 1 * k.val = k.val
                rw [(index0 t).2]; omega
  show V m c main_arg0 (((cfg0.win 0).blk t).view.emb (ix2 r k)) = _
  rw [hemb]
  rw [V_main_arg0]

/-- Window 1's block at a point: the gain of the normalization. -/
theorem iblk1_apply (c : Dev nD) (t : Fin cfg0.N) (k : Fin 1024) :
    iblk m c 1 t (ix2 0 k) = m ((c : Thread nD τ).loc main_arg1) (ix1 k) := by
  have hemb : ((cfg0.win 1).blk t).view.emb (ix2 0 k) = ix2 (n0 := 1) (n1 := 1024) 0 k := by
    funext a
    apply Fin.ext
    match a with
    | ⟨0, _⟩ => show win0_1.index t 0 * 1 + 1 * 0 = 0
                rw [(index1 t).1]
    | ⟨1, _⟩ => show win0_1.index t 1 * 1024 + 1 * k.val = k.val
                rw [(index1 t).2]; omega
  show V m c main_v37 (((cfg0.win 1).blk t).view.emb (ix2 0 k)) = _
  rw [hemb]
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  pointwise

/-- Window 3's block at a point: the gates' bias, in the first four lanes. -/
theorem iblk3_apply (c : Dev nD) (t : Fin cfg0.N) (h : Fin 4) :
    iblk m c 3 t (ix2 0 ⟨h.val, by omega⟩) = m ((c : Thread nD τ).loc main_arg3) (ix1 h) := by
  have hemb : ((cfg0.win 3).blk t).view.emb (ix2 0 ⟨h.val, by omega⟩) = ix2 (n0 := 1) (n1 := 128) 0 ⟨h.val, by omega⟩ := by
    funext a
    apply Fin.ext
    match a with
    | ⟨0, _⟩ => show win0_3.index t 0 * 1 + 1 * 0 = 0
                rw [(index3 t).1]
    | ⟨1, _⟩ => show win0_3.index t 1 * 128 + 1 * h.val = h.val
                rw [(index3 t).2]; omega
  show V m c main_v39 (((cfg0.win 3).blk t).view.emb (ix2 0 ⟨h.val, by omega⟩)) = _
  rw [hemb]
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  simp only [StableHlo.TRef.toBuf, StableHlo.TRef.ofBuf, cast_cast, cast_eq]
  refine (pad_apply_of_inside _ _ _ _ _ _ _ _ (ix2 (n0 := 1) (n1 := 4) 0 h) ?_).trans ?_
  · intro a
    match a with
    | ⟨0, _⟩ => rfl
    | ⟨1, _⟩ => show h.val = 0 + h.val * 1; omega
  · pointwise

/-- Window 4's block at a point: the queries' gain, twice. -/
theorem iblk4_apply (c : Dev nD) (t : Fin cfg0.N) (l : Fin 128) :
    iblk m c 4 t (ix2 0 l) = m ((c : Thread nD τ).loc main_arg4) (ix1 ⟨l.val % 64, by omega⟩) := by
  have hemb : ((cfg0.win 4).blk t).view.emb (ix2 0 l) = ix2 (n0 := 1) (n1 := 128) 0 l := by
    funext a
    apply Fin.ext
    match a with
    | ⟨0, _⟩ => show win0_4.index t 0 * 1 + 1 * 0 = 0
                rw [(index4 t).1]
    | ⟨1, _⟩ => show win0_4.index t 1 * 128 + 1 * l.val = l.val
                rw [(index4 t).2]; omega
  show V m c main_v43 (((cfg0.win 4).blk t).view.emb (ix2 0 l)) = _
  rw [hemb]
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  pointwise

/-- Window 5's block at a point: the keys' gain, twice. -/
theorem iblk5_apply (c : Dev nD) (t : Fin cfg0.N) (l : Fin 128) :
    iblk m c 5 t (ix2 0 l) = m ((c : Thread nD τ).loc main_arg5) (ix1 ⟨l.val % 64, by omega⟩) := by
  have hemb : ((cfg0.win 5).blk t).view.emb (ix2 0 l) = ix2 (n0 := 1) (n1 := 128) 0 l := by
    funext a
    apply Fin.ext
    match a with
    | ⟨0, _⟩ => show win0_5.index t 0 * 1 + 1 * 0 = 0
                rw [(index5 t).1]
    | ⟨1, _⟩ => show win0_5.index t 1 * 128 + 1 * l.val = l.val
                rw [(index5 t).2]; omega
  show V m c main_v47 (((cfg0.win 5).blk t).view.emb (ix2 0 l)) = _
  rw [hemb]
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  pointwise

/-- A line of operations in two parts. -/
theorem after_app (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l ih => exact ih _

/-- The joined weight, from the pieces that the operations before it leave. -/
theorem joined (σ : Valuation τ sig (Elt Ideal)) (d : Fin 1024) (k : Fin 896) :
    ((StableHlo.after hostOps0_2 σ (Proc.devRef .tc main_v19) : (⟨S1024x896, .bf16⟩ : BufTy).Contents (Elt Ideal)) (ix2 d k) : Ideal .bf16)
      = if h : k.val < 256 then
          (σ (Proc.devRef .tc main_v0) : (⟨S1024x256, .f32⟩ : BufTy).Contents (Elt Ideal)) (ix2 (n0 := 1024) (n1 := 256) d ⟨k.val, h⟩)
        else if h : k.val - 256 < 256 then
          (σ (Proc.devRef .tc main_v1) : (⟨S1024x256, .f32⟩ : BufTy).Contents (Elt Ideal)) (ix2 (n0 := 1024) (n1 := 256) d ⟨k.val - 256, h⟩)
        else if h : k.val - 256 - 256 < 256 then
          (σ (Proc.devRef .tc main_v2) : (⟨S1024x256, .f32⟩ : BufTy).Contents (Elt Ideal)) (ix2 (n0 := 1024) (n1 := 256) d ⟨k.val - 256 - 256, h⟩)
        else (σ (Proc.devRef .tc main_v17) : (⟨S1024x128, .f32⟩ : BufTy).Contents (Elt Ideal))
          (ix2 (n0 := 1024) (n1 := 128) d ⟨k.val - 256 - 256 - 256, by omega⟩) := by
  simp only [hostOps0_2]
  entry_read
  pointwise

/-- The operations after it leave the joined weight alone. -/
theorem rest_v19 (σ : Valuation τ sig (Elt Ideal)) :
    StableHlo.after (hostOps0_3 ++ (hostOps0_4 ++ (hostOps0_5 ++ (hostOps0_6 ++ (hostOps0_7 ++ (hostOps0_8 (F := Ideal))))))) σ (Proc.devRef .tc main_v19)
      = σ (Proc.devRef .tc main_v19) := by
  simp only [hostOps0_3, hostOps0_4, hostOps0_5, hostOps0_6, hostOps0_7, hostOps0_8, List.cons_append, List.nil_append]
  entry_read
  rfl

/-- A piece of the joined weight: columns 0 to 255 of the input weight. -/
theorem start_v0 (σ : Valuation τ sig (Elt Ideal)) (d : Fin 1024) (k : Fin 256) :
    ((StableHlo.after (hostOps0_1 (F := Ideal)) (StableHlo.after hostOps0 σ) (Proc.devRef .tc main_v0) : (⟨S1024x256, .f32⟩ : BufTy).Contents (Elt Ideal)) (ix2 d k) : EReal)
      = (σ (Proc.devRef .tc main_arg2) : (⟨S1024x8220, .f32⟩ : BufTy).Contents (Elt Ideal)) (ix2 d ⟨k.val, by omega⟩) := by
  rw [← after_app]
  simp only [hostOps0, hostOps0_1, List.cons_append, List.nil_append]
  entry_read
  pointwise

/-- A piece of the joined weight: columns 256 to 511 of the input weight. -/
theorem start_v1 (σ : Valuation τ sig (Elt Ideal)) (d : Fin 1024) (k : Fin 256) :
    ((StableHlo.after (hostOps0_1 (F := Ideal)) (StableHlo.after hostOps0 σ) (Proc.devRef .tc main_v1) : (⟨S1024x256, .f32⟩ : BufTy).Contents (Elt Ideal)) (ix2 d k) : EReal)
      = (σ (Proc.devRef .tc main_arg2) : (⟨S1024x8220, .f32⟩ : BufTy).Contents (Elt Ideal)) (ix2 d ⟨256 + k.val, by omega⟩) := by
  rw [← after_app]
  simp only [hostOps0, hostOps0_1, List.cons_append, List.nil_append]
  entry_read
  pointwise

/-- A piece of the joined weight: columns 512 to 767 of the input weight. -/
theorem start_v2 (σ : Valuation τ sig (Elt Ideal)) (d : Fin 1024) (k : Fin 256) :
    ((StableHlo.after (hostOps0_1 (F := Ideal)) (StableHlo.after hostOps0 σ) (Proc.devRef .tc main_v2) : (⟨S1024x256, .f32⟩ : BufTy).Contents (Elt Ideal)) (ix2 d k) : EReal)
      = (σ (Proc.devRef .tc main_arg2) : (⟨S1024x8220, .f32⟩ : BufTy).Contents (Elt Ideal)) (ix2 d ⟨512 + k.val, by omega⟩) := by
  rw [← after_app]
  simp only [hostOps0, hostOps0_1, List.cons_append, List.nil_append]
  entry_read
  pointwise

/-- The last piece: the four gate columns, in the first four lanes. -/
theorem start_v17 (σ : Valuation τ sig (Elt Ideal)) (d : Fin 1024) (k : Fin 4) :
    ((StableHlo.after (hostOps0_1 (F := Ideal)) (StableHlo.after hostOps0 σ) (Proc.devRef .tc main_v17) : (⟨S1024x128, .f32⟩ : BufTy).Contents (Elt Ideal)) (ix2 d ⟨k.val, by omega⟩) : EReal)
      = (σ (Proc.devRef .tc main_arg2) : (⟨S1024x8220, .f32⟩ : BufTy).Contents (Elt Ideal)) (ix2 d ⟨768 + k.val, by omega⟩) := by
  rw [← after_app]
  simp only [hostOps0, hostOps0_1, List.cons_append, List.nil_append]
  entry_read
  simp only [StableHlo.TRef.toBuf, StableHlo.TRef.ofBuf, cast_cast, cast_eq]
  refine (pad_apply_of_inside _ _ _ _ _ _ _ _ (ix2 (n0 := 1024) (n1 := 4) d k) ?_).trans ?_
  · intro a
    match a with
    | ⟨0, _⟩ => show d.val = 0 + d.val * 1; omega
    | ⟨1, _⟩ => show k.val = 0 + k.val * 1; omega
  · pointwise

/-- The joined weight at the call, from the operations that make it. -/
theorem chain19 (c : Dev nD) : V m c main_v19 = StableHlo.after hostOps0_2 (StableHlo.after (hostOps0_1 (F := Ideal)) (StableHlo.after hostOps0 (fun b => m (c, b))))
    (Proc.devRef .tc main_v19) := by
  show StableHlo.after (hostOps0 ++ (hostOps0_1 ++ (hostOps0_2 ++ (hostOps0_3 ++ (hostOps0_4 ++ (hostOps0_5 ++ (hostOps0_6 ++ (hostOps0_7 ++ (hostOps0_8 ++ []))))))))) _ _ = _
  rw [List.append_nil, after_app, after_app, after_app, rest_v19]

/-- Window 2's block at a point: the first 772 columns of the input weight. -/
theorem iblk2_apply (c : Dev nD) (t : Fin cfg0.N) (d : Fin 1024) (k : Fin 896) (hk : k.val < 772) :
    (iblk m c 2 t (ix2 d k) : EReal) = m ((c : Thread nD τ).loc main_arg2) (ix2 d ⟨k.val, by omega⟩) := by
  have hemb : ((cfg0.win 2).blk t).view.emb (ix2 d k) = ix2 (n0 := 1024) (n1 := 896) d k := by
    funext a
    apply Fin.ext
    match a with
    | ⟨0, _⟩ => show win0_2.index t 0 * 1024 + 1 * d.val = d.val
                rw [(index2 t).1]; omega
    | ⟨1, _⟩ => show win0_2.index t 1 * 896 + 1 * k.val = k.val
                rw [(index2 t).2]; omega
  show V m c main_v19 (((cfg0.win 2).blk t).view.emb (ix2 d k)) = _
  rw [hemb, chain19]
  refine (joined _ d k).trans ?_
  have e : ∀ (n : ℕ) (hn : n < 8220), n = k.val →
      (m ((c : Thread nD τ).loc main_arg2) (ix2 d ⟨n, hn⟩) : EReal) = m ((c : Thread nD τ).loc main_arg2) (ix2 d ⟨k.val, by omega⟩) := by
    intro n hn h
    subst h
    rfl
  split_ifs with h1 h2 h3
  · exact (start_v0 _ d ⟨k.val, h1⟩).trans (e _ _ rfl)
  · exact (start_v1 _ d ⟨k.val - 256, h2⟩).trans (e _ _ (by show 256 + (k.val - 256) = k.val; omega))
  · exact (start_v2 _ d ⟨k.val - 256 - 256, h3⟩).trans (e _ _ (by show 512 + (k.val - 256 - 256) = k.val; omega))
  · exact (start_v17 _ d ⟨k.val - 256 - 256 - 256, by omega⟩).trans (e _ _ (by show 768 + (k.val - 256 - 256 - 256) = k.val; omega))

end Cert.Proof.Prep
end
-- ==== Proof.PrepCarry.lean ====
/-
  The projections of the forgetting attention: the carried row holds the sums of the gates of the rows before each grid point,
  so that each point's three blocks are the reference's rows.
-/
module

public import proofs.«01_k».proof.Proof.PrepBlock
public import proofs.«01_k».proof.Proof.PrepIn

@[expose] public section

noncomputable section

namespace Cert.Proof.Prep

open Idealize.ShloMosaic Idealize.ShloMosaic.TcCoe Idealize.SL.Sem
open Cert.Kernel4Ideal Cert.Kernel4Ideal.Gen

/-! ## A prefix sum, split at a block of rows -/

/-- The sum up to row `r` of a block is the block's own sum up to that row plus the sum of the rows before the block. -/
theorem split_sum (f : Fin 16384 → EReal) (t : Fin cfg0.N) (r : Fin 256) :
    (∑ w : Fin 16384, if w.val ≤ (row t r).val then f w else 0)
      = (∑ x : Fin 256, if x.val ≤ r.val then f (row t x) else 0) + ∑ w : Fin 16384, if w.val < t.val * 256 then f w else 0 := by
  have e : (∑ x : Fin 256, if x.val ≤ r.val then f (row t x) else 0)
      = ∑ w : Fin 16384, if t.val * 256 ≤ w.val ∧ w.val ≤ (row t r).val then f w else 0 := by
    refine Finset.sum_of_injOn (row t) ?_ ?_ ?_ ?_
    · intro a _ b _ hab
      have h : t.val * 256 + a.val = t.val * 256 + b.val := congrArg Fin.val hab
      exact Fin.ext (by omega)
    · intro a _
      exact Finset.mem_coe.2 (Finset.mem_univ _)
    · intro w _ hw
      refine if_neg fun h => hw ?_
      have h2 : w.val ≤ t.val * 256 + r.val := h.2
      exact ⟨⟨w.val - t.val * 256, by omega⟩, Finset.mem_coe.2 (Finset.mem_univ _), Fin.ext (by
        show t.val * 256 + (w.val - t.val * 256) = w.val
        omega)⟩
    · intro x _
      have h : x.val ≤ r.val ↔ t.val * 256 ≤ (row t x).val ∧ (row t x).val ≤ (row t r).val := by
        show _ ↔ t.val * 256 ≤ t.val * 256 + x.val ∧ t.val * 256 + x.val ≤ t.val * 256 + r.val
        omega
      exact if_congr h rfl rfl
  rw [e, ← Finset.sum_add_distrib]
  refine Finset.sum_congr rfl fun w _ => ?_
  have hr : (row t r).val = t.val * 256 + r.val := rfl
  by_cases h1 : w.val < t.val * 256
  · rw [if_pos (by omega), if_neg (by omega), if_pos h1, zero_add]
  · rw [if_neg h1, add_zero]
    exact if_congr ⟨fun h => ⟨by omega, h⟩, fun h => h.2⟩ rfl rfl

section Points

variable (m : (ℓ : Loc nD τ sig) → Buf (Elt Ideal) ℓ) (c : Dev nD)

/-- The call's arguments. -/
abbrev a0 : FVec Ideal Cert.Reference4Ideal.S16384x1024 .f32 := m ((c : Thread nD τ).loc main_arg0)
abbrev a1 : FVec Ideal Cert.Reference4Ideal.S1024 .f32 := m ((c : Thread nD τ).loc main_arg1)
abbrev a2 : FVec Ideal Cert.Reference4Ideal.S1024x8220 .f32 := m ((c : Thread nD τ).loc main_arg2)
abbrev a3 : FVec Ideal Cert.Reference4Ideal.S4 .f32 := m ((c : Thread nD τ).loc main_arg3)
abbrev a4 : FVec Ideal Cert.Reference4Ideal.S64 .f32 := m ((c : Thread nD τ).loc main_arg4)
abbrev a5 : FVec Ideal Cert.Reference4Ideal.S64 .f32 := m ((c : Thread nD τ).loc main_arg5)

/-- The projections of a point's rows, and their gates, as the body computes them. -/
abbrev uB (t : Fin cfg0.N) : FVec Ideal S256x896 .f32 := k0_pay5 (iblk m c 0 t) (iblk m c 1 t) (iblk m c 2 t)
abbrev lsB (t : Fin cfg0.N) : V := k0_pay6 (iblk m c 0 t) (iblk m c 1 t) (iblk m c 2 t) (iblk m c 3 t)

/-- The sum of the gates of the rows before a point's block. -/
def before (n : ℕ) (h : Fin 4) : EReal :=
  ∑ w : Fin 16384, if w.val < n * 256 then gate (a0 m c) (a1 m c) (a2 m c) (a3 m c) w h else 0

theorem before_zero (h : Fin 4) : before m c 0 h = 0 :=
  Finset.sum_eq_zero fun w _ => if_neg (by omega)

theorem u_blk (t : Fin cfg0.N) (r : Fin 256) (n : ℕ) (hn : n < 772) :
    (uB m c t (ix2 r ⟨n, by omega⟩) : EReal) = prj (a0 m c) (a1 m c) (a2 m c) (row t r) n hn := by
  refine (u_apply _ _ _ r ⟨n, by omega⟩).trans ?_
  have e0 : (fun d : Fin 1024 => (iblk m c 0 t (ix2 r d) : EReal)) = fun d => a0 m c (ix2 (row t r) d) :=
    funext fun d => iblk0_apply m c t r d
  have e1 : (fun d : Fin 1024 => (iblk m c 1 t (ix2 0 d) : EReal)) = fun d => a1 m c (ix1 d) := funext fun d => iblk1_apply m c t d
  have e2 : (fun d : Fin 1024 => (iblk m c 2 t (ix2 d ⟨n, by omega⟩) : EReal)) = fun d => a2 m c (ix2 d ⟨n, by omega⟩) :=
    funext fun d => iblk2_apply m c t d ⟨n, by omega⟩ hn
  unfold prj
  rw [← e0, ← e1, ← e2]

theorem ls_blk (t : Fin cfg0.N) (r : Fin 256) (h : Fin 4) :
    (lsB m c t (ix2 r ⟨h.val, by omega⟩) : EReal) = gate (a0 m c) (a1 m c) (a2 m c) (a3 m c) (row t r) h := by
  refine (ls_apply _ _ _ _ r ⟨h.val, by omega⟩).trans ?_
  unfold gate
  have e3 : (iblk m c 3 t (ix2 0 ⟨h.val, by omega⟩) : EReal) = a3 m c (ix1 h) := iblk3_apply m c t h
  rw [← u_blk m c t r (768 + h.val) (by omega), ← e3]

variable (H : Fin4 (a1 m c) (a2 m c) (a3 m c))
include H

/-- The body's prefix sums of a block, over a carried row holding the sums before the block. -/
theorem csum_pt (t : Fin cfg0.N) (cr : Vec Ideal S1x128 .f32) (hcr : ∀ h : Fin 4, (cr (ix2 0 ⟨h.val, by omega⟩) : EReal) = before m c t.val h)
    (r : Fin 256) (h : Fin 4) :
    (csum (lsB m c t) cr (ix2 r ⟨h.val, by omega⟩) : EReal) = pfx (a0 m c) (a1 m c) (a2 m c) (a3 m c) (row t r) h := by
  refine (c_apply (lsB m c t) cr r ⟨h.val, by omega⟩ fun x => ?_).trans ?_
  · rw [ls_blk m c t x h]
    exact gate_real _ _ _ _ H _ h
  · rw [hcr h]
    simp only [ls_blk]
    exact (split_sum (fun w => gate (a0 m c) (a1 m c) (a2 m c) (a3 m c) w h) t r).symm

theorem pfx_real (r : Fin 16384) (h : Fin 4) : ∃ a : ℝ, pfx (a0 m c) (a1 m c) (a2 m c) (a3 m c) r h = a := by
  refine real_sum _ fun w => ?_
  split_ifs
  · exact gate_real _ _ _ _ H w h
  · exact ⟨0, rfl⟩

/-- A point's query rows are the reference's. -/
theorem q_pt (t : Fin cfg0.N) (cr : Vec Ideal S1x128 .f32) (hcr : ∀ h : Fin 4, (cr (ix2 0 ⟨h.val, by omega⟩) : EReal) = before m c t.val h)
    (h : Fin 4) (r : Fin 256) (l : Fin 128) :
    (qPk (uB m c t) (lsB m c t) cr (iblk m c 4 t) h (ix3 0 r l) : EReal)
      = Cert.Reference4Ideal.Read.val_main_v61 (F := Ideal) (a0 m c) (a1 m c) (a2 m c) (a3 m c) (a4 m c) (ix3 h (row t r) l) := by
  have hc := csum_pt m c H t cr hcr r h
  rw [ref_q _ _ _ _ H]
  refine (qPk_apply _ _ cr _ h r l ?_ ?_).trans ?_
  · rw [hc]
    exact pfx_real m c H _ h
  · intro d
    refine (iblk4_apply m c t _).trans (Eq.trans ?_ (iblk4_apply m c t _).symm)
    exact congrArg (fun j => (m ((c : Thread nD τ).loc main_arg4) (ix1 j) : EReal)) (Fin.ext (by show (64 + d.val) % 64 = d.val % 64; omega))
  · have e : (fun d : Fin 64 => (iblk m c 4 t (ix2 0 ⟨d.val, by omega⟩) : EReal)) = fun d => a4 m c (ix1 d) := funext fun d =>
      (iblk4_apply m c t _).trans (congrArg (fun j => (m ((c : Thread nD τ).loc main_arg4) (ix1 j) : EReal))
        (Fin.ext (by show d.val % 64 = d.val; omega)))
    rw [hc, e]
    have eu : (fun d : Fin 64 => (uB m c t (ix2 r ⟨h.val * 64 + d.val, by omega⟩) : EReal))
        = fun d => prj (a0 m c) (a1 m c) (a2 m c) (row t r) (h.val * 64 + d.val) (by omega) :=
      funext fun d => u_blk m c t r (h.val * 64 + d.val) (by omega)
    rw [eu]

/-- A point's key rows are the reference's. -/
theorem k_pt (t : Fin cfg0.N) (cr : Vec Ideal S1x128 .f32) (hcr : ∀ h : Fin 4, (cr (ix2 0 ⟨h.val, by omega⟩) : EReal) = before m c t.val h)
    (h : Fin 4) (r : Fin 256) (l : Fin 128) :
    (kPk (uB m c t) (lsB m c t) cr (iblk m c 5 t) h (ix3 0 r l) : EReal)
      = Cert.Reference4Ideal.Read.val_main_v67 (F := Ideal) (a0 m c) (a1 m c) (a2 m c) (a3 m c) (a5 m c) (ix3 h (row t r) l) := by
  have hc := csum_pt m c H t cr hcr r h
  rw [ref_k _ _ _ _ H]
  refine (kPk_apply _ _ cr _ h r l ?_ ?_).trans ?_
  · rw [hc]
    exact pfx_real m c H _ h
  · intro d
    refine (iblk5_apply m c t _).trans (Eq.trans ?_ (iblk5_apply m c t _).symm)
    exact congrArg (fun j => (m ((c : Thread nD τ).loc main_arg5) (ix1 j) : EReal)) (Fin.ext (by show (64 + d.val) % 64 = d.val % 64; omega))
  · have e : (fun d : Fin 64 => (iblk m c 5 t (ix2 0 ⟨d.val, by omega⟩) : EReal)) = fun d => a5 m c (ix1 d) := funext fun d =>
      (iblk5_apply m c t _).trans (congrArg (fun j => (m ((c : Thread nD τ).loc main_arg5) (ix1 j) : EReal))
        (Fin.ext (by show d.val % 64 = d.val; omega)))
    rw [hc, e]
    have eu : (fun d : Fin 64 => (uB m c t (ix2 r ⟨256 + (h.val * 64 + d.val), by omega⟩) : EReal))
        = fun d => prj (a0 m c) (a1 m c) (a2 m c) (row t r) (256 + (h.val * 64 + d.val)) (by omega) :=
      funext fun d => u_blk m c t r (256 + (h.val * 64 + d.val)) (by omega)
    rw [eu]

omit H in
/-- A point's value rows are the reference's. -/
theorem v_pt (t : Fin cfg0.N) (h : Fin 4) (r : Fin 256) (l : Fin 128) :
    (vPk (uB m c t) h (ix3 0 r l) : EReal)
      = Cert.Reference4Ideal.Read.val_main_v72 (F := Ideal) (a0 m c) (a1 m c) (a2 m c) (ix3 h (row t r) l) := by
  rw [ref_v]
  refine (vPk_apply _ h r l).trans ?_
  have eu : (fun d : Fin 64 => (uB m c t (ix2 r ⟨512 + (h.val * 64 + d.val), by omega⟩) : EReal))
      = fun d => prj (a0 m c) (a1 m c) (a2 m c) (row t r) (512 + (h.val * 64 + d.val)) (by omega) :=
    funext fun d => u_blk m c t r (512 + (h.val * 64 + d.val)) (by omega)
  rw [eu]

/-- The carried row that a point leaves: the sums before the next block. -/
theorem carry_pt (t : Fin cfg0.N) (cr : Vec Ideal S1x128 .f32) (hcr : ∀ h : Fin 4, (cr (ix2 0 ⟨h.val, by omega⟩) : EReal) = before m c t.val h)
    (h : Fin 4) : (csum (lsB m c t) cr (ix2 255 ⟨h.val, by omega⟩) : EReal) = before m c (t.val + 1) h := by
  rw [csum_pt m c H t cr hcr 255 h]
  refine Finset.sum_congr rfl fun w _ => if_congr ?_ rfl rfl
  show w.val ≤ t.val * 256 + 255 ↔ w.val < (t.val + 1) * 256
  omega

/-- After every point the carried row holds the sums of the gates of the rows written so far. -/
theorem carried : ∀ (n : ℕ) (hn : n < cfg0.N) (h : Fin 4),
    ((outsAt0 m c n hn).2.2.2 (ix2 0 ⟨h.val, by omega⟩) : EReal) = before m c (n + 1) h := by
  intro n
  induction n with
  | zero =>
    intro hn h
    rw [outsAt0_A m c ⟨0, hn⟩ (Nat.zero_mod _)]
    dsimp only
    rw [carryA]
    refine carry_pt m c H ⟨0, hn⟩ _ (fun h => ?_) h
    rw [carryRow_apply, carry_zero]
    exact (before_zero m c h).symm
  | succ n ih =>
    intro hn h
    have h64 : n + 1 < 64 := hn
    rw [outsAt0_B m c ⟨n + 1, hn⟩ (by show ¬ (n + 1) % 64 = 0; omega)]
    dsimp only
    rw [carryB]
    refine carry_pt m c H ⟨n + 1, hn⟩ _ (fun h => ?_) h
    rw [carryRow_apply]
    exact ih _ h

/-- What the first point leaves in the three output blocks, at an index: the reference's arrays there. -/
theorem outs_A (t : Fin cfg0.N) (h0 : t.val % 64 = 0) (h : Fin 4) (r : Fin 256) (l : Fin 128) :
    ((outsAt0 m c t.val t.isLt).1 (ix3 h r l) : EReal)
        = Cert.Reference4Ideal.Read.val_main_v61 (F := Ideal) (a0 m c) (a1 m c) (a2 m c) (a3 m c) (a4 m c) (ix3 h (row t r) l)
    ∧ ((outsAt0 m c t.val t.isLt).2.1 (ix3 h r l) : EReal)
        = Cert.Reference4Ideal.Read.val_main_v67 (F := Ideal) (a0 m c) (a1 m c) (a2 m c) (a3 m c) (a5 m c) (ix3 h (row t r) l)
    ∧ ((outsAt0 m c t.val t.isLt).2.2.1 (ix3 h r l) : EReal)
        = Cert.Reference4Ideal.Read.val_main_v72 (F := Ideal) (a0 m c) (a1 m c) (a2 m c) (ix3 h (row t r) l) := by
  have ht : t.val = 0 := by
    have : t.val < 64 := t.isLt
    omega
  have hcr : ∀ h : Fin 4, (carryRow (k0_pay4 (F := Ideal)) (ix2 0 ⟨h.val, by omega⟩) : EReal) = before m c t.val h := fun h => by
    rw [carryRow_apply, carry_zero, ht]
    exact (before_zero m c h).symm
  rw [outsAt0_A m c t h0]
  dsimp only
  refine ⟨?_, ?_, ?_⟩
  · rw [blkA6]
    exact q_pt m c H t _ hcr h r l
  · rw [blkA7]
    exact k_pt m c H t _ hcr h r l
  · rw [blkA8]
    exact v_pt m c t h r l

/-- What every later point leaves in the three output blocks, at an index: the reference's arrays there. -/
theorem outs_B (t : Fin cfg0.N) (h0 : ¬ t.val % 64 = 0) (h : Fin 4) (r : Fin 256) (l : Fin 128) :
    ((outsAt0 m c t.val t.isLt).1 (ix3 h r l) : EReal)
        = Cert.Reference4Ideal.Read.val_main_v61 (F := Ideal) (a0 m c) (a1 m c) (a2 m c) (a3 m c) (a4 m c) (ix3 h (row t r) l)
    ∧ ((outsAt0 m c t.val t.isLt).2.1 (ix3 h r l) : EReal)
        = Cert.Reference4Ideal.Read.val_main_v67 (F := Ideal) (a0 m c) (a1 m c) (a2 m c) (a3 m c) (a5 m c) (ix3 h (row t r) l)
    ∧ ((outsAt0 m c t.val t.isLt).2.2.1 (ix3 h r l) : EReal)
        = Cert.Reference4Ideal.Read.val_main_v72 (F := Ideal) (a0 m c) (a1 m c) (a2 m c) (ix3 h (row t r) l) := by
  have hcr : ∀ h : Fin 4, (carryRow (outsAt0 m c (t.val - 1) (Nat.lt_of_le_of_lt (Nat.sub_le _ _) t.isLt)).2.2.2
      (ix2 0 ⟨h.val, by omega⟩) : EReal) = before m c t.val h := fun h => by
    rw [carryRow_apply]
    have e := carried m c H (t.val - 1) (Nat.lt_of_le_of_lt (Nat.sub_le _ _) t.isLt) h
    rw [show t.val - 1 + 1 = t.val by omega] at e
    exact e
  rw [outsAt0_B m c t h0]
  dsimp only
  refine ⟨?_, ?_, ?_⟩
  · rw [blkB6]
    exact q_pt m c H t _ hcr h r l
  · rw [blkB7]
    exact k_pt m c H t _ hcr h r l
  · rw [blkB8]
    exact v_pt m c t h r l

end Points

end Cert.Proof.Prep
end
-- ==== Proof.PrepPre.lean ====
/-
  The precondition of the projections of the forgetting attention, read element by element: what the gates are computed from is real.
-/
module

public import proofs.«01_k».proof.Defs
public import proofs.«01_k».proof.Proof.Gen.Pre_finite_gate
public import proofs.«01_k».proof.Proof.FoxPre
public import proofs.«01_k».proof.Proof.PrepRef
public import Idealize.ShloMosaic.Lib.Pointwise

@[expose] public section

noncomputable section

namespace Cert.Proof.PrepPre

open Idealize.ShloMosaic Idealize.ShloMosaic.TcCoe Idealize.SL.Sem
open Cert.Pre_finite_gate Cert.Proof.FoxPre

variable {x0 : FVec Ideal S16384x1024 .f32} {x1 : FVec Ideal S1024 .f32} {x2 : FVec Ideal S1024x8220 .f32} {x3 : FVec Ideal S4 .f32}
  {x4 x5 : FVec Ideal S64 .f32}

theorem gain (H : (fn (F := Ideal) x0 x1 x2 x3 x4 x5).1 = fun _ => 1#1) (d : Fin 1024) : ∃ a : ℝ, (x1 (ix1 d) : EReal) = (a : EReal) := by
  have h1 := congrFun H (ix1 d)
  unfold fn at h1
  dsimp only at h1
  pointwise at h1
  have h2 := of_bit h1
  rw [ofBits_inf] at h2
  exact real_of_abs h2

theorem weight (H : (fn (F := Ideal) x0 x1 x2 x3 x4 x5).2.1 = fun _ => 1#1) (d : Fin 1024) (h : Fin 4) :
    ∃ a : ℝ, (x2 (ix2 d ⟨768 + h.val, by omega⟩) : EReal) = (a : EReal) := by
  have h1 := congrFun H (ix2 d h)
  unfold fn at h1
  dsimp only at h1
  pointwise at h1
  have h2 := of_bit h1
  rw [ofBits_inf] at h2
  exact real_of_abs h2

theorem bias (H : (fn (F := Ideal) x0 x1 x2 x3 x4 x5).2.2 = fun _ => 1#1) (h : Fin 4) : ∃ a : ℝ, (x3 (ix1 h) : EReal) = (a : EReal) := by
  have h1 := congrFun H (ix1 h)
  unfold fn at h1
  dsimp only at h1
  pointwise at h1
  have h2 := of_bit h1
  rw [ofBits_inf] at h2
  exact real_of_abs h2

/-- The three predicates together. -/
theorem finite (H : (fn (F := Ideal) x0 x1 x2 x3 x4 x5).1 = (fun _ => 1#1) ∧ (fn (F := Ideal) x0 x1 x2 x3 x4 x5).2.1 = (fun _ => 1#1)
    ∧ (fn (F := Ideal) x0 x1 x2 x3 x4 x5).2.2 = (fun _ => 1#1)) : Prep.Fin4 x1 x2 x3 :=
  ⟨gain H.1, weight H.2.1, bias H.2.2⟩

end Cert.Proof.PrepPre

end
-- ==== Proof.Prep.lean ====
/-
  The projections of the forgetting attention: the call's three result arrays are the reference's, on every argument whose gates
  are computed from finite values.
-/
module

public import proofs.«01_k».proof.Proof.PrepCarry
public import proofs.«01_k».proof.Proof.PrepPre
public import proofs.«01_k».proof.Proof.Gen.Reference4Ideal.Run

@[expose] public section

noncomputable section

namespace Cert.Proof.Prep

open Idealize.ShloMosaic Idealize.ShloMosaic.TcCoe Idealize.SL.Sem

section Array
open Cert.Kernel4Ideal Cert.Kernel4Ideal.Gen

variable (m : (ℓ : Loc nD τ sig) → Buf (Elt Ideal) ℓ) (ρ : Dev nD → PrngReg)

/-- The three arrays that the results are shown to be: the reference's queries, keys and values of the call's own arguments. -/
def G6 (c : Dev nD) : Buf (Elt Ideal) ((c : Thread nD τ).loc main_v48_0) :=
  Cert.Reference4Ideal.Read.val_main_v61 (F := Ideal) (a0 m c) (a1 m c) (a2 m c) (a3 m c) (a4 m c)
def G7 (c : Dev nD) : Buf (Elt Ideal) ((c : Thread nD τ).loc main_v48_1) :=
  Cert.Reference4Ideal.Read.val_main_v67 (F := Ideal) (a0 m c) (a1 m c) (a2 m c) (a3 m c) (a5 m c)
def G8 (c : Dev nD) : Buf (Elt Ideal) ((c : Thread nD τ).loc main_v48_2) :=
  Cert.Reference4Ideal.Read.val_main_v72 (F := Ideal) (a0 m c) (a1 m c) (a2 m c)

/-- What every point leaves in the three output blocks, at an index. -/
theorem outs (c : Dev nD) (H : Fin4 (a1 m c) (a2 m c) (a3 m c)) (t : Fin cfg0.N) (h : Fin 4) (r : Fin 256) (l : Fin 128) :
    ((outsAt0 m c t.val t.isLt).1 (ix3 h r l) : EReal) = G6 m c (ix3 h (row t r) l)
    ∧ ((outsAt0 m c t.val t.isLt).2.1 (ix3 h r l) : EReal) = G7 m c (ix3 h (row t r) l)
    ∧ ((outsAt0 m c t.val t.isLt).2.2.1 (ix3 h r l) : EReal) = G8 m c (ix3 h (row t r) l) := by
  by_cases h0 : t.val % 64 = 0
  · exact outs_A m c H t h0 h r l
  · exact outs_B m c H t h0 h r l

/-! ## The queries -/

theorem flushed6_eq (c : Dev nD) (H : Fin4 (a1 m c) (a2 m c) (a3 m c)) (t : Fin cfg0.N) :
    (dats m 0 c).flushed 6 t = ((cfg0.win 6).blk t).view.read (Elt Ideal) (G6 m c) := by
  rw [Value.flushed6]
  funext j
  obtain ⟨h, r, l, rfl⟩ : ∃ (h : Fin 4) (r : Fin 256) (l : Fin 128), j = ix3 h r l := ⟨j 0, j 1, j 2, eq_ix3 j⟩
  have hemb : ((cfg0.win 6).blk t).view.emb (ix3 h r l) = ix3 (n0 := 4) (n1 := 16384) (n2 := 128) h (row t r) l := by
    funext a
    apply Fin.ext
    match a with
    | ⟨0, _⟩ => show win0_6.index t 0 * 4 + 1 * h.val = h.val
                rw [(index6 t).1]; omega
    | ⟨1, _⟩ => show win0_6.index t 1 * 256 + 1 * r.val = t.val * 256 + r.val
                rw [(index6 t).2.1]; omega
    | ⟨2, _⟩ => show win0_6.index t 2 * 128 + 1 * l.val = l.val
                rw [(index6 t).2.2]; omega
  show (outsAt0 m c t.val t.isLt).1 (ix3 h r l) = G6 m c (((cfg0.win 6).blk t).view.emb (ix3 h r l))
  rw [hemb]
  exact (outs m c H t h r l).1

theorem cover6 (i : S4x16384x128.Idx) : ∃ t : Fin cfg0.N, (cfg0.win 6).flush t = true ∧ i ∈ ((cfg0.win 6).blk t).view.set := by
  have h0 : (i 0).val < 4 := (i 0).isLt
  have h1 : (i 1).val < 16384 := (i 1).isLt
  have h2 : (i 2).val < 128 := (i 2).isLt
  let t : Fin cfg0.N := ⟨(i 1).val / 256, by show _ < 64; omega⟩
  refine ⟨t, (by decide +kernel : ∀ t : Fin grid0.N, (cfg0.win 6).flush t = true) t, ?_⟩
  show i ∈ ((View.whole main_v48_0).slice (win0_6.rect t)).set
  rw [View.set_slice_whole, Rect.mem_set_unit]
  intro a
  match a with
  | ⟨0, _⟩ => show win0_6.index t 0 * 4 ≤ (i 0).val ∧ (i 0).val < win0_6.index t 0 * 4 + 4
              rw [(index6 t).1]; omega
  | ⟨1, _⟩ => show win0_6.index t 1 * 256 ≤ (i 1).val ∧ (i 1).val < win0_6.index t 1 * 256 + 256
              rw [(index6 t).2.1]; dsimp only [t]; omega
  | ⟨2, _⟩ => show win0_6.index t 2 * 128 ≤ (i 2).val ∧ (i 2).val < win0_6.index t 2 * 128 + 128
              rw [(index6 t).2.2]; omega

theorem final6 (c : Dev nD) (H : Fin4 (a1 m c) (a2 m c) (a3 m c)) : (dats m 0 c).arrAt 6 cfg0.N = G6 m c :=
  (dats m 0 c).arrAt_eq_of_cover 6 (G6 m c) (fun t _ => flushed6_eq m c H t) cover6

/-! ## The keys -/

theorem flushed7_eq (c : Dev nD) (H : Fin4 (a1 m c) (a2 m c) (a3 m c)) (t : Fin cfg0.N) :
    (dats m 0 c).flushed 7 t = ((cfg0.win 7).blk t).view.read (Elt Ideal) (G7 m c) := by
  rw [Value.flushed7]
  funext j
  obtain ⟨h, r, l, rfl⟩ : ∃ (h : Fin 4) (r : Fin 256) (l : Fin 128), j = ix3 h r l := ⟨j 0, j 1, j 2, eq_ix3 j⟩
  have hemb : ((cfg0.win 7).blk t).view.emb (ix3 h r l) = ix3 (n0 := 4) (n1 := 16384) (n2 := 128) h (row t r) l := by
    funext a
    apply Fin.ext
    match a with
    | ⟨0, _⟩ => show win0_7.index t 0 * 4 + 1 * h.val = h.val
                rw [(index7 t).1]; omega
    | ⟨1, _⟩ => show win0_7.index t 1 * 256 + 1 * r.val = t.val * 256 + r.val
                rw [(index7 t).2.1]; omega
    | ⟨2, _⟩ => show win0_7.index t 2 * 128 + 1 * l.val = l.val
                rw [(index7 t).2.2]; omega
  show (outsAt0 m c t.val t.isLt).2.1 (ix3 h r l) = G7 m c (((cfg0.win 7).blk t).view.emb (ix3 h r l))
  rw [hemb]
  exact (outs m c H t h r l).2.1

theorem cover7 (i : S4x16384x128.Idx) : ∃ t : Fin cfg0.N, (cfg0.win 7).flush t = true ∧ i ∈ ((cfg0.win 7).blk t).view.set := by
  have h0 : (i 0).val < 4 := (i 0).isLt
  have h1 : (i 1).val < 16384 := (i 1).isLt
  have h2 : (i 2).val < 128 := (i 2).isLt
  let t : Fin cfg0.N := ⟨(i 1).val / 256, by show _ < 64; omega⟩
  refine ⟨t, (by decide +kernel : ∀ t : Fin grid0.N, (cfg0.win 7).flush t = true) t, ?_⟩
  show i ∈ ((View.whole main_v48_1).slice (win0_7.rect t)).set
  rw [View.set_slice_whole, Rect.mem_set_unit]
  intro a
  match a with
  | ⟨0, _⟩ => show win0_7.index t 0 * 4 ≤ (i 0).val ∧ (i 0).val < win0_7.index t 0 * 4 + 4
              rw [(index7 t).1]; omega
  | ⟨1, _⟩ => show win0_7.index t 1 * 256 ≤ (i 1).val ∧ (i 1).val < win0_7.index t 1 * 256 + 256
              rw [(index7 t).2.1]; dsimp only [t]; omega
  | ⟨2, _⟩ => show win0_7.index t 2 * 128 ≤ (i 2).val ∧ (i 2).val < win0_7.index t 2 * 128 + 128
              rw [(index7 t).2.2]; omega

theorem final7 (c : Dev nD) (H : Fin4 (a1 m c) (a2 m c) (a3 m c)) : (dats m 0 c).arrAt 7 cfg0.N = G7 m c :=
  (dats m 0 c).arrAt_eq_of_cover 7 (G7 m c) (fun t _ => flushed7_eq m c H t) cover7

/-! ## The values -/

theorem flushed8_eq (c : Dev nD) (H : Fin4 (a1 m c) (a2 m c) (a3 m c)) (t : Fin cfg0.N) :
    (dats m 0 c).flushed 8 t = ((cfg0.win 8).blk t).view.read (Elt Ideal) (G8 m c) := by
  rw [Value.flushed8]
  funext j
  obtain ⟨h, r, l, rfl⟩ : ∃ (h : Fin 4) (r : Fin 256) (l : Fin 128), j = ix3 h r l := ⟨j 0, j 1, j 2, eq_ix3 j⟩
  have hemb : ((cfg0.win 8).blk t).view.emb (ix3 h r l) = ix3 (n0 := 4) (n1 := 16384) (n2 := 128) h (row t r) l := by
    funext a
    apply Fin.ext
    match a with
    | ⟨0, _⟩ => show win0_8.index t 0 * 4 + 1 * h.val = h.val
                rw [(index8 t).1]; omega
    | ⟨1, _⟩ => show win0_8.index t 1 * 256 + 1 * r.val = t.val * 256 + r.val
                rw [(index8 t).2.1]; omega
    | ⟨2, _⟩ => show win0_8.index t 2 * 128 + 1 * l.val = l.val
                rw [(index8 t).2.2]; omega
  show (outsAt0 m c t.val t.isLt).2.2.1 (ix3 h r l) = G8 m c (((cfg0.win 8).blk t).view.emb (ix3 h r l))
  rw [hemb]
  exact (outs m c H t h r l).2.2

theorem cover8 (i : S4x16384x128.Idx) : ∃ t : Fin cfg0.N, (cfg0.win 8).flush t = true ∧ i ∈ ((cfg0.win 8).blk t).view.set := by
  have h0 : (i 0).val < 4 := (i 0).isLt
  have h1 : (i 1).val < 16384 := (i 1).isLt
  have h2 : (i 2).val < 128 := (i 2).isLt
  let t : Fin cfg0.N := ⟨(i 1).val / 256, by show _ < 64; omega⟩
  refine ⟨t, (by decide +kernel : ∀ t : Fin grid0.N, (cfg0.win 8).flush t = true) t, ?_⟩
  show i ∈ ((View.whole main_v48_2).slice (win0_8.rect t)).set
  rw [View.set_slice_whole, Rect.mem_set_unit]
  intro a
  match a with
  | ⟨0, _⟩ => show win0_8.index t 0 * 4 ≤ (i 0).val ∧ (i 0).val < win0_8.index t 0 * 4 + 4
              rw [(index8 t).1]; omega
  | ⟨1, _⟩ => show win0_8.index t 1 * 256 ≤ (i 1).val ∧ (i 1).val < win0_8.index t 1 * 256 + 256
              rw [(index8 t).2.1]; dsimp only [t]; omega
  | ⟨2, _⟩ => show win0_8.index t 2 * 128 ≤ (i 2).val ∧ (i 2).val < win0_8.index t 2 * 128 + 128
              rw [(index8 t).2.2]; omega

theorem final8 (c : Dev nD) (H : Fin4 (a1 m c) (a2 m c) (a3 m c)) : (dats m 0 c).arrAt 8 cfg0.N = G8 m c :=
  (dats m 0 c).arrAt_eq_of_cover 8 (G8 m c) (fun t _ => flushed8_eq m c H t) cover8

end Array

/-! ## The claims -/

/-- Over the extended reals the call and the reference leave the same three arrays, where what the gates are computed from is finite. -/
theorem algebraic : Cert.algebraic_Kernel4Ideal_Reference4Ideal_pre_finite_gate := by
  intro m ρ m' ρ' hpre hagree
  have H : ∀ c : Dev Cert.Kernel4Ideal.nD, Fin4 (a1 m c) (a2 m c) (a3 m c) := fun c => PrepPre.finite (hpre c)
  refine ⟨fun c => G6 m c, fun c => G7 m c, fun c => G8 m c, ?_, ?_⟩
  · exact (θ_run Cert.Kernel4Ideal.defs _ _).mono
      (fun r h c => ⟨(h c).1.trans (final6 m c (H c)), (h c).2.1.trans (final7 m c (H c)), (h c).2.2.1.trans (final8 m c (H c)), (h c).2.2.2⟩)
      (Cert.Kernel4Ideal.Value.run_blocks (F := Ideal) m ρ)
  · refine (θ_run Cert.Reference4Ideal.defs _ _).mono
      (fun r h c => ⟨(h c).1.trans ?_, (h c).2.1.trans ?_, (h c).2.2.1.trans ?_, (h c).2.2.2⟩)
      (Cert.Reference4Ideal.Value.run (F := Ideal) m' ρ')
    all_goals obtain ⟨h0, h1, h2, h3, h4, h5⟩ := hagree c
    · refine (Cert.Reference4Ideal.Read.val_main_v61_eq m' c).trans ?_
      rw [h0, h1, h2, h3, h4]
      rfl
    · refine (Cert.Reference4Ideal.Read.val_main_v67_eq m' c).trans ?_
      rw [h0, h1, h2, h3, h5]
      rfl
    · refine (Cert.Reference4Ideal.Read.val_main_v72_eq _ _ _).trans ?_
      rw [h0, h1, h2]
      rfl

/-- The reference's run leaves its arguments unchanged, and it has no counter. -/
theorem frame_ref : Cert.quiescent_Reference4Ideal := fun m ρ _ =>
  (θ_run Cert.Reference4Ideal.defs _ _).mono
    (fun r h => ⟨fun c => (h c).2.2.2, Idealize.ShloMosaic.sem_eq_zero_of_no_sems (by decide) r.2⟩)
    (Cert.Reference4Ideal.Value.run (F := Ideal) m ρ)

end Cert.Proof.Prep
end
-- ==== Proof.GlaModel.lean ====
/-
  The gated linear attention: what one grid point computes, as a recursion over the chunks of its block. The body's run names every
  load and every stored value; the modules on the two cases of the run show each of them to be a value of this recursion.
-/
module

public import proofs.«01_k».proof.Proof.Gen.Kernel5Ideal.Value
public import Idealize.ShloMosaic.Lib.Pipeline.ReadBack
public import Idealize.ShloMosaic.Lib.Writes
public import Idealize.ShloMosaic.Lib.Pointwise
public import Idealize.ShloMosaic.Lib.Ring
public import Idealize.ShloMosaic.Lib.Pipeline.ValueKit

@[expose] public section

noncomputable section

namespace Cert.Proof.Gla

open Idealize.ShloMosaic Idealize.ShloMosaic.TcCoe Idealize.SL.Sem
open Cert.Kernel5Ideal Cert.Kernel5Ideal.Gen

variable {F : FTy → Type} [FloatOps F]

/-- A 64 × 64 block of a block's array, from row `a` and lane `b`. -/
def blk (A : Vec F S512x256 .f32) (a b : ℕ) : Vec F S64x64 .f32 := fun i =>
  A (ix2 (⟨(a + (i 0).val) % 512, Nat.mod_lt _ (by decide)⟩ : Fin 512) (⟨(b + (i 1).val) % 256, Nat.mod_lt _ (by decide)⟩ : Fin 256))

/-- Eight rows of 64 lanes of a block's array. -/
def blk8 (A : Vec F S512x256 .f32) (a b : ℕ) : Vec F S8x64 .f32 := fun i =>
  A (ix2 (⟨(a + (i 0).val) % 512, Nat.mod_lt _ (by decide)⟩ : Fin 512) (⟨(b + (i 1).val) % 256, Nat.mod_lt _ (by decide)⟩ : Fin 256))

/-- The state of one head. -/
def ini (S : Vec F S4x64x64 .f32) (h : ℕ) : Vec F S1x64x64 .f32 := fun i =>
  S (ix3 (⟨h % 4, Nat.mod_lt _ (by decide)⟩ : Fin 4) (i 1) (i 2))

theorem ld_blk (A : Vec F S512x256 .f32) (a b : ℕ) (p : ∀ k, (![a, b] : Fin 2 → ℕ) k + S64x64.size k ≤ S512x256.size k) :
    View.ld (Val := Elt F) (e' := .f32) A (Rect.unit (s := S512x256) ![a, b] S64x64.size p) = blk A a b := by
  funext i
  refine congrArg A (funext fun k => Fin.ext ?_)
  have h0 : a + 64 ≤ 512 := p 0
  have h1 : b + 64 ≤ 256 := p 1
  have i0 : (i 0).val < 64 := (i 0).isLt
  have i1 : (i 1).val < 64 := (i 1).isLt
  fin_cases k
  · show a + 1 * (i 0).val = (a + (i 0).val) % 512
    omega
  · show b + 1 * (i 1).val = (b + (i 1).val) % 256
    omega

theorem ld_blk8 (A : Vec F S512x256 .f32) (a b : ℕ) (p : ∀ k, (![a, b] : Fin 2 → ℕ) k + S8x64.size k ≤ S512x256.size k) :
    View.ld (Val := Elt F) (e' := .f32) A (Rect.unit (s := S512x256) ![a, b] S8x64.size p) = blk8 A a b := by
  funext i
  refine congrArg A (funext fun k => Fin.ext ?_)
  have h0 : a + 8 ≤ 512 := p 0
  have h1 : b + 64 ≤ 256 := p 1
  have i0 : (i 0).val < 8 := (i 0).isLt
  have i1 : (i 1).val < 64 := (i 1).isLt
  fin_cases k
  · show a + 1 * (i 0).val = (a + (i 0).val) % 512
    omega
  · show b + 1 * (i 1).val = (b + (i 1).val) % 256
    omega

theorem ld_ini (S : Vec F S4x64x64 .f32) (h : ℕ) (p : ∀ k, (![h, 0, 0] : Fin 3 → ℕ) k + S1x64x64.size k ≤ S4x64x64.size k) :
    View.ld (Val := Elt F) (e' := .f32) S (Rect.unit (s := S4x64x64) ![h, 0, 0] S1x64x64.size p) = ini S h := by
  funext i
  refine congrArg S (funext fun k => Fin.ext ?_)
  have h0 : h + 1 ≤ 4 := p 0
  have i0 : (i 0).val < 1 := (i 0).isLt
  fin_cases k
  · show h + 1 * (i 0).val = h % 4
    omega
  · show 0 + 1 * (i 1).val = (i 1).val
    omega
  · show 0 + 1 * (i 2).val = (i 2).val
    omega

theorem ld_blk' (A : Vec F S512x256 .f32) (a b : ℕ) (p : ∀ k, (![a, b] : Fin 2 → ℕ) k + (![64, 64] : Fin 2 → ℕ) k ≤ S512x256.size k) :
    View.ld (Val := Elt F) (e' := .f32) A (Rect.unit (s := S512x256) ![a, b] ![64, 64] p) = blk A a b :=
  ld_blk A a b p

theorem ld_blk8' (A : Vec F S512x256 .f32) (a b : ℕ) (p : ∀ k, (![a, b] : Fin 2 → ℕ) k + (![8, 64] : Fin 2 → ℕ) k ≤ S512x256.size k) :
    View.ld (Val := Elt F) (e' := .f32) A (Rect.unit (s := S512x256) ![a, b] ![8, 64] p) = blk8 A a b :=
  ld_blk8 A a b p

theorem ld_ini' (S : Vec F S4x64x64 .f32) (h : ℕ) (p : ∀ k, (![h, 0, 0] : Fin 3 → ℕ) k + (![1, 64, 64] : Fin 3 → ℕ) k ≤ S4x64x64.size k) :
    View.ld (Val := Elt F) (e' := .f32) S (Rect.unit (s := S4x64x64) ![h, 0, 0] ![1, 64, 64] p) = ini S h :=
  ld_ini S h p

variable (U : FVec F S512x1152 .f32) (LS : FVec F S512x256 .f32)

/-- The rows and the columns of the chunk masks. -/
abbrev io0 : IVec S512x512 32 := iota .tc S512x512 32 [0] iota_S512x512_d0_w32
abbrev io1 : IVec S512x512 32 := iota .tc S512x512 32 [1] iota_S512x512_d1_w32

/-- The log decays summed up to a row in its chunk, summed after a row in its chunk, and the exponentials of the first. -/
def bA : FVec F S512x256 .f32 := k0_pay11 LS io0 io1 k0_pay6 k0_pay7 k0_pay8 k0_pay9 0#32
def remA : FVec F S512x256 .f32 := k0_pay12 LS io0 io1 k0_pay6 k0_pay7 k0_pay8 k0_pay9 0#32
def ebA : FVec F S512x256 .f32 := k0_pay13 LS io0 io1 k0_pay6 k0_pay7 k0_pay8 k0_pay9 0#32

/-- The five arrays of a point: decayed queries, inversely decayed keys, keys decayed to the chunk's end, values, decays. -/
def QD : FVec F S512x256 .f32 := k0_pay16 (ebA LS) (k0_pay15 U)
def KI : FVec F S512x256 .f32 := k0_pay17 (bA LS) (k0_pay14 U)
def KE : FVec F S512x256 .f32 := k0_pay18 (remA LS) (k0_pay14 U)
def VV : FVec F S512x256 .f32 := k0_pay19 U
def DEC : FVec F S512x256 .f32 := k0_pay20 (ebA LS)

/-- One head's state after a chunk, from its state before. -/
def stp (c h : ℕ) (st : Vec F S1x64x64 .f32) : Vec F S1x64x64 .f32 :=
  k0_pay27 (blk (KE U LS) (64 * c) (64 * h)) (blk (VV U) (64 * c) (64 * h)) st (blk8 (DEC LS) (64 * c + 56) (64 * h))

/-- One head's output of a chunk, from its state before. -/
def uo (c h : ℕ) (st : Vec F S1x64x64 .f32) : FVec F S64x64 .f32 :=
  k0_pay26 k0_pay21 (k0_pay22 (blk (QD U LS) (64 * c) (64 * h))) (k0_pay23 (blk (KI U LS) (64 * c) (64 * h)))
    (blk (VV U) (64 * c) (64 * h)) st

/-- The same state from the blocks as loads of the arrays. -/
theorem stp_ld (c h a b d : ℕ) (ha : a = 64 * c) (hb : b = 64 * h) (hd : d = 64 * c + 56)
    (p : ∀ k, (![a, b] : Fin 2 → ℕ) k + S64x64.size k ≤ S512x256.size k) (q : ∀ k, (![d, b] : Fin 2 → ℕ) k + S8x64.size k ≤ S512x256.size k)
    (st : Vec F S1x64x64 .f32) :
    k0_pay27 (View.ld (Val := Elt F) (e' := .f32) (KE U LS) (Rect.unit (s := S512x256) ![a, b] S64x64.size p))
        (View.ld (Val := Elt F) (e' := .f32) (VV U) (Rect.unit (s := S512x256) ![a, b] S64x64.size p)) st
        (View.ld (Val := Elt F) (e' := .f32) (DEC LS) (Rect.unit (s := S512x256) ![d, b] S8x64.size q)) = stp U LS c h st := by
  subst ha hb hd
  unfold stp
  rw [ld_blk, ld_blk, ld_blk8]

/-- The same output from the blocks as loads of the arrays. -/
theorem uo_ld (c h a b : ℕ) (ha : a = 64 * c) (hb : b = 64 * h) (p : ∀ k, (![a, b] : Fin 2 → ℕ) k + S64x64.size k ≤ S512x256.size k)
    (st : Vec F S1x64x64 .f32) :
    k0_pay26 k0_pay21 (k0_pay22 (View.ld (Val := Elt F) (e' := .f32) (QD U LS) (Rect.unit (s := S512x256) ![a, b] S64x64.size p)))
        (k0_pay23 (View.ld (Val := Elt F) (e' := .f32) (KI U LS) (Rect.unit (s := S512x256) ![a, b] S64x64.size p)))
        (View.ld (Val := Elt F) (e' := .f32) (VV U) (Rect.unit (s := S512x256) ![a, b] S64x64.size p)) st = uo U LS c h st := by
  subst ha hb
  unfold uo
  rw [ld_blk, ld_blk, ld_blk]

variable (S : Vec F S4x64x64 .f32)

/-- One head's state before chunk `c`, from the states `S` the point begins with. -/
def St : ℕ → ℕ → Vec F S1x64x64 .f32
  | 0, h => ini S h
  | c + 1, h => stp U LS c h (St c h)

theorem St_zero (h : ℕ) : St U LS S 0 h = ini S h := rfl
theorem St_succ (c h : ℕ) : St U LS S (c + 1) h = stp U LS c h (St U LS S c h) := rfl

/-- The attention's output over a block. -/
def GO : Vec F S512x256 .f32 := fun i =>
  uo U LS ((i 0).val / 64) ((i 1).val / 64) (St U LS S ((i 0).val / 64) ((i 1).val / 64))
    (ix2 (⟨(i 0).val % 64, Nat.mod_lt _ (by decide)⟩ : Fin 64) (⟨(i 1).val % 64, Nat.mod_lt _ (by decide)⟩ : Fin 64))

theorem go_emb (c h a b : ℕ) (ha : a = 64 * c) (hb : b = 64 * h)
    (p : ∀ k, (![a, b] : Fin 2 → ℕ) k + S64x64.size k ≤ S512x256.size k) (x : (Rect.unit (s := S512x256) ![a, b] S64x64.size p).shape.Idx) :
    uo U LS c h (St U LS S c h) x = GO U LS S ((Rect.unit (s := S512x256) ![a, b] S64x64.size p).emb x) := by
  have i0 : (x 0).val < 64 := (x 0).isLt
  have i1 : (x 1).val < 64 := (x 1).isLt
  have e0 : (((Rect.unit (s := S512x256) ![a, b] S64x64.size p).emb x) 0).val = a + 1 * (x 0).val := rfl
  have e1 : (((Rect.unit (s := S512x256) ![a, b] S64x64.size p).emb x) 1).val = b + 1 * (x 1).val := rfl
  have c0 : (((Rect.unit (s := S512x256) ![a, b] S64x64.size p).emb x) 0).val / 64 = c := by rw [e0]; omega
  have c1 : (((Rect.unit (s := S512x256) ![a, b] S64x64.size p).emb x) 1).val / 64 = h := by rw [e1]; omega
  unfold GO
  rw [c0, c1]
  refine congrArg _ (funext fun k => Fin.ext ?_)
  fin_cases k
  · show (x 0).val = (a + 1 * (x 0).val) % 64
    omega
  · show (x 1).val = (b + 1 * (x 1).val) % 64
    omega

/-- The states a point leaves. -/
def GS : Vec F S4x64x64 .f32 := fun i => St U LS S 8 (i 0).val (ix3 (0 : Fin 1) (i 1) (i 2))

theorem gs_emb (h : ℕ) (p : ∀ k, (![h, 0, 0] : Fin 3 → ℕ) k + S1x64x64.size k ≤ S4x64x64.size k)
    (x : (Rect.unit (s := S4x64x64) ![h, 0, 0] S1x64x64.size p).shape.Idx) :
    St U LS S 8 h x = GS U LS S ((Rect.unit (s := S4x64x64) ![h, 0, 0] S1x64x64.size p).emb x) := by
  have i0 : (x 0).val < 1 := (x 0).isLt
  have e0 : (((Rect.unit (s := S4x64x64) ![h, 0, 0] S1x64x64.size p).emb x) 0).val = h + 1 * (x 0).val := rfl
  have c0 : (((Rect.unit (s := S4x64x64) ![h, 0, 0] S1x64x64.size p).emb x) 0).val = h := by rw [e0]; omega
  unfold GS
  rw [c0]
  refine congrArg _ (funext fun k => Fin.ext ?_)
  fin_cases k
  · show (x 0).val = 0
    omega
  · show (x 1).val = 0 + 1 * (x 1).val
    omega
  · show (x 2).val = 0 + 1 * (x 2).val
    omega

/-- What a point writes back. -/
def OUT (x5 : Vec F S1x256 .f32) : FVec F S512x256 .bf16 :=
  k0_pay1 (k0_pay227 (GO U LS S) (iota .tc S256x256 32 [1] iota_S256x256_d1_w32) k0_pay223 64#32 k0_pay224 k0_pay225 k0_pay226 x5) (k0_pay228 U)

end Cert.Proof.Gla

end
-- ==== Proof.GlaPay.lean ====
/-
  The gated linear attention: each of the body's functions read at an index.
-/
module

public import proofs.«01_k».proof.Proof.GlaModel
public import proofs.«01_k».proof.Proof.PrepPay

@[expose] public section

noncomputable section

namespace Cert.Proof.Gla

open Idealize.ShloMosaic Idealize.ShloMosaic.TcCoe Idealize.SL.Sem
open Cert.Kernel5Ideal Cert.Kernel5Ideal.Gen
open Cert.Proof.Prep (lsig)

/-! ## The projections and the log decays -/

theorem u_apply (x0 : Vec Ideal S512x1024 .f32) (x1 : Vec Ideal S1x1024 .f32) (x2 : Vec Ideal S1024x1152 .bf16) (r : Fin 512) (l : Fin 1152) :
    (k0_pay3 x0 x1 x2 (ix2 r l) : EReal)
      = Ffn.proj (fun d => x0 (ix2 r d)) (fun d => x1 (ix2 0 d)) (fun d => x2 (ix2 d l)) := by
  pointwise [k0_pay3]
  simp only [Ffn.proj, Ffn.normRow]

theorem ls_apply (x0 : Vec Ideal S512x1024 .f32) (x1 : Vec Ideal S1x1024 .f32) (x2 : Vec Ideal S1024x1152 .bf16)
    (x3 : Vec Ideal S128x256 .bf16) (x4 : Vec Ideal S1x256 .f32) (r : Fin 512) (l : Fin 256) :
    (k0_pay5 (k0_pay4 x0 x1 x2 x3 x4) (ix2 r l) : EReal)
      = lsig ((∑ e : Fin 128, (k0_pay3 x0 x1 x2 (ix2 r ⟨1024 + e.val, by omega⟩) : EReal) * x3 (ix2 e l)) + x4 (ix2 0 l))
          * Ideal.ofBits .f32 0x3D800000#32 := by
  unfold k0_pay5 k0_pay4
  generalize k0_pay3 x0 x1 x2 = u
  pointwise
  simp only [lsig, zero_sub]
  rfl

/-! ## The masks -/

theorem le_iff : ∀ x r : Fin 512, IntOp.cmpi .sle (BitVec.ofNat 32 x.val) (BitVec.ofNat 32 r.val) = 1 ↔ x.val ≤ r.val := by
  intro x r
  have hx : (BitVec.ofNat 32 x.val).toInt = x.val := by
    rw [BitVec.toInt_eq_toNat_cond, BitVec.toNat_ofNat, Nat.mod_eq_of_lt (by omega), if_pos (by omega)]
  have hr : (BitVec.ofNat 32 r.val).toInt = r.val := by
    rw [BitVec.toInt_eq_toNat_cond, BitVec.toNat_ofNat, Nat.mod_eq_of_lt (by omega), if_pos (by omega)]
  by_cases h : x ≤ r <;> simp [IntOp.cmpi, BitVec.sle, hx, hr, h]

theorem gt_iff : ∀ x r : Fin 512, IntOp.cmpi .sgt (BitVec.ofNat 32 x.val) (BitVec.ofNat 32 r.val) = 1 ↔ r.val < x.val := by
  intro x r
  have hx : (BitVec.ofNat 32 x.val).toInt = x.val := by
    rw [BitVec.toInt_eq_toNat_cond, BitVec.toNat_ofNat, Nat.mod_eq_of_lt (by omega), if_pos (by omega)]
  have hr : (BitVec.ofNat 32 r.val).toInt = r.val := by
    rw [BitVec.toInt_eq_toNat_cond, BitVec.toNat_ofNat, Nat.mod_eq_of_lt (by omega), if_pos (by omega)]
  by_cases h : r < x <;> simp [IntOp.cmpi, BitVec.slt, hx, hr, h]

/-- The row's chunk. -/
theorem pay6_apply (r x : Fin 512) : k0_pay6 (ix2 r x) = BitVec.ofNat 32 (r.val / 64) := by
  refine (?_ : k0_pay6 (ix2 r x) = k0_pay6 (ix2 r 0)).trans ((by decide +kernel : ∀ r : Fin 512, k0_pay6 (ix2 r 0) = BitVec.ofNat 32 (r.val / 64)) r)
  rfl

/-- The column's chunk, as the comparison takes it. -/
theorem pay10_iff (r x : Fin 512) : k0_pay10 k0_pay6 k0_pay7 k0_pay8 k0_pay9 0#32 (ix2 r x) = 1 ↔ x.val / 64 = r.val / 64 := by
  have e : k0_pay10 k0_pay6 k0_pay7 k0_pay8 k0_pay9 0#32 (ix2 r x)
      = IntOp.cmpi .eq (k0_pay6 (ix2 r x)) (k0_pay6 (ix2 x r)) := rfl
  rw [e, pay6_apply, pay6_apply]
  have : ∀ a b : Fin 8, IntOp.cmpi .eq (BitVec.ofNat 32 a.val) (BitVec.ofNat 32 b.val) = 1 ↔ b.val = a.val := by decide
  exact this ⟨r.val / 64, by omega⟩ ⟨x.val / 64, by omega⟩

theorem and_iff : ∀ a b : BitVec 1, IntOp.andi a b = 1 ↔ a = 1 ∧ b = 1 := by decide

variable (U : FVec Ideal S512x1152 .f32) (LS : FVec Ideal S512x256 .f32)

/-- Where a column's log decays are real, the three products of the chunk mask sum them up to the row within its chunk. -/
theorem bA_apply (p : Fin 512) (c : Fin 256) (h : ∀ x : Fin 512, ∃ a : ℝ, (LS (ix2 x c) : EReal) = a) :
    (bA LS (ix2 p c) : EReal) = ∑ x : Fin 512, if x.val / 64 = p.val / 64 ∧ x.val ≤ p.val then (LS (ix2 x c) : EReal) else 0 := by
  unfold bA
  pointwise [k0_pay11]
  have z : ∀ x : Fin 512, (LS (ix2 x c) : EReal) - LS (ix2 x c) = 0 := fun x => by
    obtain ⟨a, ha⟩ := h x
    rw [ha]
    exact EReal.sub_self (EReal.coe_ne_top a) (EReal.coe_ne_bot a)
  simp only [Scalar.select, and_iff, pay10_iff, le_iff, z, sub_zero, ite_self, Finset.sum_const_zero, add_zero]

/-- And the products of the other mask sum them after the row. -/
theorem remA_apply (p : Fin 512) (c : Fin 256) (h : ∀ x : Fin 512, ∃ a : ℝ, (LS (ix2 x c) : EReal) = a) :
    (remA LS (ix2 p c) : EReal) = ∑ x : Fin 512, if x.val / 64 = p.val / 64 ∧ p.val < x.val then (LS (ix2 x c) : EReal) else 0 := by
  unfold remA
  pointwise [k0_pay12]
  have z : ∀ x : Fin 512, (LS (ix2 x c) : EReal) - LS (ix2 x c) = 0 := fun x => by
    obtain ⟨a, ha⟩ := h x
    rw [ha]
    exact EReal.sub_self (EReal.coe_ne_top a) (EReal.coe_ne_bot a)
  simp only [Scalar.select, and_iff, pay10_iff, gt_iff, z, sub_zero, ite_self, Finset.sum_const_zero, add_zero]

theorem ebA_apply (i : S512x256.Idx) : (ebA LS i : EReal) = Ideal.exp (bA LS i) := rfl

/-! ## The point's arrays -/

theorem QD_apply (p : Fin 512) (c : Fin 256) :
    (QD U LS (ix2 p c) : EReal) = (U (ix2 p ⟨c.val, by omega⟩) * Ideal.ofBits .f32 0x3E000000#32) * Ideal.exp (bA LS (ix2 p c)) := by
  unfold QD
  rw [← ebA_apply]
  generalize ebA LS = e
  pointwise [k0_pay16, k0_pay15]

theorem KI_apply (p : Fin 512) (c : Fin 256) :
    (KI U LS (ix2 p c) : EReal) = U (ix2 p ⟨256 + c.val, by omega⟩) * Ideal.exp (-bA LS (ix2 p c)) := by
  unfold KI
  generalize bA LS = e
  pointwise [k0_pay17, k0_pay14]
  rw [zero_sub]

theorem KE_apply (p : Fin 512) (c : Fin 256) :
    (KE U LS (ix2 p c) : EReal) = U (ix2 p ⟨256 + c.val, by omega⟩) * Ideal.exp (remA LS (ix2 p c)) := by
  unfold KE
  generalize remA LS = e
  pointwise [k0_pay18, k0_pay14]

theorem VV_apply (p : Fin 512) (c : Fin 256) : (VV U (ix2 p c) : EReal) = U (ix2 p ⟨512 + c.val, by omega⟩) := by
  unfold VV
  pointwise [k0_pay19]

theorem DEC_apply (p : Fin 512) (c : Fin 256) : (DEC LS (ix2 p c) : EReal) = Ideal.exp (bA LS (ix2 p c)) := by
  unfold DEC
  rw [← ebA_apply]
  generalize ebA LS = e
  pointwise [k0_pay20]

/-! ## A chunk -/

theorem stp_apply (c h : ℕ) (st : Vec Ideal S1x64x64 .f32) (e d : Fin 64) :
    (stp U LS c h st (ix3 0 e d) : EReal)
      = st (ix3 0 e d) * blk8 (DEC LS) (64 * c + 56) (64 * h) (ix2 7 d)
        + ∑ s : Fin 64, (blk (VV U) (64 * c) (64 * h) (ix2 s e) : EReal) * blk (KE U LS) (64 * c) (64 * h) (ix2 s d) := by
  unfold stp
  generalize blk (VV U) (64 * c) (64 * h) = v
  generalize blk (KE U LS) (64 * c) (64 * h) = k
  generalize blk8 (DEC LS) (64 * c + 56) (64 * h) = g
  pointwise [k0_pay27, k0_pay25, k0_pay24]

theorem le64_iff : ∀ x r : Fin 64, IntOp.cmpi .sle (BitVec.ofNat 32 x.val) (BitVec.ofNat 32 r.val) = 1 ↔ x.val ≤ r.val :=
  fun x r => le_iff ⟨x.val, by omega⟩ ⟨r.val, by omega⟩

theorem uo_apply (c h : ℕ) (st : Vec Ideal S1x64x64 .f32) (r e : Fin 64) :
    (uo U LS c h st (ix2 r e) : EReal)
      = (∑ s : Fin 64, (if s.val ≤ r.val then ∑ d : Fin 64, (blk (QD U LS) (64 * c) (64 * h) (ix2 r d) : EReal)
            * blk (KI U LS) (64 * c) (64 * h) (ix2 s d) else 0) * (blk (VV U) (64 * c) (64 * h) (ix2 s e) : EReal))
        + ∑ d : Fin 64, (blk (QD U LS) (64 * c) (64 * h) (ix2 r d) : EReal) * st (ix3 0 e d) := by
  unfold uo
  generalize blk (VV U) (64 * c) (64 * h) = v
  generalize blk (QD U LS) (64 * c) (64 * h) = q
  generalize blk (KI U LS) (64 * c) (64 * h) = k
  pointwise [k0_pay26, k0_pay25, k0_pay24, k0_pay23, k0_pay22, k0_pay21]
  simp only [Scalar.select, le64_iff, ite_mul, zero_mul]

/-! ## The output -/

theorem pay223_apply (r x : Fin 256) : k0_pay223 (ix2 r x) = BitVec.ofNat 32 (r.val / 64) := by
  refine (?_ : k0_pay223 (ix2 r x) = k0_pay223 (ix2 r 0)).trans ((by decide +kernel : ∀ r : Fin 256, k0_pay223 (ix2 r 0) = BitVec.ofNat 32 (r.val / 64)) r)
  rfl

theorem eq_iff : ∀ a b : Fin 4, IntOp.cmpi .eq (BitVec.ofNat 32 a.val) (BitVec.ofNat 32 b.val) = 1 ↔ a.val = b.val := by decide

/-- The head of a column, as the kernel computes it with a floor division. -/
def headOf (x c : Fin 256) : BitVec 32 :=
  Scalar.select (IntOp.andi
      (IntOp.cmpi .ne (IntOp.subi (k0_pay225 (ix2 x c))
        (BitVec.setWidth 32 (IntOp.cmpi .slt (BitVec.ofNat 32 c.val) (k0_pay226 (ix2 x c)))))
        (Scalar.subi (Scalar.extui (Scalar.cmpi .sgt 64#32 0#32)) (Scalar.extui (Scalar.cmpi .slt 64#32 0#32))))
      (IntOp.cmpi .ne (IntOp.remsi .vector (BitVec.ofNat 32 c.val) 64#32) 0#32))
      (IntOp.subi (k0_pay224 (ix2 x c)) 1#32) (k0_pay224 (ix2 x c))

theorem headOf_eq {x : Fin 256} (c : Fin 256) : headOf x c = BitVec.ofNat 32 (c.val / 64) := by
  refine (?_ : headOf x c = headOf 0 c).trans ((by decide +kernel : ∀ c : Fin 256, headOf 0 c = BitVec.ofNat 32 (c.val / 64)) c)
  rfl

/-- Where an output row is real, its normalization takes the mean of the squares of its own head's lanes. -/
theorem norm_apply (G : FVec Ideal S512x256 .f32) (x5 : Vec Ideal S1x256 .f32) (p : Fin 512) (c : Fin 256)
    (h : ∀ x : Fin 256, ∃ a : ℝ, (G (ix2 p x) : EReal) = a) :
    (k0_pay227 G (iota .tc S256x256 32 [1] iota_S256x256_d1_w32) k0_pay223 64#32 k0_pay224 k0_pay225 k0_pay226 x5 (ix2 p c) : EReal)
      = (G (ix2 p c) : EReal) * Ideal.rsqrt ((∑ x : Fin 256, if x.val / 64 = c.val / 64 then (G (ix2 p x) : EReal) * G (ix2 p x) else 0)
          * Ideal.ofBits .f32 0x3C800000#32 + Ideal.ofBits .f32 0x358637BD#32) * x5 (ix2 0 c) := by
  have e : ∀ x : Fin 256, headOf x c = BitVec.ofNat 32 (c.val / 64) := fun x => headOf_eq c
  have z : ∀ x : Fin 256, (G (ix2 p x) : EReal) * G (ix2 p x) - G (ix2 p x) * G (ix2 p x) = 0 := fun x => by
    obtain ⟨a, ha⟩ := h x
    rw [ha, ← EReal.coe_mul]
    exact EReal.sub_self (EReal.coe_ne_top _) (EReal.coe_ne_bot _)
  have q : ∀ x : Fin 256, IntOp.cmpi .eq (BitVec.ofNat 32 (x.val / 64)) (BitVec.ofNat 32 (c.val / 64)) = 1 ↔ x.val / 64 = c.val / 64 :=
    fun x => eq_iff ⟨x.val / 64, by omega⟩ ⟨c.val / 64, by omega⟩
  pointwise [k0_pay227]
  simp only [headOf] at e
  simp only [e, pay223_apply]
  simp only [Scalar.select, q, z, sub_zero, ite_self, Finset.sum_const_zero, add_zero]

theorem out_apply (S : Vec Ideal S4x64x64 .f32) (x5 : Vec Ideal S1x256 .f32) (p : Fin 512) (c : Fin 256) :
    (OUT U LS S x5 (ix2 p c) : EReal)
      = k0_pay227 (GO U LS S) (iota .tc S256x256 32 [1] iota_S256x256_d1_w32) k0_pay223 64#32 k0_pay224 k0_pay225 k0_pay226 x5 (ix2 p c)
        * ((U (ix2 p ⟨768 + c.val, by omega⟩) : EReal) * Ideal.div 1 (1 + Ideal.exp (-U (ix2 p ⟨768 + c.val, by omega⟩)))) := by
  unfold OUT
  generalize k0_pay227 (GO U LS S) (iota .tc S256x256 32 [1] iota_S256x256_d1_w32) k0_pay223 64#32 k0_pay224 k0_pay225 k0_pay226 x5 = g
  pointwise [k0_pay1, k0_pay228]
  rw [zero_sub]

end Cert.Proof.Gla

end
-- ==== Proof.GlaMath.lean ====
/-
  The gated linear attention over the reals: the recurrence over chunks of 64 rows is the sum over all earlier rows, each decayed by
  the gates between.
-/
module

public import Idealize.ShloMosaic.PureOps.Ideal
public import Idealize.ShloMosaic.PureOps.Reduce

@[expose] public section

noncomputable section

namespace Cert.Proof.GlaMath

open Finset

/-! ## Sums over rows -/

/-- The log decays of the rows before `n`, in one lane. -/
def pre (l : ℕ → ℝ) (n : ℕ) : ℝ := ∑ w ∈ range n, l w

/-- The log decays of a chunk up to a row of it, and after a row of it. -/
def upto (l : ℕ → ℝ) (C : ℕ) (r : ℕ) : ℝ := ∑ x : Fin 64, if x.val ≤ r then l (64 * C + x.val) else 0
def after (l : ℕ → ℝ) (C : ℕ) (r : ℕ) : ℝ := ∑ x : Fin 64, if r < x.val then l (64 * C + x.val) else 0

theorem pre_split (l : ℕ → ℝ) (a n : ℕ) : pre l (a + n) = pre l a + ∑ x ∈ range n, l (a + x) := sum_range_add _ _ _

theorem upto_eq (l : ℕ → ℝ) (C r : ℕ) (hr : r < 64) : upto l C r = pre l (64 * C + r + 1) - pre l (64 * C) := by
  have h : upto l C r = ∑ x ∈ range (r + 1), l (64 * C + x) := by
    unfold upto
    rw [Fin.sum_univ_eq_sum_range (fun x => if x ≤ r then l (64 * C + x) else 0) 64, ← sum_filter]
    refine sum_congr (ext fun x => ?_) fun _ _ => rfl
    simp only [mem_filter, mem_range]
    omega
  rw [h, add_assoc, pre_split]
  ring

theorem after_eq (l : ℕ → ℝ) (C r : ℕ) (hr : r < 64) : after l C r = pre l (64 * (C + 1)) - pre l (64 * C + r + 1) := by
  have h : upto l C r + after l C r = upto l C 63 := by
    unfold upto after
    rw [← sum_add_distrib]
    refine sum_congr rfl fun x _ => ?_
    have := x.isLt
    by_cases h : x.val ≤ r
    · rw [if_pos h, if_neg (by omega), if_pos (by omega), add_zero]
    · rw [if_neg h, if_pos (by omega), if_pos (by omega), zero_add]
  rw [upto_eq l C r hr, upto_eq l C 63 (by norm_num)] at h
  rw [show 64 * (C + 1) = 64 * C + 63 + 1 by ring]
  linarith

/-! ## The state -/

/-- One entry of the state before chunk `C`: the values times the keys of the rows so far, decayed to the chunk's start. -/
def stv (l k v : ℕ → ℝ) (C : ℕ) : ℝ := ∑ s ∈ range (64 * C), v s * (k s * Real.exp (pre l (64 * C) - pre l (s + 1)))

theorem stv_zero (l k v : ℕ → ℝ) : stv l k v 0 = 0 := by simp [stv]

/-- A chunk decays the state and adds its own rows. -/
theorem stv_succ (l k v : ℕ → ℝ) (C : ℕ) :
    stv l k v (C + 1) = stv l k v C * Real.exp (upto l C 63)
      + ∑ s : Fin 64, v (64 * C + s.val) * (k (64 * C + s.val) * Real.exp (after l C s.val)) := by
  unfold stv
  rw [show 64 * (C + 1) = 64 * C + 64 by ring, sum_range_add, sum_mul,
    Fin.sum_univ_eq_sum_range (fun s => v (64 * C + s) * (k (64 * C + s) * Real.exp (after l C s))) 64]
  congr 1
  · refine sum_congr rfl fun s _ => ?_
    rw [upto_eq l C 63 (by norm_num), mul_assoc, mul_assoc, ← Real.exp_add]
    congr 3
    rw [show 64 * C + 63 + 1 = 64 * C + 64 by ring]
    ring
  · refine sum_congr rfl fun s hs => ?_
    rw [after_eq l C s (mem_range.1 hs), show 64 * (C + 1) = 64 * C + 64 by ring]

/-! ## The output -/

/-- One output entry: the chunk's own rows by their scores, and the state read by the decayed query, are all rows up to this one. -/
theorem out_eq (l k q : Fin 64 → ℕ → ℝ) (v : ℕ → ℝ) (C r N : ℕ) (hr : r < 64) (hN : 64 * C + 64 ≤ N) :
    (∑ s : Fin 64, (if s.val ≤ r then
          ∑ d, (q d (64 * C + r) * Real.exp (upto (l d) C r)) * (k d (64 * C + s.val) * Real.exp (-upto (l d) C s.val)) else 0)
        * v (64 * C + s.val))
      + ∑ d, (q d (64 * C + r) * Real.exp (upto (l d) C r)) * stv (l d) (k d) v C
    = ∑ s ∈ range N, (∑ d, q d (64 * C + r) * k d s
        * (if s ≤ 64 * C + r then Real.exp (pre (l d) (64 * C + r + 1) - pre (l d) (s + 1)) else 0)) * v s := by
  obtain ⟨M, rfl⟩ := Nat.exists_eq_add_of_le hN
  rw [add_assoc (64 * C), sum_range_add, sum_range_add]
  have hz : ∑ x ∈ range M, (∑ d, q d (64 * C + r) * k d (64 * C + (64 + x))
        * (if 64 * C + (64 + x) ≤ 64 * C + r then Real.exp (pre (l d) (64 * C + r + 1) - pre (l d) (64 * C + (64 + x) + 1)) else 0))
        * v (64 * C + (64 + x)) = 0 := by
    refine sum_eq_zero fun x _ => ?_
    have : ∀ d : Fin 64, q d (64 * C + r) * k d (64 * C + (64 + x))
        * (if 64 * C + (64 + x) ≤ 64 * C + r then Real.exp (pre (l d) (64 * C + r + 1) - pre (l d) (64 * C + (64 + x) + 1)) else 0) = 0 :=
      fun d => by rw [if_neg (by omega), mul_zero]
    rw [sum_congr rfl fun d _ => this d, sum_const_zero, zero_mul]
  rw [hz, add_zero, add_comm]
  congr 1
  · unfold stv
    simp only [mul_sum, sum_mul]
    rw [sum_comm]
    refine sum_congr rfl fun s hs => sum_congr rfl fun d _ => ?_
    have hs' := mem_range.1 hs
    rw [if_pos (by omega), upto_eq (l d) C r hr]
    have e : Real.exp (pre (l d) (64 * C + r + 1) - pre (l d) (s + 1))
        = Real.exp (pre (l d) (64 * C + r + 1) - pre (l d) (64 * C)) * Real.exp (pre (l d) (64 * C) - pre (l d) (s + 1)) := by
      rw [← Real.exp_add]
      congr 1
      ring
    rw [e]
    ring
  · rw [Fin.sum_univ_eq_sum_range (fun s => (if s ≤ r then
          ∑ d, (q d (64 * C + r) * Real.exp (upto (l d) C r)) * (k d (64 * C + s) * Real.exp (-upto (l d) C s)) else 0)
        * v (64 * C + s)) 64]
    refine sum_congr rfl fun s hs => ?_
    have hs' := mem_range.1 hs
    congr 1
    by_cases h : s ≤ r
    · rw [if_pos h]
      refine sum_congr rfl fun d _ => ?_
      rw [if_pos (by omega), upto_eq (l d) C r hr, upto_eq (l d) C s hs']
      have e : Real.exp (pre (l d) (64 * C + r + 1) - pre (l d) (64 * C + s + 1))
          = Real.exp (pre (l d) (64 * C + r + 1) - pre (l d) (64 * C)) * Real.exp (-(pre (l d) (64 * C + s + 1) - pre (l d) (64 * C))) := by
        rw [← Real.exp_add]
        congr 1
        ring
      rw [e]
      ring
    · rw [if_neg h]
      symm
      refine sum_eq_zero fun d _ => ?_
      rw [if_neg (by omega), mul_zero]

end Cert.Proof.GlaMath

end
-- ==== Proof.GlaBlock.lean ====
/-
  The gated linear attention: one grid point in real numbers. Where the point's projections and log decays are real, its chunks'
  outputs are the attention over all rows before, and the states that it leaves are those the next point begins with.
-/
module

public import proofs.«01_k».proof.Proof.GlaPay
public import proofs.«01_k».proof.Proof.GlaMath
public import proofs.«01_k».proof.Proof.PrepRef

@[expose] public section

noncomputable section

namespace Cert.Proof.Gla

open Idealize.ShloMosaic Idealize.ShloMosaic.TcCoe Idealize.SL.Sem
open Cert.Kernel5Ideal Cert.Kernel5Ideal.Gen
open Cert.Proof.Prep (coe_sum)

/-- A sum over the rows (or lanes) of one chunk (or head) is a sum over 64. -/
theorem chunk_sum {N : ℕ} (f : Fin N → EReal) (P : ℕ → Prop) [DecidablePred P] (c : ℕ) (hc : 64 * c + 64 ≤ N) :
    (∑ x : Fin N, if x.val / 64 = c ∧ P x.val then f x else 0)
      = ∑ y : Fin 64, if P (64 * c + y.val) then f ⟨64 * c + y.val, by omega⟩ else 0 := by
  symm
  refine Finset.sum_of_injOn (fun y : Fin 64 => (⟨64 * c + y.val, by omega⟩ : Fin N)) ?_ ?_ ?_ ?_
  · intro a _ b _ hab
    have h : 64 * c + a.val = 64 * c + b.val := congrArg Fin.val hab
    exact Fin.ext (by omega)
  · intro a _
    exact Finset.mem_coe.2 (Finset.mem_univ _)
  · intro w _ hw
    refine if_neg fun h => hw ?_
    have h1 : w.val / 64 = c := h.1
    exact ⟨⟨w.val - 64 * c, by omega⟩, Finset.mem_coe.2 (Finset.mem_univ _), Fin.ext (by
      show 64 * c + (w.val - 64 * c) = w.val
      omega)⟩
  · intro y _
    have h : (64 * c + y.val) / 64 = c := by omega
    simp only [h, true_and]

theorem blk_apply (A : Vec Ideal S512x256 .f32) (c : Fin 8) (h : Fin 4) (r d : Fin 64) :
    blk A (64 * c.val) (64 * h.val) (ix2 r d) = A (ix2 ⟨64 * c.val + r.val, by omega⟩ ⟨h.val * 64 + d.val, by omega⟩) := by
  have e0 : (⟨(64 * c.val + r.val) % 512, Nat.mod_lt _ (by decide)⟩ : Fin 512) = ⟨64 * c.val + r.val, by omega⟩ := Fin.ext (by
    show (64 * c.val + r.val) % 512 = 64 * c.val + r.val
    omega)
  have e1 : (⟨(64 * h.val + d.val) % 256, Nat.mod_lt _ (by decide)⟩ : Fin 256) = ⟨h.val * 64 + d.val, by omega⟩ := Fin.ext (by
    show (64 * h.val + d.val) % 256 = h.val * 64 + d.val
    omega)
  exact congrArg₂ (fun a b => A (ix2 a b)) e0 e1

theorem blk8_apply (A : Vec Ideal S512x256 .f32) (c : Fin 8) (h : Fin 4) (d : Fin 64) :
    blk8 A (64 * c.val + 56) (64 * h.val) (ix2 7 d) = A (ix2 ⟨64 * c.val + 63, by omega⟩ ⟨h.val * 64 + d.val, by omega⟩) := by
  have e0 : (⟨(64 * c.val + 56 + 7) % 512, Nat.mod_lt _ (by decide)⟩ : Fin 512) = ⟨64 * c.val + 63, by omega⟩ := Fin.ext (by
    show (64 * c.val + 56 + 7) % 512 = 64 * c.val + 63
    omega)
  have e1 : (⟨(64 * h.val + d.val) % 256, Nat.mod_lt _ (by decide)⟩ : Fin 256) = ⟨h.val * 64 + d.val, by omega⟩ := Fin.ext (by
    show (64 * h.val + d.val) % 256 = h.val * 64 + d.val
    omega)
  exact congrArg₂ (fun a b => A (ix2 a b)) e0 e1

theorem ini_apply (S : Vec Ideal S4x64x64 .f32) (h : Fin 4) (e d : Fin 64) : ini S h.val (ix3 0 e d) = S (ix3 h e d) := by
  have e0 : (⟨h.val % 4, Nat.mod_lt _ (by decide)⟩ : Fin 4) = h := Fin.ext (Nat.mod_eq_of_lt h.isLt)
  exact congrArg (fun a => S (ix3 a e d)) e0

theorem go_apply (U : FVec Ideal S512x1152 .f32) (LS : FVec Ideal S512x256 .f32) (S : Vec Ideal S4x64x64 .f32)
    (c : Fin 8) (h : Fin 4) (r e : Fin 64) :
    GO U LS S (ix2 ⟨64 * c.val + r.val, by omega⟩ ⟨h.val * 64 + e.val, by omega⟩) = uo U LS c.val h.val (St U LS S c.val h.val) (ix2 r e) := by
  show uo U LS ((64 * c.val + r.val) / 64) ((h.val * 64 + e.val) / 64) (St U LS S ((64 * c.val + r.val) / 64) ((h.val * 64 + e.val) / 64))
    (ix2 (⟨(64 * c.val + r.val) % 64, Nat.mod_lt _ (by decide)⟩ : Fin 64) (⟨(h.val * 64 + e.val) % 64, Nat.mod_lt _ (by decide)⟩ : Fin 64)) = _
  rw [show (64 * c.val + r.val) / 64 = c.val by omega, show (h.val * 64 + e.val) / 64 = h.val by omega]
  have e0 : (⟨(64 * c.val + r.val) % 64, Nat.mod_lt _ (by decide)⟩ : Fin 64) = r := Fin.ext (by
    show (64 * c.val + r.val) % 64 = r.val
    omega)
  have e1 : (⟨(h.val * 64 + e.val) % 64, Nat.mod_lt _ (by decide)⟩ : Fin 64) = e := Fin.ext (by
    show (h.val * 64 + e.val) % 64 = e.val
    omega)
  rw [e0, e1]

/-- Point `t`'s projections and log decays are the real sequences of each head's lanes at the point's rows. -/
structure Pt (U : FVec Ideal S512x1152 .f32) (LS : FVec Ideal S512x256 .f32) (t : ℕ) (l q k v : Fin 4 → Fin 64 → ℕ → ℝ) : Prop where
  hl : ∀ (p : Fin 512) (h : Fin 4) (d : Fin 64), (LS (ix2 p ⟨h.val * 64 + d.val, by omega⟩) : EReal) = (l h d (512 * t + p.val) : EReal)
  hq : ∀ (p : Fin 512) (h : Fin 4) (d : Fin 64),
    (U (ix2 p ⟨h.val * 64 + d.val, by omega⟩) : EReal) * Ideal.ofBits .f32 0x3E000000#32 = (q h d (512 * t + p.val) : EReal)
  hk : ∀ (p : Fin 512) (h : Fin 4) (d : Fin 64),
    (U (ix2 p ⟨256 + (h.val * 64 + d.val), by omega⟩) : EReal) = (k h d (512 * t + p.val) : EReal)
  hv : ∀ (p : Fin 512) (h : Fin 4) (d : Fin 64),
    (U (ix2 p ⟨512 + (h.val * 64 + d.val), by omega⟩) : EReal) = (v h d (512 * t + p.val) : EReal)

variable {U : FVec Ideal S512x1152 .f32} {LS : FVec Ideal S512x256 .f32} {t : ℕ} {l q k v : Fin 4 → Fin 64 → ℕ → ℝ}
  (H : Pt U LS t l q k v)

include H

theorem ls_real (p : Fin 512) (c : Fin 256) : ∃ a : ℝ, (LS (ix2 p c) : EReal) = a := by
  have e : c = ⟨(⟨c.val / 64, by omega⟩ : Fin 4).val * 64 + (⟨c.val % 64, by omega⟩ : Fin 64).val, by
      show c.val / 64 * 64 + c.val % 64 < 256
      omega⟩ := Fin.ext (by
    show c.val = c.val / 64 * 64 + c.val % 64
    omega)
  rw [e]
  exact ⟨_, H.hl p _ _⟩

/-- The decays summed up to a row in its chunk. -/
theorem bA_coe (c : Fin 8) (r : Fin 64) (h : Fin 4) (d : Fin 64) :
    (bA LS (ix2 ⟨64 * c.val + r.val, by omega⟩ ⟨h.val * 64 + d.val, by omega⟩) : EReal) = (GlaMath.upto (l h d) (8 * t + c.val) r.val : ℝ) := by
  rw [bA_apply LS _ _ fun x => ls_real H x _]
  show (∑ x : Fin 512, if x.val / 64 = (64 * c.val + r.val) / 64 ∧ x.val ≤ 64 * c.val + r.val then _ else 0) = _
  rw [show (64 * c.val + r.val) / 64 = c.val by omega,
    chunk_sum (fun x => (LS (ix2 x ⟨h.val * 64 + d.val, by omega⟩) : EReal)) (fun x => x ≤ 64 * c.val + r.val) c.val (by omega)]
  unfold GlaMath.upto
  rw [coe_sum]
  refine Finset.sum_congr rfl fun y _ => ?_
  rw [H.hl]
  by_cases hy : y.val ≤ r.val
  · rw [if_pos (by omega), if_pos hy]
    show ((l h d (512 * t + (64 * c.val + y.val)) : ℝ) : EReal) = _
    rw [show 512 * t + (64 * c.val + y.val) = 64 * (8 * t + c.val) + y.val by omega]
  · rw [if_neg (by omega), if_neg hy]
    rfl

/-- And after the row. -/
theorem remA_coe (c : Fin 8) (r : Fin 64) (h : Fin 4) (d : Fin 64) :
    (remA LS (ix2 ⟨64 * c.val + r.val, by omega⟩ ⟨h.val * 64 + d.val, by omega⟩) : EReal) = (GlaMath.after (l h d) (8 * t + c.val) r.val : ℝ) := by
  rw [remA_apply LS _ _ fun x => ls_real H x _]
  show (∑ x : Fin 512, if x.val / 64 = (64 * c.val + r.val) / 64 ∧ 64 * c.val + r.val < x.val then _ else 0) = _
  rw [show (64 * c.val + r.val) / 64 = c.val by omega,
    chunk_sum (fun x => (LS (ix2 x ⟨h.val * 64 + d.val, by omega⟩) : EReal)) (fun x => 64 * c.val + r.val < x) c.val (by omega)]
  unfold GlaMath.after
  rw [coe_sum]
  refine Finset.sum_congr rfl fun y _ => ?_
  rw [H.hl]
  by_cases hy : r.val < y.val
  · rw [if_pos (by omega), if_pos hy]
    show ((l h d (512 * t + (64 * c.val + y.val)) : ℝ) : EReal) = _
    rw [show 512 * t + (64 * c.val + y.val) = 64 * (8 * t + c.val) + y.val by omega]
  · rw [if_neg (by omega), if_neg hy]
    rfl

theorem row_eq (c : Fin 8) (r : Fin 64) : 512 * t + (64 * c.val + r.val) = 64 * (8 * t + c.val) + r.val := by omega

theorem qd_coe (c : Fin 8) (r : Fin 64) (h : Fin 4) (d : Fin 64) :
    (blk (QD U LS) (64 * c.val) (64 * h.val) (ix2 r d) : EReal)
      = (q h d (64 * (8 * t + c.val) + r.val) * Real.exp (GlaMath.upto (l h d) (8 * t + c.val) r.val) : ℝ) := by
  rw [blk_apply, QD_apply, H.hq, bA_coe H, EReal.coe_mul, ← row_eq H c r]
  rfl

theorem ki_coe (c : Fin 8) (r : Fin 64) (h : Fin 4) (d : Fin 64) :
    (blk (KI U LS) (64 * c.val) (64 * h.val) (ix2 r d) : EReal)
      = (k h d (64 * (8 * t + c.val) + r.val) * Real.exp (-GlaMath.upto (l h d) (8 * t + c.val) r.val) : ℝ) := by
  rw [blk_apply, KI_apply, H.hk, bA_coe H, EReal.coe_mul, ← row_eq H c r, ← EReal.coe_neg]
  rfl

theorem ke_coe (c : Fin 8) (r : Fin 64) (h : Fin 4) (d : Fin 64) :
    (blk (KE U LS) (64 * c.val) (64 * h.val) (ix2 r d) : EReal)
      = (k h d (64 * (8 * t + c.val) + r.val) * Real.exp (GlaMath.after (l h d) (8 * t + c.val) r.val) : ℝ) := by
  rw [blk_apply, KE_apply, H.hk, remA_coe H, EReal.coe_mul, ← row_eq H c r]
  rfl

theorem vv_coe (c : Fin 8) (r : Fin 64) (h : Fin 4) (d : Fin 64) :
    (blk (VV U) (64 * c.val) (64 * h.val) (ix2 r d) : EReal) = (v h d (64 * (8 * t + c.val) + r.val) : ℝ) := by
  rw [blk_apply, VV_apply, H.hv, ← row_eq H c r]

theorem dec_coe (c : Fin 8) (h : Fin 4) (d : Fin 64) :
    (blk8 (DEC LS) (64 * c.val + 56) (64 * h.val) (ix2 7 d) : EReal) = (Real.exp (GlaMath.upto (l h d) (8 * t + c.val) 63) : ℝ) := by
  rw [blk8_apply, DEC_apply]
  exact congrArg Ideal.exp (bA_coe H c 63 h d)

/-! ## The states -/

variable {S : Vec Ideal S4x64x64 .f32}
  (hS : ∀ (h : Fin 4) (e d : Fin 64), (S (ix3 h e d) : EReal) = (GlaMath.stv (l h d) (k h d) (v h e) (8 * t) : ℝ))

include hS

theorem st_coe (h : Fin 4) (e d : Fin 64) : ∀ c : ℕ, c ≤ 8 →
    (St U LS S c h.val (ix3 0 e d) : EReal) = (GlaMath.stv (l h d) (k h d) (v h e) (8 * t + c) : ℝ)
  | 0, _ => by
    rw [St_zero, ini_apply]
    exact hS h e d
  | c + 1, hc => by
    have ih := st_coe h e d c (by omega)
    have hd := dec_coe H ⟨c, by omega⟩ h d
    have hb := fun s => vv_coe H ⟨c, by omega⟩ s h e
    have hk := fun s => ke_coe H ⟨c, by omega⟩ s h d
    simp only at hd hb hk
    rw [St_succ, stp_apply, ih, hd, ← add_assoc, GlaMath.stv_succ, EReal.coe_add, EReal.coe_mul, coe_sum]
    simp only [hb, hk, EReal.coe_mul]

/-- The states that a point leaves are those the next point begins with. -/
theorem gs_coe (h : Fin 4) (e d : Fin 64) :
    (GS U LS S (ix3 h e d) : EReal) = (GlaMath.stv (l h d) (k h d) (v h e) (8 * (t + 1)) : ℝ) :=
  st_coe H hS h e d 8 le_rfl

/-- The attention over all rows up to this one. -/
theorem go_coe (ht : t < 32) (c : Fin 8) (r : Fin 64) (h : Fin 4) (e : Fin 64) :
    (GO U LS S (ix2 ⟨64 * c.val + r.val, by omega⟩ ⟨h.val * 64 + e.val, by omega⟩) : EReal)
      = ((∑ s ∈ Finset.range 16384, (∑ d, q h d (64 * (8 * t + c.val) + r.val) * k h d s * (if s ≤ 64 * (8 * t + c.val) + r.val then
          Real.exp (GlaMath.pre (l h d) (64 * (8 * t + c.val) + r.val + 1) - GlaMath.pre (l h d) (s + 1)) else 0)) * v h e s : ℝ) : EReal) := by
  rw [← GlaMath.out_eq (l h) (k h) (q h) (v h e) (8 * t + c.val) r.val 16384 r.isLt (by omega), go_apply, uo_apply]
  simp only [qd_coe H, ki_coe H, vv_coe H, st_coe H hS h e _ c.val (by omega)]
  rw [EReal.coe_add, coe_sum, coe_sum]
  congr 1
  refine Finset.sum_congr rfl fun s _ => ?_
  rw [EReal.coe_mul]
  congr 1
  split_ifs
  · rw [coe_sum]
    simp only [EReal.coe_mul]
  · rfl

end Cert.Proof.Gla

end
-- ==== Proof.GlaIn.lean ====
/-
  The gated linear attention: the blocks that each grid point loads, as elements of the call's arguments.
-/
module

public import proofs.«01_k».proof.Proof.Gen.Kernel5Ideal.Value
public import Idealize.ShloMosaic.Lib.Pointwise
public import Idealize.ShloMosaic.Lib.Claim
public import Idealize.ShloMosaic.Lib.KernelVsHost
public import Idealize.ShloMosaic.Lib.Pipeline.ValueKit

@[expose] public section

noncomputable section

namespace Cert.Proof.Gla

open Idealize.ShloMosaic Idealize.ShloMosaic.TcCoe Idealize.SL.Sem
open Cert.Kernel5Ideal Cert.Kernel5Ideal.Gen

variable (m : (ℓ : Loc nD τ sig) → Buf (Elt Ideal) ℓ)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)

/-- Row `r` of point `t`'s block, in the whole array. -/
def row (t : Fin cfg0.N) (r : Fin 512) : Fin 16384 := ⟨t.val * 512 + r.val, by have : t.val < 32 := t.isLt; omega⟩

/-- Window 0's block at a point: rows `512 t ..` of the array. -/
theorem iblk0_apply (c : Dev nD) (t : Fin cfg0.N) (r : Fin 512) (k : Fin 1024) :
    iblk m c 0 t (ix2 r k) = m ((c : Thread nD τ).loc main_arg0) (ix2 (row t r) k) := by
  have hemb : ((cfg0.win 0).blk t).view.emb (ix2 r k) = ix2 (n0 := 16384) (n1 := 1024) (row t r) k := by
    funext a
    apply Fin.ext
    match a with
    | ⟨0, _⟩ => show win0_0.index t 0 * 512 + 1 * r.val = t.val * 512 + r.val
                rw [(index0 t).1]; omega
    | ⟨1, _⟩ => show win0_0.index t 1 * 1024 + 1 * k.val = k.val
                rw [(index0 t).2]; omega
  show V m c main_arg0 (((cfg0.win 0).blk t).view.emb (ix2 r k)) = _
  rw [hemb]
  rw [V_main_arg0]

/-- A line of operations in two parts. -/
theorem after_two (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l ih => exact ih _

/-- Window 1's block at a point: the gain of the normalization. -/
theorem iblk1_apply (c : Dev nD) (t : Fin cfg0.N) (k : Fin 1024) :
    iblk m c 1 t (ix2 0 k) = m ((c : Thread nD τ).loc main_arg1) (ix1 k) := by
  have hemb : ((cfg0.win 1).blk t).view.emb (ix2 0 k) = ix2 (n0 := 1) (n1 := 1024) 0 k := by
    funext a
    apply Fin.ext
    match a with
    | ⟨0, _⟩ => show win0_1.index t 0 * 1 + 1 * 0 = 0
                rw [(index1 t).1]
    | ⟨1, _⟩ => show win0_1.index t 1 * 1024 + 1 * k.val = k.val
                rw [(index1 t).2]; omega
  show V m c main_v39 (((cfg0.win 1).blk t).view.emb (ix2 0 k)) = _
  rw [hemb]
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  pointwise

/-- Window 4's block at a point: the bias of the log decays. -/
theorem iblk4_apply (c : Dev nD) (t : Fin cfg0.N) (k : Fin 256) :
    iblk m c 4 t (ix2 0 k) = m ((c : Thread nD τ).loc main_arg4) (ix1 k) := by
  have hemb : ((cfg0.win 4).blk t).view.emb (ix2 0 k) = ix2 (n0 := 1) (n1 := 256) 0 k := by
    funext a
    apply Fin.ext
    match a with
    | ⟨0, _⟩ => show win0_4.index t 0 * 1 + 1 * 0 = 0
                rw [(index4 t).1]
    | ⟨1, _⟩ => show win0_4.index t 1 * 256 + 1 * k.val = k.val
                rw [(index4 t).2]; omega
  show V m c main_v40 (((cfg0.win 4).blk t).view.emb (ix2 0 k)) = _
  rw [hemb]
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  pointwise

/-- Window 5's block at a point: the gain of the heads' normalization, four times. -/
theorem iblk5_apply (c : Dev nD) (t : Fin cfg0.N) (k : Fin 256) :
    iblk m c 5 t (ix2 0 k) = m ((c : Thread nD τ).loc main_arg5) (ix1 ⟨k.val % 64, by omega⟩) := by
  have hemb : ((cfg0.win 5).blk t).view.emb (ix2 0 k) = ix2 (n0 := 1) (n1 := 256) 0 k := by
    funext a
    apply Fin.ext
    match a with
    | ⟨0, _⟩ => show win0_5.index t 0 * 1 + 1 * 0 = 0
                rw [(index5 t).1]
    | ⟨1, _⟩ => show win0_5.index t 1 * 256 + 1 * k.val = k.val
                rw [(index5 t).2]; omega
  show V m c main_v44 (((cfg0.win 5).blk t).view.emb (ix2 0 k)) = _
  rw [hemb]
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  pointwise

/-- The embedding of window 3's block. -/
theorem emb3 (t : Fin cfg0.N) (d : Fin 128) (k : Fin 256) : ((cfg0.win 3).blk t).view.emb (ix2 d k) = ix2 (n0 := 128) (n1 := 256) d k := by
  funext a
  apply Fin.ext
  match a with
  | ⟨0, _⟩ => show win0_3.index t 0 * 128 + 1 * d.val = d.val
              rw [(index3 t).1]; omega
  | ⟨1, _⟩ => show win0_3.index t 1 * 256 + 1 * k.val = k.val
              rw [(index3 t).2]; omega

/-- Window 3's block at a point: the second factor of the decays' weight in the first sixteen rows. -/
theorem iblk3_in (c : Dev nD) (t : Fin cfg0.N) (d : Fin 16) (k : Fin 256) :
    (iblk m c 3 t (ix2 ⟨d.val, by omega⟩ k) : EReal) = m ((c : Thread nD τ).loc main_arg3) (ix2 d k) := by
  show V m c main_v38 (((cfg0.win 3).blk t).view.emb (ix2 ⟨d.val, by omega⟩ k)) = _
  rw [emb3]
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  simp only [StableHlo.TRef.toBuf, StableHlo.TRef.ofBuf, cast_cast, cast_eq]
  refine Eq.trans (b := pad S128x256 ![0, 0] ![112, 0] ![0, 0] (m (c, Proc.tc.devRef main_arg3)) (sitofp (F := Ideal) .f32 (constantI S_ 32 0#32))
      pads_S16x256_S128x256_01120_000 h_S_ (ix2 ⟨d.val, by omega⟩ k)) rfl ?_
  refine (pad_apply_of_inside _ _ _ _ _ _ _ _ (ix2 (n0 := 16) (n1 := 256) d k) ?_).trans ?_
  · intro a
    match a with
    | ⟨0, _⟩ => show d.val = 0 + d.val * 1; omega
    | ⟨1, _⟩ => show k.val = 0 + k.val * 1; omega
  · pointwise

/-- The other rows are zero. -/
theorem iblk3_out (c : Dev nD) (t : Fin cfg0.N) (d : Fin 128) (hd : 16 ≤ d.val) (k : Fin 256) :
    (iblk m c 3 t (ix2 d k) : EReal) = (0 : EReal) := by
  show (V m c main_v38 (((cfg0.win 3).blk t).view.emb (ix2 d k)) : EReal) = (0 : EReal)
  rw [emb3]
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  simp only [StableHlo.TRef.toBuf, StableHlo.TRef.ofBuf, cast_cast, cast_eq]
  refine Eq.trans (α := EReal) (b := pad S128x256 ![0, 0] ![112, 0] ![0, 0] (m (c, Proc.tc.devRef main_arg3)) (sitofp (F := Ideal) .f32 (constantI S_ 32 0#32))
      pads_S16x256_S128x256_01120_000 h_S_ (ix2 d k)) rfl ?_
  refine (pad_apply_of_not_inside _ _ _ _ _ _ _ _ (0 : Fin 2) ?_).trans ?_
  · show ¬(0 ≤ d.val ∧ (d.val - 0) % (0 + 1) = 0 ∧ (d.val - 0) / (0 + 1) < 16)
    omega
  · simp [sitofp, constantI, FloatOps.sitofp]

/-- The joined weight, from the pieces that the operations before it leave. -/
theorem joined (σ : Valuation τ sig (Elt Ideal)) (d : Fin 1024) (k : Fin 1152) :
    ((StableHlo.after hostOps0_4 σ (Proc.devRef .tc main_v22) : (⟨S1024x1152, .bf16⟩ : BufTy).Contents (Elt Ideal)) (ix2 d k) : Ideal .bf16)
      = if h : k.val < 256 then
          (σ (Proc.devRef .tc main_v4) : (⟨S1024x256, .f32⟩ : BufTy).Contents (Elt Ideal)) (ix2 (n0 := 1024) (n1 := 256) d ⟨k.val, h⟩)
        else if h : k.val - 256 < 256 then
          (σ (Proc.devRef .tc main_v5) : (⟨S1024x256, .f32⟩ : BufTy).Contents (Elt Ideal)) (ix2 (n0 := 1024) (n1 := 256) d ⟨k.val - 256, h⟩)
        else if h : k.val - 256 - 256 < 256 then
          (σ (Proc.devRef .tc main_v6) : (⟨S1024x256, .f32⟩ : BufTy).Contents (Elt Ideal)) (ix2 (n0 := 1024) (n1 := 256) d ⟨k.val - 256 - 256, h⟩)
        else if h : k.val - 256 - 256 - 256 < 256 then
          (σ (Proc.devRef .tc main_v8) : (⟨S1024x256, .f32⟩ : BufTy).Contents (Elt Ideal)) (ix2 (n0 := 1024) (n1 := 256) d ⟨k.val - 256 - 256 - 256, h⟩)
        else (σ (Proc.devRef .tc main_v20) : (⟨S1024x128, .f32⟩ : BufTy).Contents (Elt Ideal))
          (ix2 (n0 := 1024) (n1 := 128) d ⟨k.val - 256 - 256 - 256 - 256, by omega⟩) := by
  simp only [hostOps0_4]
  entry_read
  pointwise

/-- The operations after it leave the joined weight alone. -/
theorem rest_v22 (σ : Valuation τ sig (Elt Ideal)) :
    StableHlo.after (hostOps0_5 ++ (hostOps0_6 ++ (hostOps0_7 ++ (hostOps0_8 (F := Ideal))))) σ (Proc.devRef .tc main_v22)
      = σ (Proc.devRef .tc main_v22) := by
  simp only [hostOps0_5, hostOps0_6, hostOps0_7, hostOps0_8, List.cons_append, List.nil_append]
  entry_read
  rfl

/-- The operations before the joined weight, from the arguments. -/
abbrev pre4 (σ : Valuation τ sig (Elt Ideal)) : Valuation τ sig (Elt Ideal) :=
  StableHlo.after (hostOps0 ++ (hostOps0_1 ++ (hostOps0_2 ++ (hostOps0_3 (F := Ideal))))) σ

/-- A piece of the joined weight: columns 772 to 1027 of the input weight. -/
theorem start_v4 (σ : Valuation τ sig (Elt Ideal)) (d : Fin 1024) (k : Fin 256) :
    ((pre4 σ (Proc.devRef .tc main_v4) : (⟨S1024x256, .f32⟩ : BufTy).Contents (Elt Ideal)) (ix2 d k) : EReal)
      = (σ (Proc.devRef .tc main_arg2) : (⟨S1024x8220, .f32⟩ : BufTy).Contents (Elt Ideal)) (ix2 d ⟨772 + k.val, by omega⟩) := by
  simp only [pre4, hostOps0, hostOps0_1, hostOps0_2, hostOps0_3, List.cons_append, List.nil_append]
  entry_read
  pointwise

/-- A piece of the joined weight: columns 1028 to 1283 of the input weight. -/
theorem start_v5 (σ : Valuation τ sig (Elt Ideal)) (d : Fin 1024) (k : Fin 256) :
    ((pre4 σ (Proc.devRef .tc main_v5) : (⟨S1024x256, .f32⟩ : BufTy).Contents (Elt Ideal)) (ix2 d k) : EReal)
      = (σ (Proc.devRef .tc main_arg2) : (⟨S1024x8220, .f32⟩ : BufTy).Contents (Elt Ideal)) (ix2 d ⟨1028 + k.val, by omega⟩) := by
  simp only [pre4, hostOps0, hostOps0_1, hostOps0_2, hostOps0_3, List.cons_append, List.nil_append]
  entry_read
  pointwise

/-- A piece of the joined weight: columns 1284 to 1539 of the input weight. -/
theorem start_v6 (σ : Valuation τ sig (Elt Ideal)) (d : Fin 1024) (k : Fin 256) :
    ((pre4 σ (Proc.devRef .tc main_v6) : (⟨S1024x256, .f32⟩ : BufTy).Contents (Elt Ideal)) (ix2 d k) : EReal)
      = (σ (Proc.devRef .tc main_arg2) : (⟨S1024x8220, .f32⟩ : BufTy).Contents (Elt Ideal)) (ix2 d ⟨1284 + k.val, by omega⟩) := by
  simp only [pre4, hostOps0, hostOps0_1, hostOps0_2, hostOps0_3, List.cons_append, List.nil_append]
  entry_read
  pointwise

/-- A piece of the joined weight: columns 1556 to 1811 of the input weight. -/
theorem start_v8 (σ : Valuation τ sig (Elt Ideal)) (d : Fin 1024) (k : Fin 256) :
    ((pre4 σ (Proc.devRef .tc main_v8) : (⟨S1024x256, .f32⟩ : BufTy).Contents (Elt Ideal)) (ix2 d k) : EReal)
      = (σ (Proc.devRef .tc main_arg2) : (⟨S1024x8220, .f32⟩ : BufTy).Contents (Elt Ideal)) (ix2 d ⟨1556 + k.val, by omega⟩) := by
  simp only [pre4, hostOps0, hostOps0_1, hostOps0_2, hostOps0_3, List.cons_append, List.nil_append]
  entry_read
  pointwise

/-- The last piece: the sixteen columns of the decays, in the first sixteen lanes. -/
theorem start_v20 (σ : Valuation τ sig (Elt Ideal)) (d : Fin 1024) (k : Fin 16) :
    ((pre4 σ (Proc.devRef .tc main_v20) : (⟨S1024x128, .f32⟩ : BufTy).Contents (Elt Ideal)) (ix2 d ⟨k.val, by omega⟩) : EReal)
      = (σ (Proc.devRef .tc main_arg2) : (⟨S1024x8220, .f32⟩ : BufTy).Contents (Elt Ideal)) (ix2 d ⟨1540 + k.val, by omega⟩) := by
  simp only [pre4, hostOps0, hostOps0_1, hostOps0_2, hostOps0_3, List.cons_append, List.nil_append]
  entry_read
  simp only [StableHlo.TRef.toBuf, StableHlo.TRef.ofBuf, cast_cast, cast_eq]
  refine (pad_apply_of_inside _ _ _ _ _ _ _ _ (ix2 (n0 := 1024) (n1 := 16) d k) ?_).trans ?_
  · intro a
    match a with
    | ⟨0, _⟩ => show d.val = 0 + d.val * 1; omega
    | ⟨1, _⟩ => show k.val = 0 + k.val * 1; omega
  · pointwise

/-- The joined weight at the call, from the operations that make it. -/
theorem chain22 (c : Dev nD) : V m c main_v22 = StableHlo.after hostOps0_4 (pre4 (fun b => m (c, b))) (Proc.devRef .tc main_v22) := by
  show StableHlo.after (hostOps0 ++ (hostOps0_1 ++ (hostOps0_2 ++ (hostOps0_3 ++ (hostOps0_4 ++ (hostOps0_5 ++ (hostOps0_6 ++ (hostOps0_7 ++ (hostOps0_8 ++ []))))))))) _ _ = _
  rw [List.append_nil, after_two, after_two, after_two, after_two, after_two, rest_v22, pre4, after_two, after_two, after_two]

/-- Column `n` of the input weight that holds column `k` of the joined weight. -/
def col (k : ℕ) : ℕ := if k < 768 then 772 + k else if k < 1024 then 788 + k else 516 + k

/-- Window 2's block at a point: columns of the input weight. -/
theorem iblk2_apply (c : Dev nD) (t : Fin cfg0.N) (d : Fin 1024) (k : Fin 1152) (n : ℕ) (hn : n < 8220) (hk : k.val < 1040) (e : n = col k.val) :
    (iblk m c 2 t (ix2 d k) : EReal) = m ((c : Thread nD τ).loc main_arg2) (ix2 d ⟨n, hn⟩) := by
  have hemb : ((cfg0.win 2).blk t).view.emb (ix2 d k) = ix2 (n0 := 1024) (n1 := 1152) d k := by
    funext a
    apply Fin.ext
    match a with
    | ⟨0, _⟩ => show win0_2.index t 0 * 1024 + 1 * d.val = d.val
                rw [(index2 t).1]; omega
    | ⟨1, _⟩ => show win0_2.index t 1 * 1152 + 1 * k.val = k.val
                rw [(index2 t).2]; omega
  show V m c main_v22 (((cfg0.win 2).blk t).view.emb (ix2 d k)) = _
  rw [hemb, chain22]
  refine (joined _ d k).trans ?_
  have e' : ∀ (n' : ℕ) (hn' : n' < 8220), n' = n →
      (m ((c : Thread nD τ).loc main_arg2) (ix2 d ⟨n', hn'⟩) : EReal) = m ((c : Thread nD τ).loc main_arg2) (ix2 d ⟨n, hn⟩) := by
    intro n' hn' h
    subst h
    rfl
  unfold col at e
  split_ifs with h1 h2 h3 h4
  · exact (start_v4 _ d ⟨k.val, h1⟩).trans (e' _ _ (by show 772 + k.val = n; rw [e]; split_ifs <;> omega))
  · exact (start_v5 _ d ⟨k.val - 256, h2⟩).trans (e' _ _ (by show 1028 + (k.val - 256) = n; rw [e]; split_ifs <;> omega))
  · exact (start_v6 _ d ⟨k.val - 256 - 256, h3⟩).trans (e' _ _ (by show 1284 + (k.val - 256 - 256) = n; rw [e]; split_ifs <;> omega))
  · exact (start_v8 _ d ⟨k.val - 256 - 256 - 256, h4⟩).trans (e' _ _ (by show 1556 + (k.val - 256 - 256 - 256) = n; rw [e]; split_ifs <;> omega))
  · exact (start_v20 _ d ⟨k.val - 256 - 256 - 256 - 256, by omega⟩).trans (e' _ _ (by show 1540 + (k.val - 256 - 256 - 256 - 256) = n; rw [e]; split_ifs <;> omega))

end Cert.Proof.Gla
end
-- ==== Proof.GlaRef.lean ====
/-
  The gated linear attention: the reference's result, read element by element.
-/
module

public import proofs.«01_k».proof.Proof.Gen.Reference5Ideal.Read
public import proofs.«01_k».proof.Proof.PrepRef
public import proofs.«01_k».proof.Proof.GlaMath
public import Idealize.ShloMosaic.Lib.Pointwise

@[expose] public section

noncomputable section

namespace Cert.Proof.Gla

open Idealize.ShloMosaic Idealize.ShloMosaic.TcCoe Idealize.SL.Sem
open Cert.Reference5Ideal
open Cert.Proof.Prep (lsig lsig_eq lsig_real coe_sum real_sum proj_real cumsum_apply div_64)

variable (x0 : FVec Ideal S16384x1024 .f32) (x1 : FVec Ideal S1024 .f32) (x2 : FVec Ideal S1024x8220 .f32) (x3 : FVec Ideal S16x256 .f32)
  (x4 : FVec Ideal S256 .f32) (x5 : FVec Ideal S64 .f32)

/-! ## The specification -/

/-- Element `n` of row `r` of the projections. -/
def prj (r : Fin 16384) (n : ℕ) (hn : n < 1040) : EReal :=
  Ffn.proj (fun d => x0 (ix2 r d)) (fun d => x1 (ix1 d)) (fun d => x2 (ix2 d ⟨772 + n, by omega⟩))

/-- The log decay of row `r` and lane `j`. -/
def lgd (r : Fin 16384) (j : Fin 256) : EReal :=
  lsig ((∑ e : Fin 16, prj x0 x1 x2 r (768 + e.val) (by omega) * x3 (ix2 e j)) + x4 (ix1 j)) * Ideal.ofBits .f32 0x3D800000#32

/-- What the precondition states: the numbers that the attention is computed from are real. -/
structure Fin5 (x1 : FVec Ideal S1024 .f32) (x2 : FVec Ideal S1024x8220 .f32) (x3 : FVec Ideal S16x256 .f32) (x4 : FVec Ideal S256 .f32) : Prop where
  ln : ∀ d : Fin 1024, ∃ a : ℝ, (x1 (ix1 d) : EReal) = a
  w : ∀ (d : Fin 1024) (n : Fin 784), ∃ a : ℝ, (x2 (ix2 d ⟨772 + n.val, by omega⟩) : EReal) = a
  w2 : ∀ (d : Fin 16) (j : Fin 256), ∃ a : ℝ, (x3 (ix2 d j) : EReal) = a
  b : ∀ j : Fin 256, ∃ a : ℝ, (x4 (ix1 j) : EReal) = a

theorem word_8th : Ideal.ofBits .f32 0x3E000000#32 = ((1 / 8 : ℝ) : EReal) := by
  simp [Ideal.ofBits, Ideal.ieee, -EReal.coe_mul]; norm_num

theorem word_16th : Ideal.ofBits .f32 0x3D800000#32 = ((1 / 16 : ℝ) : EReal) := by
  simp [Ideal.ofBits, Ideal.ieee, -EReal.coe_mul]; norm_num

theorem word_16 : Ideal.ofBits .f32 0x41800000#32 = ((16 : ℝ) : EReal) := by
  simp [Ideal.ofBits, Ideal.ieee, -EReal.coe_mul]; norm_num

theorem div_16 (a : EReal) : Ideal.div a (Ideal.ofBits .f32 0x41800000#32) = a * Ideal.ofBits .f32 0x3D800000#32 := by
  rw [word_16, word_16th, Ideal.div_coe (by norm_num)]

variable {x1 x2 x3 x4}

theorem prj_real (H : Fin5 x1 x2 x3 x4) (r : Fin 16384) (n : ℕ) (hn : n < 784) : ∃ a : ℝ, prj x0 x1 x2 r n (by omega) = a :=
  proj_real _ _ _ H.ln fun d => H.w d ⟨n, hn⟩

theorem z_real (H : Fin5 x1 x2 x3 x4) (r : Fin 16384) (j : Fin 256) :
    ∃ a : ℝ, (∑ e : Fin 16, prj x0 x1 x2 r (768 + e.val) (by omega) * x3 (ix2 e j)) + x4 (ix1 j) = (a : EReal) := by
  obtain ⟨a, ha⟩ := real_sum (fun e : Fin 16 => prj x0 x1 x2 r (768 + e.val) (by omega) * x3 (ix2 e j)) fun e => by
    obtain ⟨a, ha⟩ := prj_real x0 H r (768 + e.val) (by omega)
    obtain ⟨b, hb⟩ := H.w2 e j
    exact ⟨a * b, by rw [ha, hb, EReal.coe_mul]⟩
  obtain ⟨b, hb⟩ := H.b j
  exact ⟨a + b, by rw [ha, hb, EReal.coe_add]⟩

theorem lgd_real (H : Fin5 x1 x2 x3 x4) (r : Fin 16384) (j : Fin 256) : ∃ a : ℝ, lgd x0 x1 x2 x3 x4 r j = a := by
  obtain ⟨z, hz⟩ := z_real x0 H r j
  obtain ⟨b, hb⟩ := lsig_real z
  exact ⟨b * (1 / 16), by unfold lgd; rw [hz, hb, word_16th, EReal.coe_mul]⟩

variable (x1 x2 x3 x4)

/-! ## The real sequences of one head's lanes -/

def lR (h : Fin 4) (d : Fin 64) (T : ℕ) : ℝ := if hT : T < 16384 then (lgd x0 x1 x2 x3 x4 ⟨T, hT⟩ ⟨h.val * 64 + d.val, by omega⟩).toReal else 0
def qR (h : Fin 4) (d : Fin 64) (T : ℕ) : ℝ :=
  if hT : T < 16384 then (prj x0 x1 x2 ⟨T, hT⟩ (h.val * 64 + d.val) (by omega) * Ideal.ofBits .f32 0x3E000000#32).toReal else 0
def kR (h : Fin 4) (d : Fin 64) (T : ℕ) : ℝ := if hT : T < 16384 then (prj x0 x1 x2 ⟨T, hT⟩ (256 + (h.val * 64 + d.val)) (by omega)).toReal else 0
def vR (h : Fin 4) (d : Fin 64) (T : ℕ) : ℝ := if hT : T < 16384 then (prj x0 x1 x2 ⟨T, hT⟩ (512 + (h.val * 64 + d.val)) (by omega)).toReal else 0

variable {x1 x2 x3 x4}

theorem coe_toReal {a : EReal} (h : ∃ b : ℝ, a = b) : (a.toReal : EReal) = a := by
  obtain ⟨b, rfl⟩ := h
  rw [EReal.toReal_coe]

theorem lR_eq (H : Fin5 x1 x2 x3 x4) (h : Fin 4) (d : Fin 64) (T : Fin 16384) :
    lgd x0 x1 x2 x3 x4 T ⟨h.val * 64 + d.val, by omega⟩ = (lR x0 x1 x2 x3 x4 h d T.val : EReal) := by
  unfold lR
  rw [dif_pos T.isLt]
  exact (coe_toReal (lgd_real x0 H _ _)).symm

theorem qR_eq (H : Fin5 x1 x2 x3 x4) (h : Fin 4) (d : Fin 64) (T : Fin 16384) :
    prj x0 x1 x2 T (h.val * 64 + d.val) (by omega) * Ideal.ofBits .f32 0x3E000000#32 = (qR x0 x1 x2 h d T.val : EReal) := by
  unfold qR
  rw [dif_pos T.isLt]
  refine (coe_toReal ?_).symm
  obtain ⟨a, ha⟩ := prj_real x0 H T (h.val * 64 + d.val) (by omega)
  exact ⟨a * (1 / 8), by rw [ha, word_8th, EReal.coe_mul]⟩

theorem kR_eq (H : Fin5 x1 x2 x3 x4) (h : Fin 4) (d : Fin 64) (T : Fin 16384) :
    prj x0 x1 x2 T (256 + (h.val * 64 + d.val)) (by omega) = (kR x0 x1 x2 h d T.val : EReal) := by
  unfold kR
  rw [dif_pos T.isLt]
  exact (coe_toReal (prj_real x0 H T _ (by omega))).symm

theorem vR_eq (H : Fin5 x1 x2 x3 x4) (h : Fin 4) (d : Fin 64) (T : Fin 16384) :
    prj x0 x1 x2 T (512 + (h.val * 64 + d.val)) (by omega) = (vR x0 x1 x2 h d T.val : EReal) := by
  unfold vR
  rw [dif_pos T.isLt]
  exact (coe_toReal (prj_real x0 H T _ (by omega))).symm

/-- The attention's output at row `T`, head `h` and lane `e`. -/
def oR (x1 : FVec Ideal S1024 .f32) (x2 : FVec Ideal S1024x8220 .f32) (x3 : FVec Ideal S16x256 .f32) (x4 : FVec Ideal S256 .f32)
    (h : Fin 4) (e : Fin 64) (T : ℕ) : ℝ :=
  ∑ s ∈ Finset.range 16384, (∑ d, qR x0 x1 x2 h d T * kR x0 x1 x2 h d s
    * (if s ≤ T then Real.exp (GlaMath.pre (lR x0 x1 x2 x3 x4 h d) (T + 1) - GlaMath.pre (lR x0 x1 x2 x3 x4 h d) (s + 1)) else 0))
    * vR x0 x1 x2 h e s

/-! ## The reference's arrays -/

theorem v14_apply (r : Fin 16384) (n : ℕ) (hn : n < 1040) :
    Read.val_main_v14 (F := Ideal) x0 x1 x2 (ix2 r ⟨n, hn⟩) = prj x0 x1 x2 r n hn := by
  unfold prj
  pointwise [Read.val_main_v14, Read.val_main_v13, Read.val_main_v12, Read.val_main_v11, Read.val_main_v10, Read.val_main_v9,
    Read.val_main_v8, Read.val_main_v7, Read.val_main_v6, Read.val_main_v5, Read.val_main_v4, Read.val_main_v3, Read.val_main_v2,
    Read.val_main_v1, Read.val_main_v0, Read.val_main_cst, Read.val_main_cst_0, Read.val_main_cst_1]
  simp only [Ffn.proj, Ffn.normRow]

theorem v18_apply (H : Fin5 x1 x2 x3 x4) (r : Fin 16384) (h : Fin 4) (d : Fin 64) :
    (Read.val_main_v18 (F := Ideal) x0 x1 x2 (ix3 r h d) : EReal) = (qR x0 x1 x2 h d r.val : EReal) := by
  rw [← qR_eq x0 H, ← v14_apply]
  unfold Read.val_main_v18 Read.val_main_v17 Read.val_main_v16 Read.val_main_v15 Read.val_main_cst_2
  generalize Read.val_main_v14 (F := Ideal) x0 x1 x2 = y
  pointwise

theorem v20_apply (H : Fin5 x1 x2 x3 x4) (r : Fin 16384) (h : Fin 4) (d : Fin 64) :
    (Read.val_main_v20 (F := Ideal) x0 x1 x2 (ix3 r h d) : EReal) = (kR x0 x1 x2 h d r.val : EReal) := by
  rw [← kR_eq x0 H, ← v14_apply]
  unfold Read.val_main_v20 Read.val_main_v19
  generalize Read.val_main_v14 (F := Ideal) x0 x1 x2 = y
  pointwise

theorem v22_apply (H : Fin5 x1 x2 x3 x4) (r : Fin 16384) (h : Fin 4) (d : Fin 64) :
    (Read.val_main_v22 (F := Ideal) x0 x1 x2 (ix3 r h d) : EReal) = (vR x0 x1 x2 h d r.val : EReal) := by
  rw [← vR_eq x0 H, ← v14_apply]
  unfold Read.val_main_v22 Read.val_main_v21
  generalize Read.val_main_v14 (F := Ideal) x0 x1 x2 = y
  pointwise

theorem v28_apply (r : Fin 16384) (j : Fin 256) :
    (Read.val_main_v28 (F := Ideal) x0 x1 x2 x3 x4 (ix2 r j) : EReal)
      = (∑ e : Fin 16, prj x0 x1 x2 r (768 + e.val) (by omega) * x3 (ix2 e j)) + x4 (ix1 j) := by
  simp only [← v14_apply]
  unfold Read.val_main_v28 Read.val_main_v27 Read.val_main_v26 Read.val_main_v25 Read.val_main_v23
  generalize Read.val_main_v14 (F := Ideal) x0 x1 x2 = y
  pointwise

/-- The log decay, as the reference computes it. -/
theorem v31_apply (H : Fin5 x1 x2 x3 x4) (r : Fin 16384) (j : Fin 256) :
    (Read.val_main_v31 (F := Ideal) x0 x1 x2 x3 x4 (ix2 r j) : EReal) = lgd x0 x1 x2 x3 x4 r j := by
  obtain ⟨z, hz⟩ := z_real x0 H r j
  have e : (Read.val_main_v28 (F := Ideal) x0 x1 x2 x3 x4 (ix2 r j) : EReal) = z := by
    rw [← hz, v28_apply]
  unfold lgd
  rw [hz, ← lsig_eq, ← e, ← div_16]
  unfold Read.val_main_v31 Read.val_main_v30 Read.val_main_cst_3 Read.val_main_v29 Read.val_main_call0_v1 Read.val_main_call0_call0_v11
    Read.val_main_call0_call0_v10 Read.val_main_call0_call0_v9
    Read.val_main_call0_call0_v8 Read.val_main_call0_call0_v7 Read.val_main_call0_call0_v6 Read.val_main_call0_call0_v5
    Read.val_main_call0_call0_v4 Read.val_main_call0_call0_v3 Read.val_main_call0_call0_v2 Read.val_main_call0_call0_v1
    Read.val_main_call0_call0_v0 Read.val_main_call0_v0 Read.val_main_call0_call0_cst
  generalize Read.val_main_v28 (F := Ideal) x0 x1 x2 x3 x4 = y
  pointwise
  exact congrArg (fun a => Ideal.div (Neg.neg a) _) (if_neg (fun hne => hne rfl))

theorem pre_coe (l : ℕ → ℝ) (T : Fin 16384) : ((GlaMath.pre l (T.val + 1) : ℝ) : EReal) = ∑ i : Fin 16384, if i.val ≤ T.val then (l i.val : EReal) else 0 := by
  have e : GlaMath.pre l (T.val + 1) = ∑ i : Fin 16384, if i.val ≤ T.val then l i.val else 0 := by
    unfold GlaMath.pre
    rw [Fin.sum_univ_eq_sum_range (fun i => if i ≤ T.val then l i else 0) 16384, ← Finset.sum_filter]
    refine Finset.sum_congr (Finset.ext fun x => ?_) fun _ _ => rfl
    have := T.isLt
    simp only [Finset.mem_filter, Finset.mem_range]
    omega
  rw [e, coe_sum]
  refine Finset.sum_congr rfl fun i _ => ?_
  split_ifs <;> rfl

/-- The prefix sums of the log decays. -/
theorem v33_apply (H : Fin5 x1 x2 x3 x4) (r : Fin 16384) (h : Fin 4) (d : Fin 64) :
    (Read.val_main_v33 (F := Ideal) x0 x1 x2 x3 x4 (ix3 r h d) : EReal) = (GlaMath.pre (lR x0 x1 x2 x3 x4 h d) (r.val + 1) : ℝ) := by
  rw [pre_coe]
  simp only [← lR_eq x0 H, ← v31_apply x0 H]
  refine Eq.trans (b := (Read.val_main_v32 (F := Ideal) x0 x1 x2 x3 x4 (ix2 r ⟨h.val * 64 + d.val, by omega⟩) : EReal)) ?_
    (cumsum_apply (R := 16384) (Rm1 := 16383) (C := 256) rfl (Read.val_main_v31 (F := Ideal) x0 x1 x2 x3 x4)
      (Read.val_main_call1_call0_v0 (F := Ideal)) ?_ _ _ r ⟨h.val * 64 + d.val, by omega⟩)
  · unfold Read.val_main_v33
    generalize Read.val_main_v32 (F := Ideal) x0 x1 x2 x3 x4 = y
    pointwise
  · unfold Read.val_main_call1_call0_v0 Read.val_main_call1_call0_cst
    pointwise

theorem le_iff' (x r : Fin 16384) : IntOp.cmpi .sle (BitVec.ofNat 32 x.val) (BitVec.ofNat 32 r.val) = 1 ↔ x.val ≤ r.val := by
  have hx : (BitVec.ofNat 32 x.val).toInt = x.val := by
    rw [BitVec.toInt_eq_toNat_cond, BitVec.toNat_ofNat, Nat.mod_eq_of_lt (by omega), if_pos (by omega)]
  have hr : (BitVec.ofNat 32 r.val).toInt = r.val := by
    rw [BitVec.toInt_eq_toNat_cond, BitVec.toNat_ofNat, Nat.mod_eq_of_lt (by omega), if_pos (by omega)]
  by_cases h : x ≤ r <;> simp [IntOp.cmpi, BitVec.sle, hx, hr, h]

theorem word_ninf : Ideal.ofBits .f32 0xFF800000#32 = (⊥ : EReal) := by
  simp [Ideal.ofBits, Ideal.ieee]

/-- The scores: a sum over the lanes of a head, zero for the rows after. -/
theorem v54_apply (H : Fin5 x1 x2 x3 x4) (T s : Fin 16384) (h : Fin 4) :
    (Read.val_main_v54 (F := Ideal) x0 x1 x2 x3 x4 (ix3 T s h) : EReal)
      = ((∑ d, qR x0 x1 x2 h d T.val * kR x0 x1 x2 h d s.val * (if s.val ≤ T.val then
          Real.exp (GlaMath.pre (lR x0 x1 x2 x3 x4 h d) (T.val + 1) - GlaMath.pre (lR x0 x1 x2 x3 x4 h d) (s.val + 1)) else 0) : ℝ) : EReal) := by
  rw [coe_sum]
  have e : ∀ d : Fin 64, ((qR x0 x1 x2 h d T.val * kR x0 x1 x2 h d s.val * (if s.val ≤ T.val then
          Real.exp (GlaMath.pre (lR x0 x1 x2 x3 x4 h d) (T.val + 1) - GlaMath.pre (lR x0 x1 x2 x3 x4 h d) (s.val + 1)) else 0) : ℝ) : EReal)
      = (Read.val_main_v18 (F := Ideal) x0 x1 x2 (ix3 T h d) : EReal) * Read.val_main_v20 (F := Ideal) x0 x1 x2 (ix3 s h d)
        * Ideal.exp (if s.val ≤ T.val then (Read.val_main_v33 (F := Ideal) x0 x1 x2 x3 x4 (ix3 T h d) : EReal)
            - Read.val_main_v33 (F := Ideal) x0 x1 x2 x3 x4 (ix3 s h d) else ⊥) := fun d => by
    rw [v18_apply x0 H, v20_apply x0 H, v33_apply x0 H, v33_apply x0 H]
    split_ifs
    · rw [EReal.coe_mul, EReal.coe_mul, ← EReal.coe_sub]
      rfl
    · rw [mul_zero]
      exact (mul_zero _).symm
  simp only [e]
  unfold Read.val_main_v54 Read.val_main_cst_5 Read.val_main_v53 Read.val_main_v52 Read.val_main_v51 Read.val_main_v50 Read.val_main_v49
    Read.val_main_v48 Read.val_main_v47 Read.val_main_v46 Read.val_main_call2_v2 Read.val_main_call2_v1 Read.val_main_call2_v0 Read.val_main_cst_4
    Read.val_main_v45 Read.val_main_v44 Read.val_main_v43 Read.val_main_v42 Read.val_main_v41 Read.val_main_v40 Read.val_main_v39
    Read.val_main_v38 Read.val_main_v37 Read.val_main_v36 Read.val_main_v35 Read.val_main_v34
  generalize Read.val_main_v18 (F := Ideal) x0 x1 x2 = q
  generalize Read.val_main_v20 (F := Ideal) x0 x1 x2 = k
  generalize Read.val_main_v33 (F := Ideal) x0 x1 x2 x3 x4 = b
  pointwise
  simp only [Scalar.select, le_iff']
  rw [← word_ninf]
  rfl

/-- The attention's output. -/
theorem v56_apply (H : Fin5 x1 x2 x3 x4) (T : Fin 16384) (h : Fin 4) (e : Fin 64) :
    (Read.val_main_v56 (F := Ideal) x0 x1 x2 x3 x4 (ix3 T h e) : EReal) = (oR x0 x1 x2 x3 x4 h e T.val : EReal) := by
  unfold oR
  rw [← Fin.sum_univ_eq_sum_range (fun s => (∑ d, qR x0 x1 x2 h d T.val * kR x0 x1 x2 h d s * (if s ≤ T.val then
          Real.exp (GlaMath.pre (lR x0 x1 x2 x3 x4 h d) (T.val + 1) - GlaMath.pre (lR x0 x1 x2 x3 x4 h d) (s + 1)) else 0))
    * vR x0 x1 x2 h e s) 16384, coe_sum]
  have e : ∀ s : Fin 16384, (((∑ d, qR x0 x1 x2 h d T.val * kR x0 x1 x2 h d s.val * (if s.val ≤ T.val then
          Real.exp (GlaMath.pre (lR x0 x1 x2 x3 x4 h d) (T.val + 1) - GlaMath.pre (lR x0 x1 x2 x3 x4 h d) (s.val + 1)) else 0))
        * vR x0 x1 x2 h e s.val : ℝ) : EReal)
      = (Read.val_main_v22 (F := Ideal) x0 x1 x2 (ix3 s h e) : EReal) * Read.val_main_v54 (F := Ideal) x0 x1 x2 x3 x4 (ix3 T s h) := fun s => by
    rw [v22_apply x0 H, v54_apply x0 H, EReal.coe_mul, mul_comm]
  simp only [e]
  unfold Read.val_main_v56 Read.val_main_v55
  generalize Read.val_main_v22 (F := Ideal) x0 x1 x2 = v
  generalize Read.val_main_v54 (F := Ideal) x0 x1 x2 x3 x4 = s
  pointwise

/-- The normalized output of one head's lane. -/
def nR (x1 : FVec Ideal S1024 .f32) (x2 : FVec Ideal S1024x8220 .f32) (x3 : FVec Ideal S16x256 .f32) (x4 : FVec Ideal S256 .f32)
    (x5 : FVec Ideal S64 .f32) (h : Fin 4) (e : Fin 64) (T : ℕ) : EReal :=
  (oR x0 x1 x2 x3 x4 h e T : EReal) * Ideal.rsqrt ((∑ d, (oR x0 x1 x2 x3 x4 h d T : EReal) * (oR x0 x1 x2 x3 x4 h d T : EReal))
    * Ideal.ofBits .f32 0x3C800000#32 + Ideal.ofBits .f32 0x358637BD#32) * x5 (ix1 e)

/-- An element times the logistic function of itself. -/
def silu (g : EReal) : EReal := g * Ideal.div 1 (1 + Ideal.exp (-g))

theorem v69_apply (H : Fin5 x1 x2 x3 x4) (T : Fin 16384) (h : Fin 4) (e : Fin 64) :
    (Read.val_main_v69 (F := Ideal) x0 x1 x2 x3 x4 x5 (ix3 T h e) : EReal) = nR x0 x1 x2 x3 x4 x5 h e T.val := by
  unfold nR
  simp only [← v56_apply x0 H, ← div_64]
  unfold Read.val_main_v69 Read.val_main_v68 Read.val_main_v67 Read.val_main_v66 Read.val_main_v65 Read.val_main_v64 Read.val_main_v63
    Read.val_main_v62 Read.val_main_v61 Read.val_main_v60 Read.val_main_v59 Read.val_main_v58 Read.val_main_v57 Read.val_main_cst_6
    Read.val_main_cst_7 Read.val_main_cst_8
  generalize Read.val_main_v56 (F := Ideal) x0 x1 x2 x3 x4 = y
  pointwise

theorem v24_apply (T : Fin 16384) (c : Fin 256) :
    (Read.val_main_v24 (F := Ideal) x0 x1 x2 (ix2 T c) : EReal) = Read.val_main_v14 (F := Ideal) x0 x1 x2 (ix2 T ⟨784 + c.val, by omega⟩) := by
  unfold Read.val_main_v24
  generalize Read.val_main_v14 (F := Ideal) x0 x1 x2 = u
  pointwise

/-- The call's result at an index. -/
theorem ref_apply (H : Fin5 x1 x2 x3 x4) (T : Fin 16384) (h : Fin 4) (e : Fin 64) :
    (Read.val_main_v73 (F := Ideal) x0 x1 x2 x3 x4 x5 (ix2 T ⟨h.val * 64 + e.val, by omega⟩) : EReal)
      = nR x0 x1 x2 x3 x4 x5 h e T.val * silu (prj x0 x1 x2 T (784 + (h.val * 64 + e.val)) (by omega)) := by
  unfold silu
  rw [← v69_apply x0 x5 H, ← v14_apply,
    ← v24_apply x0 T ⟨h.val * 64 + e.val, by omega⟩]
  unfold Read.val_main_v73 Read.val_main_v72 Read.val_main_v71 Read.val_main_v70 Read.val_main_call3_v5 Read.val_main_call3_v4
    Read.val_main_call3_v3 Read.val_main_call3_v2 Read.val_main_call3_v1 Read.val_main_call3_v0 Read.val_main_call3_cst Read.val_main_call3_cst_0
  generalize Read.val_main_v69 (F := Ideal) x0 x1 x2 x3 x4 x5 = y
  generalize Read.val_main_v24 (F := Ideal) x0 x1 x2 = u
  pointwise

end Cert.Proof.Gla

end
-- ==== Proof.GlaRunA.lean ====
/-
  The gated linear attention, in the case of the first point: every state that the run loads, every output that it stores and every state that it leaves are
  values of the recursion over chunks. One lemma per state, each from the state of the same head one chunk before.
-/
module

public import proofs.«01_k».proof.Proof.GlaModel

@[expose] public section

noncomputable section

namespace Cert.Proof.Gla.RunA

open Idealize.ShloMosaic Idealize.ShloMosaic.TcCoe Idealize.SL.Sem
open Cert.Kernel5Ideal Cert.Kernel5Ideal.Gen Cert.Kernel5Ideal.Gen.kernelRun0_A.sl

variable {F : FTy → Type} [FloatOps F]

variable (c : Dev nD) (arg1 : Memref sig .tc .vmem S512x1024 .f32) (harg1 : arg1.IsWhole) (arg2 : Memref sig .tc .vmem S1x1024 .f32) (harg2 : arg2.IsWhole) (arg3 : Memref sig .tc .vmem S1024x1152 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S1x256 .f32) (harg6 : arg6.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S512x256 .f32) (harg13 : arg13.IsWhole) (arg14 : Memref sig .tc .vmem S4x64x64 .f32) (harg14 : arg14.IsWhole)
variable (x0 : Vec F S512x1024 .f32) (x1 : Vec F S1x1024 .f32) (x2 : Vec F S1024x1152 .bf16) (x3 : Vec F S128x256 .bf16) (x4 : Vec F S1x256 .f32) (x5 : Vec F S1x256 .f32)

/-- The decayed queries that the run stores. -/
theorem hs0 : (HS0_1 c arg1 harg1 arg2 harg2 arg3 harg3 arg4 harg4 arg5 harg5 x0 x1 x2 x3 x4) = [⟨Rect.unit ![0, 0] S512x256.size inb_S512x256_S512x256_0_0, QD (k0_pay3 x0 x1 x2) (k0_pay5 (k0_pay4 x0 x1 x2 x3 x4))⟩] := by
  simp only [HS0_1, r_5, r_7, r_2, v41, v42, r, r_1, View.readAt_eq_ld, harg1.read_unread, harg2.read_unread, harg3.read_unread, harg4.read_unread, harg5.read_unread]
  simp (disch := decide) only [View.ld_unit_lit']
  rfl

/-- The inversely decayed keys that the run stores. -/
theorem hs1 : (HS1_1 c arg1 harg1 arg2 harg2 arg3 harg3 arg4 harg4 arg5 harg5 x0 x1 x2 x3 x4) = [⟨Rect.unit ![0, 0] S512x256.size inb_S512x256_S512x256_0_0, KI (k0_pay3 x0 x1 x2) (k0_pay5 (k0_pay4 x0 x1 x2 x3 x4))⟩] := by
  simp only [HS1_1, r_3, r_6, r_2, v41, v42, r, r_1, View.readAt_eq_ld, harg1.read_unread, harg2.read_unread, harg3.read_unread, harg4.read_unread, harg5.read_unread]
  simp (disch := decide) only [View.ld_unit_lit']
  rfl

/-- The keys decayed to the end of the chunk that the run stores. -/
theorem hs2 : (HS2_1 c arg1 harg1 arg2 harg2 arg3 harg3 arg4 harg4 arg5 harg5 x0 x1 x2 x3 x4) = [⟨Rect.unit ![0, 0] S512x256.size inb_S512x256_S512x256_0_0, KE (k0_pay3 x0 x1 x2) (k0_pay5 (k0_pay4 x0 x1 x2 x3 x4))⟩] := by
  simp only [HS2_1, r_4, r_6, r_2, v41, v42, r, r_1, View.readAt_eq_ld, harg1.read_unread, harg2.read_unread, harg3.read_unread, harg4.read_unread, harg5.read_unread]
  simp (disch := decide) only [View.ld_unit_lit']
  rfl

/-- The values that the run stores. -/
theorem hs3 : (HS3_1 c arg1 harg1 arg2 harg2 arg3 harg3 x0 x1 x2) = [⟨Rect.unit ![0, 0] S512x256.size inb_S512x256_S512x256_0_0, VV (k0_pay3 x0 x1 x2)⟩] := by
  simp only [HS3_1, r, View.readAt_eq_ld, harg1.read_unread, harg2.read_unread, harg3.read_unread]
  simp (disch := decide) only [View.ld_unit_lit']
  rfl

/-- The decays that the run stores. -/
theorem hs4 : (HS4_1 c arg1 harg1 arg2 harg2 arg3 harg3 arg4 harg4 arg5 harg5 x0 x1 x2 x3 x4) = [⟨Rect.unit ![0, 0] S512x256.size inb_S512x256_S512x256_0_0, DEC (k0_pay5 (k0_pay4 x0 x1 x2 x3 x4))⟩] := by
  simp only [HS4_1, r_5, r_2, v41, v42, r_1, View.readAt_eq_ld, harg1.read_unread, harg2.read_unread, harg3.read_unread, harg4.read_unread, harg5.read_unread]
  simp (disch := decide) only [View.ld_unit_lit']
  rfl

/-- Head 0's state in chunk 0. -/
theorem st0_0 : (v176 c arg14) = ini (k0_pay2 (F := F)) 0 := by
  simp only [v176, HS6_1]
  rw [View.readCov_fill _ _ _ _ _ (by decide)]
  exact ld_ini _ _ _

/-- Head 1's state in chunk 0. -/
theorem st0_1 : (v212 c arg1 harg1 arg2 harg2 arg3 harg3 arg4 harg4 arg5 harg5 arg10 arg11 arg12 arg14 x0 x1 x2 x3 x4) = ini (k0_pay2 (F := F)) 1 := by
  simp only [v212, HS6_2, HS6_1]
  rw [View.readCov_skip _ _ _ _ _ (by decide)]
  rw [View.readCov_fill _ _ _ _ _ (by decide)]
  exact ld_ini _ _ _

/-- Head 2's state in chunk 0. -/
theorem st0_2 : (v248 c arg1 harg1 arg2 harg2 arg3 harg3 arg4 harg4 arg5 harg5 arg10 arg11 arg12 arg14 x0 x1 x2 x3 x4) = ini (k0_pay2 (F := F)) 2 := by
  simp only [v248, HS6_3, HS6_2, HS6_1]
  iterate 2 rw [View.readCov_skip _ _ _ _ _ (by decide)]
  rw [View.readCov_fill _ _ _ _ _ (by decide)]
  exact ld_ini _ _ _

/-- Head 3's state in chunk 0. -/
theorem st0_3 : (v284 c arg1 harg1 arg2 harg2 arg3 harg3 arg4 harg4 arg5 harg5 arg10 arg11 arg12 arg14 x0 x1 x2 x3 x4) = ini (k0_pay2 (F := F)) 3 := by
  simp only [v284, HS6_4, HS6_3, HS6_2, HS6_1]
  iterate 3 rw [View.readCov_skip _ _ _ _ _ (by decide)]
  rw [View.readCov_fill _ _ _ _ _ (by decide)]
  exact ld_ini _ _ _

/-- Head 0's state in chunk 1. -/
theorem st1_0 : (v325 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 1 0 := by
  simp only [v325, HS6_5, HS6_4, HS6_3, HS6_2]
  iterate 3 rw [View.readCov_skip _ _ _ _ _ (by decide)]
  rw [View.readCov_cons_toLoadRect]
  refine Eq.trans ?_ (St_succ ..).symm
  simp only [v171, v174, v191, hs2, hs3, hs4, st0_0]
  simp (disch := decide) only [View.readCov_fill, ld_ini']
  exact stp_ld _ _ 0 0 0 0 56 rfl rfl rfl (by decide) (by decide) _

/-- Head 1's state in chunk 1. -/
theorem st1_1 : (v361 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 1 1 := by
  simp only [v361, HS6_6, HS6_5, HS6_4, HS6_3]
  iterate 3 rw [View.readCov_skip _ _ _ _ _ (by decide)]
  rw [View.readCov_cons_toLoadRect]
  refine Eq.trans ?_ (St_succ ..).symm
  simp only [r_12, v210, v227, v207, hs3, hs4, hs2, st0_1]
  simp (disch := decide) only [View.readCov_fill, ld_ini']
  exact stp_ld _ _ 0 1 0 64 56 rfl rfl rfl (by decide) (by decide) _

/-- Head 2's state in chunk 1. -/
theorem st1_2 : (v397 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 1 2 := by
  simp only [v397, HS6_7, HS6_6, HS6_5, HS6_4]
  iterate 3 rw [View.readCov_skip _ _ _ _ _ (by decide)]
  rw [View.readCov_cons_toLoadRect]
  refine Eq.trans ?_ (St_succ ..).symm
  simp only [r_15, r_16, v263, v243, v246, hs4, hs2, hs3, st0_2]
  simp (disch := decide) only [View.readCov_fill, ld_ini']
  exact stp_ld _ _ 0 2 0 128 56 rfl rfl rfl (by decide) (by decide) _

/-- Head 3's state in chunk 1. -/
theorem st1_3 : (v433 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 1 3 := by
  simp only [v433, HS6_8, HS6_7, HS6_6, HS6_5]
  iterate 3 rw [View.readCov_skip _ _ _ _ _ (by decide)]
  rw [View.readCov_cons_toLoadRect]
  refine Eq.trans ?_ (St_succ ..).symm
  simp only [r_18, r_19, r_20, v299, v279, v282, hs4, hs2, hs3, st0_3]
  simp (disch := decide) only [View.readCov_fill, ld_ini']
  exact stp_ld _ _ 0 3 0 192 56 rfl rfl rfl (by decide) (by decide) _

/-- Head 0's state in chunk 2. -/
theorem st2_0 : (v474 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 2 0 := by
  simp only [v474, HS6_9, HS6_8, HS6_7, HS6_6]
  iterate 3 rw [View.readCov_skip _ _ _ _ _ (by decide)]
  rw [View.readCov_cons_toLoadRect]
  refine Eq.trans ?_ (St_succ ..).symm
  simp only [r_24, r_25, v340, v320, v323, hs4, hs2, hs3, st1_0]
  simp (disch := decide) only [View.readCov_fill, ld_ini']
  exact stp_ld _ _ 1 0 64 0 120 rfl rfl rfl (by decide) (by decide) _

/-- Head 1's state in chunk 2. -/
theorem st2_1 : (v510 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 2 1 := by
  simp only [v510, HS6_10, HS6_9, HS6_8, HS6_7]
  iterate 3 rw [View.readCov_skip _ _ _ _ _ (by decide)]
  rw [View.readCov_cons_toLoadRect]
  refine Eq.trans ?_ (St_succ ..).symm
  simp only [r_27, r_28, r_29, v376, v356, v359, hs4, hs2, hs3, st1_1]
  simp (disch := decide) only [View.readCov_fill, ld_ini']
  exact stp_ld _ _ 1 1 64 64 120 rfl rfl rfl (by decide) (by decide) _

/-- Head 2's state in chunk 2. -/
theorem st2_2 : (v546 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 2 2 := by
  simp only [v546, HS6_11, HS6_10, HS6_9, HS6_8]
  iterate 3 rw [View.readCov_skip _ _ _ _ _ (by decide)]
  rw [View.readCov_cons_toLoadRect]
  refine Eq.trans ?_ (St_succ ..).symm
  simp only [r_32, r_33, r_34, v412, v392, v395, hs4, hs2, hs3, st1_2]
  simp (disch := decide) only [View.readCov_fill, ld_ini']
  exact stp_ld _ _ 1 2 64 128 120 rfl rfl rfl (by decide) (by decide) _

/-- Head 3's state in chunk 2. -/
theorem st2_3 : (v582 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 2 3 := by
  simp only [v582, HS6_12, HS6_11, HS6_10, HS6_9]
  iterate 3 rw [View.readCov_skip _ _ _ _ _ (by decide)]
  rw [View.readCov_cons_toLoadRect]
  refine Eq.trans ?_ (St_succ ..).symm
  simp only [r_37, r_38, r_39, v448, v428, v431, hs4, hs2, hs3, st1_3]
  simp (disch := decide) only [View.readCov_fill, ld_ini']
  exact stp_ld _ _ 1 3 64 192 120 rfl rfl rfl (by decide) (by decide) _

/-- Head 0's state in chunk 3. -/
theorem st3_0 : (v623 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 3 0 := by
  simp only [v623, HS6_13, HS6_12, HS6_11, HS6_10]
  iterate 3 rw [View.readCov_skip _ _ _ _ _ (by decide)]
  rw [View.readCov_cons_toLoadRect]
  refine Eq.trans ?_ (St_succ ..).symm
  simp only [r_42, r_43, r_44, v489, v469, v472, hs4, hs2, hs3, st2_0]
  simp (disch := decide) only [View.readCov_fill, ld_ini']
  exact stp_ld _ _ 2 0 128 0 184 rfl rfl rfl (by decide) (by decide) _

/-- Head 1's state in chunk 3. -/
theorem st3_1 : (v659 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 3 1 := by
  simp only [v659, HS6_14, HS6_13, HS6_12, HS6_11]
  iterate 3 rw [View.readCov_skip _ _ _ _ _ (by decide)]
  rw [View.readCov_cons_toLoadRect]
  refine Eq.trans ?_ (St_succ ..).symm
  simp only [r_47, r_48, r_49, v525, v505, v508, hs4, hs2, hs3, st2_1]
  simp (disch := decide) only [View.readCov_fill, ld_ini']
  exact stp_ld _ _ 2 1 128 64 184 rfl rfl rfl (by decide) (by decide) _

/-- Head 2's state in chunk 3. -/
theorem st3_2 : (v695 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 3 2 := by
  simp only [v695, HS6_15, HS6_14, HS6_13, HS6_12]
  iterate 3 rw [View.readCov_skip _ _ _ _ _ (by decide)]
  rw [View.readCov_cons_toLoadRect]
  refine Eq.trans ?_ (St_succ ..).symm
  simp only [r_51, r_52, r_53, v561, v541, v544, hs4, hs2, hs3, st2_2]
  simp (disch := decide) only [View.readCov_fill, ld_ini']
  exact stp_ld _ _ 2 2 128 128 184 rfl rfl rfl (by decide) (by decide) _

/-- Head 3's state in chunk 3. -/
theorem st3_3 : (v731 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 3 3 := by
  simp only [v731, HS6_16, HS6_15, HS6_14, HS6_13]
  iterate 3 rw [View.readCov_skip _ _ _ _ _ (by decide)]
  rw [View.readCov_cons_toLoadRect]
  refine Eq.trans ?_ (St_succ ..).symm
  simp only [r_54, r_55, r_56, cst_201, v577, v580, v597, hs2, hs3, hs4, st2_3]
  simp (disch := decide) only [View.readCov_fill, ld_ini']
  exact stp_ld _ _ 2 3 128 192 184 rfl rfl rfl (by decide) (by decide) _

/-- Head 0's state in chunk 4. -/
theorem st4_0 : (v772 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 4 0 := by
  simp only [v772, HS6_17, HS6_16, HS6_15, HS6_14]
  iterate 3 rw [View.readCov_skip _ _ _ _ _ (by decide)]
  rw [View.readCov_cons_toLoadRect]
  refine Eq.trans ?_ (St_succ ..).symm
  simp only [r_57, r_58, r_59, v638, v618, v621, hs4, hs2, hs3, st3_0]
  simp (disch := decide) only [View.readCov_fill, ld_ini']
  exact stp_ld _ _ 3 0 192 0 248 rfl rfl rfl (by decide) (by decide) _

/-- Head 1's state in chunk 4. -/
theorem st4_1 : (v808 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 4 1 := by
  simp only [v808, HS6_18, HS6_17, HS6_16, HS6_15]
  iterate 3 rw [View.readCov_skip _ _ _ _ _ (by decide)]
  rw [View.readCov_cons_toLoadRect]
  refine Eq.trans ?_ (St_succ ..).symm
  simp only [r_60, r_61, v674, v654, v657, hs4, hs2, hs3, st3_1]
  simp (disch := decide) only [View.readCov_fill, ld_ini']
  exact stp_ld _ _ 3 1 192 64 248 rfl rfl rfl (by decide) (by decide) _

/-- Head 2's state in chunk 4. -/
theorem st4_2 : (v844 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 4 2 := by
  simp only [v844, HS6_19, HS6_18, HS6_17, HS6_16]
  iterate 3 rw [View.readCov_skip _ _ _ _ _ (by decide)]
  rw [View.readCov_cons_toLoadRect]
  refine Eq.trans ?_ (St_succ ..).symm
  simp only [r_62, v690, v693, v710, hs2, hs3, hs4, st3_2]
  simp (disch := decide) only [View.readCov_fill, ld_ini']
  exact stp_ld _ _ 3 2 192 128 248 rfl rfl rfl (by decide) (by decide) _

/-- Head 3's state in chunk 4. -/
theorem st4_3 : (v880 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 4 3 := by
  simp only [v880, HS6_20, HS6_19, HS6_18, HS6_17]
  iterate 3 rw [View.readCov_skip _ _ _ _ _ (by decide)]
  rw [View.readCov_cons_toLoadRect]
  refine Eq.trans ?_ (St_succ ..).symm
  simp only [v726, v729, v746, hs2, hs3, hs4, st3_3]
  simp (disch := decide) only [View.readCov_fill, ld_ini']
  exact stp_ld _ _ 3 3 192 192 248 rfl rfl rfl (by decide) (by decide) _

/-- Head 0's state in chunk 5. -/
theorem st5_0 : (v921 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 5 0 := by
  simp only [v921, HS6_21, HS6_20, HS6_19, HS6_18]
  iterate 3 rw [View.readCov_skip _ _ _ _ _ (by decide)]
  rw [View.readCov_cons_toLoadRect]
  refine Eq.trans ?_ (St_succ ..).symm
  simp only [r_63, v767, v770, v787, hs2, hs3, hs4, st4_0]
  simp (disch := decide) only [View.readCov_fill, ld_ini']
  exact stp_ld _ _ 4 0 256 0 312 rfl rfl rfl (by decide) (by decide) _

/-- Head 1's state in chunk 5. -/
theorem st5_1 : (v957 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 5 1 := by
  simp only [v957, HS6_22, HS6_21, HS6_20, HS6_19]
  iterate 3 rw [View.readCov_skip _ _ _ _ _ (by decide)]
  rw [View.readCov_cons_toLoadRect]
  refine Eq.trans ?_ (St_succ ..).symm
  simp only [v803, v806, v823, hs2, hs3, hs4, st4_1]
  simp (disch := decide) only [View.readCov_fill, ld_ini']
  exact stp_ld _ _ 4 1 256 64 312 rfl rfl rfl (by decide) (by decide) _

/-- Head 2's state in chunk 5. -/
theorem st5_2 : (v993 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 5 2 := by
  simp only [v993, HS6_23, HS6_22, HS6_21, HS6_20]
  iterate 3 rw [View.readCov_skip _ _ _ _ _ (by decide)]
  rw [View.readCov_cons_toLoadRect]
  refine Eq.trans ?_ (St_succ ..).symm
  simp only [v839, v842, v859, hs2, hs3, hs4, st4_2]
  simp (disch := decide) only [View.readCov_fill, ld_ini']
  exact stp_ld _ _ 4 2 256 128 312 rfl rfl rfl (by decide) (by decide) _

/-- Head 3's state in chunk 5. -/
theorem st5_3 : (v1029 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 5 3 := by
  simp only [v1029, HS6_24, HS6_23, HS6_22, HS6_21]
  iterate 3 rw [View.readCov_skip _ _ _ _ _ (by decide)]
  rw [View.readCov_cons_toLoadRect]
  refine Eq.trans ?_ (St_succ ..).symm
  simp only [v875, v878, v895, hs2, hs3, hs4, st4_3]
  simp (disch := decide) only [View.readCov_fill, ld_ini']
  exact stp_ld _ _ 4 3 256 192 312 rfl rfl rfl (by decide) (by decide) _

/-- Head 0's state in chunk 6. -/
theorem st6_0 : (v1070 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 6 0 := by
  simp only [v1070, HS6_25, HS6_24, HS6_23, HS6_22]
  iterate 3 rw [View.readCov_skip _ _ _ _ _ (by decide)]
  rw [View.readCov_cons_toLoadRect]
  refine Eq.trans ?_ (St_succ ..).symm
  simp only [v916, v919, v936, hs2, hs3, hs4, st5_0]
  simp (disch := decide) only [View.readCov_fill, ld_ini']
  exact stp_ld _ _ 5 0 320 0 376 rfl rfl rfl (by decide) (by decide) _

/-- Head 1's state in chunk 6. -/
theorem st6_1 : (v1106 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 6 1 := by
  simp only [v1106, HS6_26, HS6_25, HS6_24, HS6_23]
  iterate 3 rw [View.readCov_skip _ _ _ _ _ (by decide)]
  rw [View.readCov_cons_toLoadRect]
  refine Eq.trans ?_ (St_succ ..).symm
  simp only [v952, v955, v972, hs2, hs3, hs4, st5_1]
  simp (disch := decide) only [View.readCov_fill, ld_ini']
  exact stp_ld _ _ 5 1 320 64 376 rfl rfl rfl (by decide) (by decide) _

/-- Head 2's state in chunk 6. -/
theorem st6_2 : (v1142 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 6 2 := by
  simp only [v1142, HS6_27, HS6_26, HS6_25, HS6_24]
  iterate 3 rw [View.readCov_skip _ _ _ _ _ (by decide)]
  rw [View.readCov_cons_toLoadRect]
  refine Eq.trans ?_ (St_succ ..).symm
  simp only [r_71, v991, v1008, v988, hs3, hs4, hs2, st5_2]
  simp (disch := decide) only [View.readCov_fill, ld_ini']
  exact stp_ld _ _ 5 2 320 128 376 rfl rfl rfl (by decide) (by decide) _

/-- Head 3's state in chunk 6. -/
theorem st6_3 : (v1178 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 6 3 := by
  simp only [v1178, HS6_28, HS6_27, HS6_26, HS6_25]
  iterate 3 rw [View.readCov_skip _ _ _ _ _ (by decide)]
  rw [View.readCov_cons_toLoadRect]
  refine Eq.trans ?_ (St_succ ..).symm
  simp only [r_74, r_75, v1044, v1024, v1027, hs4, hs2, hs3, st5_3]
  simp (disch := decide) only [View.readCov_fill, ld_ini']
  exact stp_ld _ _ 5 3 320 192 376 rfl rfl rfl (by decide) (by decide) _

/-- Head 0's state in chunk 7. -/
theorem st7_0 : (v1219 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 7 0 := by
  simp only [v1219, HS6_29, HS6_28, HS6_27, HS6_26]
  iterate 3 rw [View.readCov_skip _ _ _ _ _ (by decide)]
  rw [View.readCov_cons_toLoadRect]
  refine Eq.trans ?_ (St_succ ..).symm
  simp only [r_78, v1068, v1085, v1065, hs3, hs4, hs2, st6_0]
  simp (disch := decide) only [View.readCov_fill, ld_ini']
  exact stp_ld _ _ 6 0 384 0 440 rfl rfl rfl (by decide) (by decide) _

/-- Head 1's state in chunk 7. -/
theorem st7_1 : (v1255 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 7 1 := by
  simp only [v1255, HS6_30, HS6_29, HS6_28, HS6_27]
  iterate 3 rw [View.readCov_skip _ _ _ _ _ (by decide)]
  rw [View.readCov_cons_toLoadRect]
  refine Eq.trans ?_ (St_succ ..).symm
  simp only [r_81, r_82, v1121, v1101, v1104, hs4, hs2, hs3, st6_1]
  simp (disch := decide) only [View.readCov_fill, ld_ini']
  exact stp_ld _ _ 6 1 384 64 440 rfl rfl rfl (by decide) (by decide) _

/-- Head 2's state in chunk 7. -/
theorem st7_2 : (v1291 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 7 2 := by
  simp only [v1291, HS6_31, HS6_30, HS6_29, HS6_28]
  iterate 3 rw [View.readCov_skip _ _ _ _ _ (by decide)]
  rw [View.readCov_cons_toLoadRect]
  refine Eq.trans ?_ (St_succ ..).symm
  simp only [r_84, r_85, r_86, v1157, v1137, v1140, hs4, hs2, hs3, st6_2]
  simp (disch := decide) only [View.readCov_fill, ld_ini']
  exact stp_ld _ _ 6 2 384 128 440 rfl rfl rfl (by decide) (by decide) _

/-- Head 3's state in chunk 7. -/
theorem st7_3 : (v1327 c arg1 harg1 arg2 harg2 arg3 harg3 arg4 harg4 arg5 harg5 arg10 arg11 arg12 arg14 x0 x1 x2 x3 x4) = St (k0_pay3 x0 x1 x2) (k0_pay5 (k0_pay4 x0 x1 x2 x3 x4)) (k0_pay2 (F := F)) 7 3 := by
  simp only [v1327, HS6_32, HS6_31, HS6_30, HS6_29]
  iterate 3 rw [View.readCov_skip _ _ _ _ _ (by decide)]
  rw [View.readCov_cons_toLoadRect]
  refine Eq.trans ?_ (St_succ ..).symm
  simp only [r_89, r_90, r_91, v1193, v1173, v1176, hs4, hs2, hs3, st6_3]
  simp (disch := decide) only [View.readCov_fill, ld_ini']
  exact stp_ld _ _ 6 3 384 192 440 rfl rfl rfl (by decide) (by decide) _

/-- The output of head 3 in chunk 7. -/
theorem o7_3 : k0_pay221 k0_pay21 (v1316 c arg1 harg1 arg2 harg2 arg3 harg3 arg4 harg4 arg5 harg5 arg8 x0 x1 x2 x3 x4) (v1319 c arg1 harg1 arg2 harg2 arg3 harg3 arg4 harg4 arg5 harg5 arg9 x0 x1 x2 x3 x4) (v1325 c arg1 harg1 arg2 harg2 arg3 harg3 arg11 x0 x1 x2) (v1327 c arg1 harg1 arg2 harg2 arg3 harg3 arg4 harg4 arg5 harg5 arg10 arg11 arg12 arg14 x0 x1 x2 x3 x4) = uo (k0_pay3 x0 x1 x2) (k0_pay5 (k0_pay4 x0 x1 x2 x3 x4)) 7 3 (St (k0_pay3 x0 x1 x2) (k0_pay5 (k0_pay4 x0 x1 x2 x3 x4)) (k0_pay2 (F := F)) 7 3) := by
  simp only [v1316, v1319, v1325, hs0, hs1, hs3, st7_3]
  simp (disch := decide) only [View.readCov_fill, ld_ini']
  exact uo_ld (k0_pay3 x0 x1 x2) (k0_pay5 (k0_pay4 x0 x1 x2 x3 x4)) 7 3 448 192 rfl rfl (by decide) _

/-- The output of head 2 in chunk 7. -/
theorem o7_2 : k0_pay216 (r_108 c arg1 harg1 arg2 harg2 arg3 harg3 arg4 harg4 arg5 harg5 arg8 arg9 arg10 arg11 arg12 arg14 x0 x1 x2 x3 x4) = uo (k0_pay3 x0 x1 x2) (k0_pay5 (k0_pay4 x0 x1 x2 x3 x4)) 7 2 (St (k0_pay3 x0 x1 x2) (k0_pay5 (k0_pay4 x0 x1 x2 x3 x4)) (k0_pay2 (F := F)) 7 2) := by
  simp only [r_108, v1280, v1283, v1289, hs0, hs1, hs3, st7_2]
  simp (disch := decide) only [View.readCov_fill, ld_ini']
  exact uo_ld (k0_pay3 x0 x1 x2) (k0_pay5 (k0_pay4 x0 x1 x2 x3 x4)) 7 2 448 128 rfl rfl (by decide) _

/-- The output of head 1 in chunk 7. -/
theorem o7_1 : k0_pay210 (r_99 c arg1 harg1 arg2 harg2 arg3 harg3 arg4 harg4 arg5 harg5 arg8 x0 x1 x2 x3 x4) (r_103 c arg1 harg1 arg2 harg2 arg3 harg3 arg4 harg4 arg5 harg5 arg8 arg9 arg11 x0 x1 x2 x3 x4) (r_104 c arg1 harg1 arg2 harg2 arg3 harg3 arg4 harg4 arg5 harg5 arg10 arg11 arg12 arg14 x0 x1 x2 x3 x4) cst_201 = uo (k0_pay3 x0 x1 x2) (k0_pay5 (k0_pay4 x0 x1 x2 x3 x4)) 7 1 (St (k0_pay3 x0 x1 x2) (k0_pay5 (k0_pay4 x0 x1 x2 x3 x4)) (k0_pay2 (F := F)) 7 1) := by
  simp only [r_99, r_103, r_104, cst_201, v1244, v1247, v1253, hs0, hs1, hs3, st7_1]
  simp (disch := decide) only [View.readCov_fill, ld_ini']
  exact uo_ld (k0_pay3 x0 x1 x2) (k0_pay5 (k0_pay4 x0 x1 x2 x3 x4)) 7 1 448 64 rfl rfl (by decide) _

/-- The output of head 0 in chunk 7. -/
theorem o7_0 : k0_pay202 (r_94 c arg1 harg1 arg2 harg2 arg3 harg3 arg4 harg4 arg5 harg5 arg8 x0 x1 x2 x3 x4) (r_96 c arg1 harg1 arg2 harg2 arg3 harg3 arg11 x0 x1 x2) (r_97 c arg1 harg1 arg2 harg2 arg3 harg3 arg4 harg4 arg5 harg5 arg10 arg11 arg12 arg14 x0 x1 x2 x3 x4) (r_98 c arg1 harg1 arg2 harg2 arg3 harg3 arg4 harg4 arg5 harg5 arg8 arg9 x0 x1 x2 x3 x4) = uo (k0_pay3 x0 x1 x2) (k0_pay5 (k0_pay4 x0 x1 x2 x3 x4)) 7 0 (St (k0_pay3 x0 x1 x2) (k0_pay5 (k0_pay4 x0 x1 x2 x3 x4)) (k0_pay2 (F := F)) 7 0) := by
  simp only [r_94, r_96, r_97, r_98, v1208, v1217, v1211, hs0, hs3, hs1, st7_0]
  simp (disch := decide) only [View.readCov_fill, ld_ini']
  exact uo_ld (k0_pay3 x0 x1 x2) (k0_pay5 (k0_pay4 x0 x1 x2 x3 x4)) 7 0 448 0 rfl rfl (by decide) _

/-- The output of head 3 in chunk 6. -/
theorem o6_3 : k0_pay195 (r_88 c arg1 harg1 arg2 harg2 arg3 harg3 arg4 harg4 arg5 harg5 arg8 x0 x1 x2 x3 x4) (r_92 c arg1 harg1 arg2 harg2 arg3 harg3 arg4 harg4 arg5 harg5 arg8 arg9 arg11 x0 x1 x2 x3 x4) (r_93 c arg1 harg1 arg2 harg2 arg3 harg3 arg4 harg4 arg5 harg5 arg10 arg11 arg12 arg14 x0 x1 x2 x3 x4) = uo (k0_pay3 x0 x1 x2) (k0_pay5 (k0_pay4 x0 x1 x2 x3 x4)) 6 3 (St (k0_pay3 x0 x1 x2) (k0_pay5 (k0_pay4 x0 x1 x2 x3 x4)) (k0_pay2 (F := F)) 6 3) := by
  simp only [r_88, r_92, r_93, v1167, v1170, v1176, hs0, hs1, hs3, st6_3]
  simp (disch := decide) only [View.readCov_fill, ld_ini']
  exact uo_ld (k0_pay3 x0 x1 x2) (k0_pay5 (k0_pay4 x0 x1 x2 x3 x4)) 6 3 384 192 rfl rfl (by decide) _

/-- The output of head 2 in chunk 6. -/
theorem o6_2 : k0_pay187 k0_pay21 (r_83 c arg1 harg1 arg2 harg2 arg3 harg3 arg4 harg4 arg5 harg5 arg8 x0 x1 x2 x3 x4) (r_85 c arg1 harg1 arg2 harg2 arg3 harg3 arg11 x0 x1 x2) (r_86 c arg1 harg1 arg2 harg2 arg3 harg3 arg4 harg4 arg5 harg5 arg10 arg11 arg12 arg14 x0 x1 x2 x3 x4) (r_87 c arg1 harg1 arg2 harg2 arg3 harg3 arg4 harg4 arg5 harg5 arg8 arg9 x0 x1 x2 x3 x4) k0_pay186 = uo (k0_pay3 x0 x1 x2) (k0_pay5 (k0_pay4 x0 x1 x2 x3 x4)) 6 2 (St (k0_pay3 x0 x1 x2) (k0_pay5 (k0_pay4 x0 x1 x2 x3 x4)) (k0_pay2 (F := F)) 6 2) := by
  simp only [r_83, r_85, r_86, r_87, v1131, v1140, v1134, hs0, hs3, hs1, st6_2]
  simp (disch := decide) only [View.readCov_fill, ld_ini']
  exact uo_ld (k0_pay3 x0 x1 x2) (k0_pay5 (k0_pay4 x0 x1 x2 x3 x4)) 6 2 384 128 rfl rfl (by decide) _

/-- The output of head 1 in chunk 6. -/
theorem o6_1 : k0_pay179 k0_pay21 (r_79 c arg1 harg1 arg2 harg2 arg3 harg3 arg4 harg4 arg5 harg5 arg8 x0 x1 x2 x3 x4) (r_80 c arg1 harg1 arg2 harg2 arg3 harg3 arg4 harg4 arg5 harg5 arg9 x0 x1 x2 x3 x4) (r_82 c arg1 harg1 arg2 harg2 arg3 harg3 arg11 x0 x1 x2) (v1106 c arg1 harg1 arg2 harg2 arg3 harg3 arg4 harg4 arg5 harg5 arg10 arg11 arg12 arg14 x0 x1 x2 x3 x4) = uo (k0_pay3 x0 x1 x2) (k0_pay5 (k0_pay4 x0 x1 x2 x3 x4)) 6 1 (St (k0_pay3 x0 x1 x2) (k0_pay5 (k0_pay4 x0 x1 x2 x3 x4)) (k0_pay2 (F := F)) 6 1) := by
  simp only [r_79, r_80, r_82, v1095, v1098, v1104, hs0, hs1, hs3, st6_1]
  simp (disch := decide) only [View.readCov_fill, ld_ini']
  exact uo_ld (k0_pay3 x0 x1 x2) (k0_pay5 (k0_pay4 x0 x1 x2 x3 x4)) 6 1 384 64 rfl rfl (by decide) _

/-- The output of head 0 in chunk 6. -/
theorem o6_0 : k0_pay172 k0_pay21 (r_76 c arg1 harg1 arg2 harg2 arg3 harg3 arg4 harg4 arg5 harg5 arg8 x0 x1 x2 x3 x4) (r_77 c arg1 harg1 arg2 harg2 arg3 harg3 arg4 harg4 arg5 harg5 arg9 x0 x1 x2 x3 x4) (v1068 c arg1 harg1 arg2 harg2 arg3 harg3 arg11 x0 x1 x2) (v1070 c arg1 harg1 arg2 harg2 arg3 harg3 arg4 harg4 arg5 harg5 arg10 arg11 arg12 arg14 x0 x1 x2 x3 x4) = uo (k0_pay3 x0 x1 x2) (k0_pay5 (k0_pay4 x0 x1 x2 x3 x4)) 6 0 (St (k0_pay3 x0 x1 x2) (k0_pay5 (k0_pay4 x0 x1 x2 x3 x4)) (k0_pay2 (F := F)) 6 0) := by
  simp only [r_76, r_77, v1068, v1059, v1062, hs3, hs0, hs1, st6_0]
  simp (disch := decide) only [View.readCov_fill, ld_ini']
  exact uo_ld (k0_pay3 x0 x1 x2) (k0_pay5 (k0_pay4 x0 x1 x2 x3 x4)) 6 0 384 0 rfl rfl (by decide) _

/-- The output of head 3 in chunk 5. -/
theorem o5_3 : k0_pay165 k0_pay21 (r_72 c arg1 harg1 arg2 harg2 arg3 harg3 arg4 harg4 arg5 harg5 arg8 x0 x1 x2 x3 x4) (r_73 c arg1 harg1 arg2 harg2 arg3 harg3 arg4 harg4 arg5 harg5 arg9 x0 x1 x2 x3 x4) (r_75 c arg1 harg1 arg2 harg2 arg3 harg3 arg11 x0 x1 x2) (v1029 c arg1 harg1 arg2 harg2 arg3 harg3 arg4 harg4 arg5 harg5 arg10 arg11 arg12 arg14 x0 x1 x2 x3 x4) = uo (k0_pay3 x0 x1 x2) (k0_pay5 (k0_pay4 x0 x1 x2 x3 x4)) 5 3 (St (k0_pay3 x0 x1 x2) (k0_pay5 (k0_pay4 x0 x1 x2 x3 x4)) (k0_pay2 (F := F)) 5 3) := by
  simp only [r_72, r_73, r_75, v1018, v1021, v1027, hs0, hs1, hs3, st5_3]
  simp (disch := decide) only [View.readCov_fill, ld_ini']
  exact uo_ld (k0_pay3 x0 x1 x2) (k0_pay5 (k0_pay4 x0 x1 x2 x3 x4)) 5 3 320 192 rfl rfl (by decide) _

/-- The output of head 2 in chunk 5. -/
theorem o5_2 : k0_pay158 k0_pay21 (r_69 c arg1 harg1 arg2 harg2 arg3 harg3 arg4 harg4 arg5 harg5 arg8 x0 x1 x2 x3 x4) (r_70 c arg1 harg1 arg2 harg2 arg3 harg3 arg4 harg4 arg5 harg5 arg9 x0 x1 x2 x3 x4) (v991 c arg1 harg1 arg2 harg2 arg3 harg3 arg11 x0 x1 x2) (v993 c arg1 harg1 arg2 harg2 arg3 harg3 arg4 harg4 arg5 harg5 arg10 arg11 arg12 arg14 x0 x1 x2 x3 x4) = uo (k0_pay3 x0 x1 x2) (k0_pay5 (k0_pay4 x0 x1 x2 x3 x4)) 5 2 (St (k0_pay3 x0 x1 x2) (k0_pay5 (k0_pay4 x0 x1 x2 x3 x4)) (k0_pay2 (F := F)) 5 2) := by
  simp only [r_69, r_70, v991, v982, v985, hs3, hs0, hs1, st5_2]
  simp (disch := decide) only [View.readCov_fill, ld_ini']
  exact uo_ld (k0_pay3 x0 x1 x2) (k0_pay5 (k0_pay4 x0 x1 x2 x3 x4)) 5 2 320 128 rfl rfl (by decide) _

/-- The output of head 1 in chunk 5. -/
theorem o5_1 : k0_pay151 k0_pay21 (r_67 c arg1 harg1 arg2 harg2 arg3 harg3 arg4 harg4 arg5 harg5 arg8 x0 x1 x2 x3 x4) (r_68 c arg1 harg1 arg2 harg2 arg3 harg3 arg4 harg4 arg5 harg5 arg9 x0 x1 x2 x3 x4) (v955 c arg1 harg1 arg2 harg2 arg3 harg3 arg11 x0 x1 x2) (v957 c arg1 harg1 arg2 harg2 arg3 harg3 arg4 harg4 arg5 harg5 arg10 arg11 arg12 arg14 x0 x1 x2 x3 x4) = uo (k0_pay3 x0 x1 x2) (k0_pay5 (k0_pay4 x0 x1 x2 x3 x4)) 5 1 (St (k0_pay3 x0 x1 x2) (k0_pay5 (k0_pay4 x0 x1 x2 x3 x4)) (k0_pay2 (F := F)) 5 1) := by
  simp only [r_67, r_68, v955, v946, v949, hs3, hs0, hs1, st5_1]
  simp (disch := decide) only [View.readCov_fill, ld_ini']
  exact uo_ld (k0_pay3 x0 x1 x2) (k0_pay5 (k0_pay4 x0 x1 x2 x3 x4)) 5 1 320 64 rfl rfl (by decide) _

/-- The output of head 0 in chunk 5. -/
theorem o5_0 : k0_pay145 k0_pay21 (r_66 c arg1 harg1 arg2 harg2 arg3 harg3 arg4 harg4 arg5 harg5 arg8 x0 x1 x2 x3 x4) (v913 c arg1 harg1 arg2 harg2 arg3 harg3 arg4 harg4 arg5 harg5 arg9 x0 x1 x2 x3 x4) (v919 c arg1 harg1 arg2 harg2 arg3 harg3 arg11 x0 x1 x2) (v921 c arg1 harg1 arg2 harg2 arg3 harg3 arg4 harg4 arg5 harg5 arg10 arg11 arg12 arg14 x0 x1 x2 x3 x4) = uo (k0_pay3 x0 x1 x2) (k0_pay5 (k0_pay4 x0 x1 x2 x3 x4)) 5 0 (St (k0_pay3 x0 x1 x2) (k0_pay5 (k0_pay4 x0 x1 x2 x3 x4)) (k0_pay2 (F := F)) 5 0) := by
  simp only [r_66, v913, v919, v910, hs1, hs3, hs0, st5_0]
  simp (disch := decide) only [View.readCov_fill, ld_ini']
  exact uo_ld (k0_pay3 x0 x1 x2) (k0_pay5 (k0_pay4 x0 x1 x2 x3 x4)) 5 0 320 0 rfl rfl (by decide) _

/-- The output of head 3 in chunk 4. -/
theorem o4_3 : k0_pay140 k0_pay21 (r_64 c arg1 harg1 arg2 harg2 arg3 harg3 arg4 harg4 arg5 harg5 arg8 x0 x1 x2 x3 x4) (r_65 c arg1 harg1 arg2 harg2 arg3 harg3 arg4 harg4 arg5 harg5 arg9 x0 x1 x2 x3 x4) (v878 c arg1 harg1 arg2 harg2 arg3 harg3 arg11 x0 x1 x2) (v880 c arg1 harg1 arg2 harg2 arg3 harg3 arg4 harg4 arg5 harg5 arg10 arg11 arg12 arg14 x0 x1 x2 x3 x4) = uo (k0_pay3 x0 x1 x2) (k0_pay5 (k0_pay4 x0 x1 x2 x3 x4)) 4 3 (St (k0_pay3 x0 x1 x2) (k0_pay5 (k0_pay4 x0 x1 x2 x3 x4)) (k0_pay2 (F := F)) 4 3) := by
  simp only [r_64, r_65, v878, v869, v872, hs3, hs0, hs1, st4_3]
  simp (disch := decide) only [View.readCov_fill, ld_ini']
  exact uo_ld (k0_pay3 x0 x1 x2) (k0_pay5 (k0_pay4 x0 x1 x2 x3 x4)) 4 3 256 192 rfl rfl (by decide) _

/-- The output of head 2 in chunk 4. -/
theorem o4_2 : k0_pay134 k0_pay21 (v c arg1 harg1 arg2 harg2 arg3 harg3 arg4 harg4 arg5 harg5 arg8 x0 x1 x2 x3 x4) (v836 c arg1 harg1 arg2 harg2 arg3 harg3 arg4 harg4 arg5 harg5 arg9 x0 x1 x2 x3 x4) (v842 c arg1 harg1 arg2 harg2 arg3 harg3 arg11 x0 x1 x2) (v844 c arg1 harg1 arg2 harg2 arg3 harg3 arg4 harg4 arg5 harg5 arg10 arg11 arg12 arg14 x0 x1 x2 x3 x4) = uo (k0_pay3 x0 x1 x2) (k0_pay5 (k0_pay4 x0 x1 x2 x3 x4)) 4 2 (St (k0_pay3 x0 x1 x2) (k0_pay5 (k0_pay4 x0 x1 x2 x3 x4)) (k0_pay2 (F := F)) 4 2) := by
  simp only [v, v836, v842, hs0, hs1, hs3, st4_2]
  simp (disch := decide) only [View.readCov_fill, ld_ini']
  exact uo_ld (k0_pay3 x0 x1 x2) (k0_pay5 (k0_pay4 x0 x1 x2 x3 x4)) 4 2 256 128 rfl rfl (by decide) _

/-- The output of head 1 in chunk 4. -/
theorem o4_1 : k0_pay130 k0_pay21 (v797 c arg1 harg1 arg2 harg2 arg3 harg3 arg4 harg4 arg5 harg5 arg8 x0 x1 x2 x3 x4) (v800 c arg1 harg1 arg2 harg2 arg3 harg3 arg4 harg4 arg5 harg5 arg9 x0 x1 x2 x3 x4) (v806 c arg1 harg1 arg2 harg2 arg3 harg3 arg11 x0 x1 x2) (v808 c arg1 harg1 arg2 harg2 arg3 harg3 arg4 harg4 arg5 harg5 arg10 arg11 arg12 arg14 x0 x1 x2 x3 x4) = uo (k0_pay3 x0 x1 x2) (k0_pay5 (k0_pay4 x0 x1 x2 x3 x4)) 4 1 (St (k0_pay3 x0 x1 x2) (k0_pay5 (k0_pay4 x0 x1 x2 x3 x4)) (k0_pay2 (F := F)) 4 1) := by
  simp only [v797, v800, v806, hs0, hs1, hs3, st4_1]
  simp (disch := decide) only [View.readCov_fill, ld_ini']
  exact uo_ld (k0_pay3 x0 x1 x2) (k0_pay5 (k0_pay4 x0 x1 x2 x3 x4)) 4 1 256 64 rfl rfl (by decide) _

/-- The output of head 0 in chunk 4. -/
theorem o4_0 : k0_pay125 k0_pay21 (v761 c arg1 harg1 arg2 harg2 arg3 harg3 arg4 harg4 arg5 harg5 arg8 x0 x1 x2 x3 x4) (v764 c arg1 harg1 arg2 harg2 arg3 harg3 arg4 harg4 arg5 harg5 arg9 x0 x1 x2 x3 x4) (v770 c arg1 harg1 arg2 harg2 arg3 harg3 arg11 x0 x1 x2) (v772 c arg1 harg1 arg2 harg2 arg3 harg3 arg4 harg4 arg5 harg5 arg10 arg11 arg12 arg14 x0 x1 x2 x3 x4) = uo (k0_pay3 x0 x1 x2) (k0_pay5 (k0_pay4 x0 x1 x2 x3 x4)) 4 0 (St (k0_pay3 x0 x1 x2) (k0_pay5 (k0_pay4 x0 x1 x2 x3 x4)) (k0_pay2 (F := F)) 4 0) := by
  simp only [v761, v764, v770, hs0, hs1, hs3, st4_0]
  simp (disch := decide) only [View.readCov_fill, ld_ini']
  exact uo_ld (k0_pay3 x0 x1 x2) (k0_pay5 (k0_pay4 x0 x1 x2 x3 x4)) 4 0 256 0 rfl rfl (by decide) _

/-- The output of head 3 in chunk 3. -/
theorem o3_3 : k0_pay121 k0_pay21 (v720 c arg1 harg1 arg2 harg2 arg3 harg3 arg4 harg4 arg5 harg5 arg8 x0 x1 x2 x3 x4) (v723 c arg1 harg1 arg2 harg2 arg3 harg3 arg4 harg4 arg5 harg5 arg9 x0 x1 x2 x3 x4) (v729 c arg1 harg1 arg2 harg2 arg3 harg3 arg11 x0 x1 x2) (v731 c arg1 harg1 arg2 harg2 arg3 harg3 arg4 harg4 arg5 harg5 arg10 arg11 arg12 arg14 x0 x1 x2 x3 x4) = uo (k0_pay3 x0 x1 x2) (k0_pay5 (k0_pay4 x0 x1 x2 x3 x4)) 3 3 (St (k0_pay3 x0 x1 x2) (k0_pay5 (k0_pay4 x0 x1 x2 x3 x4)) (k0_pay2 (F := F)) 3 3) := by
  simp only [v720, v723, v729, hs0, hs1, hs3, st3_3]
  simp (disch := decide) only [View.readCov_fill, ld_ini']
  exact uo_ld (k0_pay3 x0 x1 x2) (k0_pay5 (k0_pay4 x0 x1 x2 x3 x4)) 3 3 192 192 rfl rfl (by decide) _

/-- The output of head 2 in chunk 3. -/
theorem o3_2 : k0_pay116 k0_pay21 (v684 c arg1 harg1 arg2 harg2 arg3 harg3 arg4 harg4 arg5 harg5 arg8 x0 x1 x2 x3 x4) (v687 c arg1 harg1 arg2 harg2 arg3 harg3 arg4 harg4 arg5 harg5 arg9 x0 x1 x2 x3 x4) (v693 c arg1 harg1 arg2 harg2 arg3 harg3 arg11 x0 x1 x2) (v695 c arg1 harg1 arg2 harg2 arg3 harg3 arg4 harg4 arg5 harg5 arg10 arg11 arg12 arg14 x0 x1 x2 x3 x4) = uo (k0_pay3 x0 x1 x2) (k0_pay5 (k0_pay4 x0 x1 x2 x3 x4)) 3 2 (St (k0_pay3 x0 x1 x2) (k0_pay5 (k0_pay4 x0 x1 x2 x3 x4)) (k0_pay2 (F := F)) 3 2) := by
  simp only [v684, v687, v693, hs0, hs1, hs3, st3_2]
  simp (disch := decide) only [View.readCov_fill, ld_ini']
  exact uo_ld (k0_pay3 x0 x1 x2) (k0_pay5 (k0_pay4 x0 x1 x2 x3 x4)) 3 2 192 128 rfl rfl (by decide) _

/-- The output of head 1 in chunk 3. -/
theorem o3_1 : k0_pay110 k0_pay21 (v648 c arg1 harg1 arg2 harg2 arg3 harg3 arg4 harg4 arg5 harg5 arg8 x0 x1 x2 x3 x4) (v651 c arg1 harg1 arg2 harg2 arg3 harg3 arg4 harg4 arg5 harg5 arg9 x0 x1 x2 x3 x4) (v657 c arg1 harg1 arg2 harg2 arg3 harg3 arg11 x0 x1 x2) (v659 c arg1 harg1 arg2 harg2 arg3 harg3 arg4 harg4 arg5 harg5 arg10 arg11 arg12 arg14 x0 x1 x2 x3 x4) = uo (k0_pay3 x0 x1 x2) (k0_pay5 (k0_pay4 x0 x1 x2 x3 x4)) 3 1 (St (k0_pay3 x0 x1 x2) (k0_pay5 (k0_pay4 x0 x1 x2 x3 x4)) (k0_pay2 (F := F)) 3 1) := by
  simp only [v648, v651, v657, hs0, hs1, hs3, st3_1]
  simp (disch := decide) only [View.readCov_fill, ld_ini']
  exact uo_ld (k0_pay3 x0 x1 x2) (k0_pay5 (k0_pay4 x0 x1 x2 x3 x4)) 3 1 192 64 rfl rfl (by decide) _

/-- The output of head 0 in chunk 3. -/
theorem o3_0 : k0_pay106 k0_pay21 (v612 c arg1 harg1 arg2 harg2 arg3 harg3 arg4 harg4 arg5 harg5 arg8 x0 x1 x2 x3 x4) (v615 c arg1 harg1 arg2 harg2 arg3 harg3 arg4 harg4 arg5 harg5 arg9 x0 x1 x2 x3 x4) (v621 c arg1 harg1 arg2 harg2 arg3 harg3 arg11 x0 x1 x2) (v623 c arg1 harg1 arg2 harg2 arg3 harg3 arg4 harg4 arg5 harg5 arg10 arg11 arg12 arg14 x0 x1 x2 x3 x4) = uo (k0_pay3 x0 x1 x2) (k0_pay5 (k0_pay4 x0 x1 x2 x3 x4)) 3 0 (St (k0_pay3 x0 x1 x2) (k0_pay5 (k0_pay4 x0 x1 x2 x3 x4)) (k0_pay2 (F := F)) 3 0) := by
  simp only [v612, v615, v621, hs0, hs1, hs3, st3_0]
  simp (disch := decide) only [View.readCov_fill, ld_ini']
  exact uo_ld (k0_pay3 x0 x1 x2) (k0_pay5 (k0_pay4 x0 x1 x2 x3 x4)) 3 0 192 0 rfl rfl (by decide) _

/-- The output of head 3 in chunk 2. -/
theorem o2_3 : k0_pay100 k0_pay21 (v571 c arg1 harg1 arg2 harg2 arg3 harg3 arg4 harg4 arg5 harg5 arg8 x0 x1 x2 x3 x4) (v574 c arg1 harg1 arg2 harg2 arg3 harg3 arg4 harg4 arg5 harg5 arg9 x0 x1 x2 x3 x4) (v580 c arg1 harg1 arg2 harg2 arg3 harg3 arg11 x0 x1 x2) (v582 c arg1 harg1 arg2 harg2 arg3 harg3 arg4 harg4 arg5 harg5 arg10 arg11 arg12 arg14 x0 x1 x2 x3 x4) = uo (k0_pay3 x0 x1 x2) (k0_pay5 (k0_pay4 x0 x1 x2 x3 x4)) 2 3 (St (k0_pay3 x0 x1 x2) (k0_pay5 (k0_pay4 x0 x1 x2 x3 x4)) (k0_pay2 (F := F)) 2 3) := by
  simp only [v571, v574, v580, hs0, hs1, hs3, st2_3]
  simp (disch := decide) only [View.readCov_fill, ld_ini']
  exact uo_ld (k0_pay3 x0 x1 x2) (k0_pay5 (k0_pay4 x0 x1 x2 x3 x4)) 2 3 128 192 rfl rfl (by decide) _

/-- The output of head 2 in chunk 2. -/
theorem o2_2 : k0_pay95 k0_pay21 (v535 c arg1 harg1 arg2 harg2 arg3 harg3 arg4 harg4 arg5 harg5 arg8 x0 x1 x2 x3 x4) (v538 c arg1 harg1 arg2 harg2 arg3 harg3 arg4 harg4 arg5 harg5 arg9 x0 x1 x2 x3 x4) (v544 c arg1 harg1 arg2 harg2 arg3 harg3 arg11 x0 x1 x2) (v546 c arg1 harg1 arg2 harg2 arg3 harg3 arg4 harg4 arg5 harg5 arg10 arg11 arg12 arg14 x0 x1 x2 x3 x4) = uo (k0_pay3 x0 x1 x2) (k0_pay5 (k0_pay4 x0 x1 x2 x3 x4)) 2 2 (St (k0_pay3 x0 x1 x2) (k0_pay5 (k0_pay4 x0 x1 x2 x3 x4)) (k0_pay2 (F := F)) 2 2) := by
  simp only [v535, v538, v544, hs0, hs1, hs3, st2_2]
  simp (disch := decide) only [View.readCov_fill, ld_ini']
  exact uo_ld (k0_pay3 x0 x1 x2) (k0_pay5 (k0_pay4 x0 x1 x2 x3 x4)) 2 2 128 128 rfl rfl (by decide) _

/-- The output of head 1 in chunk 2. -/
theorem o2_1 : k0_pay90 (r_50 c arg1 harg1 arg2 harg2 arg3 harg3 arg4 harg4 arg5 harg5 arg8 arg9 arg10 arg11 arg12 arg14 x0 x1 x2 x3 x4) = uo (k0_pay3 x0 x1 x2) (k0_pay5 (k0_pay4 x0 x1 x2 x3 x4)) 2 1 (St (k0_pay3 x0 x1 x2) (k0_pay5 (k0_pay4 x0 x1 x2 x3 x4)) (k0_pay2 (F := F)) 2 1) := by
  simp only [r_50, v499, v502, v508, hs0, hs1, hs3, st2_1]
  simp (disch := decide) only [View.readCov_fill, ld_ini']
  exact uo_ld (k0_pay3 x0 x1 x2) (k0_pay5 (k0_pay4 x0 x1 x2 x3 x4)) 2 1 128 64 rfl rfl (by decide) _

/-- The output of head 0 in chunk 2. -/
theorem o2_0 : k0_pay84 (r_41 c arg1 harg1 arg2 harg2 arg3 harg3 arg4 harg4 arg5 harg5 arg8 x0 x1 x2 x3 x4) (r_45 c arg1 harg1 arg2 harg2 arg3 harg3 arg4 harg4 arg5 harg5 arg8 arg9 arg11 x0 x1 x2 x3 x4) (r_46 c arg1 harg1 arg2 harg2 arg3 harg3 arg4 harg4 arg5 harg5 arg10 arg11 arg12 arg14 x0 x1 x2 x3 x4) cst_201 = uo (k0_pay3 x0 x1 x2) (k0_pay5 (k0_pay4 x0 x1 x2 x3 x4)) 2 0 (St (k0_pay3 x0 x1 x2) (k0_pay5 (k0_pay4 x0 x1 x2 x3 x4)) (k0_pay2 (F := F)) 2 0) := by
  simp only [r_41, r_45, r_46, cst_201, v463, v466, v472, hs0, hs1, hs3, st2_0]
  simp (disch := decide) only [View.readCov_fill, ld_ini']
  exact uo_ld (k0_pay3 x0 x1 x2) (k0_pay5 (k0_pay4 x0 x1 x2 x3 x4)) 2 0 128 0 rfl rfl (by decide) _

/-- The output of head 3 in chunk 1. -/
theorem o1_3 : k0_pay76 (r_40 c arg1 harg1 arg2 harg2 arg3 harg3 arg4 harg4 arg5 harg5 arg8 arg9 arg10 arg11 arg12 arg14 x0 x1 x2 x3 x4) = uo (k0_pay3 x0 x1 x2) (k0_pay5 (k0_pay4 x0 x1 x2 x3 x4)) 1 3 (St (k0_pay3 x0 x1 x2) (k0_pay5 (k0_pay4 x0 x1 x2 x3 x4)) (k0_pay2 (F := F)) 1 3) := by
  simp only [r_40, v422, v425, v431, hs0, hs1, hs3, st1_3]
  simp (disch := decide) only [View.readCov_fill, ld_ini']
  exact uo_ld (k0_pay3 x0 x1 x2) (k0_pay5 (k0_pay4 x0 x1 x2 x3 x4)) 1 3 64 192 rfl rfl (by decide) _

/-- The output of head 2 in chunk 1. -/
theorem o1_2 : k0_pay70 (r_31 c arg1 harg1 arg2 harg2 arg3 harg3 arg4 harg4 arg5 harg5 arg8 x0 x1 x2 x3 x4) (r_35 c arg1 harg1 arg2 harg2 arg3 harg3 arg4 harg4 arg5 harg5 arg8 arg9 arg11 x0 x1 x2 x3 x4) (r_36 c arg1 harg1 arg2 harg2 arg3 harg3 arg4 harg4 arg5 harg5 arg10 arg11 arg12 arg14 x0 x1 x2 x3 x4) = uo (k0_pay3 x0 x1 x2) (k0_pay5 (k0_pay4 x0 x1 x2 x3 x4)) 1 2 (St (k0_pay3 x0 x1 x2) (k0_pay5 (k0_pay4 x0 x1 x2 x3 x4)) (k0_pay2 (F := F)) 1 2) := by
  simp only [r_31, r_35, r_36, v386, v389, v395, hs0, hs1, hs3, st1_2]
  simp (disch := decide) only [View.readCov_fill, ld_ini']
  exact uo_ld (k0_pay3 x0 x1 x2) (k0_pay5 (k0_pay4 x0 x1 x2 x3 x4)) 1 2 64 128 rfl rfl (by decide) _

/-- The output of head 1 in chunk 1. -/
theorem o1_1 : k0_pay62 k0_pay21 (r_26 c arg1 harg1 arg2 harg2 arg3 harg3 arg4 harg4 arg5 harg5 arg8 x0 x1 x2 x3 x4) (r_28 c arg1 harg1 arg2 harg2 arg3 harg3 arg11 x0 x1 x2) (r_29 c arg1 harg1 arg2 harg2 arg3 harg3 arg4 harg4 arg5 harg5 arg10 arg11 arg12 arg14 x0 x1 x2 x3 x4) (r_30 c arg1 harg1 arg2 harg2 arg3 harg3 arg4 harg4 arg5 harg5 arg8 arg9 x0 x1 x2 x3 x4) k0_pay61 = uo (k0_pay3 x0 x1 x2) (k0_pay5 (k0_pay4 x0 x1 x2 x3 x4)) 1 1 (St (k0_pay3 x0 x1 x2) (k0_pay5 (k0_pay4 x0 x1 x2 x3 x4)) (k0_pay2 (F := F)) 1 1) := by
  simp only [r_26, r_28, r_29, r_30, v350, v359, v353, hs0, hs3, hs1, st1_1]
  simp (disch := decide) only [View.readCov_fill, ld_ini']
  exact uo_ld (k0_pay3 x0 x1 x2) (k0_pay5 (k0_pay4 x0 x1 x2 x3 x4)) 1 1 64 64 rfl rfl (by decide) _

/-- The output of head 0 in chunk 1. -/
theorem o1_0 : k0_pay54 k0_pay21 (r_22 c arg1 harg1 arg2 harg2 arg3 harg3 arg4 harg4 arg5 harg5 arg8 x0 x1 x2 x3 x4) (r_23 c arg1 harg1 arg2 harg2 arg3 harg3 arg4 harg4 arg5 harg5 arg9 x0 x1 x2 x3 x4) (r_25 c arg1 harg1 arg2 harg2 arg3 harg3 arg11 x0 x1 x2) (v325 c arg1 harg1 arg2 harg2 arg3 harg3 arg4 harg4 arg5 harg5 arg10 arg11 arg12 arg14 x0 x1 x2 x3 x4) = uo (k0_pay3 x0 x1 x2) (k0_pay5 (k0_pay4 x0 x1 x2 x3 x4)) 1 0 (St (k0_pay3 x0 x1 x2) (k0_pay5 (k0_pay4 x0 x1 x2 x3 x4)) (k0_pay2 (F := F)) 1 0) := by
  simp only [r_22, r_23, r_25, v314, v317, v323, hs0, hs1, hs3, st1_0]
  simp (disch := decide) only [View.readCov_fill, ld_ini']
  exact uo_ld (k0_pay3 x0 x1 x2) (k0_pay5 (k0_pay4 x0 x1 x2 x3 x4)) 1 0 64 0 rfl rfl (by decide) _

/-- The output of head 3 in chunk 0. -/
theorem o0_3 : k0_pay47 k0_pay21 (r_17 c arg1 harg1 arg2 harg2 arg3 harg3 arg4 harg4 arg5 harg5 arg8 x0 x1 x2 x3 x4) (r_19 c arg1 harg1 arg2 harg2 arg3 harg3 arg11 x0 x1 x2) (r_20 c arg1 harg1 arg2 harg2 arg3 harg3 arg4 harg4 arg5 harg5 arg10 arg11 arg12 arg14 x0 x1 x2 x3 x4) (r_21 c arg1 harg1 arg2 harg2 arg3 harg3 arg4 harg4 arg5 harg5 arg8 arg9 x0 x1 x2 x3 x4) cst_107 = uo (k0_pay3 x0 x1 x2) (k0_pay5 (k0_pay4 x0 x1 x2 x3 x4)) 0 3 (St (k0_pay3 x0 x1 x2) (k0_pay5 (k0_pay4 x0 x1 x2 x3 x4)) (k0_pay2 (F := F)) 0 3) := by
  simp only [r_17, r_19, r_20, r_21, cst_107, v273, v282, v276, hs0, hs3, hs1, st0_3]
  simp (disch := decide) only [View.readCov_fill, ld_ini']
  exact uo_ld (k0_pay3 x0 x1 x2) (k0_pay5 (k0_pay4 x0 x1 x2 x3 x4)) 0 3 0 192 rfl rfl (by decide) _

/-- The output of head 2 in chunk 0. -/
theorem o0_2 : k0_pay40 k0_pay21 (r_13 c arg1 harg1 arg2 harg2 arg3 harg3 arg4 harg4 arg5 harg5 arg8 x0 x1 x2 x3 x4) (r_14 c arg1 harg1 arg2 harg2 arg3 harg3 arg4 harg4 arg5 harg5 arg9 x0 x1 x2 x3 x4) (r_16 c arg1 harg1 arg2 harg2 arg3 harg3 arg11 x0 x1 x2) (v248 c arg1 harg1 arg2 harg2 arg3 harg3 arg4 harg4 arg5 harg5 arg10 arg11 arg12 arg14 x0 x1 x2 x3 x4) = uo (k0_pay3 x0 x1 x2) (k0_pay5 (k0_pay4 x0 x1 x2 x3 x4)) 0 2 (St (k0_pay3 x0 x1 x2) (k0_pay5 (k0_pay4 x0 x1 x2 x3 x4)) (k0_pay2 (F := F)) 0 2) := by
  simp only [r_13, r_14, r_16, v237, v240, v246, hs0, hs1, hs3, st0_2]
  simp (disch := decide) only [View.readCov_fill, ld_ini']
  exact uo_ld (k0_pay3 x0 x1 x2) (k0_pay5 (k0_pay4 x0 x1 x2 x3 x4)) 0 2 0 128 rfl rfl (by decide) _

/-- The output of head 1 in chunk 0. -/
theorem o0_1 : k0_pay33 k0_pay21 (r_10 c arg1 harg1 arg2 harg2 arg3 harg3 arg4 harg4 arg5 harg5 arg8 x0 x1 x2 x3 x4) (r_11 c arg1 harg1 arg2 harg2 arg3 harg3 arg4 harg4 arg5 harg5 arg9 x0 x1 x2 x3 x4) (v210 c arg1 harg1 arg2 harg2 arg3 harg3 arg11 x0 x1 x2) (v212 c arg1 harg1 arg2 harg2 arg3 harg3 arg4 harg4 arg5 harg5 arg10 arg11 arg12 arg14 x0 x1 x2 x3 x4) = uo (k0_pay3 x0 x1 x2) (k0_pay5 (k0_pay4 x0 x1 x2 x3 x4)) 0 1 (St (k0_pay3 x0 x1 x2) (k0_pay5 (k0_pay4 x0 x1 x2 x3 x4)) (k0_pay2 (F := F)) 0 1) := by
  simp only [r_10, r_11, v210, v201, v204, hs3, hs0, hs1, st0_1]
  simp (disch := decide) only [View.readCov_fill, ld_ini']
  exact uo_ld (k0_pay3 x0 x1 x2) (k0_pay5 (k0_pay4 x0 x1 x2 x3 x4)) 0 1 0 64 rfl rfl (by decide) _

/-- The output of head 0 in chunk 0. -/
theorem o0_0 : k0_pay26 k0_pay21 (r_8 c arg1 harg1 arg2 harg2 arg3 harg3 arg4 harg4 arg5 harg5 arg8 x0 x1 x2 x3 x4) (r_9 c arg1 harg1 arg2 harg2 arg3 harg3 arg4 harg4 arg5 harg5 arg9 x0 x1 x2 x3 x4) (v174 c arg1 harg1 arg2 harg2 arg3 harg3 arg11 x0 x1 x2) (v176 c arg14) = uo (k0_pay3 x0 x1 x2) (k0_pay5 (k0_pay4 x0 x1 x2 x3 x4)) 0 0 (St (k0_pay3 x0 x1 x2) (k0_pay5 (k0_pay4 x0 x1 x2 x3 x4)) (k0_pay2 (F := F)) 0 0) := by
  simp only [r_8, r_9, v174, v165, v168, hs3, hs0, hs1, st0_0]
  simp (disch := decide) only [View.readCov_fill, ld_ini']
  exact uo_ld (k0_pay3 x0 x1 x2) (k0_pay5 (k0_pay4 x0 x1 x2 x3 x4)) 0 0 0 0 rfl rfl (by decide) _

/-- Every output that the run stores is a block of the recursion's. -/
theorem out_pieces : View.PiecesOf (GO (k0_pay3 x0 x1 x2) (k0_pay5 (k0_pay4 x0 x1 x2 x3 x4)) (k0_pay2 (F := F))) (HS5_32 c arg1 harg1 arg2 harg2 arg3 harg3 arg4 harg4 arg5 harg5 arg8 arg9 arg10 arg11 arg12 arg14 x0 x1 x2 x3 x4) := by
  unfold HS5_32
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact (congrFun (o7_3 ..) x).trans (go_emb (k0_pay3 x0 x1 x2) (k0_pay5 (k0_pay4 x0 x1 x2 x3 x4)) (k0_pay2 (F := F)) 7 3 448 192 rfl rfl k0_part34_skel._proof_5 x)
  · exact (congrFun (o7_2 ..) x).trans (go_emb (k0_pay3 x0 x1 x2) (k0_pay5 (k0_pay4 x0 x1 x2 x3 x4)) (k0_pay2 (F := F)) 7 2 448 128 rfl rfl k0_part33_skel._proof_5 x)
  · exact (congrFun (o7_1 ..) x).trans (go_emb (k0_pay3 x0 x1 x2) (k0_pay5 (k0_pay4 x0 x1 x2 x3 x4)) (k0_pay2 (F := F)) 7 1 448 64 rfl rfl k0_part32_skel._proof_5 x)
  · exact (congrFun (o7_0 ..) x).trans (go_emb (k0_pay3 x0 x1 x2) (k0_pay5 (k0_pay4 x0 x1 x2 x3 x4)) (k0_pay2 (F := F)) 7 0 448 0 rfl rfl k0_part31_skel._proof_5 x)
  · exact (congrFun (o6_3 ..) x).trans (go_emb (k0_pay3 x0 x1 x2) (k0_pay5 (k0_pay4 x0 x1 x2 x3 x4)) (k0_pay2 (F := F)) 6 3 384 192 rfl rfl k0_part30_skel._proof_5 x)
  · exact (congrFun (o6_2 ..) x).trans (go_emb (k0_pay3 x0 x1 x2) (k0_pay5 (k0_pay4 x0 x1 x2 x3 x4)) (k0_pay2 (F := F)) 6 2 384 128 rfl rfl k0_part29_skel._proof_5 x)
  · exact (congrFun (o6_1 ..) x).trans (go_emb (k0_pay3 x0 x1 x2) (k0_pay5 (k0_pay4 x0 x1 x2 x3 x4)) (k0_pay2 (F := F)) 6 1 384 64 rfl rfl k0_part28_skel._proof_5 x)
  · exact (congrFun (o6_0 ..) x).trans (go_emb (k0_pay3 x0 x1 x2) (k0_pay5 (k0_pay4 x0 x1 x2 x3 x4)) (k0_pay2 (F := F)) 6 0 384 0 rfl rfl k0_part27_skel._proof_5 x)
  · exact (congrFun (o5_3 ..) x).trans (go_emb (k0_pay3 x0 x1 x2) (k0_pay5 (k0_pay4 x0 x1 x2 x3 x4)) (k0_pay2 (F := F)) 5 3 320 192 rfl rfl k0_part26_skel._proof_5 x)
  · exact (congrFun (o5_2 ..) x).trans (go_emb (k0_pay3 x0 x1 x2) (k0_pay5 (k0_pay4 x0 x1 x2 x3 x4)) (k0_pay2 (F := F)) 5 2 320 128 rfl rfl k0_part25_skel._proof_5 x)
  · exact (congrFun (o5_1 ..) x).trans (go_emb (k0_pay3 x0 x1 x2) (k0_pay5 (k0_pay4 x0 x1 x2 x3 x4)) (k0_pay2 (F := F)) 5 1 320 64 rfl rfl k0_part24_skel._proof_5 x)
  · exact (congrFun (o5_0 ..) x).trans (go_emb (k0_pay3 x0 x1 x2) (k0_pay5 (k0_pay4 x0 x1 x2 x3 x4)) (k0_pay2 (F := F)) 5 0 320 0 rfl rfl k0_part23_skel._proof_5 x)
  · exact (congrFun (o4_3 ..) x).trans (go_emb (k0_pay3 x0 x1 x2) (k0_pay5 (k0_pay4 x0 x1 x2 x3 x4)) (k0_pay2 (F := F)) 4 3 256 192 rfl rfl k0_part22_skel._proof_5 x)
  · exact (congrFun (o4_2 ..) x).trans (go_emb (k0_pay3 x0 x1 x2) (k0_pay5 (k0_pay4 x0 x1 x2 x3 x4)) (k0_pay2 (F := F)) 4 2 256 128 rfl rfl k0_part21_skel._proof_7 x)
  · exact (congrFun (o4_1 ..) x).trans (go_emb (k0_pay3 x0 x1 x2) (k0_pay5 (k0_pay4 x0 x1 x2 x3 x4)) (k0_pay2 (F := F)) 4 1 256 64 rfl rfl k0_part21_skel._proof_1 x)
  · exact (congrFun (o4_0 ..) x).trans (go_emb (k0_pay3 x0 x1 x2) (k0_pay5 (k0_pay4 x0 x1 x2 x3 x4)) (k0_pay2 (F := F)) 4 0 256 0 rfl rfl k0_part20_skel._proof_1 x)
  · exact (congrFun (o3_3 ..) x).trans (go_emb (k0_pay3 x0 x1 x2) (k0_pay5 (k0_pay4 x0 x1 x2 x3 x4)) (k0_pay2 (F := F)) 3 3 192 192 rfl rfl k0_part19_skel._proof_1 x)
  · exact (congrFun (o3_2 ..) x).trans (go_emb (k0_pay3 x0 x1 x2) (k0_pay5 (k0_pay4 x0 x1 x2 x3 x4)) (k0_pay2 (F := F)) 3 2 192 128 rfl rfl k0_part18_skel._proof_1 x)
  · exact (congrFun (o3_1 ..) x).trans (go_emb (k0_pay3 x0 x1 x2) (k0_pay5 (k0_pay4 x0 x1 x2 x3 x4)) (k0_pay2 (F := F)) 3 1 192 64 rfl rfl k0_part17_skel._proof_1 x)
  · exact (congrFun (o3_0 ..) x).trans (go_emb (k0_pay3 x0 x1 x2) (k0_pay5 (k0_pay4 x0 x1 x2 x3 x4)) (k0_pay2 (F := F)) 3 0 192 0 rfl rfl k0_part16_skel._proof_1 x)
  · exact (congrFun (o2_3 ..) x).trans (go_emb (k0_pay3 x0 x1 x2) (k0_pay5 (k0_pay4 x0 x1 x2 x3 x4)) (k0_pay2 (F := F)) 2 3 128 192 rfl rfl k0_part15_skel._proof_3 x)
  · exact (congrFun (o2_2 ..) x).trans (go_emb (k0_pay3 x0 x1 x2) (k0_pay5 (k0_pay4 x0 x1 x2 x3 x4)) (k0_pay2 (F := F)) 2 2 128 128 rfl rfl k0_part14_skel._proof_5 x)
  · exact (congrFun (o2_1 ..) x).trans (go_emb (k0_pay3 x0 x1 x2) (k0_pay5 (k0_pay4 x0 x1 x2 x3 x4)) (k0_pay2 (F := F)) 2 1 128 64 rfl rfl k0_part13_skel._proof_5 x)
  · exact (congrFun (o2_0 ..) x).trans (go_emb (k0_pay3 x0 x1 x2) (k0_pay5 (k0_pay4 x0 x1 x2 x3 x4)) (k0_pay2 (F := F)) 2 0 128 0 rfl rfl k0_part12_skel._proof_5 x)
  · exact (congrFun (o1_3 ..) x).trans (go_emb (k0_pay3 x0 x1 x2) (k0_pay5 (k0_pay4 x0 x1 x2 x3 x4)) (k0_pay2 (F := F)) 1 3 64 192 rfl rfl k0_part11_skel._proof_5 x)
  · exact (congrFun (o1_2 ..) x).trans (go_emb (k0_pay3 x0 x1 x2) (k0_pay5 (k0_pay4 x0 x1 x2 x3 x4)) (k0_pay2 (F := F)) 1 2 64 128 rfl rfl k0_part10_skel._proof_5 x)
  · exact (congrFun (o1_1 ..) x).trans (go_emb (k0_pay3 x0 x1 x2) (k0_pay5 (k0_pay4 x0 x1 x2 x3 x4)) (k0_pay2 (F := F)) 1 1 64 64 rfl rfl k0_part9_skel._proof_5 x)
  · exact (congrFun (o1_0 ..) x).trans (go_emb (k0_pay3 x0 x1 x2) (k0_pay5 (k0_pay4 x0 x1 x2 x3 x4)) (k0_pay2 (F := F)) 1 0 64 0 rfl rfl k0_part8_skel._proof_7 x)
  · exact (congrFun (o0_3 ..) x).trans (go_emb (k0_pay3 x0 x1 x2) (k0_pay5 (k0_pay4 x0 x1 x2 x3 x4)) (k0_pay2 (F := F)) 0 3 0 192 rfl rfl k0_part7_skel._proof_8 x)
  · exact (congrFun (o0_2 ..) x).trans (go_emb (k0_pay3 x0 x1 x2) (k0_pay5 (k0_pay4 x0 x1 x2 x3 x4)) (k0_pay2 (F := F)) 0 2 0 128 rfl rfl k0_part6_skel._proof_8 x)
  · exact (congrFun (o0_1 ..) x).trans (go_emb (k0_pay3 x0 x1 x2) (k0_pay5 (k0_pay4 x0 x1 x2 x3 x4)) (k0_pay2 (F := F)) 0 1 0 64 rfl rfl k0_part5_skel._proof_8 x)
  · exact (congrFun (o0_0 ..) x).trans (go_emb (k0_pay3 x0 x1 x2) (k0_pay5 (k0_pay4 x0 x1 x2 x3 x4)) (k0_pay2 (F := F)) 0 0 0 0 rfl rfl k0_part4_skel._proof_4 x)

/-- The outputs of a block, loaded back. -/
theorem out_read : (v1351 c arg1 harg1 arg2 harg2 arg3 harg3 arg4 harg4 arg5 harg5 arg8 arg9 arg10 arg11 arg12 arg13 arg14 x0 x1 x2 x3 x4) = GO (k0_pay3 x0 x1 x2) (k0_pay5 (k0_pay4 x0 x1 x2 x3 x4)) (k0_pay2 (F := F)) := by
  unfold v1351
  rw [View.readCov_eq_canon']
  funext y
  have hc : ∀ y, ∃ p ∈ (HS5_32 c arg1 harg1 arg2 harg2 arg3 harg3 arg4 harg4 arg5 harg5 arg8 arg9 arg10 arg11 arg12 arg14 x0 x1 x2 x3 x4), y ∈ p.1.set := by
    refine View.cover_of_tiledL _ ![64, 64] ?_
    unfold HS5_32
    rfl
  have e : ((Rect.unit ![0, 0] S512x256.size inb_S512x256_S512x256_0_0).toLoadRect).idx y = y := funext fun k => Fin.ext (by
    fin_cases k
    · show 0 + 1 * (y 0).val = (y 0).val
      omega
    · show 0 + 1 * (y 1).val = (y 1).val
      omega)
  have h := View.canon_append_of_piecesOf (GO (k0_pay3 x0 x1 x2) (k0_pay5 (k0_pay4 x0 x1 x2 x3 x4)) (k0_pay2 (F := F))) [] _ (out_pieces _ _ _ _ _ _ _ _ _ _ _ _ _ _ _ _ _ _ _ _ _ _) y (hc y)
  rw [List.append_nil] at h
  rw [e]
  exact h

/-- Head 0's last state. -/
theorem fin_0 : k0_pay203 (r_95 c arg1 harg1 arg2 harg2 arg3 harg3 arg4 harg4 arg5 harg5 arg10 x0 x1 x2 x3 x4) (r_96 c arg1 harg1 arg2 harg2 arg3 harg3 arg11 x0 x1 x2) (r_97 c arg1 harg1 arg2 harg2 arg3 harg3 arg4 harg4 arg5 harg5 arg10 arg11 arg12 arg14 x0 x1 x2 x3 x4) (v1234 c arg1 harg1 arg2 harg2 arg3 harg3 arg4 harg4 arg5 harg5 arg12 x0 x1 x2 x3 x4) = St (k0_pay3 x0 x1 x2) (k0_pay5 (k0_pay4 x0 x1 x2 x3 x4)) (k0_pay2 (F := F)) 8 0 := by
  refine Eq.trans ?_ (St_succ ..).symm
  simp only [r_95, r_96, r_97, v1234, v1214, v1217, hs4, hs2, hs3, st7_0]
  simp (disch := decide) only [View.readCov_fill]
  exact stp_ld _ _ 7 0 448 0 504 rfl rfl rfl (by decide) (by decide) _

/-- Head 1's last state. -/
theorem fin_1 : k0_pay211 (r_100 c arg1 harg1 arg2 harg2 arg3 harg3 arg4 harg4 arg5 harg5 arg10 x0 x1 x2 x3 x4) (r_101 c arg1 harg1 arg2 harg2 arg3 harg3 arg11 x0 x1 x2) (r_102 c arg1 harg1 arg2 harg2 arg3 harg3 arg4 harg4 arg5 harg5 arg10 arg11 arg12 arg14 x0 x1 x2 x3 x4) (v1270 c arg1 harg1 arg2 harg2 arg3 harg3 arg4 harg4 arg5 harg5 arg12 x0 x1 x2 x3 x4) = St (k0_pay3 x0 x1 x2) (k0_pay5 (k0_pay4 x0 x1 x2 x3 x4)) (k0_pay2 (F := F)) 8 1 := by
  refine Eq.trans ?_ (St_succ ..).symm
  simp only [r_100, r_101, r_102, v1270, v1250, v1253, hs4, hs2, hs3, st7_1]
  simp (disch := decide) only [View.readCov_fill]
  exact stp_ld _ _ 7 1 448 64 504 rfl rfl rfl (by decide) (by decide) _

/-- Head 2's last state. -/
theorem fin_2 : k0_pay217 (r_105 c arg1 harg1 arg2 harg2 arg3 harg3 arg4 harg4 arg5 harg5 arg10 x0 x1 x2 x3 x4) (r_106 c arg1 harg1 arg2 harg2 arg3 harg3 arg11 x0 x1 x2) (r_107 c arg1 harg1 arg2 harg2 arg3 harg3 arg4 harg4 arg5 harg5 arg10 arg11 arg12 arg14 x0 x1 x2 x3 x4) (v1306 c arg1 harg1 arg2 harg2 arg3 harg3 arg4 harg4 arg5 harg5 arg12 x0 x1 x2 x3 x4) = St (k0_pay3 x0 x1 x2) (k0_pay5 (k0_pay4 x0 x1 x2 x3 x4)) (k0_pay2 (F := F)) 8 2 := by
  refine Eq.trans ?_ (St_succ ..).symm
  simp only [r_105, r_106, r_107, v1306, v1286, v1289, hs4, hs2, hs3, st7_2]
  simp (disch := decide) only [View.readCov_fill]
  exact stp_ld _ _ 7 2 448 128 504 rfl rfl rfl (by decide) (by decide) _

/-- Head 3's last state. -/
theorem fin_3 : k0_pay222 (r_109 c arg1 harg1 arg2 harg2 arg3 harg3 arg4 harg4 arg5 harg5 arg10 x0 x1 x2 x3 x4) (r_110 c arg1 harg1 arg2 harg2 arg3 harg3 arg11 x0 x1 x2) (r_111 c arg1 harg1 arg2 harg2 arg3 harg3 arg4 harg4 arg5 harg5 arg10 arg11 arg12 arg14 x0 x1 x2 x3 x4) (v1342 c arg1 harg1 arg2 harg2 arg3 harg3 arg4 harg4 arg5 harg5 arg12 x0 x1 x2 x3 x4) = St (k0_pay3 x0 x1 x2) (k0_pay5 (k0_pay4 x0 x1 x2 x3 x4)) (k0_pay2 (F := F)) 8 3 := by
  refine Eq.trans ?_ (St_succ ..).symm
  simp only [r_109, r_110, r_111, v1342, v1322, v1325, hs4, hs2, hs3, st7_3]
  simp (disch := decide) only [View.readCov_fill]
  exact stp_ld _ _ 7 3 448 192 504 rfl rfl rfl (by decide) (by decide) _

variable (i : grid0.Coords) (arg7 : Memref sig .tc .vmem S512x256 .bf16) (harg7 : arg7.IsWhole) (hc0 : cond0_0 i)

/-- What the run writes back. -/
theorem out_eq : out0_A_6 (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = OUT (k0_pay3 x0 x1 x2) (k0_pay5 (k0_pay4 x0 x1 x2 x3 x4)) (k0_pay2 (F := F)) x5 := by
  unfold out0_A_6
  rw [View.read_writes_junk_eq_canon]
  unfold kernelRun0_A
  dsimp only
  rw [View.canon_cons_unit_lit _ _ _ (by decide)]
  simp only [r_112, r_113, v1353, out_read, r, View.readAt_eq_ld, harg1.read_unread, harg2.read_unread, harg3.read_unread, harg6.read_unread]
  simp (disch := decide) only [View.ld_unit_lit']
  rfl

/-- The states that the run leaves. -/
theorem sout_eq : sout0_A_6 (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = GS (k0_pay3 x0 x1 x2) (k0_pay5 (k0_pay4 x0 x1 x2 x3 x4)) (k0_pay2 (F := F)) := by
  unfold sout0_A_6
  rw [View.read_writes_junk_eq_canon]
  unfold kernelRun0_A
  dsimp only
  unfold HS6_32 HS6_31 HS6_30
  funext y
  refine View.canon_append_of_piecesOf (GS (k0_pay3 x0 x1 x2) (k0_pay5 (k0_pay4 x0 x1 x2 x3 x4)) (k0_pay2 (F := F))) _ [_, _, _, _] ⟨?_, ?_, ?_, ?_, trivial⟩ y ?_
  · exact fun x => (congrFun (fin_3 ..) x).trans (gs_emb _ _ _ 3 (by decide) x)
  · exact fun x => (congrFun (fin_2 ..) x).trans (gs_emb _ _ _ 2 (by decide) x)
  · exact fun x => (congrFun (fin_1 ..) x).trans (gs_emb _ _ _ 1 (by decide) x)
  · exact fun x => (congrFun (fin_0 ..) x).trans (gs_emb _ _ _ 0 (by decide) x)
  · exact View.cover_of_tiledL _ ![1, 64, 64] (by rfl) y

end Cert.Proof.Gla.RunA

end
-- ==== Proof.GlaRunB.lean ====
/-
  The gated linear attention, in the case of a later point: every state that the run loads, every output that it stores and every state that it leaves are
  values of the recursion over chunks. One lemma per state, each from the state of the same head one chunk before.
-/
module

public import proofs.«01_k».proof.Proof.GlaModel

@[expose] public section

noncomputable section

namespace Cert.Proof.Gla.RunB

open Idealize.ShloMosaic Idealize.ShloMosaic.TcCoe Idealize.SL.Sem
open Cert.Kernel5Ideal Cert.Kernel5Ideal.Gen Cert.Kernel5Ideal.Gen.kernelRun0_B.sl

variable {F : FTy → Type} [FloatOps F]

variable (c : Dev nD) (arg1 : Memref sig .tc .vmem S512x1024 .f32) (harg1 : arg1.IsWhole) (arg2 : Memref sig .tc .vmem S1x1024 .f32) (harg2 : arg2.IsWhole) (arg3 : Memref sig .tc .vmem S1024x1152 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S1x256 .f32) (harg6 : arg6.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S512x256 .f32) (harg13 : arg13.IsWhole) (arg14 : Memref sig .tc .vmem S4x64x64 .f32) (harg14 : arg14.IsWhole)
variable (x0 : Vec F S512x1024 .f32) (x1 : Vec F S1x1024 .f32) (x2 : Vec F S1024x1152 .bf16) (x3 : Vec F S128x256 .bf16) (x4 : Vec F S1x256 .f32) (x5 : Vec F S1x256 .f32) (xs6 : Vec F S4x64x64 .f32)

/-- The decayed queries that the run stores. -/
theorem hs0 : (HS0_1 c arg1 harg1 arg2 harg2 arg3 harg3 arg4 harg4 arg5 harg5 x0 x1 x2 x3 x4) = [⟨Rect.unit ![0, 0] S512x256.size inb_S512x256_S512x256_0_0, QD (k0_pay3 x0 x1 x2) (k0_pay5 (k0_pay4 x0 x1 x2 x3 x4))⟩] := by
  simp only [HS0_1, r_5, r_7, r_2, v41, v42, r, r_1, View.readAt_eq_ld, harg1.read_unread, harg2.read_unread, harg3.read_unread, harg4.read_unread, harg5.read_unread]
  simp (disch := decide) only [View.ld_unit_lit']
  rfl

/-- The inversely decayed keys that the run stores. -/
theorem hs1 : (HS1_1 c arg1 harg1 arg2 harg2 arg3 harg3 arg4 harg4 arg5 harg5 x0 x1 x2 x3 x4) = [⟨Rect.unit ![0, 0] S512x256.size inb_S512x256_S512x256_0_0, KI (k0_pay3 x0 x1 x2) (k0_pay5 (k0_pay4 x0 x1 x2 x3 x4))⟩] := by
  simp only [HS1_1, r_3, r_6, r_2, v41, v42, r, r_1, View.readAt_eq_ld, harg1.read_unread, harg2.read_unread, harg3.read_unread, harg4.read_unread, harg5.read_unread]
  simp (disch := decide) only [View.ld_unit_lit']
  rfl

/-- The keys decayed to the end of the chunk that the run stores. -/
theorem hs2 : (HS2_1 c arg1 harg1 arg2 harg2 arg3 harg3 arg4 harg4 arg5 harg5 x0 x1 x2 x3 x4) = [⟨Rect.unit ![0, 0] S512x256.size inb_S512x256_S512x256_0_0, KE (k0_pay3 x0 x1 x2) (k0_pay5 (k0_pay4 x0 x1 x2 x3 x4))⟩] := by
  simp only [HS2_1, r_4, r_6, r_2, v41, v42, r, r_1, View.readAt_eq_ld, harg1.read_unread, harg2.read_unread, harg3.read_unread, harg4.read_unread, harg5.read_unread]
  simp (disch := decide) only [View.ld_unit_lit']
  rfl

/-- The values that the run stores. -/
theorem hs3 : (HS3_1 c arg1 harg1 arg2 harg2 arg3 harg3 x0 x1 x2) = [⟨Rect.unit ![0, 0] S512x256.size inb_S512x256_S512x256_0_0, VV (k0_pay3 x0 x1 x2)⟩] := by
  simp only [HS3_1, r, View.readAt_eq_ld, harg1.read_unread, harg2.read_unread, harg3.read_unread]
  simp (disch := decide) only [View.ld_unit_lit']
  rfl

/-- The decays that the run stores. -/
theorem hs4 : (HS4_1 c arg1 harg1 arg2 harg2 arg3 harg3 arg4 harg4 arg5 harg5 x0 x1 x2 x3 x4) = [⟨Rect.unit ![0, 0] S512x256.size inb_S512x256_S512x256_0_0, DEC (k0_pay5 (k0_pay4 x0 x1 x2 x3 x4))⟩] := by
  simp only [HS4_1, r_5, r_2, v41, v42, r_1, View.readAt_eq_ld, harg1.read_unread, harg2.read_unread, harg3.read_unread, harg4.read_unread, harg5.read_unread]
  simp (disch := decide) only [View.ld_unit_lit']
  rfl

/-- Head 1's state in chunk 0. -/
theorem st0_1 : (v212 c arg14 harg14 xs6) = ini xs6 1 := by
  simp only [v212, View.readAt_eq_ld, harg14.read_unread]
  exact ld_ini _ _ _

/-- Head 2's state in chunk 0. -/
theorem st0_2 : (v248 c arg14 harg14 xs6) = ini xs6 2 := by
  simp only [v248, View.readAt_eq_ld, harg14.read_unread]
  exact ld_ini _ _ _

/-- Head 3's state in chunk 0. -/
theorem st0_3 : (v284 c arg14 harg14 xs6) = ini xs6 3 := by
  simp only [v284, View.readAt_eq_ld, harg14.read_unread]
  exact ld_ini _ _ _

/-- Head 0's state in chunk 1. -/
theorem st1_0 : (v325 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 1 0 := by
  simp only [v325, HS6_4]
  iterate 3 rw [View.readCov_skip _ _ _ _ _ (by decide)]
  rw [View.readCov_cons_toLoadRect]
  refine Eq.trans ?_ (St_succ ..).symm
  simp only [v171, v174, v191, hs2, hs3, hs4, View.readAt_eq_ld, harg14.read_unread, ld_ini]
  simp (disch := decide) only [View.readCov_fill, ld_ini']
  exact stp_ld _ _ 0 0 0 0 56 rfl rfl rfl (by decide) (by decide) _

/-- Head 1's state in chunk 1. -/
theorem st1_1 : (v361 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 1 1 := by
  simp only [v361, HS6_5, HS6_4]
  iterate 3 rw [View.readCov_skip _ _ _ _ _ (by decide)]
  rw [View.readCov_cons_toLoadRect]
  refine Eq.trans ?_ (St_succ ..).symm
  simp only [r_12, v210, v227, v207, hs3, hs4, hs2, st0_1]
  simp (disch := decide) only [View.readCov_fill, ld_ini']
  exact stp_ld _ _ 0 1 0 64 56 rfl rfl rfl (by decide) (by decide) _

/-- Head 2's state in chunk 1. -/
theorem st1_2 : (v397 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 1 2 := by
  simp only [v397, HS6_6, HS6_5, HS6_4]
  iterate 3 rw [View.readCov_skip _ _ _ _ _ (by decide)]
  rw [View.readCov_cons_toLoadRect]
  refine Eq.trans ?_ (St_succ ..).symm
  simp only [r_15, r_16, v263, v243, v246, hs4, hs2, hs3, st0_2]
  simp (disch := decide) only [View.readCov_fill, ld_ini']
  exact stp_ld _ _ 0 2 0 128 56 rfl rfl rfl (by decide) (by decide) _

/-- Head 3's state in chunk 1. -/
theorem st1_3 : (v433 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 1 3 := by
  simp only [v433, HS6_7, HS6_6, HS6_5, HS6_4]
  iterate 3 rw [View.readCov_skip _ _ _ _ _ (by decide)]
  rw [View.readCov_cons_toLoadRect]
  refine Eq.trans ?_ (St_succ ..).symm
  simp only [r_18, r_19, r_20, v299, v279, v282, hs4, hs2, hs3, st0_3]
  simp (disch := decide) only [View.readCov_fill, ld_ini']
  exact stp_ld _ _ 0 3 0 192 56 rfl rfl rfl (by decide) (by decide) _

/-- Head 0's state in chunk 2. -/
theorem st2_0 : (v474 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 2 0 := by
  simp only [v474, HS6_8, HS6_7, HS6_6, HS6_5]
  iterate 3 rw [View.readCov_skip _ _ _ _ _ (by decide)]
  rw [View.readCov_cons_toLoadRect]
  refine Eq.trans ?_ (St_succ ..).symm
  simp only [r_24, r_25, v340, v320, v323, hs4, hs2, hs3, st1_0]
  simp (disch := decide) only [View.readCov_fill, ld_ini']
  exact stp_ld _ _ 1 0 64 0 120 rfl rfl rfl (by decide) (by decide) _

/-- Head 1's state in chunk 2. -/
theorem st2_1 : (v510 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 2 1 := by
  simp only [v510, HS6_9, HS6_8, HS6_7, HS6_6]
  iterate 3 rw [View.readCov_skip _ _ _ _ _ (by decide)]
  rw [View.readCov_cons_toLoadRect]
  refine Eq.trans ?_ (St_succ ..).symm
  simp only [r_27, r_28, r_29, v376, v356, v359, hs4, hs2, hs3, st1_1]
  simp (disch := decide) only [View.readCov_fill, ld_ini']
  exact stp_ld _ _ 1 1 64 64 120 rfl rfl rfl (by decide) (by decide) _

/-- Head 2's state in chunk 2. -/
theorem st2_2 : (v546 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 2 2 := by
  simp only [v546, HS6_10, HS6_9, HS6_8, HS6_7]
  iterate 3 rw [View.readCov_skip _ _ _ _ _ (by decide)]
  rw [View.readCov_cons_toLoadRect]
  refine Eq.trans ?_ (St_succ ..).symm
  simp only [r_32, r_33, r_34, v412, v392, v395, hs4, hs2, hs3, st1_2]
  simp (disch := decide) only [View.readCov_fill, ld_ini']
  exact stp_ld _ _ 1 2 64 128 120 rfl rfl rfl (by decide) (by decide) _

/-- Head 3's state in chunk 2. -/
theorem st2_3 : (v582 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 2 3 := by
  simp only [v582, HS6_11, HS6_10, HS6_9, HS6_8]
  iterate 3 rw [View.readCov_skip _ _ _ _ _ (by decide)]
  rw [View.readCov_cons_toLoadRect]
  refine Eq.trans ?_ (St_succ ..).symm
  simp only [r_37, r_38, r_39, v448, v428, v431, hs4, hs2, hs3, st1_3]
  simp (disch := decide) only [View.readCov_fill, ld_ini']
  exact stp_ld _ _ 1 3 64 192 120 rfl rfl rfl (by decide) (by decide) _

/-- Head 0's state in chunk 3. -/
theorem st3_0 : (v623 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 3 0 := by
  simp only [v623, HS6_12, HS6_11, HS6_10, HS6_9]
  iterate 3 rw [View.readCov_skip _ _ _ _ _ (by decide)]
  rw [View.readCov_cons_toLoadRect]
  refine Eq.trans ?_ (St_succ ..).symm
  simp only [r_42, r_43, r_44, v489, v469, v472, hs4, hs2, hs3, st2_0]
  simp (disch := decide) only [View.readCov_fill, ld_ini']
  exact stp_ld _ _ 2 0 128 0 184 rfl rfl rfl (by decide) (by decide) _

/-- Head 1's state in chunk 3. -/
theorem st3_1 : (v659 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 3 1 := by
  simp only [v659, HS6_13, HS6_12, HS6_11, HS6_10]
  iterate 3 rw [View.readCov_skip _ _ _ _ _ (by decide)]
  rw [View.readCov_cons_toLoadRect]
  refine Eq.trans ?_ (St_succ ..).symm
  simp only [r_47, r_48, r_49, v525, v505, v508, hs4, hs2, hs3, st2_1]
  simp (disch := decide) only [View.readCov_fill, ld_ini']
  exact stp_ld _ _ 2 1 128 64 184 rfl rfl rfl (by decide) (by decide) _

/-- Head 2's state in chunk 3. -/
theorem st3_2 : (v695 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 3 2 := by
  simp only [v695, HS6_14, HS6_13, HS6_12, HS6_11]
  iterate 3 rw [View.readCov_skip _ _ _ _ _ (by decide)]
  rw [View.readCov_cons_toLoadRect]
  refine Eq.trans ?_ (St_succ ..).symm
  simp only [r_51, r_52, r_53, v561, v541, v544, hs4, hs2, hs3, st2_2]
  simp (disch := decide) only [View.readCov_fill, ld_ini']
  exact stp_ld _ _ 2 2 128 128 184 rfl rfl rfl (by decide) (by decide) _

/-- Head 3's state in chunk 3. -/
theorem st3_3 : (v731 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 3 3 := by
  simp only [v731, HS6_15, HS6_14, HS6_13, HS6_12]
  iterate 3 rw [View.readCov_skip _ _ _ _ _ (by decide)]
  rw [View.readCov_cons_toLoadRect]
  refine Eq.trans ?_ (St_succ ..).symm
  simp only [r_54, r_55, r_56, cst_201, v577, v580, v597, hs2, hs3, hs4, st2_3]
  simp (disch := decide) only [View.readCov_fill, ld_ini']
  exact stp_ld _ _ 2 3 128 192 184 rfl rfl rfl (by decide) (by decide) _

/-- Head 0's state in chunk 4. -/
theorem st4_0 : (v772 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 4 0 := by
  simp only [v772, HS6_16, HS6_15, HS6_14, HS6_13]
  iterate 3 rw [View.readCov_skip _ _ _ _ _ (by decide)]
  rw [View.readCov_cons_toLoadRect]
  refine Eq.trans ?_ (St_succ ..).symm
  simp only [r_57, r_58, r_59, v638, v618, v621, hs4, hs2, hs3, st3_0]
  simp (disch := decide) only [View.readCov_fill, ld_ini']
  exact stp_ld _ _ 3 0 192 0 248 rfl rfl rfl (by decide) (by decide) _

/-- Head 1's state in chunk 4. -/
theorem st4_1 : (v808 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 4 1 := by
  simp only [v808, HS6_17, HS6_16, HS6_15, HS6_14]
  iterate 3 rw [View.readCov_skip _ _ _ _ _ (by decide)]
  rw [View.readCov_cons_toLoadRect]
  refine Eq.trans ?_ (St_succ ..).symm
  simp only [r_60, r_61, v674, v654, v657, hs4, hs2, hs3, st3_1]
  simp (disch := decide) only [View.readCov_fill, ld_ini']
  exact stp_ld _ _ 3 1 192 64 248 rfl rfl rfl (by decide) (by decide) _

/-- Head 2's state in chunk 4. -/
theorem st4_2 : (v844 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 4 2 := by
  simp only [v844, HS6_18, HS6_17, HS6_16, HS6_15]
  iterate 3 rw [View.readCov_skip _ _ _ _ _ (by decide)]
  rw [View.readCov_cons_toLoadRect]
  refine Eq.trans ?_ (St_succ ..).symm
  simp only [r_62, v690, v693, v710, hs2, hs3, hs4, st3_2]
  simp (disch := decide) only [View.readCov_fill, ld_ini']
  exact stp_ld _ _ 3 2 192 128 248 rfl rfl rfl (by decide) (by decide) _

/-- Head 3's state in chunk 4. -/
theorem st4_3 : (v880 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 4 3 := by
  simp only [v880, HS6_19, HS6_18, HS6_17, HS6_16]
  iterate 3 rw [View.readCov_skip _ _ _ _ _ (by decide)]
  rw [View.readCov_cons_toLoadRect]
  refine Eq.trans ?_ (St_succ ..).symm
  simp only [v726, v729, v746, hs2, hs3, hs4, st3_3]
  simp (disch := decide) only [View.readCov_fill, ld_ini']
  exact stp_ld _ _ 3 3 192 192 248 rfl rfl rfl (by decide) (by decide) _

/-- Head 0's state in chunk 5. -/
theorem st5_0 : (v921 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 5 0 := by
  simp only [v921, HS6_20, HS6_19, HS6_18, HS6_17]
  iterate 3 rw [View.readCov_skip _ _ _ _ _ (by decide)]
  rw [View.readCov_cons_toLoadRect]
  refine Eq.trans ?_ (St_succ ..).symm
  simp only [r_63, v767, v770, v787, hs2, hs3, hs4, st4_0]
  simp (disch := decide) only [View.readCov_fill, ld_ini']
  exact stp_ld _ _ 4 0 256 0 312 rfl rfl rfl (by decide) (by decide) _

/-- Head 1's state in chunk 5. -/
theorem st5_1 : (v957 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 5 1 := by
  simp only [v957, HS6_21, HS6_20, HS6_19, HS6_18]
  iterate 3 rw [View.readCov_skip _ _ _ _ _ (by decide)]
  rw [View.readCov_cons_toLoadRect]
  refine Eq.trans ?_ (St_succ ..).symm
  simp only [v803, v806, v823, hs2, hs3, hs4, st4_1]
  simp (disch := decide) only [View.readCov_fill, ld_ini']
  exact stp_ld _ _ 4 1 256 64 312 rfl rfl rfl (by decide) (by decide) _

/-- Head 2's state in chunk 5. -/
theorem st5_2 : (v993 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 5 2 := by
  simp only [v993, HS6_22, HS6_21, HS6_20, HS6_19]
  iterate 3 rw [View.readCov_skip _ _ _ _ _ (by decide)]
  rw [View.readCov_cons_toLoadRect]
  refine Eq.trans ?_ (St_succ ..).symm
  simp only [v839, v842, v859, hs2, hs3, hs4, st4_2]
  simp (disch := decide) only [View.readCov_fill, ld_ini']
  exact stp_ld _ _ 4 2 256 128 312 rfl rfl rfl (by decide) (by decide) _

/-- Head 3's state in chunk 5. -/
theorem st5_3 : (v1029 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 5 3 := by
  simp only [v1029, HS6_23, HS6_22, HS6_21, HS6_20]
  iterate 3 rw [View.readCov_skip _ _ _ _ _ (by decide)]
  rw [View.readCov_cons_toLoadRect]
  refine Eq.trans ?_ (St_succ ..).symm
  simp only [v875, v878, v895, hs2, hs3, hs4, st4_3]
  simp (disch := decide) only [View.readCov_fill, ld_ini']
  exact stp_ld _ _ 4 3 256 192 312 rfl rfl rfl (by decide) (by decide) _

/-- Head 0's state in chunk 6. -/
theorem st6_0 : (v1070 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 6 0 := by
  simp only [v1070, HS6_24, HS6_23, HS6_22, HS6_21]
  iterate 3 rw [View.readCov_skip _ _ _ _ _ (by decide)]
  rw [View.readCov_cons_toLoadRect]
  refine Eq.trans ?_ (St_succ ..).symm
  simp only [v916, v919, v936, hs2, hs3, hs4, st5_0]
  simp (disch := decide) only [View.readCov_fill, ld_ini']
  exact stp_ld _ _ 5 0 320 0 376 rfl rfl rfl (by decide) (by decide) _

/-- Head 1's state in chunk 6. -/
theorem st6_1 : (v1106 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 6 1 := by
  simp only [v1106, HS6_25, HS6_24, HS6_23, HS6_22]
  iterate 3 rw [View.readCov_skip _ _ _ _ _ (by decide)]
  rw [View.readCov_cons_toLoadRect]
  refine Eq.trans ?_ (St_succ ..).symm
  simp only [v952, v955, v972, hs2, hs3, hs4, st5_1]
  simp (disch := decide) only [View.readCov_fill, ld_ini']
  exact stp_ld _ _ 5 1 320 64 376 rfl rfl rfl (by decide) (by decide) _

/-- Head 2's state in chunk 6. -/
theorem st6_2 : (v1142 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 6 2 := by
  simp only [v1142, HS6_26, HS6_25, HS6_24, HS6_23]
  iterate 3 rw [View.readCov_skip _ _ _ _ _ (by decide)]
  rw [View.readCov_cons_toLoadRect]
  refine Eq.trans ?_ (St_succ ..).symm
  simp only [r_71, v991, v1008, v988, hs3, hs4, hs2, st5_2]
  simp (disch := decide) only [View.readCov_fill, ld_ini']
  exact stp_ld _ _ 5 2 320 128 376 rfl rfl rfl (by decide) (by decide) _

/-- Head 3's state in chunk 6. -/
theorem st6_3 : (v1178 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 6 3 := by
  simp only [v1178, HS6_27, HS6_26, HS6_25, HS6_24]
  iterate 3 rw [View.readCov_skip _ _ _ _ _ (by decide)]
  rw [View.readCov_cons_toLoadRect]
  refine Eq.trans ?_ (St_succ ..).symm
  simp only [r_74, r_75, v1044, v1024, v1027, hs4, hs2, hs3, st5_3]
  simp (disch := decide) only [View.readCov_fill, ld_ini']
  exact stp_ld _ _ 5 3 320 192 376 rfl rfl rfl (by decide) (by decide) _

/-- Head 0's state in chunk 7. -/
theorem st7_0 : (v1219 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 7 0 := by
  simp only [v1219, HS6_28, HS6_27, HS6_26, HS6_25]
  iterate 3 rw [View.readCov_skip _ _ _ _ _ (by decide)]
  rw [View.readCov_cons_toLoadRect]
  refine Eq.trans ?_ (St_succ ..).symm
  simp only [r_78, v1068, v1085, v1065, hs3, hs4, hs2, st6_0]
  simp (disch := decide) only [View.readCov_fill, ld_ini']
  exact stp_ld _ _ 6 0 384 0 440 rfl rfl rfl (by decide) (by decide) _

/-- Head 1's state in chunk 7. -/
theorem st7_1 : (v1255 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 7 1 := by
  simp only [v1255, HS6_29, HS6_28, HS6_27, HS6_26]
  iterate 3 rw [View.readCov_skip _ _ _ _ _ (by decide)]
  rw [View.readCov_cons_toLoadRect]
  refine Eq.trans ?_ (St_succ ..).symm
  simp only [r_81, r_82, v1121, v1101, v1104, hs4, hs2, hs3, st6_1]
  simp (disch := decide) only [View.readCov_fill, ld_ini']
  exact stp_ld _ _ 6 1 384 64 440 rfl rfl rfl (by decide) (by decide) _

/-- Head 2's state in chunk 7. -/
theorem st7_2 : (v1291 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 7 2 := by
  simp only [v1291, HS6_30, HS6_29, HS6_28, HS6_27]
  iterate 3 rw [View.readCov_skip _ _ _ _ _ (by decide)]
  rw [View.readCov_cons_toLoadRect]
  refine Eq.trans ?_ (St_succ ..).symm
  simp only [r_84, r_85, r_86, v1157, v1137, v1140, hs4, hs2, hs3, st6_2]
  simp (disch := decide) only [View.readCov_fill, ld_ini']
  exact stp_ld _ _ 6 2 384 128 440 rfl rfl rfl (by decide) (by decide) _

/-- Head 3's state in chunk 7. -/
theorem st7_3 : (v1327 c arg1 harg1 arg2 harg2 arg3 harg3 arg4 harg4 arg5 harg5 arg10 arg11 arg12 arg14 harg14 x0 x1 x2 x3 x4 xs6) = St (k0_pay3 x0 x1 x2) (k0_pay5 (k0_pay4 x0 x1 x2 x3 x4)) xs6 7 3 := by
  simp only [v1327, HS6_31, HS6_30, HS6_29, HS6_28]
  iterate 3 rw [View.readCov_skip _ _ _ _ _ (by decide)]
  rw [View.readCov_cons_toLoadRect]
  refine Eq.trans ?_ (St_succ ..).symm
  simp only [r_89, r_90, r_91, v1193, v1173, v1176, hs4, hs2, hs3, st6_3]
  simp (disch := decide) only [View.readCov_fill, ld_ini']
  exact stp_ld _ _ 6 3 384 192 440 rfl rfl rfl (by decide) (by decide) _

/-- The output of head 3 in chunk 7. -/
theorem o7_3 : k0_pay221 k0_pay21 (v1316 c arg1 harg1 arg2 harg2 arg3 harg3 arg4 harg4 arg5 harg5 arg8 x0 x1 x2 x3 x4) (v1319 c arg1 harg1 arg2 harg2 arg3 harg3 arg4 harg4 arg5 harg5 arg9 x0 x1 x2 x3 x4) (v1325 c arg1 harg1 arg2 harg2 arg3 harg3 arg11 x0 x1 x2) (v1327 c arg1 harg1 arg2 harg2 arg3 harg3 arg4 harg4 arg5 harg5 arg10 arg11 arg12 arg14 harg14 x0 x1 x2 x3 x4 xs6) = uo (k0_pay3 x0 x1 x2) (k0_pay5 (k0_pay4 x0 x1 x2 x3 x4)) 7 3 (St (k0_pay3 x0 x1 x2) (k0_pay5 (k0_pay4 x0 x1 x2 x3 x4)) xs6 7 3) := by
  simp only [v1316, v1319, v1325, hs0, hs1, hs3, st7_3]
  simp (disch := decide) only [View.readCov_fill, ld_ini']
  exact uo_ld (k0_pay3 x0 x1 x2) (k0_pay5 (k0_pay4 x0 x1 x2 x3 x4)) 7 3 448 192 rfl rfl (by decide) _

/-- The output of head 2 in chunk 7. -/
theorem o7_2 : k0_pay216 (r_108 c arg1 harg1 arg2 harg2 arg3 harg3 arg4 harg4 arg5 harg5 arg8 arg9 arg10 arg11 arg12 arg14 harg14 x0 x1 x2 x3 x4 xs6) = uo (k0_pay3 x0 x1 x2) (k0_pay5 (k0_pay4 x0 x1 x2 x3 x4)) 7 2 (St (k0_pay3 x0 x1 x2) (k0_pay5 (k0_pay4 x0 x1 x2 x3 x4)) xs6 7 2) := by
  simp only [r_108, v1280, v1283, v1289, hs0, hs1, hs3, st7_2]
  simp (disch := decide) only [View.readCov_fill, ld_ini']
  exact uo_ld (k0_pay3 x0 x1 x2) (k0_pay5 (k0_pay4 x0 x1 x2 x3 x4)) 7 2 448 128 rfl rfl (by decide) _

/-- The output of head 1 in chunk 7. -/
theorem o7_1 : k0_pay210 (r_99 c arg1 harg1 arg2 harg2 arg3 harg3 arg4 harg4 arg5 harg5 arg8 x0 x1 x2 x3 x4) (r_103 c arg1 harg1 arg2 harg2 arg3 harg3 arg4 harg4 arg5 harg5 arg8 arg9 arg11 x0 x1 x2 x3 x4) (r_104 c arg1 harg1 arg2 harg2 arg3 harg3 arg4 harg4 arg5 harg5 arg10 arg11 arg12 arg14 harg14 x0 x1 x2 x3 x4 xs6) cst_201 = uo (k0_pay3 x0 x1 x2) (k0_pay5 (k0_pay4 x0 x1 x2 x3 x4)) 7 1 (St (k0_pay3 x0 x1 x2) (k0_pay5 (k0_pay4 x0 x1 x2 x3 x4)) xs6 7 1) := by
  simp only [r_99, r_103, r_104, cst_201, v1244, v1247, v1253, hs0, hs1, hs3, st7_1]
  simp (disch := decide) only [View.readCov_fill, ld_ini']
  exact uo_ld (k0_pay3 x0 x1 x2) (k0_pay5 (k0_pay4 x0 x1 x2 x3 x4)) 7 1 448 64 rfl rfl (by decide) _

/-- The output of head 0 in chunk 7. -/
theorem o7_0 : k0_pay202 (r_94 c arg1 harg1 arg2 harg2 arg3 harg3 arg4 harg4 arg5 harg5 arg8 x0 x1 x2 x3 x4) (r_96 c arg1 harg1 arg2 harg2 arg3 harg3 arg11 x0 x1 x2) (r_97 c arg1 harg1 arg2 harg2 arg3 harg3 arg4 harg4 arg5 harg5 arg10 arg11 arg12 arg14 harg14 x0 x1 x2 x3 x4 xs6) (r_98 c arg1 harg1 arg2 harg2 arg3 harg3 arg4 harg4 arg5 harg5 arg8 arg9 x0 x1 x2 x3 x4) = uo (k0_pay3 x0 x1 x2) (k0_pay5 (k0_pay4 x0 x1 x2 x3 x4)) 7 0 (St (k0_pay3 x0 x1 x2) (k0_pay5 (k0_pay4 x0 x1 x2 x3 x4)) xs6 7 0) := by
  simp only [r_94, r_96, r_97, r_98, v1208, v1217, v1211, hs0, hs3, hs1, st7_0]
  simp (disch := decide) only [View.readCov_fill, ld_ini']
  exact uo_ld (k0_pay3 x0 x1 x2) (k0_pay5 (k0_pay4 x0 x1 x2 x3 x4)) 7 0 448 0 rfl rfl (by decide) _

/-- The output of head 3 in chunk 6. -/
theorem o6_3 : k0_pay195 (r_88 c arg1 harg1 arg2 harg2 arg3 harg3 arg4 harg4 arg5 harg5 arg8 x0 x1 x2 x3 x4) (r_92 c arg1 harg1 arg2 harg2 arg3 harg3 arg4 harg4 arg5 harg5 arg8 arg9 arg11 x0 x1 x2 x3 x4) (r_93 c arg1 harg1 arg2 harg2 arg3 harg3 arg4 harg4 arg5 harg5 arg10 arg11 arg12 arg14 harg14 x0 x1 x2 x3 x4 xs6) = uo (k0_pay3 x0 x1 x2) (k0_pay5 (k0_pay4 x0 x1 x2 x3 x4)) 6 3 (St (k0_pay3 x0 x1 x2) (k0_pay5 (k0_pay4 x0 x1 x2 x3 x4)) xs6 6 3) := by
  simp only [r_88, r_92, r_93, v1167, v1170, v1176, hs0, hs1, hs3, st6_3]
  simp (disch := decide) only [View.readCov_fill, ld_ini']
  exact uo_ld (k0_pay3 x0 x1 x2) (k0_pay5 (k0_pay4 x0 x1 x2 x3 x4)) 6 3 384 192 rfl rfl (by decide) _

/-- The output of head 2 in chunk 6. -/
theorem o6_2 : k0_pay187 k0_pay21 (r_83 c arg1 harg1 arg2 harg2 arg3 harg3 arg4 harg4 arg5 harg5 arg8 x0 x1 x2 x3 x4) (r_85 c arg1 harg1 arg2 harg2 arg3 harg3 arg11 x0 x1 x2) (r_86 c arg1 harg1 arg2 harg2 arg3 harg3 arg4 harg4 arg5 harg5 arg10 arg11 arg12 arg14 harg14 x0 x1 x2 x3 x4 xs6) (r_87 c arg1 harg1 arg2 harg2 arg3 harg3 arg4 harg4 arg5 harg5 arg8 arg9 x0 x1 x2 x3 x4) k0_pay186 = uo (k0_pay3 x0 x1 x2) (k0_pay5 (k0_pay4 x0 x1 x2 x3 x4)) 6 2 (St (k0_pay3 x0 x1 x2) (k0_pay5 (k0_pay4 x0 x1 x2 x3 x4)) xs6 6 2) := by
  simp only [r_83, r_85, r_86, r_87, v1131, v1140, v1134, hs0, hs3, hs1, st6_2]
  simp (disch := decide) only [View.readCov_fill, ld_ini']
  exact uo_ld (k0_pay3 x0 x1 x2) (k0_pay5 (k0_pay4 x0 x1 x2 x3 x4)) 6 2 384 128 rfl rfl (by decide) _

/-- The output of head 1 in chunk 6. -/
theorem o6_1 : k0_pay179 k0_pay21 (r_79 c arg1 harg1 arg2 harg2 arg3 harg3 arg4 harg4 arg5 harg5 arg8 x0 x1 x2 x3 x4) (r_80 c arg1 harg1 arg2 harg2 arg3 harg3 arg4 harg4 arg5 harg5 arg9 x0 x1 x2 x3 x4) (r_82 c arg1 harg1 arg2 harg2 arg3 harg3 arg11 x0 x1 x2) (v1106 c arg1 harg1 arg2 harg2 arg3 harg3 arg4 harg4 arg5 harg5 arg10 arg11 arg12 arg14 harg14 x0 x1 x2 x3 x4 xs6) = uo (k0_pay3 x0 x1 x2) (k0_pay5 (k0_pay4 x0 x1 x2 x3 x4)) 6 1 (St (k0_pay3 x0 x1 x2) (k0_pay5 (k0_pay4 x0 x1 x2 x3 x4)) xs6 6 1) := by
  simp only [r_79, r_80, r_82, v1095, v1098, v1104, hs0, hs1, hs3, st6_1]
  simp (disch := decide) only [View.readCov_fill, ld_ini']
  exact uo_ld (k0_pay3 x0 x1 x2) (k0_pay5 (k0_pay4 x0 x1 x2 x3 x4)) 6 1 384 64 rfl rfl (by decide) _

/-- The output of head 0 in chunk 6. -/
theorem o6_0 : k0_pay172 k0_pay21 (r_76 c arg1 harg1 arg2 harg2 arg3 harg3 arg4 harg4 arg5 harg5 arg8 x0 x1 x2 x3 x4) (r_77 c arg1 harg1 arg2 harg2 arg3 harg3 arg4 harg4 arg5 harg5 arg9 x0 x1 x2 x3 x4) (v1068 c arg1 harg1 arg2 harg2 arg3 harg3 arg11 x0 x1 x2) (v1070 c arg1 harg1 arg2 harg2 arg3 harg3 arg4 harg4 arg5 harg5 arg10 arg11 arg12 arg14 harg14 x0 x1 x2 x3 x4 xs6) = uo (k0_pay3 x0 x1 x2) (k0_pay5 (k0_pay4 x0 x1 x2 x3 x4)) 6 0 (St (k0_pay3 x0 x1 x2) (k0_pay5 (k0_pay4 x0 x1 x2 x3 x4)) xs6 6 0) := by
  simp only [r_76, r_77, v1068, v1059, v1062, hs3, hs0, hs1, st6_0]
  simp (disch := decide) only [View.readCov_fill, ld_ini']
  exact uo_ld (k0_pay3 x0 x1 x2) (k0_pay5 (k0_pay4 x0 x1 x2 x3 x4)) 6 0 384 0 rfl rfl (by decide) _

/-- The output of head 3 in chunk 5. -/
theorem o5_3 : k0_pay165 k0_pay21 (r_72 c arg1 harg1 arg2 harg2 arg3 harg3 arg4 harg4 arg5 harg5 arg8 x0 x1 x2 x3 x4) (r_73 c arg1 harg1 arg2 harg2 arg3 harg3 arg4 harg4 arg5 harg5 arg9 x0 x1 x2 x3 x4) (r_75 c arg1 harg1 arg2 harg2 arg3 harg3 arg11 x0 x1 x2) (v1029 c arg1 harg1 arg2 harg2 arg3 harg3 arg4 harg4 arg5 harg5 arg10 arg11 arg12 arg14 harg14 x0 x1 x2 x3 x4 xs6) = uo (k0_pay3 x0 x1 x2) (k0_pay5 (k0_pay4 x0 x1 x2 x3 x4)) 5 3 (St (k0_pay3 x0 x1 x2) (k0_pay5 (k0_pay4 x0 x1 x2 x3 x4)) xs6 5 3) := by
  simp only [r_72, r_73, r_75, v1018, v1021, v1027, hs0, hs1, hs3, st5_3]
  simp (disch := decide) only [View.readCov_fill, ld_ini']
  exact uo_ld (k0_pay3 x0 x1 x2) (k0_pay5 (k0_pay4 x0 x1 x2 x3 x4)) 5 3 320 192 rfl rfl (by decide) _

/-- The output of head 2 in chunk 5. -/
theorem o5_2 : k0_pay158 k0_pay21 (r_69 c arg1 harg1 arg2 harg2 arg3 harg3 arg4 harg4 arg5 harg5 arg8 x0 x1 x2 x3 x4) (r_70 c arg1 harg1 arg2 harg2 arg3 harg3 arg4 harg4 arg5 harg5 arg9 x0 x1 x2 x3 x4) (v991 c arg1 harg1 arg2 harg2 arg3 harg3 arg11 x0 x1 x2) (v993 c arg1 harg1 arg2 harg2 arg3 harg3 arg4 harg4 arg5 harg5 arg10 arg11 arg12 arg14 harg14 x0 x1 x2 x3 x4 xs6) = uo (k0_pay3 x0 x1 x2) (k0_pay5 (k0_pay4 x0 x1 x2 x3 x4)) 5 2 (St (k0_pay3 x0 x1 x2) (k0_pay5 (k0_pay4 x0 x1 x2 x3 x4)) xs6 5 2) := by
  simp only [r_69, r_70, v991, v982, v985, hs3, hs0, hs1, st5_2]
  simp (disch := decide) only [View.readCov_fill, ld_ini']
  exact uo_ld (k0_pay3 x0 x1 x2) (k0_pay5 (k0_pay4 x0 x1 x2 x3 x4)) 5 2 320 128 rfl rfl (by decide) _

/-- The output of head 1 in chunk 5. -/
theorem o5_1 : k0_pay151 k0_pay21 (r_67 c arg1 harg1 arg2 harg2 arg3 harg3 arg4 harg4 arg5 harg5 arg8 x0 x1 x2 x3 x4) (r_68 c arg1 harg1 arg2 harg2 arg3 harg3 arg4 harg4 arg5 harg5 arg9 x0 x1 x2 x3 x4) (v955 c arg1 harg1 arg2 harg2 arg3 harg3 arg11 x0 x1 x2) (v957 c arg1 harg1 arg2 harg2 arg3 harg3 arg4 harg4 arg5 harg5 arg10 arg11 arg12 arg14 harg14 x0 x1 x2 x3 x4 xs6) = uo (k0_pay3 x0 x1 x2) (k0_pay5 (k0_pay4 x0 x1 x2 x3 x4)) 5 1 (St (k0_pay3 x0 x1 x2) (k0_pay5 (k0_pay4 x0 x1 x2 x3 x4)) xs6 5 1) := by
  simp only [r_67, r_68, v955, v946, v949, hs3, hs0, hs1, st5_1]
  simp (disch := decide) only [View.readCov_fill, ld_ini']
  exact uo_ld (k0_pay3 x0 x1 x2) (k0_pay5 (k0_pay4 x0 x1 x2 x3 x4)) 5 1 320 64 rfl rfl (by decide) _

/-- The output of head 0 in chunk 5. -/
theorem o5_0 : k0_pay145 k0_pay21 (r_66 c arg1 harg1 arg2 harg2 arg3 harg3 arg4 harg4 arg5 harg5 arg8 x0 x1 x2 x3 x4) (v913 c arg1 harg1 arg2 harg2 arg3 harg3 arg4 harg4 arg5 harg5 arg9 x0 x1 x2 x3 x4) (v919 c arg1 harg1 arg2 harg2 arg3 harg3 arg11 x0 x1 x2) (v921 c arg1 harg1 arg2 harg2 arg3 harg3 arg4 harg4 arg5 harg5 arg10 arg11 arg12 arg14 harg14 x0 x1 x2 x3 x4 xs6) = uo (k0_pay3 x0 x1 x2) (k0_pay5 (k0_pay4 x0 x1 x2 x3 x4)) 5 0 (St (k0_pay3 x0 x1 x2) (k0_pay5 (k0_pay4 x0 x1 x2 x3 x4)) xs6 5 0) := by
  simp only [r_66, v913, v919, v910, hs1, hs3, hs0, st5_0]
  simp (disch := decide) only [View.readCov_fill, ld_ini']
  exact uo_ld (k0_pay3 x0 x1 x2) (k0_pay5 (k0_pay4 x0 x1 x2 x3 x4)) 5 0 320 0 rfl rfl (by decide) _

/-- The output of head 3 in chunk 4. -/
theorem o4_3 : k0_pay140 k0_pay21 (r_64 c arg1 harg1 arg2 harg2 arg3 harg3 arg4 harg4 arg5 harg5 arg8 x0 x1 x2 x3 x4) (r_65 c arg1 harg1 arg2 harg2 arg3 harg3 arg4 harg4 arg5 harg5 arg9 x0 x1 x2 x3 x4) (v878 c arg1 harg1 arg2 harg2 arg3 harg3 arg11 x0 x1 x2) (v880 c arg1 harg1 arg2 harg2 arg3 harg3 arg4 harg4 arg5 harg5 arg10 arg11 arg12 arg14 harg14 x0 x1 x2 x3 x4 xs6) = uo (k0_pay3 x0 x1 x2) (k0_pay5 (k0_pay4 x0 x1 x2 x3 x4)) 4 3 (St (k0_pay3 x0 x1 x2) (k0_pay5 (k0_pay4 x0 x1 x2 x3 x4)) xs6 4 3) := by
  simp only [r_64, r_65, v878, v869, v872, hs3, hs0, hs1, st4_3]
  simp (disch := decide) only [View.readCov_fill, ld_ini']
  exact uo_ld (k0_pay3 x0 x1 x2) (k0_pay5 (k0_pay4 x0 x1 x2 x3 x4)) 4 3 256 192 rfl rfl (by decide) _

/-- The output of head 2 in chunk 4. -/
theorem o4_2 : k0_pay134 k0_pay21 (v c arg1 harg1 arg2 harg2 arg3 harg3 arg4 harg4 arg5 harg5 arg8 x0 x1 x2 x3 x4) (v836 c arg1 harg1 arg2 harg2 arg3 harg3 arg4 harg4 arg5 harg5 arg9 x0 x1 x2 x3 x4) (v842 c arg1 harg1 arg2 harg2 arg3 harg3 arg11 x0 x1 x2) (v844 c arg1 harg1 arg2 harg2 arg3 harg3 arg4 harg4 arg5 harg5 arg10 arg11 arg12 arg14 harg14 x0 x1 x2 x3 x4 xs6) = uo (k0_pay3 x0 x1 x2) (k0_pay5 (k0_pay4 x0 x1 x2 x3 x4)) 4 2 (St (k0_pay3 x0 x1 x2) (k0_pay5 (k0_pay4 x0 x1 x2 x3 x4)) xs6 4 2) := by
  simp only [v, v836, v842, hs0, hs1, hs3, st4_2]
  simp (disch := decide) only [View.readCov_fill, ld_ini']
  exact uo_ld (k0_pay3 x0 x1 x2) (k0_pay5 (k0_pay4 x0 x1 x2 x3 x4)) 4 2 256 128 rfl rfl (by decide) _

/-- The output of head 1 in chunk 4. -/
theorem o4_1 : k0_pay130 k0_pay21 (v797 c arg1 harg1 arg2 harg2 arg3 harg3 arg4 harg4 arg5 harg5 arg8 x0 x1 x2 x3 x4) (v800 c arg1 harg1 arg2 harg2 arg3 harg3 arg4 harg4 arg5 harg5 arg9 x0 x1 x2 x3 x4) (v806 c arg1 harg1 arg2 harg2 arg3 harg3 arg11 x0 x1 x2) (v808 c arg1 harg1 arg2 harg2 arg3 harg3 arg4 harg4 arg5 harg5 arg10 arg11 arg12 arg14 harg14 x0 x1 x2 x3 x4 xs6) = uo (k0_pay3 x0 x1 x2) (k0_pay5 (k0_pay4 x0 x1 x2 x3 x4)) 4 1 (St (k0_pay3 x0 x1 x2) (k0_pay5 (k0_pay4 x0 x1 x2 x3 x4)) xs6 4 1) := by
  simp only [v797, v800, v806, hs0, hs1, hs3, st4_1]
  simp (disch := decide) only [View.readCov_fill, ld_ini']
  exact uo_ld (k0_pay3 x0 x1 x2) (k0_pay5 (k0_pay4 x0 x1 x2 x3 x4)) 4 1 256 64 rfl rfl (by decide) _

/-- The output of head 0 in chunk 4. -/
theorem o4_0 : k0_pay125 k0_pay21 (v761 c arg1 harg1 arg2 harg2 arg3 harg3 arg4 harg4 arg5 harg5 arg8 x0 x1 x2 x3 x4) (v764 c arg1 harg1 arg2 harg2 arg3 harg3 arg4 harg4 arg5 harg5 arg9 x0 x1 x2 x3 x4) (v770 c arg1 harg1 arg2 harg2 arg3 harg3 arg11 x0 x1 x2) (v772 c arg1 harg1 arg2 harg2 arg3 harg3 arg4 harg4 arg5 harg5 arg10 arg11 arg12 arg14 harg14 x0 x1 x2 x3 x4 xs6) = uo (k0_pay3 x0 x1 x2) (k0_pay5 (k0_pay4 x0 x1 x2 x3 x4)) 4 0 (St (k0_pay3 x0 x1 x2) (k0_pay5 (k0_pay4 x0 x1 x2 x3 x4)) xs6 4 0) := by
  simp only [v761, v764, v770, hs0, hs1, hs3, st4_0]
  simp (disch := decide) only [View.readCov_fill, ld_ini']
  exact uo_ld (k0_pay3 x0 x1 x2) (k0_pay5 (k0_pay4 x0 x1 x2 x3 x4)) 4 0 256 0 rfl rfl (by decide) _

/-- The output of head 3 in chunk 3. -/
theorem o3_3 : k0_pay121 k0_pay21 (v720 c arg1 harg1 arg2 harg2 arg3 harg3 arg4 harg4 arg5 harg5 arg8 x0 x1 x2 x3 x4) (v723 c arg1 harg1 arg2 harg2 arg3 harg3 arg4 harg4 arg5 harg5 arg9 x0 x1 x2 x3 x4) (v729 c arg1 harg1 arg2 harg2 arg3 harg3 arg11 x0 x1 x2) (v731 c arg1 harg1 arg2 harg2 arg3 harg3 arg4 harg4 arg5 harg5 arg10 arg11 arg12 arg14 harg14 x0 x1 x2 x3 x4 xs6) = uo (k0_pay3 x0 x1 x2) (k0_pay5 (k0_pay4 x0 x1 x2 x3 x4)) 3 3 (St (k0_pay3 x0 x1 x2) (k0_pay5 (k0_pay4 x0 x1 x2 x3 x4)) xs6 3 3) := by
  simp only [v720, v723, v729, hs0, hs1, hs3, st3_3]
  simp (disch := decide) only [View.readCov_fill, ld_ini']
  exact uo_ld (k0_pay3 x0 x1 x2) (k0_pay5 (k0_pay4 x0 x1 x2 x3 x4)) 3 3 192 192 rfl rfl (by decide) _

/-- The output of head 2 in chunk 3. -/
theorem o3_2 : k0_pay116 k0_pay21 (v684 c arg1 harg1 arg2 harg2 arg3 harg3 arg4 harg4 arg5 harg5 arg8 x0 x1 x2 x3 x4) (v687 c arg1 harg1 arg2 harg2 arg3 harg3 arg4 harg4 arg5 harg5 arg9 x0 x1 x2 x3 x4) (v693 c arg1 harg1 arg2 harg2 arg3 harg3 arg11 x0 x1 x2) (v695 c arg1 harg1 arg2 harg2 arg3 harg3 arg4 harg4 arg5 harg5 arg10 arg11 arg12 arg14 harg14 x0 x1 x2 x3 x4 xs6) = uo (k0_pay3 x0 x1 x2) (k0_pay5 (k0_pay4 x0 x1 x2 x3 x4)) 3 2 (St (k0_pay3 x0 x1 x2) (k0_pay5 (k0_pay4 x0 x1 x2 x3 x4)) xs6 3 2) := by
  simp only [v684, v687, v693, hs0, hs1, hs3, st3_2]
  simp (disch := decide) only [View.readCov_fill, ld_ini']
  exact uo_ld (k0_pay3 x0 x1 x2) (k0_pay5 (k0_pay4 x0 x1 x2 x3 x4)) 3 2 192 128 rfl rfl (by decide) _

/-- The output of head 1 in chunk 3. -/
theorem o3_1 : k0_pay110 k0_pay21 (v648 c arg1 harg1 arg2 harg2 arg3 harg3 arg4 harg4 arg5 harg5 arg8 x0 x1 x2 x3 x4) (v651 c arg1 harg1 arg2 harg2 arg3 harg3 arg4 harg4 arg5 harg5 arg9 x0 x1 x2 x3 x4) (v657 c arg1 harg1 arg2 harg2 arg3 harg3 arg11 x0 x1 x2) (v659 c arg1 harg1 arg2 harg2 arg3 harg3 arg4 harg4 arg5 harg5 arg10 arg11 arg12 arg14 harg14 x0 x1 x2 x3 x4 xs6) = uo (k0_pay3 x0 x1 x2) (k0_pay5 (k0_pay4 x0 x1 x2 x3 x4)) 3 1 (St (k0_pay3 x0 x1 x2) (k0_pay5 (k0_pay4 x0 x1 x2 x3 x4)) xs6 3 1) := by
  simp only [v648, v651, v657, hs0, hs1, hs3, st3_1]
  simp (disch := decide) only [View.readCov_fill, ld_ini']
  exact uo_ld (k0_pay3 x0 x1 x2) (k0_pay5 (k0_pay4 x0 x1 x2 x3 x4)) 3 1 192 64 rfl rfl (by decide) _

/-- The output of head 0 in chunk 3. -/
theorem o3_0 : k0_pay106 k0_pay21 (v612 c arg1 harg1 arg2 harg2 arg3 harg3 arg4 harg4 arg5 harg5 arg8 x0 x1 x2 x3 x4) (v615 c arg1 harg1 arg2 harg2 arg3 harg3 arg4 harg4 arg5 harg5 arg9 x0 x1 x2 x3 x4) (v621 c arg1 harg1 arg2 harg2 arg3 harg3 arg11 x0 x1 x2) (v623 c arg1 harg1 arg2 harg2 arg3 harg3 arg4 harg4 arg5 harg5 arg10 arg11 arg12 arg14 harg14 x0 x1 x2 x3 x4 xs6) = uo (k0_pay3 x0 x1 x2) (k0_pay5 (k0_pay4 x0 x1 x2 x3 x4)) 3 0 (St (k0_pay3 x0 x1 x2) (k0_pay5 (k0_pay4 x0 x1 x2 x3 x4)) xs6 3 0) := by
  simp only [v612, v615, v621, hs0, hs1, hs3, st3_0]
  simp (disch := decide) only [View.readCov_fill, ld_ini']
  exact uo_ld (k0_pay3 x0 x1 x2) (k0_pay5 (k0_pay4 x0 x1 x2 x3 x4)) 3 0 192 0 rfl rfl (by decide) _

/-- The output of head 3 in chunk 2. -/
theorem o2_3 : k0_pay100 k0_pay21 (v571 c arg1 harg1 arg2 harg2 arg3 harg3 arg4 harg4 arg5 harg5 arg8 x0 x1 x2 x3 x4) (v574 c arg1 harg1 arg2 harg2 arg3 harg3 arg4 harg4 arg5 harg5 arg9 x0 x1 x2 x3 x4) (v580 c arg1 harg1 arg2 harg2 arg3 harg3 arg11 x0 x1 x2) (v582 c arg1 harg1 arg2 harg2 arg3 harg3 arg4 harg4 arg5 harg5 arg10 arg11 arg12 arg14 harg14 x0 x1 x2 x3 x4 xs6) = uo (k0_pay3 x0 x1 x2) (k0_pay5 (k0_pay4 x0 x1 x2 x3 x4)) 2 3 (St (k0_pay3 x0 x1 x2) (k0_pay5 (k0_pay4 x0 x1 x2 x3 x4)) xs6 2 3) := by
  simp only [v571, v574, v580, hs0, hs1, hs3, st2_3]
  simp (disch := decide) only [View.readCov_fill, ld_ini']
  exact uo_ld (k0_pay3 x0 x1 x2) (k0_pay5 (k0_pay4 x0 x1 x2 x3 x4)) 2 3 128 192 rfl rfl (by decide) _

/-- The output of head 2 in chunk 2. -/
theorem o2_2 : k0_pay95 k0_pay21 (v535 c arg1 harg1 arg2 harg2 arg3 harg3 arg4 harg4 arg5 harg5 arg8 x0 x1 x2 x3 x4) (v538 c arg1 harg1 arg2 harg2 arg3 harg3 arg4 harg4 arg5 harg5 arg9 x0 x1 x2 x3 x4) (v544 c arg1 harg1 arg2 harg2 arg3 harg3 arg11 x0 x1 x2) (v546 c arg1 harg1 arg2 harg2 arg3 harg3 arg4 harg4 arg5 harg5 arg10 arg11 arg12 arg14 harg14 x0 x1 x2 x3 x4 xs6) = uo (k0_pay3 x0 x1 x2) (k0_pay5 (k0_pay4 x0 x1 x2 x3 x4)) 2 2 (St (k0_pay3 x0 x1 x2) (k0_pay5 (k0_pay4 x0 x1 x2 x3 x4)) xs6 2 2) := by
  simp only [v535, v538, v544, hs0, hs1, hs3, st2_2]
  simp (disch := decide) only [View.readCov_fill, ld_ini']
  exact uo_ld (k0_pay3 x0 x1 x2) (k0_pay5 (k0_pay4 x0 x1 x2 x3 x4)) 2 2 128 128 rfl rfl (by decide) _

/-- The output of head 1 in chunk 2. -/
theorem o2_1 : k0_pay90 (r_50 c arg1 harg1 arg2 harg2 arg3 harg3 arg4 harg4 arg5 harg5 arg8 arg9 arg10 arg11 arg12 arg14 harg14 x0 x1 x2 x3 x4 xs6) = uo (k0_pay3 x0 x1 x2) (k0_pay5 (k0_pay4 x0 x1 x2 x3 x4)) 2 1 (St (k0_pay3 x0 x1 x2) (k0_pay5 (k0_pay4 x0 x1 x2 x3 x4)) xs6 2 1) := by
  simp only [r_50, v499, v502, v508, hs0, hs1, hs3, st2_1]
  simp (disch := decide) only [View.readCov_fill, ld_ini']
  exact uo_ld (k0_pay3 x0 x1 x2) (k0_pay5 (k0_pay4 x0 x1 x2 x3 x4)) 2 1 128 64 rfl rfl (by decide) _

/-- The output of head 0 in chunk 2. -/
theorem o2_0 : k0_pay84 (r_41 c arg1 harg1 arg2 harg2 arg3 harg3 arg4 harg4 arg5 harg5 arg8 x0 x1 x2 x3 x4) (r_45 c arg1 harg1 arg2 harg2 arg3 harg3 arg4 harg4 arg5 harg5 arg8 arg9 arg11 x0 x1 x2 x3 x4) (r_46 c arg1 harg1 arg2 harg2 arg3 harg3 arg4 harg4 arg5 harg5 arg10 arg11 arg12 arg14 harg14 x0 x1 x2 x3 x4 xs6) cst_201 = uo (k0_pay3 x0 x1 x2) (k0_pay5 (k0_pay4 x0 x1 x2 x3 x4)) 2 0 (St (k0_pay3 x0 x1 x2) (k0_pay5 (k0_pay4 x0 x1 x2 x3 x4)) xs6 2 0) := by
  simp only [r_41, r_45, r_46, cst_201, v463, v466, v472, hs0, hs1, hs3, st2_0]
  simp (disch := decide) only [View.readCov_fill, ld_ini']
  exact uo_ld (k0_pay3 x0 x1 x2) (k0_pay5 (k0_pay4 x0 x1 x2 x3 x4)) 2 0 128 0 rfl rfl (by decide) _

/-- The output of head 3 in chunk 1. -/
theorem o1_3 : k0_pay76 (r_40 c arg1 harg1 arg2 harg2 arg3 harg3 arg4 harg4 arg5 harg5 arg8 arg9 arg10 arg11 arg12 arg14 harg14 x0 x1 x2 x3 x4 xs6) = uo (k0_pay3 x0 x1 x2) (k0_pay5 (k0_pay4 x0 x1 x2 x3 x4)) 1 3 (St (k0_pay3 x0 x1 x2) (k0_pay5 (k0_pay4 x0 x1 x2 x3 x4)) xs6 1 3) := by
  simp only [r_40, v422, v425, v431, hs0, hs1, hs3, st1_3]
  simp (disch := decide) only [View.readCov_fill, ld_ini']
  exact uo_ld (k0_pay3 x0 x1 x2) (k0_pay5 (k0_pay4 x0 x1 x2 x3 x4)) 1 3 64 192 rfl rfl (by decide) _

/-- The output of head 2 in chunk 1. -/
theorem o1_2 : k0_pay70 (r_31 c arg1 harg1 arg2 harg2 arg3 harg3 arg4 harg4 arg5 harg5 arg8 x0 x1 x2 x3 x4) (r_35 c arg1 harg1 arg2 harg2 arg3 harg3 arg4 harg4 arg5 harg5 arg8 arg9 arg11 x0 x1 x2 x3 x4) (r_36 c arg1 harg1 arg2 harg2 arg3 harg3 arg4 harg4 arg5 harg5 arg10 arg11 arg12 arg14 harg14 x0 x1 x2 x3 x4 xs6) = uo (k0_pay3 x0 x1 x2) (k0_pay5 (k0_pay4 x0 x1 x2 x3 x4)) 1 2 (St (k0_pay3 x0 x1 x2) (k0_pay5 (k0_pay4 x0 x1 x2 x3 x4)) xs6 1 2) := by
  simp only [r_31, r_35, r_36, v386, v389, v395, hs0, hs1, hs3, st1_2]
  simp (disch := decide) only [View.readCov_fill, ld_ini']
  exact uo_ld (k0_pay3 x0 x1 x2) (k0_pay5 (k0_pay4 x0 x1 x2 x3 x4)) 1 2 64 128 rfl rfl (by decide) _

/-- The output of head 1 in chunk 1. -/
theorem o1_1 : k0_pay62 k0_pay21 (r_26 c arg1 harg1 arg2 harg2 arg3 harg3 arg4 harg4 arg5 harg5 arg8 x0 x1 x2 x3 x4) (r_28 c arg1 harg1 arg2 harg2 arg3 harg3 arg11 x0 x1 x2) (r_29 c arg1 harg1 arg2 harg2 arg3 harg3 arg4 harg4 arg5 harg5 arg10 arg11 arg12 arg14 harg14 x0 x1 x2 x3 x4 xs6) (r_30 c arg1 harg1 arg2 harg2 arg3 harg3 arg4 harg4 arg5 harg5 arg8 arg9 x0 x1 x2 x3 x4) k0_pay61 = uo (k0_pay3 x0 x1 x2) (k0_pay5 (k0_pay4 x0 x1 x2 x3 x4)) 1 1 (St (k0_pay3 x0 x1 x2) (k0_pay5 (k0_pay4 x0 x1 x2 x3 x4)) xs6 1 1) := by
  simp only [r_26, r_28, r_29, r_30, v350, v359, v353, hs0, hs3, hs1, st1_1]
  simp (disch := decide) only [View.readCov_fill, ld_ini']
  exact uo_ld (k0_pay3 x0 x1 x2) (k0_pay5 (k0_pay4 x0 x1 x2 x3 x4)) 1 1 64 64 rfl rfl (by decide) _

/-- The output of head 0 in chunk 1. -/
theorem o1_0 : k0_pay54 k0_pay21 (r_22 c arg1 harg1 arg2 harg2 arg3 harg3 arg4 harg4 arg5 harg5 arg8 x0 x1 x2 x3 x4) (r_23 c arg1 harg1 arg2 harg2 arg3 harg3 arg4 harg4 arg5 harg5 arg9 x0 x1 x2 x3 x4) (r_25 c arg1 harg1 arg2 harg2 arg3 harg3 arg11 x0 x1 x2) (v325 c arg1 harg1 arg2 harg2 arg3 harg3 arg4 harg4 arg5 harg5 arg10 arg11 arg12 arg14 harg14 x0 x1 x2 x3 x4 xs6) = uo (k0_pay3 x0 x1 x2) (k0_pay5 (k0_pay4 x0 x1 x2 x3 x4)) 1 0 (St (k0_pay3 x0 x1 x2) (k0_pay5 (k0_pay4 x0 x1 x2 x3 x4)) xs6 1 0) := by
  simp only [r_22, r_23, r_25, v314, v317, v323, hs0, hs1, hs3, st1_0]
  simp (disch := decide) only [View.readCov_fill, ld_ini']
  exact uo_ld (k0_pay3 x0 x1 x2) (k0_pay5 (k0_pay4 x0 x1 x2 x3 x4)) 1 0 64 0 rfl rfl (by decide) _

/-- The output of head 3 in chunk 0. -/
theorem o0_3 : k0_pay47 k0_pay21 (r_17 c arg1 harg1 arg2 harg2 arg3 harg3 arg4 harg4 arg5 harg5 arg8 x0 x1 x2 x3 x4) (r_19 c arg1 harg1 arg2 harg2 arg3 harg3 arg11 x0 x1 x2) (r_20 c arg14 harg14 xs6) (r_21 c arg1 harg1 arg2 harg2 arg3 harg3 arg4 harg4 arg5 harg5 arg8 arg9 x0 x1 x2 x3 x4) cst_107 = uo (k0_pay3 x0 x1 x2) (k0_pay5 (k0_pay4 x0 x1 x2 x3 x4)) 0 3 (St (k0_pay3 x0 x1 x2) (k0_pay5 (k0_pay4 x0 x1 x2 x3 x4)) xs6 0 3) := by
  simp only [r_17, r_19, r_20, r_21, cst_107, v273, v282, v276, hs0, hs3, hs1, st0_3]
  simp (disch := decide) only [View.readCov_fill, ld_ini']
  exact uo_ld (k0_pay3 x0 x1 x2) (k0_pay5 (k0_pay4 x0 x1 x2 x3 x4)) 0 3 0 192 rfl rfl (by decide) _

/-- The output of head 2 in chunk 0. -/
theorem o0_2 : k0_pay40 k0_pay21 (r_13 c arg1 harg1 arg2 harg2 arg3 harg3 arg4 harg4 arg5 harg5 arg8 x0 x1 x2 x3 x4) (r_14 c arg1 harg1 arg2 harg2 arg3 harg3 arg4 harg4 arg5 harg5 arg9 x0 x1 x2 x3 x4) (r_16 c arg1 harg1 arg2 harg2 arg3 harg3 arg11 x0 x1 x2) (v248 c arg14 harg14 xs6) = uo (k0_pay3 x0 x1 x2) (k0_pay5 (k0_pay4 x0 x1 x2 x3 x4)) 0 2 (St (k0_pay3 x0 x1 x2) (k0_pay5 (k0_pay4 x0 x1 x2 x3 x4)) xs6 0 2) := by
  simp only [r_13, r_14, r_16, v237, v240, v246, hs0, hs1, hs3, st0_2]
  simp (disch := decide) only [View.readCov_fill, ld_ini']
  exact uo_ld (k0_pay3 x0 x1 x2) (k0_pay5 (k0_pay4 x0 x1 x2 x3 x4)) 0 2 0 128 rfl rfl (by decide) _

/-- The output of head 1 in chunk 0. -/
theorem o0_1 : k0_pay33 k0_pay21 (r_10 c arg1 harg1 arg2 harg2 arg3 harg3 arg4 harg4 arg5 harg5 arg8 x0 x1 x2 x3 x4) (r_11 c arg1 harg1 arg2 harg2 arg3 harg3 arg4 harg4 arg5 harg5 arg9 x0 x1 x2 x3 x4) (v210 c arg1 harg1 arg2 harg2 arg3 harg3 arg11 x0 x1 x2) (v212 c arg14 harg14 xs6) = uo (k0_pay3 x0 x1 x2) (k0_pay5 (k0_pay4 x0 x1 x2 x3 x4)) 0 1 (St (k0_pay3 x0 x1 x2) (k0_pay5 (k0_pay4 x0 x1 x2 x3 x4)) xs6 0 1) := by
  simp only [r_10, r_11, v210, v201, v204, hs3, hs0, hs1, st0_1]
  simp (disch := decide) only [View.readCov_fill, ld_ini']
  exact uo_ld (k0_pay3 x0 x1 x2) (k0_pay5 (k0_pay4 x0 x1 x2 x3 x4)) 0 1 0 64 rfl rfl (by decide) _

/-- The output of head 0 in chunk 0. -/
theorem o0_0 : k0_pay26 k0_pay21 (r_8 c arg1 harg1 arg2 harg2 arg3 harg3 arg4 harg4 arg5 harg5 arg8 x0 x1 x2 x3 x4) (r_9 c arg1 harg1 arg2 harg2 arg3 harg3 arg4 harg4 arg5 harg5 arg9 x0 x1 x2 x3 x4) (v174 c arg1 harg1 arg2 harg2 arg3 harg3 arg11 x0 x1 x2) (View.readAt (Elt F) arg14.view (Rect.unit (s := S4x64x64) ![0, 0, 0] S1x64x64.size inb_S4x64x64_S1x64x64_0_0_0).toLoadRect (harg14.unread xs6)) = uo (k0_pay3 x0 x1 x2) (k0_pay5 (k0_pay4 x0 x1 x2 x3 x4)) 0 0 (St (k0_pay3 x0 x1 x2) (k0_pay5 (k0_pay4 x0 x1 x2 x3 x4)) xs6 0 0) := by
  simp only [r_8, r_9, v174, v165, v168, hs3, hs0, hs1, View.readAt_eq_ld, harg14.read_unread, ld_ini]
  simp (disch := decide) only [View.readCov_fill, ld_ini']
  exact uo_ld (k0_pay3 x0 x1 x2) (k0_pay5 (k0_pay4 x0 x1 x2 x3 x4)) 0 0 0 0 rfl rfl (by decide) _

/-- Every output that the run stores is a block of the recursion's. -/
theorem out_pieces : View.PiecesOf (GO (k0_pay3 x0 x1 x2) (k0_pay5 (k0_pay4 x0 x1 x2 x3 x4)) xs6) (HS5_32 c arg1 harg1 arg2 harg2 arg3 harg3 arg4 harg4 arg5 harg5 arg8 arg9 arg10 arg11 arg12 arg14 harg14 x0 x1 x2 x3 x4 xs6) := by
  unfold HS5_32
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact (congrFun (o7_3 ..) x).trans (go_emb (k0_pay3 x0 x1 x2) (k0_pay5 (k0_pay4 x0 x1 x2 x3 x4)) xs6 7 3 448 192 rfl rfl k0_part34_skel._proof_5 x)
  · exact (congrFun (o7_2 ..) x).trans (go_emb (k0_pay3 x0 x1 x2) (k0_pay5 (k0_pay4 x0 x1 x2 x3 x4)) xs6 7 2 448 128 rfl rfl k0_part33_skel._proof_5 x)
  · exact (congrFun (o7_1 ..) x).trans (go_emb (k0_pay3 x0 x1 x2) (k0_pay5 (k0_pay4 x0 x1 x2 x3 x4)) xs6 7 1 448 64 rfl rfl k0_part32_skel._proof_5 x)
  · exact (congrFun (o7_0 ..) x).trans (go_emb (k0_pay3 x0 x1 x2) (k0_pay5 (k0_pay4 x0 x1 x2 x3 x4)) xs6 7 0 448 0 rfl rfl k0_part31_skel._proof_5 x)
  · exact (congrFun (o6_3 ..) x).trans (go_emb (k0_pay3 x0 x1 x2) (k0_pay5 (k0_pay4 x0 x1 x2 x3 x4)) xs6 6 3 384 192 rfl rfl k0_part30_skel._proof_5 x)
  · exact (congrFun (o6_2 ..) x).trans (go_emb (k0_pay3 x0 x1 x2) (k0_pay5 (k0_pay4 x0 x1 x2 x3 x4)) xs6 6 2 384 128 rfl rfl k0_part29_skel._proof_5 x)
  · exact (congrFun (o6_1 ..) x).trans (go_emb (k0_pay3 x0 x1 x2) (k0_pay5 (k0_pay4 x0 x1 x2 x3 x4)) xs6 6 1 384 64 rfl rfl k0_part28_skel._proof_5 x)
  · exact (congrFun (o6_0 ..) x).trans (go_emb (k0_pay3 x0 x1 x2) (k0_pay5 (k0_pay4 x0 x1 x2 x3 x4)) xs6 6 0 384 0 rfl rfl k0_part27_skel._proof_5 x)
  · exact (congrFun (o5_3 ..) x).trans (go_emb (k0_pay3 x0 x1 x2) (k0_pay5 (k0_pay4 x0 x1 x2 x3 x4)) xs6 5 3 320 192 rfl rfl k0_part26_skel._proof_5 x)
  · exact (congrFun (o5_2 ..) x).trans (go_emb (k0_pay3 x0 x1 x2) (k0_pay5 (k0_pay4 x0 x1 x2 x3 x4)) xs6 5 2 320 128 rfl rfl k0_part25_skel._proof_5 x)
  · exact (congrFun (o5_1 ..) x).trans (go_emb (k0_pay3 x0 x1 x2) (k0_pay5 (k0_pay4 x0 x1 x2 x3 x4)) xs6 5 1 320 64 rfl rfl k0_part24_skel._proof_5 x)
  · exact (congrFun (o5_0 ..) x).trans (go_emb (k0_pay3 x0 x1 x2) (k0_pay5 (k0_pay4 x0 x1 x2 x3 x4)) xs6 5 0 320 0 rfl rfl k0_part23_skel._proof_5 x)
  · exact (congrFun (o4_3 ..) x).trans (go_emb (k0_pay3 x0 x1 x2) (k0_pay5 (k0_pay4 x0 x1 x2 x3 x4)) xs6 4 3 256 192 rfl rfl k0_part22_skel._proof_5 x)
  · exact (congrFun (o4_2 ..) x).trans (go_emb (k0_pay3 x0 x1 x2) (k0_pay5 (k0_pay4 x0 x1 x2 x3 x4)) xs6 4 2 256 128 rfl rfl k0_part21_skel._proof_7 x)
  · exact (congrFun (o4_1 ..) x).trans (go_emb (k0_pay3 x0 x1 x2) (k0_pay5 (k0_pay4 x0 x1 x2 x3 x4)) xs6 4 1 256 64 rfl rfl k0_part21_skel._proof_1 x)
  · exact (congrFun (o4_0 ..) x).trans (go_emb (k0_pay3 x0 x1 x2) (k0_pay5 (k0_pay4 x0 x1 x2 x3 x4)) xs6 4 0 256 0 rfl rfl k0_part20_skel._proof_1 x)
  · exact (congrFun (o3_3 ..) x).trans (go_emb (k0_pay3 x0 x1 x2) (k0_pay5 (k0_pay4 x0 x1 x2 x3 x4)) xs6 3 3 192 192 rfl rfl k0_part19_skel._proof_1 x)
  · exact (congrFun (o3_2 ..) x).trans (go_emb (k0_pay3 x0 x1 x2) (k0_pay5 (k0_pay4 x0 x1 x2 x3 x4)) xs6 3 2 192 128 rfl rfl k0_part18_skel._proof_1 x)
  · exact (congrFun (o3_1 ..) x).trans (go_emb (k0_pay3 x0 x1 x2) (k0_pay5 (k0_pay4 x0 x1 x2 x3 x4)) xs6 3 1 192 64 rfl rfl k0_part17_skel._proof_1 x)
  · exact (congrFun (o3_0 ..) x).trans (go_emb (k0_pay3 x0 x1 x2) (k0_pay5 (k0_pay4 x0 x1 x2 x3 x4)) xs6 3 0 192 0 rfl rfl k0_part16_skel._proof_1 x)
  · exact (congrFun (o2_3 ..) x).trans (go_emb (k0_pay3 x0 x1 x2) (k0_pay5 (k0_pay4 x0 x1 x2 x3 x4)) xs6 2 3 128 192 rfl rfl k0_part15_skel._proof_3 x)
  · exact (congrFun (o2_2 ..) x).trans (go_emb (k0_pay3 x0 x1 x2) (k0_pay5 (k0_pay4 x0 x1 x2 x3 x4)) xs6 2 2 128 128 rfl rfl k0_part14_skel._proof_5 x)
  · exact (congrFun (o2_1 ..) x).trans (go_emb (k0_pay3 x0 x1 x2) (k0_pay5 (k0_pay4 x0 x1 x2 x3 x4)) xs6 2 1 128 64 rfl rfl k0_part13_skel._proof_5 x)
  · exact (congrFun (o2_0 ..) x).trans (go_emb (k0_pay3 x0 x1 x2) (k0_pay5 (k0_pay4 x0 x1 x2 x3 x4)) xs6 2 0 128 0 rfl rfl k0_part12_skel._proof_5 x)
  · exact (congrFun (o1_3 ..) x).trans (go_emb (k0_pay3 x0 x1 x2) (k0_pay5 (k0_pay4 x0 x1 x2 x3 x4)) xs6 1 3 64 192 rfl rfl k0_part11_skel._proof_5 x)
  · exact (congrFun (o1_2 ..) x).trans (go_emb (k0_pay3 x0 x1 x2) (k0_pay5 (k0_pay4 x0 x1 x2 x3 x4)) xs6 1 2 64 128 rfl rfl k0_part10_skel._proof_5 x)
  · exact (congrFun (o1_1 ..) x).trans (go_emb (k0_pay3 x0 x1 x2) (k0_pay5 (k0_pay4 x0 x1 x2 x3 x4)) xs6 1 1 64 64 rfl rfl k0_part9_skel._proof_5 x)
  · exact (congrFun (o1_0 ..) x).trans (go_emb (k0_pay3 x0 x1 x2) (k0_pay5 (k0_pay4 x0 x1 x2 x3 x4)) xs6 1 0 64 0 rfl rfl k0_part8_skel._proof_7 x)
  · exact (congrFun (o0_3 ..) x).trans (go_emb (k0_pay3 x0 x1 x2) (k0_pay5 (k0_pay4 x0 x1 x2 x3 x4)) xs6 0 3 0 192 rfl rfl k0_part7_skel._proof_8 x)
  · exact (congrFun (o0_2 ..) x).trans (go_emb (k0_pay3 x0 x1 x2) (k0_pay5 (k0_pay4 x0 x1 x2 x3 x4)) xs6 0 2 0 128 rfl rfl k0_part6_skel._proof_8 x)
  · exact (congrFun (o0_1 ..) x).trans (go_emb (k0_pay3 x0 x1 x2) (k0_pay5 (k0_pay4 x0 x1 x2 x3 x4)) xs6 0 1 0 64 rfl rfl k0_part5_skel._proof_8 x)
  · exact (congrFun (o0_0 ..) x).trans (go_emb (k0_pay3 x0 x1 x2) (k0_pay5 (k0_pay4 x0 x1 x2 x3 x4)) xs6 0 0 0 0 rfl rfl k0_part4_skel._proof_4 x)

/-- The outputs of a block, loaded back. -/
theorem out_read : (v1351 c arg1 harg1 arg2 harg2 arg3 harg3 arg4 harg4 arg5 harg5 arg8 arg9 arg10 arg11 arg12 arg13 arg14 harg14 x0 x1 x2 x3 x4 xs6) = GO (k0_pay3 x0 x1 x2) (k0_pay5 (k0_pay4 x0 x1 x2 x3 x4)) xs6 := by
  unfold v1351
  rw [View.readCov_eq_canon']
  funext y
  have hc : ∀ y, ∃ p ∈ (HS5_32 c arg1 harg1 arg2 harg2 arg3 harg3 arg4 harg4 arg5 harg5 arg8 arg9 arg10 arg11 arg12 arg14 harg14 x0 x1 x2 x3 x4 xs6), y ∈ p.1.set := by
    refine View.cover_of_tiledL _ ![64, 64] ?_
    unfold HS5_32
    rfl
  have e : ((Rect.unit ![0, 0] S512x256.size inb_S512x256_S512x256_0_0).toLoadRect).idx y = y := funext fun k => Fin.ext (by
    fin_cases k
    · show 0 + 1 * (y 0).val = (y 0).val
      omega
    · show 0 + 1 * (y 1).val = (y 1).val
      omega)
  have h := View.canon_append_of_piecesOf (GO (k0_pay3 x0 x1 x2) (k0_pay5 (k0_pay4 x0 x1 x2 x3 x4)) xs6) [] _ (out_pieces _ _ _ _ _ _ _ _ _ _ _ _ _ _ _ _ _ _ _ _ _ _ _ _) y (hc y)
  rw [List.append_nil] at h
  rw [e]
  exact h

/-- Head 0's last state. -/
theorem fin_0 : k0_pay203 (r_95 c arg1 harg1 arg2 harg2 arg3 harg3 arg4 harg4 arg5 harg5 arg10 x0 x1 x2 x3 x4) (r_96 c arg1 harg1 arg2 harg2 arg3 harg3 arg11 x0 x1 x2) (r_97 c arg1 harg1 arg2 harg2 arg3 harg3 arg4 harg4 arg5 harg5 arg10 arg11 arg12 arg14 harg14 x0 x1 x2 x3 x4 xs6) (v1234 c arg1 harg1 arg2 harg2 arg3 harg3 arg4 harg4 arg5 harg5 arg12 x0 x1 x2 x3 x4) = St (k0_pay3 x0 x1 x2) (k0_pay5 (k0_pay4 x0 x1 x2 x3 x4)) xs6 8 0 := by
  refine Eq.trans ?_ (St_succ ..).symm
  simp only [r_95, r_96, r_97, v1234, v1214, v1217, hs4, hs2, hs3, st7_0]
  simp (disch := decide) only [View.readCov_fill]
  exact stp_ld _ _ 7 0 448 0 504 rfl rfl rfl (by decide) (by decide) _

/-- Head 1's last state. -/
theorem fin_1 : k0_pay211 (r_100 c arg1 harg1 arg2 harg2 arg3 harg3 arg4 harg4 arg5 harg5 arg10 x0 x1 x2 x3 x4) (r_101 c arg1 harg1 arg2 harg2 arg3 harg3 arg11 x0 x1 x2) (r_102 c arg1 harg1 arg2 harg2 arg3 harg3 arg4 harg4 arg5 harg5 arg10 arg11 arg12 arg14 harg14 x0 x1 x2 x3 x4 xs6) (v1270 c arg1 harg1 arg2 harg2 arg3 harg3 arg4 harg4 arg5 harg5 arg12 x0 x1 x2 x3 x4) = St (k0_pay3 x0 x1 x2) (k0_pay5 (k0_pay4 x0 x1 x2 x3 x4)) xs6 8 1 := by
  refine Eq.trans ?_ (St_succ ..).symm
  simp only [r_100, r_101, r_102, v1270, v1250, v1253, hs4, hs2, hs3, st7_1]
  simp (disch := decide) only [View.readCov_fill]
  exact stp_ld _ _ 7 1 448 64 504 rfl rfl rfl (by decide) (by decide) _

/-- Head 2's last state. -/
theorem fin_2 : k0_pay217 (r_105 c arg1 harg1 arg2 harg2 arg3 harg3 arg4 harg4 arg5 harg5 arg10 x0 x1 x2 x3 x4) (r_106 c arg1 harg1 arg2 harg2 arg3 harg3 arg11 x0 x1 x2) (r_107 c arg1 harg1 arg2 harg2 arg3 harg3 arg4 harg4 arg5 harg5 arg10 arg11 arg12 arg14 harg14 x0 x1 x2 x3 x4 xs6) (v1306 c arg1 harg1 arg2 harg2 arg3 harg3 arg4 harg4 arg5 harg5 arg12 x0 x1 x2 x3 x4) = St (k0_pay3 x0 x1 x2) (k0_pay5 (k0_pay4 x0 x1 x2 x3 x4)) xs6 8 2 := by
  refine Eq.trans ?_ (St_succ ..).symm
  simp only [r_105, r_106, r_107, v1306, v1286, v1289, hs4, hs2, hs3, st7_2]
  simp (disch := decide) only [View.readCov_fill]
  exact stp_ld _ _ 7 2 448 128 504 rfl rfl rfl (by decide) (by decide) _

/-- Head 3's last state. -/
theorem fin_3 : k0_pay222 (r_109 c arg1 harg1 arg2 harg2 arg3 harg3 arg4 harg4 arg5 harg5 arg10 x0 x1 x2 x3 x4) (r_110 c arg1 harg1 arg2 harg2 arg3 harg3 arg11 x0 x1 x2) (r_111 c arg1 harg1 arg2 harg2 arg3 harg3 arg4 harg4 arg5 harg5 arg10 arg11 arg12 arg14 harg14 x0 x1 x2 x3 x4 xs6) (v1342 c arg1 harg1 arg2 harg2 arg3 harg3 arg4 harg4 arg5 harg5 arg12 x0 x1 x2 x3 x4) = St (k0_pay3 x0 x1 x2) (k0_pay5 (k0_pay4 x0 x1 x2 x3 x4)) xs6 8 3 := by
  refine Eq.trans ?_ (St_succ ..).symm
  simp only [r_109, r_110, r_111, v1342, v1322, v1325, hs4, hs2, hs3, st7_3]
  simp (disch := decide) only [View.readCov_fill]
  exact stp_ld _ _ 7 3 448 192 504 rfl rfl rfl (by decide) (by decide) _

variable (i : grid0.Coords) (arg7 : Memref sig .tc .vmem S512x256 .bf16) (harg7 : arg7.IsWhole) (hc0 : ¬ cond0_0 i)

/-- What the run writes back. -/
theorem out_eq : out0_B_6 (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs6 = OUT (k0_pay3 x0 x1 x2) (k0_pay5 (k0_pay4 x0 x1 x2 x3 x4)) xs6 x5 := by
  unfold out0_B_6
  rw [View.read_writes_junk_eq_canon]
  unfold kernelRun0_B
  dsimp only
  rw [View.canon_cons_unit_lit _ _ _ (by decide)]
  simp only [r_112, r_113, v1353, out_read, r, View.readAt_eq_ld, harg1.read_unread, harg2.read_unread, harg3.read_unread, harg6.read_unread]
  simp (disch := decide) only [View.ld_unit_lit']
  rfl

/-- The states that the run leaves. -/
theorem sout_eq : sout0_B_6 (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs6 = GS (k0_pay3 x0 x1 x2) (k0_pay5 (k0_pay4 x0 x1 x2 x3 x4)) xs6 := by
  unfold sout0_B_6
  rw [View.read_writes_junk_eq_canon]
  unfold kernelRun0_B
  dsimp only
  unfold HS6_31 HS6_30 HS6_29
  funext y
  refine View.canon_append_of_piecesOf (GS (k0_pay3 x0 x1 x2) (k0_pay5 (k0_pay4 x0 x1 x2 x3 x4)) xs6) _ [_, _, _, _] ⟨?_, ?_, ?_, ?_, trivial⟩ y ?_
  · exact fun x => (congrFun (fin_3 ..) x).trans (gs_emb _ _ _ 3 (by decide) x)
  · exact fun x => (congrFun (fin_2 ..) x).trans (gs_emb _ _ _ 2 (by decide) x)
  · exact fun x => (congrFun (fin_1 ..) x).trans (gs_emb _ _ _ 1 (by decide) x)
  · exact fun x => (congrFun (fin_0 ..) x).trans (gs_emb _ _ _ 0 (by decide) x)
  · exact View.cover_of_tiledL _ ![1, 64, 64] (by rfl) y

end Cert.Proof.Gla.RunB

end
-- ==== Proof.GlaCarry.lean ====
/-
  The gated linear attention: the carried states hold the sums over the rows before each grid point, so that each point's block is
  the reference's rows.
-/
module

public import proofs.«01_k».proof.Proof.GlaBlock
public import proofs.«01_k».proof.Proof.GlaIn
public import proofs.«01_k».proof.Proof.GlaRef
public import proofs.«01_k».proof.Proof.GlaRunA
public import proofs.«01_k».proof.Proof.GlaRunB

@[expose] public section

noncomputable section

namespace Cert.Proof.Gla

open Idealize.ShloMosaic Idealize.ShloMosaic.TcCoe Idealize.SL.Sem
open Cert.Kernel5Ideal Cert.Kernel5Ideal.Gen
open Cert.Proof.Prep (coe_sum)

variable (m : (ℓ : Loc nD τ sig) → Buf (Elt Ideal) ℓ) (c : Dev nD)

/-- The call's arguments. -/
abbrev a0 : FVec Ideal Cert.Reference5Ideal.S16384x1024 .f32 := m ((c : Thread nD τ).loc main_arg0)
abbrev a1 : FVec Ideal Cert.Reference5Ideal.S1024 .f32 := m ((c : Thread nD τ).loc main_arg1)
abbrev a2 : FVec Ideal Cert.Reference5Ideal.S1024x8220 .f32 := m ((c : Thread nD τ).loc main_arg2)
abbrev a3 : FVec Ideal Cert.Reference5Ideal.S16x256 .f32 := m ((c : Thread nD τ).loc main_arg3)
abbrev a4 : FVec Ideal Cert.Reference5Ideal.S256 .f32 := m ((c : Thread nD τ).loc main_arg4)
abbrev a5 : FVec Ideal Cert.Reference5Ideal.S64 .f32 := m ((c : Thread nD τ).loc main_arg5)

/-- The projections of a point's rows, and their log decays, as the body computes them. -/
abbrev uB (t : Fin cfg0.N) : FVec Ideal S512x1152 .f32 := k0_pay3 (iblk m c 0 t) (iblk m c 1 t) (iblk m c 2 t)
abbrev lsB (t : Fin cfg0.N) : FVec Ideal S512x256 .f32 :=
  k0_pay5 (k0_pay4 (iblk m c 0 t) (iblk m c 1 t) (iblk m c 2 t) (iblk m c 3 t) (iblk m c 4 t))

theorem u_blk (t : Fin cfg0.N) (r : Fin 512) (k : ℕ) (hk : k < 1040) (n : ℕ) (hn : n < 1040) (e : 772 + n = col k) :
    (uB m c t (ix2 r ⟨k, by omega⟩) : EReal) = prj (a0 m c) (a1 m c) (a2 m c) (row t r) n hn := by
  refine (u_apply _ _ _ r ⟨k, by omega⟩).trans ?_
  have e0 : (fun d : Fin 1024 => (iblk m c 0 t (ix2 r d) : EReal)) = fun d => a0 m c (ix2 (row t r) d) :=
    funext fun d => iblk0_apply m c t r d
  have e1 : (fun d : Fin 1024 => (iblk m c 1 t (ix2 0 d) : EReal)) = fun d => a1 m c (ix1 d) := funext fun d => iblk1_apply m c t d
  have e2 : (fun d : Fin 1024 => (iblk m c 2 t (ix2 d ⟨k, by omega⟩) : EReal)) = fun d => a2 m c (ix2 d ⟨772 + n, by omega⟩) :=
    funext fun d => iblk2_apply m c t d ⟨k, by omega⟩ (772 + n) (by omega) hk e
  unfold prj
  rw [← e0, ← e1, ← e2]

/-- The first sixteen of the 128 padded lanes carry the product of the decays' second factor. -/
theorem rank_sum (t : Fin cfg0.N) (r : Fin 512) (j : Fin 256) :
    (∑ e : Fin 128, (uB m c t (ix2 r ⟨1024 + e.val, by omega⟩) : EReal) * iblk m c 3 t (ix2 e j))
      = ∑ e : Fin 16, prj (a0 m c) (a1 m c) (a2 m c) (row t r) (768 + e.val) (by omega) * a3 m c (ix2 e j) := by
  symm
  refine Finset.sum_of_injOn (fun e : Fin 16 => (⟨e.val, by omega⟩ : Fin 128)) ?_ ?_ ?_ ?_
  · intro a _ b _ hab
    have h : a.val = b.val := congrArg (fun z : Fin 128 => z.val) hab
    exact Fin.ext h
  · intro a _
    exact Finset.mem_coe.2 (Finset.mem_univ _)
  · intro w _ hw
    have h16 : 16 ≤ w.val := by
      by_contra hlt
      exact hw ⟨⟨w.val, by omega⟩, Finset.mem_coe.2 (Finset.mem_univ _), Fin.ext rfl⟩
    rw [iblk3_out m c t w h16 j]
    exact mul_zero _
  · intro e _
    have e1 := u_blk m c t r (1024 + e.val) (by omega) (768 + e.val) (by omega) (by
      unfold col
      rw [if_neg (by omega), if_neg (by omega)]
      omega)
    have e2 := iblk3_in m c t e j
    exact congrArg₂ (fun a b : EReal => a * b) e1.symm e2.symm

theorem ls_blk (t : Fin cfg0.N) (r : Fin 512) (j : Fin 256) :
    (lsB m c t (ix2 r j) : EReal) = lgd (a0 m c) (a1 m c) (a2 m c) (a3 m c) (a4 m c) (row t r) j := by
  refine (ls_apply _ _ _ _ _ r j).trans ?_
  unfold lgd
  have e4 : (iblk m c 4 t (ix2 0 j) : EReal) = a4 m c (ix1 j) := iblk4_apply m c t j
  rw [e4]
  have e := rank_sum m c t r j
  rw [← e]

variable (H : Fin5 (a1 m c) (a2 m c) (a3 m c) (a4 m c))
include H

/-- A point's projections and log decays are the real sequences at its rows. -/
theorem pt (t : Fin cfg0.N) : Pt (uB m c t) (lsB m c t) t.val (lR (a0 m c) (a1 m c) (a2 m c) (a3 m c) (a4 m c))
    (qR (a0 m c) (a1 m c) (a2 m c)) (kR (a0 m c) (a1 m c) (a2 m c)) (vR (a0 m c) (a1 m c) (a2 m c)) := by
  have hrow : ∀ p : Fin 512, 512 * t.val + p.val = (row t p).val := fun p => by
    show _ = t.val * 512 + p.val
    omega
  refine ⟨?_, ?_, ?_, ?_⟩ <;> intro p h d <;> rw [hrow p]
  · rw [ls_blk, lR_eq _ H]
  · rw [← qR_eq _ H, u_blk m c t p (h.val * 64 + d.val) (by omega) (h.val * 64 + d.val) (by omega) (by
      unfold col
      rw [if_pos (by omega)])]
  · rw [← kR_eq _ H, u_blk m c t p (256 + (h.val * 64 + d.val)) (by omega) (256 + (h.val * 64 + d.val)) (by omega) (by
      unfold col
      rw [if_pos (by omega)])]
  · rw [← vR_eq _ H, u_blk m c t p (512 + (h.val * 64 + d.val)) (by omega) (512 + (h.val * 64 + d.val)) (by omega) (by
      unfold col
      rw [if_pos (by omega)])]

/-- States that hold the sums over the rows before point `n`. -/
def Before (n : ℕ) (S : Vec Ideal S4x64x64 .f32) : Prop :=
  ∀ (h : Fin 4) (e d : Fin 64), (S (ix3 h e d) : EReal) = (GlaMath.stv (lR (a0 m c) (a1 m c) (a2 m c) (a3 m c) (a4 m c) h d)
    (kR (a0 m c) (a1 m c) (a2 m c) h d) (vR (a0 m c) (a1 m c) (a2 m c) h e) (8 * n) : ℝ)

omit H in
theorem before_zero : Before m c 0 (k0_pay2 (F := Ideal)) := by
  intro h e d
  rw [Nat.mul_zero, GlaMath.stv_zero]
  pointwise [k0_pay2]
  rfl

/-- A point's attention output. -/
theorem go_pt (t : Fin cfg0.N) (S : Vec Ideal S4x64x64 .f32) (hS : Before m c t.val S) (p : Fin 512) (h : Fin 4) (e : Fin 64) :
    (GO (uB m c t) (lsB m c t) S (ix2 p ⟨h.val * 64 + e.val, by omega⟩) : EReal)
      = (oR (a0 m c) (a1 m c) (a2 m c) (a3 m c) (a4 m c) h e (row t p).val : EReal) := by
  have ht : t.val < 32 := t.isLt
  have hp : p = ⟨64 * (⟨p.val / 64, by omega⟩ : Fin 8).val + (⟨p.val % 64, by omega⟩ : Fin 64).val, by
      show 64 * (p.val / 64) + p.val % 64 < 512
      omega⟩ := Fin.ext (by
    show p.val = 64 * (p.val / 64) + p.val % 64
    omega)
  have hr : (row t p).val = 64 * (8 * t.val + (⟨p.val / 64, by omega⟩ : Fin 8).val) + (⟨p.val % 64, by omega⟩ : Fin 64).val := by
    show t.val * 512 + p.val = 64 * (8 * t.val + p.val / 64) + p.val % 64
    omega
  rw [hr]
  unfold oR
  refine Eq.trans ?_ (go_coe (pt m c H t) hS ht ⟨p.val / 64, by omega⟩ ⟨p.val % 64, by omega⟩ h e)
  exact congrArg (fun a : Fin 512 => GO (uB m c t) (lsB m c t) S (ix2 a ⟨h.val * 64 + e.val, by omega⟩)) hp

/-- A point's block is the reference's rows. -/
theorem out_pt (t : Fin cfg0.N) (S : Vec Ideal S4x64x64 .f32) (hS : Before m c t.val S) (p : Fin 512) (h : Fin 4) (e : Fin 64) :
    (OUT (uB m c t) (lsB m c t) S (iblk m c 5 t) (ix2 p ⟨h.val * 64 + e.val, by omega⟩) : EReal)
      = Cert.Reference5Ideal.Read.val_main_v73 (F := Ideal) (a0 m c) (a1 m c) (a2 m c) (a3 m c) (a4 m c) (a5 m c)
          (ix2 (row t p) ⟨h.val * 64 + e.val, by omega⟩) := by
  rw [ref_apply _ _ H, out_apply, norm_apply, go_pt m c H t S hS]
  · have ex : (iblk m c 5 t (ix2 0 ⟨h.val * 64 + e.val, by omega⟩) : EReal) = a5 m c (ix1 e) :=
      (iblk5_apply m c t _).trans (congrArg (fun j => (m ((c : Thread nD τ).loc main_arg5) (ix1 j) : EReal))
        (Fin.ext (by show (h.val * 64 + e.val) % 64 = e.val; omega)))
    have eg := u_blk m c t p (768 + (h.val * 64 + e.val)) (by omega) (784 + (h.val * 64 + e.val)) (by omega) (by
      unfold col
      rw [if_neg (by omega), if_pos (by omega)]
      omega)
    have es : (∑ x : Fin 256, if x.val / 64 = (h.val * 64 + e.val) / 64 then
          (GO (uB m c t) (lsB m c t) S (ix2 p x) : EReal) * GO (uB m c t) (lsB m c t) S (ix2 p x) else 0)
        = ∑ d : Fin 64, (oR (a0 m c) (a1 m c) (a2 m c) (a3 m c) (a4 m c) h d (row t p).val : EReal)
            * (oR (a0 m c) (a1 m c) (a2 m c) (a3 m c) (a4 m c) h d (row t p).val : EReal) := by
      have e1 := chunk_sum (fun x : Fin 256 => (GO (uB m c t) (lsB m c t) S (ix2 p x) : EReal) * GO (uB m c t) (lsB m c t) S (ix2 p x))
        (fun _ => True) h.val (by omega)
      simp only [and_true, if_true] at e1
      rw [show (h.val * 64 + e.val) / 64 = h.val by omega, e1]
      refine Finset.sum_congr rfl fun d _ => ?_
      have e2 : (⟨64 * h.val + d.val, by omega⟩ : Fin 256) = ⟨h.val * 64 + d.val, by omega⟩ := Fin.ext (by
        show 64 * h.val + d.val = h.val * 64 + d.val
        omega)
      rw [e2, go_pt m c H t S hS]
    rw [ex]
    simp only [es]
    unfold nR silu
    rw [eg]
  · intro x
    have e2 : x = ⟨(⟨x.val / 64, by omega⟩ : Fin 4).val * 64 + (⟨x.val % 64, by omega⟩ : Fin 64).val, by
        show x.val / 64 * 64 + x.val % 64 < 256
        omega⟩ := Fin.ext (by
      show x.val = x.val / 64 * 64 + x.val % 64
      omega)
    rw [e2]
    exact ⟨_, go_pt m c H t S hS p _ _⟩

/-- After every point the carried states hold the sums over the rows so far. -/
theorem carried : ∀ (n : ℕ) (hn : n < cfg0.N), Before m c (n + 1) (outsAt0 m c n hn).2 := by
  intro n
  induction n with
  | zero =>
    intro hn h e d
    rw [outsAt0_A m c ⟨0, hn⟩ (Nat.zero_mod _)]
    dsimp only
    rw [RunA.sout_eq]
    exact gs_coe (pt m c H ⟨0, hn⟩) (before_zero m c) h e d
  | succ n ih =>
    intro hn h e d
    have h32 : n + 1 < 32 := hn
    rw [outsAt0_B m c ⟨n + 1, hn⟩ (by show ¬ (n + 1) % 32 = 0; omega)]
    dsimp only
    rw [RunB.sout_eq]
    exact gs_coe (pt m c H ⟨n + 1, hn⟩) (ih _) h e d

/-- What every point writes back, at an index: the reference's array there. -/
theorem outs (t : Fin cfg0.N) (p : Fin 512) (h : Fin 4) (e : Fin 64) :
    ((outsAt0 m c t.val t.isLt).1 (ix2 p ⟨h.val * 64 + e.val, by omega⟩) : EReal)
      = Cert.Reference5Ideal.Read.val_main_v73 (F := Ideal) (a0 m c) (a1 m c) (a2 m c) (a3 m c) (a4 m c) (a5 m c)
          (ix2 (row t p) ⟨h.val * 64 + e.val, by omega⟩) := by
  have ht : t.val < 32 := t.isLt
  by_cases h0 : t.val % 32 = 0
  · have hz : t.val = 0 := by omega
    rw [outsAt0_A m c t h0]
    dsimp only
    rw [RunA.out_eq]
    exact out_pt m c H t _ (hz ▸ before_zero m c) p h e
  · have hS : Before m c t.val (outsAt0 m c (t.val - 1) (Nat.lt_of_le_of_lt (Nat.sub_le _ _) t.isLt)).2 := by
      have e := carried m c H (t.val - 1) (Nat.lt_of_le_of_lt (Nat.sub_le _ _) t.isLt)
      rw [show t.val - 1 + 1 = t.val by omega] at e
      exact e
    rw [outsAt0_B m c t h0]
    dsimp only
    rw [RunB.out_eq]
    exact out_pt m c H t _ hS p h e

end Cert.Proof.Gla

end
-- ==== Proof.GlaPre.lean ====
/-
  The precondition of the gated linear attention, read element by element: what the attention is computed from is real.
-/
module

public import proofs.«01_k».proof.Defs
public import proofs.«01_k».proof.Proof.Gen.Pre_finite_decay
public import proofs.«01_k».proof.Proof.FoxPre
public import proofs.«01_k».proof.Proof.GlaRef
public import Idealize.ShloMosaic.Lib.Pointwise

@[expose] public section

noncomputable section

namespace Cert.Proof.GlaPre

open Idealize.ShloMosaic Idealize.ShloMosaic.TcCoe Idealize.SL.Sem
open Cert.Pre_finite_decay Cert.Proof.FoxPre

variable {x0 : FVec Ideal S16384x1024 .f32} {x1 : FVec Ideal S1024 .f32} {x2 : FVec Ideal S1024x8220 .f32} {x3 : FVec Ideal S16x256 .f32}
  {x4 : FVec Ideal S256 .f32} {x5 : FVec Ideal S64 .f32}

theorem gain (H : (fn (F := Ideal) x0 x1 x2 x3 x4 x5).1 = fun _ => 1#1) (d : Fin 1024) : ∃ a : ℝ, (x1 (ix1 d) : EReal) = (a : EReal) := by
  have h1 := congrFun H (ix1 d)
  unfold fn at h1
  dsimp only at h1
  pointwise at h1
  have h2 := of_bit h1
  rw [ofBits_inf] at h2
  exact real_of_abs h2

theorem weight (H : (fn (F := Ideal) x0 x1 x2 x3 x4 x5).2.1 = fun _ => 1#1) (d : Fin 1024) (n : Fin 784) : ∃ a : ℝ, (x2 (ix2 d ⟨772 + n.val, by omega⟩) : EReal) = (a : EReal) := by
  have h1 := congrFun H (ix2 d n)
  unfold fn at h1
  dsimp only at h1
  pointwise at h1
  have h2 := of_bit h1
  rw [ofBits_inf] at h2
  exact real_of_abs h2

theorem weight2 (H : (fn (F := Ideal) x0 x1 x2 x3 x4 x5).2.2.1 = fun _ => 1#1) (d : Fin 16) (j : Fin 256) : ∃ a : ℝ, (x3 (ix2 d j) : EReal) = (a : EReal) := by
  have h1 := congrFun H (ix2 d j)
  unfold fn at h1
  dsimp only at h1
  pointwise at h1
  have h2 := of_bit h1
  rw [ofBits_inf] at h2
  exact real_of_abs h2

theorem bias (H : (fn (F := Ideal) x0 x1 x2 x3 x4 x5).2.2.2 = fun _ => 1#1) (j : Fin 256) : ∃ a : ℝ, (x4 (ix1 j) : EReal) = (a : EReal) := by
  have h1 := congrFun H (ix1 j)
  unfold fn at h1
  dsimp only at h1
  pointwise at h1
  have h2 := of_bit h1
  rw [ofBits_inf] at h2
  exact real_of_abs h2

/-- The four predicates together. -/
theorem finite (H : (fn (F := Ideal) x0 x1 x2 x3 x4 x5).1 = (fun _ => 1#1) ∧ (fn (F := Ideal) x0 x1 x2 x3 x4 x5).2.1 = (fun _ => 1#1)
    ∧ (fn (F := Ideal) x0 x1 x2 x3 x4 x5).2.2.1 = (fun _ => 1#1) ∧ (fn (F := Ideal) x0 x1 x2 x3 x4 x5).2.2.2 = (fun _ => 1#1)) :
    Gla.Fin5 x1 x2 x3 x4 :=
  ⟨gain H.1, weight H.2.1, weight2 H.2.2.1, bias H.2.2.2⟩

end Cert.Proof.GlaPre

end
-- ==== Proof.Gla.lean ====
/-
  The gated linear attention: the call's result array is the reference's, on every argument whose queries, keys, values and decays
  are computed from finite values.
-/
module

public import proofs.«01_k».proof.Proof.GlaCarry
public import proofs.«01_k».proof.Proof.GlaPre
public import proofs.«01_k».proof.Proof.Gen.Reference5Ideal.Run

@[expose] public section

noncomputable section

namespace Cert.Proof.Gla

open Idealize.ShloMosaic Idealize.ShloMosaic.TcCoe Idealize.SL.Sem

section Array
open Cert.Kernel5Ideal Cert.Kernel5Ideal.Gen

variable (m : (ℓ : Loc nD τ sig) → Buf (Elt Ideal) ℓ) (ρ : Dev nD → PrngReg)

/-- The array that the result is shown to be: the reference's attention of the call's own arguments. -/
def G6 (c : Dev nD) : Buf (Elt Ideal) ((c : Thread nD τ).loc main_v45) :=
  Cert.Reference5Ideal.Read.val_main_v73 (F := Ideal) (a0 m c) (a1 m c) (a2 m c) (a3 m c) (a4 m c) (a5 m c)

/-- What every point writes back, at any index of its block. -/
theorem outs' (c : Dev nD) (H : Fin5 (a1 m c) (a2 m c) (a3 m c) (a4 m c)) (t : Fin cfg0.N) (p : Fin 512) (x : Fin 256) :
    ((outsAt0 m c t.val t.isLt).1 (ix2 p x) : EReal) = G6 m c (ix2 (row t p) x) := by
  have e : x = ⟨(⟨x.val / 64, by omega⟩ : Fin 4).val * 64 + (⟨x.val % 64, by omega⟩ : Fin 64).val, by
      show x.val / 64 * 64 + x.val % 64 < 256
      omega⟩ := Fin.ext (by
    show x.val = x.val / 64 * 64 + x.val % 64
    omega)
  rw [e]
  exact outs m c H t p _ _

theorem flushed6_eq (c : Dev nD) (H : Fin5 (a1 m c) (a2 m c) (a3 m c) (a4 m c)) (t : Fin cfg0.N) :
    (dats m 0 c).flushed 6 t = ((cfg0.win 6).blk t).view.read (Elt Ideal) (G6 m c) := by
  rw [Value.flushed6]
  funext j
  obtain ⟨p, x, rfl⟩ : ∃ (p : Fin 512) (x : Fin 256), j = ix2 p x := ⟨j 0, j 1, eq_ix2 j⟩
  have hemb : ((cfg0.win 6).blk t).view.emb (ix2 p x) = ix2 (n0 := 16384) (n1 := 256) (row t p) x := by
    funext a
    apply Fin.ext
    match a with
    | ⟨0, _⟩ => show win0_6.index t 0 * 512 + 1 * p.val = t.val * 512 + p.val
                rw [(index6 t).1]; omega
    | ⟨1, _⟩ => show win0_6.index t 1 * 256 + 1 * x.val = x.val
                rw [(index6 t).2]; omega
  show (outsAt0 m c t.val t.isLt).1 (ix2 p x) = G6 m c (((cfg0.win 6).blk t).view.emb (ix2 p x))
  rw [hemb]
  exact outs' m c H t p x

theorem cover6 (i : S16384x256.Idx) : ∃ t : Fin cfg0.N, (cfg0.win 6).flush t = true ∧ i ∈ ((cfg0.win 6).blk t).view.set := by
  have h0 : (i 0).val < 16384 := (i 0).isLt
  have h1 : (i 1).val < 256 := (i 1).isLt
  let t : Fin cfg0.N := ⟨(i 0).val / 512, by show _ < 32; omega⟩
  refine ⟨t, (by decide +kernel : ∀ t : Fin grid0.N, (cfg0.win 6).flush t = true) t, ?_⟩
  show i ∈ ((View.whole main_v45).slice (win0_6.rect t)).set
  rw [View.set_slice_whole, Rect.mem_set_unit]
  intro a
  match a with
  | ⟨0, _⟩ => show win0_6.index t 0 * 512 ≤ (i 0).val ∧ (i 0).val < win0_6.index t 0 * 512 + 512
              rw [(index6 t).1]; dsimp only [t]; omega
  | ⟨1, _⟩ => show win0_6.index t 1 * 256 ≤ (i 1).val ∧ (i 1).val < win0_6.index t 1 * 256 + 256
              rw [(index6 t).2]; omega

theorem final6 (c : Dev nD) (H : Fin5 (a1 m c) (a2 m c) (a3 m c) (a4 m c)) : (dats m 0 c).arrAt 6 cfg0.N = G6 m c :=
  (dats m 0 c).arrAt_eq_of_cover 6 (G6 m c) (fun t _ => flushed6_eq m c H t) cover6

end Array

/-! ## The claims -/

/-- Over the extended reals the call and the reference leave the same array, where what the attention is computed from is finite. -/
theorem algebraic : Cert.algebraic_Kernel5Ideal_Reference5Ideal_pre_finite_decay := by
  intro m ρ m' ρ' hpre hagree
  have H : ∀ c : Dev Cert.Kernel5Ideal.nD, Fin5 (a1 m c) (a2 m c) (a3 m c) (a4 m c) := fun c => GlaPre.finite (hpre c)
  refine ⟨fun c => G6 m c, ?_, ?_⟩
  · exact (θ_run Cert.Kernel5Ideal.defs _ _).mono (fun r h c => ⟨(h c).1.trans (final6 m c (H c)), (h c).2⟩)
      (Cert.Kernel5Ideal.Value.run_blocks (F := Ideal) m ρ)
  · refine (θ_run Cert.Reference5Ideal.defs _ _).mono (fun r h c => ⟨(h c).1.trans ?_, (h c).2⟩)
      (Cert.Reference5Ideal.Value.run (F := Ideal) m' ρ')
    obtain ⟨h0, h1, h2, h3, h4, h5⟩ := hagree c
    refine (Cert.Reference5Ideal.Read.val_main_v73_eq m' c).trans ?_
    rw [h0, h1, h2, h3, h4, h5]
    rfl

/-- The reference's run leaves its arguments unchanged, and it has no counter. -/
theorem frame_ref : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

end Cert.Proof.Gla

end
-- ==== Proof.RetModel.lean ====
/-
  The retention: what one grid point computes, as a recursion over the chunks of its block, on the arrays that the point stores.
  The body's run names every load and every stored value; the modules on the two cases of the run show each to be a value of this
  recursion. Blocks and states are read as in the gated linear attention.
-/
module

public import proofs.«01_k».proof.Proof.GlaModel
public import proofs.«01_k».proof.Proof.Gen.Kernel6Ideal.Value

@[expose] public section

noncomputable section

namespace Cert.Proof.Ret

open Idealize.ShloMosaic Idealize.ShloMosaic.TcCoe Idealize.SL.Sem
open Cert.Kernel6Ideal Cert.Kernel6Ideal.Gen
open Cert.Proof.Gla (blk blk8 ini ld_blk ld_blk8 ld_ini ld_blk' ld_blk8' ld_ini')

variable {F : FTy → Type} [FloatOps F]

/-- The lanes, the rows, and the number of a lane's head times 64 as the selects of the log decays read it. -/
abbrev io1 : IVec S512x256 32 := iota .tc S512x256 32 [1] iota_S512x256_d1_w32
abbrev io0 : IVec S512x256 32 := iota .tc S512x256 32 [0] iota_S512x256_d0_w32

/-- The log decays of the first three heads, and of all four. -/
def LG3 : FVec F S512x256 .f32 :=
  k0_pay12 io1 (k0_pay8 io1 (Scalar.ofBits .f32 0x00000000#32)) (k0_pay9 io1) (k0_pay10 io1) k0_pay11
def LG : FVec F S512x256 .f32 := k0_pay15 io1 LG3 64#32 (k0_pay13 io1) (k0_pay14 io1) 0#32

/-- The decays of the points, which no array enters. -/
def DEC : FVec F S512x256 .f32 := k0_pay23 (k0_pay17 io1 io0 LG3 64#32 (k0_pay13 io1) (k0_pay14 io1) 0#32)

/-- The arrays of a point: the projections, the decayed queries, the inversely decayed keys, the keys decayed to the chunk's end, the
    values and the decays. -/
structure Arr (F : FTy → Type) where
  u : FVec F S512x1536 .f32
  qd : FVec F S512x256 .f32
  ki : FVec F S512x256 .f32
  ke : FVec F S512x256 .f32
  vv : FVec F S512x256 .f32
  dec : FVec F S512x256 .f32

/-- The arrays from the point's blocks. -/
def A (x0 : Vec F S512x1024 .f32) (x1 : Vec F S1x1024 .f32) (x2 : Vec F S1024x1536 .bf16) (x3 x4 : Vec F S512x256 .f32) : Arr F where
  u := k0_pay3 x0 x1 x2
  qd := k0_pay19 (k0_pay18 (k0_pay6 x0 x1 x2 x3 x4) io1 io0 LG3 64#32 (k0_pay13 io1) (k0_pay14 io1) 0#32)
  ki := k0_pay20 (k0_pay7 x0 x1 x2 x3 x4) LG (k0_pay16 io0)
  ke := k0_pay21 (k0_pay7 x0 x1 x2 x3 x4) LG (k0_pay16 io0)
  vv := k0_pay22 (k0_pay3 x0 x1 x2)
  dec := DEC

variable (X : Arr F)

/-- One head's state after a chunk, from its state before. -/
def stp (c h : ℕ) (st : Vec F S1x64x64 .f32) : Vec F S1x64x64 .f32 :=
  k0_pay29 (blk X.ke (64 * c) (64 * h)) (blk X.vv (64 * c) (64 * h)) st (blk8 X.dec (64 * c + 56) (64 * h))

/-- One head's output of a chunk, from its state before. -/
def uo (c h : ℕ) (st : Vec F S1x64x64 .f32) : FVec F S64x64 .f32 :=
  k0_pay28 k0_pay24 (k0_pay25 (blk X.qd (64 * c) (64 * h))) (blk X.ki (64 * c) (64 * h))
    (blk X.vv (64 * c) (64 * h)) st

/-- The same state from the blocks as loads of the arrays. -/
theorem stp_ld (c h a b d : ℕ) (ha : a = 64 * c) (hb : b = 64 * h) (hd : d = 64 * c + 56)
    (p : ∀ k, (![a, b] : Fin 2 → ℕ) k + S64x64.size k ≤ S512x256.size k) (q : ∀ k, (![d, b] : Fin 2 → ℕ) k + S8x64.size k ≤ S512x256.size k)
    (st : Vec F S1x64x64 .f32) :
    k0_pay29 (View.ld (Val := Elt F) (e' := .f32) X.ke (Rect.unit (s := S512x256) ![a, b] S64x64.size p))
        (View.ld (Val := Elt F) (e' := .f32) X.vv (Rect.unit (s := S512x256) ![a, b] S64x64.size p)) st
        (View.ld (Val := Elt F) (e' := .f32) X.dec (Rect.unit (s := S512x256) ![d, b] S8x64.size q)) = stp X c h st := by
  subst ha hb hd
  unfold stp
  rw [ld_blk, ld_blk, ld_blk8]

/-- The same output from the blocks as loads of the arrays. -/
theorem uo_ld (c h a b : ℕ) (ha : a = 64 * c) (hb : b = 64 * h) (p : ∀ k, (![a, b] : Fin 2 → ℕ) k + S64x64.size k ≤ S512x256.size k)
    (st : Vec F S1x64x64 .f32) :
    k0_pay28 k0_pay24 (k0_pay25 (View.ld (Val := Elt F) (e' := .f32) X.qd (Rect.unit (s := S512x256) ![a, b] S64x64.size p)))
        (View.ld (Val := Elt F) (e' := .f32) X.ki (Rect.unit (s := S512x256) ![a, b] S64x64.size p))
        (View.ld (Val := Elt F) (e' := .f32) X.vv (Rect.unit (s := S512x256) ![a, b] S64x64.size p)) st = uo X c h st := by
  subst ha hb
  unfold uo
  rw [ld_blk, ld_blk, ld_blk]

variable (S : Vec F S4x64x64 .f32)

/-- One head's state before chunk `c`, from the states `S` the point begins with. -/
def St : ℕ → ℕ → Vec F S1x64x64 .f32
  | 0, h => ini S h
  | c + 1, h => stp X c h (St c h)

theorem St_zero (h : ℕ) : St X S 0 h = ini S h := rfl
theorem St_succ (c h : ℕ) : St X S (c + 1) h = stp X c h (St X S c h) := rfl

/-- The attention's output over a block. -/
def GO : Vec F S512x256 .f32 := fun i =>
  uo X ((i 0).val / 64) ((i 1).val / 64) (St X S ((i 0).val / 64) ((i 1).val / 64))
    (ix2 (⟨(i 0).val % 64, Nat.mod_lt _ (by decide)⟩ : Fin 64) (⟨(i 1).val % 64, Nat.mod_lt _ (by decide)⟩ : Fin 64))

theorem go_emb (c h a b : ℕ) (ha : a = 64 * c) (hb : b = 64 * h)
    (p : ∀ k, (![a, b] : Fin 2 → ℕ) k + S64x64.size k ≤ S512x256.size k) (x : (Rect.unit (s := S512x256) ![a, b] S64x64.size p).shape.Idx) :
    uo X c h (St X S c h) x = GO X S ((Rect.unit (s := S512x256) ![a, b] S64x64.size p).emb x) := by
  have i0 : (x 0).val < 64 := (x 0).isLt
  have i1 : (x 1).val < 64 := (x 1).isLt
  have e0 : (((Rect.unit (s := S512x256) ![a, b] S64x64.size p).emb x) 0).val = a + 1 * (x 0).val := rfl
  have e1 : (((Rect.unit (s := S512x256) ![a, b] S64x64.size p).emb x) 1).val = b + 1 * (x 1).val := rfl
  have c0 : (((Rect.unit (s := S512x256) ![a, b] S64x64.size p).emb x) 0).val / 64 = c := by rw [e0]; omega
  have c1 : (((Rect.unit (s := S512x256) ![a, b] S64x64.size p).emb x) 1).val / 64 = h := by rw [e1]; omega
  unfold GO
  rw [c0, c1]
  refine congrArg _ (funext fun k => Fin.ext ?_)
  fin_cases k
  · show (x 0).val = (a + 1 * (x 0).val) % 64
    omega
  · show (x 1).val = (b + 1 * (x 1).val) % 64
    omega

/-- The states a point leaves. -/
def GS : Vec F S4x64x64 .f32 := fun i => St X S 8 (i 0).val (ix3 (0 : Fin 1) (i 1) (i 2))

theorem gs_emb (h : ℕ) (p : ∀ k, (![h, 0, 0] : Fin 3 → ℕ) k + S1x64x64.size k ≤ S4x64x64.size k)
    (x : (Rect.unit (s := S4x64x64) ![h, 0, 0] S1x64x64.size p).shape.Idx) :
    St X S 8 h x = GS X S ((Rect.unit (s := S4x64x64) ![h, 0, 0] S1x64x64.size p).emb x) := by
  have i0 : (x 0).val < 1 := (x 0).isLt
  have e0 : (((Rect.unit (s := S4x64x64) ![h, 0, 0] S1x64x64.size p).emb x) 0).val = h + 1 * (x 0).val := rfl
  have c0 : (((Rect.unit (s := S4x64x64) ![h, 0, 0] S1x64x64.size p).emb x) 0).val = h := by rw [e0]; omega
  unfold GS
  rw [c0]
  refine congrArg _ (funext fun k => Fin.ext ?_)
  fin_cases k
  · show (x 0).val = 0
    omega
  · show (x 1).val = 0 + 1 * (x 1).val
    omega
  · show (x 2).val = 0 + 1 * (x 2).val
    omega

/-- What a point writes back. -/
def OUT (x5 : Vec F S1x256 .f32) : FVec F S512x256 .bf16 :=
  k0_pay1 X.u (k0_pay226 (GO X S) (iota .tc S256x256 32 [1] iota_S256x256_d1_w32) k0_pay224 64#32 k0_pay225 0#32) x5

end Cert.Proof.Ret

end
-- ==== Proof.RetPay.lean ====
/-
  The retention: each of the body's functions read at an index.
-/
module

public import proofs.«01_k».proof.Proof.RetModel
public import proofs.«01_k».proof.Proof.GlaPay

@[expose] public section

noncomputable section

namespace Cert.Proof.Ret

open Idealize.ShloMosaic Idealize.ShloMosaic.TcCoe Idealize.SL.Sem
open Cert.Kernel6Ideal Cert.Kernel6Ideal.Gen
open Cert.Proof.Gla (blk blk8 le64_iff eq_iff)

/-! ## The projections and their rotation -/

theorem u_apply (x0 : Vec Ideal S512x1024 .f32) (x1 : Vec Ideal S1x1024 .f32) (x2 : Vec Ideal S1024x1536 .bf16) (r : Fin 512) (l : Fin 1536) :
    (k0_pay3 x0 x1 x2 (ix2 r l) : EReal)
      = Ffn.proj (fun d => x0 (ix2 r d)) (fun d => x1 (ix2 0 d)) (fun d => x2 (ix2 d l)) := by
  pointwise [k0_pay3]
  simp only [Ffn.proj, Ffn.normRow]

theorem q_apply (x0 : Vec Ideal S512x1024 .f32) (x1 : Vec Ideal S1x1024 .f32) (x2 : Vec Ideal S1024x1536 .bf16)
    (x3 x4 : Vec Ideal S512x256 .f32) (p : Fin 512) (c : Fin 256) :
    (k0_pay6 x0 x1 x2 x3 x4 (ix2 p c) : EReal)
      = k0_pay3 x0 x1 x2 (ix2 p ⟨c.val, by omega⟩) * x3 (ix2 p c) + k0_pay3 x0 x1 x2 (ix2 p ⟨256 + c.val, by omega⟩) * x4 (ix2 p c) := by
  unfold k0_pay6
  generalize k0_pay3 x0 x1 x2 = u
  pointwise [k0_pay4, k0_pay5]

theorem k_apply (x0 : Vec Ideal S512x1024 .f32) (x1 : Vec Ideal S1x1024 .f32) (x2 : Vec Ideal S1024x1536 .bf16)
    (x3 x4 : Vec Ideal S512x256 .f32) (p : Fin 512) (c : Fin 256) :
    (k0_pay7 x0 x1 x2 x3 x4 (ix2 p c) : EReal)
      = (k0_pay3 x0 x1 x2 (ix2 p ⟨512 + c.val, by omega⟩) * x3 (ix2 p c) + k0_pay3 x0 x1 x2 (ix2 p ⟨768 + c.val, by omega⟩) * x4 (ix2 p c))
        * Ideal.ofBits .f32 0x3E000000#32 := by
  unfold k0_pay7
  generalize k0_pay3 x0 x1 x2 = u
  pointwise [k0_pay4, k0_pay5]

/-! ## The log decays and the rows' places in their chunks -/

/-- The word of a head's log decay. -/
def lgw (h : Fin 4) : BitVec 32 :=
  match h with
  | 0 => 0xBD020AEC#32
  | 1 => 0xBC8102B3#32
  | 2 => 0xBC0080AC#32
  | 3 => 0xBB80402B#32

/-- The head of a column, as the kernel computes it with a floor division. -/
def headAt (j : S512x256.Idx) : BitVec 32 :=
  Scalar.select (IntOp.andi
      (IntOp.cmpi .ne (IntOp.subi (BitVec.setWidth 32 (IntOp.cmpi .sgt (io1 j) 0#32)) (BitVec.setWidth 32 (IntOp.cmpi .slt (io1 j) 0#32)))
        (Scalar.subi (Scalar.extui (Scalar.cmpi .sgt 64#32 0#32)) (Scalar.extui (Scalar.cmpi .slt 64#32 0#32))))
      (IntOp.cmpi .ne (IntOp.remsi .vector (io1 j) 64#32) 0#32))
      (IntOp.subi (IntOp.divsi .vector (io1 j) 64#32) 1#32) (IntOp.divsi .vector (io1 j) 64#32)

theorem headAt_eq (p : Fin 512) (c : Fin 256) : headAt (ix2 p c) = BitVec.ofNat 32 (c.val / 64) := by
  refine (?_ : headAt (ix2 p c) = headAt (ix2 0 c)).trans
    ((by decide +kernel : ∀ c : Fin 256, headAt (ix2 0 c) = BitVec.ofNat 32 (c.val / 64)) c)
  rfl

theorem LG_select (j : S512x256.Idx) :
    (LG (F := Ideal) j : EReal) = Scalar.select (IntOp.cmpi .eq (headAt j) 3#32) (Ideal.ofBits .f32 0xBB80402B#32)
      (Scalar.select (IntOp.cmpi .eq (headAt j) 2#32) (Ideal.ofBits .f32 0xBC0080AC#32)
        (Scalar.select (IntOp.cmpi .eq (headAt j) 1#32) (Ideal.ofBits .f32 0xBC8102B3#32)
          (Scalar.select (IntOp.cmpi .eq (headAt j) 0#32) (Ideal.ofBits .f32 0xBD020AEC#32) (Ideal.ofBits .f32 0x00000000#32)))) := rfl

theorem LG_apply (p : Fin 512) (h : Fin 4) (d : Fin 64) :
    (LG (F := Ideal) (ix2 p ⟨h.val * 64 + d.val, by omega⟩) : EReal) = Ideal.ofBits .f32 (lgw h) := by
  rw [LG_select, headAt_eq]
  show Scalar.select (IntOp.cmpi .eq (BitVec.ofNat 32 ((h.val * 64 + d.val) / 64)) 3#32) _ _ = _
  rw [show (h.val * 64 + d.val) / 64 = h.val by omega]
  match h with
  | 0 => rfl
  | 1 => rfl
  | 2 => rfl
  | 3 => rfl

/-- The row's place in its chunk, as the kernel computes it with a remainder. -/
def placeAt (j : S512x256.Idx) : BitVec 32 :=
  Scalar.select (IntOp.andi
      (IntOp.xori (IntOp.cmpi .slt (IntOp.remsi .vector (io0 j) (Scalar.select (Scalar.cmpi .eq 64#32 0#32) 1#32 64#32)) 0#32)
        (Scalar.cmpi .slt (Scalar.select (Scalar.cmpi .eq 64#32 0#32) 1#32 64#32) 0#32))
      (IntOp.cmpi .ne (IntOp.remsi .vector (io0 j) (Scalar.select (Scalar.cmpi .eq 64#32 0#32) 1#32 64#32)) 0#32))
    (IntOp.addi (IntOp.remsi .vector (io0 j) (Scalar.select (Scalar.cmpi .eq 64#32 0#32) 1#32 64#32))
      (Scalar.select (Scalar.cmpi .eq 64#32 0#32) 1#32 64#32))
    (IntOp.remsi .vector (io0 j) (Scalar.select (Scalar.cmpi .eq 64#32 0#32) 1#32 64#32))

theorem placeAt_eq (p : Fin 512) (c : Fin 256) : placeAt (ix2 p c) = BitVec.ofNat 32 (p.val % 64) := by
  refine (?_ : placeAt (ix2 p c) = placeAt (ix2 p 0)).trans
    ((by decide +kernel : ∀ p : Fin 512, placeAt (ix2 p 0) = BitVec.ofNat 32 (p.val % 64)) p)
  rfl

theorem pos_apply (p : Fin 512) (c : Fin 256) : (k0_pay16 (F := Ideal) io0 (ix2 p c) : EReal) = ((p.val % 64 : ℕ) : ℝ) := by
  have e : (k0_pay16 (F := Ideal) io0 (ix2 p c) : EReal) = ((placeAt (ix2 p c)).toInt : ℝ) := rfl
  have h : (BitVec.ofNat 32 (p.val % 64)).toInt = (p.val % 64 : ℕ) := by
    rw [BitVec.toInt_eq_toNat_cond, BitVec.toNat_ofNat, Nat.mod_eq_of_lt (by omega), if_pos (by omega)]
  rw [e, placeAt_eq, h]
  rfl

/-! ## The point's arrays -/

variable (x0 : Vec Ideal S512x1024 .f32) (x1 : Vec Ideal S1x1024 .f32) (x2 : Vec Ideal S1024x1536 .bf16) (x3 x4 : Vec Ideal S512x256 .f32)

theorem qd_apply (j : S512x256.Idx) : ((A x0 x1 x2 x3 x4).qd j : EReal)
    = k0_pay6 x0 x1 x2 x3 x4 j * Ideal.exp ((k0_pay16 (F := Ideal) io0 j + Ideal.ofBits .f32 0x3F800000#32) * LG (F := Ideal) j) := by
  obtain ⟨p, c, rfl⟩ : ∃ (p : Fin 512) (c : Fin 256), j = ix2 p c := ⟨j 0, j 1, eq_ix2 j⟩
  show (k0_pay19 (k0_pay18 (k0_pay6 x0 x1 x2 x3 x4) io1 io0 LG3 64#32 (k0_pay13 io1) (k0_pay14 io1) 0#32) (ix2 p c) : EReal) = _
  unfold k0_pay19 k0_pay18 k0_pay17 LG
  generalize k0_pay15 (F := Ideal) io1 LG3 64#32 (k0_pay13 io1) (k0_pay14 io1) 0#32 = l
  generalize k0_pay6 x0 x1 x2 x3 x4 = q
  generalize k0_pay16 (F := Ideal) io0 = s
  pointwise

theorem ki_apply (j : S512x256.Idx) : ((A x0 x1 x2 x3 x4).ki j : EReal)
    = k0_pay7 x0 x1 x2 x3 x4 j * Ideal.exp (-(k0_pay16 (F := Ideal) io0 j + Ideal.ofBits .f32 0x3F800000#32) * LG (F := Ideal) j) := by
  obtain ⟨p, c, rfl⟩ : ∃ (p : Fin 512) (c : Fin 256), j = ix2 p c := ⟨j 0, j 1, eq_ix2 j⟩
  show (k0_pay20 (k0_pay7 x0 x1 x2 x3 x4) LG (k0_pay16 io0) (ix2 p c) : EReal) = _
  generalize LG (F := Ideal) = l
  generalize k0_pay7 x0 x1 x2 x3 x4 = q
  generalize k0_pay16 (F := Ideal) io0 = s
  pointwise [k0_pay20]
  rw [zero_sub]

theorem ke_apply (j : S512x256.Idx) : ((A x0 x1 x2 x3 x4).ke j : EReal)
    = k0_pay7 x0 x1 x2 x3 x4 j * Ideal.exp ((Ideal.ofBits .f32 0x427C0000#32 - k0_pay16 (F := Ideal) io0 j) * LG (F := Ideal) j) := by
  obtain ⟨p, c, rfl⟩ : ∃ (p : Fin 512) (c : Fin 256), j = ix2 p c := ⟨j 0, j 1, eq_ix2 j⟩
  show (k0_pay21 (k0_pay7 x0 x1 x2 x3 x4) LG (k0_pay16 io0) (ix2 p c) : EReal) = _
  generalize LG (F := Ideal) = l
  generalize k0_pay7 x0 x1 x2 x3 x4 = q
  generalize k0_pay16 (F := Ideal) io0 = s
  pointwise [k0_pay21]

theorem vv_apply (p : Fin 512) (c : Fin 256) :
    ((A x0 x1 x2 x3 x4).vv (ix2 p c) : EReal) = k0_pay3 x0 x1 x2 (ix2 p ⟨1024 + c.val, by omega⟩) := by
  show (k0_pay22 (k0_pay3 x0 x1 x2) (ix2 p c) : EReal) = _
  generalize k0_pay3 x0 x1 x2 = u
  pointwise [k0_pay22]

theorem dec_apply (j : S512x256.Idx) :
    (DEC (F := Ideal) j : EReal) = Ideal.exp ((k0_pay16 (F := Ideal) io0 j + Ideal.ofBits .f32 0x3F800000#32) * LG (F := Ideal) j) := by
  obtain ⟨p, c, rfl⟩ : ∃ (p : Fin 512) (c : Fin 256), j = ix2 p c := ⟨j 0, j 1, eq_ix2 j⟩
  unfold DEC k0_pay23 k0_pay17 LG
  generalize k0_pay15 (F := Ideal) io1 LG3 64#32 (k0_pay13 io1) (k0_pay14 io1) 0#32 = l
  generalize k0_pay16 (F := Ideal) io0 = s
  pointwise

/-! ## A chunk -/

variable (X : Arr Ideal)

theorem stp_apply (c h : ℕ) (st : Vec Ideal S1x64x64 .f32) (e d : Fin 64) :
    (stp X c h st (ix3 0 e d) : EReal)
      = st (ix3 0 e d) * blk8 (F := Ideal) X.dec (64 * c + 56) (64 * h) (ix2 7 d)
        + ∑ s : Fin 64, (blk (F := Ideal) X.vv (64 * c) (64 * h) (ix2 s e) : EReal) * blk (F := Ideal) X.ke (64 * c) (64 * h) (ix2 s d) := by
  unfold stp
  generalize blk (F := Ideal) X.vv (64 * c) (64 * h) = v
  generalize blk (F := Ideal) X.ke (64 * c) (64 * h) = k
  generalize blk8 (F := Ideal) X.dec (64 * c + 56) (64 * h) = g
  pointwise [k0_pay29, k0_pay27, k0_pay26]

theorem uo_apply (c h : ℕ) (st : Vec Ideal S1x64x64 .f32) (r e : Fin 64) :
    (uo X c h st (ix2 r e) : EReal)
      = (∑ s : Fin 64, (if s.val ≤ r.val then ∑ d : Fin 64, (blk (F := Ideal) X.qd (64 * c) (64 * h) (ix2 r d) : EReal)
            * blk (F := Ideal) X.ki (64 * c) (64 * h) (ix2 s d) else 0) * (blk (F := Ideal) X.vv (64 * c) (64 * h) (ix2 s e) : EReal))
        + ∑ d : Fin 64, (blk (F := Ideal) X.qd (64 * c) (64 * h) (ix2 r d) : EReal) * st (ix3 0 e d) := by
  unfold uo
  generalize blk (F := Ideal) X.vv (64 * c) (64 * h) = v
  generalize blk (F := Ideal) X.qd (64 * c) (64 * h) = q
  generalize blk (F := Ideal) X.ki (64 * c) (64 * h) = k
  pointwise [k0_pay28, k0_pay27, k0_pay26, k0_pay25, k0_pay24]
  simp only [Scalar.select, le64_iff, ite_mul, zero_mul]

/-! ## The output -/

theorem pay224_apply (r x : Fin 256) : k0_pay224 (ix2 r x) = BitVec.ofNat 32 (r.val / 64) := by
  refine (?_ : k0_pay224 (ix2 r x) = k0_pay224 (ix2 r 0)).trans ((by decide +kernel : ∀ r : Fin 256, k0_pay224 (ix2 r 0) = BitVec.ofNat 32 (r.val / 64)) r)
  rfl

/-- The head of a column of the mask of heads. -/
def headOf (x c : Fin 256) : BitVec 32 :=
  Scalar.select (IntOp.andi
      (IntOp.cmpi .ne (IntOp.subi (BitVec.setWidth 32 (IntOp.cmpi .sgt (BitVec.ofNat 32 c.val) 0#32))
        (BitVec.setWidth 32 (IntOp.cmpi .slt (BitVec.ofNat 32 c.val) 0#32)))
        (Scalar.subi (Scalar.extui (Scalar.cmpi .sgt 64#32 0#32)) (Scalar.extui (Scalar.cmpi .slt 64#32 0#32))))
      (IntOp.cmpi .ne (IntOp.remsi .vector (BitVec.ofNat 32 c.val) 64#32) 0#32))
      (IntOp.subi (k0_pay225 (ix2 x c)) 1#32) (k0_pay225 (ix2 x c))

theorem headOf_eq {x : Fin 256} (c : Fin 256) : headOf x c = BitVec.ofNat 32 (c.val / 64) := by
  refine (?_ : headOf x c = headOf 0 c).trans ((by decide +kernel : ∀ c : Fin 256, headOf 0 c = BitVec.ofNat 32 (c.val / 64)) c)
  rfl

/-- Where an output row is real, its normalization takes the mean of the squares of its own head's lanes. -/
theorem norm_apply (G : FVec Ideal S512x256 .f32) (p : Fin 512) (c : Fin 256) (h : ∀ x : Fin 256, ∃ a : ℝ, (G (ix2 p x) : EReal) = a) :
    (k0_pay226 (F := Ideal) G (iota .tc S256x256 32 [1] iota_S256x256_d1_w32) k0_pay224 64#32 k0_pay225 0#32 (ix2 p c) : EReal)
      = (G (ix2 p c) : EReal) * Ideal.rsqrt ((∑ x : Fin 256, if x.val / 64 = c.val / 64 then (G (ix2 p x) : EReal) * G (ix2 p x) else 0)
          * Ideal.ofBits .f32 0x3C800000#32 + Ideal.ofBits .f32 0x358637BD#32) := by
  have e : ∀ x : Fin 256, headOf x c = BitVec.ofNat 32 (c.val / 64) := fun x => headOf_eq c
  have z : ∀ x : Fin 256, (G (ix2 p x) : EReal) * G (ix2 p x) - G (ix2 p x) * G (ix2 p x) = 0 := fun x => by
    obtain ⟨a, ha⟩ := h x
    rw [ha, ← EReal.coe_mul]
    exact EReal.sub_self (EReal.coe_ne_top _) (EReal.coe_ne_bot _)
  have q : ∀ x : Fin 256, IntOp.cmpi .eq (BitVec.ofNat 32 (x.val / 64)) (BitVec.ofNat 32 (c.val / 64)) = 1 ↔ x.val / 64 = c.val / 64 :=
    fun x => eq_iff ⟨x.val / 64, by omega⟩ ⟨c.val / 64, by omega⟩
  pointwise [k0_pay226]
  simp only [headOf] at e
  simp only [e, pay224_apply]
  simp only [Scalar.select, q, z, sub_zero, ite_self, Finset.sum_const_zero, add_zero]

theorem out_apply (S : Vec Ideal S4x64x64 .f32) (x5 : Vec Ideal S1x256 .f32) (p : Fin 512) (c : Fin 256) :
    (OUT X S x5 (ix2 p c) : EReal)
      = k0_pay226 (F := Ideal) (GO X S) (iota .tc S256x256 32 [1] iota_S256x256_d1_w32) k0_pay224 64#32 k0_pay225 0#32 (ix2 p c) * x5 (ix2 0 c)
        * ((X.u (ix2 p ⟨1280 + c.val, by omega⟩) : EReal) * Ideal.div 1 (1 + Ideal.exp (-X.u (ix2 p ⟨1280 + c.val, by omega⟩)))) := by
  unfold OUT
  generalize k0_pay226 (F := Ideal) (GO X S) (iota .tc S256x256 32 [1] iota_S256x256_d1_w32) k0_pay224 64#32 k0_pay225 0#32 = g
  generalize X.u = u
  pointwise [k0_pay1]
  rw [zero_sub]

end Cert.Proof.Ret

end
-- ==== Proof.RetRef.lean ====
/-
  The retention: the reference's result, read element by element.
-/
module

public import proofs.«01_k».proof.Proof.Gen.Reference6Ideal.Read
public import proofs.«01_k».proof.Proof.GlaRef
public import proofs.«01_k».proof.Proof.RetPay

@[expose] public section

noncomputable section

namespace Cert.Proof.Ret

open Idealize.ShloMosaic Idealize.ShloMosaic.TcCoe Idealize.SL.Sem
open Cert.Reference6Ideal
open Cert.Proof.Prep (coe_sum proj_real div_64)
open Cert.Proof.Gla (coe_toReal le_iff' word_8th silu)

variable (x0 : FVec Ideal S16384x1024 .f32) (x1 : FVec Ideal S1024 .f32) (x2 : FVec Ideal S1024x8220 .f32) (x3 x4 : FVec Ideal S16384x32 .f32)
  (x5 : FVec Ideal S64 .f32)

/-! ## The specification -/

/-- Element `n` of row `r` of the projections. -/
def prj (r : Fin 16384) (n : ℕ) (hn : n < 1024) : EReal :=
  Ffn.proj (fun d => x0 (ix2 r d)) (fun d => x1 (ix1 d)) (fun d => x2 (ix2 d ⟨1812 + n, by omega⟩))

/-- What the precondition states: the numbers that the attention is computed from are real. -/
structure Fin6 (x1 : FVec Ideal S1024 .f32) (x2 : FVec Ideal S1024x8220 .f32) (x3 x4 : FVec Ideal S16384x32 .f32) : Prop where
  ln : ∀ d : Fin 1024, ∃ a : ℝ, (x1 (ix1 d) : EReal) = a
  w : ∀ (d : Fin 1024) (n : Fin 768), ∃ a : ℝ, (x2 (ix2 d ⟨1812 + n.val, by omega⟩) : EReal) = a
  co : ∀ (r : Fin 16384) (j : Fin 32), ∃ a : ℝ, (x3 (ix2 r j) : EReal) = a
  si : ∀ (r : Fin 16384) (j : Fin 32), ∃ a : ℝ, (x4 (ix2 r j) : EReal) = a

/-- One lane of one head, rotated: the head's columns begin at column `b`. -/
def rot (r : Fin 16384) (b : ℕ) (hb : b + 64 ≤ 1024) (d : Fin 64) : EReal :=
  if h : d.val < 32 then
    prj x0 x1 x2 r (b + d.val) (by omega) * x3 (ix2 r ⟨d.val, h⟩) - prj x0 x1 x2 r (b + (32 + d.val)) (by omega) * x4 (ix2 r ⟨d.val, h⟩)
  else
    prj x0 x1 x2 r (b + (d.val - 32)) (by omega) * x4 (ix2 r ⟨d.val - 32, by omega⟩)
      + prj x0 x1 x2 r (b + (32 + (d.val - 32))) (by omega) * x3 (ix2 r ⟨d.val - 32, by omega⟩)

variable {x1 x2 x3 x4}

theorem prj_real (H : Fin6 x1 x2 x3 x4) (r : Fin 16384) (n : ℕ) (hn : n < 768) : ∃ a : ℝ, prj x0 x1 x2 r n (by omega) = a :=
  proj_real _ _ _ H.ln fun d => H.w d ⟨n, hn⟩

theorem rot_real (H : Fin6 x1 x2 x3 x4) (r : Fin 16384) (b : ℕ) (hb : b + 64 ≤ 768) (d : Fin 64) :
    ∃ a : ℝ, rot x0 x1 x2 x3 x4 r b (by omega) d = a := by
  unfold rot
  split_ifs with h
  · obtain ⟨p, hp⟩ := prj_real x0 H r (b + d.val) (by omega)
    obtain ⟨q, hq⟩ := prj_real x0 H r (b + (32 + d.val)) (by omega)
    obtain ⟨c, hc⟩ := H.co r ⟨d.val, h⟩
    obtain ⟨s, hs⟩ := H.si r ⟨d.val, h⟩
    exact ⟨p * c - q * s, by rw [hp, hq, hc, hs, EReal.coe_sub, EReal.coe_mul, EReal.coe_mul]⟩
  · obtain ⟨p, hp⟩ := prj_real x0 H r (b + (d.val - 32)) (by omega)
    obtain ⟨q, hq⟩ := prj_real x0 H r (b + (32 + (d.val - 32))) (by omega)
    obtain ⟨c, hc⟩ := H.co r ⟨d.val - 32, by omega⟩
    obtain ⟨s, hs⟩ := H.si r ⟨d.val - 32, by omega⟩
    exact ⟨p * s + q * c, by rw [hp, hq, hc, hs, EReal.coe_add, EReal.coe_mul, EReal.coe_mul]⟩

theorem lgw_real (h : Fin 4) : ∃ a : ℝ, Ideal.ofBits .f32 (lgw h) = (a : EReal) := by
  match h with
  | 0 => exact ⟨_, by simp only [lgw, Ideal.ofBits, Ideal.ieee]; norm_num; rfl⟩
  | 1 => exact ⟨_, by simp only [lgw, Ideal.ofBits, Ideal.ieee]; norm_num; rfl⟩
  | 2 => exact ⟨_, by simp only [lgw, Ideal.ofBits, Ideal.ieee]; norm_num; rfl⟩
  | 3 => exact ⟨_, by simp only [lgw, Ideal.ofBits, Ideal.ieee]; norm_num; rfl⟩

variable (x1 x2 x3 x4)

/-! ## The real sequences of one head's lanes -/

def lgR (h : Fin 4) : ℝ := (Ideal.ofBits .f32 (lgw h)).toReal
def lR (h : Fin 4) (_ : Fin 64) (_ : ℕ) : ℝ := lgR h
def qR (h : Fin 4) (d : Fin 64) (T : ℕ) : ℝ := if hT : T < 16384 then (rot x0 x1 x2 x3 x4 ⟨T, hT⟩ (h.val * 64) (by omega) d).toReal else 0
def kR (h : Fin 4) (d : Fin 64) (T : ℕ) : ℝ :=
  if hT : T < 16384 then (rot x0 x1 x2 x3 x4 ⟨T, hT⟩ (256 + h.val * 64) (by omega) d * Ideal.ofBits .f32 0x3E000000#32).toReal else 0
def vR (h : Fin 4) (d : Fin 64) (T : ℕ) : ℝ := if hT : T < 16384 then (prj x0 x1 x2 ⟨T, hT⟩ (512 + (h.val * 64 + d.val)) (by omega)).toReal else 0

variable {x1 x2 x3 x4}

theorem lgR_eq (h : Fin 4) : Ideal.ofBits .f32 (lgw h) = (lgR h : EReal) := (coe_toReal (lgw_real h)).symm

theorem qR_eq (H : Fin6 x1 x2 x3 x4) (h : Fin 4) (d : Fin 64) (T : Fin 16384) :
    rot x0 x1 x2 x3 x4 T (h.val * 64) (by omega) d = (qR x0 x1 x2 x3 x4 h d T.val : EReal) := by
  unfold qR
  rw [dif_pos T.isLt]
  exact (coe_toReal (rot_real x0 H _ _ (by omega) _)).symm

theorem kR_eq (H : Fin6 x1 x2 x3 x4) (h : Fin 4) (d : Fin 64) (T : Fin 16384) :
    rot x0 x1 x2 x3 x4 T (256 + h.val * 64) (by omega) d * Ideal.ofBits .f32 0x3E000000#32 = (kR x0 x1 x2 x3 x4 h d T.val : EReal) := by
  unfold kR
  rw [dif_pos T.isLt]
  refine (coe_toReal ?_).symm
  obtain ⟨a, ha⟩ := rot_real x0 H T (256 + h.val * 64) (by omega) d
  exact ⟨a * (1 / 8), by rw [ha, word_8th, EReal.coe_mul]⟩

theorem vR_eq (H : Fin6 x1 x2 x3 x4) (h : Fin 4) (d : Fin 64) (T : Fin 16384) :
    prj x0 x1 x2 T (512 + (h.val * 64 + d.val)) (by omega) = (vR x0 x1 x2 h d T.val : EReal) := by
  unfold vR
  rw [dif_pos T.isLt]
  exact (coe_toReal (prj_real x0 H T _ (by omega))).symm

/-- Equal log decays sum to their number. -/
theorem pre_const (h : Fin 4) (d : Fin 64) (n : ℕ) : GlaMath.pre (lR h d) n = n * lgR h := by
  simp [GlaMath.pre, lR]

/-- The attention's output at row `T`, head `h` and lane `e`. -/
def oR (x1 : FVec Ideal S1024 .f32) (x2 : FVec Ideal S1024x8220 .f32) (x3 x4 : FVec Ideal S16384x32 .f32)
    (h : Fin 4) (e : Fin 64) (T : ℕ) : ℝ :=
  ∑ s ∈ Finset.range 16384, (∑ d, qR x0 x1 x2 x3 x4 h d T * kR x0 x1 x2 x3 x4 h d s
    * (if s ≤ T then Real.exp (GlaMath.pre (lR h d) (T + 1) - GlaMath.pre (lR h d) (s + 1)) else 0))
    * vR x0 x1 x2 h e s

/-! ## The reference's arrays -/

theorem v14_apply (r : Fin 16384) (n : ℕ) (hn : n < 1024) :
    Read.val_main_v14 (F := Ideal) x0 x1 x2 (ix2 r ⟨n, hn⟩) = prj x0 x1 x2 r n hn := by
  unfold prj
  pointwise [Read.val_main_v14, Read.val_main_v13, Read.val_main_v12, Read.val_main_v11, Read.val_main_v10, Read.val_main_v9,
    Read.val_main_v8, Read.val_main_v7, Read.val_main_v6, Read.val_main_v5, Read.val_main_v4, Read.val_main_v3, Read.val_main_v2,
    Read.val_main_v1, Read.val_main_v0, Read.val_main_cst, Read.val_main_cst_0, Read.val_main_cst_1]
  simp only [Ffn.proj, Ffn.normRow]

theorem v31_apply (H : Fin6 x1 x2 x3 x4) (r : Fin 16384) (h : Fin 4) (d : Fin 64) :
    (Read.val_main_v31 (F := Ideal) x0 x1 x2 x3 x4 (ix3 r h d) : EReal) = (qR x0 x1 x2 x3 x4 h d r.val : EReal) := by
  rw [← qR_eq x0 H]
  unfold rot
  simp only [← v14_apply]
  unfold Read.val_main_v31 Read.val_main_v30 Read.val_main_v29 Read.val_main_v28 Read.val_main_v27 Read.val_main_v26 Read.val_main_v25
    Read.val_main_v24 Read.val_main_v23 Read.val_main_v22 Read.val_main_v21 Read.val_main_v20 Read.val_main_v19 Read.val_main_v18
    Read.val_main_v17 Read.val_main_v16 Read.val_main_v15
  generalize Read.val_main_v14 (F := Ideal) x0 x1 x2 = y
  pointwise

theorem v50_apply (H : Fin6 x1 x2 x3 x4) (r : Fin 16384) (h : Fin 4) (d : Fin 64) :
    (Read.val_main_v50 (F := Ideal) x0 x1 x2 x3 x4 (ix3 r h d) : EReal) = (kR x0 x1 x2 x3 x4 h d r.val : EReal) := by
  rw [← kR_eq x0 H]
  unfold rot
  simp only [← v14_apply]
  unfold Read.val_main_v50 Read.val_main_v49 Read.val_main_cst_2 Read.val_main_v48 Read.val_main_v47 Read.val_main_v46 Read.val_main_v45
    Read.val_main_v44 Read.val_main_v43 Read.val_main_v42 Read.val_main_v41 Read.val_main_v40 Read.val_main_v39 Read.val_main_v38
    Read.val_main_v37 Read.val_main_v36 Read.val_main_v35 Read.val_main_v34 Read.val_main_v33 Read.val_main_v32
  generalize Read.val_main_v14 (F := Ideal) x0 x1 x2 = y
  pointwise
  simp only [add_assoc]

theorem v52_apply (H : Fin6 x1 x2 x3 x4) (r : Fin 16384) (h : Fin 4) (d : Fin 64) :
    (Read.val_main_v52 (F := Ideal) x0 x1 x2 (ix3 r h d) : EReal) = (vR x0 x1 x2 h d r.val : EReal) := by
  rw [← vR_eq x0 H, ← v14_apply]
  unfold Read.val_main_v52 Read.val_main_v51
  generalize Read.val_main_v14 (F := Ideal) x0 x1 x2 = y
  pointwise

/-- The log decays of the four heads. -/
theorem v58_apply (h : Fin 4) : (Read.val_main_v58 (F := Ideal) (ix1 h) : EReal) = Ideal.ofBits .f32 (lgw h) := by
  match h with
  | 0 => pointwise [Read.val_main_v58, Read.val_main_v57, Read.val_main_v56, Read.val_main_v55, Read.val_main_v54, Read.val_main_cst_3,
      Read.val_main_cst_4, Read.val_main_cst_5, Read.val_main_cst_6]; rfl
  | 1 => pointwise [Read.val_main_v58, Read.val_main_v57, Read.val_main_v56, Read.val_main_v55, Read.val_main_v54, Read.val_main_cst_3,
      Read.val_main_cst_4, Read.val_main_cst_5, Read.val_main_cst_6]; rfl
  | 2 => pointwise [Read.val_main_v58, Read.val_main_v57, Read.val_main_v56, Read.val_main_v55, Read.val_main_v54, Read.val_main_cst_3,
      Read.val_main_cst_4, Read.val_main_cst_5, Read.val_main_cst_6]; rfl
  | 3 => pointwise [Read.val_main_v58, Read.val_main_v57, Read.val_main_v56, Read.val_main_v55, Read.val_main_v54, Read.val_main_cst_3,
      Read.val_main_cst_4, Read.val_main_cst_5, Read.val_main_cst_6]; rfl

theorem v60_apply (r : Fin 16384) : (Read.val_main_v60 (F := Ideal) (ix1 r) : EReal) = ((r.val : ℝ) : EReal) := by
  have e : (Read.val_main_v60 (F := Ideal) (ix1 r) : EReal) = (((BitVec.ofNat 32 r.val).toInt : ℝ) : EReal) := rfl
  have h : (BitVec.ofNat 32 r.val).toInt = (r.val : ℕ) := by
    rw [BitVec.toInt_eq_toNat_cond, BitVec.toNat_ofNat, Nat.mod_eq_of_lt (by omega), if_pos (by omega)]
  rw [e, h]
  rfl

/-- The decays: zero for the rows after. -/
theorem v79_apply (h : Fin 4) (T s : Fin 16384) :
    (Read.val_main_v79 (F := Ideal) (ix3 h T s) : EReal)
      = ((if s.val ≤ T.val then Real.exp (((T.val : ℝ) - s.val) * lgR h) else 0 : ℝ) : EReal) := by
  have e : ((if s.val ≤ T.val then Real.exp (((T.val : ℝ) - s.val) * lgR h) else 0 : ℝ) : EReal)
      = if s.val ≤ T.val then Ideal.exp (((Read.val_main_v60 (F := Ideal) (ix1 T) : EReal) - Read.val_main_v60 (F := Ideal) (ix1 s))
          * Read.val_main_v58 (F := Ideal) (ix1 h)) else 0 := by
    rw [v60_apply, v60_apply, v58_apply, lgR_eq, ← EReal.coe_sub, ← EReal.coe_mul]
    split_ifs <;> rfl
  have e2 : Read.val_main_v62 (F := Ideal) = Read.val_main_v60 (F := Ideal) := rfl
  rw [e]
  unfold Read.val_main_v79 Read.val_main_call0_v2 Read.val_main_call0_v1 Read.val_main_call0_v0 Read.val_main_cst_7 Read.val_main_v78
    Read.val_main_v77 Read.val_main_v76 Read.val_main_v75 Read.val_main_v74 Read.val_main_v73 Read.val_main_v72 Read.val_main_v71
    Read.val_main_v70 Read.val_main_v69 Read.val_main_v68 Read.val_main_v67 Read.val_main_v66 Read.val_main_v65 Read.val_main_v64
    Read.val_main_v63 Read.val_main_v61 Read.val_main_v59
  rw [e2]
  generalize Read.val_main_v60 (F := Ideal) = p
  generalize Read.val_main_v58 (F := Ideal) = l
  pointwise
  simp only [Scalar.select, le_iff']
  exact if_congr Iff.rfl rfl (by simp [constant, Scalar.ofBits, FloatOps.ofBits, Ideal.ofBits, Ideal.ieee])

/-- The scores. -/
theorem v81_apply (H : Fin6 x1 x2 x3 x4) (T s : Fin 16384) (h : Fin 4) :
    (Read.val_main_v81 (F := Ideal) x0 x1 x2 x3 x4 (ix3 h T s) : EReal)
      = ((∑ d, qR x0 x1 x2 x3 x4 h d T.val * kR x0 x1 x2 x3 x4 h d s.val * (if s.val ≤ T.val then
          Real.exp (GlaMath.pre (lR h d) (T.val + 1) - GlaMath.pre (lR h d) (s.val + 1)) else 0) : ℝ) : EReal) := by
  have e : (∑ d, qR x0 x1 x2 x3 x4 h d T.val * kR x0 x1 x2 x3 x4 h d s.val * (if s.val ≤ T.val then
          Real.exp (GlaMath.pre (lR h d) (T.val + 1) - GlaMath.pre (lR h d) (s.val + 1)) else 0))
      = (∑ d, qR x0 x1 x2 x3 x4 h d T.val * kR x0 x1 x2 x3 x4 h d s.val)
        * (if s.val ≤ T.val then Real.exp (((T.val : ℝ) - s.val) * lgR h) else 0) := by
    rw [Finset.sum_mul]
    refine Finset.sum_congr rfl fun d _ => ?_
    rw [pre_const, pre_const]
    congr 3
    push_cast
    ring
  rw [e, EReal.coe_mul, coe_sum, ← v79_apply]
  simp only [EReal.coe_mul, ← v31_apply x0 H, ← v50_apply x0 H]
  unfold Read.val_main_v81 Read.val_main_v80
  generalize Read.val_main_v31 (F := Ideal) x0 x1 x2 x3 x4 = q
  generalize Read.val_main_v50 (F := Ideal) x0 x1 x2 x3 x4 = k
  generalize Read.val_main_v79 (F := Ideal) = b
  pointwise

/-- The attention's output. -/
theorem v83_apply (H : Fin6 x1 x2 x3 x4) (T : Fin 16384) (h : Fin 4) (e : Fin 64) :
    (Read.val_main_v83 (F := Ideal) x0 x1 x2 x3 x4 (ix3 T h e) : EReal) = (oR x0 x1 x2 x3 x4 h e T.val : EReal) := by
  unfold oR
  rw [← Fin.sum_univ_eq_sum_range (fun s => (∑ d, qR x0 x1 x2 x3 x4 h d T.val * kR x0 x1 x2 x3 x4 h d s * (if s ≤ T.val then
          Real.exp (GlaMath.pre (lR h d) (T.val + 1) - GlaMath.pre (lR h d) (s + 1)) else 0))
    * vR x0 x1 x2 h e s) 16384, coe_sum]
  have e : ∀ s : Fin 16384, (((∑ d, qR x0 x1 x2 x3 x4 h d T.val * kR x0 x1 x2 x3 x4 h d s.val * (if s.val ≤ T.val then
          Real.exp (GlaMath.pre (lR h d) (T.val + 1) - GlaMath.pre (lR h d) (s.val + 1)) else 0))
        * vR x0 x1 x2 h e s.val : ℝ) : EReal)
      = (Read.val_main_v52 (F := Ideal) x0 x1 x2 (ix3 s h e) : EReal) * Read.val_main_v81 (F := Ideal) x0 x1 x2 x3 x4 (ix3 h T s) := fun s => by
    rw [v52_apply x0 H, v81_apply x0 H, EReal.coe_mul, mul_comm]
  simp only [e]
  unfold Read.val_main_v83 Read.val_main_v82
  generalize Read.val_main_v52 (F := Ideal) x0 x1 x2 = v
  generalize Read.val_main_v81 (F := Ideal) x0 x1 x2 x3 x4 = s
  pointwise

/-- The normalized output of one head's lane. -/
def nR (x1 : FVec Ideal S1024 .f32) (x2 : FVec Ideal S1024x8220 .f32) (x3 x4 : FVec Ideal S16384x32 .f32)
    (x5 : FVec Ideal S64 .f32) (h : Fin 4) (e : Fin 64) (T : ℕ) : EReal :=
  (oR x0 x1 x2 x3 x4 h e T : EReal) * Ideal.rsqrt ((∑ d, (oR x0 x1 x2 x3 x4 h d T : EReal) * (oR x0 x1 x2 x3 x4 h d T : EReal))
    * Ideal.ofBits .f32 0x3C800000#32 + Ideal.ofBits .f32 0x358637BD#32) * x5 (ix1 e)

theorem v96_apply (H : Fin6 x1 x2 x3 x4) (T : Fin 16384) (h : Fin 4) (e : Fin 64) :
    (Read.val_main_v96 (F := Ideal) x0 x1 x2 x3 x4 x5 (ix3 T h e) : EReal) = nR x0 x1 x2 x3 x4 x5 h e T.val := by
  unfold nR
  simp only [← v83_apply x0 H, ← div_64]
  unfold Read.val_main_v96 Read.val_main_v95 Read.val_main_v94 Read.val_main_v93 Read.val_main_v92 Read.val_main_v91 Read.val_main_v90
    Read.val_main_v89 Read.val_main_v88 Read.val_main_v87 Read.val_main_v86 Read.val_main_v85 Read.val_main_v84 Read.val_main_cst_8
    Read.val_main_cst_9 Read.val_main_cst_10
  generalize Read.val_main_v83 (F := Ideal) x0 x1 x2 x3 x4 = y
  pointwise

theorem v53_apply (T : Fin 16384) (c : Fin 256) :
    (Read.val_main_v53 (F := Ideal) x0 x1 x2 (ix2 T c) : EReal) = Read.val_main_v14 (F := Ideal) x0 x1 x2 (ix2 T ⟨768 + c.val, by omega⟩) := by
  unfold Read.val_main_v53
  generalize Read.val_main_v14 (F := Ideal) x0 x1 x2 = u
  pointwise

/-- The call's result at an index. -/
theorem ref_apply (H : Fin6 x1 x2 x3 x4) (T : Fin 16384) (h : Fin 4) (e : Fin 64) :
    (Read.val_main_v100 (F := Ideal) x0 x1 x2 x3 x4 x5 (ix2 T ⟨h.val * 64 + e.val, by omega⟩) : EReal)
      = nR x0 x1 x2 x3 x4 x5 h e T.val * silu (prj x0 x1 x2 T (768 + (h.val * 64 + e.val)) (by omega)) := by
  unfold silu
  rw [← v96_apply x0 x5 H, ← v14_apply,
    ← v53_apply x0 T ⟨h.val * 64 + e.val, by omega⟩]
  unfold Read.val_main_v100 Read.val_main_v99 Read.val_main_v98 Read.val_main_v97 Read.val_main_call1_v5 Read.val_main_call1_v4
    Read.val_main_call1_v3 Read.val_main_call1_v2 Read.val_main_call1_v1 Read.val_main_call1_v0 Read.val_main_call1_cst Read.val_main_call1_cst_0
  generalize Read.val_main_v96 (F := Ideal) x0 x1 x2 x3 x4 x5 = y
  generalize Read.val_main_v53 (F := Ideal) x0 x1 x2 = u
  pointwise

end Cert.Proof.Ret

end
-- ==== Proof.RetBlock.lean ====
/-
  The retention: one grid point in real numbers. Where the point's arrays are the decayed real queries and keys, its chunks' outputs are
  the retention over all rows before, and the states that it leaves are those the next point begins with.
-/
module

public import proofs.«01_k».proof.Proof.RetRef
public import proofs.«01_k».proof.Proof.GlaBlock

@[expose] public section

noncomputable section

namespace Cert.Proof.Ret

open Idealize.ShloMosaic Idealize.ShloMosaic.TcCoe Idealize.SL.Sem
open Cert.Kernel6Ideal Cert.Kernel6Ideal.Gen
open Cert.Proof.Prep (coe_sum)
open Cert.Proof.Gla (blk blk8 ini blk_apply blk8_apply ini_apply)

theorem go_apply (X : Arr Ideal) (S : Vec Ideal S4x64x64 .f32) (c : Fin 8) (h : Fin 4) (r e : Fin 64) :
    GO X S (ix2 ⟨64 * c.val + r.val, by omega⟩ ⟨h.val * 64 + e.val, by omega⟩) = uo X c.val h.val (St X S c.val h.val) (ix2 r e) := by
  show uo X ((64 * c.val + r.val) / 64) ((h.val * 64 + e.val) / 64) (St X S ((64 * c.val + r.val) / 64) ((h.val * 64 + e.val) / 64))
    (ix2 (⟨(64 * c.val + r.val) % 64, Nat.mod_lt _ (by decide)⟩ : Fin 64) (⟨(h.val * 64 + e.val) % 64, Nat.mod_lt _ (by decide)⟩ : Fin 64)) = _
  rw [show (64 * c.val + r.val) / 64 = c.val by omega, show (h.val * 64 + e.val) / 64 = h.val by omega]
  have e0 : (⟨(64 * c.val + r.val) % 64, Nat.mod_lt _ (by decide)⟩ : Fin 64) = r := Fin.ext (by
    show (64 * c.val + r.val) % 64 = r.val
    omega)
  have e1 : (⟨(h.val * 64 + e.val) % 64, Nat.mod_lt _ (by decide)⟩ : Fin 64) = e := Fin.ext (by
    show (h.val * 64 + e.val) % 64 = e.val
    omega)
  rw [e0, e1]

/-- Equal log decays, summed up to a row of a chunk and after it. -/
theorem upto_const (h : Fin 4) (d : Fin 64) (C r : ℕ) (hr : r < 64) : GlaMath.upto (lR h d) C r = ((r : ℝ) + 1) * lgR h := by
  rw [GlaMath.upto_eq _ _ _ hr, pre_const, pre_const]
  push_cast
  ring

theorem after_const (h : Fin 4) (d : Fin 64) (C r : ℕ) (hr : r < 64) : GlaMath.after (lR h d) C r = (63 - (r : ℝ)) * lgR h := by
  rw [GlaMath.after_eq _ _ _ hr, pre_const, pre_const]
  push_cast
  ring

/-- Point `t`'s arrays are the real sequences of each head's lanes at the point's rows, decayed by the rows' places in their chunks. -/
structure Pt (X : Arr Ideal) (t : ℕ) (q k v : Fin 4 → Fin 64 → ℕ → ℝ) : Prop where
  hqd : ∀ (p : Fin 512) (h : Fin 4) (d : Fin 64), (X.qd (ix2 p ⟨h.val * 64 + d.val, by omega⟩) : EReal)
    = (q h d (512 * t + p.val) * Real.exp ((((p.val % 64 : ℕ) : ℝ) + 1) * lgR h) : ℝ)
  hki : ∀ (p : Fin 512) (h : Fin 4) (d : Fin 64), (X.ki (ix2 p ⟨h.val * 64 + d.val, by omega⟩) : EReal)
    = (k h d (512 * t + p.val) * Real.exp (-(((p.val % 64 : ℕ) : ℝ) + 1) * lgR h) : ℝ)
  hke : ∀ (p : Fin 512) (h : Fin 4) (d : Fin 64), (X.ke (ix2 p ⟨h.val * 64 + d.val, by omega⟩) : EReal)
    = (k h d (512 * t + p.val) * Real.exp ((63 - ((p.val % 64 : ℕ) : ℝ)) * lgR h) : ℝ)
  hvv : ∀ (p : Fin 512) (h : Fin 4) (d : Fin 64), (X.vv (ix2 p ⟨h.val * 64 + d.val, by omega⟩) : EReal) = (v h d (512 * t + p.val) : ℝ)
  hdec : ∀ (p : Fin 512) (h : Fin 4) (d : Fin 64), (X.dec (ix2 p ⟨h.val * 64 + d.val, by omega⟩) : EReal)
    = (Real.exp ((((p.val % 64 : ℕ) : ℝ) + 1) * lgR h) : ℝ)

theorem place (c : Fin 8) (r : Fin 64) : (64 * c.val + r.val) % 64 = r.val := by omega
theorem row_eq (t : ℕ) (c : Fin 8) (r : Fin 64) : 512 * t + (64 * c.val + r.val) = 64 * (8 * t + c.val) + r.val := by omega

variable {X : Arr Ideal} {t : ℕ} {q k v : Fin 4 → Fin 64 → ℕ → ℝ} (H : Pt X t q k v)
include H

theorem qd_coe (c : Fin 8) (r : Fin 64) (h : Fin 4) (d : Fin 64) :
    (blk (F := Ideal) X.qd (64 * c.val) (64 * h.val) (ix2 r d) : EReal)
      = (q h d (64 * (8 * t + c.val) + r.val) * Real.exp (GlaMath.upto (lR h d) (8 * t + c.val) r.val) : ℝ) := by
  refine (blk_apply X.qd c h r d).trans ((H.hqd _ h d).trans ?_)
  dsimp only
  rw [place, row_eq, upto_const _ _ _ _ r.isLt]

theorem ki_coe (c : Fin 8) (r : Fin 64) (h : Fin 4) (d : Fin 64) :
    (blk (F := Ideal) X.ki (64 * c.val) (64 * h.val) (ix2 r d) : EReal)
      = (k h d (64 * (8 * t + c.val) + r.val) * Real.exp (-GlaMath.upto (lR h d) (8 * t + c.val) r.val) : ℝ) := by
  refine (blk_apply X.ki c h r d).trans ((H.hki _ h d).trans ?_)
  dsimp only
  rw [place, row_eq, upto_const _ _ _ _ r.isLt, neg_mul]

theorem ke_coe (c : Fin 8) (r : Fin 64) (h : Fin 4) (d : Fin 64) :
    (blk (F := Ideal) X.ke (64 * c.val) (64 * h.val) (ix2 r d) : EReal)
      = (k h d (64 * (8 * t + c.val) + r.val) * Real.exp (GlaMath.after (lR h d) (8 * t + c.val) r.val) : ℝ) := by
  refine (blk_apply X.ke c h r d).trans ((H.hke _ h d).trans ?_)
  dsimp only
  rw [place, row_eq, after_const _ _ _ _ r.isLt]

theorem vv_coe (c : Fin 8) (r : Fin 64) (h : Fin 4) (d : Fin 64) :
    (blk (F := Ideal) X.vv (64 * c.val) (64 * h.val) (ix2 r d) : EReal) = (v h d (64 * (8 * t + c.val) + r.val) : ℝ) := by
  refine (blk_apply X.vv c h r d).trans ((H.hvv _ h d).trans ?_)
  dsimp only
  rw [row_eq]

theorem dec_coe (c : Fin 8) (h : Fin 4) (d : Fin 64) :
    (blk8 (F := Ideal) X.dec (64 * c.val + 56) (64 * h.val) (ix2 7 d) : EReal)
      = (Real.exp (GlaMath.upto (lR h d) (8 * t + c.val) 63) : ℝ) := by
  refine (blk8_apply X.dec c h d).trans ((H.hdec _ h d).trans ?_)
  dsimp only
  rw [show (64 * c.val + 63) % 64 = 63 by omega, upto_const _ _ _ _ (by decide)]

/-! ## The states -/

variable {S : Vec Ideal S4x64x64 .f32}
  (hS : ∀ (h : Fin 4) (e d : Fin 64), (S (ix3 h e d) : EReal) = (GlaMath.stv (lR h d) (k h d) (v h e) (8 * t) : ℝ))

include hS

theorem st_coe (h : Fin 4) (e d : Fin 64) : ∀ c : ℕ, c ≤ 8 →
    (St X S c h.val (ix3 0 e d) : EReal) = (GlaMath.stv (lR h d) (k h d) (v h e) (8 * t + c) : ℝ)
  | 0, _ => by
    exact (ini_apply S h e d).trans (hS h e d)
  | c + 1, hc => by
    have ih := st_coe h e d c (by omega)
    have hd := dec_coe H ⟨c, by omega⟩ h d
    have hb := fun s => vv_coe H ⟨c, by omega⟩ s h e
    have hk := fun s => ke_coe H ⟨c, by omega⟩ s h d
    simp only at hd hb hk
    rw [St_succ, stp_apply, ih, hd, ← add_assoc, GlaMath.stv_succ, EReal.coe_add, EReal.coe_mul, coe_sum]
    simp only [hb, hk, EReal.coe_mul]

/-- The states that a point leaves are those the next point begins with. -/
theorem gs_coe (h : Fin 4) (e d : Fin 64) :
    (GS X S (ix3 h e d) : EReal) = (GlaMath.stv (lR h d) (k h d) (v h e) (8 * (t + 1)) : ℝ) :=
  st_coe H hS h e d 8 le_rfl

/-- The retention over all rows up to this one. -/
theorem go_coe (ht : t < 32) (c : Fin 8) (r : Fin 64) (h : Fin 4) (e : Fin 64) :
    (GO X S (ix2 ⟨64 * c.val + r.val, by omega⟩ ⟨h.val * 64 + e.val, by omega⟩) : EReal)
      = ((∑ s ∈ Finset.range 16384, (∑ d, q h d (64 * (8 * t + c.val) + r.val) * k h d s * (if s ≤ 64 * (8 * t + c.val) + r.val then
          Real.exp (GlaMath.pre (lR h d) (64 * (8 * t + c.val) + r.val + 1) - GlaMath.pre (lR h d) (s + 1)) else 0)) * v h e s : ℝ) : EReal) := by
  rw [← GlaMath.out_eq (lR h) (k h) (q h) (v h e) (8 * t + c.val) r.val 16384 r.isLt (by omega), go_apply, uo_apply]
  simp only [qd_coe H, ki_coe H, vv_coe H, st_coe H hS h e _ c.val (by omega)]
  rw [EReal.coe_add, coe_sum, coe_sum]
  congr 1
  refine Finset.sum_congr rfl fun s _ => ?_
  rw [EReal.coe_mul]
  congr 1
  split_ifs
  · rw [coe_sum]
    simp only [EReal.coe_mul]
  · rfl

end Cert.Proof.Ret

end
-- ==== Proof.RetIn.lean ====
/-
  The retention: the blocks that each grid point loads, as elements of the call's arguments.
-/
module

public import proofs.«01_k».proof.Proof.Gen.Kernel6Ideal.Value
public import Idealize.ShloMosaic.Lib.Pointwise
public import Idealize.ShloMosaic.Lib.Claim
public import Idealize.ShloMosaic.Lib.KernelVsHost
public import Idealize.ShloMosaic.Lib.Pipeline.ValueKit

@[expose] public section

noncomputable section

namespace Cert.Proof.Ret

open Idealize.ShloMosaic Idealize.ShloMosaic.TcCoe Idealize.SL.Sem
open Cert.Kernel6Ideal Cert.Kernel6Ideal.Gen

variable (m : (ℓ : Loc nD τ sig) → Buf (Elt Ideal) ℓ)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)

/-- Row `r` of point `t`'s block, in the whole array. -/
def row (t : Fin cfg0.N) (r : Fin 512) : Fin 16384 := ⟨t.val * 512 + r.val, by have : t.val < 32 := t.isLt; omega⟩

/-- Window 0's block at a point: rows `512 t ..` of the array. -/
theorem iblk0_apply (c : Dev nD) (t : Fin cfg0.N) (r : Fin 512) (k : Fin 1024) :
    iblk m c 0 t (ix2 r k) = m ((c : Thread nD τ).loc main_arg0) (ix2 (row t r) k) := by
  have hemb : ((cfg0.win 0).blk t).view.emb (ix2 r k) = ix2 (n0 := 16384) (n1 := 1024) (row t r) k := by
    funext a
    apply Fin.ext
    match a with
    | ⟨0, _⟩ => show win0_0.index t 0 * 512 + 1 * r.val = t.val * 512 + r.val
                rw [(index0 t).1]; omega
    | ⟨1, _⟩ => show win0_0.index t 1 * 1024 + 1 * k.val = k.val
                rw [(index0 t).2]; omega
  show V m c main_arg0 (((cfg0.win 0).blk t).view.emb (ix2 r k)) = _
  rw [hemb]
  rw [V_main_arg0]

/-- A line of operations in two parts. -/
theorem after_two (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l ih => exact ih _

/-- Window 1's block at a point: the gain of the normalization. -/
theorem iblk1_apply (c : Dev nD) (t : Fin cfg0.N) (k : Fin 1024) :
    iblk m c 1 t (ix2 0 k) = m ((c : Thread nD τ).loc main_arg1) (ix1 k) := by
  have hemb : ((cfg0.win 1).blk t).view.emb (ix2 0 k) = ix2 (n0 := 1) (n1 := 1024) 0 k := by
    funext a
    apply Fin.ext
    match a with
    | ⟨0, _⟩ => show win0_1.index t 0 * 1 + 1 * 0 = 0
                rw [(index1 t).1]
    | ⟨1, _⟩ => show win0_1.index t 1 * 1024 + 1 * k.val = k.val
                rw [(index1 t).2]; omega
  show V m c main_v46 (((cfg0.win 1).blk t).view.emb (ix2 0 k)) = _
  rw [hemb]
  simp only [V, hostOps0, hostOps0_1, hostOps0_2, hostOps0_3, hostOps0_4, hostOps0_5, hostOps0_6,
    List.flatten_cons, List.flatten_nil, List.append_nil, List.cons_append, List.nil_append]
  entry_read
  pointwise

/-- Window 5's block at a point: the gain of the heads' normalization, four times. -/
theorem iblk5_apply (c : Dev nD) (t : Fin cfg0.N) (k : Fin 256) :
    iblk m c 5 t (ix2 0 k) = m ((c : Thread nD τ).loc main_arg5) (ix1 ⟨k.val % 64, by omega⟩) := by
  have hemb : ((cfg0.win 5).blk t).view.emb (ix2 0 k) = ix2 (n0 := 1) (n1 := 256) 0 k := by
    funext a
    apply Fin.ext
    match a with
    | ⟨0, _⟩ => show win0_5.index t 0 * 1 + 1 * 0 = 0
                rw [(index5 t).1]
    | ⟨1, _⟩ => show win0_5.index t 1 * 256 + 1 * k.val = k.val
                rw [(index5 t).2]; omega
  show V m c main_v50 (((cfg0.win 5).blk t).view.emb (ix2 0 k)) = _
  rw [hemb]
  simp only [V, hostOps0, hostOps0_1, hostOps0_2, hostOps0_3, hostOps0_4, hostOps0_5, hostOps0_6,
    List.flatten_cons, List.flatten_nil, List.append_nil, List.cons_append, List.nil_append]
  entry_read
  pointwise

/-- Window 3's block at a point: the cosines, twice in each head. -/
theorem iblk3_apply (c : Dev nD) (t : Fin cfg0.N) (r : Fin 512) (k : Fin 256) :
    (iblk m c 3 t (ix2 r k) : EReal) = m ((c : Thread nD τ).loc main_arg3) (ix2 (row t r) ⟨k.val % 32, by omega⟩) := by
  have hemb : ((cfg0.win 3).blk t).view.emb (ix2 r k) = ix2 (n0 := 16384) (n1 := 256) (row t r) k := by
    funext a
    apply Fin.ext
    match a with
    | ⟨0, _⟩ => show win0_3.index t 0 * 512 + 1 * r.val = t.val * 512 + r.val
                rw [(index3 t).1]; omega
    | ⟨1, _⟩ => show win0_3.index t 1 * 256 + 1 * k.val = k.val
                rw [(index3 t).2]; omega
  show (V m c main_v40 (((cfg0.win 3).blk t).view.emb (ix2 r k)) : EReal) = _
  rw [hemb]
  generalize row t r = R
  simp only [V, hostOps0, hostOps0_1, hostOps0_2, hostOps0_3, hostOps0_4, hostOps0_5, hostOps0_6,
    List.flatten_cons, List.flatten_nil, List.append_nil, List.cons_append, List.nil_append]
  entry_read
  pointwise
  by_cases h : k.val % 64 < 32
  · exact (dif_pos h).trans (congrArg (fun j => (m ((c : Thread nD τ).loc main_arg3) (ix2 R j) : EReal)) (Fin.ext (by show k.val % 64 = k.val % 32; omega)))
  · exact (dif_neg h).trans (congrArg (fun j => (m ((c : Thread nD τ).loc main_arg3) (ix2 R j) : EReal)) (Fin.ext (by show k.val % 64 - 32 = k.val % 32; omega)))

/-- Window 4's block at a point: the sines, negated in the first half of each head. -/
theorem iblk4_apply (c : Dev nD) (t : Fin cfg0.N) (r : Fin 512) (k : Fin 256) :
    (iblk m c 4 t (ix2 r k) : EReal) = if k.val % 64 < 32 then Neg.neg (α := EReal) (m ((c : Thread nD τ).loc main_arg4) (ix2 (row t r) ⟨k.val % 32, by omega⟩))
      else m ((c : Thread nD τ).loc main_arg4) (ix2 (row t r) ⟨k.val % 32, by omega⟩) := by
  have hemb : ((cfg0.win 4).blk t).view.emb (ix2 r k) = ix2 (n0 := 16384) (n1 := 256) (row t r) k := by
    funext a
    apply Fin.ext
    match a with
    | ⟨0, _⟩ => show win0_4.index t 0 * 512 + 1 * r.val = t.val * 512 + r.val
                rw [(index4 t).1]; omega
    | ⟨1, _⟩ => show win0_4.index t 1 * 256 + 1 * k.val = k.val
                rw [(index4 t).2]; omega
  show (V m c main_v45 (((cfg0.win 4).blk t).view.emb (ix2 r k)) : EReal) = _
  rw [hemb]
  generalize row t r = R
  simp only [V, hostOps0, hostOps0_1, hostOps0_2, hostOps0_3, hostOps0_4, hostOps0_5, hostOps0_6,
    List.flatten_cons, List.flatten_nil, List.append_nil, List.cons_append, List.nil_append]
  entry_read
  pointwise
  by_cases h : k.val % 64 < 32
  · exact ((dif_pos h).trans (congrArg (fun j => Neg.neg (α := EReal) (m ((c : Thread nD τ).loc main_arg4) (ix2 R j)))
      (Fin.ext (by show k.val % 64 = k.val % 32; omega)))).trans (if_pos h).symm
  · exact ((dif_neg h).trans (congrArg (fun j => (m ((c : Thread nD τ).loc main_arg4) (ix2 R j) : EReal)) (Fin.ext (by show k.val % 64 - 32 = k.val % 32; omega)))).trans (if_neg h).symm

/-- The operations that join the weight, and those before them that swap the halves of the heads. -/
theorem split4 : (hostOps0_4 : List (HloOp τ sig (Elt Ideal))) = List.take 8 hostOps0_4 ++ List.drop 8 hostOps0_4 :=
  (List.take_append_drop 8 _).symm

/-- The joined weight, from the pieces that the operations before it leave. -/
theorem joined (σ : Valuation τ sig (Elt Ideal)) (d : Fin 1024) (k : Fin 1536) :
    ((StableHlo.after (List.drop 8 hostOps0_4) σ (Proc.devRef .tc main_v30) : (⟨S1024x1536, .bf16⟩ : BufTy).Contents (Elt Ideal)) (ix2 d k) : Ideal .bf16)
      = if h : k.val < 256 then
          (σ (Proc.devRef .tc main_v9) : (⟨S1024x256, .f32⟩ : BufTy).Contents (Elt Ideal)) (ix2 (n0 := 1024) (n1 := 256) d ⟨k.val, h⟩)
        else if h : k.val - 256 < 256 then
          (σ (Proc.devRef .tc main_v25) : (⟨S1024x256, .f32⟩ : BufTy).Contents (Elt Ideal)) (ix2 (n0 := 1024) (n1 := 256) d ⟨k.val - 256, h⟩)
        else if h : k.val - 256 - 256 < 256 then
          (σ (Proc.devRef .tc main_v10) : (⟨S1024x256, .f32⟩ : BufTy).Contents (Elt Ideal)) (ix2 (n0 := 1024) (n1 := 256) d ⟨k.val - 256 - 256, h⟩)
        else if h : k.val - 256 - 256 - 256 < 256 then
          (σ (Proc.devRef .tc main_v28) : (⟨S1024x256, .f32⟩ : BufTy).Contents (Elt Ideal)) (ix2 (n0 := 1024) (n1 := 256) d ⟨k.val - 256 - 256 - 256, h⟩)
        else if h : k.val - 256 - 256 - 256 - 256 < 256 then
          (σ (Proc.devRef .tc main_v11) : (⟨S1024x256, .f32⟩ : BufTy).Contents (Elt Ideal)) (ix2 (n0 := 1024) (n1 := 256) d ⟨k.val - 256 - 256 - 256 - 256, h⟩)
        else
          (σ (Proc.devRef .tc main_v12) : (⟨S1024x256, .f32⟩ : BufTy).Contents (Elt Ideal)) (ix2 (n0 := 1024) (n1 := 256) d ⟨k.val - 256 - 256 - 256 - 256 - 256, by omega⟩) := by
  simp only [hostOps0_4, List.drop_succ_cons, List.drop_zero]
  entry_read
  pointwise

/-- The operations before it swap the halves of the queries' columns, head by head. -/
theorem swap25 (σ : Valuation τ sig (Elt Ideal)) (d : Fin 1024) (k : Fin 256) :
    ((StableHlo.after (List.take 8 hostOps0_4) σ (Proc.devRef .tc main_v25) : (⟨S1024x256, .f32⟩ : BufTy).Contents (Elt Ideal)) (ix2 d k) : EReal)
      = (σ (Proc.devRef .tc main_v9) : (⟨S1024x256, .f32⟩ : BufTy).Contents (Elt Ideal)) (ix2 d ⟨k.val / 64 * 64 + (k.val % 64 + 32) % 64, by omega⟩) := by
  simp only [hostOps0_4, List.take_succ_cons, List.take_zero]
  entry_read
  pointwise
  refine congrArg₂ (fun a b => (σ (Proc.devRef .tc main_v9) : (⟨S1024x256, .f32⟩ : BufTy).Contents (Elt Ideal)) (ix2 a b)) rfl (Fin.ext ?_)
  show k.val / 64 * 64 + (2 - (k.val / 32 % 2 + 1)) * 32 + k.val % 32 = k.val / 64 * 64 + (k.val % 64 + 32) % 64
  omega

/-- The operations before it swap the halves of the keys' columns, head by head. -/
theorem swap28 (σ : Valuation τ sig (Elt Ideal)) (d : Fin 1024) (k : Fin 256) :
    ((StableHlo.after (List.take 8 hostOps0_4) σ (Proc.devRef .tc main_v28) : (⟨S1024x256, .f32⟩ : BufTy).Contents (Elt Ideal)) (ix2 d k) : EReal)
      = (σ (Proc.devRef .tc main_v10) : (⟨S1024x256, .f32⟩ : BufTy).Contents (Elt Ideal)) (ix2 d ⟨k.val / 64 * 64 + (k.val % 64 + 32) % 64, by omega⟩) := by
  simp only [hostOps0_4, List.take_succ_cons, List.take_zero]
  entry_read
  pointwise
  refine congrArg₂ (fun a b => (σ (Proc.devRef .tc main_v10) : (⟨S1024x256, .f32⟩ : BufTy).Contents (Elt Ideal)) (ix2 a b)) rfl (Fin.ext ?_)
  show k.val / 64 * 64 + (2 - (k.val / 32 % 2 + 1)) * 32 + k.val % 32 = k.val / 64 * 64 + (k.val % 64 + 32) % 64
  omega

/-- They leave the other pieces alone. -/
theorem keep (σ : Valuation τ sig (Elt Ideal)) :
    StableHlo.after (List.take 8 hostOps0_4) σ (Proc.devRef .tc main_v9) = σ (Proc.devRef .tc main_v9)
    ∧ StableHlo.after (List.take 8 hostOps0_4) σ (Proc.devRef .tc main_v10) = σ (Proc.devRef .tc main_v10)
    ∧ StableHlo.after (List.take 8 hostOps0_4) σ (Proc.devRef .tc main_v11) = σ (Proc.devRef .tc main_v11)
    ∧ StableHlo.after (List.take 8 hostOps0_4) σ (Proc.devRef .tc main_v12) = σ (Proc.devRef .tc main_v12) := by
  simp only [hostOps0_4, List.take_succ_cons, List.take_zero]
  refine ⟨?_, ?_, ?_, ?_⟩ <;> entry_read <;> rfl

/-- The operations after it leave the joined weight alone. -/
theorem rest_v30 (σ : Valuation τ sig (Elt Ideal)) :
    StableHlo.after (hostOps0_5 ++ hostOps0_6 (F := Ideal)) σ (Proc.devRef .tc main_v30) = σ (Proc.devRef .tc main_v30) := by
  simp only [hostOps0_5, hostOps0_6, List.cons_append, List.nil_append]
  entry_read
  rfl

/-- The operations before the joined weight, from the arguments. -/
abbrev pre4 (σ : Valuation τ sig (Elt Ideal)) : Valuation τ sig (Elt Ideal) :=
  StableHlo.after (hostOps0 ++ (hostOps0_1 ++ (hostOps0_2 ++ (hostOps0_3 (F := Ideal))))) σ

/-- A piece of the joined weight: columns 1812 to 2067 of the input weight. -/
theorem start_v9 (σ : Valuation τ sig (Elt Ideal)) (d : Fin 1024) (k : Fin 256) :
    ((pre4 σ (Proc.devRef .tc main_v9) : (⟨S1024x256, .f32⟩ : BufTy).Contents (Elt Ideal)) (ix2 d k) : EReal)
      = (σ (Proc.devRef .tc main_arg2) : (⟨S1024x8220, .f32⟩ : BufTy).Contents (Elt Ideal)) (ix2 d ⟨1812 + k.val, by omega⟩) := by
  simp only [pre4, hostOps0, hostOps0_1, hostOps0_2, hostOps0_3, List.cons_append, List.nil_append]
  entry_read
  pointwise

/-- A piece of the joined weight: columns 2068 to 2323 of the input weight. -/
theorem start_v10 (σ : Valuation τ sig (Elt Ideal)) (d : Fin 1024) (k : Fin 256) :
    ((pre4 σ (Proc.devRef .tc main_v10) : (⟨S1024x256, .f32⟩ : BufTy).Contents (Elt Ideal)) (ix2 d k) : EReal)
      = (σ (Proc.devRef .tc main_arg2) : (⟨S1024x8220, .f32⟩ : BufTy).Contents (Elt Ideal)) (ix2 d ⟨2068 + k.val, by omega⟩) := by
  simp only [pre4, hostOps0, hostOps0_1, hostOps0_2, hostOps0_3, List.cons_append, List.nil_append]
  entry_read
  pointwise

/-- A piece of the joined weight: columns 2324 to 2579 of the input weight. -/
theorem start_v11 (σ : Valuation τ sig (Elt Ideal)) (d : Fin 1024) (k : Fin 256) :
    ((pre4 σ (Proc.devRef .tc main_v11) : (⟨S1024x256, .f32⟩ : BufTy).Contents (Elt Ideal)) (ix2 d k) : EReal)
      = (σ (Proc.devRef .tc main_arg2) : (⟨S1024x8220, .f32⟩ : BufTy).Contents (Elt Ideal)) (ix2 d ⟨2324 + k.val, by omega⟩) := by
  simp only [pre4, hostOps0, hostOps0_1, hostOps0_2, hostOps0_3, List.cons_append, List.nil_append]
  entry_read
  pointwise

/-- A piece of the joined weight: columns 2580 to 2835 of the input weight. -/
theorem start_v12 (σ : Valuation τ sig (Elt Ideal)) (d : Fin 1024) (k : Fin 256) :
    ((pre4 σ (Proc.devRef .tc main_v12) : (⟨S1024x256, .f32⟩ : BufTy).Contents (Elt Ideal)) (ix2 d k) : EReal)
      = (σ (Proc.devRef .tc main_arg2) : (⟨S1024x8220, .f32⟩ : BufTy).Contents (Elt Ideal)) (ix2 d ⟨2580 + k.val, by omega⟩) := by
  simp only [pre4, hostOps0, hostOps0_1, hostOps0_2, hostOps0_3, List.cons_append, List.nil_append]
  entry_read
  pointwise

/-- The joined weight at the call, from the operations that make it. -/
theorem chain30 (c : Dev nD) : V m c main_v30 = StableHlo.after (List.drop 8 hostOps0_4)
    (StableHlo.after (List.take 8 hostOps0_4) (pre4 (fun b => m (c, b)))) (Proc.devRef .tc main_v30) := by
  show StableHlo.after (hostOps0 ++ (hostOps0_1 ++ (hostOps0_2 ++ (hostOps0_3 ++ (hostOps0_4 ++ (hostOps0_5 ++ (hostOps0_6 ++ []))))))) _ _ = _
  rw [List.append_nil, after_two, after_two, after_two, after_two, after_two, rest_v30, pre4, after_two, after_two, after_two, split4, after_two]
  simp only [List.take_append_drop]

/-- The lane that holds the other half of lane `j`'s head. -/
def swp (j : ℕ) : ℕ := j / 64 * 64 + (j % 64 + 32) % 64

/-- The column of the retention's part of the input weight that column `k` of the joined weight holds. -/
def col (k : ℕ) : ℕ :=
  if k < 256 then k else if k < 512 then swp (k - 256) else if k < 768 then k - 256 else if k < 1024 then 256 + swp (k - 768) else k - 512

/-- Window 2's block at a point: columns of the input weight. -/
theorem iblk2_apply (c : Dev nD) (t : Fin cfg0.N) (d : Fin 1024) (k : Fin 1536) (n : ℕ) (hn : n < 8220) (e : n = 1812 + col k.val) :
    (iblk m c 2 t (ix2 d k) : EReal) = m ((c : Thread nD τ).loc main_arg2) (ix2 d ⟨n, hn⟩) := by
  have hemb : ((cfg0.win 2).blk t).view.emb (ix2 d k) = ix2 (n0 := 1024) (n1 := 1536) d k := by
    funext a
    apply Fin.ext
    match a with
    | ⟨0, _⟩ => show win0_2.index t 0 * 1024 + 1 * d.val = d.val
                rw [(index2 t).1]; omega
    | ⟨1, _⟩ => show win0_2.index t 1 * 1536 + 1 * k.val = k.val
                rw [(index2 t).2]; omega
  show V m c main_v30 (((cfg0.win 2).blk t).view.emb (ix2 d k)) = _
  rw [hemb, chain30]
  refine (joined _ d k).trans ?_
  have e' : ∀ (n' : ℕ) (hn' : n' < 8220), n' = n →
      (m ((c : Thread nD τ).loc main_arg2) (ix2 d ⟨n', hn'⟩) : EReal) = m ((c : Thread nD τ).loc main_arg2) (ix2 d ⟨n, hn⟩) := by
    intro n' hn' h
    subst h
    rfl
  obtain ⟨k9, k10, k11, k12⟩ := keep (pre4 (fun b => m (c, b)))
  unfold col swp at e
  split_ifs with h1 h2 h3 h4 h5
  · exact (congrFun k9 _).trans ((start_v9 _ d ⟨k.val, h1⟩).trans (e' _ _ (by show 1812 + k.val = n; rw [e]; split_ifs <;> omega)))
  · exact (swap25 _ d ⟨k.val - 256, h2⟩).trans ((start_v9 _ d _).trans (e' _ _ (by
      show 1812 + ((k.val - 256) / 64 * 64 + ((k.val - 256) % 64 + 32) % 64) = n; rw [e]; split_ifs <;> omega)))
  · exact (congrFun k10 _).trans ((start_v10 _ d ⟨k.val - 256 - 256, h3⟩).trans (e' _ _ (by
      show 2068 + (k.val - 256 - 256) = n; rw [e]; split_ifs <;> omega)))
  · exact (swap28 _ d ⟨k.val - 256 - 256 - 256, h4⟩).trans ((start_v10 _ d _).trans (e' _ _ (by
      show 2068 + ((k.val - 256 - 256 - 256) / 64 * 64 + ((k.val - 256 - 256 - 256) % 64 + 32) % 64) = n; rw [e]; split_ifs <;> omega)))
  · exact (congrFun k11 _).trans ((start_v11 _ d ⟨k.val - 256 - 256 - 256 - 256, h5⟩).trans (e' _ _ (by
      show 2324 + (k.val - 256 - 256 - 256 - 256) = n; rw [e]; split_ifs <;> omega)))
  · exact (congrFun k12 _).trans ((start_v12 _ d ⟨k.val - 256 - 256 - 256 - 256 - 256, by omega⟩).trans (e' _ _ (by
      show 2580 + (k.val - 256 - 256 - 256 - 256 - 256) = n; rw [e]; split_ifs <;> omega)))

end Cert.Proof.Ret
end
-- ==== Proof.RetRunA.lean ====
/-
  The retention, in the case of the first point: every state that the run loads, every output that it stores and every state that it leaves are
  values of the recursion over chunks. One lemma per state, each from the state of the same head one chunk before.
-/
module

public import proofs.«01_k».proof.Proof.RetModel

@[expose] public section

noncomputable section

namespace Cert.Proof.Ret.RunA

open Idealize.ShloMosaic Idealize.ShloMosaic.TcCoe Idealize.SL.Sem
open Cert.Kernel6Ideal Cert.Kernel6Ideal.Gen Cert.Kernel6Ideal.Gen.kernelRun0_A.sl
open Cert.Proof.Gla (ini ld_ini ld_ini')

variable {F : FTy → Type} [FloatOps F]

variable (c : Dev nD) (arg1 : Memref sig .tc .vmem S512x1024 .f32) (harg1 : arg1.IsWhole) (arg2 : Memref sig .tc .vmem S1x1024 .f32) (harg2 : arg2.IsWhole) (arg3 : Memref sig .tc .vmem S1024x1536 .bf16) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S512x256 .f32) (harg13 : arg13.IsWhole) (arg14 : Memref sig .tc .vmem S4x64x64 .f32) (harg14 : arg14.IsWhole)
variable (x0 : Vec F S512x1024 .f32) (x1 : Vec F S1x1024 .f32) (x2 : Vec F S1024x1536 .bf16) (x3 : Vec F S512x256 .f32) (x4 : Vec F S512x256 .f32) (x5 : Vec F S1x256 .f32)

/-- The decayed queries that the run stores. -/
theorem hs0 : (HS0_1 c arg1 harg1 arg2 harg2 arg3 harg3 arg4 harg4 arg5 harg5 x0 x1 x2 x3 x4) = [⟨Rect.unit ![0, 0] S512x256.size inb_S512x256_S512x256_0_0, (A x0 x1 x2 x3 x4).qd⟩] := by
  simp only [HS0_1, r_7, r_1, v38, v39, r_4, r_3, cst_14, View.readAt_eq_ld, harg1.read_unread, harg2.read_unread, harg3.read_unread, harg4.read_unread, harg5.read_unread]
  simp (disch := decide) only [View.ld_unit_lit']
  rfl

/-- The inversely decayed keys that the run stores. -/
theorem hs1 : (HS1_1 c arg1 harg1 arg2 harg2 arg3 harg3 arg4 harg4 arg5 harg5 x0 x1 x2 x3 x4) = [⟨Rect.unit ![0, 0] S512x256.size inb_S512x256_S512x256_0_0, (A x0 x1 x2 x3 x4).ki⟩] := by
  simp only [HS1_1, r_2, r_5, v39, v38, r_4, r_3, cst_14, View.readAt_eq_ld, harg1.read_unread, harg2.read_unread, harg3.read_unread, harg4.read_unread, harg5.read_unread]
  simp (disch := decide) only [View.ld_unit_lit']
  rfl

/-- The keys decayed to the end of the chunk that the run stores. -/
theorem hs2 : (HS2_1 c arg1 harg1 arg2 harg2 arg3 harg3 arg4 harg4 arg5 harg5 x0 x1 x2 x3 x4) = [⟨Rect.unit ![0, 0] S512x256.size inb_S512x256_S512x256_0_0, (A x0 x1 x2 x3 x4).ke⟩] := by
  simp only [HS2_1, r_2, r_5, v39, v38, r_4, r_3, cst_14, View.readAt_eq_ld, harg1.read_unread, harg2.read_unread, harg3.read_unread, harg4.read_unread, harg5.read_unread]
  simp (disch := decide) only [View.ld_unit_lit']
  rfl

/-- The values that the run stores. -/
theorem hs3 : (HS3_1 c arg1 harg1 arg2 harg2 arg3 harg3 x0 x1 x2) = [⟨Rect.unit ![0, 0] S512x256.size inb_S512x256_S512x256_0_0, k0_pay22 (k0_pay3 x0 x1 x2)⟩] := by
  simp only [HS3_1, r, View.readAt_eq_ld, harg1.read_unread, harg2.read_unread, harg3.read_unread]
  simp (disch := decide) only [View.ld_unit_lit']

/-- The decays that the run stores. -/
theorem hs4 : HS4_1 (F := F) = [⟨Rect.unit ![0, 0] S512x256.size inb_S512x256_S512x256_0_0, DEC⟩] := by
  simp only [HS4_1, r_6, v38, v39, r_4, r_3, cst_14]
  rfl

/-- Head 0's state in chunk 0. -/
theorem st0_0 : (v223 c arg14) = ini (k0_pay2 (F := F)) 0 := by
  simp only [v223, HS6_1]
  rw [View.readCov_fill _ _ _ _ _ (by decide)]
  exact ld_ini _ _ _

/-- Head 1's state in chunk 0. -/
theorem st0_1 : (v259 c arg1 harg1 arg2 harg2 arg3 harg3 arg4 harg4 arg5 harg5 arg10 arg11 arg12 arg14 x0 x1 x2 x3 x4) = ini (k0_pay2 (F := F)) 1 := by
  simp only [v259, HS6_2, HS6_1]
  rw [View.readCov_skip _ _ _ _ _ (by decide)]
  rw [View.readCov_fill _ _ _ _ _ (by decide)]
  exact ld_ini _ _ _

/-- Head 2's state in chunk 0. -/
theorem st0_2 : (v295 c arg1 harg1 arg2 harg2 arg3 harg3 arg4 harg4 arg5 harg5 arg10 arg11 arg12 arg14 x0 x1 x2 x3 x4) = ini (k0_pay2 (F := F)) 2 := by
  simp only [v295, HS6_3, HS6_2, HS6_1]
  iterate 2 rw [View.readCov_skip _ _ _ _ _ (by decide)]
  rw [View.readCov_fill _ _ _ _ _ (by decide)]
  exact ld_ini _ _ _

/-- Head 3's state in chunk 0. -/
theorem st0_3 : (v331 c arg1 harg1 arg2 harg2 arg3 harg3 arg4 harg4 arg5 harg5 arg10 arg11 arg12 arg14 x0 x1 x2 x3 x4) = ini (k0_pay2 (F := F)) 3 := by
  simp only [v331, HS6_4, HS6_3, HS6_2, HS6_1]
  iterate 3 rw [View.readCov_skip _ _ _ _ _ (by decide)]
  rw [View.readCov_fill _ _ _ _ _ (by decide)]
  exact ld_ini _ _ _

/-- Head 0's state in chunk 1. -/
theorem st1_0 : (v372 c arg1 harg1 arg2 harg2 arg3 harg3 arg4 harg4 arg5 harg5 arg10 arg11 arg12 arg14 x0 x1 x2 x3 x4) = St (A x0 x1 x2 x3 x4) (k0_pay2 (F := F)) 1 0 := by
  simp only [v372, HS6_5, HS6_4, HS6_3, HS6_2]
  iterate 3 rw [View.readCov_skip _ _ _ _ _ (by decide)]
  rw [View.readCov_cons_toLoadRect]
  refine Eq.trans ?_ (St_succ ..).symm
  simp only [v218, v221, v238, hs2, hs3, hs4, st0_0]
  simp (disch := decide) only [View.readCov_fill, ld_ini']
  exact stp_ld (A x0 x1 x2 x3 x4) 0 0 0 0 56 rfl rfl rfl (by decide) (by decide) _

/-- Head 1's state in chunk 1. -/
theorem st1_1 : (v408 c arg1 harg1 arg2 harg2 arg3 harg3 arg4 harg4 arg5 harg5 arg10 arg11 arg12 arg14 x0 x1 x2 x3 x4) = St (A x0 x1 x2 x3 x4) (k0_pay2 (F := F)) 1 1 := by
  simp only [v408, HS6_6, HS6_5, HS6_4, HS6_3]
  iterate 3 rw [View.readCov_skip _ _ _ _ _ (by decide)]
  rw [View.readCov_cons_toLoadRect]
  refine Eq.trans ?_ (St_succ ..).symm
  simp only [v254, v257, v274, hs2, hs3, hs4, st0_1]
  simp (disch := decide) only [View.readCov_fill, ld_ini']
  exact stp_ld (A x0 x1 x2 x3 x4) 0 1 0 64 56 rfl rfl rfl (by decide) (by decide) _

/-- Head 2's state in chunk 1. -/
theorem st1_2 : (v444 c arg1 harg1 arg2 harg2 arg3 harg3 arg4 harg4 arg5 harg5 arg10 arg11 arg12 arg14 x0 x1 x2 x3 x4) = St (A x0 x1 x2 x3 x4) (k0_pay2 (F := F)) 1 2 := by
  simp only [v444, HS6_7, HS6_6, HS6_5, HS6_4]
  iterate 3 rw [View.readCov_skip _ _ _ _ _ (by decide)]
  rw [View.readCov_cons_toLoadRect]
  refine Eq.trans ?_ (St_succ ..).symm
  simp only [r_13, v293, v310, v290, hs3, hs4, hs2, st0_2]
  simp (disch := decide) only [View.readCov_fill, ld_ini']
  exact stp_ld (A x0 x1 x2 x3 x4) 0 2 0 128 56 rfl rfl rfl (by decide) (by decide) _

/-- Head 3's state in chunk 1. -/
theorem st1_3 : (v480 c arg1 harg1 arg2 harg2 arg3 harg3 arg4 harg4 arg5 harg5 arg10 arg11 arg12 arg14 x0 x1 x2 x3 x4) = St (A x0 x1 x2 x3 x4) (k0_pay2 (F := F)) 1 3 := by
  simp only [v480, HS6_8, HS6_7, HS6_6, HS6_5]
  iterate 3 rw [View.readCov_skip _ _ _ _ _ (by decide)]
  rw [View.readCov_cons_toLoadRect]
  refine Eq.trans ?_ (St_succ ..).symm
  simp only [r_16, r_17, v346, v326, v329, hs4, hs2, hs3, st0_3]
  simp (disch := decide) only [View.readCov_fill, ld_ini']
  exact stp_ld (A x0 x1 x2 x3 x4) 0 3 0 192 56 rfl rfl rfl (by decide) (by decide) _

/-- Head 0's state in chunk 2. -/
theorem st2_0 : (v521 c arg1 harg1 arg2 harg2 arg3 harg3 arg4 harg4 arg5 harg5 arg10 arg11 arg12 arg14 x0 x1 x2 x3 x4) = St (A x0 x1 x2 x3 x4) (k0_pay2 (F := F)) 2 0 := by
  simp only [v521, HS6_9, HS6_8, HS6_7, HS6_6]
  iterate 3 rw [View.readCov_skip _ _ _ _ _ (by decide)]
  rw [View.readCov_cons_toLoadRect]
  refine Eq.trans ?_ (St_succ ..).symm
  simp only [r_20, v370, v387, v367, hs3, hs4, hs2, st1_0]
  simp (disch := decide) only [View.readCov_fill, ld_ini']
  exact stp_ld (A x0 x1 x2 x3 x4) 1 0 64 0 120 rfl rfl rfl (by decide) (by decide) _

/-- Head 1's state in chunk 2. -/
theorem st2_1 : (v557 c arg1 harg1 arg2 harg2 arg3 harg3 arg4 harg4 arg5 harg5 arg10 arg11 arg12 arg14 x0 x1 x2 x3 x4) = St (A x0 x1 x2 x3 x4) (k0_pay2 (F := F)) 2 1 := by
  simp only [v557, HS6_10, HS6_9, HS6_8, HS6_7]
  iterate 3 rw [View.readCov_skip _ _ _ _ _ (by decide)]
  rw [View.readCov_cons_toLoadRect]
  refine Eq.trans ?_ (St_succ ..).symm
  simp only [r_23, r_24, v423, v403, v406, hs4, hs2, hs3, st1_1]
  simp (disch := decide) only [View.readCov_fill, ld_ini']
  exact stp_ld (A x0 x1 x2 x3 x4) 1 1 64 64 120 rfl rfl rfl (by decide) (by decide) _

/-- Head 2's state in chunk 2. -/
theorem st2_2 : (v593 c arg1 harg1 arg2 harg2 arg3 harg3 arg4 harg4 arg5 harg5 arg10 arg11 arg12 arg14 x0 x1 x2 x3 x4) = St (A x0 x1 x2 x3 x4) (k0_pay2 (F := F)) 2 2 := by
  simp only [v593, HS6_11, HS6_10, HS6_9, HS6_8]
  iterate 3 rw [View.readCov_skip _ _ _ _ _ (by decide)]
  rw [View.readCov_cons_toLoadRect]
  refine Eq.trans ?_ (St_succ ..).symm
  simp only [r_26, r_27, r_28, v459, v439, v442, hs4, hs2, hs3, st1_2]
  simp (disch := decide) only [View.readCov_fill, ld_ini']
  exact stp_ld (A x0 x1 x2 x3 x4) 1 2 64 128 120 rfl rfl rfl (by decide) (by decide) _

/-- Head 3's state in chunk 2. -/
theorem st2_3 : (v629 c arg1 harg1 arg2 harg2 arg3 harg3 arg4 harg4 arg5 harg5 arg10 arg11 arg12 arg14 x0 x1 x2 x3 x4) = St (A x0 x1 x2 x3 x4) (k0_pay2 (F := F)) 2 3 := by
  simp only [v629, HS6_12, HS6_11, HS6_10, HS6_9]
  iterate 3 rw [View.readCov_skip _ _ _ _ _ (by decide)]
  rw [View.readCov_cons_toLoadRect]
  refine Eq.trans ?_ (St_succ ..).symm
  simp only [r_31, r_32, r_33, v495, v475, v478, hs4, hs2, hs3, st1_3]
  simp (disch := decide) only [View.readCov_fill, ld_ini']
  exact stp_ld (A x0 x1 x2 x3 x4) 1 3 64 192 120 rfl rfl rfl (by decide) (by decide) _

/-- Head 0's state in chunk 3. -/
theorem st3_0 : (v670 c arg1 harg1 arg2 harg2 arg3 harg3 arg4 harg4 arg5 harg5 arg10 arg11 arg12 arg14 x0 x1 x2 x3 x4) = St (A x0 x1 x2 x3 x4) (k0_pay2 (F := F)) 3 0 := by
  simp only [v670, HS6_13, HS6_12, HS6_11, HS6_10]
  iterate 3 rw [View.readCov_skip _ _ _ _ _ (by decide)]
  rw [View.readCov_cons_toLoadRect]
  refine Eq.trans ?_ (St_succ ..).symm
  simp only [r_37, r_38, r_39, v536, v516, v519, hs4, hs2, hs3, st2_0]
  simp (disch := decide) only [View.readCov_fill, ld_ini']
  exact stp_ld (A x0 x1 x2 x3 x4) 2 0 128 0 184 rfl rfl rfl (by decide) (by decide) _

/-- Head 1's state in chunk 3. -/
theorem st3_1 : (v706 c arg1 harg1 arg2 harg2 arg3 harg3 arg4 harg4 arg5 harg5 arg10 arg11 arg12 arg14 x0 x1 x2 x3 x4) = St (A x0 x1 x2 x3 x4) (k0_pay2 (F := F)) 3 1 := by
  simp only [v706, HS6_14, HS6_13, HS6_12, HS6_11]
  iterate 3 rw [View.readCov_skip _ _ _ _ _ (by decide)]
  rw [View.readCov_cons_toLoadRect]
  refine Eq.trans ?_ (St_succ ..).symm
  simp only [r_42, r_43, r_44, v572, v552, v555, hs4, hs2, hs3, st2_1]
  simp (disch := decide) only [View.readCov_fill, ld_ini']
  exact stp_ld (A x0 x1 x2 x3 x4) 2 1 128 64 184 rfl rfl rfl (by decide) (by decide) _

/-- Head 2's state in chunk 3. -/
theorem st3_2 : (v742 c arg1 harg1 arg2 harg2 arg3 harg3 arg4 harg4 arg5 harg5 arg10 arg11 arg12 arg14 x0 x1 x2 x3 x4) = St (A x0 x1 x2 x3 x4) (k0_pay2 (F := F)) 3 2 := by
  simp only [v742, HS6_15, HS6_14, HS6_13, HS6_12]
  iterate 3 rw [View.readCov_skip _ _ _ _ _ (by decide)]
  rw [View.readCov_cons_toLoadRect]
  refine Eq.trans ?_ (St_succ ..).symm
  simp only [r_47, r_48, r_49, v608, v588, v591, hs4, hs2, hs3, st2_2]
  simp (disch := decide) only [View.readCov_fill, ld_ini']
  exact stp_ld (A x0 x1 x2 x3 x4) 2 2 128 128 184 rfl rfl rfl (by decide) (by decide) _

/-- Head 3's state in chunk 3. -/
theorem st3_3 : (v778 c arg1 harg1 arg2 harg2 arg3 harg3 arg4 harg4 arg5 harg5 arg10 arg11 arg12 arg14 x0 x1 x2 x3 x4) = St (A x0 x1 x2 x3 x4) (k0_pay2 (F := F)) 3 3 := by
  simp only [v778, HS6_16, HS6_15, HS6_14, HS6_13]
  iterate 3 rw [View.readCov_skip _ _ _ _ _ (by decide)]
  rw [View.readCov_cons_toLoadRect]
  refine Eq.trans ?_ (St_succ ..).symm
  simp only [r_51, r_52, r_53, v644, v624, v627, hs4, hs2, hs3, st2_3]
  simp (disch := decide) only [View.readCov_fill, ld_ini']
  exact stp_ld (A x0 x1 x2 x3 x4) 2 3 128 192 184 rfl rfl rfl (by decide) (by decide) _

/-- Head 0's state in chunk 4. -/
theorem st4_0 : (v819 c arg1 harg1 arg2 harg2 arg3 harg3 arg4 harg4 arg5 harg5 arg10 arg11 arg12 arg14 x0 x1 x2 x3 x4) = St (A x0 x1 x2 x3 x4) (k0_pay2 (F := F)) 4 0 := by
  simp only [v819, HS6_17, HS6_16, HS6_15, HS6_14]
  iterate 3 rw [View.readCov_skip _ _ _ _ _ (by decide)]
  rw [View.readCov_cons_toLoadRect]
  refine Eq.trans ?_ (St_succ ..).symm
  simp only [r_54, r_55, r_56, v685, v665, v668, hs4, hs2, hs3, st3_0]
  simp (disch := decide) only [View.readCov_fill, ld_ini']
  exact stp_ld (A x0 x1 x2 x3 x4) 3 0 192 0 248 rfl rfl rfl (by decide) (by decide) _

/-- Head 1's state in chunk 4. -/
theorem st4_1 : (v855 c arg1 harg1 arg2 harg2 arg3 harg3 arg4 harg4 arg5 harg5 arg10 arg11 arg12 arg14 x0 x1 x2 x3 x4) = St (A x0 x1 x2 x3 x4) (k0_pay2 (F := F)) 4 1 := by
  simp only [v855, HS6_18, HS6_17, HS6_16, HS6_15]
  iterate 3 rw [View.readCov_skip _ _ _ _ _ (by decide)]
  rw [View.readCov_cons_toLoadRect]
  refine Eq.trans ?_ (St_succ ..).symm
  simp only [r_58, r_59, r_60, v721, v701, v704, hs4, hs2, hs3, st3_1]
  simp (disch := decide) only [View.readCov_fill, ld_ini']
  exact stp_ld (A x0 x1 x2 x3 x4) 3 1 192 64 248 rfl rfl rfl (by decide) (by decide) _

/-- Head 2's state in chunk 4. -/
theorem st4_2 : (v891 c arg1 harg1 arg2 harg2 arg3 harg3 arg4 harg4 arg5 harg5 arg10 arg11 arg12 arg14 x0 x1 x2 x3 x4) = St (A x0 x1 x2 x3 x4) (k0_pay2 (F := F)) 4 2 := by
  simp only [v891, HS6_19, HS6_18, HS6_17, HS6_16]
  iterate 3 rw [View.readCov_skip _ _ _ _ _ (by decide)]
  rw [View.readCov_cons_toLoadRect]
  refine Eq.trans ?_ (St_succ ..).symm
  simp only [r_61, r_62, v757, v737, v740, hs4, hs2, hs3, st3_2]
  simp (disch := decide) only [View.readCov_fill, ld_ini']
  exact stp_ld (A x0 x1 x2 x3 x4) 3 2 192 128 248 rfl rfl rfl (by decide) (by decide) _

/-- Head 3's state in chunk 4. -/
theorem st4_3 : (v927 c arg1 harg1 arg2 harg2 arg3 harg3 arg4 harg4 arg5 harg5 arg10 arg11 arg12 arg14 x0 x1 x2 x3 x4) = St (A x0 x1 x2 x3 x4) (k0_pay2 (F := F)) 4 3 := by
  simp only [v927, HS6_20, HS6_19, HS6_18, HS6_17]
  iterate 3 rw [View.readCov_skip _ _ _ _ _ (by decide)]
  rw [View.readCov_cons_toLoadRect]
  refine Eq.trans ?_ (St_succ ..).symm
  simp only [r_63, v773, v776, v793, hs2, hs3, hs4, st3_3]
  simp (disch := decide) only [View.readCov_fill, ld_ini']
  exact stp_ld (A x0 x1 x2 x3 x4) 3 3 192 192 248 rfl rfl rfl (by decide) (by decide) _

/-- Head 0's state in chunk 5. -/
theorem st5_0 : (v968 c arg1 harg1 arg2 harg2 arg3 harg3 arg4 harg4 arg5 harg5 arg10 arg11 arg12 arg14 x0 x1 x2 x3 x4) = St (A x0 x1 x2 x3 x4) (k0_pay2 (F := F)) 5 0 := by
  simp only [v968, HS6_21, HS6_20, HS6_19, HS6_18]
  iterate 3 rw [View.readCov_skip _ _ _ _ _ (by decide)]
  rw [View.readCov_cons_toLoadRect]
  refine Eq.trans ?_ (St_succ ..).symm
  simp only [r_64, v814, v817, v834, hs2, hs3, hs4, st4_0]
  simp (disch := decide) only [View.readCov_fill, ld_ini']
  exact stp_ld (A x0 x1 x2 x3 x4) 4 0 256 0 312 rfl rfl rfl (by decide) (by decide) _

/-- Head 1's state in chunk 5. -/
theorem st5_1 : (v1004 c arg1 harg1 arg2 harg2 arg3 harg3 arg4 harg4 arg5 harg5 arg10 arg11 arg12 arg14 x0 x1 x2 x3 x4) = St (A x0 x1 x2 x3 x4) (k0_pay2 (F := F)) 5 1 := by
  simp only [v1004, HS6_22, HS6_21, HS6_20, HS6_19]
  iterate 3 rw [View.readCov_skip _ _ _ _ _ (by decide)]
  rw [View.readCov_cons_toLoadRect]
  refine Eq.trans ?_ (St_succ ..).symm
  simp only [r_65, v850, v853, v870, hs2, hs3, hs4, st4_1]
  simp (disch := decide) only [View.readCov_fill, ld_ini']
  exact stp_ld (A x0 x1 x2 x3 x4) 4 1 256 64 312 rfl rfl rfl (by decide) (by decide) _

/-- Head 2's state in chunk 5. -/
theorem st5_2 : (v1040 c arg1 harg1 arg2 harg2 arg3 harg3 arg4 harg4 arg5 harg5 arg10 arg11 arg12 arg14 x0 x1 x2 x3 x4) = St (A x0 x1 x2 x3 x4) (k0_pay2 (F := F)) 5 2 := by
  simp only [v1040, HS6_23, HS6_22, HS6_21, HS6_20]
  iterate 3 rw [View.readCov_skip _ _ _ _ _ (by decide)]
  rw [View.readCov_cons_toLoadRect]
  refine Eq.trans ?_ (St_succ ..).symm
  simp only [v886, v889, v906, hs2, hs3, hs4, st4_2]
  simp (disch := decide) only [View.readCov_fill, ld_ini']
  exact stp_ld (A x0 x1 x2 x3 x4) 4 2 256 128 312 rfl rfl rfl (by decide) (by decide) _

/-- Head 3's state in chunk 5. -/
theorem st5_3 : (v1076 c arg1 harg1 arg2 harg2 arg3 harg3 arg4 harg4 arg5 harg5 arg10 arg11 arg12 arg14 x0 x1 x2 x3 x4) = St (A x0 x1 x2 x3 x4) (k0_pay2 (F := F)) 5 3 := by
  simp only [v1076, HS6_24, HS6_23, HS6_22, HS6_21]
  iterate 3 rw [View.readCov_skip _ _ _ _ _ (by decide)]
  rw [View.readCov_cons_toLoadRect]
  refine Eq.trans ?_ (St_succ ..).symm
  simp only [v922, v925, v942, hs2, hs3, hs4, st4_3]
  simp (disch := decide) only [View.readCov_fill, ld_ini']
  exact stp_ld (A x0 x1 x2 x3 x4) 4 3 256 192 312 rfl rfl rfl (by decide) (by decide) _

/-- Head 0's state in chunk 6. -/
theorem st6_0 : (v1117 c arg1 harg1 arg2 harg2 arg3 harg3 arg4 harg4 arg5 harg5 arg10 arg11 arg12 arg14 x0 x1 x2 x3 x4) = St (A x0 x1 x2 x3 x4) (k0_pay2 (F := F)) 6 0 := by
  simp only [v1117, HS6_25, HS6_24, HS6_23, HS6_22]
  iterate 3 rw [View.readCov_skip _ _ _ _ _ (by decide)]
  rw [View.readCov_cons_toLoadRect]
  refine Eq.trans ?_ (St_succ ..).symm
  simp only [v963, v966, v983, hs2, hs3, hs4, st5_0]
  simp (disch := decide) only [View.readCov_fill, ld_ini']
  exact stp_ld (A x0 x1 x2 x3 x4) 5 0 320 0 376 rfl rfl rfl (by decide) (by decide) _

/-- Head 1's state in chunk 6. -/
theorem st6_1 : (v1153 c arg1 harg1 arg2 harg2 arg3 harg3 arg4 harg4 arg5 harg5 arg10 arg11 arg12 arg14 x0 x1 x2 x3 x4) = St (A x0 x1 x2 x3 x4) (k0_pay2 (F := F)) 6 1 := by
  simp only [v1153, HS6_26, HS6_25, HS6_24, HS6_23]
  iterate 3 rw [View.readCov_skip _ _ _ _ _ (by decide)]
  rw [View.readCov_cons_toLoadRect]
  refine Eq.trans ?_ (St_succ ..).symm
  simp only [v999, v1002, v1019, hs2, hs3, hs4, st5_1]
  simp (disch := decide) only [View.readCov_fill, ld_ini']
  exact stp_ld (A x0 x1 x2 x3 x4) 5 1 320 64 376 rfl rfl rfl (by decide) (by decide) _

/-- Head 2's state in chunk 6. -/
theorem st6_2 : (v1189 c arg1 harg1 arg2 harg2 arg3 harg3 arg4 harg4 arg5 harg5 arg10 arg11 arg12 arg14 x0 x1 x2 x3 x4) = St (A x0 x1 x2 x3 x4) (k0_pay2 (F := F)) 6 2 := by
  simp only [v1189, HS6_27, HS6_26, HS6_25, HS6_24]
  iterate 3 rw [View.readCov_skip _ _ _ _ _ (by decide)]
  rw [View.readCov_cons_toLoadRect]
  refine Eq.trans ?_ (St_succ ..).symm
  simp only [v1035, v1038, v1055, hs2, hs3, hs4, st5_2]
  simp (disch := decide) only [View.readCov_fill, ld_ini']
  exact stp_ld (A x0 x1 x2 x3 x4) 5 2 320 128 376 rfl rfl rfl (by decide) (by decide) _

/-- Head 3's state in chunk 6. -/
theorem st6_3 : (v1225 c arg1 harg1 arg2 harg2 arg3 harg3 arg4 harg4 arg5 harg5 arg10 arg11 arg12 arg14 x0 x1 x2 x3 x4) = St (A x0 x1 x2 x3 x4) (k0_pay2 (F := F)) 6 3 := by
  simp only [v1225, HS6_28, HS6_27, HS6_26, HS6_25]
  iterate 3 rw [View.readCov_skip _ _ _ _ _ (by decide)]
  rw [View.readCov_cons_toLoadRect]
  refine Eq.trans ?_ (St_succ ..).symm
  simp only [r_71, v1074, v1091, v1071, hs3, hs4, hs2, st5_3]
  simp (disch := decide) only [View.readCov_fill, ld_ini']
  exact stp_ld (A x0 x1 x2 x3 x4) 5 3 320 192 376 rfl rfl rfl (by decide) (by decide) _

/-- Head 0's state in chunk 7. -/
theorem st7_0 : (v1266 c arg1 harg1 arg2 harg2 arg3 harg3 arg4 harg4 arg5 harg5 arg10 arg11 arg12 arg14 x0 x1 x2 x3 x4) = St (A x0 x1 x2 x3 x4) (k0_pay2 (F := F)) 7 0 := by
  simp only [v1266, HS6_29, HS6_28, HS6_27, HS6_26]
  iterate 3 rw [View.readCov_skip _ _ _ _ _ (by decide)]
  rw [View.readCov_cons_toLoadRect]
  refine Eq.trans ?_ (St_succ ..).symm
  simp only [v1112, v1115, v1132, hs2, hs3, hs4, st6_0]
  simp (disch := decide) only [View.readCov_fill, ld_ini']
  exact stp_ld (A x0 x1 x2 x3 x4) 6 0 384 0 440 rfl rfl rfl (by decide) (by decide) _

/-- Head 1's state in chunk 7. -/
theorem st7_1 : (v1302 c arg1 harg1 arg2 harg2 arg3 harg3 arg4 harg4 arg5 harg5 arg10 arg11 arg12 arg14 x0 x1 x2 x3 x4) = St (A x0 x1 x2 x3 x4) (k0_pay2 (F := F)) 7 1 := by
  simp only [v1302, HS6_30, HS6_29, HS6_28, HS6_27]
  iterate 3 rw [View.readCov_skip _ _ _ _ _ (by decide)]
  rw [View.readCov_cons_toLoadRect]
  refine Eq.trans ?_ (St_succ ..).symm
  simp only [r_76, v1151, v1168, v1148, hs3, hs4, hs2, st6_1]
  simp (disch := decide) only [View.readCov_fill, ld_ini']
  exact stp_ld (A x0 x1 x2 x3 x4) 6 1 384 64 440 rfl rfl rfl (by decide) (by decide) _

/-- Head 2's state in chunk 7. -/
theorem st7_2 : (v1338 c arg1 harg1 arg2 harg2 arg3 harg3 arg4 harg4 arg5 harg5 arg10 arg11 arg12 arg14 x0 x1 x2 x3 x4) = St (A x0 x1 x2 x3 x4) (k0_pay2 (F := F)) 7 2 := by
  simp only [v1338, HS6_31, HS6_30, HS6_29, HS6_28]
  iterate 3 rw [View.readCov_skip _ _ _ _ _ (by decide)]
  rw [View.readCov_cons_toLoadRect]
  refine Eq.trans ?_ (St_succ ..).symm
  simp only [r_79, r_80, v1204, v1184, v1187, hs4, hs2, hs3, st6_2]
  simp (disch := decide) only [View.readCov_fill, ld_ini']
  exact stp_ld (A x0 x1 x2 x3 x4) 6 2 384 128 440 rfl rfl rfl (by decide) (by decide) _

/-- Head 3's state in chunk 7. -/
theorem st7_3 : (v1374 c arg1 harg1 arg2 harg2 arg3 harg3 arg4 harg4 arg5 harg5 arg10 arg11 arg12 arg14 x0 x1 x2 x3 x4) = St (A x0 x1 x2 x3 x4) (k0_pay2 (F := F)) 7 3 := by
  simp only [v1374, HS6_32, HS6_31, HS6_30, HS6_29]
  iterate 3 rw [View.readCov_skip _ _ _ _ _ (by decide)]
  rw [View.readCov_cons_toLoadRect]
  refine Eq.trans ?_ (St_succ ..).symm
  simp only [r_82, r_83, r_84, v1240, v1220, v1223, hs4, hs2, hs3, st6_3]
  simp (disch := decide) only [View.readCov_fill, ld_ini']
  exact stp_ld (A x0 x1 x2 x3 x4) 6 3 384 192 440 rfl rfl rfl (by decide) (by decide) _

/-- The output of head 3 in chunk 7. -/
theorem o7_3 : k0_pay222 (r_105 c arg1 harg1 arg2 harg2 arg3 harg3 arg4 harg4 arg5 harg5 arg8 arg9 arg10 arg11 arg12 arg14 x0 x1 x2 x3 x4) = uo (A x0 x1 x2 x3 x4) 7 3 (St (A x0 x1 x2 x3 x4) (k0_pay2 (F := F)) 7 3) := by
  simp only [r_105, v1363, v1366, v1372, hs0, hs1, hs3, st7_3]
  simp (disch := decide) only [View.readCov_fill, ld_ini']
  exact uo_ld (A x0 x1 x2 x3 x4) 7 3 448 192 rfl rfl (by decide) _

/-- The output of head 2 in chunk 7. -/
theorem o7_2 : k0_pay216 (r_96 c arg1 harg1 arg2 harg2 arg3 harg3 arg4 harg4 arg5 harg5 arg8 x0 x1 x2 x3 x4) (r_100 c arg1 harg1 arg2 harg2 arg3 harg3 arg4 harg4 arg5 harg5 arg8 arg9 arg11 x0 x1 x2 x3 x4) (r_101 c arg1 harg1 arg2 harg2 arg3 harg3 arg4 harg4 arg5 harg5 arg10 arg11 arg12 arg14 x0 x1 x2 x3 x4) cst_235 = uo (A x0 x1 x2 x3 x4) 7 2 (St (A x0 x1 x2 x3 x4) (k0_pay2 (F := F)) 7 2) := by
  simp only [r_96, r_100, r_101, cst_235, v1327, v1330, v1336, hs0, hs1, hs3, st7_2]
  simp (disch := decide) only [View.readCov_fill, ld_ini']
  exact uo_ld (A x0 x1 x2 x3 x4) 7 2 448 128 rfl rfl (by decide) _

/-- The output of head 1 in chunk 7. -/
theorem o7_1 : k0_pay208 (r_91 c arg1 harg1 arg2 harg2 arg3 harg3 arg4 harg4 arg5 harg5 arg8 x0 x1 x2 x3 x4) (r_93 c arg1 harg1 arg2 harg2 arg3 harg3 arg11 x0 x1 x2) (r_94 c arg1 harg1 arg2 harg2 arg3 harg3 arg4 harg4 arg5 harg5 arg10 arg11 arg12 arg14 x0 x1 x2 x3 x4) (r_95 c arg1 harg1 arg2 harg2 arg3 harg3 arg4 harg4 arg5 harg5 arg8 arg9 x0 x1 x2 x3 x4) = uo (A x0 x1 x2 x3 x4) 7 1 (St (A x0 x1 x2 x3 x4) (k0_pay2 (F := F)) 7 1) := by
  simp only [r_91, r_93, r_94, r_95, v1291, v1300, v1294, hs0, hs3, hs1, st7_1]
  simp (disch := decide) only [View.readCov_fill, ld_ini']
  exact uo_ld (A x0 x1 x2 x3 x4) 7 1 448 64 rfl rfl (by decide) _

/-- The output of head 0 in chunk 7. -/
theorem o7_0 : k0_pay201 k0_pay24 (r_86 c arg1 harg1 arg2 harg2 arg3 harg3 arg4 harg4 arg5 harg5 arg8 x0 x1 x2 x3 x4) (r_87 c arg1 harg1 arg2 harg2 arg3 harg3 arg4 harg4 arg5 harg5 arg9 x0 x1 x2 x3 x4) (r_89 c arg1 harg1 arg2 harg2 arg3 harg3 arg11 x0 x1 x2) (r_90 c arg1 harg1 arg2 harg2 arg3 harg3 arg4 harg4 arg5 harg5 arg10 arg11 arg12 arg14 x0 x1 x2 x3 x4) = uo (A x0 x1 x2 x3 x4) 7 0 (St (A x0 x1 x2 x3 x4) (k0_pay2 (F := F)) 7 0) := by
  simp only [r_86, r_87, r_89, r_90, v1255, v1258, v1264, hs0, hs1, hs3, st7_0]
  simp (disch := decide) only [View.readCov_fill, ld_ini']
  exact uo_ld (A x0 x1 x2 x3 x4) 7 0 448 0 rfl rfl (by decide) _

/-- The output of head 3 in chunk 6. -/
theorem o6_3 : k0_pay194 k0_pay24 (r_81 c arg1 harg1 arg2 harg2 arg3 harg3 arg4 harg4 arg5 harg5 arg8 x0 x1 x2 x3 x4) (r_83 c arg1 harg1 arg2 harg2 arg3 harg3 arg11 x0 x1 x2) (r_84 c arg1 harg1 arg2 harg2 arg3 harg3 arg4 harg4 arg5 harg5 arg10 arg11 arg12 arg14 x0 x1 x2 x3 x4) (r_85 c arg1 harg1 arg2 harg2 arg3 harg3 arg4 harg4 arg5 harg5 arg8 arg9 x0 x1 x2 x3 x4) k0_pay193 = uo (A x0 x1 x2 x3 x4) 6 3 (St (A x0 x1 x2 x3 x4) (k0_pay2 (F := F)) 6 3) := by
  simp only [r_81, r_83, r_84, r_85, v1214, v1223, v1217, hs0, hs3, hs1, st6_3]
  simp (disch := decide) only [View.readCov_fill, ld_ini']
  exact uo_ld (A x0 x1 x2 x3 x4) 6 3 384 192 rfl rfl (by decide) _

/-- The output of head 2 in chunk 6. -/
theorem o6_2 : k0_pay186 k0_pay24 (r_77 c arg1 harg1 arg2 harg2 arg3 harg3 arg4 harg4 arg5 harg5 arg8 x0 x1 x2 x3 x4) (r_78 c arg1 harg1 arg2 harg2 arg3 harg3 arg4 harg4 arg5 harg5 arg9 x0 x1 x2 x3 x4) (r_80 c arg1 harg1 arg2 harg2 arg3 harg3 arg11 x0 x1 x2) (v1189 c arg1 harg1 arg2 harg2 arg3 harg3 arg4 harg4 arg5 harg5 arg10 arg11 arg12 arg14 x0 x1 x2 x3 x4) = uo (A x0 x1 x2 x3 x4) 6 2 (St (A x0 x1 x2 x3 x4) (k0_pay2 (F := F)) 6 2) := by
  simp only [r_77, r_78, r_80, v1178, v1181, v1187, hs0, hs1, hs3, st6_2]
  simp (disch := decide) only [View.readCov_fill, ld_ini']
  exact uo_ld (A x0 x1 x2 x3 x4) 6 2 384 128 rfl rfl (by decide) _

/-- The output of head 1 in chunk 6. -/
theorem o6_1 : k0_pay179 k0_pay24 (r_74 c arg1 harg1 arg2 harg2 arg3 harg3 arg4 harg4 arg5 harg5 arg8 x0 x1 x2 x3 x4) (r_75 c arg1 harg1 arg2 harg2 arg3 harg3 arg4 harg4 arg5 harg5 arg9 x0 x1 x2 x3 x4) (v1151 c arg1 harg1 arg2 harg2 arg3 harg3 arg11 x0 x1 x2) (v1153 c arg1 harg1 arg2 harg2 arg3 harg3 arg4 harg4 arg5 harg5 arg10 arg11 arg12 arg14 x0 x1 x2 x3 x4) = uo (A x0 x1 x2 x3 x4) 6 1 (St (A x0 x1 x2 x3 x4) (k0_pay2 (F := F)) 6 1) := by
  simp only [r_74, r_75, v1151, v1142, v1145, hs3, hs0, hs1, st6_1]
  simp (disch := decide) only [View.readCov_fill, ld_ini']
  exact uo_ld (A x0 x1 x2 x3 x4) 6 1 384 64 rfl rfl (by decide) _

/-- The output of head 0 in chunk 6. -/
theorem o6_0 : k0_pay172 k0_pay24 (r_72 c arg1 harg1 arg2 harg2 arg3 harg3 arg4 harg4 arg5 harg5 arg8 x0 x1 x2 x3 x4) (r_73 c arg1 harg1 arg2 harg2 arg3 harg3 arg4 harg4 arg5 harg5 arg9 x0 x1 x2 x3 x4) (v1115 c arg1 harg1 arg2 harg2 arg3 harg3 arg11 x0 x1 x2) (v1117 c arg1 harg1 arg2 harg2 arg3 harg3 arg4 harg4 arg5 harg5 arg10 arg11 arg12 arg14 x0 x1 x2 x3 x4) = uo (A x0 x1 x2 x3 x4) 6 0 (St (A x0 x1 x2 x3 x4) (k0_pay2 (F := F)) 6 0) := by
  simp only [r_72, r_73, v1115, v1106, v1109, hs3, hs0, hs1, st6_0]
  simp (disch := decide) only [View.readCov_fill, ld_ini']
  exact uo_ld (A x0 x1 x2 x3 x4) 6 0 384 0 rfl rfl (by decide) _

/-- The output of head 3 in chunk 5. -/
theorem o5_3 : k0_pay166 k0_pay24 (r_69 c arg1 harg1 arg2 harg2 arg3 harg3 arg4 harg4 arg5 harg5 arg8 x0 x1 x2 x3 x4) (r_70 c arg1 harg1 arg2 harg2 arg3 harg3 arg4 harg4 arg5 harg5 arg9 x0 x1 x2 x3 x4) (v1074 c arg1 harg1 arg2 harg2 arg3 harg3 arg11 x0 x1 x2) (v1076 c arg1 harg1 arg2 harg2 arg3 harg3 arg4 harg4 arg5 harg5 arg10 arg11 arg12 arg14 x0 x1 x2 x3 x4) = uo (A x0 x1 x2 x3 x4) 5 3 (St (A x0 x1 x2 x3 x4) (k0_pay2 (F := F)) 5 3) := by
  simp only [r_69, r_70, v1074, v1065, v1068, hs3, hs0, hs1, st5_3]
  simp (disch := decide) only [View.readCov_fill, ld_ini']
  exact uo_ld (A x0 x1 x2 x3 x4) 5 3 320 192 rfl rfl (by decide) _

/-- The output of head 2 in chunk 5. -/
theorem o5_2 : k0_pay159 k0_pay24 (r_67 c arg1 harg1 arg2 harg2 arg3 harg3 arg4 harg4 arg5 harg5 arg8 x0 x1 x2 x3 x4) (r_68 c arg1 harg1 arg2 harg2 arg3 harg3 arg4 harg4 arg5 harg5 arg9 x0 x1 x2 x3 x4) (v1038 c arg1 harg1 arg2 harg2 arg3 harg3 arg11 x0 x1 x2) (v1040 c arg1 harg1 arg2 harg2 arg3 harg3 arg4 harg4 arg5 harg5 arg10 arg11 arg12 arg14 x0 x1 x2 x3 x4) = uo (A x0 x1 x2 x3 x4) 5 2 (St (A x0 x1 x2 x3 x4) (k0_pay2 (F := F)) 5 2) := by
  simp only [r_67, r_68, v1038, v1029, v1032, hs3, hs0, hs1, st5_2]
  simp (disch := decide) only [View.readCov_fill, ld_ini']
  exact uo_ld (A x0 x1 x2 x3 x4) 5 2 320 128 rfl rfl (by decide) _

/-- The output of head 1 in chunk 5. -/
theorem o5_1 : k0_pay153 k0_pay24 (r_66 c arg1 harg1 arg2 harg2 arg3 harg3 arg4 harg4 arg5 harg5 arg8 x0 x1 x2 x3 x4) (v996 c arg1 harg1 arg2 harg2 arg3 harg3 arg4 harg4 arg5 harg5 arg9 x0 x1 x2 x3 x4) (v1002 c arg1 harg1 arg2 harg2 arg3 harg3 arg11 x0 x1 x2) (v1004 c arg1 harg1 arg2 harg2 arg3 harg3 arg4 harg4 arg5 harg5 arg10 arg11 arg12 arg14 x0 x1 x2 x3 x4) = uo (A x0 x1 x2 x3 x4) 5 1 (St (A x0 x1 x2 x3 x4) (k0_pay2 (F := F)) 5 1) := by
  simp only [r_66, v996, v1002, v993, hs1, hs3, hs0, st5_1]
  simp (disch := decide) only [View.readCov_fill, ld_ini']
  exact uo_ld (A x0 x1 x2 x3 x4) 5 1 320 64 rfl rfl (by decide) _

/-- The output of head 0 in chunk 5. -/
theorem o5_0 : k0_pay148 k0_pay24 (v957 c arg1 harg1 arg2 harg2 arg3 harg3 arg4 harg4 arg5 harg5 arg8 x0 x1 x2 x3 x4) (v960 c arg1 harg1 arg2 harg2 arg3 harg3 arg4 harg4 arg5 harg5 arg9 x0 x1 x2 x3 x4) (v966 c arg1 harg1 arg2 harg2 arg3 harg3 arg11 x0 x1 x2) (v968 c arg1 harg1 arg2 harg2 arg3 harg3 arg4 harg4 arg5 harg5 arg10 arg11 arg12 arg14 x0 x1 x2 x3 x4) = uo (A x0 x1 x2 x3 x4) 5 0 (St (A x0 x1 x2 x3 x4) (k0_pay2 (F := F)) 5 0) := by
  simp only [v957, v960, v966, hs0, hs1, hs3, st5_0]
  simp (disch := decide) only [View.readCov_fill, ld_ini']
  exact uo_ld (A x0 x1 x2 x3 x4) 5 0 320 0 rfl rfl (by decide) _

/-- The output of head 3 in chunk 4. -/
theorem o4_3 : k0_pay144 k0_pay24 (v c arg1 harg1 arg2 harg2 arg3 harg3 arg4 harg4 arg5 harg5 arg8 x0 x1 x2 x3 x4) (v919 c arg1 harg1 arg2 harg2 arg3 harg3 arg4 harg4 arg5 harg5 arg9 x0 x1 x2 x3 x4) (v925 c arg1 harg1 arg2 harg2 arg3 harg3 arg11 x0 x1 x2) (v927 c arg1 harg1 arg2 harg2 arg3 harg3 arg4 harg4 arg5 harg5 arg10 arg11 arg12 arg14 x0 x1 x2 x3 x4) = uo (A x0 x1 x2 x3 x4) 4 3 (St (A x0 x1 x2 x3 x4) (k0_pay2 (F := F)) 4 3) := by
  simp only [v, v919, v925, hs0, hs1, hs3, st4_3]
  simp (disch := decide) only [View.readCov_fill, ld_ini']
  exact uo_ld (A x0 x1 x2 x3 x4) 4 3 256 192 rfl rfl (by decide) _

/-- The output of head 2 in chunk 4. -/
theorem o4_2 : k0_pay140 k0_pay24 (v880 c arg1 harg1 arg2 harg2 arg3 harg3 arg4 harg4 arg5 harg5 arg8 x0 x1 x2 x3 x4) (v883 c arg1 harg1 arg2 harg2 arg3 harg3 arg4 harg4 arg5 harg5 arg9 x0 x1 x2 x3 x4) (v889 c arg1 harg1 arg2 harg2 arg3 harg3 arg11 x0 x1 x2) (v891 c arg1 harg1 arg2 harg2 arg3 harg3 arg4 harg4 arg5 harg5 arg10 arg11 arg12 arg14 x0 x1 x2 x3 x4) = uo (A x0 x1 x2 x3 x4) 4 2 (St (A x0 x1 x2 x3 x4) (k0_pay2 (F := F)) 4 2) := by
  simp only [v880, v883, v889, hs0, hs1, hs3, st4_2]
  simp (disch := decide) only [View.readCov_fill, ld_ini']
  exact uo_ld (A x0 x1 x2 x3 x4) 4 2 256 128 rfl rfl (by decide) _

/-- The output of head 1 in chunk 4. -/
theorem o4_1 : k0_pay135 k0_pay24 (v844 c arg1 harg1 arg2 harg2 arg3 harg3 arg4 harg4 arg5 harg5 arg8 x0 x1 x2 x3 x4) (v847 c arg1 harg1 arg2 harg2 arg3 harg3 arg4 harg4 arg5 harg5 arg9 x0 x1 x2 x3 x4) (v853 c arg1 harg1 arg2 harg2 arg3 harg3 arg11 x0 x1 x2) (v855 c arg1 harg1 arg2 harg2 arg3 harg3 arg4 harg4 arg5 harg5 arg10 arg11 arg12 arg14 x0 x1 x2 x3 x4) = uo (A x0 x1 x2 x3 x4) 4 1 (St (A x0 x1 x2 x3 x4) (k0_pay2 (F := F)) 4 1) := by
  simp only [v844, v847, v853, hs0, hs1, hs3, st4_1]
  simp (disch := decide) only [View.readCov_fill, ld_ini']
  exact uo_ld (A x0 x1 x2 x3 x4) 4 1 256 64 rfl rfl (by decide) _

/-- The output of head 0 in chunk 4. -/
theorem o4_0 : k0_pay130 k0_pay24 (v808 c arg1 harg1 arg2 harg2 arg3 harg3 arg4 harg4 arg5 harg5 arg8 x0 x1 x2 x3 x4) (v811 c arg1 harg1 arg2 harg2 arg3 harg3 arg4 harg4 arg5 harg5 arg9 x0 x1 x2 x3 x4) (v817 c arg1 harg1 arg2 harg2 arg3 harg3 arg11 x0 x1 x2) (v819 c arg1 harg1 arg2 harg2 arg3 harg3 arg4 harg4 arg5 harg5 arg10 arg11 arg12 arg14 x0 x1 x2 x3 x4) = uo (A x0 x1 x2 x3 x4) 4 0 (St (A x0 x1 x2 x3 x4) (k0_pay2 (F := F)) 4 0) := by
  simp only [v808, v811, v817, hs0, hs1, hs3, st4_0]
  simp (disch := decide) only [View.readCov_fill, ld_ini']
  exact uo_ld (A x0 x1 x2 x3 x4) 4 0 256 0 rfl rfl (by decide) _

/-- The output of head 3 in chunk 3. -/
theorem o3_3 : k0_pay125 k0_pay24 (v767 c arg1 harg1 arg2 harg2 arg3 harg3 arg4 harg4 arg5 harg5 arg8 x0 x1 x2 x3 x4) (v770 c arg1 harg1 arg2 harg2 arg3 harg3 arg4 harg4 arg5 harg5 arg9 x0 x1 x2 x3 x4) (v776 c arg1 harg1 arg2 harg2 arg3 harg3 arg11 x0 x1 x2) (v778 c arg1 harg1 arg2 harg2 arg3 harg3 arg4 harg4 arg5 harg5 arg10 arg11 arg12 arg14 x0 x1 x2 x3 x4) = uo (A x0 x1 x2 x3 x4) 3 3 (St (A x0 x1 x2 x3 x4) (k0_pay2 (F := F)) 3 3) := by
  simp only [v767, v770, v776, hs0, hs1, hs3, st3_3]
  simp (disch := decide) only [View.readCov_fill, ld_ini']
  exact uo_ld (A x0 x1 x2 x3 x4) 3 3 192 192 rfl rfl (by decide) _

/-- The output of head 2 in chunk 3. -/
theorem o3_2 : k0_pay119 k0_pay24 (v731 c arg1 harg1 arg2 harg2 arg3 harg3 arg4 harg4 arg5 harg5 arg8 x0 x1 x2 x3 x4) (v734 c arg1 harg1 arg2 harg2 arg3 harg3 arg4 harg4 arg5 harg5 arg9 x0 x1 x2 x3 x4) (v740 c arg1 harg1 arg2 harg2 arg3 harg3 arg11 x0 x1 x2) (v742 c arg1 harg1 arg2 harg2 arg3 harg3 arg4 harg4 arg5 harg5 arg10 arg11 arg12 arg14 x0 x1 x2 x3 x4) = uo (A x0 x1 x2 x3 x4) 3 2 (St (A x0 x1 x2 x3 x4) (k0_pay2 (F := F)) 3 2) := by
  simp only [v731, v734, v740, hs0, hs1, hs3, st3_2]
  simp (disch := decide) only [View.readCov_fill, ld_ini']
  exact uo_ld (A x0 x1 x2 x3 x4) 3 2 192 128 rfl rfl (by decide) _

/-- The output of head 1 in chunk 3. -/
theorem o3_1 : k0_pay115 k0_pay24 (v695 c arg1 harg1 arg2 harg2 arg3 harg3 arg4 harg4 arg5 harg5 arg8 x0 x1 x2 x3 x4) (v698 c arg1 harg1 arg2 harg2 arg3 harg3 arg4 harg4 arg5 harg5 arg9 x0 x1 x2 x3 x4) (v704 c arg1 harg1 arg2 harg2 arg3 harg3 arg11 x0 x1 x2) (v706 c arg1 harg1 arg2 harg2 arg3 harg3 arg4 harg4 arg5 harg5 arg10 arg11 arg12 arg14 x0 x1 x2 x3 x4) = uo (A x0 x1 x2 x3 x4) 3 1 (St (A x0 x1 x2 x3 x4) (k0_pay2 (F := F)) 3 1) := by
  simp only [v695, v698, v704, hs0, hs1, hs3, st3_1]
  simp (disch := decide) only [View.readCov_fill, ld_ini']
  exact uo_ld (A x0 x1 x2 x3 x4) 3 1 192 64 rfl rfl (by decide) _

/-- The output of head 0 in chunk 3. -/
theorem o3_0 : k0_pay110 (r_57 c arg1 harg1 arg2 harg2 arg3 harg3 arg4 harg4 arg5 harg5 arg8 arg9 arg10 arg11 arg12 arg14 x0 x1 x2 x3 x4) = uo (A x0 x1 x2 x3 x4) 3 0 (St (A x0 x1 x2 x3 x4) (k0_pay2 (F := F)) 3 0) := by
  simp only [r_57, v659, v662, v668, hs0, hs1, hs3, st3_0]
  simp (disch := decide) only [View.readCov_fill, ld_ini']
  exact uo_ld (A x0 x1 x2 x3 x4) 3 0 192 0 rfl rfl (by decide) _

/-- The output of head 3 in chunk 2. -/
theorem o2_3 : k0_pay104 k0_pay24 (v618 c arg1 harg1 arg2 harg2 arg3 harg3 arg4 harg4 arg5 harg5 arg8 x0 x1 x2 x3 x4) (v621 c arg1 harg1 arg2 harg2 arg3 harg3 arg4 harg4 arg5 harg5 arg9 x0 x1 x2 x3 x4) (v627 c arg1 harg1 arg2 harg2 arg3 harg3 arg11 x0 x1 x2) (v629 c arg1 harg1 arg2 harg2 arg3 harg3 arg4 harg4 arg5 harg5 arg10 arg11 arg12 arg14 x0 x1 x2 x3 x4) = uo (A x0 x1 x2 x3 x4) 2 3 (St (A x0 x1 x2 x3 x4) (k0_pay2 (F := F)) 2 3) := by
  simp only [v618, v621, v627, hs0, hs1, hs3, st2_3]
  simp (disch := decide) only [View.readCov_fill, ld_ini']
  exact uo_ld (A x0 x1 x2 x3 x4) 2 3 128 192 rfl rfl (by decide) _

/-- The output of head 2 in chunk 2. -/
theorem o2_2 : k0_pay99 (r_50 c arg1 harg1 arg2 harg2 arg3 harg3 arg4 harg4 arg5 harg5 arg8 arg9 arg10 arg11 arg12 arg14 x0 x1 x2 x3 x4) = uo (A x0 x1 x2 x3 x4) 2 2 (St (A x0 x1 x2 x3 x4) (k0_pay2 (F := F)) 2 2) := by
  simp only [r_50, v582, v585, v591, hs0, hs1, hs3, st2_2]
  simp (disch := decide) only [View.readCov_fill, ld_ini']
  exact uo_ld (A x0 x1 x2 x3 x4) 2 2 128 128 rfl rfl (by decide) _

/-- The output of head 1 in chunk 2. -/
theorem o2_1 : k0_pay93 (r_41 c arg1 harg1 arg2 harg2 arg3 harg3 arg4 harg4 arg5 harg5 arg8 x0 x1 x2 x3 x4) (r_45 c arg1 harg1 arg2 harg2 arg3 harg3 arg4 harg4 arg5 harg5 arg8 arg9 arg11 x0 x1 x2 x3 x4) (r_46 c arg1 harg1 arg2 harg2 arg3 harg3 arg4 harg4 arg5 harg5 arg10 arg11 arg12 arg14 x0 x1 x2 x3 x4) cst_235 = uo (A x0 x1 x2 x3 x4) 2 1 (St (A x0 x1 x2 x3 x4) (k0_pay2 (F := F)) 2 1) := by
  simp only [r_41, r_45, r_46, cst_235, v546, v549, v555, hs0, hs1, hs3, st2_1]
  simp (disch := decide) only [View.readCov_fill, ld_ini']
  exact uo_ld (A x0 x1 x2 x3 x4) 2 1 128 64 rfl rfl (by decide) _

/-- The output of head 0 in chunk 2. -/
theorem o2_0 : k0_pay85 (r_36 c arg1 harg1 arg2 harg2 arg3 harg3 arg4 harg4 arg5 harg5 arg8 x0 x1 x2 x3 x4) (r_38 c arg1 harg1 arg2 harg2 arg3 harg3 arg11 x0 x1 x2) (r_39 c arg1 harg1 arg2 harg2 arg3 harg3 arg4 harg4 arg5 harg5 arg10 arg11 arg12 arg14 x0 x1 x2 x3 x4) (r_40 c arg1 harg1 arg2 harg2 arg3 harg3 arg4 harg4 arg5 harg5 arg8 arg9 x0 x1 x2 x3 x4) = uo (A x0 x1 x2 x3 x4) 2 0 (St (A x0 x1 x2 x3 x4) (k0_pay2 (F := F)) 2 0) := by
  simp only [r_36, r_38, r_39, r_40, v510, v519, v513, hs0, hs3, hs1, st2_0]
  simp (disch := decide) only [View.readCov_fill, ld_ini']
  exact uo_ld (A x0 x1 x2 x3 x4) 2 0 128 0 rfl rfl (by decide) _

/-- The output of head 3 in chunk 1. -/
theorem o1_3 : k0_pay78 (r_30 c arg1 harg1 arg2 harg2 arg3 harg3 arg4 harg4 arg5 harg5 arg8 x0 x1 x2 x3 x4) (r_34 c arg1 harg1 arg2 harg2 arg3 harg3 arg4 harg4 arg5 harg5 arg8 arg9 arg11 x0 x1 x2 x3 x4) (r_35 c arg1 harg1 arg2 harg2 arg3 harg3 arg4 harg4 arg5 harg5 arg10 arg11 arg12 arg14 x0 x1 x2 x3 x4) = uo (A x0 x1 x2 x3 x4) 1 3 (St (A x0 x1 x2 x3 x4) (k0_pay2 (F := F)) 1 3) := by
  simp only [r_30, r_34, r_35, v469, v472, v478, hs0, hs1, hs3, st1_3]
  simp (disch := decide) only [View.readCov_fill, ld_ini']
  exact uo_ld (A x0 x1 x2 x3 x4) 1 3 64 192 rfl rfl (by decide) _

/-- The output of head 2 in chunk 1. -/
theorem o1_2 : k0_pay70 k0_pay24 (r_25 c arg1 harg1 arg2 harg2 arg3 harg3 arg4 harg4 arg5 harg5 arg8 x0 x1 x2 x3 x4) (r_27 c arg1 harg1 arg2 harg2 arg3 harg3 arg11 x0 x1 x2) (r_28 c arg1 harg1 arg2 harg2 arg3 harg3 arg4 harg4 arg5 harg5 arg10 arg11 arg12 arg14 x0 x1 x2 x3 x4) (r_29 c arg1 harg1 arg2 harg2 arg3 harg3 arg4 harg4 arg5 harg5 arg8 arg9 x0 x1 x2 x3 x4) k0_pay69 = uo (A x0 x1 x2 x3 x4) 1 2 (St (A x0 x1 x2 x3 x4) (k0_pay2 (F := F)) 1 2) := by
  simp only [r_25, r_27, r_28, r_29, v433, v442, v436, hs0, hs3, hs1, st1_2]
  simp (disch := decide) only [View.readCov_fill, ld_ini']
  exact uo_ld (A x0 x1 x2 x3 x4) 1 2 64 128 rfl rfl (by decide) _

/-- The output of head 1 in chunk 1. -/
theorem o1_1 : k0_pay62 k0_pay24 (r_21 c arg1 harg1 arg2 harg2 arg3 harg3 arg4 harg4 arg5 harg5 arg8 x0 x1 x2 x3 x4) (r_22 c arg1 harg1 arg2 harg2 arg3 harg3 arg4 harg4 arg5 harg5 arg9 x0 x1 x2 x3 x4) (r_24 c arg1 harg1 arg2 harg2 arg3 harg3 arg11 x0 x1 x2) (v408 c arg1 harg1 arg2 harg2 arg3 harg3 arg4 harg4 arg5 harg5 arg10 arg11 arg12 arg14 x0 x1 x2 x3 x4) = uo (A x0 x1 x2 x3 x4) 1 1 (St (A x0 x1 x2 x3 x4) (k0_pay2 (F := F)) 1 1) := by
  simp only [r_21, r_22, r_24, v397, v400, v406, hs0, hs1, hs3, st1_1]
  simp (disch := decide) only [View.readCov_fill, ld_ini']
  exact uo_ld (A x0 x1 x2 x3 x4) 1 1 64 64 rfl rfl (by decide) _

/-- The output of head 0 in chunk 1. -/
theorem o1_0 : k0_pay55 k0_pay24 (r_18 c arg1 harg1 arg2 harg2 arg3 harg3 arg4 harg4 arg5 harg5 arg8 x0 x1 x2 x3 x4) (r_19 c arg1 harg1 arg2 harg2 arg3 harg3 arg4 harg4 arg5 harg5 arg9 x0 x1 x2 x3 x4) (v370 c arg1 harg1 arg2 harg2 arg3 harg3 arg11 x0 x1 x2) (v372 c arg1 harg1 arg2 harg2 arg3 harg3 arg4 harg4 arg5 harg5 arg10 arg11 arg12 arg14 x0 x1 x2 x3 x4) = uo (A x0 x1 x2 x3 x4) 1 0 (St (A x0 x1 x2 x3 x4) (k0_pay2 (F := F)) 1 0) := by
  simp only [r_18, r_19, v370, v361, v364, hs3, hs0, hs1, st1_0]
  simp (disch := decide) only [View.readCov_fill, ld_ini']
  exact uo_ld (A x0 x1 x2 x3 x4) 1 0 64 0 rfl rfl (by decide) _

/-- The output of head 3 in chunk 0. -/
theorem o0_3 : k0_pay48 k0_pay24 (r_14 c arg1 harg1 arg2 harg2 arg3 harg3 arg4 harg4 arg5 harg5 arg8 x0 x1 x2 x3 x4) (r_15 c arg1 harg1 arg2 harg2 arg3 harg3 arg4 harg4 arg5 harg5 arg9 x0 x1 x2 x3 x4) (r_17 c arg1 harg1 arg2 harg2 arg3 harg3 arg11 x0 x1 x2) (v331 c arg1 harg1 arg2 harg2 arg3 harg3 arg4 harg4 arg5 harg5 arg10 arg11 arg12 arg14 x0 x1 x2 x3 x4) = uo (A x0 x1 x2 x3 x4) 0 3 (St (A x0 x1 x2 x3 x4) (k0_pay2 (F := F)) 0 3) := by
  simp only [r_14, r_15, r_17, v320, v323, v329, hs0, hs1, hs3, st0_3]
  simp (disch := decide) only [View.readCov_fill, ld_ini']
  exact uo_ld (A x0 x1 x2 x3 x4) 0 3 0 192 rfl rfl (by decide) _

/-- The output of head 2 in chunk 0. -/
theorem o0_2 : k0_pay41 k0_pay24 (r_11 c arg1 harg1 arg2 harg2 arg3 harg3 arg4 harg4 arg5 harg5 arg8 x0 x1 x2 x3 x4) (r_12 c arg1 harg1 arg2 harg2 arg3 harg3 arg4 harg4 arg5 harg5 arg9 x0 x1 x2 x3 x4) (v293 c arg1 harg1 arg2 harg2 arg3 harg3 arg11 x0 x1 x2) (v295 c arg1 harg1 arg2 harg2 arg3 harg3 arg4 harg4 arg5 harg5 arg10 arg11 arg12 arg14 x0 x1 x2 x3 x4) = uo (A x0 x1 x2 x3 x4) 0 2 (St (A x0 x1 x2 x3 x4) (k0_pay2 (F := F)) 0 2) := by
  simp only [r_11, r_12, v293, v284, v287, hs3, hs0, hs1, st0_2]
  simp (disch := decide) only [View.readCov_fill, ld_ini']
  exact uo_ld (A x0 x1 x2 x3 x4) 0 2 0 128 rfl rfl (by decide) _

/-- The output of head 1 in chunk 0. -/
theorem o0_1 : k0_pay34 k0_pay24 (r_9 c arg1 harg1 arg2 harg2 arg3 harg3 arg4 harg4 arg5 harg5 arg8 x0 x1 x2 x3 x4) (r_10 c arg1 harg1 arg2 harg2 arg3 harg3 arg4 harg4 arg5 harg5 arg9 x0 x1 x2 x3 x4) (v257 c arg1 harg1 arg2 harg2 arg3 harg3 arg11 x0 x1 x2) (v259 c arg1 harg1 arg2 harg2 arg3 harg3 arg4 harg4 arg5 harg5 arg10 arg11 arg12 arg14 x0 x1 x2 x3 x4) = uo (A x0 x1 x2 x3 x4) 0 1 (St (A x0 x1 x2 x3 x4) (k0_pay2 (F := F)) 0 1) := by
  simp only [r_9, r_10, v257, v248, v251, hs3, hs0, hs1, st0_1]
  simp (disch := decide) only [View.readCov_fill, ld_ini']
  exact uo_ld (A x0 x1 x2 x3 x4) 0 1 0 64 rfl rfl (by decide) _

/-- The output of head 0 in chunk 0. -/
theorem o0_0 : k0_pay28 k0_pay24 (r_8 c arg1 harg1 arg2 harg2 arg3 harg3 arg4 harg4 arg5 harg5 arg8 x0 x1 x2 x3 x4) (v215 c arg1 harg1 arg2 harg2 arg3 harg3 arg4 harg4 arg5 harg5 arg9 x0 x1 x2 x3 x4) (v221 c arg1 harg1 arg2 harg2 arg3 harg3 arg11 x0 x1 x2) (v223 c arg14) = uo (A x0 x1 x2 x3 x4) 0 0 (St (A x0 x1 x2 x3 x4) (k0_pay2 (F := F)) 0 0) := by
  simp only [r_8, v215, v221, v212, hs1, hs3, hs0, st0_0]
  simp (disch := decide) only [View.readCov_fill, ld_ini']
  exact uo_ld (A x0 x1 x2 x3 x4) 0 0 0 0 rfl rfl (by decide) _

/-- Every output that the run stores is a block of the recursion's. -/
theorem out_pieces : View.PiecesOf (GO (A x0 x1 x2 x3 x4) (k0_pay2 (F := F))) (HS5_32 c arg1 harg1 arg2 harg2 arg3 harg3 arg4 harg4 arg5 harg5 arg8 arg9 arg10 arg11 arg12 arg14 x0 x1 x2 x3 x4) := by
  unfold HS5_32
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact (congrFun (o7_3 ..) x).trans (go_emb (A x0 x1 x2 x3 x4) (k0_pay2 (F := F)) 7 3 448 192 rfl rfl k0_part35_skel._proof_5 x)
  · exact (congrFun (o7_2 ..) x).trans (go_emb (A x0 x1 x2 x3 x4) (k0_pay2 (F := F)) 7 2 448 128 rfl rfl k0_part34_skel._proof_5 x)
  · exact (congrFun (o7_1 ..) x).trans (go_emb (A x0 x1 x2 x3 x4) (k0_pay2 (F := F)) 7 1 448 64 rfl rfl k0_part33_skel._proof_5 x)
  · exact (congrFun (o7_0 ..) x).trans (go_emb (A x0 x1 x2 x3 x4) (k0_pay2 (F := F)) 7 0 448 0 rfl rfl k0_part32_skel._proof_5 x)
  · exact (congrFun (o6_3 ..) x).trans (go_emb (A x0 x1 x2 x3 x4) (k0_pay2 (F := F)) 6 3 384 192 rfl rfl k0_part31_skel._proof_5 x)
  · exact (congrFun (o6_2 ..) x).trans (go_emb (A x0 x1 x2 x3 x4) (k0_pay2 (F := F)) 6 2 384 128 rfl rfl k0_part30_skel._proof_5 x)
  · exact (congrFun (o6_1 ..) x).trans (go_emb (A x0 x1 x2 x3 x4) (k0_pay2 (F := F)) 6 1 384 64 rfl rfl k0_part29_skel._proof_5 x)
  · exact (congrFun (o6_0 ..) x).trans (go_emb (A x0 x1 x2 x3 x4) (k0_pay2 (F := F)) 6 0 384 0 rfl rfl k0_part28_skel._proof_5 x)
  · exact (congrFun (o5_3 ..) x).trans (go_emb (A x0 x1 x2 x3 x4) (k0_pay2 (F := F)) 5 3 320 192 rfl rfl k0_part27_skel._proof_5 x)
  · exact (congrFun (o5_2 ..) x).trans (go_emb (A x0 x1 x2 x3 x4) (k0_pay2 (F := F)) 5 2 320 128 rfl rfl k0_part26_skel._proof_5 x)
  · exact (congrFun (o5_1 ..) x).trans (go_emb (A x0 x1 x2 x3 x4) (k0_pay2 (F := F)) 5 1 320 64 rfl rfl k0_part25_skel._proof_7 x)
  · exact (congrFun (o5_0 ..) x).trans (go_emb (A x0 x1 x2 x3 x4) (k0_pay2 (F := F)) 5 0 320 0 rfl rfl k0_part25_skel._proof_1 x)
  · exact (congrFun (o4_3 ..) x).trans (go_emb (A x0 x1 x2 x3 x4) (k0_pay2 (F := F)) 4 3 256 192 rfl rfl k0_part23_skel._proof_7 x)
  · exact (congrFun (o4_2 ..) x).trans (go_emb (A x0 x1 x2 x3 x4) (k0_pay2 (F := F)) 4 2 256 128 rfl rfl k0_part23_skel._proof_1 x)
  · exact (congrFun (o4_1 ..) x).trans (go_emb (A x0 x1 x2 x3 x4) (k0_pay2 (F := F)) 4 1 256 64 rfl rfl k0_part22_skel._proof_1 x)
  · exact (congrFun (o4_0 ..) x).trans (go_emb (A x0 x1 x2 x3 x4) (k0_pay2 (F := F)) 4 0 256 0 rfl rfl k0_part21_skel._proof_1 x)
  · exact (congrFun (o3_3 ..) x).trans (go_emb (A x0 x1 x2 x3 x4) (k0_pay2 (F := F)) 3 3 192 192 rfl rfl k0_part20_skel._proof_1 x)
  · exact (congrFun (o3_2 ..) x).trans (go_emb (A x0 x1 x2 x3 x4) (k0_pay2 (F := F)) 3 2 192 128 rfl rfl k0_part19_skel._proof_1 x)
  · exact (congrFun (o3_1 ..) x).trans (go_emb (A x0 x1 x2 x3 x4) (k0_pay2 (F := F)) 3 1 192 64 rfl rfl k0_part18_skel._proof_5 x)
  · exact (congrFun (o3_0 ..) x).trans (go_emb (A x0 x1 x2 x3 x4) (k0_pay2 (F := F)) 3 0 192 0 rfl rfl k0_part17_skel._proof_3 x)
  · exact (congrFun (o2_3 ..) x).trans (go_emb (A x0 x1 x2 x3 x4) (k0_pay2 (F := F)) 2 3 128 192 rfl rfl k0_part16_skel._proof_5 x)
  · exact (congrFun (o2_2 ..) x).trans (go_emb (A x0 x1 x2 x3 x4) (k0_pay2 (F := F)) 2 2 128 128 rfl rfl k0_part15_skel._proof_5 x)
  · exact (congrFun (o2_1 ..) x).trans (go_emb (A x0 x1 x2 x3 x4) (k0_pay2 (F := F)) 2 1 128 64 rfl rfl k0_part14_skel._proof_5 x)
  · exact (congrFun (o2_0 ..) x).trans (go_emb (A x0 x1 x2 x3 x4) (k0_pay2 (F := F)) 2 0 128 0 rfl rfl k0_part13_skel._proof_5 x)
  · exact (congrFun (o1_3 ..) x).trans (go_emb (A x0 x1 x2 x3 x4) (k0_pay2 (F := F)) 1 3 64 192 rfl rfl k0_part12_skel._proof_5 x)
  · exact (congrFun (o1_2 ..) x).trans (go_emb (A x0 x1 x2 x3 x4) (k0_pay2 (F := F)) 1 2 64 128 rfl rfl k0_part11_skel._proof_5 x)
  · exact (congrFun (o1_1 ..) x).trans (go_emb (A x0 x1 x2 x3 x4) (k0_pay2 (F := F)) 1 1 64 64 rfl rfl k0_part10_skel._proof_5 x)
  · exact (congrFun (o1_0 ..) x).trans (go_emb (A x0 x1 x2 x3 x4) (k0_pay2 (F := F)) 1 0 64 0 rfl rfl k0_part9_skel._proof_8 x)
  · exact (congrFun (o0_3 ..) x).trans (go_emb (A x0 x1 x2 x3 x4) (k0_pay2 (F := F)) 0 3 0 192 rfl rfl k0_part8_skel._proof_8 x)
  · exact (congrFun (o0_2 ..) x).trans (go_emb (A x0 x1 x2 x3 x4) (k0_pay2 (F := F)) 0 2 0 128 rfl rfl k0_part7_skel._proof_8 x)
  · exact (congrFun (o0_1 ..) x).trans (go_emb (A x0 x1 x2 x3 x4) (k0_pay2 (F := F)) 0 1 0 64 rfl rfl k0_part6_skel._proof_8 x)
  · exact (congrFun (o0_0 ..) x).trans (go_emb (A x0 x1 x2 x3 x4) (k0_pay2 (F := F)) 0 0 0 0 rfl rfl k0_part5_skel._proof_3 x)

/-- The outputs of a block, loaded back. -/
theorem out_read : (v1398 c arg1 harg1 arg2 harg2 arg3 harg3 arg4 harg4 arg5 harg5 arg8 arg9 arg10 arg11 arg12 arg13 arg14 x0 x1 x2 x3 x4) = GO (A x0 x1 x2 x3 x4) (k0_pay2 (F := F)) := by
  unfold v1398
  rw [View.readCov_eq_canon']
  funext y
  have hc : ∀ y, ∃ p ∈ (HS5_32 c arg1 harg1 arg2 harg2 arg3 harg3 arg4 harg4 arg5 harg5 arg8 arg9 arg10 arg11 arg12 arg14 x0 x1 x2 x3 x4), y ∈ p.1.set := by
    refine View.cover_of_tiledL _ ![64, 64] ?_
    unfold HS5_32
    rfl
  have e : ((Rect.unit ![0, 0] S512x256.size inb_S512x256_S512x256_0_0).toLoadRect).idx y = y := funext fun k => Fin.ext (by
    fin_cases k
    · show 0 + 1 * (y 0).val = (y 0).val
      omega
    · show 0 + 1 * (y 1).val = (y 1).val
      omega)
  have h := View.canon_append_of_piecesOf (GO (A x0 x1 x2 x3 x4) (k0_pay2 (F := F))) [] _ (out_pieces _ _ _ _ _ _ _ _ _ _ _ _ _ _ _ _ _ _ _ _ _ _) y (hc y)
  rw [List.append_nil] at h
  rw [e]
  exact h

/-- Head 0's last state. -/
theorem fin_0 : k0_pay202 (r_88 c arg1 harg1 arg2 harg2 arg3 harg3 arg4 harg4 arg5 harg5 arg10 x0 x1 x2 x3 x4) (r_89 c arg1 harg1 arg2 harg2 arg3 harg3 arg11 x0 x1 x2) (r_90 c arg1 harg1 arg2 harg2 arg3 harg3 arg4 harg4 arg5 harg5 arg10 arg11 arg12 arg14 x0 x1 x2 x3 x4) (v1281 c arg12) = St (A x0 x1 x2 x3 x4) (k0_pay2 (F := F)) 8 0 := by
  refine Eq.trans ?_ (St_succ ..).symm
  simp only [r_88, r_89, r_90, v1281, v1261, v1264, hs4, hs2, hs3, st7_0]
  simp (disch := decide) only [View.readCov_fill]
  exact stp_ld (A x0 x1 x2 x3 x4) 7 0 448 0 504 rfl rfl rfl (by decide) (by decide) _

/-- Head 1's last state. -/
theorem fin_1 : k0_pay209 (r_92 c arg1 harg1 arg2 harg2 arg3 harg3 arg4 harg4 arg5 harg5 arg10 x0 x1 x2 x3 x4) (r_93 c arg1 harg1 arg2 harg2 arg3 harg3 arg11 x0 x1 x2) (r_94 c arg1 harg1 arg2 harg2 arg3 harg3 arg4 harg4 arg5 harg5 arg10 arg11 arg12 arg14 x0 x1 x2 x3 x4) (v1317 c arg12) = St (A x0 x1 x2 x3 x4) (k0_pay2 (F := F)) 8 1 := by
  refine Eq.trans ?_ (St_succ ..).symm
  simp only [r_92, r_93, r_94, v1317, v1297, v1300, hs4, hs2, hs3, st7_1]
  simp (disch := decide) only [View.readCov_fill]
  exact stp_ld (A x0 x1 x2 x3 x4) 7 1 448 64 504 rfl rfl rfl (by decide) (by decide) _

/-- Head 2's last state. -/
theorem fin_2 : k0_pay217 (r_97 c arg1 harg1 arg2 harg2 arg3 harg3 arg4 harg4 arg5 harg5 arg10 x0 x1 x2 x3 x4) (r_98 c arg1 harg1 arg2 harg2 arg3 harg3 arg11 x0 x1 x2) (r_99 c arg1 harg1 arg2 harg2 arg3 harg3 arg4 harg4 arg5 harg5 arg10 arg11 arg12 arg14 x0 x1 x2 x3 x4) (v1353 c arg12) = St (A x0 x1 x2 x3 x4) (k0_pay2 (F := F)) 8 2 := by
  refine Eq.trans ?_ (St_succ ..).symm
  simp only [r_97, r_98, r_99, v1353, v1333, v1336, hs4, hs2, hs3, st7_2]
  simp (disch := decide) only [View.readCov_fill]
  exact stp_ld (A x0 x1 x2 x3 x4) 7 2 448 128 504 rfl rfl rfl (by decide) (by decide) _

/-- Head 3's last state. -/
theorem fin_3 : k0_pay223 (r_102 c arg1 harg1 arg2 harg2 arg3 harg3 arg4 harg4 arg5 harg5 arg10 x0 x1 x2 x3 x4) (r_103 c arg1 harg1 arg2 harg2 arg3 harg3 arg11 x0 x1 x2) (r_104 c arg1 harg1 arg2 harg2 arg3 harg3 arg4 harg4 arg5 harg5 arg10 arg11 arg12 arg14 x0 x1 x2 x3 x4) (v1389 c arg12) = St (A x0 x1 x2 x3 x4) (k0_pay2 (F := F)) 8 3 := by
  refine Eq.trans ?_ (St_succ ..).symm
  simp only [r_102, r_103, r_104, v1389, v1369, v1372, hs4, hs2, hs3, st7_3]
  simp (disch := decide) only [View.readCov_fill]
  exact stp_ld (A x0 x1 x2 x3 x4) 7 3 448 192 504 rfl rfl rfl (by decide) (by decide) _

variable (i : grid0.Coords) (arg7 : Memref sig .tc .vmem S512x256 .bf16) (harg7 : arg7.IsWhole) (hc0 : cond0_0 i)

/-- What the run writes back. -/
theorem out_eq : out0_A_6 (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = OUT (A x0 x1 x2 x3 x4) (k0_pay2 (F := F)) x5 := by
  unfold out0_A_6
  rw [View.read_writes_junk_eq_canon]
  unfold kernelRun0_A
  dsimp only
  rw [View.canon_cons_unit_lit _ _ _ (by decide)]
  simp only [r_106, v1400, out_read, r, View.readAt_eq_ld, harg1.read_unread, harg2.read_unread, harg3.read_unread, harg6.read_unread]
  simp (disch := decide) only [View.ld_unit_lit']
  rfl

/-- The states that the run leaves. -/
theorem sout_eq : sout0_A_6 (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = GS (A x0 x1 x2 x3 x4) (k0_pay2 (F := F)) := by
  unfold sout0_A_6
  rw [View.read_writes_junk_eq_canon]
  unfold kernelRun0_A
  dsimp only
  unfold HS6_32 HS6_31 HS6_30
  funext y
  refine View.canon_append_of_piecesOf (GS (A x0 x1 x2 x3 x4) (k0_pay2 (F := F))) _ [_, _, _, _] ⟨?_, ?_, ?_, ?_, trivial⟩ y ?_
  · exact fun x => (congrFun (fin_3 ..) x).trans (gs_emb (A x0 x1 x2 x3 x4) (k0_pay2 (F := F)) 3 (by decide) x)
  · exact fun x => (congrFun (fin_2 ..) x).trans (gs_emb (A x0 x1 x2 x3 x4) (k0_pay2 (F := F)) 2 (by decide) x)
  · exact fun x => (congrFun (fin_1 ..) x).trans (gs_emb (A x0 x1 x2 x3 x4) (k0_pay2 (F := F)) 1 (by decide) x)
  · exact fun x => (congrFun (fin_0 ..) x).trans (gs_emb (A x0 x1 x2 x3 x4) (k0_pay2 (F := F)) 0 (by decide) x)
  · exact View.cover_of_tiledL _ ![1, 64, 64] (by rfl) y

end Cert.Proof.Ret.RunA

end
-- ==== Proof.RetRunB.lean ====
/-
  The retention, in the case of a later point: every state that the run loads, every output that it stores and every state that it leaves are
  values of the recursion over chunks. One lemma per state, each from the state of the same head one chunk before.
-/
module

public import proofs.«01_k».proof.Proof.RetModel

@[expose] public section

noncomputable section

namespace Cert.Proof.Ret.RunB

open Idealize.ShloMosaic Idealize.ShloMosaic.TcCoe Idealize.SL.Sem
open Cert.Kernel6Ideal Cert.Kernel6Ideal.Gen Cert.Kernel6Ideal.Gen.kernelRun0_B.sl
open Cert.Proof.Gla (ini ld_ini ld_ini')

variable {F : FTy → Type} [FloatOps F]

variable (c : Dev nD) (arg1 : Memref sig .tc .vmem S512x1024 .f32) (harg1 : arg1.IsWhole) (arg2 : Memref sig .tc .vmem S1x1024 .f32) (harg2 : arg2.IsWhole) (arg3 : Memref sig .tc .vmem S1024x1536 .bf16) (harg3 : arg3.IsWhole) (arg4 : Memref sig .tc .vmem S512x256 .f32) (harg4 : arg4.IsWhole) (arg5 : Memref sig .tc .vmem S512x256 .f32) (harg5 : arg5.IsWhole) (arg6 : Memref sig .tc .vmem S1x256 .f32) (harg6 : arg6.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S512x256 .f32) (harg13 : arg13.IsWhole) (arg14 : Memref sig .tc .vmem S4x64x64 .f32) (harg14 : arg14.IsWhole)
variable (x0 : Vec F S512x1024 .f32) (x1 : Vec F S1x1024 .f32) (x2 : Vec F S1024x1536 .bf16) (x3 : Vec F S512x256 .f32) (x4 : Vec F S512x256 .f32) (x5 : Vec F S1x256 .f32) (xs6 : Vec F S4x64x64 .f32)

/-- The decayed queries that the run stores. -/
theorem hs0 : (HS0_1 c arg1 harg1 arg2 harg2 arg3 harg3 arg4 harg4 arg5 harg5 x0 x1 x2 x3 x4) = [⟨Rect.unit ![0, 0] S512x256.size inb_S512x256_S512x256_0_0, (A x0 x1 x2 x3 x4).qd⟩] := by
  simp only [HS0_1, r_7, r_1, v38, v39, r_4, r_3, cst_14, View.readAt_eq_ld, harg1.read_unread, harg2.read_unread, harg3.read_unread, harg4.read_unread, harg5.read_unread]
  simp (disch := decide) only [View.ld_unit_lit']
  rfl

/-- The inversely decayed keys that the run stores. -/
theorem hs1 : (HS1_1 c arg1 harg1 arg2 harg2 arg3 harg3 arg4 harg4 arg5 harg5 x0 x1 x2 x3 x4) = [⟨Rect.unit ![0, 0] S512x256.size inb_S512x256_S512x256_0_0, (A x0 x1 x2 x3 x4).ki⟩] := by
  simp only [HS1_1, r_2, r_5, v39, v38, r_4, r_3, cst_14, View.readAt_eq_ld, harg1.read_unread, harg2.read_unread, harg3.read_unread, harg4.read_unread, harg5.read_unread]
  simp (disch := decide) only [View.ld_unit_lit']
  rfl

/-- The keys decayed to the end of the chunk that the run stores. -/
theorem hs2 : (HS2_1 c arg1 harg1 arg2 harg2 arg3 harg3 arg4 harg4 arg5 harg5 x0 x1 x2 x3 x4) = [⟨Rect.unit ![0, 0] S512x256.size inb_S512x256_S512x256_0_0, (A x0 x1 x2 x3 x4).ke⟩] := by
  simp only [HS2_1, r_2, r_5, v39, v38, r_4, r_3, cst_14, View.readAt_eq_ld, harg1.read_unread, harg2.read_unread, harg3.read_unread, harg4.read_unread, harg5.read_unread]
  simp (disch := decide) only [View.ld_unit_lit']
  rfl

/-- The values that the run stores. -/
theorem hs3 : (HS3_1 c arg1 harg1 arg2 harg2 arg3 harg3 x0 x1 x2) = [⟨Rect.unit ![0, 0] S512x256.size inb_S512x256_S512x256_0_0, k0_pay22 (k0_pay3 x0 x1 x2)⟩] := by
  simp only [HS3_1, r, View.readAt_eq_ld, harg1.read_unread, harg2.read_unread, harg3.read_unread]
  simp (disch := decide) only [View.ld_unit_lit']

/-- The decays that the run stores. -/
theorem hs4 : HS4_1 (F := F) = [⟨Rect.unit ![0, 0] S512x256.size inb_S512x256_S512x256_0_0, DEC⟩] := by
  simp only [HS4_1, r_6, v38, v39, r_4, r_3, cst_14]
  rfl

/-- Head 1's state in chunk 0. -/
theorem st0_1 : (v259 c arg14 harg14 xs6) = ini xs6 1 := by
  simp only [v259, View.readAt_eq_ld, harg14.read_unread]
  exact ld_ini _ _ _

/-- Head 2's state in chunk 0. -/
theorem st0_2 : (v295 c arg14 harg14 xs6) = ini xs6 2 := by
  simp only [v295, View.readAt_eq_ld, harg14.read_unread]
  exact ld_ini _ _ _

/-- Head 3's state in chunk 0. -/
theorem st0_3 : (v331 c arg14 harg14 xs6) = ini xs6 3 := by
  simp only [v331, View.readAt_eq_ld, harg14.read_unread]
  exact ld_ini _ _ _

/-- Head 0's state in chunk 1. -/
theorem st1_0 : (v372 c arg1 harg1 arg2 harg2 arg3 harg3 arg4 harg4 arg5 harg5 arg10 arg11 arg12 arg14 harg14 x0 x1 x2 x3 x4 xs6) = St (A x0 x1 x2 x3 x4) xs6 1 0 := by
  simp only [v372, HS6_4]
  iterate 3 rw [View.readCov_skip _ _ _ _ _ (by decide)]
  rw [View.readCov_cons_toLoadRect]
  refine Eq.trans ?_ (St_succ ..).symm
  simp only [v218, v221, v238, hs2, hs3, hs4, View.readAt_eq_ld, harg14.read_unread, ld_ini]
  simp (disch := decide) only [View.readCov_fill, ld_ini']
  exact stp_ld (A x0 x1 x2 x3 x4) 0 0 0 0 56 rfl rfl rfl (by decide) (by decide) _

/-- Head 1's state in chunk 1. -/
theorem st1_1 : (v408 c arg1 harg1 arg2 harg2 arg3 harg3 arg4 harg4 arg5 harg5 arg10 arg11 arg12 arg14 harg14 x0 x1 x2 x3 x4 xs6) = St (A x0 x1 x2 x3 x4) xs6 1 1 := by
  simp only [v408, HS6_5, HS6_4]
  iterate 3 rw [View.readCov_skip _ _ _ _ _ (by decide)]
  rw [View.readCov_cons_toLoadRect]
  refine Eq.trans ?_ (St_succ ..).symm
  simp only [v254, v257, v274, hs2, hs3, hs4, st0_1]
  simp (disch := decide) only [View.readCov_fill, ld_ini']
  exact stp_ld (A x0 x1 x2 x3 x4) 0 1 0 64 56 rfl rfl rfl (by decide) (by decide) _

/-- Head 2's state in chunk 1. -/
theorem st1_2 : (v444 c arg1 harg1 arg2 harg2 arg3 harg3 arg4 harg4 arg5 harg5 arg10 arg11 arg12 arg14 harg14 x0 x1 x2 x3 x4 xs6) = St (A x0 x1 x2 x3 x4) xs6 1 2 := by
  simp only [v444, HS6_6, HS6_5, HS6_4]
  iterate 3 rw [View.readCov_skip _ _ _ _ _ (by decide)]
  rw [View.readCov_cons_toLoadRect]
  refine Eq.trans ?_ (St_succ ..).symm
  simp only [r_13, v293, v310, v290, hs3, hs4, hs2, st0_2]
  simp (disch := decide) only [View.readCov_fill, ld_ini']
  exact stp_ld (A x0 x1 x2 x3 x4) 0 2 0 128 56 rfl rfl rfl (by decide) (by decide) _

/-- Head 3's state in chunk 1. -/
theorem st1_3 : (v480 c arg1 harg1 arg2 harg2 arg3 harg3 arg4 harg4 arg5 harg5 arg10 arg11 arg12 arg14 harg14 x0 x1 x2 x3 x4 xs6) = St (A x0 x1 x2 x3 x4) xs6 1 3 := by
  simp only [v480, HS6_7, HS6_6, HS6_5, HS6_4]
  iterate 3 rw [View.readCov_skip _ _ _ _ _ (by decide)]
  rw [View.readCov_cons_toLoadRect]
  refine Eq.trans ?_ (St_succ ..).symm
  simp only [r_16, r_17, v346, v326, v329, hs4, hs2, hs3, st0_3]
  simp (disch := decide) only [View.readCov_fill, ld_ini']
  exact stp_ld (A x0 x1 x2 x3 x4) 0 3 0 192 56 rfl rfl rfl (by decide) (by decide) _

/-- Head 0's state in chunk 2. -/
theorem st2_0 : (v521 c arg1 harg1 arg2 harg2 arg3 harg3 arg4 harg4 arg5 harg5 arg10 arg11 arg12 arg14 harg14 x0 x1 x2 x3 x4 xs6) = St (A x0 x1 x2 x3 x4) xs6 2 0 := by
  simp only [v521, HS6_8, HS6_7, HS6_6, HS6_5]
  iterate 3 rw [View.readCov_skip _ _ _ _ _ (by decide)]
  rw [View.readCov_cons_toLoadRect]
  refine Eq.trans ?_ (St_succ ..).symm
  simp only [r_20, v370, v387, v367, hs3, hs4, hs2, st1_0]
  simp (disch := decide) only [View.readCov_fill, ld_ini']
  exact stp_ld (A x0 x1 x2 x3 x4) 1 0 64 0 120 rfl rfl rfl (by decide) (by decide) _

/-- Head 1's state in chunk 2. -/
theorem st2_1 : (v557 c arg1 harg1 arg2 harg2 arg3 harg3 arg4 harg4 arg5 harg5 arg10 arg11 arg12 arg14 harg14 x0 x1 x2 x3 x4 xs6) = St (A x0 x1 x2 x3 x4) xs6 2 1 := by
  simp only [v557, HS6_9, HS6_8, HS6_7, HS6_6]
  iterate 3 rw [View.readCov_skip _ _ _ _ _ (by decide)]
  rw [View.readCov_cons_toLoadRect]
  refine Eq.trans ?_ (St_succ ..).symm
  simp only [r_23, r_24, v423, v403, v406, hs4, hs2, hs3, st1_1]
  simp (disch := decide) only [View.readCov_fill, ld_ini']
  exact stp_ld (A x0 x1 x2 x3 x4) 1 1 64 64 120 rfl rfl rfl (by decide) (by decide) _

/-- Head 2's state in chunk 2. -/
theorem st2_2 : (v593 c arg1 harg1 arg2 harg2 arg3 harg3 arg4 harg4 arg5 harg5 arg10 arg11 arg12 arg14 harg14 x0 x1 x2 x3 x4 xs6) = St (A x0 x1 x2 x3 x4) xs6 2 2 := by
  simp only [v593, HS6_10, HS6_9, HS6_8, HS6_7]
  iterate 3 rw [View.readCov_skip _ _ _ _ _ (by decide)]
  rw [View.readCov_cons_toLoadRect]
  refine Eq.trans ?_ (St_succ ..).symm
  simp only [r_26, r_27, r_28, v459, v439, v442, hs4, hs2, hs3, st1_2]
  simp (disch := decide) only [View.readCov_fill, ld_ini']
  exact stp_ld (A x0 x1 x2 x3 x4) 1 2 64 128 120 rfl rfl rfl (by decide) (by decide) _

/-- Head 3's state in chunk 2. -/
theorem st2_3 : (v629 c arg1 harg1 arg2 harg2 arg3 harg3 arg4 harg4 arg5 harg5 arg10 arg11 arg12 arg14 harg14 x0 x1 x2 x3 x4 xs6) = St (A x0 x1 x2 x3 x4) xs6 2 3 := by
  simp only [v629, HS6_11, HS6_10, HS6_9, HS6_8]
  iterate 3 rw [View.readCov_skip _ _ _ _ _ (by decide)]
  rw [View.readCov_cons_toLoadRect]
  refine Eq.trans ?_ (St_succ ..).symm
  simp only [r_31, r_32, r_33, v495, v475, v478, hs4, hs2, hs3, st1_3]
  simp (disch := decide) only [View.readCov_fill, ld_ini']
  exact stp_ld (A x0 x1 x2 x3 x4) 1 3 64 192 120 rfl rfl rfl (by decide) (by decide) _

/-- Head 0's state in chunk 3. -/
theorem st3_0 : (v670 c arg1 harg1 arg2 harg2 arg3 harg3 arg4 harg4 arg5 harg5 arg10 arg11 arg12 arg14 harg14 x0 x1 x2 x3 x4 xs6) = St (A x0 x1 x2 x3 x4) xs6 3 0 := by
  simp only [v670, HS6_12, HS6_11, HS6_10, HS6_9]
  iterate 3 rw [View.readCov_skip _ _ _ _ _ (by decide)]
  rw [View.readCov_cons_toLoadRect]
  refine Eq.trans ?_ (St_succ ..).symm
  simp only [r_37, r_38, r_39, v536, v516, v519, hs4, hs2, hs3, st2_0]
  simp (disch := decide) only [View.readCov_fill, ld_ini']
  exact stp_ld (A x0 x1 x2 x3 x4) 2 0 128 0 184 rfl rfl rfl (by decide) (by decide) _

/-- Head 1's state in chunk 3. -/
theorem st3_1 : (v706 c arg1 harg1 arg2 harg2 arg3 harg3 arg4 harg4 arg5 harg5 arg10 arg11 arg12 arg14 harg14 x0 x1 x2 x3 x4 xs6) = St (A x0 x1 x2 x3 x4) xs6 3 1 := by
  simp only [v706, HS6_13, HS6_12, HS6_11, HS6_10]
  iterate 3 rw [View.readCov_skip _ _ _ _ _ (by decide)]
  rw [View.readCov_cons_toLoadRect]
  refine Eq.trans ?_ (St_succ ..).symm
  simp only [r_42, r_43, r_44, v572, v552, v555, hs4, hs2, hs3, st2_1]
  simp (disch := decide) only [View.readCov_fill, ld_ini']
  exact stp_ld (A x0 x1 x2 x3 x4) 2 1 128 64 184 rfl rfl rfl (by decide) (by decide) _

/-- Head 2's state in chunk 3. -/
theorem st3_2 : (v742 c arg1 harg1 arg2 harg2 arg3 harg3 arg4 harg4 arg5 harg5 arg10 arg11 arg12 arg14 harg14 x0 x1 x2 x3 x4 xs6) = St (A x0 x1 x2 x3 x4) xs6 3 2 := by
  simp only [v742, HS6_14, HS6_13, HS6_12, HS6_11]
  iterate 3 rw [View.readCov_skip _ _ _ _ _ (by decide)]
  rw [View.readCov_cons_toLoadRect]
  refine Eq.trans ?_ (St_succ ..).symm
  simp only [r_47, r_48, r_49, v608, v588, v591, hs4, hs2, hs3, st2_2]
  simp (disch := decide) only [View.readCov_fill, ld_ini']
  exact stp_ld (A x0 x1 x2 x3 x4) 2 2 128 128 184 rfl rfl rfl (by decide) (by decide) _

/-- Head 3's state in chunk 3. -/
theorem st3_3 : (v778 c arg1 harg1 arg2 harg2 arg3 harg3 arg4 harg4 arg5 harg5 arg10 arg11 arg12 arg14 harg14 x0 x1 x2 x3 x4 xs6) = St (A x0 x1 x2 x3 x4) xs6 3 3 := by
  simp only [v778, HS6_15, HS6_14, HS6_13, HS6_12]
  iterate 3 rw [View.readCov_skip _ _ _ _ _ (by decide)]
  rw [View.readCov_cons_toLoadRect]
  refine Eq.trans ?_ (St_succ ..).symm
  simp only [r_51, r_52, r_53, v644, v624, v627, hs4, hs2, hs3, st2_3]
  simp (disch := decide) only [View.readCov_fill, ld_ini']
  exact stp_ld (A x0 x1 x2 x3 x4) 2 3 128 192 184 rfl rfl rfl (by decide) (by decide) _

/-- Head 0's state in chunk 4. -/
theorem st4_0 : (v819 c arg1 harg1 arg2 harg2 arg3 harg3 arg4 harg4 arg5 harg5 arg10 arg11 arg12 arg14 harg14 x0 x1 x2 x3 x4 xs6) = St (A x0 x1 x2 x3 x4) xs6 4 0 := by
  simp only [v819, HS6_16, HS6_15, HS6_14, HS6_13]
  iterate 3 rw [View.readCov_skip _ _ _ _ _ (by decide)]
  rw [View.readCov_cons_toLoadRect]
  refine Eq.trans ?_ (St_succ ..).symm
  simp only [r_54, r_55, r_56, v685, v665, v668, hs4, hs2, hs3, st3_0]
  simp (disch := decide) only [View.readCov_fill, ld_ini']
  exact stp_ld (A x0 x1 x2 x3 x4) 3 0 192 0 248 rfl rfl rfl (by decide) (by decide) _

/-- Head 1's state in chunk 4. -/
theorem st4_1 : (v855 c arg1 harg1 arg2 harg2 arg3 harg3 arg4 harg4 arg5 harg5 arg10 arg11 arg12 arg14 harg14 x0 x1 x2 x3 x4 xs6) = St (A x0 x1 x2 x3 x4) xs6 4 1 := by
  simp only [v855, HS6_17, HS6_16, HS6_15, HS6_14]
  iterate 3 rw [View.readCov_skip _ _ _ _ _ (by decide)]
  rw [View.readCov_cons_toLoadRect]
  refine Eq.trans ?_ (St_succ ..).symm
  simp only [r_58, r_59, r_60, v721, v701, v704, hs4, hs2, hs3, st3_1]
  simp (disch := decide) only [View.readCov_fill, ld_ini']
  exact stp_ld (A x0 x1 x2 x3 x4) 3 1 192 64 248 rfl rfl rfl (by decide) (by decide) _

/-- Head 2's state in chunk 4. -/
theorem st4_2 : (v891 c arg1 harg1 arg2 harg2 arg3 harg3 arg4 harg4 arg5 harg5 arg10 arg11 arg12 arg14 harg14 x0 x1 x2 x3 x4 xs6) = St (A x0 x1 x2 x3 x4) xs6 4 2 := by
  simp only [v891, HS6_18, HS6_17, HS6_16, HS6_15]
  iterate 3 rw [View.readCov_skip _ _ _ _ _ (by decide)]
  rw [View.readCov_cons_toLoadRect]
  refine Eq.trans ?_ (St_succ ..).symm
  simp only [r_61, r_62, v757, v737, v740, hs4, hs2, hs3, st3_2]
  simp (disch := decide) only [View.readCov_fill, ld_ini']
  exact stp_ld (A x0 x1 x2 x3 x4) 3 2 192 128 248 rfl rfl rfl (by decide) (by decide) _

/-- Head 3's state in chunk 4. -/
theorem st4_3 : (v927 c arg1 harg1 arg2 harg2 arg3 harg3 arg4 harg4 arg5 harg5 arg10 arg11 arg12 arg14 harg14 x0 x1 x2 x3 x4 xs6) = St (A x0 x1 x2 x3 x4) xs6 4 3 := by
  simp only [v927, HS6_19, HS6_18, HS6_17, HS6_16]
  iterate 3 rw [View.readCov_skip _ _ _ _ _ (by decide)]
  rw [View.readCov_cons_toLoadRect]
  refine Eq.trans ?_ (St_succ ..).symm
  simp only [r_63, v773, v776, v793, hs2, hs3, hs4, st3_3]
  simp (disch := decide) only [View.readCov_fill, ld_ini']
  exact stp_ld (A x0 x1 x2 x3 x4) 3 3 192 192 248 rfl rfl rfl (by decide) (by decide) _

/-- Head 0's state in chunk 5. -/
theorem st5_0 : (v968 c arg1 harg1 arg2 harg2 arg3 harg3 arg4 harg4 arg5 harg5 arg10 arg11 arg12 arg14 harg14 x0 x1 x2 x3 x4 xs6) = St (A x0 x1 x2 x3 x4) xs6 5 0 := by
  simp only [v968, HS6_20, HS6_19, HS6_18, HS6_17]
  iterate 3 rw [View.readCov_skip _ _ _ _ _ (by decide)]
  rw [View.readCov_cons_toLoadRect]
  refine Eq.trans ?_ (St_succ ..).symm
  simp only [r_64, v814, v817, v834, hs2, hs3, hs4, st4_0]
  simp (disch := decide) only [View.readCov_fill, ld_ini']
  exact stp_ld (A x0 x1 x2 x3 x4) 4 0 256 0 312 rfl rfl rfl (by decide) (by decide) _

/-- Head 1's state in chunk 5. -/
theorem st5_1 : (v1004 c arg1 harg1 arg2 harg2 arg3 harg3 arg4 harg4 arg5 harg5 arg10 arg11 arg12 arg14 harg14 x0 x1 x2 x3 x4 xs6) = St (A x0 x1 x2 x3 x4) xs6 5 1 := by
  simp only [v1004, HS6_21, HS6_20, HS6_19, HS6_18]
  iterate 3 rw [View.readCov_skip _ _ _ _ _ (by decide)]
  rw [View.readCov_cons_toLoadRect]
  refine Eq.trans ?_ (St_succ ..).symm
  simp only [r_65, v850, v853, v870, hs2, hs3, hs4, st4_1]
  simp (disch := decide) only [View.readCov_fill, ld_ini']
  exact stp_ld (A x0 x1 x2 x3 x4) 4 1 256 64 312 rfl rfl rfl (by decide) (by decide) _

/-- Head 2's state in chunk 5. -/
theorem st5_2 : (v1040 c arg1 harg1 arg2 harg2 arg3 harg3 arg4 harg4 arg5 harg5 arg10 arg11 arg12 arg14 harg14 x0 x1 x2 x3 x4 xs6) = St (A x0 x1 x2 x3 x4) xs6 5 2 := by
  simp only [v1040, HS6_22, HS6_21, HS6_20, HS6_19]
  iterate 3 rw [View.readCov_skip _ _ _ _ _ (by decide)]
  rw [View.readCov_cons_toLoadRect]
  refine Eq.trans ?_ (St_succ ..).symm
  simp only [v886, v889, v906, hs2, hs3, hs4, st4_2]
  simp (disch := decide) only [View.readCov_fill, ld_ini']
  exact stp_ld (A x0 x1 x2 x3 x4) 4 2 256 128 312 rfl rfl rfl (by decide) (by decide) _

/-- Head 3's state in chunk 5. -/
theorem st5_3 : (v1076 c arg1 harg1 arg2 harg2 arg3 harg3 arg4 harg4 arg5 harg5 arg10 arg11 arg12 arg14 harg14 x0 x1 x2 x3 x4 xs6) = St (A x0 x1 x2 x3 x4) xs6 5 3 := by
  simp only [v1076, HS6_23, HS6_22, HS6_21, HS6_20]
  iterate 3 rw [View.readCov_skip _ _ _ _ _ (by decide)]
  rw [View.readCov_cons_toLoadRect]
  refine Eq.trans ?_ (St_succ ..).symm
  simp only [v922, v925, v942, hs2, hs3, hs4, st4_3]
  simp (disch := decide) only [View.readCov_fill, ld_ini']
  exact stp_ld (A x0 x1 x2 x3 x4) 4 3 256 192 312 rfl rfl rfl (by decide) (by decide) _

/-- Head 0's state in chunk 6. -/
theorem st6_0 : (v1117 c arg1 harg1 arg2 harg2 arg3 harg3 arg4 harg4 arg5 harg5 arg10 arg11 arg12 arg14 harg14 x0 x1 x2 x3 x4 xs6) = St (A x0 x1 x2 x3 x4) xs6 6 0 := by
  simp only [v1117, HS6_24, HS6_23, HS6_22, HS6_21]
  iterate 3 rw [View.readCov_skip _ _ _ _ _ (by decide)]
  rw [View.readCov_cons_toLoadRect]
  refine Eq.trans ?_ (St_succ ..).symm
  simp only [v963, v966, v983, hs2, hs3, hs4, st5_0]
  simp (disch := decide) only [View.readCov_fill, ld_ini']
  exact stp_ld (A x0 x1 x2 x3 x4) 5 0 320 0 376 rfl rfl rfl (by decide) (by decide) _

/-- Head 1's state in chunk 6. -/
theorem st6_1 : (v1153 c arg1 harg1 arg2 harg2 arg3 harg3 arg4 harg4 arg5 harg5 arg10 arg11 arg12 arg14 harg14 x0 x1 x2 x3 x4 xs6) = St (A x0 x1 x2 x3 x4) xs6 6 1 := by
  simp only [v1153, HS6_25, HS6_24, HS6_23, HS6_22]
  iterate 3 rw [View.readCov_skip _ _ _ _ _ (by decide)]
  rw [View.readCov_cons_toLoadRect]
  refine Eq.trans ?_ (St_succ ..).symm
  simp only [v999, v1002, v1019, hs2, hs3, hs4, st5_1]
  simp (disch := decide) only [View.readCov_fill, ld_ini']
  exact stp_ld (A x0 x1 x2 x3 x4) 5 1 320 64 376 rfl rfl rfl (by decide) (by decide) _

/-- Head 2's state in chunk 6. -/
theorem st6_2 : (v1189 c arg1 harg1 arg2 harg2 arg3 harg3 arg4 harg4 arg5 harg5 arg10 arg11 arg12 arg14 harg14 x0 x1 x2 x3 x4 xs6) = St (A x0 x1 x2 x3 x4) xs6 6 2 := by
  simp only [v1189, HS6_26, HS6_25, HS6_24, HS6_23]
  iterate 3 rw [View.readCov_skip _ _ _ _ _ (by decide)]
  rw [View.readCov_cons_toLoadRect]
  refine Eq.trans ?_ (St_succ ..).symm
  simp only [v1035, v1038, v1055, hs2, hs3, hs4, st5_2]
  simp (disch := decide) only [View.readCov_fill, ld_ini']
  exact stp_ld (A x0 x1 x2 x3 x4) 5 2 320 128 376 rfl rfl rfl (by decide) (by decide) _

/-- Head 3's state in chunk 6. -/
theorem st6_3 : (v1225 c arg1 harg1 arg2 harg2 arg3 harg3 arg4 harg4 arg5 harg5 arg10 arg11 arg12 arg14 harg14 x0 x1 x2 x3 x4 xs6) = St (A x0 x1 x2 x3 x4) xs6 6 3 := by
  simp only [v1225, HS6_27, HS6_26, HS6_25, HS6_24]
  iterate 3 rw [View.readCov_skip _ _ _ _ _ (by decide)]
  rw [View.readCov_cons_toLoadRect]
  refine Eq.trans ?_ (St_succ ..).symm
  simp only [r_71, v1074, v1091, v1071, hs3, hs4, hs2, st5_3]
  simp (disch := decide) only [View.readCov_fill, ld_ini']
  exact stp_ld (A x0 x1 x2 x3 x4) 5 3 320 192 376 rfl rfl rfl (by decide) (by decide) _

/-- Head 0's state in chunk 7. -/
theorem st7_0 : (v1266 c arg1 harg1 arg2 harg2 arg3 harg3 arg4 harg4 arg5 harg5 arg10 arg11 arg12 arg14 harg14 x0 x1 x2 x3 x4 xs6) = St (A x0 x1 x2 x3 x4) xs6 7 0 := by
  simp only [v1266, HS6_28, HS6_27, HS6_26, HS6_25]
  iterate 3 rw [View.readCov_skip _ _ _ _ _ (by decide)]
  rw [View.readCov_cons_toLoadRect]
  refine Eq.trans ?_ (St_succ ..).symm
  simp only [v1112, v1115, v1132, hs2, hs3, hs4, st6_0]
  simp (disch := decide) only [View.readCov_fill, ld_ini']
  exact stp_ld (A x0 x1 x2 x3 x4) 6 0 384 0 440 rfl rfl rfl (by decide) (by decide) _

/-- Head 1's state in chunk 7. -/
theorem st7_1 : (v1302 c arg1 harg1 arg2 harg2 arg3 harg3 arg4 harg4 arg5 harg5 arg10 arg11 arg12 arg14 harg14 x0 x1 x2 x3 x4 xs6) = St (A x0 x1 x2 x3 x4) xs6 7 1 := by
  simp only [v1302, HS6_29, HS6_28, HS6_27, HS6_26]
  iterate 3 rw [View.readCov_skip _ _ _ _ _ (by decide)]
  rw [View.readCov_cons_toLoadRect]
  refine Eq.trans ?_ (St_succ ..).symm
  simp only [r_76, v1151, v1168, v1148, hs3, hs4, hs2, st6_1]
  simp (disch := decide) only [View.readCov_fill, ld_ini']
  exact stp_ld (A x0 x1 x2 x3 x4) 6 1 384 64 440 rfl rfl rfl (by decide) (by decide) _

/-- Head 2's state in chunk 7. -/
theorem st7_2 : (v1338 c arg1 harg1 arg2 harg2 arg3 harg3 arg4 harg4 arg5 harg5 arg10 arg11 arg12 arg14 harg14 x0 x1 x2 x3 x4 xs6) = St (A x0 x1 x2 x3 x4) xs6 7 2 := by
  simp only [v1338, HS6_30, HS6_29, HS6_28, HS6_27]
  iterate 3 rw [View.readCov_skip _ _ _ _ _ (by decide)]
  rw [View.readCov_cons_toLoadRect]
  refine Eq.trans ?_ (St_succ ..).symm
  simp only [r_79, r_80, v1204, v1184, v1187, hs4, hs2, hs3, st6_2]
  simp (disch := decide) only [View.readCov_fill, ld_ini']
  exact stp_ld (A x0 x1 x2 x3 x4) 6 2 384 128 440 rfl rfl rfl (by decide) (by decide) _

/-- Head 3's state in chunk 7. -/
theorem st7_3 : (v1374 c arg1 harg1 arg2 harg2 arg3 harg3 arg4 harg4 arg5 harg5 arg10 arg11 arg12 arg14 harg14 x0 x1 x2 x3 x4 xs6) = St (A x0 x1 x2 x3 x4) xs6 7 3 := by
  simp only [v1374, HS6_31, HS6_30, HS6_29, HS6_28]
  iterate 3 rw [View.readCov_skip _ _ _ _ _ (by decide)]
  rw [View.readCov_cons_toLoadRect]
  refine Eq.trans ?_ (St_succ ..).symm
  simp only [r_82, r_83, r_84, v1240, v1220, v1223, hs4, hs2, hs3, st6_3]
  simp (disch := decide) only [View.readCov_fill, ld_ini']
  exact stp_ld (A x0 x1 x2 x3 x4) 6 3 384 192 440 rfl rfl rfl (by decide) (by decide) _

/-- The output of head 3 in chunk 7. -/
theorem o7_3 : k0_pay222 (r_105 c arg1 harg1 arg2 harg2 arg3 harg3 arg4 harg4 arg5 harg5 arg8 arg9 arg10 arg11 arg12 arg14 harg14 x0 x1 x2 x3 x4 xs6) = uo (A x0 x1 x2 x3 x4) 7 3 (St (A x0 x1 x2 x3 x4) xs6 7 3) := by
  simp only [r_105, v1363, v1366, v1372, hs0, hs1, hs3, st7_3]
  simp (disch := decide) only [View.readCov_fill, ld_ini']
  exact uo_ld (A x0 x1 x2 x3 x4) 7 3 448 192 rfl rfl (by decide) _

/-- The output of head 2 in chunk 7. -/
theorem o7_2 : k0_pay216 (r_96 c arg1 harg1 arg2 harg2 arg3 harg3 arg4 harg4 arg5 harg5 arg8 x0 x1 x2 x3 x4) (r_100 c arg1 harg1 arg2 harg2 arg3 harg3 arg4 harg4 arg5 harg5 arg8 arg9 arg11 x0 x1 x2 x3 x4) (r_101 c arg1 harg1 arg2 harg2 arg3 harg3 arg4 harg4 arg5 harg5 arg10 arg11 arg12 arg14 harg14 x0 x1 x2 x3 x4 xs6) cst_235 = uo (A x0 x1 x2 x3 x4) 7 2 (St (A x0 x1 x2 x3 x4) xs6 7 2) := by
  simp only [r_96, r_100, r_101, cst_235, v1327, v1330, v1336, hs0, hs1, hs3, st7_2]
  simp (disch := decide) only [View.readCov_fill, ld_ini']
  exact uo_ld (A x0 x1 x2 x3 x4) 7 2 448 128 rfl rfl (by decide) _

/-- The output of head 1 in chunk 7. -/
theorem o7_1 : k0_pay208 (r_91 c arg1 harg1 arg2 harg2 arg3 harg3 arg4 harg4 arg5 harg5 arg8 x0 x1 x2 x3 x4) (r_93 c arg1 harg1 arg2 harg2 arg3 harg3 arg11 x0 x1 x2) (r_94 c arg1 harg1 arg2 harg2 arg3 harg3 arg4 harg4 arg5 harg5 arg10 arg11 arg12 arg14 harg14 x0 x1 x2 x3 x4 xs6) (r_95 c arg1 harg1 arg2 harg2 arg3 harg3 arg4 harg4 arg5 harg5 arg8 arg9 x0 x1 x2 x3 x4) = uo (A x0 x1 x2 x3 x4) 7 1 (St (A x0 x1 x2 x3 x4) xs6 7 1) := by
  simp only [r_91, r_93, r_94, r_95, v1291, v1300, v1294, hs0, hs3, hs1, st7_1]
  simp (disch := decide) only [View.readCov_fill, ld_ini']
  exact uo_ld (A x0 x1 x2 x3 x4) 7 1 448 64 rfl rfl (by decide) _

/-- The output of head 0 in chunk 7. -/
theorem o7_0 : k0_pay201 k0_pay24 (r_86 c arg1 harg1 arg2 harg2 arg3 harg3 arg4 harg4 arg5 harg5 arg8 x0 x1 x2 x3 x4) (r_87 c arg1 harg1 arg2 harg2 arg3 harg3 arg4 harg4 arg5 harg5 arg9 x0 x1 x2 x3 x4) (r_89 c arg1 harg1 arg2 harg2 arg3 harg3 arg11 x0 x1 x2) (r_90 c arg1 harg1 arg2 harg2 arg3 harg3 arg4 harg4 arg5 harg5 arg10 arg11 arg12 arg14 harg14 x0 x1 x2 x3 x4 xs6) = uo (A x0 x1 x2 x3 x4) 7 0 (St (A x0 x1 x2 x3 x4) xs6 7 0) := by
  simp only [r_86, r_87, r_89, r_90, v1255, v1258, v1264, hs0, hs1, hs3, st7_0]
  simp (disch := decide) only [View.readCov_fill, ld_ini']
  exact uo_ld (A x0 x1 x2 x3 x4) 7 0 448 0 rfl rfl (by decide) _

/-- The output of head 3 in chunk 6. -/
theorem o6_3 : k0_pay194 k0_pay24 (r_81 c arg1 harg1 arg2 harg2 arg3 harg3 arg4 harg4 arg5 harg5 arg8 x0 x1 x2 x3 x4) (r_83 c arg1 harg1 arg2 harg2 arg3 harg3 arg11 x0 x1 x2) (r_84 c arg1 harg1 arg2 harg2 arg3 harg3 arg4 harg4 arg5 harg5 arg10 arg11 arg12 arg14 harg14 x0 x1 x2 x3 x4 xs6) (r_85 c arg1 harg1 arg2 harg2 arg3 harg3 arg4 harg4 arg5 harg5 arg8 arg9 x0 x1 x2 x3 x4) k0_pay193 = uo (A x0 x1 x2 x3 x4) 6 3 (St (A x0 x1 x2 x3 x4) xs6 6 3) := by
  simp only [r_81, r_83, r_84, r_85, v1214, v1223, v1217, hs0, hs3, hs1, st6_3]
  simp (disch := decide) only [View.readCov_fill, ld_ini']
  exact uo_ld (A x0 x1 x2 x3 x4) 6 3 384 192 rfl rfl (by decide) _

/-- The output of head 2 in chunk 6. -/
theorem o6_2 : k0_pay186 k0_pay24 (r_77 c arg1 harg1 arg2 harg2 arg3 harg3 arg4 harg4 arg5 harg5 arg8 x0 x1 x2 x3 x4) (r_78 c arg1 harg1 arg2 harg2 arg3 harg3 arg4 harg4 arg5 harg5 arg9 x0 x1 x2 x3 x4) (r_80 c arg1 harg1 arg2 harg2 arg3 harg3 arg11 x0 x1 x2) (v1189 c arg1 harg1 arg2 harg2 arg3 harg3 arg4 harg4 arg5 harg5 arg10 arg11 arg12 arg14 harg14 x0 x1 x2 x3 x4 xs6) = uo (A x0 x1 x2 x3 x4) 6 2 (St (A x0 x1 x2 x3 x4) xs6 6 2) := by
  simp only [r_77, r_78, r_80, v1178, v1181, v1187, hs0, hs1, hs3, st6_2]
  simp (disch := decide) only [View.readCov_fill, ld_ini']
  exact uo_ld (A x0 x1 x2 x3 x4) 6 2 384 128 rfl rfl (by decide) _

/-- The output of head 1 in chunk 6. -/
theorem o6_1 : k0_pay179 k0_pay24 (r_74 c arg1 harg1 arg2 harg2 arg3 harg3 arg4 harg4 arg5 harg5 arg8 x0 x1 x2 x3 x4) (r_75 c arg1 harg1 arg2 harg2 arg3 harg3 arg4 harg4 arg5 harg5 arg9 x0 x1 x2 x3 x4) (v1151 c arg1 harg1 arg2 harg2 arg3 harg3 arg11 x0 x1 x2) (v1153 c arg1 harg1 arg2 harg2 arg3 harg3 arg4 harg4 arg5 harg5 arg10 arg11 arg12 arg14 harg14 x0 x1 x2 x3 x4 xs6) = uo (A x0 x1 x2 x3 x4) 6 1 (St (A x0 x1 x2 x3 x4) xs6 6 1) := by
  simp only [r_74, r_75, v1151, v1142, v1145, hs3, hs0, hs1, st6_1]
  simp (disch := decide) only [View.readCov_fill, ld_ini']
  exact uo_ld (A x0 x1 x2 x3 x4) 6 1 384 64 rfl rfl (by decide) _

/-- The output of head 0 in chunk 6. -/
theorem o6_0 : k0_pay172 k0_pay24 (r_72 c arg1 harg1 arg2 harg2 arg3 harg3 arg4 harg4 arg5 harg5 arg8 x0 x1 x2 x3 x4) (r_73 c arg1 harg1 arg2 harg2 arg3 harg3 arg4 harg4 arg5 harg5 arg9 x0 x1 x2 x3 x4) (v1115 c arg1 harg1 arg2 harg2 arg3 harg3 arg11 x0 x1 x2) (v1117 c arg1 harg1 arg2 harg2 arg3 harg3 arg4 harg4 arg5 harg5 arg10 arg11 arg12 arg14 harg14 x0 x1 x2 x3 x4 xs6) = uo (A x0 x1 x2 x3 x4) 6 0 (St (A x0 x1 x2 x3 x4) xs6 6 0) := by
  simp only [r_72, r_73, v1115, v1106, v1109, hs3, hs0, hs1, st6_0]
  simp (disch := decide) only [View.readCov_fill, ld_ini']
  exact uo_ld (A x0 x1 x2 x3 x4) 6 0 384 0 rfl rfl (by decide) _

/-- The output of head 3 in chunk 5. -/
theorem o5_3 : k0_pay166 k0_pay24 (r_69 c arg1 harg1 arg2 harg2 arg3 harg3 arg4 harg4 arg5 harg5 arg8 x0 x1 x2 x3 x4) (r_70 c arg1 harg1 arg2 harg2 arg3 harg3 arg4 harg4 arg5 harg5 arg9 x0 x1 x2 x3 x4) (v1074 c arg1 harg1 arg2 harg2 arg3 harg3 arg11 x0 x1 x2) (v1076 c arg1 harg1 arg2 harg2 arg3 harg3 arg4 harg4 arg5 harg5 arg10 arg11 arg12 arg14 harg14 x0 x1 x2 x3 x4 xs6) = uo (A x0 x1 x2 x3 x4) 5 3 (St (A x0 x1 x2 x3 x4) xs6 5 3) := by
  simp only [r_69, r_70, v1074, v1065, v1068, hs3, hs0, hs1, st5_3]
  simp (disch := decide) only [View.readCov_fill, ld_ini']
  exact uo_ld (A x0 x1 x2 x3 x4) 5 3 320 192 rfl rfl (by decide) _

/-- The output of head 2 in chunk 5. -/
theorem o5_2 : k0_pay159 k0_pay24 (r_67 c arg1 harg1 arg2 harg2 arg3 harg3 arg4 harg4 arg5 harg5 arg8 x0 x1 x2 x3 x4) (r_68 c arg1 harg1 arg2 harg2 arg3 harg3 arg4 harg4 arg5 harg5 arg9 x0 x1 x2 x3 x4) (v1038 c arg1 harg1 arg2 harg2 arg3 harg3 arg11 x0 x1 x2) (v1040 c arg1 harg1 arg2 harg2 arg3 harg3 arg4 harg4 arg5 harg5 arg10 arg11 arg12 arg14 harg14 x0 x1 x2 x3 x4 xs6) = uo (A x0 x1 x2 x3 x4) 5 2 (St (A x0 x1 x2 x3 x4) xs6 5 2) := by
  simp only [r_67, r_68, v1038, v1029, v1032, hs3, hs0, hs1, st5_2]
  simp (disch := decide) only [View.readCov_fill, ld_ini']
  exact uo_ld (A x0 x1 x2 x3 x4) 5 2 320 128 rfl rfl (by decide) _

/-- The output of head 1 in chunk 5. -/
theorem o5_1 : k0_pay153 k0_pay24 (r_66 c arg1 harg1 arg2 harg2 arg3 harg3 arg4 harg4 arg5 harg5 arg8 x0 x1 x2 x3 x4) (v996 c arg1 harg1 arg2 harg2 arg3 harg3 arg4 harg4 arg5 harg5 arg9 x0 x1 x2 x3 x4) (v1002 c arg1 harg1 arg2 harg2 arg3 harg3 arg11 x0 x1 x2) (v1004 c arg1 harg1 arg2 harg2 arg3 harg3 arg4 harg4 arg5 harg5 arg10 arg11 arg12 arg14 harg14 x0 x1 x2 x3 x4 xs6) = uo (A x0 x1 x2 x3 x4) 5 1 (St (A x0 x1 x2 x3 x4) xs6 5 1) := by
  simp only [r_66, v996, v1002, v993, hs1, hs3, hs0, st5_1]
  simp (disch := decide) only [View.readCov_fill, ld_ini']
  exact uo_ld (A x0 x1 x2 x3 x4) 5 1 320 64 rfl rfl (by decide) _

/-- The output of head 0 in chunk 5. -/
theorem o5_0 : k0_pay148 k0_pay24 (v957 c arg1 harg1 arg2 harg2 arg3 harg3 arg4 harg4 arg5 harg5 arg8 x0 x1 x2 x3 x4) (v960 c arg1 harg1 arg2 harg2 arg3 harg3 arg4 harg4 arg5 harg5 arg9 x0 x1 x2 x3 x4) (v966 c arg1 harg1 arg2 harg2 arg3 harg3 arg11 x0 x1 x2) (v968 c arg1 harg1 arg2 harg2 arg3 harg3 arg4 harg4 arg5 harg5 arg10 arg11 arg12 arg14 harg14 x0 x1 x2 x3 x4 xs6) = uo (A x0 x1 x2 x3 x4) 5 0 (St (A x0 x1 x2 x3 x4) xs6 5 0) := by
  simp only [v957, v960, v966, hs0, hs1, hs3, st5_0]
  simp (disch := decide) only [View.readCov_fill, ld_ini']
  exact uo_ld (A x0 x1 x2 x3 x4) 5 0 320 0 rfl rfl (by decide) _

/-- The output of head 3 in chunk 4. -/
theorem o4_3 : k0_pay144 k0_pay24 (v c arg1 harg1 arg2 harg2 arg3 harg3 arg4 harg4 arg5 harg5 arg8 x0 x1 x2 x3 x4) (v919 c arg1 harg1 arg2 harg2 arg3 harg3 arg4 harg4 arg5 harg5 arg9 x0 x1 x2 x3 x4) (v925 c arg1 harg1 arg2 harg2 arg3 harg3 arg11 x0 x1 x2) (v927 c arg1 harg1 arg2 harg2 arg3 harg3 arg4 harg4 arg5 harg5 arg10 arg11 arg12 arg14 harg14 x0 x1 x2 x3 x4 xs6) = uo (A x0 x1 x2 x3 x4) 4 3 (St (A x0 x1 x2 x3 x4) xs6 4 3) := by
  simp only [v, v919, v925, hs0, hs1, hs3, st4_3]
  simp (disch := decide) only [View.readCov_fill, ld_ini']
  exact uo_ld (A x0 x1 x2 x3 x4) 4 3 256 192 rfl rfl (by decide) _

/-- The output of head 2 in chunk 4. -/
theorem o4_2 : k0_pay140 k0_pay24 (v880 c arg1 harg1 arg2 harg2 arg3 harg3 arg4 harg4 arg5 harg5 arg8 x0 x1 x2 x3 x4) (v883 c arg1 harg1 arg2 harg2 arg3 harg3 arg4 harg4 arg5 harg5 arg9 x0 x1 x2 x3 x4) (v889 c arg1 harg1 arg2 harg2 arg3 harg3 arg11 x0 x1 x2) (v891 c arg1 harg1 arg2 harg2 arg3 harg3 arg4 harg4 arg5 harg5 arg10 arg11 arg12 arg14 harg14 x0 x1 x2 x3 x4 xs6) = uo (A x0 x1 x2 x3 x4) 4 2 (St (A x0 x1 x2 x3 x4) xs6 4 2) := by
  simp only [v880, v883, v889, hs0, hs1, hs3, st4_2]
  simp (disch := decide) only [View.readCov_fill, ld_ini']
  exact uo_ld (A x0 x1 x2 x3 x4) 4 2 256 128 rfl rfl (by decide) _

/-- The output of head 1 in chunk 4. -/
theorem o4_1 : k0_pay135 k0_pay24 (v844 c arg1 harg1 arg2 harg2 arg3 harg3 arg4 harg4 arg5 harg5 arg8 x0 x1 x2 x3 x4) (v847 c arg1 harg1 arg2 harg2 arg3 harg3 arg4 harg4 arg5 harg5 arg9 x0 x1 x2 x3 x4) (v853 c arg1 harg1 arg2 harg2 arg3 harg3 arg11 x0 x1 x2) (v855 c arg1 harg1 arg2 harg2 arg3 harg3 arg4 harg4 arg5 harg5 arg10 arg11 arg12 arg14 harg14 x0 x1 x2 x3 x4 xs6) = uo (A x0 x1 x2 x3 x4) 4 1 (St (A x0 x1 x2 x3 x4) xs6 4 1) := by
  simp only [v844, v847, v853, hs0, hs1, hs3, st4_1]
  simp (disch := decide) only [View.readCov_fill, ld_ini']
  exact uo_ld (A x0 x1 x2 x3 x4) 4 1 256 64 rfl rfl (by decide) _

/-- The output of head 0 in chunk 4. -/
theorem o4_0 : k0_pay130 k0_pay24 (v808 c arg1 harg1 arg2 harg2 arg3 harg3 arg4 harg4 arg5 harg5 arg8 x0 x1 x2 x3 x4) (v811 c arg1 harg1 arg2 harg2 arg3 harg3 arg4 harg4 arg5 harg5 arg9 x0 x1 x2 x3 x4) (v817 c arg1 harg1 arg2 harg2 arg3 harg3 arg11 x0 x1 x2) (v819 c arg1 harg1 arg2 harg2 arg3 harg3 arg4 harg4 arg5 harg5 arg10 arg11 arg12 arg14 harg14 x0 x1 x2 x3 x4 xs6) = uo (A x0 x1 x2 x3 x4) 4 0 (St (A x0 x1 x2 x3 x4) xs6 4 0) := by
  simp only [v808, v811, v817, hs0, hs1, hs3, st4_0]
  simp (disch := decide) only [View.readCov_fill, ld_ini']
  exact uo_ld (A x0 x1 x2 x3 x4) 4 0 256 0 rfl rfl (by decide) _

/-- The output of head 3 in chunk 3. -/
theorem o3_3 : k0_pay125 k0_pay24 (v767 c arg1 harg1 arg2 harg2 arg3 harg3 arg4 harg4 arg5 harg5 arg8 x0 x1 x2 x3 x4) (v770 c arg1 harg1 arg2 harg2 arg3 harg3 arg4 harg4 arg5 harg5 arg9 x0 x1 x2 x3 x4) (v776 c arg1 harg1 arg2 harg2 arg3 harg3 arg11 x0 x1 x2) (v778 c arg1 harg1 arg2 harg2 arg3 harg3 arg4 harg4 arg5 harg5 arg10 arg11 arg12 arg14 harg14 x0 x1 x2 x3 x4 xs6) = uo (A x0 x1 x2 x3 x4) 3 3 (St (A x0 x1 x2 x3 x4) xs6 3 3) := by
  simp only [v767, v770, v776, hs0, hs1, hs3, st3_3]
  simp (disch := decide) only [View.readCov_fill, ld_ini']
  exact uo_ld (A x0 x1 x2 x3 x4) 3 3 192 192 rfl rfl (by decide) _

/-- The output of head 2 in chunk 3. -/
theorem o3_2 : k0_pay119 k0_pay24 (v731 c arg1 harg1 arg2 harg2 arg3 harg3 arg4 harg4 arg5 harg5 arg8 x0 x1 x2 x3 x4) (v734 c arg1 harg1 arg2 harg2 arg3 harg3 arg4 harg4 arg5 harg5 arg9 x0 x1 x2 x3 x4) (v740 c arg1 harg1 arg2 harg2 arg3 harg3 arg11 x0 x1 x2) (v742 c arg1 harg1 arg2 harg2 arg3 harg3 arg4 harg4 arg5 harg5 arg10 arg11 arg12 arg14 harg14 x0 x1 x2 x3 x4 xs6) = uo (A x0 x1 x2 x3 x4) 3 2 (St (A x0 x1 x2 x3 x4) xs6 3 2) := by
  simp only [v731, v734, v740, hs0, hs1, hs3, st3_2]
  simp (disch := decide) only [View.readCov_fill, ld_ini']
  exact uo_ld (A x0 x1 x2 x3 x4) 3 2 192 128 rfl rfl (by decide) _

/-- The output of head 1 in chunk 3. -/
theorem o3_1 : k0_pay115 k0_pay24 (v695 c arg1 harg1 arg2 harg2 arg3 harg3 arg4 harg4 arg5 harg5 arg8 x0 x1 x2 x3 x4) (v698 c arg1 harg1 arg2 harg2 arg3 harg3 arg4 harg4 arg5 harg5 arg9 x0 x1 x2 x3 x4) (v704 c arg1 harg1 arg2 harg2 arg3 harg3 arg11 x0 x1 x2) (v706 c arg1 harg1 arg2 harg2 arg3 harg3 arg4 harg4 arg5 harg5 arg10 arg11 arg12 arg14 harg14 x0 x1 x2 x3 x4 xs6) = uo (A x0 x1 x2 x3 x4) 3 1 (St (A x0 x1 x2 x3 x4) xs6 3 1) := by
  simp only [v695, v698, v704, hs0, hs1, hs3, st3_1]
  simp (disch := decide) only [View.readCov_fill, ld_ini']
  exact uo_ld (A x0 x1 x2 x3 x4) 3 1 192 64 rfl rfl (by decide) _

/-- The output of head 0 in chunk 3. -/
theorem o3_0 : k0_pay110 (r_57 c arg1 harg1 arg2 harg2 arg3 harg3 arg4 harg4 arg5 harg5 arg8 arg9 arg10 arg11 arg12 arg14 harg14 x0 x1 x2 x3 x4 xs6) = uo (A x0 x1 x2 x3 x4) 3 0 (St (A x0 x1 x2 x3 x4) xs6 3 0) := by
  simp only [r_57, v659, v662, v668, hs0, hs1, hs3, st3_0]
  simp (disch := decide) only [View.readCov_fill, ld_ini']
  exact uo_ld (A x0 x1 x2 x3 x4) 3 0 192 0 rfl rfl (by decide) _

/-- The output of head 3 in chunk 2. -/
theorem o2_3 : k0_pay104 k0_pay24 (v618 c arg1 harg1 arg2 harg2 arg3 harg3 arg4 harg4 arg5 harg5 arg8 x0 x1 x2 x3 x4) (v621 c arg1 harg1 arg2 harg2 arg3 harg3 arg4 harg4 arg5 harg5 arg9 x0 x1 x2 x3 x4) (v627 c arg1 harg1 arg2 harg2 arg3 harg3 arg11 x0 x1 x2) (v629 c arg1 harg1 arg2 harg2 arg3 harg3 arg4 harg4 arg5 harg5 arg10 arg11 arg12 arg14 harg14 x0 x1 x2 x3 x4 xs6) = uo (A x0 x1 x2 x3 x4) 2 3 (St (A x0 x1 x2 x3 x4) xs6 2 3) := by
  simp only [v618, v621, v627, hs0, hs1, hs3, st2_3]
  simp (disch := decide) only [View.readCov_fill, ld_ini']
  exact uo_ld (A x0 x1 x2 x3 x4) 2 3 128 192 rfl rfl (by decide) _

/-- The output of head 2 in chunk 2. -/
theorem o2_2 : k0_pay99 (r_50 c arg1 harg1 arg2 harg2 arg3 harg3 arg4 harg4 arg5 harg5 arg8 arg9 arg10 arg11 arg12 arg14 harg14 x0 x1 x2 x3 x4 xs6) = uo (A x0 x1 x2 x3 x4) 2 2 (St (A x0 x1 x2 x3 x4) xs6 2 2) := by
  simp only [r_50, v582, v585, v591, hs0, hs1, hs3, st2_2]
  simp (disch := decide) only [View.readCov_fill, ld_ini']
  exact uo_ld (A x0 x1 x2 x3 x4) 2 2 128 128 rfl rfl (by decide) _

/-- The output of head 1 in chunk 2. -/
theorem o2_1 : k0_pay93 (r_41 c arg1 harg1 arg2 harg2 arg3 harg3 arg4 harg4 arg5 harg5 arg8 x0 x1 x2 x3 x4) (r_45 c arg1 harg1 arg2 harg2 arg3 harg3 arg4 harg4 arg5 harg5 arg8 arg9 arg11 x0 x1 x2 x3 x4) (r_46 c arg1 harg1 arg2 harg2 arg3 harg3 arg4 harg4 arg5 harg5 arg10 arg11 arg12 arg14 harg14 x0 x1 x2 x3 x4 xs6) cst_235 = uo (A x0 x1 x2 x3 x4) 2 1 (St (A x0 x1 x2 x3 x4) xs6 2 1) := by
  simp only [r_41, r_45, r_46, cst_235, v546, v549, v555, hs0, hs1, hs3, st2_1]
  simp (disch := decide) only [View.readCov_fill, ld_ini']
  exact uo_ld (A x0 x1 x2 x3 x4) 2 1 128 64 rfl rfl (by decide) _

/-- The output of head 0 in chunk 2. -/
theorem o2_0 : k0_pay85 (r_36 c arg1 harg1 arg2 harg2 arg3 harg3 arg4 harg4 arg5 harg5 arg8 x0 x1 x2 x3 x4) (r_38 c arg1 harg1 arg2 harg2 arg3 harg3 arg11 x0 x1 x2) (r_39 c arg1 harg1 arg2 harg2 arg3 harg3 arg4 harg4 arg5 harg5 arg10 arg11 arg12 arg14 harg14 x0 x1 x2 x3 x4 xs6) (r_40 c arg1 harg1 arg2 harg2 arg3 harg3 arg4 harg4 arg5 harg5 arg8 arg9 x0 x1 x2 x3 x4) = uo (A x0 x1 x2 x3 x4) 2 0 (St (A x0 x1 x2 x3 x4) xs6 2 0) := by
  simp only [r_36, r_38, r_39, r_40, v510, v519, v513, hs0, hs3, hs1, st2_0]
  simp (disch := decide) only [View.readCov_fill, ld_ini']
  exact uo_ld (A x0 x1 x2 x3 x4) 2 0 128 0 rfl rfl (by decide) _

/-- The output of head 3 in chunk 1. -/
theorem o1_3 : k0_pay78 (r_30 c arg1 harg1 arg2 harg2 arg3 harg3 arg4 harg4 arg5 harg5 arg8 x0 x1 x2 x3 x4) (r_34 c arg1 harg1 arg2 harg2 arg3 harg3 arg4 harg4 arg5 harg5 arg8 arg9 arg11 x0 x1 x2 x3 x4) (r_35 c arg1 harg1 arg2 harg2 arg3 harg3 arg4 harg4 arg5 harg5 arg10 arg11 arg12 arg14 harg14 x0 x1 x2 x3 x4 xs6) = uo (A x0 x1 x2 x3 x4) 1 3 (St (A x0 x1 x2 x3 x4) xs6 1 3) := by
  simp only [r_30, r_34, r_35, v469, v472, v478, hs0, hs1, hs3, st1_3]
  simp (disch := decide) only [View.readCov_fill, ld_ini']
  exact uo_ld (A x0 x1 x2 x3 x4) 1 3 64 192 rfl rfl (by decide) _

/-- The output of head 2 in chunk 1. -/
theorem o1_2 : k0_pay70 k0_pay24 (r_25 c arg1 harg1 arg2 harg2 arg3 harg3 arg4 harg4 arg5 harg5 arg8 x0 x1 x2 x3 x4) (r_27 c arg1 harg1 arg2 harg2 arg3 harg3 arg11 x0 x1 x2) (r_28 c arg1 harg1 arg2 harg2 arg3 harg3 arg4 harg4 arg5 harg5 arg10 arg11 arg12 arg14 harg14 x0 x1 x2 x3 x4 xs6) (r_29 c arg1 harg1 arg2 harg2 arg3 harg3 arg4 harg4 arg5 harg5 arg8 arg9 x0 x1 x2 x3 x4) k0_pay69 = uo (A x0 x1 x2 x3 x4) 1 2 (St (A x0 x1 x2 x3 x4) xs6 1 2) := by
  simp only [r_25, r_27, r_28, r_29, v433, v442, v436, hs0, hs3, hs1, st1_2]
  simp (disch := decide) only [View.readCov_fill, ld_ini']
  exact uo_ld (A x0 x1 x2 x3 x4) 1 2 64 128 rfl rfl (by decide) _

/-- The output of head 1 in chunk 1. -/
theorem o1_1 : k0_pay62 k0_pay24 (r_21 c arg1 harg1 arg2 harg2 arg3 harg3 arg4 harg4 arg5 harg5 arg8 x0 x1 x2 x3 x4) (r_22 c arg1 harg1 arg2 harg2 arg3 harg3 arg4 harg4 arg5 harg5 arg9 x0 x1 x2 x3 x4) (r_24 c arg1 harg1 arg2 harg2 arg3 harg3 arg11 x0 x1 x2) (v408 c arg1 harg1 arg2 harg2 arg3 harg3 arg4 harg4 arg5 harg5 arg10 arg11 arg12 arg14 harg14 x0 x1 x2 x3 x4 xs6) = uo (A x0 x1 x2 x3 x4) 1 1 (St (A x0 x1 x2 x3 x4) xs6 1 1) := by
  simp only [r_21, r_22, r_24, v397, v400, v406, hs0, hs1, hs3, st1_1]
  simp (disch := decide) only [View.readCov_fill, ld_ini']
  exact uo_ld (A x0 x1 x2 x3 x4) 1 1 64 64 rfl rfl (by decide) _

/-- The output of head 0 in chunk 1. -/
theorem o1_0 : k0_pay55 k0_pay24 (r_18 c arg1 harg1 arg2 harg2 arg3 harg3 arg4 harg4 arg5 harg5 arg8 x0 x1 x2 x3 x4) (r_19 c arg1 harg1 arg2 harg2 arg3 harg3 arg4 harg4 arg5 harg5 arg9 x0 x1 x2 x3 x4) (v370 c arg1 harg1 arg2 harg2 arg3 harg3 arg11 x0 x1 x2) (v372 c arg1 harg1 arg2 harg2 arg3 harg3 arg4 harg4 arg5 harg5 arg10 arg11 arg12 arg14 harg14 x0 x1 x2 x3 x4 xs6) = uo (A x0 x1 x2 x3 x4) 1 0 (St (A x0 x1 x2 x3 x4) xs6 1 0) := by
  simp only [r_18, r_19, v370, v361, v364, hs3, hs0, hs1, st1_0]
  simp (disch := decide) only [View.readCov_fill, ld_ini']
  exact uo_ld (A x0 x1 x2 x3 x4) 1 0 64 0 rfl rfl (by decide) _

/-- The output of head 3 in chunk 0. -/
theorem o0_3 : k0_pay48 k0_pay24 (r_14 c arg1 harg1 arg2 harg2 arg3 harg3 arg4 harg4 arg5 harg5 arg8 x0 x1 x2 x3 x4) (r_15 c arg1 harg1 arg2 harg2 arg3 harg3 arg4 harg4 arg5 harg5 arg9 x0 x1 x2 x3 x4) (r_17 c arg1 harg1 arg2 harg2 arg3 harg3 arg11 x0 x1 x2) (v331 c arg14 harg14 xs6) = uo (A x0 x1 x2 x3 x4) 0 3 (St (A x0 x1 x2 x3 x4) xs6 0 3) := by
  simp only [r_14, r_15, r_17, v320, v323, v329, hs0, hs1, hs3, st0_3]
  simp (disch := decide) only [View.readCov_fill, ld_ini']
  exact uo_ld (A x0 x1 x2 x3 x4) 0 3 0 192 rfl rfl (by decide) _

/-- The output of head 2 in chunk 0. -/
theorem o0_2 : k0_pay41 k0_pay24 (r_11 c arg1 harg1 arg2 harg2 arg3 harg3 arg4 harg4 arg5 harg5 arg8 x0 x1 x2 x3 x4) (r_12 c arg1 harg1 arg2 harg2 arg3 harg3 arg4 harg4 arg5 harg5 arg9 x0 x1 x2 x3 x4) (v293 c arg1 harg1 arg2 harg2 arg3 harg3 arg11 x0 x1 x2) (v295 c arg14 harg14 xs6) = uo (A x0 x1 x2 x3 x4) 0 2 (St (A x0 x1 x2 x3 x4) xs6 0 2) := by
  simp only [r_11, r_12, v293, v284, v287, hs3, hs0, hs1, st0_2]
  simp (disch := decide) only [View.readCov_fill, ld_ini']
  exact uo_ld (A x0 x1 x2 x3 x4) 0 2 0 128 rfl rfl (by decide) _

/-- The output of head 1 in chunk 0. -/
theorem o0_1 : k0_pay34 k0_pay24 (r_9 c arg1 harg1 arg2 harg2 arg3 harg3 arg4 harg4 arg5 harg5 arg8 x0 x1 x2 x3 x4) (r_10 c arg1 harg1 arg2 harg2 arg3 harg3 arg4 harg4 arg5 harg5 arg9 x0 x1 x2 x3 x4) (v257 c arg1 harg1 arg2 harg2 arg3 harg3 arg11 x0 x1 x2) (v259 c arg14 harg14 xs6) = uo (A x0 x1 x2 x3 x4) 0 1 (St (A x0 x1 x2 x3 x4) xs6 0 1) := by
  simp only [r_9, r_10, v257, v248, v251, hs3, hs0, hs1, st0_1]
  simp (disch := decide) only [View.readCov_fill, ld_ini']
  exact uo_ld (A x0 x1 x2 x3 x4) 0 1 0 64 rfl rfl (by decide) _

/-- The output of head 0 in chunk 0. -/
theorem o0_0 : k0_pay28 k0_pay24 (r_8 c arg1 harg1 arg2 harg2 arg3 harg3 arg4 harg4 arg5 harg5 arg8 x0 x1 x2 x3 x4) (v215 c arg1 harg1 arg2 harg2 arg3 harg3 arg4 harg4 arg5 harg5 arg9 x0 x1 x2 x3 x4) (v221 c arg1 harg1 arg2 harg2 arg3 harg3 arg11 x0 x1 x2) (View.readAt (Elt F) arg14.view (Rect.unit (s := S4x64x64) ![0, 0, 0] S1x64x64.size inb_S4x64x64_S1x64x64_0_0_0).toLoadRect (harg14.unread xs6)) = uo (A x0 x1 x2 x3 x4) 0 0 (St (A x0 x1 x2 x3 x4) xs6 0 0) := by
  simp only [r_8, v215, v221, v212, hs1, hs3, hs0, View.readAt_eq_ld, harg14.read_unread, ld_ini]
  simp (disch := decide) only [View.readCov_fill, ld_ini']
  exact uo_ld (A x0 x1 x2 x3 x4) 0 0 0 0 rfl rfl (by decide) _

/-- Every output that the run stores is a block of the recursion's. -/
theorem out_pieces : View.PiecesOf (GO (A x0 x1 x2 x3 x4) xs6) (HS5_32 c arg1 harg1 arg2 harg2 arg3 harg3 arg4 harg4 arg5 harg5 arg8 arg9 arg10 arg11 arg12 arg14 harg14 x0 x1 x2 x3 x4 xs6) := by
  unfold HS5_32
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact (congrFun (o7_3 ..) x).trans (go_emb (A x0 x1 x2 x3 x4) xs6 7 3 448 192 rfl rfl k0_part35_skel._proof_5 x)
  · exact (congrFun (o7_2 ..) x).trans (go_emb (A x0 x1 x2 x3 x4) xs6 7 2 448 128 rfl rfl k0_part34_skel._proof_5 x)
  · exact (congrFun (o7_1 ..) x).trans (go_emb (A x0 x1 x2 x3 x4) xs6 7 1 448 64 rfl rfl k0_part33_skel._proof_5 x)
  · exact (congrFun (o7_0 ..) x).trans (go_emb (A x0 x1 x2 x3 x4) xs6 7 0 448 0 rfl rfl k0_part32_skel._proof_5 x)
  · exact (congrFun (o6_3 ..) x).trans (go_emb (A x0 x1 x2 x3 x4) xs6 6 3 384 192 rfl rfl k0_part31_skel._proof_5 x)
  · exact (congrFun (o6_2 ..) x).trans (go_emb (A x0 x1 x2 x3 x4) xs6 6 2 384 128 rfl rfl k0_part30_skel._proof_5 x)
  · exact (congrFun (o6_1 ..) x).trans (go_emb (A x0 x1 x2 x3 x4) xs6 6 1 384 64 rfl rfl k0_part29_skel._proof_5 x)
  · exact (congrFun (o6_0 ..) x).trans (go_emb (A x0 x1 x2 x3 x4) xs6 6 0 384 0 rfl rfl k0_part28_skel._proof_5 x)
  · exact (congrFun (o5_3 ..) x).trans (go_emb (A x0 x1 x2 x3 x4) xs6 5 3 320 192 rfl rfl k0_part27_skel._proof_5 x)
  · exact (congrFun (o5_2 ..) x).trans (go_emb (A x0 x1 x2 x3 x4) xs6 5 2 320 128 rfl rfl k0_part26_skel._proof_5 x)
  · exact (congrFun (o5_1 ..) x).trans (go_emb (A x0 x1 x2 x3 x4) xs6 5 1 320 64 rfl rfl k0_part25_skel._proof_7 x)
  · exact (congrFun (o5_0 ..) x).trans (go_emb (A x0 x1 x2 x3 x4) xs6 5 0 320 0 rfl rfl k0_part25_skel._proof_1 x)
  · exact (congrFun (o4_3 ..) x).trans (go_emb (A x0 x1 x2 x3 x4) xs6 4 3 256 192 rfl rfl k0_part23_skel._proof_7 x)
  · exact (congrFun (o4_2 ..) x).trans (go_emb (A x0 x1 x2 x3 x4) xs6 4 2 256 128 rfl rfl k0_part23_skel._proof_1 x)
  · exact (congrFun (o4_1 ..) x).trans (go_emb (A x0 x1 x2 x3 x4) xs6 4 1 256 64 rfl rfl k0_part22_skel._proof_1 x)
  · exact (congrFun (o4_0 ..) x).trans (go_emb (A x0 x1 x2 x3 x4) xs6 4 0 256 0 rfl rfl k0_part21_skel._proof_1 x)
  · exact (congrFun (o3_3 ..) x).trans (go_emb (A x0 x1 x2 x3 x4) xs6 3 3 192 192 rfl rfl k0_part20_skel._proof_1 x)
  · exact (congrFun (o3_2 ..) x).trans (go_emb (A x0 x1 x2 x3 x4) xs6 3 2 192 128 rfl rfl k0_part19_skel._proof_1 x)
  · exact (congrFun (o3_1 ..) x).trans (go_emb (A x0 x1 x2 x3 x4) xs6 3 1 192 64 rfl rfl k0_part18_skel._proof_5 x)
  · exact (congrFun (o3_0 ..) x).trans (go_emb (A x0 x1 x2 x3 x4) xs6 3 0 192 0 rfl rfl k0_part17_skel._proof_3 x)
  · exact (congrFun (o2_3 ..) x).trans (go_emb (A x0 x1 x2 x3 x4) xs6 2 3 128 192 rfl rfl k0_part16_skel._proof_5 x)
  · exact (congrFun (o2_2 ..) x).trans (go_emb (A x0 x1 x2 x3 x4) xs6 2 2 128 128 rfl rfl k0_part15_skel._proof_5 x)
  · exact (congrFun (o2_1 ..) x).trans (go_emb (A x0 x1 x2 x3 x4) xs6 2 1 128 64 rfl rfl k0_part14_skel._proof_5 x)
  · exact (congrFun (o2_0 ..) x).trans (go_emb (A x0 x1 x2 x3 x4) xs6 2 0 128 0 rfl rfl k0_part13_skel._proof_5 x)
  · exact (congrFun (o1_3 ..) x).trans (go_emb (A x0 x1 x2 x3 x4) xs6 1 3 64 192 rfl rfl k0_part12_skel._proof_5 x)
  · exact (congrFun (o1_2 ..) x).trans (go_emb (A x0 x1 x2 x3 x4) xs6 1 2 64 128 rfl rfl k0_part11_skel._proof_5 x)
  · exact (congrFun (o1_1 ..) x).trans (go_emb (A x0 x1 x2 x3 x4) xs6 1 1 64 64 rfl rfl k0_part10_skel._proof_5 x)
  · exact (congrFun (o1_0 ..) x).trans (go_emb (A x0 x1 x2 x3 x4) xs6 1 0 64 0 rfl rfl k0_part9_skel._proof_8 x)
  · exact (congrFun (o0_3 ..) x).trans (go_emb (A x0 x1 x2 x3 x4) xs6 0 3 0 192 rfl rfl k0_part8_skel._proof_8 x)
  · exact (congrFun (o0_2 ..) x).trans (go_emb (A x0 x1 x2 x3 x4) xs6 0 2 0 128 rfl rfl k0_part7_skel._proof_8 x)
  · exact (congrFun (o0_1 ..) x).trans (go_emb (A x0 x1 x2 x3 x4) xs6 0 1 0 64 rfl rfl k0_part6_skel._proof_8 x)
  · exact (congrFun (o0_0 ..) x).trans (go_emb (A x0 x1 x2 x3 x4) xs6 0 0 0 0 rfl rfl k0_part5_skel._proof_3 x)

/-- The outputs of a block, loaded back. -/
theorem out_read : (v1398 c arg1 harg1 arg2 harg2 arg3 harg3 arg4 harg4 arg5 harg5 arg8 arg9 arg10 arg11 arg12 arg13 arg14 harg14 x0 x1 x2 x3 x4 xs6) = GO (A x0 x1 x2 x3 x4) xs6 := by
  unfold v1398
  rw [View.readCov_eq_canon']
  funext y
  have hc : ∀ y, ∃ p ∈ (HS5_32 c arg1 harg1 arg2 harg2 arg3 harg3 arg4 harg4 arg5 harg5 arg8 arg9 arg10 arg11 arg12 arg14 harg14 x0 x1 x2 x3 x4 xs6), y ∈ p.1.set := by
    refine View.cover_of_tiledL _ ![64, 64] ?_
    unfold HS5_32
    rfl
  have e : ((Rect.unit ![0, 0] S512x256.size inb_S512x256_S512x256_0_0).toLoadRect).idx y = y := funext fun k => Fin.ext (by
    fin_cases k
    · show 0 + 1 * (y 0).val = (y 0).val
      omega
    · show 0 + 1 * (y 1).val = (y 1).val
      omega)
  have h := View.canon_append_of_piecesOf (GO (A x0 x1 x2 x3 x4) xs6) [] _ (out_pieces _ _ _ _ _ _ _ _ _ _ _ _ _ _ _ _ _ _ _ _ _ _ _ _) y (hc y)
  rw [List.append_nil] at h
  rw [e]
  exact h

/-- Head 0's last state. -/
theorem fin_0 : k0_pay202 (r_88 c arg1 harg1 arg2 harg2 arg3 harg3 arg4 harg4 arg5 harg5 arg10 x0 x1 x2 x3 x4) (r_89 c arg1 harg1 arg2 harg2 arg3 harg3 arg11 x0 x1 x2) (r_90 c arg1 harg1 arg2 harg2 arg3 harg3 arg4 harg4 arg5 harg5 arg10 arg11 arg12 arg14 harg14 x0 x1 x2 x3 x4 xs6) (v1281 c arg12) = St (A x0 x1 x2 x3 x4) xs6 8 0 := by
  refine Eq.trans ?_ (St_succ ..).symm
  simp only [r_88, r_89, r_90, v1281, v1261, v1264, hs4, hs2, hs3, st7_0]
  simp (disch := decide) only [View.readCov_fill]
  exact stp_ld (A x0 x1 x2 x3 x4) 7 0 448 0 504 rfl rfl rfl (by decide) (by decide) _

/-- Head 1's last state. -/
theorem fin_1 : k0_pay209 (r_92 c arg1 harg1 arg2 harg2 arg3 harg3 arg4 harg4 arg5 harg5 arg10 x0 x1 x2 x3 x4) (r_93 c arg1 harg1 arg2 harg2 arg3 harg3 arg11 x0 x1 x2) (r_94 c arg1 harg1 arg2 harg2 arg3 harg3 arg4 harg4 arg5 harg5 arg10 arg11 arg12 arg14 harg14 x0 x1 x2 x3 x4 xs6) (v1317 c arg12) = St (A x0 x1 x2 x3 x4) xs6 8 1 := by
  refine Eq.trans ?_ (St_succ ..).symm
  simp only [r_92, r_93, r_94, v1317, v1297, v1300, hs4, hs2, hs3, st7_1]
  simp (disch := decide) only [View.readCov_fill]
  exact stp_ld (A x0 x1 x2 x3 x4) 7 1 448 64 504 rfl rfl rfl (by decide) (by decide) _

/-- Head 2's last state. -/
theorem fin_2 : k0_pay217 (r_97 c arg1 harg1 arg2 harg2 arg3 harg3 arg4 harg4 arg5 harg5 arg10 x0 x1 x2 x3 x4) (r_98 c arg1 harg1 arg2 harg2 arg3 harg3 arg11 x0 x1 x2) (r_99 c arg1 harg1 arg2 harg2 arg3 harg3 arg4 harg4 arg5 harg5 arg10 arg11 arg12 arg14 harg14 x0 x1 x2 x3 x4 xs6) (v1353 c arg12) = St (A x0 x1 x2 x3 x4) xs6 8 2 := by
  refine Eq.trans ?_ (St_succ ..).symm
  simp only [r_97, r_98, r_99, v1353, v1333, v1336, hs4, hs2, hs3, st7_2]
  simp (disch := decide) only [View.readCov_fill]
  exact stp_ld (A x0 x1 x2 x3 x4) 7 2 448 128 504 rfl rfl rfl (by decide) (by decide) _

/-- Head 3's last state. -/
theorem fin_3 : k0_pay223 (r_102 c arg1 harg1 arg2 harg2 arg3 harg3 arg4 harg4 arg5 harg5 arg10 x0 x1 x2 x3 x4) (r_103 c arg1 harg1 arg2 harg2 arg3 harg3 arg11 x0 x1 x2) (r_104 c arg1 harg1 arg2 harg2 arg3 harg3 arg4 harg4 arg5 harg5 arg10 arg11 arg12 arg14 harg14 x0 x1 x2 x3 x4 xs6) (v1389 c arg12) = St (A x0 x1 x2 x3 x4) xs6 8 3 := by
  refine Eq.trans ?_ (St_succ ..).symm
  simp only [r_102, r_103, r_104, v1389, v1369, v1372, hs4, hs2, hs3, st7_3]
  simp (disch := decide) only [View.readCov_fill]
  exact stp_ld (A x0 x1 x2 x3 x4) 7 3 448 192 504 rfl rfl rfl (by decide) (by decide) _

variable (i : grid0.Coords) (arg7 : Memref sig .tc .vmem S512x256 .bf16) (harg7 : arg7.IsWhole) (hc0 : ¬ cond0_0 i)

/-- What the run writes back. -/
theorem out_eq : out0_B_6 (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs6 = OUT (A x0 x1 x2 x3 x4) xs6 x5 := by
  unfold out0_B_6
  rw [View.read_writes_junk_eq_canon]
  unfold kernelRun0_B
  dsimp only
  rw [View.canon_cons_unit_lit _ _ _ (by decide)]
  simp only [r_106, v1400, out_read, r, View.readAt_eq_ld, harg1.read_unread, harg2.read_unread, harg3.read_unread, harg6.read_unread]
  simp (disch := decide) only [View.ld_unit_lit']
  rfl

/-- The states that the run leaves. -/
theorem sout_eq : sout0_B_6 (F := F) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs6 = GS (A x0 x1 x2 x3 x4) xs6 := by
  unfold sout0_B_6
  rw [View.read_writes_junk_eq_canon]
  unfold kernelRun0_B
  dsimp only
  unfold HS6_31 HS6_30 HS6_29
  funext y
  refine View.canon_append_of_piecesOf (GS (A x0 x1 x2 x3 x4) xs6) _ [_, _, _, _] ⟨?_, ?_, ?_, ?_, trivial⟩ y ?_
  · exact fun x => (congrFun (fin_3 ..) x).trans (gs_emb (A x0 x1 x2 x3 x4) xs6 3 (by decide) x)
  · exact fun x => (congrFun (fin_2 ..) x).trans (gs_emb (A x0 x1 x2 x3 x4) xs6 2 (by decide) x)
  · exact fun x => (congrFun (fin_1 ..) x).trans (gs_emb (A x0 x1 x2 x3 x4) xs6 1 (by decide) x)
  · exact fun x => (congrFun (fin_0 ..) x).trans (gs_emb (A x0 x1 x2 x3 x4) xs6 0 (by decide) x)
  · exact View.cover_of_tiledL _ ![1, 64, 64] (by rfl) y

end Cert.Proof.Ret.RunB

end
-- ==== Proof.RetCarry.lean ====
/-
  The retention: the carried states hold the sums over the rows before each grid point, so that each point's block is the reference's
  rows.
-/
module

public import proofs.«01_k».proof.Proof.RetBlock
public import proofs.«01_k».proof.Proof.RetIn
public import proofs.«01_k».proof.Proof.RetRunA
public import proofs.«01_k».proof.Proof.RetRunB

@[expose] public section

noncomputable section

namespace Cert.Proof.Ret

open Idealize.ShloMosaic Idealize.ShloMosaic.TcCoe Idealize.SL.Sem
open Cert.Kernel6Ideal Cert.Kernel6Ideal.Gen
open Cert.Proof.Prep (coe_sum)
open Cert.Proof.Gla (chunk_sum silu)

variable (m : (ℓ : Loc nD τ sig) → Buf (Elt Ideal) ℓ) (c : Dev nD)

/-- The call's arguments. -/
abbrev a0 : FVec Ideal Cert.Reference6Ideal.S16384x1024 .f32 := m ((c : Thread nD τ).loc main_arg0)
abbrev a1 : FVec Ideal Cert.Reference6Ideal.S1024 .f32 := m ((c : Thread nD τ).loc main_arg1)
abbrev a2 : FVec Ideal Cert.Reference6Ideal.S1024x8220 .f32 := m ((c : Thread nD τ).loc main_arg2)
abbrev a3 : FVec Ideal Cert.Reference6Ideal.S16384x32 .f32 := m ((c : Thread nD τ).loc main_arg3)
abbrev a4 : FVec Ideal Cert.Reference6Ideal.S16384x32 .f32 := m ((c : Thread nD τ).loc main_arg4)
abbrev a5 : FVec Ideal Cert.Reference6Ideal.S64 .f32 := m ((c : Thread nD τ).loc main_arg5)

/-- The projections of a point's rows, and the point's arrays, as the body computes them. -/
abbrev uB (t : Fin cfg0.N) : FVec Ideal S512x1536 .f32 := k0_pay3 (iblk m c 0 t) (iblk m c 1 t) (iblk m c 2 t)
abbrev XB (t : Fin cfg0.N) : Arr Ideal := A (iblk m c 0 t) (iblk m c 1 t) (iblk m c 2 t) (iblk m c 3 t) (iblk m c 4 t)

theorem u_blk (t : Fin cfg0.N) (r : Fin 512) (k : ℕ) (hk : k < 1536) (n : ℕ) (hn : n < 1024) (e : n = col k) :
    (uB m c t (ix2 r ⟨k, hk⟩) : EReal) = prj (a0 m c) (a1 m c) (a2 m c) (row t r) n hn := by
  refine (u_apply _ _ _ r ⟨k, hk⟩).trans ?_
  have e0 : (fun d : Fin 1024 => (iblk m c 0 t (ix2 r d) : EReal)) = fun d => a0 m c (ix2 (row t r) d) :=
    funext fun d => iblk0_apply m c t r d
  have e1 : (fun d : Fin 1024 => (iblk m c 1 t (ix2 0 d) : EReal)) = fun d => a1 m c (ix1 d) := funext fun d => iblk1_apply m c t d
  have e2 : (fun d : Fin 1024 => (iblk m c 2 t (ix2 d ⟨k, hk⟩) : EReal)) = fun d => a2 m c (ix2 d ⟨1812 + n, by omega⟩) :=
    funext fun d => iblk2_apply m c t d ⟨k, hk⟩ (1812 + n) (by omega) (by rw [e])
  unfold prj
  rw [← e0, ← e1, ← e2]

/-- A lane times the cosine, plus the head's other half times the signed sine, is the rotation. -/
theorem rot_of (x0 : FVec Ideal Cert.Reference6Ideal.S16384x1024 .f32) (x1 : FVec Ideal Cert.Reference6Ideal.S1024 .f32)
    (x2 : FVec Ideal Cert.Reference6Ideal.S1024x8220 .f32) (x3 x4 : FVec Ideal Cert.Reference6Ideal.S16384x32 .f32)
    (T : Fin 16384) (b : ℕ) (hb : b + 64 ≤ 1024) (d : Fin 64) (j : Fin 32) (hj : j.val = d.val % 32) :
    prj x0 x1 x2 T (b + d.val) (by omega) * x3 (ix2 T j)
        + prj x0 x1 x2 T (b + (d.val + 32) % 64) (by omega) * (if d.val < 32 then Neg.neg (α := EReal) (x4 (ix2 T j)) else x4 (ix2 T j))
      = rot x0 x1 x2 x3 x4 T b hb d := by
  have hp : ∀ (n n' : ℕ) (h : n < 1024) (h' : n' < 1024), n = n' → prj x0 x1 x2 T n h = prj x0 x1 x2 T n' h' := by
    intro n n' h h' e
    subst e
    rfl
  unfold rot
  by_cases h : d.val < 32
  · obtain rfl : j = ⟨d.val, h⟩ := Fin.ext (by show j.val = d.val; omega)
    rw [dif_pos h, if_pos h, hp (b + (d.val + 32) % 64) (b + (32 + d.val)) _ (by omega) (by omega), mul_neg, ← sub_eq_add_neg]
  · have ej : j = ⟨d.val - 32, by omega⟩ := Fin.ext (by show j.val = d.val - 32; omega)
    rw [ej, dif_neg h, if_neg h, hp (b + (d.val + 32) % 64) (b + (d.val - 32)) _ (by omega) (by omega),
      hp (b + d.val) (b + (32 + (d.val - 32))) _ (by omega) (by omega), add_comm]

theorem co_blk (t : Fin cfg0.N) (p : Fin 512) (h : Fin 4) (d : Fin 64) :
    (iblk m c 3 t (ix2 p ⟨h.val * 64 + d.val, by omega⟩) : EReal) = a3 m c (ix2 (row t p) ⟨d.val % 32, by omega⟩) :=
  (iblk3_apply m c t p _).trans (congrArg (fun j => (a3 m c (ix2 (row t p) j) : EReal))
    (Fin.ext (by show (h.val * 64 + d.val) % 32 = d.val % 32; omega)))

theorem si_blk (t : Fin cfg0.N) (p : Fin 512) (h : Fin 4) (d : Fin 64) :
    (iblk m c 4 t (ix2 p ⟨h.val * 64 + d.val, by omega⟩) : EReal)
      = if d.val < 32 then Neg.neg (α := EReal) (a4 m c (ix2 (row t p) ⟨d.val % 32, by omega⟩)) else a4 m c (ix2 (row t p) ⟨d.val % 32, by omega⟩) := by
  have e : (⟨(h.val * 64 + d.val) % 32, by omega⟩ : Fin 32) = ⟨d.val % 32, by omega⟩ :=
    Fin.ext (by show (h.val * 64 + d.val) % 32 = d.val % 32; omega)
  refine (iblk4_apply m c t p _).trans ?_
  dsimp only
  rw [e, show (h.val * 64 + d.val) % 64 = d.val by omega]

theorem q_blk (t : Fin cfg0.N) (p : Fin 512) (h : Fin 4) (d : Fin 64) :
    (k0_pay6 (iblk m c 0 t) (iblk m c 1 t) (iblk m c 2 t) (iblk m c 3 t) (iblk m c 4 t) (ix2 p ⟨h.val * 64 + d.val, by omega⟩) : EReal)
      = rot (a0 m c) (a1 m c) (a2 m c) (a3 m c) (a4 m c) (row t p) (h.val * 64) (by omega) d := by
  have u1 := u_blk m c t p (h.val * 64 + d.val) (by omega) (h.val * 64 + d.val) (by omega) (by unfold col; split_ifs <;> omega)
  have u2 := u_blk m c t p (256 + (h.val * 64 + d.val)) (by omega) (h.val * 64 + (d.val + 32) % 64) (by omega) (by
    unfold col swp; split_ifs <;> omega)
  rw [q_apply, co_blk, si_blk, ← rot_of _ _ _ _ _ _ _ _ d ⟨d.val % 32, by omega⟩ rfl, ← u1, ← u2]

theorem k_blk (t : Fin cfg0.N) (p : Fin 512) (h : Fin 4) (d : Fin 64) :
    (k0_pay7 (iblk m c 0 t) (iblk m c 1 t) (iblk m c 2 t) (iblk m c 3 t) (iblk m c 4 t) (ix2 p ⟨h.val * 64 + d.val, by omega⟩) : EReal)
      = rot (a0 m c) (a1 m c) (a2 m c) (a3 m c) (a4 m c) (row t p) (256 + h.val * 64) (by omega) d * Ideal.ofBits .f32 0x3E000000#32 := by
  have u1 := u_blk m c t p (512 + (h.val * 64 + d.val)) (by omega) (256 + h.val * 64 + d.val) (by omega) (by
    unfold col swp; split_ifs <;> omega)
  have u2 := u_blk m c t p (768 + (h.val * 64 + d.val)) (by omega) (256 + h.val * 64 + (d.val + 32) % 64) (by omega) (by
    unfold col swp; split_ifs <;> omega)
  rw [k_apply, co_blk, si_blk, ← rot_of _ _ _ _ _ _ _ _ d ⟨d.val % 32, by omega⟩ rfl, ← u1, ← u2]

theorem word_1 : Ideal.ofBits .f32 0x3F800000#32 = ((1 : ℝ) : EReal) := by simp

theorem word_63 : Ideal.ofBits .f32 0x427C0000#32 = ((63 : ℝ) : EReal) := by
  simp [Ideal.ofBits, Ideal.ieee, -EReal.coe_mul]; norm_num

variable (H : Fin6 (a1 m c) (a2 m c) (a3 m c) (a4 m c))
include H

/-- A point's arrays are the real sequences at its rows. -/
theorem pt (t : Fin cfg0.N) : Pt (XB m c t) t.val (qR (a0 m c) (a1 m c) (a2 m c) (a3 m c) (a4 m c))
    (kR (a0 m c) (a1 m c) (a2 m c) (a3 m c) (a4 m c)) (vR (a0 m c) (a1 m c) (a2 m c)) := by
  have hrow : ∀ p : Fin 512, 512 * t.val + p.val = (row t p).val := fun p => by
    show _ = t.val * 512 + p.val
    omega
  refine ⟨?_, ?_, ?_, ?_, ?_⟩ <;> intro p h d
  · rw [hrow p, qd_apply, q_blk, qR_eq _ H, pos_apply, LG_apply, lgR_eq, word_1, ← EReal.coe_add, ← EReal.coe_mul]
    exact (EReal.coe_mul _ (Real.exp _)).symm
  · rw [hrow p, ki_apply, k_blk, kR_eq _ H, pos_apply, LG_apply, lgR_eq, word_1, ← EReal.coe_add, ← EReal.coe_neg, ← EReal.coe_mul]
    exact (EReal.coe_mul _ (Real.exp _)).symm
  · rw [hrow p, ke_apply, k_blk, kR_eq _ H, pos_apply, LG_apply, lgR_eq, word_63, ← EReal.coe_sub, ← EReal.coe_mul]
    exact (EReal.coe_mul _ (Real.exp _)).symm
  · rw [hrow p, vv_apply, ← vR_eq _ H]
    exact u_blk m c t p (1024 + (h.val * 64 + d.val)) (by omega) (512 + (h.val * 64 + d.val)) (by omega) (by
      unfold col swp; split_ifs <;> omega)
  · refine (dec_apply _).trans ?_
    rw [pos_apply, LG_apply, lgR_eq, word_1, ← EReal.coe_add, ← EReal.coe_mul]
    rfl

/-- States that hold the sums over the rows before point `n`. -/
def Before (n : ℕ) (S : Vec Ideal S4x64x64 .f32) : Prop :=
  ∀ (h : Fin 4) (e d : Fin 64), (S (ix3 h e d) : EReal) = (GlaMath.stv (lR h d)
    (kR (a0 m c) (a1 m c) (a2 m c) (a3 m c) (a4 m c) h d) (vR (a0 m c) (a1 m c) (a2 m c) h e) (8 * n) : ℝ)

omit H in
theorem before_zero : Before m c 0 (k0_pay2 (F := Ideal)) := by
  intro h e d
  rw [Nat.mul_zero, GlaMath.stv_zero]
  pointwise [k0_pay2]
  rfl

/-- A point's output. -/
theorem go_pt (t : Fin cfg0.N) (S : Vec Ideal S4x64x64 .f32) (hS : Before m c t.val S) (p : Fin 512) (h : Fin 4) (e : Fin 64) :
    (GO (XB m c t) S (ix2 p ⟨h.val * 64 + e.val, by omega⟩) : EReal)
      = (oR (a0 m c) (a1 m c) (a2 m c) (a3 m c) (a4 m c) h e (row t p).val : EReal) := by
  have ht : t.val < 32 := t.isLt
  have hp : p = ⟨64 * (⟨p.val / 64, by omega⟩ : Fin 8).val + (⟨p.val % 64, by omega⟩ : Fin 64).val, by
      show 64 * (p.val / 64) + p.val % 64 < 512
      omega⟩ := Fin.ext (by
    show p.val = 64 * (p.val / 64) + p.val % 64
    omega)
  have hr : (row t p).val = 64 * (8 * t.val + (⟨p.val / 64, by omega⟩ : Fin 8).val) + (⟨p.val % 64, by omega⟩ : Fin 64).val := by
    show t.val * 512 + p.val = 64 * (8 * t.val + p.val / 64) + p.val % 64
    omega
  rw [hr]
  unfold oR
  refine Eq.trans ?_ (go_coe (pt m c H t) hS ht ⟨p.val / 64, by omega⟩ ⟨p.val % 64, by omega⟩ h e)
  exact congrArg (fun a : Fin 512 => GO (XB m c t) S (ix2 a ⟨h.val * 64 + e.val, by omega⟩)) hp

/-- A point's block is the reference's rows. -/
theorem out_pt (t : Fin cfg0.N) (S : Vec Ideal S4x64x64 .f32) (hS : Before m c t.val S) (p : Fin 512) (h : Fin 4) (e : Fin 64) :
    (OUT (XB m c t) S (iblk m c 5 t) (ix2 p ⟨h.val * 64 + e.val, by omega⟩) : EReal)
      = Cert.Reference6Ideal.Read.val_main_v100 (F := Ideal) (a0 m c) (a1 m c) (a2 m c) (a3 m c) (a4 m c) (a5 m c)
          (ix2 (row t p) ⟨h.val * 64 + e.val, by omega⟩) := by
  rw [ref_apply _ _ H, out_apply, norm_apply, go_pt m c H t S hS]
  · have ex : (iblk m c 5 t (ix2 0 ⟨h.val * 64 + e.val, by omega⟩) : EReal) = a5 m c (ix1 e) :=
      (iblk5_apply m c t _).trans (congrArg (fun j => (m ((c : Thread nD τ).loc main_arg5) (ix1 j) : EReal))
        (Fin.ext (by show (h.val * 64 + e.val) % 64 = e.val; omega)))
    have eg := u_blk m c t p (1280 + (h.val * 64 + e.val)) (by omega) (768 + (h.val * 64 + e.val)) (by omega) (by
      unfold col swp; split_ifs <;> omega)
    have es : (∑ x : Fin 256, if x.val / 64 = (h.val * 64 + e.val) / 64 then
          (GO (XB m c t) S (ix2 p x) : EReal) * GO (XB m c t) S (ix2 p x) else 0)
        = ∑ d : Fin 64, (oR (a0 m c) (a1 m c) (a2 m c) (a3 m c) (a4 m c) h d (row t p).val : EReal)
            * (oR (a0 m c) (a1 m c) (a2 m c) (a3 m c) (a4 m c) h d (row t p).val : EReal) := by
      have e1 := chunk_sum (fun x : Fin 256 => (GO (XB m c t) S (ix2 p x) : EReal) * GO (XB m c t) S (ix2 p x))
        (fun _ => True) h.val (by omega)
      simp only [and_true, if_true] at e1
      rw [show (h.val * 64 + e.val) / 64 = h.val by omega, e1]
      refine Finset.sum_congr rfl fun d _ => ?_
      have e2 : (⟨64 * h.val + d.val, by omega⟩ : Fin 256) = ⟨h.val * 64 + d.val, by omega⟩ := Fin.ext (by
        show 64 * h.val + d.val = h.val * 64 + d.val
        omega)
      rw [e2, go_pt m c H t S hS]
    rw [ex]
    simp only [es]
    unfold nR silu
    rw [← eg]
    rfl
  · intro x
    have e2 : x = ⟨(⟨x.val / 64, by omega⟩ : Fin 4).val * 64 + (⟨x.val % 64, by omega⟩ : Fin 64).val, by
        show x.val / 64 * 64 + x.val % 64 < 256
        omega⟩ := Fin.ext (by
      show x.val = x.val / 64 * 64 + x.val % 64
      omega)
    rw [e2]
    exact ⟨_, go_pt m c H t S hS p _ _⟩

/-- After every point the carried states hold the sums over the rows so far. -/
theorem carried : ∀ (n : ℕ) (hn : n < cfg0.N), Before m c (n + 1) (outsAt0 m c n hn).2 := by
  intro n
  induction n with
  | zero =>
    intro hn h e d
    rw [outsAt0_A m c ⟨0, hn⟩ (Nat.zero_mod _)]
    dsimp only
    rw [RunA.sout_eq]
    exact gs_coe (pt m c H ⟨0, hn⟩) (before_zero m c) h e d
  | succ n ih =>
    intro hn h e d
    have h32 : n + 1 < 32 := hn
    rw [outsAt0_B m c ⟨n + 1, hn⟩ (by show ¬ (n + 1) % 32 = 0; omega)]
    dsimp only
    rw [RunB.sout_eq]
    exact gs_coe (pt m c H ⟨n + 1, hn⟩) (ih _) h e d

/-- What every point writes back, at an index: the reference's array there. -/
theorem outs (t : Fin cfg0.N) (p : Fin 512) (h : Fin 4) (e : Fin 64) :
    ((outsAt0 m c t.val t.isLt).1 (ix2 p ⟨h.val * 64 + e.val, by omega⟩) : EReal)
      = Cert.Reference6Ideal.Read.val_main_v100 (F := Ideal) (a0 m c) (a1 m c) (a2 m c) (a3 m c) (a4 m c) (a5 m c)
          (ix2 (row t p) ⟨h.val * 64 + e.val, by omega⟩) := by
  have ht : t.val < 32 := t.isLt
  by_cases h0 : t.val % 32 = 0
  · have hz : t.val = 0 := by omega
    rw [outsAt0_A m c t h0]
    dsimp only
    rw [RunA.out_eq]
    exact out_pt m c H t _ (hz ▸ before_zero m c) p h e
  · have hS : Before m c t.val (outsAt0 m c (t.val - 1) (Nat.lt_of_le_of_lt (Nat.sub_le _ _) t.isLt)).2 := by
      have e := carried m c H (t.val - 1) (Nat.lt_of_le_of_lt (Nat.sub_le _ _) t.isLt)
      rw [show t.val - 1 + 1 = t.val by omega] at e
      exact e
    rw [outsAt0_B m c t h0]
    dsimp only
    rw [RunB.out_eq]
    exact out_pt m c H t _ hS p h e

end Cert.Proof.Ret

end
-- ==== Proof.RetPre.lean ====
/-
  The precondition of the retention, read element by element: what the retention is computed from is real.
-/
module

public import proofs.«01_k».proof.Defs
public import proofs.«01_k».proof.Proof.Gen.Pre_finite_rotary
public import proofs.«01_k».proof.Proof.FoxPre
public import proofs.«01_k».proof.Proof.RetRef
public import Idealize.ShloMosaic.Lib.Pointwise

@[expose] public section

noncomputable section

namespace Cert.Proof.RetPre

open Idealize.ShloMosaic Idealize.ShloMosaic.TcCoe Idealize.SL.Sem
open Cert.Pre_finite_rotary Cert.Proof.FoxPre

variable {x0 : FVec Ideal S16384x1024 .f32} {x1 : FVec Ideal S1024 .f32} {x2 : FVec Ideal S1024x8220 .f32} {x3 x4 : FVec Ideal S16384x32 .f32}
  {x5 : FVec Ideal S64 .f32}

theorem gain (H : (fn (F := Ideal) x0 x1 x2 x3 x4 x5).1 = fun _ => 1#1) (d : Fin 1024) : ∃ a : ℝ, (x1 (ix1 d) : EReal) = (a : EReal) := by
  have h1 := congrFun H (ix1 d)
  unfold fn at h1
  dsimp only at h1
  pointwise at h1
  have h2 := of_bit h1
  rw [ofBits_inf] at h2
  exact real_of_abs h2

theorem weight (H : (fn (F := Ideal) x0 x1 x2 x3 x4 x5).2.1 = fun _ => 1#1) (d : Fin 1024) (n : Fin 768) : ∃ a : ℝ, (x2 (ix2 d ⟨1812 + n.val, by omega⟩) : EReal) = (a : EReal) := by
  have h1 := congrFun H (ix2 d n)
  unfold fn at h1
  dsimp only at h1
  pointwise at h1
  have h2 := of_bit h1
  rw [ofBits_inf] at h2
  exact real_of_abs h2

theorem cosine (H : (fn (F := Ideal) x0 x1 x2 x3 x4 x5).2.2.1 = fun _ => 1#1) (r : Fin 16384) (j : Fin 32) : ∃ a : ℝ, (x3 (ix2 r j) : EReal) = (a : EReal) := by
  have h1 := congrFun H (ix2 r j)
  unfold fn at h1
  dsimp only at h1
  pointwise at h1
  have h2 := of_bit h1
  rw [ofBits_inf] at h2
  exact real_of_abs h2

theorem sine (H : (fn (F := Ideal) x0 x1 x2 x3 x4 x5).2.2.2 = fun _ => 1#1) (r : Fin 16384) (j : Fin 32) : ∃ a : ℝ, (x4 (ix2 r j) : EReal) = (a : EReal) := by
  have h1 := congrFun H (ix2 r j)
  unfold fn at h1
  dsimp only at h1
  pointwise at h1
  have h2 := of_bit h1
  rw [ofBits_inf] at h2
  exact real_of_abs h2

/-- The four predicates together. -/
theorem finite (H : (fn (F := Ideal) x0 x1 x2 x3 x4 x5).1 = (fun _ => 1#1) ∧ (fn (F := Ideal) x0 x1 x2 x3 x4 x5).2.1 = (fun _ => 1#1)
    ∧ (fn (F := Ideal) x0 x1 x2 x3 x4 x5).2.2.1 = (fun _ => 1#1) ∧ (fn (F := Ideal) x0 x1 x2 x3 x4 x5).2.2.2 = (fun _ => 1#1)) :
    Ret.Fin6 x1 x2 x3 x4 :=
  ⟨gain H.1, weight H.2.1, cosine H.2.2.1, sine H.2.2.2⟩

end Cert.Proof.RetPre

end
-- ==== Proof.Ret.lean ====
/-
  The retention: the call's result array is the reference's, on every argument whose queries, keys and values are
  computed from finite values.
-/
module

public import proofs.«01_k».proof.Proof.RetCarry
public import proofs.«01_k».proof.Proof.RetPre
public import proofs.«01_k».proof.Proof.Gen.Reference6Ideal.Run

@[expose] public section

noncomputable section

namespace Cert.Proof.Ret

open Idealize.ShloMosaic Idealize.ShloMosaic.TcCoe Idealize.SL.Sem

section Array
open Cert.Kernel6Ideal Cert.Kernel6Ideal.Gen

variable (m : (ℓ : Loc nD τ sig) → Buf (Elt Ideal) ℓ) (ρ : Dev nD → PrngReg)

/-- The array that the result is shown to be: the reference's retention of the call's own arguments. -/
def G6 (c : Dev nD) : Buf (Elt Ideal) ((c : Thread nD τ).loc main_v51) :=
  Cert.Reference6Ideal.Read.val_main_v100 (F := Ideal) (a0 m c) (a1 m c) (a2 m c) (a3 m c) (a4 m c) (a5 m c)

/-- What every point writes back, at any index of its block. -/
theorem outs' (c : Dev nD) (H : Fin6 (a1 m c) (a2 m c) (a3 m c) (a4 m c)) (t : Fin cfg0.N) (p : Fin 512) (x : Fin 256) :
    ((outsAt0 m c t.val t.isLt).1 (ix2 p x) : EReal) = G6 m c (ix2 (row t p) x) := by
  have e : x = ⟨(⟨x.val / 64, by omega⟩ : Fin 4).val * 64 + (⟨x.val % 64, by omega⟩ : Fin 64).val, by
      show x.val / 64 * 64 + x.val % 64 < 256
      omega⟩ := Fin.ext (by
    show x.val = x.val / 64 * 64 + x.val % 64
    omega)
  rw [e]
  exact outs m c H t p _ _

theorem flushed6_eq (c : Dev nD) (H : Fin6 (a1 m c) (a2 m c) (a3 m c) (a4 m c)) (t : Fin cfg0.N) :
    (dats m 0 c).flushed 6 t = ((cfg0.win 6).blk t).view.read (Elt Ideal) (G6 m c) := by
  rw [Value.flushed6]
  funext j
  obtain ⟨p, x, rfl⟩ : ∃ (p : Fin 512) (x : Fin 256), j = ix2 p x := ⟨j 0, j 1, eq_ix2 j⟩
  have hemb : ((cfg0.win 6).blk t).view.emb (ix2 p x) = ix2 (n0 := 16384) (n1 := 256) (row t p) x := by
    funext a
    apply Fin.ext
    match a with
    | ⟨0, _⟩ => show win0_6.index t 0 * 512 + 1 * p.val = t.val * 512 + p.val
                rw [(index6 t).1]; omega
    | ⟨1, _⟩ => show win0_6.index t 1 * 256 + 1 * x.val = x.val
                rw [(index6 t).2]; omega
  show (outsAt0 m c t.val t.isLt).1 (ix2 p x) = G6 m c (((cfg0.win 6).blk t).view.emb (ix2 p x))
  rw [hemb]
  exact outs' m c H t p x

theorem cover6 (i : S16384x256.Idx) : ∃ t : Fin cfg0.N, (cfg0.win 6).flush t = true ∧ i ∈ ((cfg0.win 6).blk t).view.set := by
  have h0 : (i 0).val < 16384 := (i 0).isLt
  have h1 : (i 1).val < 256 := (i 1).isLt
  let t : Fin cfg0.N := ⟨(i 0).val / 512, by show _ < 32; omega⟩
  refine ⟨t, (by decide +kernel : ∀ t : Fin grid0.N, (cfg0.win 6).flush t = true) t, ?_⟩
  show i ∈ ((View.whole main_v51).slice (win0_6.rect t)).set
  rw [View.set_slice_whole, Rect.mem_set_unit]
  intro a
  match a with
  | ⟨0, _⟩ => show win0_6.index t 0 * 512 ≤ (i 0).val ∧ (i 0).val < win0_6.index t 0 * 512 + 512
              rw [(index6 t).1]; dsimp only [t]; omega
  | ⟨1, _⟩ => show win0_6.index t 1 * 256 ≤ (i 1).val ∧ (i 1).val < win0_6.index t 1 * 256 + 256
              rw [(index6 t).2]; omega

theorem final6 (c : Dev nD) (H : Fin6 (a1 m c) (a2 m c) (a3 m c) (a4 m c)) : (dats m 0 c).arrAt 6 cfg0.N = G6 m c :=
  (dats m 0 c).arrAt_eq_of_cover 6 (G6 m c) (fun t _ => flushed6_eq m c H t) cover6

end Array

/-! ## The claims -/

/-- Over the extended reals the call and the reference leave the same array, where what the retention is computed from is finite. -/
theorem algebraic : Cert.algebraic_Kernel6Ideal_Reference6Ideal_pre_finite_rotary := by
  intro m ρ m' ρ' hpre hagree
  have H : ∀ c : Dev Cert.Kernel6Ideal.nD, Fin6 (a1 m c) (a2 m c) (a3 m c) (a4 m c) := fun c => RetPre.finite (hpre c)
  refine ⟨fun c => G6 m c, ?_, ?_⟩
  · exact (θ_run Cert.Kernel6Ideal.defs _ _).mono (fun r h c => ⟨(h c).1.trans (final6 m c (H c)), (h c).2⟩)
      (Cert.Kernel6Ideal.Value.run_blocks (F := Ideal) m ρ)
  · refine (θ_run Cert.Reference6Ideal.defs _ _).mono (fun r h c => ⟨(h c).1.trans ?_, (h c).2⟩)
      (Cert.Reference6Ideal.Value.run (F := Ideal) m' ρ')
    obtain ⟨h0, h1, h2, h3, h4, h5⟩ := hagree c
    refine (Cert.Reference6Ideal.Read.val_main_v100_eq m' c).trans ?_
    rw [h0, h1, h2, h3, h4, h5]
    rfl

/-- The reference's run leaves its arguments unchanged, and it has no counter. -/
theorem frame_ref : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

end Cert.Proof.Ret

end
-- ==== Proof.Merge.lean ====
/-
  The gated merge of the four mixers with the output projection. The call's result array, after its run, is the reference's
  array of the same arguments: grid point `t` writes rows `512 t .. 512 t + 511`, and each of those rows depends on the same
  row of `x` and of the four mixers' outputs alone.
-/
module

public import proofs.«01_k».proof.Defs
public import proofs.«01_k».proof.Proof.Gen.Kernel3Ideal.Value
public import proofs.«01_k».proof.Proof.Gen.Reference3Ideal.Read
public import proofs.«01_k».proof.Proof.Ffn
public import Idealize.ShloMosaic.Lib.Pointwise
public import Idealize.ShloMosaic.Lib.Claim
public import Idealize.ShloMosaic.Lib.KernelVsHost
public import Idealize.ShloMosaic.Lib.Pipeline.ValueKit
public import Idealize.ShloMosaic.Lib.Quiescent

@[expose] public section

noncomputable section

namespace Cert.Proof.Merge

open Idealize.ShloMosaic Idealize.ShloMosaic.TcCoe Idealize.SL.Sem
open Idealize.ShloMosaic.Pipeline (Dat)
open Cert.Proof.Ffn (normRow proj)

/-! ## One row of the merge, as a function of the rows of its operands and of the weights -/

/-- The gate: the logistic function of an element of the gate projection. -/
def gate (x g w : Fin 1024 → EReal) : EReal := Ideal.div 1 (1 + Ideal.exp (-proj x g w))

/-- Element `l` of the row: the residual plus the gated sum of the four up-projections through the output weight. `upA` is the
    attention's up-projection, given; the other three are products of the mixers' rows. -/
def mergeRow (x g : Fin 1024 → EReal) (wg0 wg1 wg2 wg3 : Fin 1024 → Fin 1024 → EReal) (upA : Fin 1024 → EReal)
    (yb yc : Fin 256 → EReal) (yd : Fin 512 → EReal) (wb wc : Fin 256 → Fin 1024 → EReal) (wd : Fin 512 → Fin 1024 → EReal)
    (wo : Fin 1024 → Fin 1024 → EReal) (l : Fin 1024) : EReal :=
  x l + ∑ e : Fin 1024,
    (gate x g (fun d => wg0 d e) * upA e + gate x g (fun d => wg1 d e) * ∑ k, yb k * wb k e
      + gate x g (fun d => wg2 d e) * ∑ k, yc k * wc k e + gate x g (fun d => wg3 d e) * ∑ k, yd k * wd k e) * wo e l

/-- Element `e` of the attention's up-projection: the product of the first 64 lanes of the four heads, side by side, with the
    weight. -/
def upA (ya : Fin 4 → Fin 128 → EReal) (wa : Fin 256 → Fin 1024 → EReal) (e : Fin 1024) : EReal :=
  ∑ k : Fin 256, ya ⟨k.val / 64, by omega⟩ ⟨k.val % 64, by omega⟩ * wa k e

/-- The kernel's four products of 128 lanes. -/
def upP (ya : Fin 4 → Fin 128 → EReal) (wp : Fin 4 → Fin 128 → Fin 1024 → EReal) (e : Fin 1024) : EReal :=
  (∑ k, ya 0 k * wp 0 k e) + (∑ k, ya 1 k * wp 1 k e) + (∑ k, ya 2 k * wp 2 k e) + (∑ k, ya 3 k * wp 3 k e)

/-- The kernel's four products of 128 lanes, whose last 64 meet rows of zeros, are that up-projection. -/
theorem upA_eq (ya : Fin 4 → Fin 128 → EReal) (wa : Fin 256 → Fin 1024 → EReal) (wp : Fin 4 → Fin 128 → Fin 1024 → EReal)
    (hw : ∀ (h : Fin 4) (k : Fin 128) (e : Fin 1024), wp h k e = if hk : k.val < 64 then wa ⟨h.val * 64 + k.val, by omega⟩ e else 0) :
    upP ya wp = upA ya wa := by
  funext e
  have head : ∀ h : Fin 4, ∑ k, ya h k * wp h k e
      = ∑ k : Fin 64, ya h ⟨k.val, by omega⟩ * wa ⟨h.val * 64 + k.val, by omega⟩ e := by
    intro h
    rw [show (∑ k : Fin 128, ya h k * wp h k e) = ∑ k : Fin (64 + 64), ya h k * wp h k e from rfl, Fin.sum_univ_add]
    have hz : ∑ k : Fin 64, ya h (Fin.natAdd 64 k) * wp h (Fin.natAdd 64 k) e = 0 := by
      refine Finset.sum_eq_zero fun k _ => ?_
      rw [hw, dif_neg (by show ¬ 64 + k.val < 64; omega), mul_zero]
    rw [hz, add_zero]
    refine Finset.sum_congr rfl fun k _ => ?_
    rw [hw, dif_pos (by show k.val < 64; omega)]
    rfl
  have split : upA ya wa e = ∑ h : Fin 4, ∑ k : Fin 64, ya h ⟨k.val, by omega⟩ * wa ⟨h.val * 64 + k.val, by omega⟩ e := by
    unfold upA
    rw [← Fintype.sum_prod_type', ← (finProdFinEquiv (m := 4) (n := 64)).sum_comp]
    refine Finset.sum_congr rfl fun x _ => ?_
    obtain ⟨h, k⟩ := x
    have e1 : (finProdFinEquiv (h, k)).val = k.val + 64 * h.val := rfl
    have a1 : (⟨(finProdFinEquiv (h, k)).val / 64, by omega⟩ : Fin 4) = h := Fin.ext (by show _ / 64 = h.val; rw [e1]; omega)
    have a2 : (⟨(finProdFinEquiv (h, k)).val % 64, by omega⟩ : Fin 128) = ⟨k.val, by omega⟩ :=
      Fin.ext (by show _ % 64 = k.val; rw [e1]; omega)
    have a3 : finProdFinEquiv (h, k) = (⟨h.val * 64 + k.val, by omega⟩ : Fin (4 * 64)) := Fin.ext (by rw [e1]; show _ = h.val * 64 + k.val; omega)
    show ya ⟨(finProdFinEquiv (h, k)).val / 64, _⟩ ⟨(finProdFinEquiv (h, k)).val % 64, _⟩ * wa (finProdFinEquiv (h, k)) e = _
    rw [a1, a2, a3]
  unfold upP
  rw [split, Fin.sum_univ_four, head, head, head, head]

section Kernel
open Cert.Kernel3Ideal Cert.Kernel3Ideal.Gen

/-- The kernel body's result at an index, from the blocks it loads. -/
theorem pay_apply (x0 : Vec Ideal S512x1024 .f32) (x1 : Vec Ideal S1x1024 .f32) (x2 : Vec Ideal S1024x4096 .bf16) (x3 : Vec Ideal S4x512x128 .bf16) (x4 : Vec Ideal S512x256 .bf16) (x5 : Vec Ideal S512x256 .bf16) (x6 : Vec Ideal S512x512 .bf16) (x7 : Vec Ideal S4x128x1024 .bf16) (x8 : Vec Ideal S256x1024 .bf16) (x9 : Vec Ideal S256x1024 .bf16) (x10 : Vec Ideal S512x1024 .bf16) (x11 : Vec Ideal S1024x1024 .bf16)
    (r : Fin 512) (l : Fin 1024) :
    out0_12 x0 x1 x2 x3 x4 x5 x6 x7 x8 x9 x10 x11 (ix2 r l)
      = mergeRow (fun d => x0 (ix2 r d)) (fun d => x1 (ix2 0 d)) (fun d e => x2 (ix2 d ⟨e.val, by omega⟩))
          (fun d e => x2 (ix2 d ⟨1024 + e.val, by omega⟩)) (fun d e => x2 (ix2 d ⟨2048 + e.val, by omega⟩))
          (fun d e => x2 (ix2 d ⟨3072 + e.val, by omega⟩))
          (upP (fun h k => x3 (ix3 h r k)) (fun h k e => x7 (ix3 h k e)))
          (fun k => x4 (ix2 r k)) (fun k => x5 (ix2 r k)) (fun k => x6 (ix2 r k))
          (fun k e => x8 (ix2 k e)) (fun k e => x9 (ix2 k e)) (fun k e => x10 (ix2 k e)) (fun k e => x11 (ix2 k e)) l := by
  unfold_out out0_12
  unfold_payloads
  have hz0 : (![0, 0] : Fin S512x1024.rank → Nat) = fun _ => 0 := funext fun a => by fin_cases a <;> rfl
  rw [View.canon_unit_zero hz0]
  simp (disch := decide) only [View.ld_unit_lit']
  pointwise
  simp only [mergeRow, gate, proj, normRow, upP, zero_sub]

variable (m : (ℓ : Loc nD τ sig) → Buf (Elt Ideal) ℓ)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = t.val ∧ win0_3.index t 2 = 0 :=
  (by decide +kernel : ∀ t : Fin grid0.N, win0_3.index t 0 = 0 ∧ win0_3.index t 1 = t.val ∧ win0_3.index t 2 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)
theorem index7 : ∀ t : Fin cfg0.N, win0_7.index t 0 = 0 ∧ win0_7.index t 1 = 0 ∧ win0_7.index t 2 = 0 :=
  (by decide +kernel : ∀ t : Fin grid0.N, win0_7.index t 0 = 0 ∧ win0_7.index t 1 = 0 ∧ win0_7.index t 2 = 0)
theorem index8 : ∀ t : Fin cfg0.N, win0_8.index t 0 = 0 ∧ win0_8.index t 1 = 0 :=
  (by decide +kernel : ∀ t : Fin grid0.N, win0_8.index t 0 = 0 ∧ win0_8.index t 1 = 0)
theorem index9 : ∀ t : Fin cfg0.N, win0_9.index t 0 = 0 ∧ win0_9.index t 1 = 0 :=
  (by decide +kernel : ∀ t : Fin grid0.N, win0_9.index t 0 = 0 ∧ win0_9.index t 1 = 0)
theorem index10 : ∀ t : Fin cfg0.N, win0_10.index t 0 = 0 ∧ win0_10.index t 1 = 0 :=
  (by decide +kernel : ∀ t : Fin grid0.N, win0_10.index t 0 = 0 ∧ win0_10.index t 1 = 0)
theorem index11 : ∀ t : Fin cfg0.N, win0_11.index t 0 = 0 ∧ win0_11.index t 1 = 0 :=
  (by decide +kernel : ∀ t : Fin grid0.N, win0_11.index t 0 = 0 ∧ win0_11.index t 1 = 0)
theorem index12 : ∀ t : Fin cfg0.N, win0_12.index t 0 = t.val ∧ win0_12.index t 1 = 0 :=
  (by decide +kernel : ∀ t : Fin grid0.N, win0_12.index t 0 = t.val ∧ win0_12.index t 1 = 0)

/-- Row `r` of point `t`'s block, in the whole array. -/
def row (t : Fin cfg0.N) (r : Fin 512) : Fin 16384 := ⟨t.val * 512 + r.val, by have : t.val < 32 := t.isLt; omega⟩

/-- Window 0's block at a point: rows `512 t ..` of the array. -/
theorem iblk0_apply (c : Dev nD) (t : Fin cfg0.N) (r : Fin 512) (k : Fin 1024) :
    iblk m c 0 t (ix2 r k) = m ((c : Thread nD τ).loc main_arg0) (ix2 (row t r) k) := by
  have hemb : ((cfg0.win 0).blk t).view.emb (ix2 r k) = ix2 (n0 := 16384) (n1 := 1024) (row t r) k := by
    funext a
    apply Fin.ext
    match a with
    | ⟨0, _⟩ => show win0_0.index t 0 * 512 + 1 * r.val = t.val * 512 + r.val
                rw [(index0 t).1]; omega
    | ⟨1, _⟩ => show win0_0.index t 1 * 1024 + 1 * k.val = k.val
                rw [(index0 t).2]; omega
  show V m c main_arg0 (((cfg0.win 0).blk t).view.emb (ix2 r k)) = _
  rw [hemb]
  rw [V_main_arg0]

/-- Window 1's block at a point: the gain. -/
theorem iblk1_apply (c : Dev nD) (t : Fin cfg0.N) (k : Fin 1024) :
    iblk m c 1 t (ix2 0 k) = m ((c : Thread nD τ).loc main_arg1) (ix1 k) := by
  have hemb : ((cfg0.win 1).blk t).view.emb (ix2 0 k) = ix2 (n0 := 1) (n1 := 1024) 0 k := by
    funext a
    apply Fin.ext
    match a with
    | ⟨0, _⟩ => show win0_1.index t 0 * 1 + 1 * 0 = 0
                rw [(index1 t).1]
    | ⟨1, _⟩ => show win0_1.index t 1 * 1024 + 1 * k.val = k.val
                rw [(index1 t).2]; omega
  show V m c main_v5 (((cfg0.win 1).blk t).view.emb (ix2 0 k)) = _
  rw [hemb]
  simp only [V, hostOps0, hostOps0_1, hostOps0_2, List.flatten_cons, List.flatten_nil, List.append_nil, List.cons_append, List.nil_append]
  entry_read
  pointwise

/-- Window 2's block at a point: the last 4096 columns of the input weight. -/
theorem iblk2_apply (c : Dev nD) (t : Fin cfg0.N) (d : Fin 1024) (k : Fin 4096) :
    iblk m c 2 t (ix2 d k) = m ((c : Thread nD τ).loc main_arg2) (ix2 d ⟨4124 + k.val, by omega⟩) := by
  have hemb : ((cfg0.win 2).blk t).view.emb (ix2 d k) = ix2 (n0 := 1024) (n1 := 4096) d k := by
    funext a
    apply Fin.ext
    match a with
    | ⟨0, _⟩ => show win0_2.index t 0 * 1024 + 1 * d.val = d.val
                rw [(index2 t).1]; omega
    | ⟨1, _⟩ => show win0_2.index t 1 * 4096 + 1 * k.val = k.val
                rw [(index2 t).2]; omega
  show V m c main_v1 (((cfg0.win 2).blk t).view.emb (ix2 d k)) = _
  rw [hemb]
  simp only [V, hostOps0, hostOps0_1, hostOps0_2, List.flatten_cons, List.flatten_nil, List.append_nil, List.cons_append, List.nil_append]
  entry_read
  pointwise

/-- Window 3's block at a point: rows `512 t ..` of the array. -/
theorem iblk3_apply (c : Dev nD) (t : Fin cfg0.N) (h : Fin 4) (r : Fin 512) (d : Fin 128) :
    iblk m c 3 t (ix3 h r d) = m ((c : Thread nD τ).loc main_arg3) (ix3 h (row t r) d) := by
  have hemb : ((cfg0.win 3).blk t).view.emb (ix3 h r d) = ix3 (n0 := 4) (n1 := 16384) (n2 := 128) h (row t r) d := by
    funext a
    apply Fin.ext
    match a with
    | ⟨0, _⟩ => show win0_3.index t 0 * 4 + 1 * h.val = h.val
                rw [(index3 t).1]; omega
    | ⟨1, _⟩ => show win0_3.index t 1 * 512 + 1 * r.val = t.val * 512 + r.val
                rw [(index3 t).2.1]; omega
    | ⟨2, _⟩ => show win0_3.index t 2 * 128 + 1 * d.val = d.val
                rw [(index3 t).2.2]; omega
  show V m c main_arg3 (((cfg0.win 3).blk t).view.emb (ix3 h r d)) = _
  rw [hemb]
  rw [V_main_arg3]

/-- Window 4's block at a point: rows `512 t ..` of the array. -/
theorem iblk4_apply (c : Dev nD) (t : Fin cfg0.N) (r : Fin 512) (k : Fin 256) :
    iblk m c 4 t (ix2 r k) = m ((c : Thread nD τ).loc main_arg4) (ix2 (row t r) k) := by
  have hemb : ((cfg0.win 4).blk t).view.emb (ix2 r k) = ix2 (n0 := 16384) (n1 := 256) (row t r) k := by
    funext a
    apply Fin.ext
    match a with
    | ⟨0, _⟩ => show win0_4.index t 0 * 512 + 1 * r.val = t.val * 512 + r.val
                rw [(index4 t).1]; omega
    | ⟨1, _⟩ => show win0_4.index t 1 * 256 + 1 * k.val = k.val
                rw [(index4 t).2]; omega
  show V m c main_arg4 (((cfg0.win 4).blk t).view.emb (ix2 r k)) = _
  rw [hemb]
  rw [V_main_arg4]

/-- Window 5's block at a point: rows `512 t ..` of the array. -/
theorem iblk5_apply (c : Dev nD) (t : Fin cfg0.N) (r : Fin 512) (k : Fin 256) :
    iblk m c 5 t (ix2 r k) = m ((c : Thread nD τ).loc main_arg5) (ix2 (row t r) k) := by
  have hemb : ((cfg0.win 5).blk t).view.emb (ix2 r k) = ix2 (n0 := 16384) (n1 := 256) (row t r) k := by
    funext a
    apply Fin.ext
    match a with
    | ⟨0, _⟩ => show win0_5.index t 0 * 512 + 1 * r.val = t.val * 512 + r.val
                rw [(index5 t).1]; omega
    | ⟨1, _⟩ => show win0_5.index t 1 * 256 + 1 * k.val = k.val
                rw [(index5 t).2]; omega
  show V m c main_arg5 (((cfg0.win 5).blk t).view.emb (ix2 r k)) = _
  rw [hemb]
  rw [V_main_arg5]

/-- Window 6's block at a point: rows `512 t ..` of the array. -/
theorem iblk6_apply (c : Dev nD) (t : Fin cfg0.N) (r : Fin 512) (k : Fin 512) :
    iblk m c 6 t (ix2 r k) = m ((c : Thread nD τ).loc main_arg6) (ix2 (row t r) k) := by
  have hemb : ((cfg0.win 6).blk t).view.emb (ix2 r k) = ix2 (n0 := 16384) (n1 := 512) (row t r) k := by
    funext a
    apply Fin.ext
    match a with
    | ⟨0, _⟩ => show win0_6.index t 0 * 512 + 1 * r.val = t.val * 512 + r.val
                rw [(index6 t).1]; omega
    | ⟨1, _⟩ => show win0_6.index t 1 * 512 + 1 * k.val = k.val
                rw [(index6 t).2]; omega
  show V m c main_arg6 (((cfg0.win 6).blk t).view.emb (ix2 r k)) = _
  rw [hemb]
  rw [V_main_arg6]

/-- Window 7's block at a point: a head's 64 rows of the weight, then 64 rows of zeros. -/
theorem iblk7_apply (c : Dev nD) (t : Fin cfg0.N) (h : Fin 4) (k : Fin 128) (e : Fin 1024) :
    iblk m c 7 t (ix3 h k e) = if hk : k.val < 64 then m ((c : Thread nD τ).loc main_arg7) (ix2 ⟨h.val * 64 + k.val, by omega⟩ e) else (0 : EReal) := by
  have hemb : ((cfg0.win 7).blk t).view.emb (ix3 h k e) = ix3 (n0 := 4) (n1 := 128) (n2 := 1024) h k e := by
    funext a
    apply Fin.ext
    match a with
    | ⟨0, _⟩ => show win0_7.index t 0 * 4 + 1 * h.val = h.val
                rw [(index7 t).1]; omega
    | ⟨1, _⟩ => show win0_7.index t 1 * 128 + 1 * k.val = k.val
                rw [(index7 t).2.1]; omega
    | ⟨2, _⟩ => show win0_7.index t 2 * 1024 + 1 * e.val = e.val
                rw [(index7 t).2.2]; omega
  show V m c main_v4 (((cfg0.win 7).blk t).view.emb (ix3 h k e)) = _
  rw [hemb]
  simp only [V, hostOps0, hostOps0_1, hostOps0_2, List.flatten_cons, List.flatten_nil, List.append_nil, List.cons_append, List.nil_append]
  entry_read
  pointwise
  simp only [StableHlo.TRef.toBuf, StableHlo.TRef.ofBuf, cast_cast, cast_eq]
  by_cases hk : k.val < 64
  · rw [dif_pos hk]
    refine (pad_apply_of_inside _ _ _ _ _ _ _ _ (ix3 (n0 := 4) (n1 := 64) (n2 := 1024) h ⟨k.val, hk⟩ e) ?_).trans ?_
    · intro a
      match a with
      | ⟨0, _⟩ => show h.val = 0 + h.val * 1; omega
      | ⟨1, _⟩ => show k.val = 0 + k.val * 1; omega
      | ⟨2, _⟩ => show e.val = 0 + e.val * 1; omega
    · rfl
  · rw [dif_neg hk]
    refine (pad_apply_of_not_inside _ _ _ _ _ _ _ _ (1 : Fin 3) ?_).trans ?_
    · rintro ⟨_, _, h3⟩
      have h4 : (k.val - 0) / (0 + 1) < 64 := h3
      omega
    · pointwise
      show (((0#32 : BitVec 32).toInt : ℝ) : EReal) = 0
      norm_num

/-- Window 8's block at a point: the weight. -/
theorem iblk8_apply (c : Dev nD) (t : Fin cfg0.N) (r : Fin 256) (k : Fin 1024) :
    iblk m c 8 t (ix2 r k) = m ((c : Thread nD τ).loc main_arg8) (ix2 r k) := by
  have hemb : ((cfg0.win 8).blk t).view.emb (ix2 r k) = ix2 (n0 := 256) (n1 := 1024) r k := by
    funext a
    apply Fin.ext
    match a with
    | ⟨0, _⟩ => show win0_8.index t 0 * 256 + 1 * r.val = r.val
                rw [(index8 t).1]; omega
    | ⟨1, _⟩ => show win0_8.index t 1 * 1024 + 1 * k.val = k.val
                rw [(index8 t).2]; omega
  show V m c main_v6 (((cfg0.win 8).blk t).view.emb (ix2 r k)) = _
  rw [hemb]
  simp only [V, hostOps0, hostOps0_1, hostOps0_2, List.flatten_cons, List.flatten_nil, List.append_nil, List.cons_append, List.nil_append]
  entry_read
  pointwise

/-- Window 9's block at a point: the weight. -/
theorem iblk9_apply (c : Dev nD) (t : Fin cfg0.N) (r : Fin 256) (k : Fin 1024) :
    iblk m c 9 t (ix2 r k) = m ((c : Thread nD τ).loc main_arg9) (ix2 r k) := by
  have hemb : ((cfg0.win 9).blk t).view.emb (ix2 r k) = ix2 (n0 := 256) (n1 := 1024) r k := by
    funext a
    apply Fin.ext
    match a with
    | ⟨0, _⟩ => show win0_9.index t 0 * 256 + 1 * r.val = r.val
                rw [(index9 t).1]; omega
    | ⟨1, _⟩ => show win0_9.index t 1 * 1024 + 1 * k.val = k.val
                rw [(index9 t).2]; omega
  show V m c main_v7 (((cfg0.win 9).blk t).view.emb (ix2 r k)) = _
  rw [hemb]
  simp only [V, hostOps0, hostOps0_1, hostOps0_2, List.flatten_cons, List.flatten_nil, List.append_nil, List.cons_append, List.nil_append]
  entry_read
  pointwise

/-- Window 10's block at a point: the weight. -/
theorem iblk10_apply (c : Dev nD) (t : Fin cfg0.N) (r : Fin 512) (k : Fin 1024) :
    iblk m c 10 t (ix2 r k) = m ((c : Thread nD τ).loc main_arg10) (ix2 r k) := by
  have hemb : ((cfg0.win 10).blk t).view.emb (ix2 r k) = ix2 (n0 := 512) (n1 := 1024) r k := by
    funext a
    apply Fin.ext
    match a with
    | ⟨0, _⟩ => show win0_10.index t 0 * 512 + 1 * r.val = r.val
                rw [(index10 t).1]; omega
    | ⟨1, _⟩ => show win0_10.index t 1 * 1024 + 1 * k.val = k.val
                rw [(index10 t).2]; omega
  show V m c main_v8 (((cfg0.win 10).blk t).view.emb (ix2 r k)) = _
  rw [hemb]
  simp only [V, hostOps0, hostOps0_1, hostOps0_2, List.flatten_cons, List.flatten_nil, List.append_nil, List.cons_append, List.nil_append]
  entry_read
  pointwise

/-- Window 11's block at a point: the weight. -/
theorem iblk11_apply (c : Dev nD) (t : Fin cfg0.N) (r : Fin 1024) (k : Fin 1024) :
    iblk m c 11 t (ix2 r k) = m ((c : Thread nD τ).loc main_arg11) (ix2 r k) := by
  have hemb : ((cfg0.win 11).blk t).view.emb (ix2 r k) = ix2 (n0 := 1024) (n1 := 1024) r k := by
    funext a
    apply Fin.ext
    match a with
    | ⟨0, _⟩ => show win0_11.index t 0 * 1024 + 1 * r.val = r.val
                rw [(index11 t).1]; omega
    | ⟨1, _⟩ => show win0_11.index t 1 * 1024 + 1 * k.val = k.val
                rw [(index11 t).2]; omega
  show V m c main_v9 (((cfg0.win 11).blk t).view.emb (ix2 r k)) = _
  rw [hemb]
  simp only [V, hostOps0, hostOps0_1, hostOps0_2, List.flatten_cons, List.flatten_nil, List.append_nil, List.cons_append, List.nil_append]
  entry_read
  pointwise

end Kernel

section Reference
open Cert.Reference3Ideal

/-- The reference's array at an index. -/
theorem ref_apply (m : (ℓ : Loc nD τ sig) → Buf (Elt Ideal) ℓ) (c : Dev nD) (r : Fin 16384) (l : Fin 1024) :
    Value.res_main_v44 (F := Ideal) m c (ix2 r l)
      = mergeRow (fun d => m ((c : Thread nD τ).loc main_arg0) (ix2 r d)) (fun d => m ((c : Thread nD τ).loc main_arg1) (ix1 d))
          (fun d e => m ((c : Thread nD τ).loc main_arg2) (ix2 d ⟨4124 + e.val, by omega⟩))
          (fun d e => m ((c : Thread nD τ).loc main_arg2) (ix2 d ⟨4124 + (1024 + e.val), by omega⟩))
          (fun d e => m ((c : Thread nD τ).loc main_arg2) (ix2 d ⟨4124 + (2048 + e.val), by omega⟩))
          (fun d e => m ((c : Thread nD τ).loc main_arg2) (ix2 d ⟨4124 + (3072 + e.val), by omega⟩))
          (upA (fun h d => m ((c : Thread nD τ).loc main_arg3) (ix3 h r d)) (fun k e => m ((c : Thread nD τ).loc main_arg7) (ix2 k e)))
          (fun k => m ((c : Thread nD τ).loc main_arg4) (ix2 r k)) (fun k => m ((c : Thread nD τ).loc main_arg5) (ix2 r k))
          (fun k => m ((c : Thread nD τ).loc main_arg6) (ix2 r k))
          (fun k e => m ((c : Thread nD τ).loc main_arg8) (ix2 k e)) (fun k e => m ((c : Thread nD τ).loc main_arg9) (ix2 k e))
          (fun k e => m ((c : Thread nD τ).loc main_arg10) (ix2 k e)) (fun k e => m ((c : Thread nD τ).loc main_arg11) (ix2 k e)) l := by
  unfold Value.res_main_v44
  pointwise
  simp only [mergeRow, gate, proj, normRow, upA]

end Reference

/-! ## The kernel's result array -/

section Array
open Cert.Kernel3Ideal Cert.Kernel3Ideal.Gen

variable (m : (ℓ : Loc nD τ sig) → Buf (Elt Ideal) ℓ) (ρ : Dev nD → PrngReg)

/-- The array that the result is shown to be: at each row, the merge of the call's own arguments. -/
def G (c : Dev nD) : Buf (Elt Ideal) ((c : Thread nD τ).loc main_v10) := fun i =>
  mergeRow (fun d => m ((c : Thread nD τ).loc main_arg0) (ix2 (i 0) d)) (fun d => m ((c : Thread nD τ).loc main_arg1) (ix1 d))
    (fun d e => m ((c : Thread nD τ).loc main_arg2) (ix2 d ⟨4124 + e.val, by omega⟩))
    (fun d e => m ((c : Thread nD τ).loc main_arg2) (ix2 d ⟨4124 + (1024 + e.val), by omega⟩))
    (fun d e => m ((c : Thread nD τ).loc main_arg2) (ix2 d ⟨4124 + (2048 + e.val), by omega⟩))
    (fun d e => m ((c : Thread nD τ).loc main_arg2) (ix2 d ⟨4124 + (3072 + e.val), by omega⟩))
    (upA (fun h d => m ((c : Thread nD τ).loc main_arg3) (ix3 h (i 0) d)) (fun k e => m ((c : Thread nD τ).loc main_arg7) (ix2 k e)))
    (fun k => m ((c : Thread nD τ).loc main_arg4) (ix2 (i 0) k)) (fun k => m ((c : Thread nD τ).loc main_arg5) (ix2 (i 0) k))
    (fun k => m ((c : Thread nD τ).loc main_arg6) (ix2 (i 0) k))
    (fun k e => m ((c : Thread nD τ).loc main_arg8) (ix2 k e)) (fun k e => m ((c : Thread nD τ).loc main_arg9) (ix2 k e))
    (fun k e => m ((c : Thread nD τ).loc main_arg10) (ix2 k e)) (fun k e => m ((c : Thread nD τ).loc main_arg11) (ix2 k e)) (i 1)

/-- What point `t` writes back is block `t` of that array. -/
theorem flushed_eq (c : Dev nD) (t : Fin cfg0.N) :
    (dats m 0 c).flushed 12 t = ((cfg0.win 12).blk t).view.read (Elt Ideal) (G m c) := by
  rw [Value.flushed12]
  funext j
  obtain ⟨r, l, rfl⟩ : ∃ (r : Fin 512) (l : Fin 1024), j = ix2 r l := ⟨j 0, j 1, eq_ix2 j⟩
  have hemb : ((cfg0.win 12).blk t).view.emb (ix2 r l) = ix2 (n0 := 16384) (n1 := 1024) (row t r) l := by
    funext a
    apply Fin.ext
    match a with
    | ⟨0, _⟩ => show win0_12.index t 0 * 512 + 1 * r.val = t.val * 512 + r.val
                rw [(index12 t).1]; omega
    | ⟨1, _⟩ => show win0_12.index t 1 * 1024 + 1 * l.val = l.val
                rw [(index12 t).2]; omega
  show out0_12 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix2 r l)
    = G m c (((cfg0.win 12).blk t).view.emb (ix2 r l))
  rw [hemb, pay_apply]
  rw [upA_eq _ (fun k e => m ((c : Thread nD τ).loc main_arg7) (ix2 k e)) (fun h k e => iblk m c 7 t (ix3 h k e)) (fun h k e => iblk7_apply m c t h k e)]
  simp only [iblk0_apply, iblk1_apply, iblk2_apply, iblk3_apply, iblk4_apply, iblk5_apply, iblk6_apply, iblk8_apply, iblk9_apply, iblk10_apply,
    iblk11_apply]
  rfl

/-- The points' blocks tile the result array. -/
theorem cover (i : S16384x1024.Idx) :
    ∃ t : Fin cfg0.N, (cfg0.win 12).flush t = true ∧ i ∈ ((cfg0.win 12).blk t).view.set := by
  have h0 : (i 0).val < 16384 := (i 0).isLt
  have h1 : (i 1).val < 1024 := (i 1).isLt
  let t : Fin cfg0.N := ⟨(i 0).val / 512, by show _ < 32; omega⟩
  refine ⟨t, (by decide +kernel : ∀ t : Fin grid0.N, (cfg0.win 12).flush t = true) t, ?_⟩
  show i ∈ ((View.whole main_v10).slice (win0_12.rect t)).set
  rw [View.set_slice_whole, Rect.mem_set_unit]
  intro a
  match a with
  | ⟨0, _⟩ => show win0_12.index t 0 * 512 ≤ (i 0).val ∧ (i 0).val < win0_12.index t 0 * 512 + 512
              rw [(index12 t).1]; dsimp only [t]; omega
  | ⟨1, _⟩ => show win0_12.index t 1 * 1024 ≤ (i 1).val ∧ (i 1).val < win0_12.index t 1 * 1024 + 1024
              rw [(index12 t).2]; omega

/-- So the result array ends holding that array. -/
theorem final (c : Dev nD) : (dats m 0 c).arrAt 12 cfg0.N = G m c :=
  (dats m 0 c).arrAt_eq_of_cover 12 (G m c) (fun t _ => flushed_eq m c t) cover

end Array

/-! ## The claims -/

/-- Over the extended reals the call and the reference leave the same array. -/
theorem algebraic : Cert.algebraic_Kernel3Ideal_Reference3Ideal := by
  intro m ρ m' ρ' _ hagree
  refine ⟨fun c => G m c, ?_, ?_⟩
  · exact (θ_run Cert.Kernel3Ideal.defs _ _).mono (fun r h c => ⟨(h c).1.trans (final m c), (h c).2⟩)
      (Cert.Kernel3Ideal.Value.run_blocks (F := Ideal) m ρ)
  · refine (θ_run Cert.Reference3Ideal.defs _ _).mono (fun r h c => ⟨(h c).1.trans ?_, (h c).2⟩)
      (Cert.Reference3Ideal.Value.run (F := Ideal) m' ρ')
    funext j
    obtain ⟨r, l, rfl⟩ : ∃ (r : Fin 16384) (l : Fin 1024), j = ix2 r l := ⟨j 0, j 1, eq_ix2 j⟩
    refine (ref_apply m' c r l).trans ?_
    obtain ⟨h0, h1, h2, h3, h4, h5, h6, h7, h8, h9, h10, h11⟩ := hagree c
    show _ = G m c (ix2 r l)
    unfold G
    rw [← h0, ← h1, ← h2, ← h3, ← h4, ← h5, ← h6, ← h7, ← h8, ← h9, ← h10, ← h11]
    rfl

/-- The reference's run leaves its arguments unchanged, and it has no counter. -/
theorem frame_ref : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

end Cert.Proof.Merge
end
-- ==== Proof.lean ====
/-
  The certificate: every claim of the problem file, from the generated frames and the modules of this directory.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.ReferenceIdeal
public import proofs.«01_k».proof.Proof.Gen.ReferenceIdeal.Run
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Reference5Ideal
public import proofs.«01_k».proof.Proof.Gen.Reference5Ideal.Run
public import proofs.«01_k».proof.Proof.Gen.Reference6Ideal
public import proofs.«01_k».proof.Proof.Gen.Reference6Ideal.Run
public import proofs.«01_k».proof.Proof.Gen.Pre_fox_layout
public import proofs.«01_k».proof.Proof.Gen.Pre_finite_gate
public import proofs.«01_k».proof.Proof.Gen.Pre_finite_decay
public import proofs.«01_k».proof.Proof.Fox
public import proofs.«01_k».proof.Proof.Prep
public import proofs.«01_k».proof.Proof.Gla
public import proofs.«01_k».proof.Proof.Gen.Pre_finite_rotary
public import proofs.«01_k».proof.Proof.Ret
public import proofs.«01_k».proof.Proof.Ffn
public import proofs.«01_k».proof.Proof.Merge
public import Idealize.ShloMosaic.Adequacy
public import Idealize.ShloMosaic.Init
public import Idealize.ShloMosaic.Lib.Quiescent

@[expose] public section

noncomputable section

namespace Cert.Proof

open Idealize.ShloMosaic Idealize.SL.Sem

/-- The programs' facts hold and every claim holds: each call's frame before and after idealization, its idealization's
    preservation, its reference's frame, and the equality of the two result arrays. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_fox_layout.Gen.facts, Cert.Pre_finite_gate.Gen.facts, Cert.Pre_finite_decay.Gen.facts, Cert.Pre_finite_rotary.Gen.facts,
    fun m ρ _ => Cert.Kernel.Gen.frame m ρ,
    fun m ρ _ => Cert.KernelIdeal.Gen.frame m ρ,
    fun m ρ _ => Cert.KernelIdeal.Gen.frame m ρ,
    Fox.frame_ref,
    fun m ρ _ => Fox.frame_ref m ρ trivial,
    fun m ρ _ => Cert.Kernel2.Gen.frame m ρ,
    fun m ρ _ => Cert.Kernel2Ideal.Gen.frame m ρ,
    Ffn.frame_ref,
    fun m ρ _ => Cert.Kernel3.Gen.frame m ρ,
    fun m ρ _ => Cert.Kernel3Ideal.Gen.frame m ρ,
    Merge.frame_ref,
    fun m ρ _ => Cert.Kernel4.Gen.frame m ρ,
    fun m ρ _ => Cert.Kernel4Ideal.Gen.frame m ρ,
    fun m ρ _ => Cert.Kernel4Ideal.Gen.frame m ρ,
    Prep.frame_ref,
    fun m ρ _ => Prep.frame_ref m ρ trivial,
    fun m ρ _ => Cert.Kernel5.Gen.frame m ρ,
    fun m ρ _ => Cert.Kernel5Ideal.Gen.frame m ρ,
    fun m ρ _ => Cert.Kernel5Ideal.Gen.frame m ρ,
    Gla.frame_ref,
    fun m ρ _ => Gla.frame_ref m ρ trivial,
    fun m ρ _ => Cert.Kernel6.Gen.frame m ρ,
    fun m ρ _ => Cert.Kernel6Ideal.Gen.frame m ρ,
    fun m ρ _ => Cert.Kernel6Ideal.Gen.frame m ρ,
    Ret.frame_ref,
    fun m ρ _ => Ret.frame_ref m ρ trivial,
    trivial,
    Fox.algebraic,
    trivial,
    Ffn.algebraic,
    trivial,
    Merge.algebraic,
    trivial,
    Prep.algebraic,
    trivial,
    Gla.algebraic,
    trivial,
    Ret.algebraic⟩

end Cert.Proof

end
